-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_mlp_finite [hPre_mlp_finite : Cert.Pre_mlp_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))) = (fun _ => 1#1)

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_GradRest (m : (ℓ : Loc Cert.GradRest.nD Cert.GradRest.τ Cert.GradRest.sig) → Buf (Elt Bits) ℓ) : Prop :=
  True

def Pre_GradRestIdeal (m : (ℓ : Loc Cert.GradRestIdeal.nD Cert.GradRestIdeal.τ Cert.GradRestIdeal.sig) → Buf (Elt Ideal) ℓ) : Prop :=
  True

def Pre_GradRestReferenceIdeal (m : (ℓ : Loc Cert.GradRestReferenceIdeal.nD Cert.GradRestReferenceIdeal.τ Cert.GradRestReferenceIdeal.sig) → Buf (Elt Ideal) ℓ) : Prop :=
  True

def Pre_GradQkv0 (m : (ℓ : Loc Cert.GradQkv0.nD Cert.GradQkv0.τ Cert.GradQkv0.sig) → Buf (Elt Bits) ℓ) : Prop :=
  True

def Pre_GradQkv0Ideal (m : (ℓ : Loc Cert.GradQkv0Ideal.nD Cert.GradQkv0Ideal.τ Cert.GradQkv0Ideal.sig) → Buf (Elt Ideal) ℓ) : Prop :=
  True

def Pre_GradQkvReferenceIdeal (m : (ℓ : Loc Cert.GradQkvReferenceIdeal.nD Cert.GradQkvReferenceIdeal.τ Cert.GradQkvReferenceIdeal.sig) → Buf (Elt Ideal) ℓ) : Prop :=
  True

def Pre_GradQkv1 (m : (ℓ : Loc Cert.GradQkv1.nD Cert.GradQkv1.τ Cert.GradQkv1.sig) → Buf (Elt Bits) ℓ) : Prop :=
  True

def Pre_GradQkv1Ideal (m : (ℓ : Loc Cert.GradQkv1Ideal.nD Cert.GradQkv1Ideal.τ Cert.GradQkv1Ideal.sig) → Buf (Elt Ideal) ℓ) : Prop :=
  True

def Pre_GradQkv2 (m : (ℓ : Loc Cert.GradQkv2.nD Cert.GradQkv2.τ Cert.GradQkv2.sig) → Buf (Elt Bits) ℓ) : Prop :=
  True

def Pre_GradQkv2Ideal (m : (ℓ : Loc Cert.GradQkv2Ideal.nD Cert.GradQkv2Ideal.τ Cert.GradQkv2Ideal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainReferenceIdeal (m : (ℓ : Loc Cert.AdamGainReferenceIdeal.nD Cert.AdamGainReferenceIdeal.τ Cert.AdamGainReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamSpatial (m : (ℓ : Loc Cert.AdamSpatial.nD Cert.AdamSpatial.τ Cert.AdamSpatial.sig) → Buf (Elt Bits) ℓ) : Prop :=
  True

def Pre_AdamSpatialIdeal (m : (ℓ : Loc Cert.AdamSpatialIdeal.nD Cert.AdamSpatialIdeal.τ Cert.AdamSpatialIdeal.sig) → Buf (Elt Ideal) ℓ) : Prop :=
  True

def Pre_AdamSpatialReferenceIdeal (m : (ℓ : Loc Cert.AdamSpatialReferenceIdeal.nD Cert.AdamSpatialReferenceIdeal.τ Cert.AdamSpatialReferenceIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasReferenceIdeal (m : (ℓ : Loc Cert.AdamBiasReferenceIdeal.nD Cert.AdamBiasReferenceIdeal.τ Cert.AdamBiasReferenceIdeal.sig) → Buf (Elt Ideal) ℓ) : Prop :=
  True

def Pre_AdamLn (m : (ℓ : Loc Cert.AdamLn.nD Cert.AdamLn.τ Cert.AdamLn.sig) → Buf (Elt Bits) ℓ) : Prop :=
  True

def Pre_AdamLnIdeal (m : (ℓ : Loc Cert.AdamLnIdeal.nD Cert.AdamLnIdeal.τ Cert.AdamLnIdeal.sig) → Buf (Elt Ideal) ℓ) : Prop :=
  True

def Pre_AdamLnReferenceIdeal (m : (ℓ : Loc Cert.AdamLnReferenceIdeal.nD Cert.AdamLnReferenceIdeal.τ Cert.AdamLnReferenceIdeal.sig) → Buf (Elt Ideal) ℓ) : Prop :=
  True

def Pre_AdamAttn (m : (ℓ : Loc Cert.AdamAttn.nD Cert.AdamAttn.τ Cert.AdamAttn.sig) → Buf (Elt Bits) ℓ) : Prop :=
  True

def Pre_AdamAttnIdeal (m : (ℓ : Loc Cert.AdamAttnIdeal.nD Cert.AdamAttnIdeal.τ Cert.AdamAttnIdeal.sig) → Buf (Elt Ideal) ℓ) : Prop :=
  True

def Pre_AdamAttnReferenceIdeal (m : (ℓ : Loc Cert.AdamAttnReferenceIdeal.nD Cert.AdamAttnReferenceIdeal.τ Cert.AdamAttnReferenceIdeal.sig) → Buf (Elt Ideal) ℓ) : Prop :=
  True

def Pre_AdamGmlp (m : (ℓ : Loc Cert.AdamGmlp.nD Cert.AdamGmlp.τ Cert.AdamGmlp.sig) → Buf (Elt Bits) ℓ) : Prop :=
  True

def Pre_AdamGmlpIdeal (m : (ℓ : Loc Cert.AdamGmlpIdeal.nD Cert.AdamGmlpIdeal.τ Cert.AdamGmlpIdeal.sig) → Buf (Elt Ideal) ℓ) : Prop :=
  True

def Pre_AdamGmlpReferenceIdeal (m : (ℓ : Loc Cert.AdamGmlpReferenceIdeal.nD Cert.AdamGmlpReferenceIdeal.τ Cert.AdamGmlpReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpReferenceIdeal (m : (ℓ : Loc Cert.AdamMlpReferenceIdeal.nD Cert.AdamMlpReferenceIdeal.τ Cert.AdamMlpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_MlpReferenceIdeal_pre_mlp_finite [hMlpReferenceIdeal : Cert.MlpReferenceIdeal.Facts] [hPre_mlp_finite : Cert.Pre_mlp_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_mlp_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2)
      ∧ r.2.mem ((c.tc : Thread Cert.GradOut.nD Cert.GradOut.τ).loc Cert.GradOut.main_arg3) = m ((c.tc : Thread Cert.GradOut.nD Cert.GradOut.τ).loc Cert.GradOut.main_arg3)
      ∧ r.2.mem ((c.tc : Thread Cert.GradOut.nD Cert.GradOut.τ).loc Cert.GradOut.main_arg4) = m ((c.tc : Thread Cert.GradOut.nD Cert.GradOut.τ).loc Cert.GradOut.main_arg4))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2)
      ∧ r.2.mem ((c.tc : Thread Cert.GradOutIdeal.nD Cert.GradOutIdeal.τ).loc Cert.GradOutIdeal.main_arg3) = m ((c.tc : Thread Cert.GradOutIdeal.nD Cert.GradOutIdeal.τ).loc Cert.GradOutIdeal.main_arg3)
      ∧ r.2.mem ((c.tc : Thread Cert.GradOutIdeal.nD Cert.GradOutIdeal.τ).loc Cert.GradOutIdeal.main_arg4) = m ((c.tc : Thread Cert.GradOutIdeal.nD Cert.GradOutIdeal.τ).loc Cert.GradOutIdeal.main_arg4))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1)
      ∧ r.2.mem ((c.tc : Thread Cert.GradOutReferenceIdeal.nD Cert.GradOutReferenceIdeal.τ).loc Cert.GradOutReferenceIdeal.main_arg2) = m ((c.tc : Thread Cert.GradOutReferenceIdeal.nD Cert.GradOutReferenceIdeal.τ).loc Cert.GradOutReferenceIdeal.main_arg2)
      ∧ r.2.mem ((c.tc : Thread Cert.GradOutReferenceIdeal.nD Cert.GradOutReferenceIdeal.τ).loc Cert.GradOutReferenceIdeal.main_arg3) = m ((c.tc : Thread Cert.GradOutReferenceIdeal.nD Cert.GradOutReferenceIdeal.τ).loc Cert.GradOutReferenceIdeal.main_arg3)
      ∧ r.2.mem ((c.tc : Thread Cert.GradOutReferenceIdeal.nD Cert.GradOutReferenceIdeal.τ).loc Cert.GradOutReferenceIdeal.main_arg4) = m ((c.tc : Thread Cert.GradOutReferenceIdeal.nD Cert.GradOutReferenceIdeal.τ).loc Cert.GradOutReferenceIdeal.main_arg4))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2)
      ∧ r.2.mem ((c.tc : Thread Cert.GradIn.nD Cert.GradIn.τ).loc Cert.GradIn.main_arg3) = m ((c.tc : Thread Cert.GradIn.nD Cert.GradIn.τ).loc Cert.GradIn.main_arg3))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
      ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1)
      ∧ r.2.mem ((c.tc : Thread Cert.GradInReferenceIdeal.nD Cert.GradInReferenceIdeal.τ).loc Cert.GradInReferenceIdeal.main_arg2) = m ((c.tc : Thread Cert.GradInReferenceIdeal.nD Cert.GradInReferenceIdeal.τ).loc Cert.GradInReferenceIdeal.main_arg2)
      ∧ r.2.mem ((c.tc : Thread Cert.GradInReferenceIdeal.nD Cert.GradInReferenceIdeal.τ).loc Cert.GradInReferenceIdeal.main_arg3) = m ((c.tc : Thread Cert.GradInReferenceIdeal.nD Cert.GradInReferenceIdeal.τ).loc Cert.GradInReferenceIdeal.main_arg3))
      ∧ r.2.sem = fun _ => 0)

def quiescent_GradRest [hGradRest : Cert.GradRest.Facts] : Prop :=
  ∀ (m : (ℓ : Loc Cert.GradRest.nD Cert.GradRest.τ Cert.GradRest.sig) → Buf (Elt Bits) ℓ) (g : Dev Cert.GradRest.nD → PrngReg), Pre_GradRest m →
    θ_run (Cert.GradRest.defs (F := Bits)) (onTc (τ := Cert.GradRest.τ) (Cert.GradRest.main (F := Bits))) ⟨m, fun _ => 0, g⟩ (fun r => (∀ c : Dev Cert.GradRest.nD,
      r.2.mem ((c.tc : Thread Cert.GradRest.nD Cert.GradRest.τ).loc Cert.GradRest.main_arg0) = m ((c.tc : Thread Cert.GradRest.nD Cert.GradRest.τ).loc Cert.GradRest.main_arg0)
      ∧ r.2.mem ((c.tc : Thread Cert.GradRest.nD Cert.GradRest.τ).loc Cert.GradRest.main_arg1) = m ((c.tc : Thread Cert.GradRest.nD Cert.GradRest.τ).loc Cert.GradRest.main_arg1)
      ∧ r.2.mem ((c.tc : Thread Cert.GradRest.nD Cert.GradRest.τ).loc Cert.GradRest.main_arg2) = m ((c.tc : Thread Cert.GradRest.nD Cert.GradRest.τ).loc Cert.GradRest.main_arg2)
      ∧ r.2.mem ((c.tc : Thread Cert.GradRest.nD Cert.GradRest.τ).loc Cert.GradRest.main_arg3) = m ((c.tc : Thread Cert.GradRest.nD Cert.GradRest.τ).loc Cert.GradRest.main_arg3))
      ∧ r.2.sem = fun _ => 0)

def quiescent_GradRestIdeal [hGradRestIdeal : Cert.GradRestIdeal.Facts] : Prop :=
  ∀ (m : (ℓ : Loc Cert.GradRestIdeal.nD Cert.GradRestIdeal.τ Cert.GradRestIdeal.sig) → Buf (Elt Ideal) ℓ) (g : Dev Cert.GradRestIdeal.nD → PrngReg), Pre_GradRestIdeal m →
    θ_run (Cert.GradRestIdeal.defs (F := Ideal)) (onTc (τ := Cert.GradRestIdeal.τ) (Cert.GradRestIdeal.main (F := Ideal))) ⟨m, fun _ => 0, g⟩ (fun r => (∀ c : Dev Cert.GradRestIdeal.nD,
      r.2.mem ((c.tc : Thread Cert.GradRestIdeal.nD Cert.GradRestIdeal.τ).loc Cert.GradRestIdeal.main_arg0) = m ((c.tc : Thread Cert.GradRestIdeal.nD Cert.GradRestIdeal.τ).loc Cert.GradRestIdeal.main_arg0)
      ∧ r.2.mem ((c.tc : Thread Cert.GradRestIdeal.nD Cert.GradRestIdeal.τ).loc Cert.GradRestIdeal.main_arg1) = m ((c.tc : Thread Cert.GradRestIdeal.nD Cert.GradRestIdeal.τ).loc Cert.GradRestIdeal.main_arg1)
      ∧ r.2.mem ((c.tc : Thread Cert.GradRestIdeal.nD Cert.GradRestIdeal.τ).loc Cert.GradRestIdeal.main_arg2) = m ((c.tc : Thread Cert.GradRestIdeal.nD Cert.GradRestIdeal.τ).loc Cert.GradRestIdeal.main_arg2)
      ∧ r.2.mem ((c.tc : Thread Cert.GradRestIdeal.nD Cert.GradRestIdeal.τ).loc Cert.GradRestIdeal.main_arg3) = m ((c.tc : Thread Cert.GradRestIdeal.nD Cert.GradRestIdeal.τ).loc Cert.GradRestIdeal.main_arg3))
      ∧ r.2.sem = fun _ => 0)

def quiescent_GradRestReferenceIdeal [hGradRestReferenceIdeal : Cert.GradRestReferenceIdeal.Facts] : Prop :=
  ∀ (m : (ℓ : Loc Cert.GradRestReferenceIdeal.nD Cert.GradRestReferenceIdeal.τ Cert.GradRestReferenceIdeal.sig) → Buf (Elt Ideal) ℓ) (g : Dev Cert.GradRestReferenceIdeal.nD → PrngReg), Pre_GradRestReferenceIdeal m →
    θ_run (Cert.GradRestReferenceIdeal.defs (F := Ideal)) (onTc (τ := Cert.GradRestReferenceIdeal.τ) (Cert.GradRestReferenceIdeal.main (F := Ideal))) ⟨m, fun _ => 0, g⟩ (fun r => (∀ c : Dev Cert.GradRestReferenceIdeal.nD,
      r.2.mem ((c.tc : Thread Cert.GradRestReferenceIdeal.nD Cert.GradRestReferenceIdeal.τ).loc Cert.GradRestReferenceIdeal.main_arg0) = m ((c.tc : Thread Cert.GradRestReferenceIdeal.nD Cert.GradRestReferenceIdeal.τ).loc Cert.GradRestReferenceIdeal.main_arg0)
      ∧ r.2.mem ((c.tc : Thread Cert.GradRestReferenceIdeal.nD Cert.GradRestReferenceIdeal.τ).loc Cert.GradRestReferenceIdeal.main_arg1) = m ((c.tc : Thread Cert.GradRestReferenceIdeal.nD Cert.GradRestReferenceIdeal.τ).loc Cert.GradRestReferenceIdeal.main_arg1)
      ∧ r.2.mem ((c.tc : Thread Cert.GradRestReferenceIdeal.nD Cert.GradRestReferenceIdeal.τ).loc Cert.GradRestReferenceIdeal.main_arg2) = m ((c.tc : Thread Cert.GradRestReferenceIdeal.nD Cert.GradRestReferenceIdeal.τ).loc Cert.GradRestReferenceIdeal.main_arg2)
      ∧ r.2.mem ((c.tc : Thread Cert.GradRestReferenceIdeal.nD Cert.GradRestReferenceIdeal.τ).loc Cert.GradRestReferenceIdeal.main_arg3) = m ((c.tc : Thread Cert.GradRestReferenceIdeal.nD Cert.GradRestReferenceIdeal.τ).loc Cert.GradRestReferenceIdeal.main_arg3))
      ∧ r.2.sem = fun _ => 0)

def quiescent_GradQkv0 [hGradQkv0 : Cert.GradQkv0.Facts] : Prop :=
  ∀ (m : (ℓ : Loc Cert.GradQkv0.nD Cert.GradQkv0.τ Cert.GradQkv0.sig) → Buf (Elt Bits) ℓ) (g : Dev Cert.GradQkv0.nD → PrngReg), Pre_GradQkv0 m →
    θ_run (Cert.GradQkv0.defs (F := Bits)) (onTc (τ := Cert.GradQkv0.τ) (Cert.GradQkv0.main (F := Bits))) ⟨m, fun _ => 0, g⟩ (fun r => (∀ c : Dev Cert.GradQkv0.nD,
      r.2.mem ((c.tc : Thread Cert.GradQkv0.nD Cert.GradQkv0.τ).loc Cert.GradQkv0.main_arg0) = m ((c.tc : Thread Cert.GradQkv0.nD Cert.GradQkv0.τ).loc Cert.GradQkv0.main_arg0)
      ∧ r.2.mem ((c.tc : Thread Cert.GradQkv0.nD Cert.GradQkv0.τ).loc Cert.GradQkv0.main_arg1) = m ((c.tc : Thread Cert.GradQkv0.nD Cert.GradQkv0.τ).loc Cert.GradQkv0.main_arg1)
      ∧ r.2.mem ((c.tc : Thread Cert.GradQkv0.nD Cert.GradQkv0.τ).loc Cert.GradQkv0.main_arg2) = m ((c.tc : Thread Cert.GradQkv0.nD Cert.GradQkv0.τ).loc Cert.GradQkv0.main_arg2)
      ∧ r.2.mem ((c.tc : Thread Cert.GradQkv0.nD Cert.GradQkv0.τ).loc Cert.GradQkv0.main_arg3) = m ((c.tc : Thread Cert.GradQkv0.nD Cert.GradQkv0.τ).loc Cert.GradQkv0.main_arg3))
      ∧ r.2.sem = fun _ => 0)

def quiescent_GradQkv0Ideal [hGradQkv0Ideal : Cert.GradQkv0Ideal.Facts] : Prop :=
  ∀ (m : (ℓ : Loc Cert.GradQkv0Ideal.nD Cert.GradQkv0Ideal.τ Cert.GradQkv0Ideal.sig) → Buf (Elt Ideal) ℓ) (g : Dev Cert.GradQkv0Ideal.nD → PrngReg), Pre_GradQkv0Ideal m →
    θ_run (Cert.GradQkv0Ideal.defs (F := Ideal)) (onTc (τ := Cert.GradQkv0Ideal.τ) (Cert.GradQkv0Ideal.main (F := Ideal))) ⟨m, fun _ => 0, g⟩ (fun r => (∀ c : Dev Cert.GradQkv0Ideal.nD,
      r.2.mem ((c.tc : Thread Cert.GradQkv0Ideal.nD Cert.GradQkv0Ideal.τ).loc Cert.GradQkv0Ideal.main_arg0) = m ((c.tc : Thread Cert.GradQkv0Ideal.nD Cert.GradQkv0Ideal.τ).loc Cert.GradQkv0Ideal.main_arg0)
      ∧ r.2.mem ((c.tc : Thread Cert.GradQkv0Ideal.nD Cert.GradQkv0Ideal.τ).loc Cert.GradQkv0Ideal.main_arg1) = m ((c.tc : Thread Cert.GradQkv0Ideal.nD Cert.GradQkv0Ideal.τ).loc Cert.GradQkv0Ideal.main_arg1)
      ∧ r.2.mem ((c.tc : Thread Cert.GradQkv0Ideal.nD Cert.GradQkv0Ideal.τ).loc Cert.GradQkv0Ideal.main_arg2) = m ((c.tc : Thread Cert.GradQkv0Ideal.nD Cert.GradQkv0Ideal.τ).loc Cert.GradQkv0Ideal.main_arg2)
      ∧ r.2.mem ((c.tc : Thread Cert.GradQkv0Ideal.nD Cert.GradQkv0Ideal.τ).loc Cert.GradQkv0Ideal.main_arg3) = m ((c.tc : Thread Cert.GradQkv0Ideal.nD Cert.GradQkv0Ideal.τ).loc Cert.GradQkv0Ideal.main_arg3))
      ∧ r.2.sem = fun _ => 0)

def quiescent_GradQkvReferenceIdeal [hGradQkvReferenceIdeal : Cert.GradQkvReferenceIdeal.Facts] : Prop :=
  ∀ (m : (ℓ : Loc Cert.GradQkvReferenceIdeal.nD Cert.GradQkvReferenceIdeal.τ Cert.GradQkvReferenceIdeal.sig) → Buf (Elt Ideal) ℓ) (g : Dev Cert.GradQkvReferenceIdeal.nD → PrngReg), Pre_GradQkvReferenceIdeal m →
    θ_run (Cert.GradQkvReferenceIdeal.defs (F := Ideal)) (onTc (τ := Cert.GradQkvReferenceIdeal.τ) (Cert.GradQkvReferenceIdeal.main (F := Ideal))) ⟨m, fun _ => 0, g⟩ (fun r => (∀ c : Dev Cert.GradQkvReferenceIdeal.nD,
      r.2.mem ((c.tc : Thread Cert.GradQkvReferenceIdeal.nD Cert.GradQkvReferenceIdeal.τ).loc Cert.GradQkvReferenceIdeal.main_arg0) = m ((c.tc : Thread Cert.GradQkvReferenceIdeal.nD Cert.GradQkvReferenceIdeal.τ).loc Cert.GradQkvReferenceIdeal.main_arg0)
      ∧ r.2.mem ((c.tc : Thread Cert.GradQkvReferenceIdeal.nD Cert.GradQkvReferenceIdeal.τ).loc Cert.GradQkvReferenceIdeal.main_arg1) = m ((c.tc : Thread Cert.GradQkvReferenceIdeal.nD Cert.GradQkvReferenceIdeal.τ).loc Cert.GradQkvReferenceIdeal.main_arg1)
      ∧ r.2.mem ((c.tc : Thread Cert.GradQkvReferenceIdeal.nD Cert.GradQkvReferenceIdeal.τ).loc Cert.GradQkvReferenceIdeal.main_arg2) = m ((c.tc : Thread Cert.GradQkvReferenceIdeal.nD Cert.GradQkvReferenceIdeal.τ).loc Cert.GradQkvReferenceIdeal.main_arg2)
      ∧ r.2.mem ((c.tc : Thread Cert.GradQkvReferenceIdeal.nD Cert.GradQkvReferenceIdeal.τ).loc Cert.GradQkvReferenceIdeal.main_arg3) = m ((c.tc : Thread Cert.GradQkvReferenceIdeal.nD Cert.GradQkvReferenceIdeal.τ).loc Cert.GradQkvReferenceIdeal.main_arg3))
      ∧ r.2.sem = fun _ => 0)

def quiescent_GradQkv1 [hGradQkv1 : Cert.GradQkv1.Facts] : Prop :=
  ∀ (m : (ℓ : Loc Cert.GradQkv1.nD Cert.GradQkv1.τ Cert.GradQkv1.sig) → Buf (Elt Bits) ℓ) (g : Dev Cert.GradQkv1.nD → PrngReg), Pre_GradQkv1 m →
    θ_run (Cert.GradQkv1.defs (F := Bits)) (onTc (τ := Cert.GradQkv1.τ) (Cert.GradQkv1.main (F := Bits))) ⟨m, fun _ => 0, g⟩ (fun r => (∀ c : Dev Cert.GradQkv1.nD,
      r.2.mem ((c.tc : Thread Cert.GradQkv1.nD Cert.GradQkv1.τ).loc Cert.GradQkv1.main_arg0) = m ((c.tc : Thread Cert.GradQkv1.nD Cert.GradQkv1.τ).loc Cert.GradQkv1.main_arg0)
      ∧ r.2.mem ((c.tc : Thread Cert.GradQkv1.nD Cert.GradQkv1.τ).loc Cert.GradQkv1.main_arg1) = m ((c.tc : Thread Cert.GradQkv1.nD Cert.GradQkv1.τ).loc Cert.GradQkv1.main_arg1)
      ∧ r.2.mem ((c.tc : Thread Cert.GradQkv1.nD Cert.GradQkv1.τ).loc Cert.GradQkv1.main_arg2) = m ((c.tc : Thread Cert.GradQkv1.nD Cert.GradQkv1.τ).loc Cert.GradQkv1.main_arg2)
      ∧ r.2.mem ((c.tc : Thread Cert.GradQkv1.nD Cert.GradQkv1.τ).loc Cert.GradQkv1.main_arg3) = m ((c.tc : Thread Cert.GradQkv1.nD Cert.GradQkv1.τ).loc Cert.GradQkv1.main_arg3))
      ∧ r.2.sem = fun _ => 0)

def quiescent_GradQkv1Ideal [hGradQkv1Ideal : Cert.GradQkv1Ideal.Facts] : Prop :=
  ∀ (m : (ℓ : Loc Cert.GradQkv1Ideal.nD Cert.GradQkv1Ideal.τ Cert.GradQkv1Ideal.sig) → Buf (Elt Ideal) ℓ) (g : Dev Cert.GradQkv1Ideal.nD → PrngReg), Pre_GradQkv1Ideal m →
    θ_run (Cert.GradQkv1Ideal.defs (F := Ideal)) (onTc (τ := Cert.GradQkv1Ideal.τ) (Cert.GradQkv1Ideal.main (F := Ideal))) ⟨m, fun _ => 0, g⟩ (fun r => (∀ c : Dev Cert.GradQkv1Ideal.nD,
      r.2.mem ((c.tc : Thread Cert.GradQkv1Ideal.nD Cert.GradQkv1Ideal.τ).loc Cert.GradQkv1Ideal.main_arg0) = m ((c.tc : Thread Cert.GradQkv1Ideal.nD Cert.GradQkv1Ideal.τ).loc Cert.GradQkv1Ideal.main_arg0)
      ∧ r.2.mem ((c.tc : Thread Cert.GradQkv1Ideal.nD Cert.GradQkv1Ideal.τ).loc Cert.GradQkv1Ideal.main_arg1) = m ((c.tc : Thread Cert.GradQkv1Ideal.nD Cert.GradQkv1Ideal.τ).loc Cert.GradQkv1Ideal.main_arg1)
      ∧ r.2.mem ((c.tc : Thread Cert.GradQkv1Ideal.nD Cert.GradQkv1Ideal.τ).loc Cert.GradQkv1Ideal.main_arg2) = m ((c.tc : Thread Cert.GradQkv1Ideal.nD Cert.GradQkv1Ideal.τ).loc Cert.GradQkv1Ideal.main_arg2)
      ∧ r.2.mem ((c.tc : Thread Cert.GradQkv1Ideal.nD Cert.GradQkv1Ideal.τ).loc Cert.GradQkv1Ideal.main_arg3) = m ((c.tc : Thread Cert.GradQkv1Ideal.nD Cert.GradQkv1Ideal.τ).loc Cert.GradQkv1Ideal.main_arg3))
      ∧ r.2.sem = fun _ => 0)

def quiescent_GradQkv2 [hGradQkv2 : Cert.GradQkv2.Facts] : Prop :=
  ∀ (m : (ℓ : Loc Cert.GradQkv2.nD Cert.GradQkv2.τ Cert.GradQkv2.sig) → Buf (Elt Bits) ℓ) (g : Dev Cert.GradQkv2.nD → PrngReg), Pre_GradQkv2 m →
    θ_run (Cert.GradQkv2.defs (F := Bits)) (onTc (τ := Cert.GradQkv2.τ) (Cert.GradQkv2.main (F := Bits))) ⟨m, fun _ => 0, g⟩ (fun r => (∀ c : Dev Cert.GradQkv2.nD,
      r.2.mem ((c.tc : Thread Cert.GradQkv2.nD Cert.GradQkv2.τ).loc Cert.GradQkv2.main_arg0) = m ((c.tc : Thread Cert.GradQkv2.nD Cert.GradQkv2.τ).loc Cert.GradQkv2.main_arg0)
      ∧ r.2.mem ((c.tc : Thread Cert.GradQkv2.nD Cert.GradQkv2.τ).loc Cert.GradQkv2.main_arg1) = m ((c.tc : Thread Cert.GradQkv2.nD Cert.GradQkv2.τ).loc Cert.GradQkv2.main_arg1)
      ∧ r.2.mem ((c.tc : Thread Cert.GradQkv2.nD Cert.GradQkv2.τ).loc Cert.GradQkv2.main_arg2) = m ((c.tc : Thread Cert.GradQkv2.nD Cert.GradQkv2.τ).loc Cert.GradQkv2.main_arg2)
      ∧ r.2.mem ((c.tc : Thread Cert.GradQkv2.nD Cert.GradQkv2.τ).loc Cert.GradQkv2.main_arg3) = m ((c.tc : Thread Cert.GradQkv2.nD Cert.GradQkv2.τ).loc Cert.GradQkv2.main_arg3))
      ∧ r.2.sem = fun _ => 0)

def quiescent_GradQkv2Ideal [hGradQkv2Ideal : Cert.GradQkv2Ideal.Facts] : Prop :=
  ∀ (m : (ℓ : Loc Cert.GradQkv2Ideal.nD Cert.GradQkv2Ideal.τ Cert.GradQkv2Ideal.sig) → Buf (Elt Ideal) ℓ) (g : Dev Cert.GradQkv2Ideal.nD → PrngReg), Pre_GradQkv2Ideal m →
    θ_run (Cert.GradQkv2Ideal.defs (F := Ideal)) (onTc (τ := Cert.GradQkv2Ideal.τ) (Cert.GradQkv2Ideal.main (F := Ideal))) ⟨m, fun _ => 0, g⟩ (fun r => (∀ c : Dev Cert.GradQkv2Ideal.nD,
      r.2.mem ((c.tc : Thread Cert.GradQkv2Ideal.nD Cert.GradQkv2Ideal.τ).loc Cert.GradQkv2Ideal.main_arg0) = m ((c.tc : Thread Cert.GradQkv2Ideal.nD Cert.GradQkv2Ideal.τ).loc Cert.GradQkv2Ideal.main_arg0)
      ∧ r.2.mem ((c.tc : Thread Cert.GradQkv2Ideal.nD Cert.GradQkv2Ideal.τ).loc Cert.GradQkv2Ideal.main_arg1) = m ((c.tc : Thread Cert.GradQkv2Ideal.nD Cert.GradQkv2Ideal.τ).loc Cert.GradQkv2Ideal.main_arg1)
      ∧ r.2.mem ((c.tc : Thread Cert.GradQkv2Ideal.nD Cert.GradQkv2Ideal.τ).loc Cert.GradQkv2Ideal.main_arg2) = m ((c.tc : Thread Cert.GradQkv2Ideal.nD Cert.GradQkv2Ideal.τ).loc Cert.GradQkv2Ideal.main_arg2)
      ∧ r.2.mem ((c.tc : Thread Cert.GradQkv2Ideal.nD Cert.GradQkv2Ideal.τ).loc Cert.GradQkv2Ideal.main_arg3) = m ((c.tc : Thread Cert.GradQkv2Ideal.nD Cert.GradQkv2Ideal.τ).loc Cert.GradQkv2Ideal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainReferenceIdeal [hAdamGainReferenceIdeal : Cert.AdamGainReferenceIdeal.Facts] : Prop :=
  ∀ (m : (ℓ : Loc Cert.AdamGainReferenceIdeal.nD Cert.AdamGainReferenceIdeal.τ Cert.AdamGainReferenceIdeal.sig) → Buf (Elt Ideal) ℓ) (g : Dev Cert.AdamGainReferenceIdeal.nD → PrngReg), Pre_AdamGainReferenceIdeal m →
    θ_run (Cert.AdamGainReferenceIdeal.defs (F := Ideal)) (onTc (τ := Cert.AdamGainReferenceIdeal.τ) (Cert.AdamGainReferenceIdeal.main (F := Ideal))) ⟨m, fun _ => 0, g⟩ (fun r => (∀ c : Dev Cert.AdamGainReferenceIdeal.nD,
      r.2.mem ((c.tc : Thread Cert.AdamGainReferenceIdeal.nD Cert.AdamGainReferenceIdeal.τ).loc Cert.AdamGainReferenceIdeal.main_arg0) = m ((c.tc : Thread Cert.AdamGainReferenceIdeal.nD Cert.AdamGainReferenceIdeal.τ).loc Cert.AdamGainReferenceIdeal.main_arg0)
      ∧ r.2.mem ((c.tc : Thread Cert.AdamGainReferenceIdeal.nD Cert.AdamGainReferenceIdeal.τ).loc Cert.AdamGainReferenceIdeal.main_arg1) = m ((c.tc : Thread Cert.AdamGainReferenceIdeal.nD Cert.AdamGainReferenceIdeal.τ).loc Cert.AdamGainReferenceIdeal.main_arg1)
      ∧ r.2.mem ((c.tc : Thread Cert.AdamGainReferenceIdeal.nD Cert.AdamGainReferenceIdeal.τ).loc Cert.AdamGainReferenceIdeal.main_arg2) = m ((c.tc : Thread Cert.AdamGainReferenceIdeal.nD Cert.AdamGainReferenceIdeal.τ).loc Cert.AdamGainReferenceIdeal.main_arg2)
      ∧ r.2.mem ((c.tc : Thread Cert.AdamGainReferenceIdeal.nD Cert.AdamGainReferenceIdeal.τ).loc Cert.AdamGainReferenceIdeal.main_arg3) = m ((c.tc : Thread Cert.AdamGainReferenceIdeal.nD Cert.AdamGainReferenceIdeal.τ).loc Cert.AdamGainReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamSpatial [hAdamSpatial : Cert.AdamSpatial.Facts] : Prop :=
  ∀ (m : (ℓ : Loc Cert.AdamSpatial.nD Cert.AdamSpatial.τ Cert.AdamSpatial.sig) → Buf (Elt Bits) ℓ) (g : Dev Cert.AdamSpatial.nD → PrngReg), Pre_AdamSpatial m →
    θ_run (Cert.AdamSpatial.defs (F := Bits)) (onTc (τ := Cert.AdamSpatial.τ) (Cert.AdamSpatial.main (F := Bits))) ⟨m, fun _ => 0, g⟩ (fun r => (∀ c : Dev Cert.AdamSpatial.nD,
      r.2.mem ((c.tc : Thread Cert.AdamSpatial.nD Cert.AdamSpatial.τ).loc Cert.AdamSpatial.main_arg0) = m ((c.tc : Thread Cert.AdamSpatial.nD Cert.AdamSpatial.τ).loc Cert.AdamSpatial.main_arg0)
      ∧ r.2.mem ((c.tc : Thread Cert.AdamSpatial.nD Cert.AdamSpatial.τ).loc Cert.AdamSpatial.main_arg1) = m ((c.tc : Thread Cert.AdamSpatial.nD Cert.AdamSpatial.τ).loc Cert.AdamSpatial.main_arg1)
      ∧ r.2.mem ((c.tc : Thread Cert.AdamSpatial.nD Cert.AdamSpatial.τ).loc Cert.AdamSpatial.main_arg2) = m ((c.tc : Thread Cert.AdamSpatial.nD Cert.AdamSpatial.τ).loc Cert.AdamSpatial.main_arg2)
      ∧ r.2.mem ((c.tc : Thread Cert.AdamSpatial.nD Cert.AdamSpatial.τ).loc Cert.AdamSpatial.main_arg3) = m ((c.tc : Thread Cert.AdamSpatial.nD Cert.AdamSpatial.τ).loc Cert.AdamSpatial.main_arg3))
      ∧ r.2.sem = fun _ => 0)

def quiescent_AdamSpatialIdeal [hAdamSpatialIdeal : Cert.AdamSpatialIdeal.Facts] : Prop :=
  ∀ (m : (ℓ : Loc Cert.AdamSpatialIdeal.nD Cert.AdamSpatialIdeal.τ Cert.AdamSpatialIdeal.sig) → Buf (Elt Ideal) ℓ) (g : Dev Cert.AdamSpatialIdeal.nD → PrngReg), Pre_AdamSpatialIdeal m →
    θ_run (Cert.AdamSpatialIdeal.defs (F := Ideal)) (onTc (τ := Cert.AdamSpatialIdeal.τ) (Cert.AdamSpatialIdeal.main (F := Ideal))) ⟨m, fun _ => 0, g⟩ (fun r => (∀ c : Dev Cert.AdamSpatialIdeal.nD,
      r.2.mem ((c.tc : Thread Cert.AdamSpatialIdeal.nD Cert.AdamSpatialIdeal.τ).loc Cert.AdamSpatialIdeal.main_arg0) = m ((c.tc : Thread Cert.AdamSpatialIdeal.nD Cert.AdamSpatialIdeal.τ).loc Cert.AdamSpatialIdeal.main_arg0)
      ∧ r.2.mem ((c.tc : Thread Cert.AdamSpatialIdeal.nD Cert.AdamSpatialIdeal.τ).loc Cert.AdamSpatialIdeal.main_arg1) = m ((c.tc : Thread Cert.AdamSpatialIdeal.nD Cert.AdamSpatialIdeal.τ).loc Cert.AdamSpatialIdeal.main_arg1)
      ∧ r.2.mem ((c.tc : Thread Cert.AdamSpatialIdeal.nD Cert.AdamSpatialIdeal.τ).loc Cert.AdamSpatialIdeal.main_arg2) = m ((c.tc : Thread Cert.AdamSpatialIdeal.nD Cert.AdamSpatialIdeal.τ).loc Cert.AdamSpatialIdeal.main_arg2)
      ∧ r.2.mem ((c.tc : Thread Cert.AdamSpatialIdeal.nD Cert.AdamSpatialIdeal.τ).loc Cert.AdamSpatialIdeal.main_arg3) = m ((c.tc : Thread Cert.AdamSpatialIdeal.nD Cert.AdamSpatialIdeal.τ).loc Cert.AdamSpatialIdeal.main_arg3))
      ∧ r.2.sem = fun _ => 0)

def quiescent_AdamSpatialReferenceIdeal [hAdamSpatialReferenceIdeal : Cert.AdamSpatialReferenceIdeal.Facts] : Prop :=
  ∀ (m : (ℓ : Loc Cert.AdamSpatialReferenceIdeal.nD Cert.AdamSpatialReferenceIdeal.τ Cert.AdamSpatialReferenceIdeal.sig) → Buf (Elt Ideal) ℓ) (g : Dev Cert.AdamSpatialReferenceIdeal.nD → PrngReg), Pre_AdamSpatialReferenceIdeal m →
    θ_run (Cert.AdamSpatialReferenceIdeal.defs (F := Ideal)) (onTc (τ := Cert.AdamSpatialReferenceIdeal.τ) (Cert.AdamSpatialReferenceIdeal.main (F := Ideal))) ⟨m, fun _ => 0, g⟩ (fun r => (∀ c : Dev Cert.AdamSpatialReferenceIdeal.nD,
      r.2.mem ((c.tc : Thread Cert.AdamSpatialReferenceIdeal.nD Cert.AdamSpatialReferenceIdeal.τ).loc Cert.AdamSpatialReferenceIdeal.main_arg0) = m ((c.tc : Thread Cert.AdamSpatialReferenceIdeal.nD Cert.AdamSpatialReferenceIdeal.τ).loc Cert.AdamSpatialReferenceIdeal.main_arg0)
      ∧ r.2.mem ((c.tc : Thread Cert.AdamSpatialReferenceIdeal.nD Cert.AdamSpatialReferenceIdeal.τ).loc Cert.AdamSpatialReferenceIdeal.main_arg1) = m ((c.tc : Thread Cert.AdamSpatialReferenceIdeal.nD Cert.AdamSpatialReferenceIdeal.τ).loc Cert.AdamSpatialReferenceIdeal.main_arg1)
      ∧ r.2.mem ((c.tc : Thread Cert.AdamSpatialReferenceIdeal.nD Cert.AdamSpatialReferenceIdeal.τ).loc Cert.AdamSpatialReferenceIdeal.main_arg2) = m ((c.tc : Thread Cert.AdamSpatialReferenceIdeal.nD Cert.AdamSpatialReferenceIdeal.τ).loc Cert.AdamSpatialReferenceIdeal.main_arg2)
      ∧ r.2.mem ((c.tc : Thread Cert.AdamSpatialReferenceIdeal.nD Cert.AdamSpatialReferenceIdeal.τ).loc Cert.AdamSpatialReferenceIdeal.main_arg3) = m ((c.tc : Thread Cert.AdamSpatialReferenceIdeal.nD Cert.AdamSpatialReferenceIdeal.τ).loc Cert.AdamSpatialReferenceIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasReferenceIdeal [hAdamBiasReferenceIdeal : Cert.AdamBiasReferenceIdeal.Facts] : Prop :=
  ∀ (m : (ℓ : Loc Cert.AdamBiasReferenceIdeal.nD Cert.AdamBiasReferenceIdeal.τ Cert.AdamBiasReferenceIdeal.sig) → Buf (Elt Ideal) ℓ) (g : Dev Cert.AdamBiasReferenceIdeal.nD → PrngReg), Pre_AdamBiasReferenceIdeal m →
    θ_run (Cert.AdamBiasReferenceIdeal.defs (F := Ideal)) (onTc (τ := Cert.AdamBiasReferenceIdeal.τ) (Cert.AdamBiasReferenceIdeal.main (F := Ideal))) ⟨m, fun _ => 0, g⟩ (fun r => (∀ c : Dev Cert.AdamBiasReferenceIdeal.nD,
      r.2.mem ((c.tc : Thread Cert.AdamBiasReferenceIdeal.nD Cert.AdamBiasReferenceIdeal.τ).loc Cert.AdamBiasReferenceIdeal.main_arg0) = m ((c.tc : Thread Cert.AdamBiasReferenceIdeal.nD Cert.AdamBiasReferenceIdeal.τ).loc Cert.AdamBiasReferenceIdeal.main_arg0)
      ∧ r.2.mem ((c.tc : Thread Cert.AdamBiasReferenceIdeal.nD Cert.AdamBiasReferenceIdeal.τ).loc Cert.AdamBiasReferenceIdeal.main_arg1) = m ((c.tc : Thread Cert.AdamBiasReferenceIdeal.nD Cert.AdamBiasReferenceIdeal.τ).loc Cert.AdamBiasReferenceIdeal.main_arg1)
      ∧ r.2.mem ((c.tc : Thread Cert.AdamBiasReferenceIdeal.nD Cert.AdamBiasReferenceIdeal.τ).loc Cert.AdamBiasReferenceIdeal.main_arg2) = m ((c.tc : Thread Cert.AdamBiasReferenceIdeal.nD Cert.AdamBiasReferenceIdeal.τ).loc Cert.AdamBiasReferenceIdeal.main_arg2)
      ∧ r.2.mem ((c.tc : Thread Cert.AdamBiasReferenceIdeal.nD Cert.AdamBiasReferenceIdeal.τ).loc Cert.AdamBiasReferenceIdeal.main_arg3) = m ((c.tc : Thread Cert.AdamBiasReferenceIdeal.nD Cert.AdamBiasReferenceIdeal.τ).loc Cert.AdamBiasReferenceIdeal.main_arg3))
      ∧ r.2.sem = fun _ => 0)

def quiescent_AdamLn [hAdamLn : Cert.AdamLn.Facts] : Prop :=
  ∀ (m : (ℓ : Loc Cert.AdamLn.nD Cert.AdamLn.τ Cert.AdamLn.sig) → Buf (Elt Bits) ℓ) (g : Dev Cert.AdamLn.nD → PrngReg), Pre_AdamLn m →
    θ_run (Cert.AdamLn.defs (F := Bits)) (onTc (τ := Cert.AdamLn.τ) (Cert.AdamLn.main (F := Bits))) ⟨m, fun _ => 0, g⟩ (fun r => (∀ c : Dev Cert.AdamLn.nD,
      r.2.mem ((c.tc : Thread Cert.AdamLn.nD Cert.AdamLn.τ).loc Cert.AdamLn.main_arg0) = m ((c.tc : Thread Cert.AdamLn.nD Cert.AdamLn.τ).loc Cert.AdamLn.main_arg0)
      ∧ r.2.mem ((c.tc : Thread Cert.AdamLn.nD Cert.AdamLn.τ).loc Cert.AdamLn.main_arg1) = m ((c.tc : Thread Cert.AdamLn.nD Cert.AdamLn.τ).loc Cert.AdamLn.main_arg1)
      ∧ r.2.mem ((c.tc : Thread Cert.AdamLn.nD Cert.AdamLn.τ).loc Cert.AdamLn.main_arg2) = m ((c.tc : Thread Cert.AdamLn.nD Cert.AdamLn.τ).loc Cert.AdamLn.main_arg2)
      ∧ r.2.mem ((c.tc : Thread Cert.AdamLn.nD Cert.AdamLn.τ).loc Cert.AdamLn.main_arg3) = m ((c.tc : Thread Cert.AdamLn.nD Cert.AdamLn.τ).loc Cert.AdamLn.main_arg3))
      ∧ r.2.sem = fun _ => 0)

def quiescent_AdamLnIdeal [hAdamLnIdeal : Cert.AdamLnIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg), Pre_AdamLnIdeal m →
    θ_run (Cert.AdamLnIdeal.defs (F := Ideal)) (onTc (τ := Cert.AdamLnIdeal.τ) (Cert.AdamLnIdeal.main (F := Ideal))) ⟨m, fun _ => 0, g⟩ (fun r => (∀ c : Dev Cert.AdamLnIdeal.nD,
      r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
      ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
      ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
      ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ r.2.sem = fun _ => 0)

def quiescent_AdamLnReferenceIdeal [hAdamLnReferenceIdeal : Cert.AdamLnReferenceIdeal.Facts] : Prop :=
  ∀ (m : (ℓ : Loc Cert.AdamLnReferenceIdeal.nD Cert.AdamLnReferenceIdeal.τ Cert.AdamLnReferenceIdeal.sig) → Buf (Elt Ideal) ℓ) (g : Dev Cert.AdamLnReferenceIdeal.nD → PrngReg), Pre_AdamLnReferenceIdeal m →
    θ_run (Cert.AdamLnReferenceIdeal.defs (F := Ideal)) (onTc (τ := Cert.AdamLnReferenceIdeal.τ) (Cert.AdamLnReferenceIdeal.main (F := Ideal))) ⟨m, fun _ => 0, g⟩ (fun r => (∀ c : Dev Cert.AdamLnReferenceIdeal.nD,
      r.2.mem ((c.tc : Thread Cert.AdamLnReferenceIdeal.nD Cert.AdamLnReferenceIdeal.τ).loc Cert.AdamLnReferenceIdeal.main_arg0) = m ((c.tc : Thread Cert.AdamLnReferenceIdeal.nD Cert.AdamLnReferenceIdeal.τ).loc Cert.AdamLnReferenceIdeal.main_arg0)
      ∧ r.2.mem ((c.tc : Thread Cert.AdamLnReferenceIdeal.nD Cert.AdamLnReferenceIdeal.τ).loc Cert.AdamLnReferenceIdeal.main_arg1) = m ((c.tc : Thread Cert.AdamLnReferenceIdeal.nD Cert.AdamLnReferenceIdeal.τ).loc Cert.AdamLnReferenceIdeal.main_arg1)
      ∧ r.2.mem ((c.tc : Thread Cert.AdamLnReferenceIdeal.nD Cert.AdamLnReferenceIdeal.τ).loc Cert.AdamLnReferenceIdeal.main_arg2) = m ((c.tc : Thread Cert.AdamLnReferenceIdeal.nD Cert.AdamLnReferenceIdeal.τ).loc Cert.AdamLnReferenceIdeal.main_arg2)
      ∧ r.2.mem ((c.tc : Thread Cert.AdamLnReferenceIdeal.nD Cert.AdamLnReferenceIdeal.τ).loc Cert.AdamLnReferenceIdeal.main_arg3) = m ((c.tc : Thread Cert.AdamLnReferenceIdeal.nD Cert.AdamLnReferenceIdeal.τ).loc Cert.AdamLnReferenceIdeal.main_arg3))
      ∧ r.2.sem = fun _ => 0)

def quiescent_AdamAttn [hAdamAttn : Cert.AdamAttn.Facts] : Prop :=
  ∀ (m : (ℓ : Loc Cert.AdamAttn.nD Cert.AdamAttn.τ Cert.AdamAttn.sig) → Buf (Elt Bits) ℓ) (g : Dev Cert.AdamAttn.nD → PrngReg), Pre_AdamAttn m →
    θ_run (Cert.AdamAttn.defs (F := Bits)) (onTc (τ := Cert.AdamAttn.τ) (Cert.AdamAttn.main (F := Bits))) ⟨m, fun _ => 0, g⟩ (fun r => (∀ c : Dev Cert.AdamAttn.nD,
      r.2.mem ((c.tc : Thread Cert.AdamAttn.nD Cert.AdamAttn.τ).loc Cert.AdamAttn.main_arg0) = m ((c.tc : Thread Cert.AdamAttn.nD Cert.AdamAttn.τ).loc Cert.AdamAttn.main_arg0)
      ∧ r.2.mem ((c.tc : Thread Cert.AdamAttn.nD Cert.AdamAttn.τ).loc Cert.AdamAttn.main_arg1) = m ((c.tc : Thread Cert.AdamAttn.nD Cert.AdamAttn.τ).loc Cert.AdamAttn.main_arg1)
      ∧ r.2.mem ((c.tc : Thread Cert.AdamAttn.nD Cert.AdamAttn.τ).loc Cert.AdamAttn.main_arg2) = m ((c.tc : Thread Cert.AdamAttn.nD Cert.AdamAttn.τ).loc Cert.AdamAttn.main_arg2)
      ∧ r.2.mem ((c.tc : Thread Cert.AdamAttn.nD Cert.AdamAttn.τ).loc Cert.AdamAttn.main_arg3) = m ((c.tc : Thread Cert.AdamAttn.nD Cert.AdamAttn.τ).loc Cert.AdamAttn.main_arg3))
      ∧ r.2.sem = fun _ => 0)

def quiescent_AdamAttnIdeal [hAdamAttnIdeal : Cert.AdamAttnIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg), Pre_AdamAttnIdeal m →
    θ_run (Cert.AdamAttnIdeal.defs (F := Ideal)) (onTc (τ := Cert.AdamAttnIdeal.τ) (Cert.AdamAttnIdeal.main (F := Ideal))) ⟨m, fun _ => 0, g⟩ (fun r => (∀ c : Dev Cert.AdamAttnIdeal.nD,
      r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
      ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
      ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
      ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ r.2.sem = fun _ => 0)

def quiescent_AdamAttnReferenceIdeal [hAdamAttnReferenceIdeal : Cert.AdamAttnReferenceIdeal.Facts] : Prop :=
  ∀ (m : (ℓ : Loc Cert.AdamAttnReferenceIdeal.nD Cert.AdamAttnReferenceIdeal.τ Cert.AdamAttnReferenceIdeal.sig) → Buf (Elt Ideal) ℓ) (g : Dev Cert.AdamAttnReferenceIdeal.nD → PrngReg), Pre_AdamAttnReferenceIdeal m →
    θ_run (Cert.AdamAttnReferenceIdeal.defs (F := Ideal)) (onTc (τ := Cert.AdamAttnReferenceIdeal.τ) (Cert.AdamAttnReferenceIdeal.main (F := Ideal))) ⟨m, fun _ => 0, g⟩ (fun r => (∀ c : Dev Cert.AdamAttnReferenceIdeal.nD,
      r.2.mem ((c.tc : Thread Cert.AdamAttnReferenceIdeal.nD Cert.AdamAttnReferenceIdeal.τ).loc Cert.AdamAttnReferenceIdeal.main_arg0) = m ((c.tc : Thread Cert.AdamAttnReferenceIdeal.nD Cert.AdamAttnReferenceIdeal.τ).loc Cert.AdamAttnReferenceIdeal.main_arg0)
      ∧ r.2.mem ((c.tc : Thread Cert.AdamAttnReferenceIdeal.nD Cert.AdamAttnReferenceIdeal.τ).loc Cert.AdamAttnReferenceIdeal.main_arg1) = m ((c.tc : Thread Cert.AdamAttnReferenceIdeal.nD Cert.AdamAttnReferenceIdeal.τ).loc Cert.AdamAttnReferenceIdeal.main_arg1)
      ∧ r.2.mem ((c.tc : Thread Cert.AdamAttnReferenceIdeal.nD Cert.AdamAttnReferenceIdeal.τ).loc Cert.AdamAttnReferenceIdeal.main_arg2) = m ((c.tc : Thread Cert.AdamAttnReferenceIdeal.nD Cert.AdamAttnReferenceIdeal.τ).loc Cert.AdamAttnReferenceIdeal.main_arg2)
      ∧ r.2.mem ((c.tc : Thread Cert.AdamAttnReferenceIdeal.nD Cert.AdamAttnReferenceIdeal.τ).loc Cert.AdamAttnReferenceIdeal.main_arg3) = m ((c.tc : Thread Cert.AdamAttnReferenceIdeal.nD Cert.AdamAttnReferenceIdeal.τ).loc Cert.AdamAttnReferenceIdeal.main_arg3))
      ∧ r.2.sem = fun _ => 0)

def quiescent_AdamGmlp [hAdamGmlp : Cert.AdamGmlp.Facts] : Prop :=
  ∀ (m : (ℓ : Loc Cert.AdamGmlp.nD Cert.AdamGmlp.τ Cert.AdamGmlp.sig) → Buf (Elt Bits) ℓ) (g : Dev Cert.AdamGmlp.nD → PrngReg), Pre_AdamGmlp m →
    θ_run (Cert.AdamGmlp.defs (F := Bits)) (onTc (τ := Cert.AdamGmlp.τ) (Cert.AdamGmlp.main (F := Bits))) ⟨m, fun _ => 0, g⟩ (fun r => (∀ c : Dev Cert.AdamGmlp.nD,
      r.2.mem ((c.tc : Thread Cert.AdamGmlp.nD Cert.AdamGmlp.τ).loc Cert.AdamGmlp.main_arg0) = m ((c.tc : Thread Cert.AdamGmlp.nD Cert.AdamGmlp.τ).loc Cert.AdamGmlp.main_arg0)
      ∧ r.2.mem ((c.tc : Thread Cert.AdamGmlp.nD Cert.AdamGmlp.τ).loc Cert.AdamGmlp.main_arg1) = m ((c.tc : Thread Cert.AdamGmlp.nD Cert.AdamGmlp.τ).loc Cert.AdamGmlp.main_arg1)
      ∧ r.2.mem ((c.tc : Thread Cert.AdamGmlp.nD Cert.AdamGmlp.τ).loc Cert.AdamGmlp.main_arg2) = m ((c.tc : Thread Cert.AdamGmlp.nD Cert.AdamGmlp.τ).loc Cert.AdamGmlp.main_arg2)
      ∧ r.2.mem ((c.tc : Thread Cert.AdamGmlp.nD Cert.AdamGmlp.τ).loc Cert.AdamGmlp.main_arg3) = m ((c.tc : Thread Cert.AdamGmlp.nD Cert.AdamGmlp.τ).loc Cert.AdamGmlp.main_arg3))
      ∧ r.2.sem = fun _ => 0)

def quiescent_AdamGmlpIdeal [hAdamGmlpIdeal : Cert.AdamGmlpIdeal.Facts] : Prop :=
  ∀ (m : (ℓ : Loc Cert.AdamGmlpIdeal.nD Cert.AdamGmlpIdeal.τ Cert.AdamGmlpIdeal.sig) → Buf (Elt Ideal) ℓ) (g : Dev Cert.AdamGmlpIdeal.nD → PrngReg), Pre_AdamGmlpIdeal m →
    θ_run (Cert.AdamGmlpIdeal.defs (F := Ideal)) (onTc (τ := Cert.AdamGmlpIdeal.τ) (Cert.AdamGmlpIdeal.main (F := Ideal))) ⟨m, fun _ => 0, g⟩ (fun r => (∀ c : Dev Cert.AdamGmlpIdeal.nD,
      r.2.mem ((c.tc : Thread Cert.AdamGmlpIdeal.nD Cert.AdamGmlpIdeal.τ).loc Cert.AdamGmlpIdeal.main_arg0) = m ((c.tc : Thread Cert.AdamGmlpIdeal.nD Cert.AdamGmlpIdeal.τ).loc Cert.AdamGmlpIdeal.main_arg0)
      ∧ r.2.mem ((c.tc : Thread Cert.AdamGmlpIdeal.nD Cert.AdamGmlpIdeal.τ).loc Cert.AdamGmlpIdeal.main_arg1) = m ((c.tc : Thread Cert.AdamGmlpIdeal.nD Cert.AdamGmlpIdeal.τ).loc Cert.AdamGmlpIdeal.main_arg1)
      ∧ r.2.mem ((c.tc : Thread Cert.AdamGmlpIdeal.nD Cert.AdamGmlpIdeal.τ).loc Cert.AdamGmlpIdeal.main_arg2) = m ((c.tc : Thread Cert.AdamGmlpIdeal.nD Cert.AdamGmlpIdeal.τ).loc Cert.AdamGmlpIdeal.main_arg2)
      ∧ r.2.mem ((c.tc : Thread Cert.AdamGmlpIdeal.nD Cert.AdamGmlpIdeal.τ).loc Cert.AdamGmlpIdeal.main_arg3) = m ((c.tc : Thread Cert.AdamGmlpIdeal.nD Cert.AdamGmlpIdeal.τ).loc Cert.AdamGmlpIdeal.main_arg3))
      ∧ r.2.sem = fun _ => 0)

def quiescent_AdamGmlpReferenceIdeal [hAdamGmlpReferenceIdeal : Cert.AdamGmlpReferenceIdeal.Facts] : Prop :=
  ∀ (m : (ℓ : Loc Cert.AdamGmlpReferenceIdeal.nD Cert.AdamGmlpReferenceIdeal.τ Cert.AdamGmlpReferenceIdeal.sig) → Buf (Elt Ideal) ℓ) (g : Dev Cert.AdamGmlpReferenceIdeal.nD → PrngReg), Pre_AdamGmlpReferenceIdeal m →
    θ_run (Cert.AdamGmlpReferenceIdeal.defs (F := Ideal)) (onTc (τ := Cert.AdamGmlpReferenceIdeal.τ) (Cert.AdamGmlpReferenceIdeal.main (F := Ideal))) ⟨m, fun _ => 0, g⟩ (fun r => (∀ c : Dev Cert.AdamGmlpReferenceIdeal.nD,
      r.2.mem ((c.tc : Thread Cert.AdamGmlpReferenceIdeal.nD Cert.AdamGmlpReferenceIdeal.τ).loc Cert.AdamGmlpReferenceIdeal.main_arg0) = m ((c.tc : Thread Cert.AdamGmlpReferenceIdeal.nD Cert.AdamGmlpReferenceIdeal.τ).loc Cert.AdamGmlpReferenceIdeal.main_arg0)
      ∧ r.2.mem ((c.tc : Thread Cert.AdamGmlpReferenceIdeal.nD Cert.AdamGmlpReferenceIdeal.τ).loc Cert.AdamGmlpReferenceIdeal.main_arg1) = m ((c.tc : Thread Cert.AdamGmlpReferenceIdeal.nD Cert.AdamGmlpReferenceIdeal.τ).loc Cert.AdamGmlpReferenceIdeal.main_arg1)
      ∧ r.2.mem ((c.tc : Thread Cert.AdamGmlpReferenceIdeal.nD Cert.AdamGmlpReferenceIdeal.τ).loc Cert.AdamGmlpReferenceIdeal.main_arg2) = m ((c.tc : Thread Cert.AdamGmlpReferenceIdeal.nD Cert.AdamGmlpReferenceIdeal.τ).loc Cert.AdamGmlpReferenceIdeal.main_arg2)
      ∧ r.2.mem ((c.tc : Thread Cert.AdamGmlpReferenceIdeal.nD Cert.AdamGmlpReferenceIdeal.τ).loc Cert.AdamGmlpReferenceIdeal.main_arg3) = m ((c.tc : Thread Cert.AdamGmlpReferenceIdeal.nD Cert.AdamGmlpReferenceIdeal.τ).loc Cert.AdamGmlpReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ r.2.sem = fun _ => 0)

def quiescent_AdamMlpReferenceIdeal [hAdamMlpReferenceIdeal : Cert.AdamMlpReferenceIdeal.Facts] : Prop :=
  ∀ (m : (ℓ : Loc Cert.AdamMlpReferenceIdeal.nD Cert.AdamMlpReferenceIdeal.τ Cert.AdamMlpReferenceIdeal.sig) → Buf (Elt Ideal) ℓ) (g : Dev Cert.AdamMlpReferenceIdeal.nD → PrngReg), Pre_AdamMlpReferenceIdeal m →
    θ_run (Cert.AdamMlpReferenceIdeal.defs (F := Ideal)) (onTc (τ := Cert.AdamMlpReferenceIdeal.τ) (Cert.AdamMlpReferenceIdeal.main (F := Ideal))) ⟨m, fun _ => 0, g⟩ (fun r => (∀ c : Dev Cert.AdamMlpReferenceIdeal.nD,
      r.2.mem ((c.tc : Thread Cert.AdamMlpReferenceIdeal.nD Cert.AdamMlpReferenceIdeal.τ).loc Cert.AdamMlpReferenceIdeal.main_arg0) = m ((c.tc : Thread Cert.AdamMlpReferenceIdeal.nD Cert.AdamMlpReferenceIdeal.τ).loc Cert.AdamMlpReferenceIdeal.main_arg0)
      ∧ r.2.mem ((c.tc : Thread Cert.AdamMlpReferenceIdeal.nD Cert.AdamMlpReferenceIdeal.τ).loc Cert.AdamMlpReferenceIdeal.main_arg1) = m ((c.tc : Thread Cert.AdamMlpReferenceIdeal.nD Cert.AdamMlpReferenceIdeal.τ).loc Cert.AdamMlpReferenceIdeal.main_arg1)
      ∧ r.2.mem ((c.tc : Thread Cert.AdamMlpReferenceIdeal.nD Cert.AdamMlpReferenceIdeal.τ).loc Cert.AdamMlpReferenceIdeal.main_arg2) = m ((c.tc : Thread Cert.AdamMlpReferenceIdeal.nD Cert.AdamMlpReferenceIdeal.τ).loc Cert.AdamMlpReferenceIdeal.main_arg2)
      ∧ r.2.mem ((c.tc : Thread Cert.AdamMlpReferenceIdeal.nD Cert.AdamMlpReferenceIdeal.τ).loc Cert.AdamMlpReferenceIdeal.main_arg3) = m ((c.tc : Thread Cert.AdamMlpReferenceIdeal.nD Cert.AdamMlpReferenceIdeal.τ).loc Cert.AdamMlpReferenceIdeal.main_arg3))
      ∧ r.2.sem = fun _ => 0)

def preserves_Kernel_KernelIdeal : Prop :=
  IdealRules.named_const.Statement Cert.KernelIdeal.κ "gelu_k" .f32 0x3D372713#32 ((8943 / 200000 : ℝ) : EReal)
  ∧ IdealRules.named_const.Statement Cert.KernelIdeal.κ "gelu_3k" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)) (v2 : (c : Dev Cert.KernelIdeal.nD) → Buf (Elt Ideal) ((c.tc : Thread Cert.KernelIdeal.nD Cert.KernelIdeal.τ).loc Cert.KernelIdeal.main_v94_2)) (v3 : (c : Dev Cert.KernelIdeal.nD) → Buf (Elt Ideal) ((c.tc : Thread Cert.KernelIdeal.nD Cert.KernelIdeal.τ).loc Cert.KernelIdeal.main_v94_3)) (v4 : (c : Dev Cert.KernelIdeal.nD) → Buf (Elt Ideal) ((c.tc : Thread Cert.KernelIdeal.nD Cert.KernelIdeal.τ).loc Cert.KernelIdeal.main_v94_4)) (v5 : (c : Dev Cert.KernelIdeal.nD) → Buf (Elt Ideal) ((c.tc : Thread Cert.KernelIdeal.nD Cert.KernelIdeal.τ).loc Cert.KernelIdeal.main_v94_5)) (v6 : (c : Dev Cert.KernelIdeal.nD) → Buf (Elt Ideal) ((c.tc : Thread Cert.KernelIdeal.nD Cert.KernelIdeal.τ).loc Cert.KernelIdeal.main_v94_6)) (v7 : (c : Dev Cert.KernelIdeal.nD) → Buf (Elt Ideal) ((c.tc : Thread Cert.KernelIdeal.nD Cert.KernelIdeal.τ).loc Cert.KernelIdeal.main_v94_7)) (v8 : (c : Dev Cert.KernelIdeal.nD) → Buf (Elt Ideal) ((c.tc : Thread Cert.KernelIdeal.nD Cert.KernelIdeal.τ).loc Cert.KernelIdeal.main_v94_8)) (v9 : (c : Dev Cert.KernelIdeal.nD) → Buf (Elt Ideal) ((c.tc : Thread Cert.KernelIdeal.nD Cert.KernelIdeal.τ).loc Cert.KernelIdeal.main_v94_9)) (v10 : (c : Dev Cert.KernelIdeal.nD) → Buf (Elt Ideal) ((c.tc : Thread Cert.KernelIdeal.nD Cert.KernelIdeal.τ).loc Cert.KernelIdeal.main_v94_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v94_1) = v1 c
          ∧ r.2.mem ((c.tc : Thread Cert.KernelIdeal.nD Cert.KernelIdeal.τ).loc Cert.KernelIdeal.main_v94_2) = v2 c
          ∧ r.2.mem ((c.tc : Thread Cert.KernelIdeal.nD Cert.KernelIdeal.τ).loc Cert.KernelIdeal.main_v94_3) = v3 c
          ∧ r.2.mem ((c.tc : Thread Cert.KernelIdeal.nD Cert.KernelIdeal.τ).loc Cert.KernelIdeal.main_v94_4) = v4 c
          ∧ r.2.mem ((c.tc : Thread Cert.KernelIdeal.nD Cert.KernelIdeal.τ).loc Cert.KernelIdeal.main_v94_5) = v5 c
          ∧ r.2.mem ((c.tc : Thread Cert.KernelIdeal.nD Cert.KernelIdeal.τ).loc Cert.KernelIdeal.main_v94_6) = v6 c
          ∧ r.2.mem ((c.tc : Thread Cert.KernelIdeal.nD Cert.KernelIdeal.τ).loc Cert.KernelIdeal.main_v94_7) = v7 c
          ∧ r.2.mem ((c.tc : Thread Cert.KernelIdeal.nD Cert.KernelIdeal.τ).loc Cert.KernelIdeal.main_v94_8) = v8 c
          ∧ r.2.mem ((c.tc : Thread Cert.KernelIdeal.nD Cert.KernelIdeal.τ).loc Cert.KernelIdeal.main_v94_9) = v9 c
          ∧ r.2.mem ((c.tc : Thread Cert.KernelIdeal.nD Cert.KernelIdeal.τ).loc Cert.KernelIdeal.main_v94_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v206) = v1 c
          ∧ r.2.mem ((c.tc : Thread Cert.ReferenceIdeal.nD Cert.ReferenceIdeal.τ).loc Cert.ReferenceIdeal.main_v207) = v2 c
          ∧ r.2.mem ((c.tc : Thread Cert.ReferenceIdeal.nD Cert.ReferenceIdeal.τ).loc Cert.ReferenceIdeal.main_v208) = v3 c
          ∧ r.2.mem ((c.tc : Thread Cert.ReferenceIdeal.nD Cert.ReferenceIdeal.τ).loc Cert.ReferenceIdeal.main_v122) = v4 c
          ∧ r.2.mem ((c.tc : Thread Cert.ReferenceIdeal.nD Cert.ReferenceIdeal.τ).loc Cert.ReferenceIdeal.main_v210) = v5 c
          ∧ r.2.mem ((c.tc : Thread Cert.ReferenceIdeal.nD Cert.ReferenceIdeal.τ).loc Cert.ReferenceIdeal.main_v212) = v6 c
          ∧ r.2.mem ((c.tc : Thread Cert.ReferenceIdeal.nD Cert.ReferenceIdeal.τ).loc Cert.ReferenceIdeal.main_v146) = v7 c
          ∧ r.2.mem ((c.tc : Thread Cert.ReferenceIdeal.nD Cert.ReferenceIdeal.τ).loc Cert.ReferenceIdeal.main_v214) = v8 c
          ∧ r.2.mem ((c.tc : Thread Cert.ReferenceIdeal.nD Cert.ReferenceIdeal.τ).loc Cert.ReferenceIdeal.main_v152) = v9 c
          ∧ r.2.mem ((c.tc : Thread Cert.ReferenceIdeal.nD Cert.ReferenceIdeal.τ).loc Cert.ReferenceIdeal.main_v149) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Mlp_MlpIdeal : Prop :=
  True

def algebraic_MlpIdeal_MlpReferenceIdeal_pre_mlp_finite [hMlpIdeal : Cert.MlpIdeal.Facts] [hMlpReferenceIdeal : Cert.MlpReferenceIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_mlp_finite m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v16_0)) (v1 : (c : Dev Cert.MlpIdeal.nD) → Buf (Elt Ideal) ((c.tc : Thread Cert.MlpIdeal.nD Cert.MlpIdeal.τ).loc Cert.MlpIdeal.main_v16_1)) (v2 : (c : Dev Cert.MlpIdeal.nD) → Buf (Elt Ideal) ((c.tc : Thread Cert.MlpIdeal.nD Cert.MlpIdeal.τ).loc Cert.MlpIdeal.main_v16_2)) (v3 : (c : Dev Cert.MlpIdeal.nD) → Buf (Elt Ideal) ((c.tc : Thread Cert.MlpIdeal.nD Cert.MlpIdeal.τ).loc Cert.MlpIdeal.main_v16_3)) (v4 : (c : Dev Cert.MlpIdeal.nD) → Buf (Elt Ideal) ((c.tc : Thread Cert.MlpIdeal.nD Cert.MlpIdeal.τ).loc Cert.MlpIdeal.main_v16_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v16_0) = v0 c
          ∧ r.2.mem ((c.tc : Thread Cert.MlpIdeal.nD Cert.MlpIdeal.τ).loc Cert.MlpIdeal.main_v16_1) = v1 c
          ∧ r.2.mem ((c.tc : Thread Cert.MlpIdeal.nD Cert.MlpIdeal.τ).loc Cert.MlpIdeal.main_v16_2) = v2 c
          ∧ r.2.mem ((c.tc : Thread Cert.MlpIdeal.nD Cert.MlpIdeal.τ).loc Cert.MlpIdeal.main_v16_3) = v3 c
          ∧ r.2.mem ((c.tc : Thread Cert.MlpIdeal.nD Cert.MlpIdeal.τ).loc Cert.MlpIdeal.main_v16_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v87) = v0 c
          ∧ r.2.mem ((c.tc : Thread Cert.MlpReferenceIdeal.nD Cert.MlpReferenceIdeal.τ).loc Cert.MlpReferenceIdeal.main_v52) = v1 c
          ∧ r.2.mem ((c.tc : Thread Cert.MlpReferenceIdeal.nD Cert.MlpReferenceIdeal.τ).loc Cert.MlpReferenceIdeal.main_v88) = v2 c
          ∧ r.2.mem ((c.tc : Thread Cert.MlpReferenceIdeal.nD Cert.MlpReferenceIdeal.τ).loc Cert.MlpReferenceIdeal.main_v35) = v3 c
          ∧ r.2.mem ((c.tc : Thread Cert.MlpReferenceIdeal.nD Cert.MlpReferenceIdeal.τ).loc Cert.MlpReferenceIdeal.main_v70) = v4 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)
      ∧ m' ((c.tc : Thread Cert.GradOutReferenceIdeal.nD Cert.GradOutReferenceIdeal.τ).loc Cert.GradOutReferenceIdeal.main_arg2) = m ((c.tc : Thread Cert.GradOutIdeal.nD Cert.GradOutIdeal.τ).loc Cert.GradOutIdeal.main_arg2)
      ∧ m' ((c.tc : Thread Cert.GradOutReferenceIdeal.nD Cert.GradOutReferenceIdeal.τ).loc Cert.GradOutReferenceIdeal.main_arg3) = m ((c.tc : Thread Cert.GradOutIdeal.nD Cert.GradOutIdeal.τ).loc Cert.GradOutIdeal.main_arg3)
      ∧ m' ((c.tc : Thread Cert.GradOutReferenceIdeal.nD Cert.GradOutReferenceIdeal.τ).loc Cert.GradOutReferenceIdeal.main_arg4) = m ((c.tc : Thread Cert.GradOutIdeal.nD Cert.GradOutIdeal.τ).loc Cert.GradOutIdeal.main_arg4)) →
    ∃ (v0 : (c : Dev Cert.GradOutIdeal.nD) → Buf (Elt Ideal) ((c.tc : Thread Cert.GradOutIdeal.nD Cert.GradOutIdeal.τ).loc Cert.GradOutIdeal.main_v16)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v16) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2)
          ∧ r.2.mem ((c.tc : Thread Cert.GradOutIdeal.nD Cert.GradOutIdeal.τ).loc Cert.GradOutIdeal.main_arg3) = m ((c.tc : Thread Cert.GradOutIdeal.nD Cert.GradOutIdeal.τ).loc Cert.GradOutIdeal.main_arg3)
          ∧ r.2.mem ((c.tc : Thread Cert.GradOutIdeal.nD Cert.GradOutIdeal.τ).loc Cert.GradOutIdeal.main_arg4) = m ((c.tc : Thread Cert.GradOutIdeal.nD Cert.GradOutIdeal.τ).loc Cert.GradOutIdeal.main_arg4))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v20) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1)
          ∧ r.2.mem ((c.tc : Thread Cert.GradOutReferenceIdeal.nD Cert.GradOutReferenceIdeal.τ).loc Cert.GradOutReferenceIdeal.main_arg2) = m' ((c.tc : Thread Cert.GradOutReferenceIdeal.nD Cert.GradOutReferenceIdeal.τ).loc Cert.GradOutReferenceIdeal.main_arg2)
          ∧ r.2.mem ((c.tc : Thread Cert.GradOutReferenceIdeal.nD Cert.GradOutReferenceIdeal.τ).loc Cert.GradOutReferenceIdeal.main_arg3) = m' ((c.tc : Thread Cert.GradOutReferenceIdeal.nD Cert.GradOutReferenceIdeal.τ).loc Cert.GradOutReferenceIdeal.main_arg3)
          ∧ r.2.mem ((c.tc : Thread Cert.GradOutReferenceIdeal.nD Cert.GradOutReferenceIdeal.τ).loc Cert.GradOutReferenceIdeal.main_arg4) = m' ((c.tc : Thread Cert.GradOutReferenceIdeal.nD Cert.GradOutReferenceIdeal.τ).loc Cert.GradOutReferenceIdeal.main_arg4))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)
      ∧ m' ((c.tc : Thread Cert.GradInReferenceIdeal.nD Cert.GradInReferenceIdeal.τ).loc Cert.GradInReferenceIdeal.main_arg2) = m ((c.tc : Thread Cert.GradInIdeal.nD Cert.GradInIdeal.τ).loc Cert.GradInIdeal.main_arg2)
      ∧ m' ((c.tc : Thread Cert.GradInReferenceIdeal.nD Cert.GradInReferenceIdeal.τ).loc Cert.GradInReferenceIdeal.main_arg3) = m ((c.tc : Thread Cert.GradInIdeal.nD Cert.GradInIdeal.τ).loc Cert.GradInIdeal.main_arg3)) →
    ∃ (v0 : (c : Dev Cert.GradInIdeal.nD) → Buf (Elt Ideal) ((c.tc : Thread Cert.GradInIdeal.nD Cert.GradInIdeal.τ).loc Cert.GradInIdeal.main_v13)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v13) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
          ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v18) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1)
          ∧ r.2.mem ((c.tc : Thread Cert.GradInReferenceIdeal.nD Cert.GradInReferenceIdeal.τ).loc Cert.GradInReferenceIdeal.main_arg2) = m' ((c.tc : Thread Cert.GradInReferenceIdeal.nD Cert.GradInReferenceIdeal.τ).loc Cert.GradInReferenceIdeal.main_arg2)
          ∧ r.2.mem ((c.tc : Thread Cert.GradInReferenceIdeal.nD Cert.GradInReferenceIdeal.τ).loc Cert.GradInReferenceIdeal.main_arg3) = m' ((c.tc : Thread Cert.GradInReferenceIdeal.nD Cert.GradInReferenceIdeal.τ).loc Cert.GradInReferenceIdeal.main_arg3))

def preserves_GradRest_GradRestIdeal : Prop :=
  True

def algebraic_GradRestIdeal_GradRestReferenceIdeal [hGradRestIdeal : Cert.GradRestIdeal.Facts] [hGradRestReferenceIdeal : Cert.GradRestReferenceIdeal.Facts] : Prop :=
  ∀ (m : (ℓ : Loc Cert.GradRestIdeal.nD Cert.GradRestIdeal.τ Cert.GradRestIdeal.sig) → Buf (Elt Ideal) ℓ) (g : Dev Cert.GradRestIdeal.nD → PrngReg)
    (m' : (ℓ : Loc Cert.GradRestReferenceIdeal.nD Cert.GradRestReferenceIdeal.τ Cert.GradRestReferenceIdeal.sig) → Buf (Elt Ideal) ℓ) (g' : Dev Cert.GradRestReferenceIdeal.nD → PrngReg), Pre_GradRestIdeal m →
    (∀ c : Dev Cert.GradRestIdeal.nD,
      m' ((c.tc : Thread Cert.GradRestReferenceIdeal.nD Cert.GradRestReferenceIdeal.τ).loc Cert.GradRestReferenceIdeal.main_arg0) = m ((c.tc : Thread Cert.GradRestIdeal.nD Cert.GradRestIdeal.τ).loc Cert.GradRestIdeal.main_arg0)
      ∧ m' ((c.tc : Thread Cert.GradRestReferenceIdeal.nD Cert.GradRestReferenceIdeal.τ).loc Cert.GradRestReferenceIdeal.main_arg1) = m ((c.tc : Thread Cert.GradRestIdeal.nD Cert.GradRestIdeal.τ).loc Cert.GradRestIdeal.main_arg1)
      ∧ m' ((c.tc : Thread Cert.GradRestReferenceIdeal.nD Cert.GradRestReferenceIdeal.τ).loc Cert.GradRestReferenceIdeal.main_arg2) = m ((c.tc : Thread Cert.GradRestIdeal.nD Cert.GradRestIdeal.τ).loc Cert.GradRestIdeal.main_arg2)
      ∧ m' ((c.tc : Thread Cert.GradRestReferenceIdeal.nD Cert.GradRestReferenceIdeal.τ).loc Cert.GradRestReferenceIdeal.main_arg3) = m ((c.tc : Thread Cert.GradRestIdeal.nD Cert.GradRestIdeal.τ).loc Cert.GradRestIdeal.main_arg3)) →
    ∃ (v0 : (c : Dev Cert.GradRestIdeal.nD) → Buf (Elt Ideal) ((c.tc : Thread Cert.GradRestIdeal.nD Cert.GradRestIdeal.τ).loc Cert.GradRestIdeal.main_v13)),
      θ_run (Cert.GradRestIdeal.defs (F := Ideal)) (onTc (τ := Cert.GradRestIdeal.τ) (Cert.GradRestIdeal.main (F := Ideal))) ⟨m, fun _ => 0, g⟩ (fun r => ∀ c : Dev Cert.GradRestIdeal.nD,
          r.2.mem ((c.tc : Thread Cert.GradRestIdeal.nD Cert.GradRestIdeal.τ).loc Cert.GradRestIdeal.main_v13) = v0 c
          ∧ r.2.mem ((c.tc : Thread Cert.GradRestIdeal.nD Cert.GradRestIdeal.τ).loc Cert.GradRestIdeal.main_arg0) = m ((c.tc : Thread Cert.GradRestIdeal.nD Cert.GradRestIdeal.τ).loc Cert.GradRestIdeal.main_arg0)
          ∧ r.2.mem ((c.tc : Thread Cert.GradRestIdeal.nD Cert.GradRestIdeal.τ).loc Cert.GradRestIdeal.main_arg1) = m ((c.tc : Thread Cert.GradRestIdeal.nD Cert.GradRestIdeal.τ).loc Cert.GradRestIdeal.main_arg1)
          ∧ r.2.mem ((c.tc : Thread Cert.GradRestIdeal.nD Cert.GradRestIdeal.τ).loc Cert.GradRestIdeal.main_arg2) = m ((c.tc : Thread Cert.GradRestIdeal.nD Cert.GradRestIdeal.τ).loc Cert.GradRestIdeal.main_arg2)
          ∧ r.2.mem ((c.tc : Thread Cert.GradRestIdeal.nD Cert.GradRestIdeal.τ).loc Cert.GradRestIdeal.main_arg3) = m ((c.tc : Thread Cert.GradRestIdeal.nD Cert.GradRestIdeal.τ).loc Cert.GradRestIdeal.main_arg3))
      ∧ θ_run (Cert.GradRestReferenceIdeal.defs (F := Ideal)) (onTc (τ := Cert.GradRestReferenceIdeal.τ) (Cert.GradRestReferenceIdeal.main (F := Ideal))) ⟨m', fun _ => 0, g'⟩ (fun r => ∀ c : Dev Cert.GradRestReferenceIdeal.nD,
          r.2.mem ((c.tc : Thread Cert.GradRestReferenceIdeal.nD Cert.GradRestReferenceIdeal.τ).loc Cert.GradRestReferenceIdeal.main_v17) = v0 c
          ∧ r.2.mem ((c.tc : Thread Cert.GradRestReferenceIdeal.nD Cert.GradRestReferenceIdeal.τ).loc Cert.GradRestReferenceIdeal.main_arg0) = m' ((c.tc : Thread Cert.GradRestReferenceIdeal.nD Cert.GradRestReferenceIdeal.τ).loc Cert.GradRestReferenceIdeal.main_arg0)
          ∧ r.2.mem ((c.tc : Thread Cert.GradRestReferenceIdeal.nD Cert.GradRestReferenceIdeal.τ).loc Cert.GradRestReferenceIdeal.main_arg1) = m' ((c.tc : Thread Cert.GradRestReferenceIdeal.nD Cert.GradRestReferenceIdeal.τ).loc Cert.GradRestReferenceIdeal.main_arg1)
          ∧ r.2.mem ((c.tc : Thread Cert.GradRestReferenceIdeal.nD Cert.GradRestReferenceIdeal.τ).loc Cert.GradRestReferenceIdeal.main_arg2) = m' ((c.tc : Thread Cert.GradRestReferenceIdeal.nD Cert.GradRestReferenceIdeal.τ).loc Cert.GradRestReferenceIdeal.main_arg2)
          ∧ r.2.mem ((c.tc : Thread Cert.GradRestReferenceIdeal.nD Cert.GradRestReferenceIdeal.τ).loc Cert.GradRestReferenceIdeal.main_arg3) = m' ((c.tc : Thread Cert.GradRestReferenceIdeal.nD Cert.GradRestReferenceIdeal.τ).loc Cert.GradRestReferenceIdeal.main_arg3))

def preserves_GradQkv0_GradQkv0Ideal : Prop :=
  True

def algebraic_GradQkv0Ideal_GradQkvReferenceIdeal [hGradQkv0Ideal : Cert.GradQkv0Ideal.Facts] [hGradQkvReferenceIdeal : Cert.GradQkvReferenceIdeal.Facts] : Prop :=
  ∀ (m : (ℓ : Loc Cert.GradQkv0Ideal.nD Cert.GradQkv0Ideal.τ Cert.GradQkv0Ideal.sig) → Buf (Elt Ideal) ℓ) (g : Dev Cert.GradQkv0Ideal.nD → PrngReg)
    (m' : (ℓ : Loc Cert.GradQkvReferenceIdeal.nD Cert.GradQkvReferenceIdeal.τ Cert.GradQkvReferenceIdeal.sig) → Buf (Elt Ideal) ℓ) (g' : Dev Cert.GradQkvReferenceIdeal.nD → PrngReg), Pre_GradQkv0Ideal m →
    (∀ c : Dev Cert.GradQkv0Ideal.nD,
      m' ((c.tc : Thread Cert.GradQkvReferenceIdeal.nD Cert.GradQkvReferenceIdeal.τ).loc Cert.GradQkvReferenceIdeal.main_arg0) = m ((c.tc : Thread Cert.GradQkv0Ideal.nD Cert.GradQkv0Ideal.τ).loc Cert.GradQkv0Ideal.main_arg0)
      ∧ m' ((c.tc : Thread Cert.GradQkvReferenceIdeal.nD Cert.GradQkvReferenceIdeal.τ).loc Cert.GradQkvReferenceIdeal.main_arg1) = m ((c.tc : Thread Cert.GradQkv0Ideal.nD Cert.GradQkv0Ideal.τ).loc Cert.GradQkv0Ideal.main_arg1)
      ∧ m' ((c.tc : Thread Cert.GradQkvReferenceIdeal.nD Cert.GradQkvReferenceIdeal.τ).loc Cert.GradQkvReferenceIdeal.main_arg2) = m ((c.tc : Thread Cert.GradQkv0Ideal.nD Cert.GradQkv0Ideal.τ).loc Cert.GradQkv0Ideal.main_arg2)
      ∧ m' ((c.tc : Thread Cert.GradQkvReferenceIdeal.nD Cert.GradQkvReferenceIdeal.τ).loc Cert.GradQkvReferenceIdeal.main_arg3) = m ((c.tc : Thread Cert.GradQkv0Ideal.nD Cert.GradQkv0Ideal.τ).loc Cert.GradQkv0Ideal.main_arg3)) →
    ∃ (v0 : (c : Dev Cert.GradQkv0Ideal.nD) → Buf (Elt Ideal) ((c.tc : Thread Cert.GradQkv0Ideal.nD Cert.GradQkv0Ideal.τ).loc Cert.GradQkv0Ideal.main_v13)),
      θ_run (Cert.GradQkv0Ideal.defs (F := Ideal)) (onTc (τ := Cert.GradQkv0Ideal.τ) (Cert.GradQkv0Ideal.main (F := Ideal))) ⟨m, fun _ => 0, g⟩ (fun r => ∀ c : Dev Cert.GradQkv0Ideal.nD,
          r.2.mem ((c.tc : Thread Cert.GradQkv0Ideal.nD Cert.GradQkv0Ideal.τ).loc Cert.GradQkv0Ideal.main_v13) = v0 c
          ∧ r.2.mem ((c.tc : Thread Cert.GradQkv0Ideal.nD Cert.GradQkv0Ideal.τ).loc Cert.GradQkv0Ideal.main_arg0) = m ((c.tc : Thread Cert.GradQkv0Ideal.nD Cert.GradQkv0Ideal.τ).loc Cert.GradQkv0Ideal.main_arg0)
          ∧ r.2.mem ((c.tc : Thread Cert.GradQkv0Ideal.nD Cert.GradQkv0Ideal.τ).loc Cert.GradQkv0Ideal.main_arg1) = m ((c.tc : Thread Cert.GradQkv0Ideal.nD Cert.GradQkv0Ideal.τ).loc Cert.GradQkv0Ideal.main_arg1)
          ∧ r.2.mem ((c.tc : Thread Cert.GradQkv0Ideal.nD Cert.GradQkv0Ideal.τ).loc Cert.GradQkv0Ideal.main_arg2) = m ((c.tc : Thread Cert.GradQkv0Ideal.nD Cert.GradQkv0Ideal.τ).loc Cert.GradQkv0Ideal.main_arg2)
          ∧ r.2.mem ((c.tc : Thread Cert.GradQkv0Ideal.nD Cert.GradQkv0Ideal.τ).loc Cert.GradQkv0Ideal.main_arg3) = m ((c.tc : Thread Cert.GradQkv0Ideal.nD Cert.GradQkv0Ideal.τ).loc Cert.GradQkv0Ideal.main_arg3))
      ∧ θ_run (Cert.GradQkvReferenceIdeal.defs (F := Ideal)) (onTc (τ := Cert.GradQkvReferenceIdeal.τ) (Cert.GradQkvReferenceIdeal.main (F := Ideal))) ⟨m', fun _ => 0, g'⟩ (fun r => ∀ c : Dev Cert.GradQkvReferenceIdeal.nD,
          r.2.mem ((c.tc : Thread Cert.GradQkvReferenceIdeal.nD Cert.GradQkvReferenceIdeal.τ).loc Cert.GradQkvReferenceIdeal.main_v17) = v0 c
          ∧ r.2.mem ((c.tc : Thread Cert.GradQkvReferenceIdeal.nD Cert.GradQkvReferenceIdeal.τ).loc Cert.GradQkvReferenceIdeal.main_arg0) = m' ((c.tc : Thread Cert.GradQkvReferenceIdeal.nD Cert.GradQkvReferenceIdeal.τ).loc Cert.GradQkvReferenceIdeal.main_arg0)
          ∧ r.2.mem ((c.tc : Thread Cert.GradQkvReferenceIdeal.nD Cert.GradQkvReferenceIdeal.τ).loc Cert.GradQkvReferenceIdeal.main_arg1) = m' ((c.tc : Thread Cert.GradQkvReferenceIdeal.nD Cert.GradQkvReferenceIdeal.τ).loc Cert.GradQkvReferenceIdeal.main_arg1)
          ∧ r.2.mem ((c.tc : Thread Cert.GradQkvReferenceIdeal.nD Cert.GradQkvReferenceIdeal.τ).loc Cert.GradQkvReferenceIdeal.main_arg2) = m' ((c.tc : Thread Cert.GradQkvReferenceIdeal.nD Cert.GradQkvReferenceIdeal.τ).loc Cert.GradQkvReferenceIdeal.main_arg2)
          ∧ r.2.mem ((c.tc : Thread Cert.GradQkvReferenceIdeal.nD Cert.GradQkvReferenceIdeal.τ).loc Cert.GradQkvReferenceIdeal.main_arg3) = m' ((c.tc : Thread Cert.GradQkvReferenceIdeal.nD Cert.GradQkvReferenceIdeal.τ).loc Cert.GradQkvReferenceIdeal.main_arg3))

def preserves_GradQkv1_GradQkv1Ideal : Prop :=
  True

def algebraic_GradQkv1Ideal_GradQkvReferenceIdeal [hGradQkv1Ideal : Cert.GradQkv1Ideal.Facts] [hGradQkvReferenceIdeal : Cert.GradQkvReferenceIdeal.Facts] : Prop :=
  ∀ (m : (ℓ : Loc Cert.GradQkv1Ideal.nD Cert.GradQkv1Ideal.τ Cert.GradQkv1Ideal.sig) → Buf (Elt Ideal) ℓ) (g : Dev Cert.GradQkv1Ideal.nD → PrngReg)
    (m' : (ℓ : Loc Cert.GradQkvReferenceIdeal.nD Cert.GradQkvReferenceIdeal.τ Cert.GradQkvReferenceIdeal.sig) → Buf (Elt Ideal) ℓ) (g' : Dev Cert.GradQkvReferenceIdeal.nD → PrngReg), Pre_GradQkv1Ideal m →
    (∀ c : Dev Cert.GradQkv1Ideal.nD,
      m' ((c.tc : Thread Cert.GradQkvReferenceIdeal.nD Cert.GradQkvReferenceIdeal.τ).loc Cert.GradQkvReferenceIdeal.main_arg0) = m ((c.tc : Thread Cert.GradQkv1Ideal.nD Cert.GradQkv1Ideal.τ).loc Cert.GradQkv1Ideal.main_arg0)
      ∧ m' ((c.tc : Thread Cert.GradQkvReferenceIdeal.nD Cert.GradQkvReferenceIdeal.τ).loc Cert.GradQkvReferenceIdeal.main_arg1) = m ((c.tc : Thread Cert.GradQkv1Ideal.nD Cert.GradQkv1Ideal.τ).loc Cert.GradQkv1Ideal.main_arg1)
      ∧ m' ((c.tc : Thread Cert.GradQkvReferenceIdeal.nD Cert.GradQkvReferenceIdeal.τ).loc Cert.GradQkvReferenceIdeal.main_arg2) = m ((c.tc : Thread Cert.GradQkv1Ideal.nD Cert.GradQkv1Ideal.τ).loc Cert.GradQkv1Ideal.main_arg2)
      ∧ m' ((c.tc : Thread Cert.GradQkvReferenceIdeal.nD Cert.GradQkvReferenceIdeal.τ).loc Cert.GradQkvReferenceIdeal.main_arg3) = m ((c.tc : Thread Cert.GradQkv1Ideal.nD Cert.GradQkv1Ideal.τ).loc Cert.GradQkv1Ideal.main_arg3)) →
    ∃ (v0 : (c : Dev Cert.GradQkv1Ideal.nD) → Buf (Elt Ideal) ((c.tc : Thread Cert.GradQkv1Ideal.nD Cert.GradQkv1Ideal.τ).loc Cert.GradQkv1Ideal.main_v15)),
      θ_run (Cert.GradQkv1Ideal.defs (F := Ideal)) (onTc (τ := Cert.GradQkv1Ideal.τ) (Cert.GradQkv1Ideal.main (F := Ideal))) ⟨m, fun _ => 0, g⟩ (fun r => ∀ c : Dev Cert.GradQkv1Ideal.nD,
          r.2.mem ((c.tc : Thread Cert.GradQkv1Ideal.nD Cert.GradQkv1Ideal.τ).loc Cert.GradQkv1Ideal.main_v15) = v0 c
          ∧ r.2.mem ((c.tc : Thread Cert.GradQkv1Ideal.nD Cert.GradQkv1Ideal.τ).loc Cert.GradQkv1Ideal.main_arg0) = m ((c.tc : Thread Cert.GradQkv1Ideal.nD Cert.GradQkv1Ideal.τ).loc Cert.GradQkv1Ideal.main_arg0)
          ∧ r.2.mem ((c.tc : Thread Cert.GradQkv1Ideal.nD Cert.GradQkv1Ideal.τ).loc Cert.GradQkv1Ideal.main_arg1) = m ((c.tc : Thread Cert.GradQkv1Ideal.nD Cert.GradQkv1Ideal.τ).loc Cert.GradQkv1Ideal.main_arg1)
          ∧ r.2.mem ((c.tc : Thread Cert.GradQkv1Ideal.nD Cert.GradQkv1Ideal.τ).loc Cert.GradQkv1Ideal.main_arg2) = m ((c.tc : Thread Cert.GradQkv1Ideal.nD Cert.GradQkv1Ideal.τ).loc Cert.GradQkv1Ideal.main_arg2)
          ∧ r.2.mem ((c.tc : Thread Cert.GradQkv1Ideal.nD Cert.GradQkv1Ideal.τ).loc Cert.GradQkv1Ideal.main_arg3) = m ((c.tc : Thread Cert.GradQkv1Ideal.nD Cert.GradQkv1Ideal.τ).loc Cert.GradQkv1Ideal.main_arg3))
      ∧ θ_run (Cert.GradQkvReferenceIdeal.defs (F := Ideal)) (onTc (τ := Cert.GradQkvReferenceIdeal.τ) (Cert.GradQkvReferenceIdeal.main (F := Ideal))) ⟨m', fun _ => 0, g'⟩ (fun r => ∀ c : Dev Cert.GradQkvReferenceIdeal.nD,
          r.2.mem ((c.tc : Thread Cert.GradQkvReferenceIdeal.nD Cert.GradQkvReferenceIdeal.τ).loc Cert.GradQkvReferenceIdeal.main_v17) = v0 c
          ∧ r.2.mem ((c.tc : Thread Cert.GradQkvReferenceIdeal.nD Cert.GradQkvReferenceIdeal.τ).loc Cert.GradQkvReferenceIdeal.main_arg0) = m' ((c.tc : Thread Cert.GradQkvReferenceIdeal.nD Cert.GradQkvReferenceIdeal.τ).loc Cert.GradQkvReferenceIdeal.main_arg0)
          ∧ r.2.mem ((c.tc : Thread Cert.GradQkvReferenceIdeal.nD Cert.GradQkvReferenceIdeal.τ).loc Cert.GradQkvReferenceIdeal.main_arg1) = m' ((c.tc : Thread Cert.GradQkvReferenceIdeal.nD Cert.GradQkvReferenceIdeal.τ).loc Cert.GradQkvReferenceIdeal.main_arg1)
          ∧ r.2.mem ((c.tc : Thread Cert.GradQkvReferenceIdeal.nD Cert.GradQkvReferenceIdeal.τ).loc Cert.GradQkvReferenceIdeal.main_arg2) = m' ((c.tc : Thread Cert.GradQkvReferenceIdeal.nD Cert.GradQkvReferenceIdeal.τ).loc Cert.GradQkvReferenceIdeal.main_arg2)
          ∧ r.2.mem ((c.tc : Thread Cert.GradQkvReferenceIdeal.nD Cert.GradQkvReferenceIdeal.τ).loc Cert.GradQkvReferenceIdeal.main_arg3) = m' ((c.tc : Thread Cert.GradQkvReferenceIdeal.nD Cert.GradQkvReferenceIdeal.τ).loc Cert.GradQkvReferenceIdeal.main_arg3))

def preserves_GradQkv2_GradQkv2Ideal : Prop :=
  True

def algebraic_GradQkv2Ideal_GradQkvReferenceIdeal [hGradQkv2Ideal : Cert.GradQkv2Ideal.Facts] [hGradQkvReferenceIdeal : Cert.GradQkvReferenceIdeal.Facts] : Prop :=
  ∀ (m : (ℓ : Loc Cert.GradQkv2Ideal.nD Cert.GradQkv2Ideal.τ Cert.GradQkv2Ideal.sig) → Buf (Elt Ideal) ℓ) (g : Dev Cert.GradQkv2Ideal.nD → PrngReg)
    (m' : (ℓ : Loc Cert.GradQkvReferenceIdeal.nD Cert.GradQkvReferenceIdeal.τ Cert.GradQkvReferenceIdeal.sig) → Buf (Elt Ideal) ℓ) (g' : Dev Cert.GradQkvReferenceIdeal.nD → PrngReg), Pre_GradQkv2Ideal m →
    (∀ c : Dev Cert.GradQkv2Ideal.nD,
      m' ((c.tc : Thread Cert.GradQkvReferenceIdeal.nD Cert.GradQkvReferenceIdeal.τ).loc Cert.GradQkvReferenceIdeal.main_arg0) = m ((c.tc : Thread Cert.GradQkv2Ideal.nD Cert.GradQkv2Ideal.τ).loc Cert.GradQkv2Ideal.main_arg0)
      ∧ m' ((c.tc : Thread Cert.GradQkvReferenceIdeal.nD Cert.GradQkvReferenceIdeal.τ).loc Cert.GradQkvReferenceIdeal.main_arg1) = m ((c.tc : Thread Cert.GradQkv2Ideal.nD Cert.GradQkv2Ideal.τ).loc Cert.GradQkv2Ideal.main_arg1)
      ∧ m' ((c.tc : Thread Cert.GradQkvReferenceIdeal.nD Cert.GradQkvReferenceIdeal.τ).loc Cert.GradQkvReferenceIdeal.main_arg2) = m ((c.tc : Thread Cert.GradQkv2Ideal.nD Cert.GradQkv2Ideal.τ).loc Cert.GradQkv2Ideal.main_arg2)
      ∧ m' ((c.tc : Thread Cert.GradQkvReferenceIdeal.nD Cert.GradQkvReferenceIdeal.τ).loc Cert.GradQkvReferenceIdeal.main_arg3) = m ((c.tc : Thread Cert.GradQkv2Ideal.nD Cert.GradQkv2Ideal.τ).loc Cert.GradQkv2Ideal.main_arg3)) →
    ∃ (v0 : (c : Dev Cert.GradQkv2Ideal.nD) → Buf (Elt Ideal) ((c.tc : Thread Cert.GradQkv2Ideal.nD Cert.GradQkv2Ideal.τ).loc Cert.GradQkv2Ideal.main_v15)),
      θ_run (Cert.GradQkv2Ideal.defs (F := Ideal)) (onTc (τ := Cert.GradQkv2Ideal.τ) (Cert.GradQkv2Ideal.main (F := Ideal))) ⟨m, fun _ => 0, g⟩ (fun r => ∀ c : Dev Cert.GradQkv2Ideal.nD,
          r.2.mem ((c.tc : Thread Cert.GradQkv2Ideal.nD Cert.GradQkv2Ideal.τ).loc Cert.GradQkv2Ideal.main_v15) = v0 c
          ∧ r.2.mem ((c.tc : Thread Cert.GradQkv2Ideal.nD Cert.GradQkv2Ideal.τ).loc Cert.GradQkv2Ideal.main_arg0) = m ((c.tc : Thread Cert.GradQkv2Ideal.nD Cert.GradQkv2Ideal.τ).loc Cert.GradQkv2Ideal.main_arg0)
          ∧ r.2.mem ((c.tc : Thread Cert.GradQkv2Ideal.nD Cert.GradQkv2Ideal.τ).loc Cert.GradQkv2Ideal.main_arg1) = m ((c.tc : Thread Cert.GradQkv2Ideal.nD Cert.GradQkv2Ideal.τ).loc Cert.GradQkv2Ideal.main_arg1)
          ∧ r.2.mem ((c.tc : Thread Cert.GradQkv2Ideal.nD Cert.GradQkv2Ideal.τ).loc Cert.GradQkv2Ideal.main_arg2) = m ((c.tc : Thread Cert.GradQkv2Ideal.nD Cert.GradQkv2Ideal.τ).loc Cert.GradQkv2Ideal.main_arg2)
          ∧ r.2.mem ((c.tc : Thread Cert.GradQkv2Ideal.nD Cert.GradQkv2Ideal.τ).loc Cert.GradQkv2Ideal.main_arg3) = m ((c.tc : Thread Cert.GradQkv2Ideal.nD Cert.GradQkv2Ideal.τ).loc Cert.GradQkv2Ideal.main_arg3))
      ∧ θ_run (Cert.GradQkvReferenceIdeal.defs (F := Ideal)) (onTc (τ := Cert.GradQkvReferenceIdeal.τ) (Cert.GradQkvReferenceIdeal.main (F := Ideal))) ⟨m', fun _ => 0, g'⟩ (fun r => ∀ c : Dev Cert.GradQkvReferenceIdeal.nD,
          r.2.mem ((c.tc : Thread Cert.GradQkvReferenceIdeal.nD Cert.GradQkvReferenceIdeal.τ).loc Cert.GradQkvReferenceIdeal.main_v17) = v0 c
          ∧ r.2.mem ((c.tc : Thread Cert.GradQkvReferenceIdeal.nD Cert.GradQkvReferenceIdeal.τ).loc Cert.GradQkvReferenceIdeal.main_arg0) = m' ((c.tc : Thread Cert.GradQkvReferenceIdeal.nD Cert.GradQkvReferenceIdeal.τ).loc Cert.GradQkvReferenceIdeal.main_arg0)
          ∧ r.2.mem ((c.tc : Thread Cert.GradQkvReferenceIdeal.nD Cert.GradQkvReferenceIdeal.τ).loc Cert.GradQkvReferenceIdeal.main_arg1) = m' ((c.tc : Thread Cert.GradQkvReferenceIdeal.nD Cert.GradQkvReferenceIdeal.τ).loc Cert.GradQkvReferenceIdeal.main_arg1)
          ∧ r.2.mem ((c.tc : Thread Cert.GradQkvReferenceIdeal.nD Cert.GradQkvReferenceIdeal.τ).loc Cert.GradQkvReferenceIdeal.main_arg2) = m' ((c.tc : Thread Cert.GradQkvReferenceIdeal.nD Cert.GradQkvReferenceIdeal.τ).loc Cert.GradQkvReferenceIdeal.main_arg2)
          ∧ r.2.mem ((c.tc : Thread Cert.GradQkvReferenceIdeal.nD Cert.GradQkvReferenceIdeal.τ).loc Cert.GradQkvReferenceIdeal.main_arg3) = m' ((c.tc : Thread Cert.GradQkvReferenceIdeal.nD Cert.GradQkvReferenceIdeal.τ).loc Cert.GradQkvReferenceIdeal.main_arg3))

def preserves_AdamGain_AdamGainIdeal : Prop :=
  True

def algebraic_AdamGainIdeal_AdamGainReferenceIdeal [hAdamGainIdeal : Cert.AdamGainIdeal.Facts] [hAdamGainReferenceIdeal : Cert.AdamGainReferenceIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainReferenceIdeal.nD Cert.AdamGainReferenceIdeal.τ Cert.AdamGainReferenceIdeal.sig) → Buf (Elt Ideal) ℓ) (g' : Dev Cert.AdamGainReferenceIdeal.nD → PrngReg), Pre_AdamGainIdeal m →
    (∀ c : Dev Cert.AdamGainIdeal.nD,
      m' ((c.tc : Thread Cert.AdamGainReferenceIdeal.nD Cert.AdamGainReferenceIdeal.τ).loc Cert.AdamGainReferenceIdeal.main_arg0) = m ((c.tc : Thread Cert.AdamGainIdeal.nD Cert.AdamGainIdeal.τ).loc Cert.AdamGainIdeal.main_arg0)
      ∧ m' ((c.tc : Thread Cert.AdamGainReferenceIdeal.nD Cert.AdamGainReferenceIdeal.τ).loc Cert.AdamGainReferenceIdeal.main_arg1) = m ((c.tc : Thread Cert.AdamGainIdeal.nD Cert.AdamGainIdeal.τ).loc Cert.AdamGainIdeal.main_arg1)
      ∧ m' ((c.tc : Thread Cert.AdamGainReferenceIdeal.nD Cert.AdamGainReferenceIdeal.τ).loc Cert.AdamGainReferenceIdeal.main_arg2) = m ((c.tc : Thread Cert.AdamGainIdeal.nD Cert.AdamGainIdeal.τ).loc Cert.AdamGainIdeal.main_arg2)
      ∧ m' ((c.tc : Thread Cert.AdamGainReferenceIdeal.nD Cert.AdamGainReferenceIdeal.τ).loc Cert.AdamGainReferenceIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)) (v3 : (c : Dev Cert.AdamGainIdeal.nD) → Buf (Elt Ideal) ((c.tc : Thread Cert.AdamGainIdeal.nD Cert.AdamGainIdeal.τ).loc Cert.AdamGainIdeal.main_v0_3)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_v0_3) = v3 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainReferenceIdeal.defs (F := Ideal)) (onTc (τ := Cert.AdamGainReferenceIdeal.τ) (Cert.AdamGainReferenceIdeal.main (F := Ideal))) ⟨m', fun _ => 0, g'⟩ (fun r => ∀ c : Dev Cert.AdamGainReferenceIdeal.nD,
          r.2.mem ((c.tc : Thread Cert.AdamGainReferenceIdeal.nD Cert.AdamGainReferenceIdeal.τ).loc Cert.AdamGainReferenceIdeal.main_arg1) = v0 c
          ∧ r.2.mem ((c.tc : Thread Cert.AdamGainReferenceIdeal.nD Cert.AdamGainReferenceIdeal.τ).loc Cert.AdamGainReferenceIdeal.main_v23) = v1 c
          ∧ r.2.mem ((c.tc : Thread Cert.AdamGainReferenceIdeal.nD Cert.AdamGainReferenceIdeal.τ).loc Cert.AdamGainReferenceIdeal.main_v4) = v2 c
          ∧ r.2.mem ((c.tc : Thread Cert.AdamGainReferenceIdeal.nD Cert.AdamGainReferenceIdeal.τ).loc Cert.AdamGainReferenceIdeal.main_v10) = v3 c
          ∧ r.2.mem ((c.tc : Thread Cert.AdamGainReferenceIdeal.nD Cert.AdamGainReferenceIdeal.τ).loc Cert.AdamGainReferenceIdeal.main_arg0) = m' ((c.tc : Thread Cert.AdamGainReferenceIdeal.nD Cert.AdamGainReferenceIdeal.τ).loc Cert.AdamGainReferenceIdeal.main_arg0)
          ∧ r.2.mem ((c.tc : Thread Cert.AdamGainReferenceIdeal.nD Cert.AdamGainReferenceIdeal.τ).loc Cert.AdamGainReferenceIdeal.main_arg1) = m' ((c.tc : Thread Cert.AdamGainReferenceIdeal.nD Cert.AdamGainReferenceIdeal.τ).loc Cert.AdamGainReferenceIdeal.main_arg1)
          ∧ r.2.mem ((c.tc : Thread Cert.AdamGainReferenceIdeal.nD Cert.AdamGainReferenceIdeal.τ).loc Cert.AdamGainReferenceIdeal.main_arg2) = m' ((c.tc : Thread Cert.AdamGainReferenceIdeal.nD Cert.AdamGainReferenceIdeal.τ).loc Cert.AdamGainReferenceIdeal.main_arg2)
          ∧ r.2.mem ((c.tc : Thread Cert.AdamGainReferenceIdeal.nD Cert.AdamGainReferenceIdeal.τ).loc Cert.AdamGainReferenceIdeal.main_arg3) = m' ((c.tc : Thread Cert.AdamGainReferenceIdeal.nD Cert.AdamGainReferenceIdeal.τ).loc Cert.AdamGainReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v8_0)) (v1 : (c : Dev Cert.AdamInIdeal.nD) → Buf (Elt Ideal) ((c.tc : Thread Cert.AdamInIdeal.nD Cert.AdamInIdeal.τ).loc Cert.AdamInIdeal.main_v8_1)) (v2 : (c : Dev Cert.AdamInIdeal.nD) → Buf (Elt Ideal) ((c.tc : Thread Cert.AdamInIdeal.nD Cert.AdamInIdeal.τ).loc Cert.AdamInIdeal.main_v8_2)) (v3 : (c : Dev Cert.AdamInIdeal.nD) → Buf (Elt Ideal) ((c.tc : Thread Cert.AdamInIdeal.nD Cert.AdamInIdeal.τ).loc Cert.AdamInIdeal.main_v8_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v8_0) = v0 c
          ∧ r.2.mem ((c.tc : Thread Cert.AdamInIdeal.nD Cert.AdamInIdeal.τ).loc Cert.AdamInIdeal.main_v8_1) = v1 c
          ∧ r.2.mem ((c.tc : Thread Cert.AdamInIdeal.nD Cert.AdamInIdeal.τ).loc Cert.AdamInIdeal.main_v8_2) = v2 c
          ∧ r.2.mem ((c.tc : Thread Cert.AdamInIdeal.nD Cert.AdamInIdeal.τ).loc Cert.AdamInIdeal.main_v8_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v25) = v0 c
          ∧ r.2.mem ((c.tc : Thread Cert.AdamInReferenceIdeal.nD Cert.AdamInReferenceIdeal.τ).loc Cert.AdamInReferenceIdeal.main_v27) = v1 c
          ∧ r.2.mem ((c.tc : Thread Cert.AdamInReferenceIdeal.nD Cert.AdamInReferenceIdeal.τ).loc Cert.AdamInReferenceIdeal.main_v29) = v2 c
          ∧ r.2.mem ((c.tc : Thread Cert.AdamInReferenceIdeal.nD Cert.AdamInReferenceIdeal.τ).loc Cert.AdamInReferenceIdeal.main_v31) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamSpatial_AdamSpatialIdeal : Prop :=
  True

def algebraic_AdamSpatialIdeal_AdamSpatialReferenceIdeal [hAdamSpatialIdeal : Cert.AdamSpatialIdeal.Facts] [hAdamSpatialReferenceIdeal : Cert.AdamSpatialReferenceIdeal.Facts] : Prop :=
  ∀ (m : (ℓ : Loc Cert.AdamSpatialIdeal.nD Cert.AdamSpatialIdeal.τ Cert.AdamSpatialIdeal.sig) → Buf (Elt Ideal) ℓ) (g : Dev Cert.AdamSpatialIdeal.nD → PrngReg)
    (m' : (ℓ : Loc Cert.AdamSpatialReferenceIdeal.nD Cert.AdamSpatialReferenceIdeal.τ Cert.AdamSpatialReferenceIdeal.sig) → Buf (Elt Ideal) ℓ) (g' : Dev Cert.AdamSpatialReferenceIdeal.nD → PrngReg), Pre_AdamSpatialIdeal m →
    (∀ c : Dev Cert.AdamSpatialIdeal.nD,
      m' ((c.tc : Thread Cert.AdamSpatialReferenceIdeal.nD Cert.AdamSpatialReferenceIdeal.τ).loc Cert.AdamSpatialReferenceIdeal.main_arg0) = m ((c.tc : Thread Cert.AdamSpatialIdeal.nD Cert.AdamSpatialIdeal.τ).loc Cert.AdamSpatialIdeal.main_arg0)
      ∧ m' ((c.tc : Thread Cert.AdamSpatialReferenceIdeal.nD Cert.AdamSpatialReferenceIdeal.τ).loc Cert.AdamSpatialReferenceIdeal.main_arg1) = m ((c.tc : Thread Cert.AdamSpatialIdeal.nD Cert.AdamSpatialIdeal.τ).loc Cert.AdamSpatialIdeal.main_arg1)
      ∧ m' ((c.tc : Thread Cert.AdamSpatialReferenceIdeal.nD Cert.AdamSpatialReferenceIdeal.τ).loc Cert.AdamSpatialReferenceIdeal.main_arg2) = m ((c.tc : Thread Cert.AdamSpatialIdeal.nD Cert.AdamSpatialIdeal.τ).loc Cert.AdamSpatialIdeal.main_arg2)
      ∧ m' ((c.tc : Thread Cert.AdamSpatialReferenceIdeal.nD Cert.AdamSpatialReferenceIdeal.τ).loc Cert.AdamSpatialReferenceIdeal.main_arg3) = m ((c.tc : Thread Cert.AdamSpatialIdeal.nD Cert.AdamSpatialIdeal.τ).loc Cert.AdamSpatialIdeal.main_arg3)) →
    ∃ (v0 : (c : Dev Cert.AdamSpatialIdeal.nD) → Buf (Elt Ideal) ((c.tc : Thread Cert.AdamSpatialIdeal.nD Cert.AdamSpatialIdeal.τ).loc Cert.AdamSpatialIdeal.main_v4_0)) (v1 : (c : Dev Cert.AdamSpatialIdeal.nD) → Buf (Elt Ideal) ((c.tc : Thread Cert.AdamSpatialIdeal.nD Cert.AdamSpatialIdeal.τ).loc Cert.AdamSpatialIdeal.main_v4_1)) (v2 : (c : Dev Cert.AdamSpatialIdeal.nD) → Buf (Elt Ideal) ((c.tc : Thread Cert.AdamSpatialIdeal.nD Cert.AdamSpatialIdeal.τ).loc Cert.AdamSpatialIdeal.main_v4_2)) (v3 : (c : Dev Cert.AdamSpatialIdeal.nD) → Buf (Elt Ideal) ((c.tc : Thread Cert.AdamSpatialIdeal.nD Cert.AdamSpatialIdeal.τ).loc Cert.AdamSpatialIdeal.main_v4_3)),
      θ_run (Cert.AdamSpatialIdeal.defs (F := Ideal)) (onTc (τ := Cert.AdamSpatialIdeal.τ) (Cert.AdamSpatialIdeal.main (F := Ideal))) ⟨m, fun _ => 0, g⟩ (fun r => ∀ c : Dev Cert.AdamSpatialIdeal.nD,
          r.2.mem ((c.tc : Thread Cert.AdamSpatialIdeal.nD Cert.AdamSpatialIdeal.τ).loc Cert.AdamSpatialIdeal.main_v4_0) = v0 c
          ∧ r.2.mem ((c.tc : Thread Cert.AdamSpatialIdeal.nD Cert.AdamSpatialIdeal.τ).loc Cert.AdamSpatialIdeal.main_v4_1) = v1 c
          ∧ r.2.mem ((c.tc : Thread Cert.AdamSpatialIdeal.nD Cert.AdamSpatialIdeal.τ).loc Cert.AdamSpatialIdeal.main_v4_2) = v2 c
          ∧ r.2.mem ((c.tc : Thread Cert.AdamSpatialIdeal.nD Cert.AdamSpatialIdeal.τ).loc Cert.AdamSpatialIdeal.main_v4_3) = v3 c
          ∧ r.2.mem ((c.tc : Thread Cert.AdamSpatialIdeal.nD Cert.AdamSpatialIdeal.τ).loc Cert.AdamSpatialIdeal.main_arg0) = m ((c.tc : Thread Cert.AdamSpatialIdeal.nD Cert.AdamSpatialIdeal.τ).loc Cert.AdamSpatialIdeal.main_arg0)
          ∧ r.2.mem ((c.tc : Thread Cert.AdamSpatialIdeal.nD Cert.AdamSpatialIdeal.τ).loc Cert.AdamSpatialIdeal.main_arg1) = m ((c.tc : Thread Cert.AdamSpatialIdeal.nD Cert.AdamSpatialIdeal.τ).loc Cert.AdamSpatialIdeal.main_arg1)
          ∧ r.2.mem ((c.tc : Thread Cert.AdamSpatialIdeal.nD Cert.AdamSpatialIdeal.τ).loc Cert.AdamSpatialIdeal.main_arg2) = m ((c.tc : Thread Cert.AdamSpatialIdeal.nD Cert.AdamSpatialIdeal.τ).loc Cert.AdamSpatialIdeal.main_arg2)
          ∧ r.2.mem ((c.tc : Thread Cert.AdamSpatialIdeal.nD Cert.AdamSpatialIdeal.τ).loc Cert.AdamSpatialIdeal.main_arg3) = m ((c.tc : Thread Cert.AdamSpatialIdeal.nD Cert.AdamSpatialIdeal.τ).loc Cert.AdamSpatialIdeal.main_arg3))
      ∧ θ_run (Cert.AdamSpatialReferenceIdeal.defs (F := Ideal)) (onTc (τ := Cert.AdamSpatialReferenceIdeal.τ) (Cert.AdamSpatialReferenceIdeal.main (F := Ideal))) ⟨m', fun _ => 0, g'⟩ (fun r => ∀ c : Dev Cert.AdamSpatialReferenceIdeal.nD,
          r.2.mem ((c.tc : Thread Cert.AdamSpatialReferenceIdeal.nD Cert.AdamSpatialReferenceIdeal.τ).loc Cert.AdamSpatialReferenceIdeal.main_v24) = v0 c
          ∧ r.2.mem ((c.tc : Thread Cert.AdamSpatialReferenceIdeal.nD Cert.AdamSpatialReferenceIdeal.τ).loc Cert.AdamSpatialReferenceIdeal.main_v25) = v1 c
          ∧ r.2.mem ((c.tc : Thread Cert.AdamSpatialReferenceIdeal.nD Cert.AdamSpatialReferenceIdeal.τ).loc Cert.AdamSpatialReferenceIdeal.main_v26) = v2 c
          ∧ r.2.mem ((c.tc : Thread Cert.AdamSpatialReferenceIdeal.nD Cert.AdamSpatialReferenceIdeal.τ).loc Cert.AdamSpatialReferenceIdeal.main_v27) = v3 c
          ∧ r.2.mem ((c.tc : Thread Cert.AdamSpatialReferenceIdeal.nD Cert.AdamSpatialReferenceIdeal.τ).loc Cert.AdamSpatialReferenceIdeal.main_arg0) = m' ((c.tc : Thread Cert.AdamSpatialReferenceIdeal.nD Cert.AdamSpatialReferenceIdeal.τ).loc Cert.AdamSpatialReferenceIdeal.main_arg0)
          ∧ r.2.mem ((c.tc : Thread Cert.AdamSpatialReferenceIdeal.nD Cert.AdamSpatialReferenceIdeal.τ).loc Cert.AdamSpatialReferenceIdeal.main_arg1) = m' ((c.tc : Thread Cert.AdamSpatialReferenceIdeal.nD Cert.AdamSpatialReferenceIdeal.τ).loc Cert.AdamSpatialReferenceIdeal.main_arg1)
          ∧ r.2.mem ((c.tc : Thread Cert.AdamSpatialReferenceIdeal.nD Cert.AdamSpatialReferenceIdeal.τ).loc Cert.AdamSpatialReferenceIdeal.main_arg2) = m' ((c.tc : Thread Cert.AdamSpatialReferenceIdeal.nD Cert.AdamSpatialReferenceIdeal.τ).loc Cert.AdamSpatialReferenceIdeal.main_arg2)
          ∧ r.2.mem ((c.tc : Thread Cert.AdamSpatialReferenceIdeal.nD Cert.AdamSpatialReferenceIdeal.τ).loc Cert.AdamSpatialReferenceIdeal.main_arg3) = m' ((c.tc : Thread Cert.AdamSpatialReferenceIdeal.nD Cert.AdamSpatialReferenceIdeal.τ).loc Cert.AdamSpatialReferenceIdeal.main_arg3))

def preserves_AdamBias_AdamBiasIdeal : Prop :=
  True

def algebraic_AdamBiasIdeal_AdamBiasReferenceIdeal [hAdamBiasIdeal : Cert.AdamBiasIdeal.Facts] [hAdamBiasReferenceIdeal : Cert.AdamBiasReferenceIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasReferenceIdeal.nD Cert.AdamBiasReferenceIdeal.τ Cert.AdamBiasReferenceIdeal.sig) → Buf (Elt Ideal) ℓ) (g' : Dev Cert.AdamBiasReferenceIdeal.nD → PrngReg), Pre_AdamBiasIdeal m →
    (∀ c : Dev Cert.AdamBiasIdeal.nD,
      m' ((c.tc : Thread Cert.AdamBiasReferenceIdeal.nD Cert.AdamBiasReferenceIdeal.τ).loc Cert.AdamBiasReferenceIdeal.main_arg0) = m ((c.tc : Thread Cert.AdamBiasIdeal.nD Cert.AdamBiasIdeal.τ).loc Cert.AdamBiasIdeal.main_arg0)
      ∧ m' ((c.tc : Thread Cert.AdamBiasReferenceIdeal.nD Cert.AdamBiasReferenceIdeal.τ).loc Cert.AdamBiasReferenceIdeal.main_arg1) = m ((c.tc : Thread Cert.AdamBiasIdeal.nD Cert.AdamBiasIdeal.τ).loc Cert.AdamBiasIdeal.main_arg1)
      ∧ m' ((c.tc : Thread Cert.AdamBiasReferenceIdeal.nD Cert.AdamBiasReferenceIdeal.τ).loc Cert.AdamBiasReferenceIdeal.main_arg2) = m ((c.tc : Thread Cert.AdamBiasIdeal.nD Cert.AdamBiasIdeal.τ).loc Cert.AdamBiasIdeal.main_arg2)
      ∧ m' ((c.tc : Thread Cert.AdamBiasReferenceIdeal.nD Cert.AdamBiasReferenceIdeal.τ).loc Cert.AdamBiasReferenceIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v4_0)) (v1 : (c : Dev Cert.AdamBiasIdeal.nD) → Buf (Elt Ideal) ((c.tc : Thread Cert.AdamBiasIdeal.nD Cert.AdamBiasIdeal.τ).loc Cert.AdamBiasIdeal.main_v4_1)) (v2 : (c : Dev Cert.AdamBiasIdeal.nD) → Buf (Elt Ideal) ((c.tc : Thread Cert.AdamBiasIdeal.nD Cert.AdamBiasIdeal.τ).loc Cert.AdamBiasIdeal.main_v4_2)) (v3 : (c : Dev Cert.AdamBiasIdeal.nD) → Buf (Elt Ideal) ((c.tc : Thread Cert.AdamBiasIdeal.nD Cert.AdamBiasIdeal.τ).loc Cert.AdamBiasIdeal.main_v4_3)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v4_0) = v0 c
          ∧ r.2.mem ((c.tc : Thread Cert.AdamBiasIdeal.nD Cert.AdamBiasIdeal.τ).loc Cert.AdamBiasIdeal.main_v4_1) = v1 c
          ∧ r.2.mem ((c.tc : Thread Cert.AdamBiasIdeal.nD Cert.AdamBiasIdeal.τ).loc Cert.AdamBiasIdeal.main_v4_2) = v2 c
          ∧ r.2.mem ((c.tc : Thread Cert.AdamBiasIdeal.nD Cert.AdamBiasIdeal.τ).loc Cert.AdamBiasIdeal.main_v4_3) = v3 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasReferenceIdeal.defs (F := Ideal)) (onTc (τ := Cert.AdamBiasReferenceIdeal.τ) (Cert.AdamBiasReferenceIdeal.main (F := Ideal))) ⟨m', fun _ => 0, g'⟩ (fun r => ∀ c : Dev Cert.AdamBiasReferenceIdeal.nD,
          r.2.mem ((c.tc : Thread Cert.AdamBiasReferenceIdeal.nD Cert.AdamBiasReferenceIdeal.τ).loc Cert.AdamBiasReferenceIdeal.main_v24) = v0 c
          ∧ r.2.mem ((c.tc : Thread Cert.AdamBiasReferenceIdeal.nD Cert.AdamBiasReferenceIdeal.τ).loc Cert.AdamBiasReferenceIdeal.main_v25) = v1 c
          ∧ r.2.mem ((c.tc : Thread Cert.AdamBiasReferenceIdeal.nD Cert.AdamBiasReferenceIdeal.τ).loc Cert.AdamBiasReferenceIdeal.main_v26) = v2 c
          ∧ r.2.mem ((c.tc : Thread Cert.AdamBiasReferenceIdeal.nD Cert.AdamBiasReferenceIdeal.τ).loc Cert.AdamBiasReferenceIdeal.main_v27) = v3 c
          ∧ r.2.mem ((c.tc : Thread Cert.AdamBiasReferenceIdeal.nD Cert.AdamBiasReferenceIdeal.τ).loc Cert.AdamBiasReferenceIdeal.main_arg0) = m' ((c.tc : Thread Cert.AdamBiasReferenceIdeal.nD Cert.AdamBiasReferenceIdeal.τ).loc Cert.AdamBiasReferenceIdeal.main_arg0)
          ∧ r.2.mem ((c.tc : Thread Cert.AdamBiasReferenceIdeal.nD Cert.AdamBiasReferenceIdeal.τ).loc Cert.AdamBiasReferenceIdeal.main_arg1) = m' ((c.tc : Thread Cert.AdamBiasReferenceIdeal.nD Cert.AdamBiasReferenceIdeal.τ).loc Cert.AdamBiasReferenceIdeal.main_arg1)
          ∧ r.2.mem ((c.tc : Thread Cert.AdamBiasReferenceIdeal.nD Cert.AdamBiasReferenceIdeal.τ).loc Cert.AdamBiasReferenceIdeal.main_arg2) = m' ((c.tc : Thread Cert.AdamBiasReferenceIdeal.nD Cert.AdamBiasReferenceIdeal.τ).loc Cert.AdamBiasReferenceIdeal.main_arg2)
          ∧ r.2.mem ((c.tc : Thread Cert.AdamBiasReferenceIdeal.nD Cert.AdamBiasReferenceIdeal.τ).loc Cert.AdamBiasReferenceIdeal.main_arg3) = m' ((c.tc : Thread Cert.AdamBiasReferenceIdeal.nD Cert.AdamBiasReferenceIdeal.τ).loc Cert.AdamBiasReferenceIdeal.main_arg3))

def preserves_AdamLn_AdamLnIdeal : Prop :=
  True

def algebraic_AdamLnIdeal_AdamLnReferenceIdeal [hAdamLnIdeal : Cert.AdamLnIdeal.Facts] [hAdamLnReferenceIdeal : Cert.AdamLnReferenceIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg)
    (m' : (ℓ : Loc Cert.AdamLnReferenceIdeal.nD Cert.AdamLnReferenceIdeal.τ Cert.AdamLnReferenceIdeal.sig) → Buf (Elt Ideal) ℓ) (g' : Dev Cert.AdamLnReferenceIdeal.nD → PrngReg), Pre_AdamLnIdeal m →
    (∀ c : Dev Cert.AdamLnIdeal.nD,
      m' ((c.tc : Thread Cert.AdamLnReferenceIdeal.nD Cert.AdamLnReferenceIdeal.τ).loc Cert.AdamLnReferenceIdeal.main_arg0) = m ((c.tc : Thread Cert.AdamLnIdeal.nD Cert.AdamLnIdeal.τ).loc Cert.AdamLnIdeal.main_arg0)
      ∧ m' ((c.tc : Thread Cert.AdamLnReferenceIdeal.nD Cert.AdamLnReferenceIdeal.τ).loc Cert.AdamLnReferenceIdeal.main_arg1) = m ((c.tc : Thread Cert.AdamLnIdeal.nD Cert.AdamLnIdeal.τ).loc Cert.AdamLnIdeal.main_arg1)
      ∧ m' ((c.tc : Thread Cert.AdamLnReferenceIdeal.nD Cert.AdamLnReferenceIdeal.τ).loc Cert.AdamLnReferenceIdeal.main_arg2) = m ((c.tc : Thread Cert.AdamLnIdeal.nD Cert.AdamLnIdeal.τ).loc Cert.AdamLnIdeal.main_arg2)
      ∧ m' ((c.tc : Thread Cert.AdamLnReferenceIdeal.nD Cert.AdamLnReferenceIdeal.τ).loc Cert.AdamLnReferenceIdeal.main_arg3) = m ((c.tc : Thread Cert.AdamLnIdeal.nD Cert.AdamLnIdeal.τ).loc Cert.AdamLnIdeal.main_arg3)) →
    ∃ (v0 : (c : Dev Cert.AdamLnIdeal.nD) → Buf (Elt Ideal) ((c.tc : Thread Cert.AdamLnIdeal.nD Cert.AdamLnIdeal.τ).loc Cert.AdamLnIdeal.main_v0_0)) (v1 : (c : Dev Cert.AdamLnIdeal.nD) → Buf (Elt Ideal) ((c.tc : Thread Cert.AdamLnIdeal.nD Cert.AdamLnIdeal.τ).loc Cert.AdamLnIdeal.main_v0_1)) (v2 : (c : Dev Cert.AdamLnIdeal.nD) → Buf (Elt Ideal) ((c.tc : Thread Cert.AdamLnIdeal.nD Cert.AdamLnIdeal.τ).loc Cert.AdamLnIdeal.main_v0_2)) (v3 : (c : Dev Cert.AdamLnIdeal.nD) → Buf (Elt Ideal) ((c.tc : Thread Cert.AdamLnIdeal.nD Cert.AdamLnIdeal.τ).loc Cert.AdamLnIdeal.main_v0_3)),
      θ_run (Cert.AdamLnIdeal.defs (F := Ideal)) (onTc (τ := Cert.AdamLnIdeal.τ) (Cert.AdamLnIdeal.main (F := Ideal))) ⟨m, fun _ => 0, g⟩ (fun r => ∀ c : Dev Cert.AdamLnIdeal.nD,
          r.2.mem ((c.tc : Thread Cert.AdamLnIdeal.nD Cert.AdamLnIdeal.τ).loc Cert.AdamLnIdeal.main_v0_0) = v0 c
          ∧ r.2.mem ((c.tc : Thread Cert.AdamLnIdeal.nD Cert.AdamLnIdeal.τ).loc Cert.AdamLnIdeal.main_v0_1) = v1 c
          ∧ r.2.mem ((c.tc : Thread Cert.AdamLnIdeal.nD Cert.AdamLnIdeal.τ).loc Cert.AdamLnIdeal.main_v0_2) = v2 c
          ∧ r.2.mem ((c.tc : Thread Cert.AdamLnIdeal.nD Cert.AdamLnIdeal.τ).loc Cert.AdamLnIdeal.main_v0_3) = v3 c
          ∧ r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
          ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
          ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
          ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ θ_run (Cert.AdamLnReferenceIdeal.defs (F := Ideal)) (onTc (τ := Cert.AdamLnReferenceIdeal.τ) (Cert.AdamLnReferenceIdeal.main (F := Ideal))) ⟨m', fun _ => 0, g'⟩ (fun r => ∀ c : Dev Cert.AdamLnReferenceIdeal.nD,
          r.2.mem ((c.tc : Thread Cert.AdamLnReferenceIdeal.nD Cert.AdamLnReferenceIdeal.τ).loc Cert.AdamLnReferenceIdeal.main_arg1) = v0 c
          ∧ r.2.mem ((c.tc : Thread Cert.AdamLnReferenceIdeal.nD Cert.AdamLnReferenceIdeal.τ).loc Cert.AdamLnReferenceIdeal.main_v23) = v1 c
          ∧ r.2.mem ((c.tc : Thread Cert.AdamLnReferenceIdeal.nD Cert.AdamLnReferenceIdeal.τ).loc Cert.AdamLnReferenceIdeal.main_v4) = v2 c
          ∧ r.2.mem ((c.tc : Thread Cert.AdamLnReferenceIdeal.nD Cert.AdamLnReferenceIdeal.τ).loc Cert.AdamLnReferenceIdeal.main_v10) = v3 c
          ∧ r.2.mem ((c.tc : Thread Cert.AdamLnReferenceIdeal.nD Cert.AdamLnReferenceIdeal.τ).loc Cert.AdamLnReferenceIdeal.main_arg0) = m' ((c.tc : Thread Cert.AdamLnReferenceIdeal.nD Cert.AdamLnReferenceIdeal.τ).loc Cert.AdamLnReferenceIdeal.main_arg0)
          ∧ r.2.mem ((c.tc : Thread Cert.AdamLnReferenceIdeal.nD Cert.AdamLnReferenceIdeal.τ).loc Cert.AdamLnReferenceIdeal.main_arg1) = m' ((c.tc : Thread Cert.AdamLnReferenceIdeal.nD Cert.AdamLnReferenceIdeal.τ).loc Cert.AdamLnReferenceIdeal.main_arg1)
          ∧ r.2.mem ((c.tc : Thread Cert.AdamLnReferenceIdeal.nD Cert.AdamLnReferenceIdeal.τ).loc Cert.AdamLnReferenceIdeal.main_arg2) = m' ((c.tc : Thread Cert.AdamLnReferenceIdeal.nD Cert.AdamLnReferenceIdeal.τ).loc Cert.AdamLnReferenceIdeal.main_arg2)
          ∧ r.2.mem ((c.tc : Thread Cert.AdamLnReferenceIdeal.nD Cert.AdamLnReferenceIdeal.τ).loc Cert.AdamLnReferenceIdeal.main_arg3) = m' ((c.tc : Thread Cert.AdamLnReferenceIdeal.nD Cert.AdamLnReferenceIdeal.τ).loc Cert.AdamLnReferenceIdeal.main_arg3))

def preserves_AdamAttn_AdamAttnIdeal : Prop :=
  True

def algebraic_AdamAttnIdeal_AdamAttnReferenceIdeal [hAdamAttnIdeal : Cert.AdamAttnIdeal.Facts] [hAdamAttnReferenceIdeal : Cert.AdamAttnReferenceIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg)
    (m' : (ℓ : Loc Cert.AdamAttnReferenceIdeal.nD Cert.AdamAttnReferenceIdeal.τ Cert.AdamAttnReferenceIdeal.sig) → Buf (Elt Ideal) ℓ) (g' : Dev Cert.AdamAttnReferenceIdeal.nD → PrngReg), Pre_AdamAttnIdeal m →
    (∀ c : Dev Cert.AdamAttnIdeal.nD,
      m' ((c.tc : Thread Cert.AdamAttnReferenceIdeal.nD Cert.AdamAttnReferenceIdeal.τ).loc Cert.AdamAttnReferenceIdeal.main_arg0) = m ((c.tc : Thread Cert.AdamAttnIdeal.nD Cert.AdamAttnIdeal.τ).loc Cert.AdamAttnIdeal.main_arg0)
      ∧ m' ((c.tc : Thread Cert.AdamAttnReferenceIdeal.nD Cert.AdamAttnReferenceIdeal.τ).loc Cert.AdamAttnReferenceIdeal.main_arg1) = m ((c.tc : Thread Cert.AdamAttnIdeal.nD Cert.AdamAttnIdeal.τ).loc Cert.AdamAttnIdeal.main_arg1)
      ∧ m' ((c.tc : Thread Cert.AdamAttnReferenceIdeal.nD Cert.AdamAttnReferenceIdeal.τ).loc Cert.AdamAttnReferenceIdeal.main_arg2) = m ((c.tc : Thread Cert.AdamAttnIdeal.nD Cert.AdamAttnIdeal.τ).loc Cert.AdamAttnIdeal.main_arg2)
      ∧ m' ((c.tc : Thread Cert.AdamAttnReferenceIdeal.nD Cert.AdamAttnReferenceIdeal.τ).loc Cert.AdamAttnReferenceIdeal.main_arg3) = m ((c.tc : Thread Cert.AdamAttnIdeal.nD Cert.AdamAttnIdeal.τ).loc Cert.AdamAttnIdeal.main_arg3)) →
    ∃ (v0 : (c : Dev Cert.AdamAttnIdeal.nD) → Buf (Elt Ideal) ((c.tc : Thread Cert.AdamAttnIdeal.nD Cert.AdamAttnIdeal.τ).loc Cert.AdamAttnIdeal.main_v4_0)) (v1 : (c : Dev Cert.AdamAttnIdeal.nD) → Buf (Elt Ideal) ((c.tc : Thread Cert.AdamAttnIdeal.nD Cert.AdamAttnIdeal.τ).loc Cert.AdamAttnIdeal.main_v4_1)) (v2 : (c : Dev Cert.AdamAttnIdeal.nD) → Buf (Elt Ideal) ((c.tc : Thread Cert.AdamAttnIdeal.nD Cert.AdamAttnIdeal.τ).loc Cert.AdamAttnIdeal.main_v4_2)) (v3 : (c : Dev Cert.AdamAttnIdeal.nD) → Buf (Elt Ideal) ((c.tc : Thread Cert.AdamAttnIdeal.nD Cert.AdamAttnIdeal.τ).loc Cert.AdamAttnIdeal.main_v4_3)),
      θ_run (Cert.AdamAttnIdeal.defs (F := Ideal)) (onTc (τ := Cert.AdamAttnIdeal.τ) (Cert.AdamAttnIdeal.main (F := Ideal))) ⟨m, fun _ => 0, g⟩ (fun r => ∀ c : Dev Cert.AdamAttnIdeal.nD,
          r.2.mem ((c.tc : Thread Cert.AdamAttnIdeal.nD Cert.AdamAttnIdeal.τ).loc Cert.AdamAttnIdeal.main_v4_0) = v0 c
          ∧ r.2.mem ((c.tc : Thread Cert.AdamAttnIdeal.nD Cert.AdamAttnIdeal.τ).loc Cert.AdamAttnIdeal.main_v4_1) = v1 c
          ∧ r.2.mem ((c.tc : Thread Cert.AdamAttnIdeal.nD Cert.AdamAttnIdeal.τ).loc Cert.AdamAttnIdeal.main_v4_2) = v2 c
          ∧ r.2.mem ((c.tc : Thread Cert.AdamAttnIdeal.nD Cert.AdamAttnIdeal.τ).loc Cert.AdamAttnIdeal.main_v4_3) = v3 c
          ∧ r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
          ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
          ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
          ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ θ_run (Cert.AdamAttnReferenceIdeal.defs (F := Ideal)) (onTc (τ := Cert.AdamAttnReferenceIdeal.τ) (Cert.AdamAttnReferenceIdeal.main (F := Ideal))) ⟨m', fun _ => 0, g'⟩ (fun r => ∀ c : Dev Cert.AdamAttnReferenceIdeal.nD,
          r.2.mem ((c.tc : Thread Cert.AdamAttnReferenceIdeal.nD Cert.AdamAttnReferenceIdeal.τ).loc Cert.AdamAttnReferenceIdeal.main_v24) = v0 c
          ∧ r.2.mem ((c.tc : Thread Cert.AdamAttnReferenceIdeal.nD Cert.AdamAttnReferenceIdeal.τ).loc Cert.AdamAttnReferenceIdeal.main_v25) = v1 c
          ∧ r.2.mem ((c.tc : Thread Cert.AdamAttnReferenceIdeal.nD Cert.AdamAttnReferenceIdeal.τ).loc Cert.AdamAttnReferenceIdeal.main_v26) = v2 c
          ∧ r.2.mem ((c.tc : Thread Cert.AdamAttnReferenceIdeal.nD Cert.AdamAttnReferenceIdeal.τ).loc Cert.AdamAttnReferenceIdeal.main_v27) = v3 c
          ∧ r.2.mem ((c.tc : Thread Cert.AdamAttnReferenceIdeal.nD Cert.AdamAttnReferenceIdeal.τ).loc Cert.AdamAttnReferenceIdeal.main_arg0) = m' ((c.tc : Thread Cert.AdamAttnReferenceIdeal.nD Cert.AdamAttnReferenceIdeal.τ).loc Cert.AdamAttnReferenceIdeal.main_arg0)
          ∧ r.2.mem ((c.tc : Thread Cert.AdamAttnReferenceIdeal.nD Cert.AdamAttnReferenceIdeal.τ).loc Cert.AdamAttnReferenceIdeal.main_arg1) = m' ((c.tc : Thread Cert.AdamAttnReferenceIdeal.nD Cert.AdamAttnReferenceIdeal.τ).loc Cert.AdamAttnReferenceIdeal.main_arg1)
          ∧ r.2.mem ((c.tc : Thread Cert.AdamAttnReferenceIdeal.nD Cert.AdamAttnReferenceIdeal.τ).loc Cert.AdamAttnReferenceIdeal.main_arg2) = m' ((c.tc : Thread Cert.AdamAttnReferenceIdeal.nD Cert.AdamAttnReferenceIdeal.τ).loc Cert.AdamAttnReferenceIdeal.main_arg2)
          ∧ r.2.mem ((c.tc : Thread Cert.AdamAttnReferenceIdeal.nD Cert.AdamAttnReferenceIdeal.τ).loc Cert.AdamAttnReferenceIdeal.main_arg3) = m' ((c.tc : Thread Cert.AdamAttnReferenceIdeal.nD Cert.AdamAttnReferenceIdeal.τ).loc Cert.AdamAttnReferenceIdeal.main_arg3))

def preserves_AdamGmlp_AdamGmlpIdeal : Prop :=
  True

def algebraic_AdamGmlpIdeal_AdamGmlpReferenceIdeal [hAdamGmlpIdeal : Cert.AdamGmlpIdeal.Facts] [hAdamGmlpReferenceIdeal : Cert.AdamGmlpReferenceIdeal.Facts] : Prop :=
  ∀ (m : (ℓ : Loc Cert.AdamGmlpIdeal.nD Cert.AdamGmlpIdeal.τ Cert.AdamGmlpIdeal.sig) → Buf (Elt Ideal) ℓ) (g : Dev Cert.AdamGmlpIdeal.nD → PrngReg)
    (m' : (ℓ : Loc Cert.AdamGmlpReferenceIdeal.nD Cert.AdamGmlpReferenceIdeal.τ Cert.AdamGmlpReferenceIdeal.sig) → Buf (Elt Ideal) ℓ) (g' : Dev Cert.AdamGmlpReferenceIdeal.nD → PrngReg), Pre_AdamGmlpIdeal m →
    (∀ c : Dev Cert.AdamGmlpIdeal.nD,
      m' ((c.tc : Thread Cert.AdamGmlpReferenceIdeal.nD Cert.AdamGmlpReferenceIdeal.τ).loc Cert.AdamGmlpReferenceIdeal.main_arg0) = m ((c.tc : Thread Cert.AdamGmlpIdeal.nD Cert.AdamGmlpIdeal.τ).loc Cert.AdamGmlpIdeal.main_arg0)
      ∧ m' ((c.tc : Thread Cert.AdamGmlpReferenceIdeal.nD Cert.AdamGmlpReferenceIdeal.τ).loc Cert.AdamGmlpReferenceIdeal.main_arg1) = m ((c.tc : Thread Cert.AdamGmlpIdeal.nD Cert.AdamGmlpIdeal.τ).loc Cert.AdamGmlpIdeal.main_arg1)
      ∧ m' ((c.tc : Thread Cert.AdamGmlpReferenceIdeal.nD Cert.AdamGmlpReferenceIdeal.τ).loc Cert.AdamGmlpReferenceIdeal.main_arg2) = m ((c.tc : Thread Cert.AdamGmlpIdeal.nD Cert.AdamGmlpIdeal.τ).loc Cert.AdamGmlpIdeal.main_arg2)
      ∧ m' ((c.tc : Thread Cert.AdamGmlpReferenceIdeal.nD Cert.AdamGmlpReferenceIdeal.τ).loc Cert.AdamGmlpReferenceIdeal.main_arg3) = m ((c.tc : Thread Cert.AdamGmlpIdeal.nD Cert.AdamGmlpIdeal.τ).loc Cert.AdamGmlpIdeal.main_arg3)) →
    ∃ (v0 : (c : Dev Cert.AdamGmlpIdeal.nD) → Buf (Elt Ideal) ((c.tc : Thread Cert.AdamGmlpIdeal.nD Cert.AdamGmlpIdeal.τ).loc Cert.AdamGmlpIdeal.main_v4_0)) (v1 : (c : Dev Cert.AdamGmlpIdeal.nD) → Buf (Elt Ideal) ((c.tc : Thread Cert.AdamGmlpIdeal.nD Cert.AdamGmlpIdeal.τ).loc Cert.AdamGmlpIdeal.main_v4_1)) (v2 : (c : Dev Cert.AdamGmlpIdeal.nD) → Buf (Elt Ideal) ((c.tc : Thread Cert.AdamGmlpIdeal.nD Cert.AdamGmlpIdeal.τ).loc Cert.AdamGmlpIdeal.main_v4_2)) (v3 : (c : Dev Cert.AdamGmlpIdeal.nD) → Buf (Elt Ideal) ((c.tc : Thread Cert.AdamGmlpIdeal.nD Cert.AdamGmlpIdeal.τ).loc Cert.AdamGmlpIdeal.main_v4_3)),
      θ_run (Cert.AdamGmlpIdeal.defs (F := Ideal)) (onTc (τ := Cert.AdamGmlpIdeal.τ) (Cert.AdamGmlpIdeal.main (F := Ideal))) ⟨m, fun _ => 0, g⟩ (fun r => ∀ c : Dev Cert.AdamGmlpIdeal.nD,
          r.2.mem ((c.tc : Thread Cert.AdamGmlpIdeal.nD Cert.AdamGmlpIdeal.τ).loc Cert.AdamGmlpIdeal.main_v4_0) = v0 c
          ∧ r.2.mem ((c.tc : Thread Cert.AdamGmlpIdeal.nD Cert.AdamGmlpIdeal.τ).loc Cert.AdamGmlpIdeal.main_v4_1) = v1 c
          ∧ r.2.mem ((c.tc : Thread Cert.AdamGmlpIdeal.nD Cert.AdamGmlpIdeal.τ).loc Cert.AdamGmlpIdeal.main_v4_2) = v2 c
          ∧ r.2.mem ((c.tc : Thread Cert.AdamGmlpIdeal.nD Cert.AdamGmlpIdeal.τ).loc Cert.AdamGmlpIdeal.main_v4_3) = v3 c
          ∧ r.2.mem ((c.tc : Thread Cert.AdamGmlpIdeal.nD Cert.AdamGmlpIdeal.τ).loc Cert.AdamGmlpIdeal.main_arg0) = m ((c.tc : Thread Cert.AdamGmlpIdeal.nD Cert.AdamGmlpIdeal.τ).loc Cert.AdamGmlpIdeal.main_arg0)
          ∧ r.2.mem ((c.tc : Thread Cert.AdamGmlpIdeal.nD Cert.AdamGmlpIdeal.τ).loc Cert.AdamGmlpIdeal.main_arg1) = m ((c.tc : Thread Cert.AdamGmlpIdeal.nD Cert.AdamGmlpIdeal.τ).loc Cert.AdamGmlpIdeal.main_arg1)
          ∧ r.2.mem ((c.tc : Thread Cert.AdamGmlpIdeal.nD Cert.AdamGmlpIdeal.τ).loc Cert.AdamGmlpIdeal.main_arg2) = m ((c.tc : Thread Cert.AdamGmlpIdeal.nD Cert.AdamGmlpIdeal.τ).loc Cert.AdamGmlpIdeal.main_arg2)
          ∧ r.2.mem ((c.tc : Thread Cert.AdamGmlpIdeal.nD Cert.AdamGmlpIdeal.τ).loc Cert.AdamGmlpIdeal.main_arg3) = m ((c.tc : Thread Cert.AdamGmlpIdeal.nD Cert.AdamGmlpIdeal.τ).loc Cert.AdamGmlpIdeal.main_arg3))
      ∧ θ_run (Cert.AdamGmlpReferenceIdeal.defs (F := Ideal)) (onTc (τ := Cert.AdamGmlpReferenceIdeal.τ) (Cert.AdamGmlpReferenceIdeal.main (F := Ideal))) ⟨m', fun _ => 0, g'⟩ (fun r => ∀ c : Dev Cert.AdamGmlpReferenceIdeal.nD,
          r.2.mem ((c.tc : Thread Cert.AdamGmlpReferenceIdeal.nD Cert.AdamGmlpReferenceIdeal.τ).loc Cert.AdamGmlpReferenceIdeal.main_v24) = v0 c
          ∧ r.2.mem ((c.tc : Thread Cert.AdamGmlpReferenceIdeal.nD Cert.AdamGmlpReferenceIdeal.τ).loc Cert.AdamGmlpReferenceIdeal.main_v25) = v1 c
          ∧ r.2.mem ((c.tc : Thread Cert.AdamGmlpReferenceIdeal.nD Cert.AdamGmlpReferenceIdeal.τ).loc Cert.AdamGmlpReferenceIdeal.main_v26) = v2 c
          ∧ r.2.mem ((c.tc : Thread Cert.AdamGmlpReferenceIdeal.nD Cert.AdamGmlpReferenceIdeal.τ).loc Cert.AdamGmlpReferenceIdeal.main_v27) = v3 c
          ∧ r.2.mem ((c.tc : Thread Cert.AdamGmlpReferenceIdeal.nD Cert.AdamGmlpReferenceIdeal.τ).loc Cert.AdamGmlpReferenceIdeal.main_arg0) = m' ((c.tc : Thread Cert.AdamGmlpReferenceIdeal.nD Cert.AdamGmlpReferenceIdeal.τ).loc Cert.AdamGmlpReferenceIdeal.main_arg0)
          ∧ r.2.mem ((c.tc : Thread Cert.AdamGmlpReferenceIdeal.nD Cert.AdamGmlpReferenceIdeal.τ).loc Cert.AdamGmlpReferenceIdeal.main_arg1) = m' ((c.tc : Thread Cert.AdamGmlpReferenceIdeal.nD Cert.AdamGmlpReferenceIdeal.τ).loc Cert.AdamGmlpReferenceIdeal.main_arg1)
          ∧ r.2.mem ((c.tc : Thread Cert.AdamGmlpReferenceIdeal.nD Cert.AdamGmlpReferenceIdeal.τ).loc Cert.AdamGmlpReferenceIdeal.main_arg2) = m' ((c.tc : Thread Cert.AdamGmlpReferenceIdeal.nD Cert.AdamGmlpReferenceIdeal.τ).loc Cert.AdamGmlpReferenceIdeal.main_arg2)
          ∧ r.2.mem ((c.tc : Thread Cert.AdamGmlpReferenceIdeal.nD Cert.AdamGmlpReferenceIdeal.τ).loc Cert.AdamGmlpReferenceIdeal.main_arg3) = m' ((c.tc : Thread Cert.AdamGmlpReferenceIdeal.nD Cert.AdamGmlpReferenceIdeal.τ).loc Cert.AdamGmlpReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)) (v3 : (c : Dev Cert.AdamOutIdeal.nD) → Buf (Elt Ideal) ((c.tc : Thread Cert.AdamOutIdeal.nD Cert.AdamOutIdeal.τ).loc Cert.AdamOutIdeal.main_v4_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_v4_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v24) = v0 c
          ∧ r.2.mem ((c.tc : Thread Cert.AdamOutReferenceIdeal.nD Cert.AdamOutReferenceIdeal.τ).loc Cert.AdamOutReferenceIdeal.main_v25) = v1 c
          ∧ r.2.mem ((c.tc : Thread Cert.AdamOutReferenceIdeal.nD Cert.AdamOutReferenceIdeal.τ).loc Cert.AdamOutReferenceIdeal.main_v26) = v2 c
          ∧ r.2.mem ((c.tc : Thread Cert.AdamOutReferenceIdeal.nD Cert.AdamOutReferenceIdeal.τ).loc Cert.AdamOutReferenceIdeal.main_v27) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamMlp_AdamMlpIdeal : Prop :=
  True

def algebraic_AdamMlpIdeal_AdamMlpReferenceIdeal [hAdamMlpIdeal : Cert.AdamMlpIdeal.Facts] [hAdamMlpReferenceIdeal : Cert.AdamMlpReferenceIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpReferenceIdeal.nD Cert.AdamMlpReferenceIdeal.τ Cert.AdamMlpReferenceIdeal.sig) → Buf (Elt Ideal) ℓ) (g' : Dev Cert.AdamMlpReferenceIdeal.nD → PrngReg), Pre_AdamMlpIdeal m →
    (∀ c : Dev Cert.AdamMlpIdeal.nD,
      m' ((c.tc : Thread Cert.AdamMlpReferenceIdeal.nD Cert.AdamMlpReferenceIdeal.τ).loc Cert.AdamMlpReferenceIdeal.main_arg0) = m ((c.tc : Thread Cert.AdamMlpIdeal.nD Cert.AdamMlpIdeal.τ).loc Cert.AdamMlpIdeal.main_arg0)
      ∧ m' ((c.tc : Thread Cert.AdamMlpReferenceIdeal.nD Cert.AdamMlpReferenceIdeal.τ).loc Cert.AdamMlpReferenceIdeal.main_arg1) = m ((c.tc : Thread Cert.AdamMlpIdeal.nD Cert.AdamMlpIdeal.τ).loc Cert.AdamMlpIdeal.main_arg1)
      ∧ m' ((c.tc : Thread Cert.AdamMlpReferenceIdeal.nD Cert.AdamMlpReferenceIdeal.τ).loc Cert.AdamMlpReferenceIdeal.main_arg2) = m ((c.tc : Thread Cert.AdamMlpIdeal.nD Cert.AdamMlpIdeal.τ).loc Cert.AdamMlpIdeal.main_arg2)
      ∧ m' ((c.tc : Thread Cert.AdamMlpReferenceIdeal.nD Cert.AdamMlpReferenceIdeal.τ).loc Cert.AdamMlpReferenceIdeal.main_arg3) = m ((c.tc : Thread Cert.AdamMlpIdeal.nD Cert.AdamMlpIdeal.τ).loc Cert.AdamMlpIdeal.main_arg3)) →
    ∃ (v0 : (c : Dev Cert.AdamMlpIdeal.nD) → Buf (Elt Ideal) ((c.tc : Thread Cert.AdamMlpIdeal.nD Cert.AdamMlpIdeal.τ).loc Cert.AdamMlpIdeal.main_v4_0)) (v1 : (c : Dev Cert.AdamMlpIdeal.nD) → Buf (Elt Ideal) ((c.tc : Thread Cert.AdamMlpIdeal.nD Cert.AdamMlpIdeal.τ).loc Cert.AdamMlpIdeal.main_v4_1)) (v2 : (c : Dev Cert.AdamMlpIdeal.nD) → Buf (Elt Ideal) ((c.tc : Thread Cert.AdamMlpIdeal.nD Cert.AdamMlpIdeal.τ).loc Cert.AdamMlpIdeal.main_v4_2)) (v3 : (c : Dev Cert.AdamMlpIdeal.nD) → Buf (Elt Ideal) ((c.tc : Thread Cert.AdamMlpIdeal.nD Cert.AdamMlpIdeal.τ).loc Cert.AdamMlpIdeal.main_v4_3)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v4_0) = v0 c
          ∧ r.2.mem ((c.tc : Thread Cert.AdamMlpIdeal.nD Cert.AdamMlpIdeal.τ).loc Cert.AdamMlpIdeal.main_v4_1) = v1 c
          ∧ r.2.mem ((c.tc : Thread Cert.AdamMlpIdeal.nD Cert.AdamMlpIdeal.τ).loc Cert.AdamMlpIdeal.main_v4_2) = v2 c
          ∧ r.2.mem ((c.tc : Thread Cert.AdamMlpIdeal.nD Cert.AdamMlpIdeal.τ).loc Cert.AdamMlpIdeal.main_v4_3) = v3 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ θ_run (Cert.AdamMlpReferenceIdeal.defs (F := Ideal)) (onTc (τ := Cert.AdamMlpReferenceIdeal.τ) (Cert.AdamMlpReferenceIdeal.main (F := Ideal))) ⟨m', fun _ => 0, g'⟩ (fun r => ∀ c : Dev Cert.AdamMlpReferenceIdeal.nD,
          r.2.mem ((c.tc : Thread Cert.AdamMlpReferenceIdeal.nD Cert.AdamMlpReferenceIdeal.τ).loc Cert.AdamMlpReferenceIdeal.main_v24) = v0 c
          ∧ r.2.mem ((c.tc : Thread Cert.AdamMlpReferenceIdeal.nD Cert.AdamMlpReferenceIdeal.τ).loc Cert.AdamMlpReferenceIdeal.main_v25) = v1 c
          ∧ r.2.mem ((c.tc : Thread Cert.AdamMlpReferenceIdeal.nD Cert.AdamMlpReferenceIdeal.τ).loc Cert.AdamMlpReferenceIdeal.main_v26) = v2 c
          ∧ r.2.mem ((c.tc : Thread Cert.AdamMlpReferenceIdeal.nD Cert.AdamMlpReferenceIdeal.τ).loc Cert.AdamMlpReferenceIdeal.main_v27) = v3 c
          ∧ r.2.mem ((c.tc : Thread Cert.AdamMlpReferenceIdeal.nD Cert.AdamMlpReferenceIdeal.τ).loc Cert.AdamMlpReferenceIdeal.main_arg0) = m' ((c.tc : Thread Cert.AdamMlpReferenceIdeal.nD Cert.AdamMlpReferenceIdeal.τ).loc Cert.AdamMlpReferenceIdeal.main_arg0)
          ∧ r.2.mem ((c.tc : Thread Cert.AdamMlpReferenceIdeal.nD Cert.AdamMlpReferenceIdeal.τ).loc Cert.AdamMlpReferenceIdeal.main_arg1) = m' ((c.tc : Thread Cert.AdamMlpReferenceIdeal.nD Cert.AdamMlpReferenceIdeal.τ).loc Cert.AdamMlpReferenceIdeal.main_arg1)
          ∧ r.2.mem ((c.tc : Thread Cert.AdamMlpReferenceIdeal.nD Cert.AdamMlpReferenceIdeal.τ).loc Cert.AdamMlpReferenceIdeal.main_arg2) = m' ((c.tc : Thread Cert.AdamMlpReferenceIdeal.nD Cert.AdamMlpReferenceIdeal.τ).loc Cert.AdamMlpReferenceIdeal.main_arg2)
          ∧ r.2.mem ((c.tc : Thread Cert.AdamMlpReferenceIdeal.nD Cert.AdamMlpReferenceIdeal.τ).loc Cert.AdamMlpReferenceIdeal.main_arg3) = m' ((c.tc : Thread Cert.AdamMlpReferenceIdeal.nD Cert.AdamMlpReferenceIdeal.τ).loc Cert.AdamMlpReferenceIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hGradOut : Cert.GradOut.Facts) (hGradOutIdeal : Cert.GradOutIdeal.Facts) (hGradOutReferenceIdeal : Cert.GradOutReferenceIdeal.Facts) (hGradIn : Cert.GradIn.Facts) (hGradInIdeal : Cert.GradInIdeal.Facts) (hGradInReferenceIdeal : Cert.GradInReferenceIdeal.Facts) (hGradRest : Cert.GradRest.Facts) (hGradRestIdeal : Cert.GradRestIdeal.Facts) (hGradRestReferenceIdeal : Cert.GradRestReferenceIdeal.Facts) (hGradQkv0 : Cert.GradQkv0.Facts) (hGradQkv0Ideal : Cert.GradQkv0Ideal.Facts) (hGradQkvReferenceIdeal : Cert.GradQkvReferenceIdeal.Facts) (hGradQkv1 : Cert.GradQkv1.Facts) (hGradQkv1Ideal : Cert.GradQkv1Ideal.Facts) (hGradQkv2 : Cert.GradQkv2.Facts) (hGradQkv2Ideal : Cert.GradQkv2Ideal.Facts) (hAdamGain : Cert.AdamGain.Facts) (hAdamGainIdeal : Cert.AdamGainIdeal.Facts) (hAdamGainReferenceIdeal : Cert.AdamGainReferenceIdeal.Facts) (hAdamIn : Cert.AdamIn.Facts) (hAdamInIdeal : Cert.AdamInIdeal.Facts) (hAdamInReferenceIdeal : Cert.AdamInReferenceIdeal.Facts) (hAdamSpatial : Cert.AdamSpatial.Facts) (hAdamSpatialIdeal : Cert.AdamSpatialIdeal.Facts) (hAdamSpatialReferenceIdeal : Cert.AdamSpatialReferenceIdeal.Facts) (hAdamBias : Cert.AdamBias.Facts) (hAdamBiasIdeal : Cert.AdamBiasIdeal.Facts) (hAdamBiasReferenceIdeal : Cert.AdamBiasReferenceIdeal.Facts) (hAdamLn : Cert.AdamLn.Facts) (hAdamLnIdeal : Cert.AdamLnIdeal.Facts) (hAdamLnReferenceIdeal : Cert.AdamLnReferenceIdeal.Facts) (hAdamAttn : Cert.AdamAttn.Facts) (hAdamAttnIdeal : Cert.AdamAttnIdeal.Facts) (hAdamAttnReferenceIdeal : Cert.AdamAttnReferenceIdeal.Facts) (hAdamGmlp : Cert.AdamGmlp.Facts) (hAdamGmlpIdeal : Cert.AdamGmlpIdeal.Facts) (hAdamGmlpReferenceIdeal : Cert.AdamGmlpReferenceIdeal.Facts) (hAdamOut : Cert.AdamOut.Facts) (hAdamOutIdeal : Cert.AdamOutIdeal.Facts) (hAdamOutReferenceIdeal : Cert.AdamOutReferenceIdeal.Facts) (hAdamMlp : Cert.AdamMlp.Facts) (hAdamMlpIdeal : Cert.AdamMlpIdeal.Facts) (hAdamMlpReferenceIdeal : Cert.AdamMlpReferenceIdeal.Facts) (hPre_finite : Cert.Pre_finite.Facts) (hPre_mlp_finite : Cert.Pre_mlp_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpReferenceIdeal (hMlpReferenceIdeal := hMlpReferenceIdeal)
    ∧ quiescent_MlpReferenceIdeal_pre_mlp_finite (hMlpReferenceIdeal := hMlpReferenceIdeal) (hPre_mlp_finite := hPre_mlp_finite)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_GradRest (hGradRest := hGradRest)
    ∧ quiescent_GradRestIdeal (hGradRestIdeal := hGradRestIdeal)
    ∧ quiescent_GradRestReferenceIdeal (hGradRestReferenceIdeal := hGradRestReferenceIdeal)
    ∧ quiescent_GradQkv0 (hGradQkv0 := hGradQkv0)
    ∧ quiescent_GradQkv0Ideal (hGradQkv0Ideal := hGradQkv0Ideal)
    ∧ quiescent_GradQkvReferenceIdeal (hGradQkvReferenceIdeal := hGradQkvReferenceIdeal)
    ∧ quiescent_GradQkv1 (hGradQkv1 := hGradQkv1)
    ∧ quiescent_GradQkv1Ideal (hGradQkv1Ideal := hGradQkv1Ideal)
    ∧ quiescent_GradQkv2 (hGradQkv2 := hGradQkv2)
    ∧ quiescent_GradQkv2Ideal (hGradQkv2Ideal := hGradQkv2Ideal)
    ∧ quiescent_AdamGain (hAdamGain := hAdamGain)
    ∧ quiescent_AdamGainIdeal (hAdamGainIdeal := hAdamGainIdeal)
    ∧ quiescent_AdamGainReferenceIdeal (hAdamGainReferenceIdeal := hAdamGainReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamSpatial (hAdamSpatial := hAdamSpatial)
    ∧ quiescent_AdamSpatialIdeal (hAdamSpatialIdeal := hAdamSpatialIdeal)
    ∧ quiescent_AdamSpatialReferenceIdeal (hAdamSpatialReferenceIdeal := hAdamSpatialReferenceIdeal)
    ∧ quiescent_AdamBias (hAdamBias := hAdamBias)
    ∧ quiescent_AdamBiasIdeal (hAdamBiasIdeal := hAdamBiasIdeal)
    ∧ quiescent_AdamBiasReferenceIdeal (hAdamBiasReferenceIdeal := hAdamBiasReferenceIdeal)
    ∧ quiescent_AdamLn (hAdamLn := hAdamLn)
    ∧ quiescent_AdamLnIdeal (hAdamLnIdeal := hAdamLnIdeal)
    ∧ quiescent_AdamLnReferenceIdeal (hAdamLnReferenceIdeal := hAdamLnReferenceIdeal)
    ∧ quiescent_AdamAttn (hAdamAttn := hAdamAttn)
    ∧ quiescent_AdamAttnIdeal (hAdamAttnIdeal := hAdamAttnIdeal)
    ∧ quiescent_AdamAttnReferenceIdeal (hAdamAttnReferenceIdeal := hAdamAttnReferenceIdeal)
    ∧ quiescent_AdamGmlp (hAdamGmlp := hAdamGmlp)
    ∧ quiescent_AdamGmlpIdeal (hAdamGmlpIdeal := hAdamGmlpIdeal)
    ∧ quiescent_AdamGmlpReferenceIdeal (hAdamGmlpReferenceIdeal := hAdamGmlpReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamMlp (hAdamMlp := hAdamMlp)
    ∧ quiescent_AdamMlpIdeal (hAdamMlpIdeal := hAdamMlpIdeal)
    ∧ quiescent_AdamMlpReferenceIdeal (hAdamMlpReferenceIdeal := hAdamMlpReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal_pre_mlp_finite (hMlpIdeal := hMlpIdeal) (hMlpReferenceIdeal := hMlpReferenceIdeal) (hPre_mlp_finite := hPre_mlp_finite)
    ∧ preserves_GradOut_GradOutIdeal
    ∧ algebraic_GradOutIdeal_GradOutReferenceIdeal (hGradOutIdeal := hGradOutIdeal) (hGradOutReferenceIdeal := hGradOutReferenceIdeal)
    ∧ preserves_GradIn_GradInIdeal
    ∧ algebraic_GradInIdeal_GradInReferenceIdeal (hGradInIdeal := hGradInIdeal) (hGradInReferenceIdeal := hGradInReferenceIdeal)
    ∧ preserves_GradRest_GradRestIdeal
    ∧ algebraic_GradRestIdeal_GradRestReferenceIdeal (hGradRestIdeal := hGradRestIdeal) (hGradRestReferenceIdeal := hGradRestReferenceIdeal)
    ∧ preserves_GradQkv0_GradQkv0Ideal
    ∧ algebraic_GradQkv0Ideal_GradQkvReferenceIdeal (hGradQkv0Ideal := hGradQkv0Ideal) (hGradQkvReferenceIdeal := hGradQkvReferenceIdeal)
    ∧ preserves_GradQkv1_GradQkv1Ideal
    ∧ algebraic_GradQkv1Ideal_GradQkvReferenceIdeal (hGradQkv1Ideal := hGradQkv1Ideal) (hGradQkvReferenceIdeal := hGradQkvReferenceIdeal)
    ∧ preserves_GradQkv2_GradQkv2Ideal
    ∧ algebraic_GradQkv2Ideal_GradQkvReferenceIdeal (hGradQkv2Ideal := hGradQkv2Ideal) (hGradQkvReferenceIdeal := hGradQkvReferenceIdeal)
    ∧ preserves_AdamGain_AdamGainIdeal
    ∧ algebraic_AdamGainIdeal_AdamGainReferenceIdeal (hAdamGainIdeal := hAdamGainIdeal) (hAdamGainReferenceIdeal := hAdamGainReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamSpatial_AdamSpatialIdeal
    ∧ algebraic_AdamSpatialIdeal_AdamSpatialReferenceIdeal (hAdamSpatialIdeal := hAdamSpatialIdeal) (hAdamSpatialReferenceIdeal := hAdamSpatialReferenceIdeal)
    ∧ preserves_AdamBias_AdamBiasIdeal
    ∧ algebraic_AdamBiasIdeal_AdamBiasReferenceIdeal (hAdamBiasIdeal := hAdamBiasIdeal) (hAdamBiasReferenceIdeal := hAdamBiasReferenceIdeal)
    ∧ preserves_AdamLn_AdamLnIdeal
    ∧ algebraic_AdamLnIdeal_AdamLnReferenceIdeal (hAdamLnIdeal := hAdamLnIdeal) (hAdamLnReferenceIdeal := hAdamLnReferenceIdeal)
    ∧ preserves_AdamAttn_AdamAttnIdeal
    ∧ algebraic_AdamAttnIdeal_AdamAttnReferenceIdeal (hAdamAttnIdeal := hAdamAttnIdeal) (hAdamAttnReferenceIdeal := hAdamAttnReferenceIdeal)
    ∧ preserves_AdamGmlp_AdamGmlpIdeal
    ∧ algebraic_AdamGmlpIdeal_AdamGmlpReferenceIdeal (hAdamGmlpIdeal := hAdamGmlpIdeal) (hAdamGmlpReferenceIdeal := hAdamGmlpReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamMlp_AdamMlpIdeal
    ∧ algebraic_AdamMlpIdeal_AdamMlpReferenceIdeal (hAdamMlpIdeal := hAdamMlpIdeal) (hAdamMlpReferenceIdeal := hAdamMlpReferenceIdeal)
-- ==== Pre_finite.lean ====
abbrev S8192x1024 : Shape := ⟨2, ![8192, 1024]⟩
abbrev S8192x256 : Shape := ⟨2, ![8192, 256]⟩
abbrev S8192x3072 : Shape := ⟨2, ![8192, 3072]⟩
abbrev S1024x1024 : Shape := ⟨2, ![1024, 1024]⟩
abbrev S256x1024 : Shape := ⟨2, ![256, 1024]⟩
abbrev S512x1024 : Shape := ⟨2, ![512, 1024]⟩
abbrev S4x128x128 : Shape := ⟨3, ![4, 128, 128]⟩
abbrev S4x128 : Shape := ⟨2, ![4, 128]⟩
abbrev S1x512 : Shape := ⟨2, ![1, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192x3072 : S_.BroadcastsInDim S8192x3072 (![] : Fin 0 → Fin S8192x3072.rank)
  reducesTo_S8192x3072_S_d0_1 : S8192x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1x512 : S_.BroadcastsInDim S1x512 (![] : Fin 0 → Fin S1x512.rank)
  reducesTo_S1x512_S_d0_1 : S1x512.ReducesTo [0, 1] S_

variable [Facts]

def fn_part3 {F : FTy → Type} [FloatOps F] (main_v48 : IVec S_ 1) (main_v51 : IVec S1x512 1) (main_c_17 : IVec S_ 1) : IVec S_ 1 :=
  let main_v52 : IVec S_ 1 := (fun x v => Host.reduce IntOp.andi x v reducesTo_S1x512_S_d0_1 h_S_) main_v51 main_c_17
  let main_v53 : IVec S_ 1 := andi main_v48 main_v52
  main_v53

def fn_part2 {F : FTy → Type} [FloatOps F] (main_arg7 : FVec F S4x128 .f32) (main_arg8 : FVec F S1x512 .f32) (main_arg9 : FVec F S1x512 .f32) (main_v33 : IVec S_ 1) (main_v34 : FVec F S4x128x128 .f32) (main_cst_10 : FVec F S_ .f32) : IVec S_ 1 :=
  let main_v35 : FVec F S4x128x128 .f32 := broadcastInDim S4x128x128 ![] bcast_S_S4x128x128 main_cst_10
  let main_v36 : IVec S4x128x128 1 := cmpf .olt main_v34 main_v35
  let main_c_11 : IVec S_ 1 := constantI S_ 1 1#1
  let main_v37 : IVec S_ 1 := (fun x v => Host.reduce IntOp.andi x v reducesTo_S4x128x128_S_d0_1_2 h_S_) main_v36 main_c_11
  let main_v38 : IVec S_ 1 := andi main_v33 main_v37
  let main_v39 : FVec F S4x128 .f32 := Host.absf main_arg7
  let main_cst_12 : FVec F S_ .f32 := constant S_ .f32 0x7F800000#32
  let main_v40 : FVec F S4x128 .f32 := broadcastInDim S4x128 ![] bcast_S_S4x128 main_cst_12
  let main_v41 : IVec S4x128 1 := cmpf .olt main_v39 main_v40
  let main_c_13 : IVec S_ 1 := constantI S_ 1 1#1
  let main_v42 : IVec S_ 1 := (fun x v => Host.reduce IntOp.andi x v reducesTo_S4x128_S_d0_1 h_S_) main_v41 main_c_13
  let main_v43 : IVec S_ 1 := andi main_v38 main_v42
  let main_v44 : FVec F S1x512 .f32 := Host.absf main_arg8
  let main_cst_14 : FVec F S_ .f32 := constant S_ .f32 0x7F800000#32
  let main_v45 : FVec F S1x512 .f32 := broadcastInDim S1x512 ![] bcast_S_S1x512 main_cst_14
  let main_v46 : IVec S1x512 1 := cmpf .olt main_v44 main_v45
  let main_c_15 : IVec S_ 1 := constantI S_ 1 1#1
  let main_v47 : IVec S_ 1 := (fun x v => Host.reduce IntOp.andi x v reducesTo_S1x512_S_d0_1 h_S_) main_v46 main_c_15
  let main_v48 : IVec S_ 1 := andi main_v43 main_v47
  let main_v49 : FVec F S1x512 .f32 := Host.absf main_arg9
  let main_cst_16 : FVec F S_ .f32 := constant S_ .f32 0x7F800000#32
  let main_v50 : FVec F S1x512 .f32 := broadcastInDim S1x512 ![] bcast_S_S1x512 main_cst_16
  let main_v51 : IVec S1x512 1 := cmpf .olt main_v49 main_v50
  let main_c_17 : IVec S_ 1 := constantI S_ 1 1#1
  fn_part3 (F := F) main_v48 main_v51 main_c_17

def fn_part1 {F : FTy → Type} [FloatOps F] (main_arg4 : FVec F S256x1024 .bf16) (main_arg5 : FVec F S512x1024 .bf16) (main_arg6 : FVec F S4x128x128 .f32) (main_arg7 : FVec F S4x128 .f32) (main_arg8 : FVec F S1x512 .f32) (main_arg9 : FVec F S1x512 .f32) (main_v15 : IVec S_ 1) (main_v17 : FVec F S1024x1024 .f32) : IVec S_ 1 :=
  let main_cst_4 : FVec F S_ .f32 := constant S_ .f32 0x7F800000#32
  let main_v18 : FVec F S1024x1024 .f32 := broadcastInDim S1024x1024 ![] bcast_S_S1024x1024 main_cst_4
  let main_v19 : IVec S1024x1024 1 := cmpf .olt main_v17 main_v18
  let main_c_5 : IVec S_ 1 := constantI S_ 1 1#1
  let main_v20 : IVec S_ 1 := (fun x v => Host.reduce IntOp.andi x v reducesTo_S1024x1024_S_d0_1 h_S_) main_v19 main_c_5
  let main_v21 : IVec S_ 1 := andi main_v15 main_v20
  let main_v22 : FVec F S256x1024 .f32 := (extf .f32 · bitsLt_bf16_f32) main_arg4
  let main_v23 : FVec F S256x1024 .f32 := Host.absf main_v22
  let main_cst_6 : FVec F S_ .f32 := constant S_ .f32 0x7F800000#32
  let main_v24 : FVec F S256x1024 .f32 := broadcastInDim S256x1024 ![] bcast_S_S256x1024 main_cst_6
  let main_v25 : IVec S256x1024 1 := cmpf .olt main_v23 main_v24
  let main_c_7 : IVec S_ 1 := constantI S_ 1 1#1
  let main_v26 : IVec S_ 1 := (fun x v => Host.reduce IntOp.andi x v reducesTo_S256x1024_S_d0_1 h_S_) main_v25 main_c_7
  let main_v27 : IVec S_ 1 := andi main_v21 main_v26
  let main_v28 : FVec F S512x1024 .f32 := (extf .f32 · bitsLt_bf16_f32) main_arg5
  let main_v29 : FVec F S512x1024 .f32 := Host.absf main_v28
  let main_cst_8 : FVec F S_ .f32 := constant S_ .f32 0x7F800000#32
  let main_v30 : FVec F S512x1024 .f32 := broadcastInDim S512x1024 ![] bcast_S_S512x1024 main_cst_8
  let main_v31 : IVec S512x1024 1 := cmpf .olt main_v29 main_v30
  let main_c_9 : IVec S_ 1 := constantI S_ 1 1#1
  let main_v32 : IVec S_ 1 := (fun x v => Host.reduce IntOp.andi x v reducesTo_S512x1024_S_d0_1 h_S_) main_v31 main_c_9
  let main_v33 : IVec S_ 1 := andi main_v27 main_v32
  let main_v34 : FVec F S4x128x128 .f32 := Host.absf main_arg6
  let main_cst_10 : FVec F S_ .f32 := constant S_ .f32 0x7F800000#32
  fn_part2 (F := F) main_arg7 main_arg8 main_arg9 main_v33 main_v34 main_cst_10

def fn {F : FTy → Type} [FloatOps F] (main_arg0 : FVec F S8192x1024 .bf16) (main_arg1 : FVec F S8192x256 .f32) (main_arg2 : FVec F S8192x3072 .bf16) (main_arg3 : FVec F S1024x1024 .bf16) (main_arg4 : FVec F S256x1024 .bf16) (main_arg5 : FVec F S512x1024 .bf16) (main_arg6 : FVec F S4x128x128 .f32) (main_arg7 : FVec F S4x128 .f32) (main_arg8 : FVec F S1x512 .f32) (main_arg9 : FVec F S1x512 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := Host.absf main_arg1
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_c_1 : IVec S_ 1 := constantI S_ 1 1#1
  let main_v8 : IVec S_ 1 := (fun x v => Host.reduce IntOp.andi x v reducesTo_S8192x256_S_d0_1 h_S_) main_v7 main_c_1
  let main_v9 : IVec S_ 1 := andi main_v4 main_v8
  let main_v10 : FVec F S8192x3072 .f32 := (extf .f32 · bitsLt_bf16_f32) main_arg2
  let main_v11 : FVec F S8192x3072 .f32 := Host.absf main_v10
  let main_cst_2 : FVec F S_ .f32 := constant S_ .f32 0x7F800000#32
  let main_v12 : FVec F S8192x3072 .f32 := broadcastInDim S8192x3072 ![] bcast_S_S8192x3072 main_cst_2
  let main_v13 : IVec S8192x3072 1 := cmpf .olt main_v11 main_v12
  let main_c_3 : IVec S_ 1 := constantI S_ 1 1#1
  let main_v14 : IVec S_ 1 := (fun x v => Host.reduce IntOp.andi x v reducesTo_S8192x3072_S_d0_1 h_S_) main_v13 main_c_3
  let main_v15 : IVec S_ 1 := andi main_v9 main_v14
  let main_v16 : FVec F S1024x1024 .f32 := (extf .f32 · bitsLt_bf16_f32) main_arg3
  let main_v17 : FVec F S1024x1024 .f32 := Host.absf main_v16
  fn_part1 (F := F) main_arg4 main_arg5 main_arg6 main_arg7 main_arg8 main_arg9 main_v15 main_v17
-- ==== Pre_mlp_finite.lean ====
abbrev S8192x1024 : Shape := ⟨2, ![8192, 1024]⟩
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v32 : IVec S_ 1) (main_v33 : FVec F S1x1024 .f32) (main_v34 : FVec F S1x1024 .f32) : IVec S_ 1 :=
  let main_v35 : IVec S1x1024 1 := cmpf .olt main_v33 main_v34
  let main_c_11 : IVec S_ 1 := constantI S_ 1 1#1
  let main_v36 : IVec S_ 1 := (fun x v => Host.reduce IntOp.andi x v reducesTo_S1x1024_S_d0_1 h_S_) main_v35 main_c_11
  let main_v37 : IVec S_ 1 := andi main_v32 main_v36
  let main_v38 : FVec F S1x1024 .f32 := Host.absf main_arg7
  let main_cst_12 : FVec F S_ .f32 := constant S_ .f32 0x7F800000#32
  let main_v39 : FVec F S1x1024 .f32 := broadcastInDim S1x1024 ![] bcast_S_S1x1024 main_cst_12
  let main_v40 : IVec S1x1024 1 := cmpf .olt main_v38 main_v39
  let main_c_13 : IVec S_ 1 := constantI S_ 1 1#1
  let main_v41 : IVec S_ 1 := (fun x v => Host.reduce IntOp.andi x v reducesTo_S1x1024_S_d0_1 h_S_) main_v40 main_c_13
  let main_v42 : IVec S_ 1 := andi main_v37 main_v41
  main_v42

def fn_part1 {F : FTy → Type} [FloatOps F] (main_arg4 : FVec F S8192x1024 .f32) (main_arg5 : FVec F S8192x1024 .bf16) (main_arg6 : FVec F S1x1024 .f32) (main_arg7 : FVec F S1x1024 .f32) (main_v16 : IVec S_ 1) (main_v17 : FVec F S8192x1024 .f32) : IVec S_ 1 :=
  let main_cst_4 : FVec F S_ .f32 := constant S_ .f32 0x7F800000#32
  let main_v18 : FVec F S8192x1024 .f32 := broadcastInDim S8192x1024 ![] bcast_S_S8192x1024 main_cst_4
  let main_v19 : IVec S8192x1024 1 := cmpf .olt main_v17 main_v18
  let main_c_5 : IVec S_ 1 := constantI S_ 1 1#1
  let main_v20 : IVec S_ 1 := (fun x v => Host.reduce IntOp.andi x v reducesTo_S8192x1024_S_d0_1 h_S_) main_v19 main_c_5
  let main_v21 : IVec S_ 1 := andi main_v16 main_v20
  let main_v22 : FVec F S8192x1024 .f32 := Host.absf main_arg4
  let main_cst_6 : FVec F S_ .f32 := constant S_ .f32 0x7F800000#32
  let main_v23 : FVec F S8192x1024 .f32 := broadcastInDim S8192x1024 ![] bcast_S_S8192x1024 main_cst_6
  let main_v24 : IVec S8192x1024 1 := cmpf .olt main_v22 main_v23
  let main_c_7 : IVec S_ 1 := constantI S_ 1 1#1
  let main_v25 : IVec S_ 1 := (fun x v => Host.reduce IntOp.andi x v reducesTo_S8192x1024_S_d0_1 h_S_) main_v24 main_c_7
  let main_v26 : IVec S_ 1 := andi main_v21 main_v25
  let main_v27 : FVec F S8192x1024 .f32 := (extf .f32 · bitsLt_bf16_f32) main_arg5
  let main_v28 : FVec F S8192x1024 .f32 := Host.absf main_v27
  let main_cst_8 : FVec F S_ .f32 := constant S_ .f32 0x7F800000#32
  let main_v29 : FVec F S8192x1024 .f32 := broadcastInDim S8192x1024 ![] bcast_S_S8192x1024 main_cst_8
  let main_v30 : IVec S8192x1024 1 := cmpf .olt main_v28 main_v29
  let main_c_9 : IVec S_ 1 := constantI S_ 1 1#1
  let main_v31 : IVec S_ 1 := (fun x v => Host.reduce IntOp.andi x v reducesTo_S8192x1024_S_d0_1 h_S_) main_v30 main_c_9
  let main_v32 : IVec S_ 1 := andi main_v26 main_v31
  let main_v33 : FVec F S1x1024 .f32 := Host.absf main_arg6
  let main_cst_10 : FVec F S_ .f32 := constant S_ .f32 0x7F800000#32
  let main_v34 : FVec F S1x1024 .f32 := broadcastInDim S1x1024 ![] bcast_S_S1x1024 main_cst_10
  fn_part2 (F := F) main_arg7 main_v32 main_v33 main_v34

def fn {F : FTy → Type} [FloatOps F] (main_arg0 : FVec F S8192x1024 .bf16) (main_arg1 : FVec F S4096x1024 .bf16) (main_arg2 : FVec F S1024x4096 .bf16) (main_arg3 : FVec F S8192x1024 .f32) (main_arg4 : FVec F S8192x1024 .f32) (main_arg5 : FVec F S8192x1024 .bf16) (main_arg6 : FVec F S1x1024 .f32) (main_arg7 : FVec F S1x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S1024x4096 .f32 := (extf .f32 · bitsLt_bf16_f32) main_arg2
  let main_v12 : FVec F S1024x4096 .f32 := Host.absf main_v11
  let main_cst_2 : FVec F S_ .f32 := constant S_ .f32 0x7F800000#32
  let main_v13 : FVec F S1024x4096 .f32 := broadcastInDim S1024x4096 ![] bcast_S_S1024x4096 main_cst_2
  let main_v14 : IVec S1024x4096 1 := cmpf .olt main_v12 main_v13
  let main_c_3 : IVec S_ 1 := constantI S_ 1 1#1
  let main_v15 : IVec S_ 1 := (fun x v => Host.reduce IntOp.andi x v reducesTo_S1024x4096_S_d0_1 h_S_) main_v14 main_c_3
  let main_v16 : IVec S_ 1 := andi main_v10 main_v15
  let main_v17 : FVec F S8192x1024 .f32 := Host.absf main_arg3
  fn_part1 (F := F) main_arg4 main_arg5 main_arg6 main_arg7 main_v16 main_v17
-- ==== Kernel.lean ====
abbrev S8192x1024 : Shape := ⟨2, ![8192, 1024]⟩
abbrev S8192x256 : Shape := ⟨2, ![8192, 256]⟩
abbrev S8192x3072 : Shape := ⟨2, ![8192, 3072]⟩
abbrev S1024x1024 : Shape := ⟨2, ![1024, 1024]⟩
abbrev S256x1024 : Shape := ⟨2, ![256, 1024]⟩
abbrev S512x1024 : Shape := ⟨2, ![512, 1024]⟩
abbrev S4x128x128 : Shape := ⟨3, ![4, 128, 128]⟩
abbrev S4x128 : Shape := ⟨2, ![4, 128]⟩
abbrev S1x512 : Shape := ⟨2, ![1, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S4x128x1 : Shape := ⟨3, ![4, 128, 1]⟩
abbrev S2048x1024 : Shape := ⟨2, ![2048, 1024]⟩
abbrev S512x4096 : Shape := ⟨2, ![512, 4096]⟩
abbrev S4x256x256 : Shape := ⟨3, ![4, 256, 256]⟩
abbrev S4x512x256 : Shape := ⟨3, ![4, 512, 256]⟩
abbrev S256x256 : Shape := ⟨2, ![256, 256]⟩
abbrev S256x512 : Shape := ⟨2, ![256, 512]⟩
abbrev S64x1024 : Shape := ⟨2, ![64, 1024]⟩
abbrev S16x4096 : Shape := ⟨2, ![16, 4096]⟩
abbrev S256x3072 : Shape := ⟨2, ![256, 3072]⟩
abbrev S2x256x128 : Shape := ⟨3, ![2, 256, 128]⟩
abbrev S1x256x256 : Shape := ⟨3, ![1, 256, 256]⟩
abbrev S1x512x256 : Shape := ⟨3, ![1, 512, 256]⟩
abbrev S512x256 : Shape := ⟨2, ![512, 256]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S1x16x128 : Shape := ⟨3, ![1, 16, 128]⟩
abbrev S16x128 : Shape := ⟨2, ![16, 128]⟩
abbrev S256 : Shape := ⟨1, ![256]⟩
abbrev S256x1 : Shape := ⟨2, ![256, 1]⟩
abbrev S1x128x1 : Shape := ⟨3, ![1, 128, 1]⟩
abbrev S128x1 : Shape := ⟨2, ![128, 1]⟩
abbrev S128 : Shape := ⟨1, ![128]⟩
abbrev S512 : Shape := ⟨1, ![512]⟩

abbrev nBuf : Space → Nat
  | .hbm => 145
  | .vmem => 41
  | .smem => 0
  | _ => 0

abbrev hbmTy0_0 (i : Nat) : BufTy := match i % 128 with
  | 0 => ⟨S8192x1024, .bf16⟩
  | 1 => ⟨S8192x256, .f32⟩
  | 2 => ⟨S8192x3072, .bf16⟩
  | 3 => ⟨S1024x1024, .bf16⟩
  | 4 => ⟨S256x1024, .bf16⟩
  | 5 => ⟨S512x1024, .bf16⟩
  | 6 => ⟨S4x128x128, .f32⟩
  | 7 => ⟨S4x128, .f32⟩
  | 8 => ⟨S1x512, .f32⟩
  | 9 => ⟨S1x512, .f32⟩
  | 10 => ⟨S8192x3072, .f32⟩
  | 11 => ⟨S8192x512, .f32⟩
  | 12 => ⟨S8192x512, .f32⟩
  | 13 => ⟨S8192x1024, .f32⟩
  | 14 => ⟨S8192x1024, .f32⟩
  | 15 => ⟨S256x1024, .f32⟩
  | 16 => ⟨S512x1024, .f32⟩
  | 17 => ⟨S_, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S_, .f32⟩
  | 38 => ⟨S8192x512, .f32⟩
  | 39 => ⟨S_, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S_, .f32⟩
  | 47 => ⟨S8192x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192, .f32⟩
  | 75 => ⟨S8192x1, .f32⟩
  | 76 => ⟨S_, .f32⟩
  | 77 => ⟨S8192x1, .f32⟩
  | 78 => ⟨S8192x1, .f32⟩
  | 79 => ⟨S8192x512, .f32⟩
  | 80 => ⟨S8192x512, .f32⟩
  | 81 => ⟨S8192x512, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S8192x512, .f32⟩
  | 89 => ⟨S8192x512, .f32⟩
  | 90 => ⟨S_, .f32⟩
  | 91 => ⟨S8192x1, .f32⟩
  | 92 => ⟨S8192x1, .f32⟩
  | 93 => ⟨S8192x1, .f32⟩
  | 94 => ⟨S8192x512, .f32⟩
  | 95 => ⟨S8192x512, .f32⟩
  | 96 => ⟨S8192x512, .f32⟩
  | 97 => ⟨S8192x512, .f32⟩
  | 98 => ⟨S8192x512, .f32⟩
  | 99 => ⟨S8192x512, .f32⟩
  | 100 => ⟨S64x128x4x128, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S1x128x128, .i1⟩
  | 113 => ⟨S_, .f32⟩
  | 114 => ⟨S4x128x128, .f32⟩
  | 115 => ⟨S4x128x128, .i1⟩
  | 116 => ⟨S4x128x128, .f32⟩
  | 117 => ⟨S4x64x128x128, .f32⟩
  | 118 => ⟨S64x128x4x128, .f32⟩
  | 119 => ⟨S128x4, .f32⟩
  | 120 => ⟨S1x128x4x1, .f32⟩
  | 121 => ⟨S64x128x4x128, .f32⟩
  | 122 => ⟨S64x128x4x128, .f32⟩
  | 123 => ⟨S64x128x4x128, .f32⟩
  | 124 => ⟨S64x128x4x128, .f32⟩
  | 125 => ⟨S8192x512, .f32⟩
  | 126 => ⟨S8192x1024, .f32⟩
  | 127 => ⟨S8192x1024, .f32⟩
  | _ => ⟨S8192x1024, .bf16⟩

abbrev hbmTy0_1 (i : Nat) : BufTy := match i % 128 with
  | 0 => ⟨S8192x1024, .f32⟩
  | 1 => ⟨S8192x1024, .f32⟩
  | 2 => ⟨S8192x1024, .f32⟩
  | 3 => ⟨S4x128x1, .f32⟩
  | 4 => ⟨S8192x512, .bf16⟩
  | 5 => ⟨S8192x1024, .bf16⟩
  | 6 => ⟨S8192x256, .f32⟩
  | 7 => ⟨S2048x1024, .f32⟩
  | 8 => ⟨S512x4096, .f32⟩
  | 9 => ⟨S8192x3072, .bf16⟩
  | 10 => ⟨S1024x1024, .f32⟩
  | 11 => ⟨S4x256x256, .f32⟩
  | 12 => ⟨S4x512x256, .f32⟩
  | 13 => ⟨S4x128x128, .f32⟩
  | 14 => ⟨S4x128x128, .f32⟩
  | 15 => ⟨S1x512, .f32⟩
  | 16 => ⟨S1x512, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x256, .f32⟩
  | .local _ .vmem, ⟨3, _⟩ => ⟨S256x256, .f32⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S256x1024, .bf16⟩
  | .local _ .vmem, ⟨18, _⟩ => ⟨S512x1024, .bf16⟩
  | .local _ .vmem, ⟨19, _⟩ => ⟨S4x128x128, .f32⟩
  | .local _ .vmem, ⟨20, _⟩ => ⟨S4x128x1, .f32⟩
  | .local _ .vmem, ⟨21, _⟩ => ⟨S1x512, .f32⟩
  | .local _ .vmem, ⟨22, _⟩ => ⟨S1x512, .f32⟩
  | .local _ .vmem, ⟨23, _⟩ => ⟨S256x256, .f32⟩
  | .local _ .vmem, ⟨24, _⟩ => ⟨S256x256, .f32⟩
  | .local _ .vmem, ⟨25, _⟩ => ⟨S64x1024, .f32⟩
  | .local _ .vmem, ⟨26, _⟩ => ⟨S64x1024, .f32⟩
  | .local _ .vmem, ⟨27, _⟩ => ⟨S16x4096, .f32⟩
  | .local _ .vmem, ⟨28, _⟩ => ⟨S16x4096, .f32⟩
  | .local _ .vmem, ⟨29, _⟩ => ⟨S256x3072, .bf16⟩
  | .local _ .vmem, ⟨30, _⟩ => ⟨S256x3072, .bf16⟩
  | .local _ .vmem, ⟨31, _⟩ => ⟨S1024x1024, .f32⟩
  | .local _ .vmem, ⟨32, _⟩ => ⟨S4x256x256, .f32⟩
  | .local _ .vmem, ⟨33, _⟩ => ⟨S4x512x256, .f32⟩
  | .local _ .vmem, ⟨34, _⟩ => ⟨S4x128x128, .f32⟩
  | .local _ .vmem, ⟨35, _⟩ => ⟨S4x128x128, .f32⟩
  | .local _ .vmem, ⟨36, _⟩ => ⟨S1x512, .f32⟩
  | .local _ .vmem, ⟨37, _⟩ => ⟨S1x512, .f32⟩
  | .local _ .vmem, ⟨38, _⟩ => ⟨S256x512, .f32⟩
  | .local _ .vmem, ⟨39, _⟩ => ⟨S256x512, .f32⟩
  | .local _ .vmem, ⟨40, _⟩ => ⟨S2x256x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c : Ref sig .tc := ⟨.hbm, 101, rfl⟩
abbrev main_v72 : Ref sig .tc := ⟨.hbm, 102, rfl⟩
abbrev main_call0_v0 : Ref sig .tc := ⟨.hbm, 103, rfl⟩
abbrev main_call0_c : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_c_0 : Ref sig .tc := ⟨.hbm, 109, rfl⟩
abbrev main_call0_v5 : Ref sig .tc := ⟨.hbm, 110, rfl⟩
abbrev main_v73 : Ref sig .tc := ⟨.hbm, 111, rfl⟩
abbrev main_v74 : Ref sig .tc := ⟨.hbm, 112, rfl⟩
abbrev main_cst_18 : Ref sig .tc := ⟨.hbm, 113, rfl⟩
abbrev main_v75 : Ref sig .tc := ⟨.hbm, 114, rfl⟩
abbrev main_call1_v0 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94_0 : Ref sig .tc := ⟨.hbm, 134, rfl⟩
abbrev main_v94_1 : Ref sig .tc := ⟨.hbm, 135, rfl⟩
abbrev main_v94_2 : Ref sig .tc := ⟨.hbm, 136, rfl⟩
abbrev main_v94_3 : Ref sig .tc := ⟨.hbm, 137, rfl⟩
abbrev main_v94_4 : Ref sig .tc := ⟨.hbm, 138, rfl⟩
abbrev main_v94_5 : Ref sig .tc := ⟨.hbm, 139, rfl⟩
abbrev main_v94_6 : Ref sig .tc := ⟨.hbm, 140, rfl⟩
abbrev main_v94_7 : Ref sig .tc := ⟨.hbm, 141, rfl⟩
abbrev main_v94_8 : Ref sig .tc := ⟨.hbm, 142, rfl⟩
abbrev main_v94_9 : Ref sig .tc := ⟨.hbm, 143, rfl⟩
abbrev main_v94_10 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x3072 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x512x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== KernelIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== ReferenceIdeal.lean ====
abbrev S8192x1024 : Shape := ⟨2, ![8192, 1024]⟩
abbrev S8192x256 : Shape := ⟨2, ![8192, 256]⟩
abbrev S8192x3072 : Shape := ⟨2, ![8192, 3072]⟩
abbrev S1024x1024 : Shape := ⟨2, ![1024, 1024]⟩
abbrev S256x1024 : Shape := ⟨2, ![256, 1024]⟩
abbrev S512x1024 : Shape := ⟨2, ![512, 1024]⟩
abbrev S4x128x128 : Shape := ⟨3, ![4, 128, 128]⟩
abbrev S4x128 : Shape := ⟨2, ![4, 128]⟩
abbrev S1x512 : Shape := ⟨2, ![1, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S1024x512 : Shape := ⟨2, ![1024, 512]⟩
abbrev S1024x256 : Shape := ⟨2, ![1024, 256]⟩
abbrev S512 : Shape := ⟨1, ![512]⟩
abbrev S8192x2048 : Shape := ⟨2, ![8192, 2048]⟩
abbrev S2048x1024 : Shape := ⟨2, ![2048, 1024]⟩
abbrev S512x4096 : Shape := ⟨2, ![512, 4096]⟩
abbrev S256x4x256 : Shape := ⟨3, ![256, 4, 256]⟩
abbrev S4x256x256 : Shape := ⟨3, ![4, 256, 256]⟩
abbrev S512x4x256 : Shape := ⟨3, ![512, 4, 256]⟩
abbrev S4x512x256 : Shape := ⟨3, ![4, 512, 256]⟩
abbrev S4x128x1 : Shape := ⟨3, ![4, 128, 1]⟩

abbrev nBuf : Space → Nat
  | .hbm => 284
  | .vmem => 0
  | .smem => 0
  | _ => 0

abbrev hbmTy0_0 (i : Nat) : BufTy := match i % 128 with
  | 0 => ⟨S8192x1024, .bf16⟩
  | 1 => ⟨S8192x256, .f32⟩
  | 2 => ⟨S8192x3072, .bf16⟩
  | 3 => ⟨S1024x1024, .bf16⟩
  | 4 => ⟨S256x1024, .bf16⟩
  | 5 => ⟨S512x1024, .bf16⟩
  | 6 => ⟨S4x128x128, .f32⟩
  | 7 => ⟨S4x128, .f32⟩
  | 8 => ⟨S1x512, .f32⟩
  | 9 => ⟨S1x512, .f32⟩
  | 10 => ⟨S8192x3072, .f32⟩
  | 11 => ⟨S8192x512, .f32⟩
  | 12 => ⟨S8192x512, .f32⟩
  | 13 => ⟨S8192x1024, .f32⟩
  | 14 => ⟨S8192x1024, .f32⟩
  | 15 => ⟨S256x1024, .f32⟩
  | 16 => ⟨S512x1024, .f32⟩
  | 17 => ⟨S1024x1024, .f32⟩
  | 18 => ⟨S_, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S_, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S8192x512, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S8192x1024, .f32⟩
  | 104 => ⟨S_, .f32⟩
  | 105 => ⟨S8192, .f32⟩
  | 106 => ⟨S8192x1, .f32⟩
  | 107 => ⟨S_, .f32⟩
  | 108 => ⟨S8192x1, .f32⟩
  | 109 => ⟨S8192x1, .f32⟩
  | 110 => ⟨S8192x512, .f32⟩
  | 111 => ⟨S8192x512, .f32⟩
  | 112 => ⟨S8192x512, .f32⟩
  | 113 => ⟨S_, .f32⟩
  | 114 => ⟨S8192x512, .f32⟩
  | 115 => ⟨S8192x512, .f32⟩
  | 116 => ⟨S_, .f32⟩
  | 117 => ⟨S8192, .f32⟩
  | 118 => ⟨S8192x1, .f32⟩
  | 119 => ⟨S_, .f32⟩
  | 120 => ⟨S8192x1, .f32⟩
  | 121 => ⟨S8192x1, .f32⟩
  | 122 => ⟨S8192x512, .f32⟩
  | 123 => ⟨S8192x512, .f32⟩
  | 124 => ⟨S_, .f32⟩
  | 125 => ⟨S8192x1, .f32⟩
  | 126 => ⟨S8192x1, .f32⟩
  | 127 => ⟨S8192x1, .f32⟩
  | _ => ⟨S8192x1024, .bf16⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S64x128x4x128, .f32⟩
  | 11 => ⟨S_, .i1⟩
  | 12 => ⟨S128x128, .i1⟩
  | 13 => ⟨S128x128, .i32⟩
  | 14 => ⟨S_, .i32⟩
  | 15 => ⟨S128x128, .i32⟩
  | 16 => ⟨S128x128, .i32⟩
  | 17 => ⟨S128x128, .i32⟩
  | 18 => ⟨S128x128, .i1⟩
  | 19 => ⟨S_, .i1⟩
  | 20 => ⟨S128x128, .i1⟩
  | 21 => ⟨S128x128, .i1⟩
  | 22 => ⟨S1x128x128, .i1⟩
  | 23 => ⟨S_, .f32⟩
  | 24 => ⟨S4x128x128, .f32⟩
  | 25 => ⟨S4x128x128, .i1⟩
  | 26 => ⟨S4x128x128, .f32⟩
  | 27 => ⟨S_, .f32⟩
  | 28 => ⟨S4x128x128, .f32⟩
  | 29 => ⟨S4x64x128x128, .f32⟩
  | 30 => ⟨S64x128x4x128, .f32⟩
  | 31 => ⟨S128x4, .f32⟩
  | 32 => ⟨S1x128x4x1, .f32⟩
  | 33 => ⟨S64x128x4x128, .f32⟩
  | 34 => ⟨S64x128x4x128, .f32⟩
  | 35 => ⟨S64x128x4x128, .f32⟩
  | 36 => ⟨S64x128x4x128, .f32⟩
  | 37 => ⟨S8192x512, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S1024x1024, .f32⟩
  | 46 => ⟨S1024x1024, .f32⟩
  | 47 => ⟨S8192x1024, .f32⟩
  | 48 => ⟨S8192x1024, .f32⟩
  | 49 => ⟨S8192x1024, .f32⟩
  | 50 => ⟨S1024x512, .f32⟩
  | 51 => ⟨S512x1024, .f32⟩
  | 52 => ⟨S8192x512, .f32⟩
  | 53 => ⟨S8192x1024, .f32⟩
  | 54 => ⟨S8192x1024, .f32⟩
  | 55 => ⟨S1024x256, .f32⟩
  | 56 => ⟨S256x1024, .f32⟩
  | 57 => ⟨S8192x256, .f32⟩
  | 58 => ⟨S64x128x4x128, .f32⟩
  | 59 => ⟨S64x128x4x128, .f32⟩
  | 60 => ⟨S64x128x4x128, .f32⟩
  | 61 => ⟨S8192x512, .f32⟩
  | 62 => ⟨S_, .f32⟩
  | 63 => ⟨S128x4, .f32⟩
  | 64 => ⟨S1x128x4x1, .f32⟩
  | 65 => ⟨S_, .f32⟩
  | 66 => ⟨S128x4, .f32⟩
  | 67 => ⟨S4x128, .f32⟩
  | 68 => ⟨S4x64x128x128, .f32⟩
  | 69 => ⟨S4x128x128, .f32⟩
  | 70 => ⟨S4x64x128x128, .f32⟩
  | 71 => ⟨S64x128x4x128, .f32⟩
  | 72 => ⟨S_, .f32⟩
  | 73 => ⟨S4x128x128, .f32⟩
  | 74 => ⟨S4x128x128, .f32⟩
  | 75 => ⟨S8192x512, .f32⟩
  | 76 => ⟨S_, .f32⟩
  | 77 => ⟨S512, .f32⟩
  | 78 => ⟨S1x512, .f32⟩
  | 79 => ⟨S8192x512, .f32⟩
  | 80 => ⟨S_, .f32⟩
  | 81 => ⟨S512, .f32⟩
  | 82 => ⟨S1x512, .f32⟩
  | 83 => ⟨S8192x512, .f32⟩
  | 84 => ⟨S8192x512, .f32⟩
  | 85 => ⟨S8192x512, .f32⟩
  | 86 => ⟨S_, .f32⟩
  | 87 => ⟨S8192, .f32⟩
  | 88 => ⟨S8192x1, .f32⟩
  | 89 => ⟨S8192x512, .f32⟩
  | 90 => ⟨S8192x512, .f32⟩
  | 91 => ⟨S8192x1, .f32⟩
  | 92 => ⟨S8192x512, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192, .f32⟩
  | 101 => ⟨S8192x512, .f32⟩
  | 102 => ⟨S8192x512, .f32⟩
  | 103 => ⟨S8192x512, .f32⟩
  | 104 => ⟨S_, .f32⟩
  | 105 => ⟨S8192, .f32⟩
  | 106 => ⟨S8192x1, .f32⟩
  | 107 => ⟨S8192x512, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x512, .f32⟩
  | 115 => ⟨S8192x512, .f32⟩
  | 116 => ⟨S8192x1024, .f32⟩
  | 117 => ⟨S8192x1024, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S8192x512, .f32⟩
  | _ => ⟨S8192x1024, .bf16⟩

abbrev hbmTy0_2 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S_, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S8192x1024, .f32⟩
  | 17 => ⟨S8192x2048, .f32⟩
  | 18 => ⟨S8192x3072, .f32⟩
  | 19 => ⟨S2048x1024, .f32⟩
  | 20 => ⟨S512x4096, .f32⟩
  | 21 => ⟨S8192x3072, .bf16⟩
  | 22 => ⟨S256x4x256, .f32⟩
  | 23 => ⟨S4x256x256, .f32⟩
  | 24 => ⟨S512x4x256, .f32⟩
  | 25 => ⟨S4x512x256, .f32⟩
  | 26 => ⟨S4x128x1, .f32⟩
  | 27 => ⟨S4x128x128, .f32⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_18 : Ref sig .tc := ⟨.hbm, 94, rfl⟩
abbrev main_v65 : Ref sig .tc := ⟨.hbm, 95, rfl⟩
abbrev main_v66 : Ref sig .tc := ⟨.hbm, 96, rfl⟩
abbrev main_cst_19 : Ref sig .tc := ⟨.hbm, 97, rfl⟩
abbrev main_v67 : Ref sig .tc := ⟨.hbm, 98, rfl⟩
abbrev main_v68 : Ref sig .tc := ⟨.hbm, 99, rfl⟩
abbrev main_cst_20 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_21 : Ref sig .tc := ⟨.hbm, 104, rfl⟩
abbrev main_v72 : Ref sig .tc := ⟨.hbm, 105, rfl⟩
abbrev main_v73 : Ref sig .tc := ⟨.hbm, 106, rfl⟩
abbrev main_cst_22 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_23 : Ref sig .tc := ⟨.hbm, 113, rfl⟩
abbrev main_v79 : Ref sig .tc := ⟨.hbm, 114, rfl⟩
abbrev main_v80 : Ref sig .tc := ⟨.hbm, 115, rfl⟩
abbrev main_cst_24 : Ref sig .tc := ⟨.hbm, 116, rfl⟩
abbrev main_v81 : Ref sig .tc := ⟨.hbm, 117, rfl⟩
abbrev main_v82 : Ref sig .tc := ⟨.hbm, 118, rfl⟩
abbrev main_cst_25 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_26 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_27 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c : Ref sig .tc := ⟨.hbm, 139, rfl⟩
abbrev main_v100 : Ref sig .tc := ⟨.hbm, 140, rfl⟩
abbrev main_call0_v0 : Ref sig .tc := ⟨.hbm, 141, rfl⟩
abbrev main_call0_c : Ref sig .tc := ⟨.hbm, 142, rfl⟩
abbrev main_call0_v1 : Ref sig .tc := ⟨.hbm, 143, rfl⟩
abbrev main_call0_v2 : Ref sig .tc := ⟨.hbm, 144, rfl⟩
abbrev main_call0_v3 : Ref sig .tc := ⟨.hbm, 145, rfl⟩
abbrev main_call0_v4 : Ref sig .tc := ⟨.hbm, 146, rfl⟩
abbrev main_call0_c_0 : Ref sig .tc := ⟨.hbm, 147, rfl⟩
abbrev main_call0_v5 : Ref sig .tc := ⟨.hbm, 148, rfl⟩
abbrev main_v101 : Ref sig .tc := ⟨.hbm, 149, rfl⟩
abbrev main_v102 : Ref sig .tc := ⟨.hbm, 150, rfl⟩
abbrev main_cst_28 : Ref sig .tc := ⟨.hbm, 151, rfl⟩
abbrev main_v103 : Ref sig .tc := ⟨.hbm, 152, rfl⟩
abbrev main_v104_1 : Ref sig .tc := ⟨.hbm, 153, rfl⟩
abbrev main_v104_0 : Ref sig .tc := ⟨.hbm, 154, rfl⟩
abbrev main_call1_cst : Ref sig .tc := ⟨.hbm, 155, rfl⟩
abbrev main_v104_2 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_29 : Ref sig .tc := ⟨.hbm, 190, rfl⟩
abbrev main_v138 : Ref sig .tc := ⟨.hbm, 191, rfl⟩
abbrev main_v139 : Ref sig .tc := ⟨.hbm, 192, rfl⟩
abbrev main_cst_30 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_call2_cst : Ref sig .tc := ⟨.hbm, 200, rfl⟩
abbrev main_call2_v0 : Ref sig .tc := ⟨.hbm, 201, rfl⟩
abbrev main_v146 : Ref sig .tc := ⟨.hbm, 202, rfl⟩
abbrev main_v147 : Ref sig .tc := ⟨.hbm, 203, rfl⟩
abbrev main_cst_31 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_32 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_33 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_34 : Ref sig .tc := ⟨.hbm, 221, rfl⟩
abbrev main_v162 : Ref sig .tc := ⟨.hbm, 222, rfl⟩
abbrev main_v163 : Ref sig .tc := ⟨.hbm, 223, rfl⟩
abbrev main_cst_35 : Ref sig .tc := ⟨.hbm, 224, rfl⟩
abbrev main_v164 : Ref sig .tc := ⟨.hbm, 225, rfl⟩
abbrev main_v165 : Ref sig .tc := ⟨.hbm, 226, rfl⟩
abbrev main_cst_36 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_37 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_cst_38 : Ref sig .tc := ⟨.hbm, 237, rfl⟩
abbrev main_v174 : Ref sig .tc := ⟨.hbm, 238, rfl⟩
abbrev main_v175 : Ref sig .tc := ⟨.hbm, 239, rfl⟩
abbrev main_cst_39 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_cst_40 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_cst_41 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_cst_42 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_43 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩

abbrev nD : Nat := 1
abbrev τ : Topo := Topo.v7x

variable {F : FTy → Type} [FloatOps F]

def κ : String → Option EReal := fun
  | "gelu_3k" => some ((26829 / 200000 : ℝ) : EReal)
  | "gelu_k" => some ((8943 / 200000 : ℝ) : EReal)
  | _ => none
-- ==== Mlp.lean ====
abbrev S8192x1024 : Shape := ⟨2, ![8192, 1024]⟩
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x1024 : Shape := ⟨2, ![512, 1024]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 34
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S1024x4096, .bf16⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S1024x4096, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .bf16⟩
  | .hbm, ⟨29, _⟩ => ⟨S8192x4096, .bf16⟩
  | .hbm, ⟨30, _⟩ => ⟨S8192x1024, .f32⟩
  | .hbm, ⟨31, _⟩ => ⟨S8192x1024, .bf16⟩
  | .hbm, ⟨32, _⟩ => ⟨S1x1024, .f32⟩
  | .hbm, ⟨33, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S1024x4096, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpReferenceIdeal.lean ====
abbrev S8192x1024 : Shape := ⟨2, ![8192, 1024]⟩
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S1024x4096, .bf16⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S4096x1024, .f32⟩
  | .hbm, ⟨10, _⟩ => ⟨S1024x4096, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .i1⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S8192x1024, .f32⟩
  | .hbm, ⟨104, _⟩ => ⟨S8192x1024, .f32⟩
  | .hbm, ⟨105, _⟩ => ⟨S8192x1, .f32⟩
  | .hbm, ⟨106, _⟩ => ⟨S_, .f32⟩
  | .hbm, ⟨107, _⟩ => ⟨S8192x1, .f32⟩
  | .hbm, ⟨108, _⟩ => ⟨S8192x1, .f32⟩
  | .hbm, ⟨109, _⟩ => ⟨S_, .f32⟩
  | .hbm, ⟨110, _⟩ => ⟨S8192, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x4096, .bf16⟩
  | .hbm, ⟨117, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_16 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== GradOut.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 27
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S1024x4096, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutReferenceIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S8192x1024, .f32⟩
  | .hbm, ⟨6, _⟩ => ⟨S1024x4096, .f32⟩
  | .hbm, ⟨7, _⟩ => ⟨S4096x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x1024, .f32⟩
  | .hbm, ⟨29, _⟩ => ⟨S1024x4096, .f32⟩
  | .hbm, ⟨30, _⟩ => ⟨S4096x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== GradIn.lean ====
abbrev S8192x4096 : Shape := ⟨2, ![8192, 4096]⟩
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1x1024, .f32⟩
  | .hbm, ⟨3, _⟩ => ⟨S1024x4096, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInReferenceIdeal.lean ====
abbrev S8192x4096 : Shape := ⟨2, ![8192, 4096]⟩
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1x1024, .f32⟩
  | .hbm, ⟨3, _⟩ => ⟨S1024x4096, .bf16⟩
  | .hbm, ⟨4, _⟩ => ⟨S8192x4096, .f32⟩
  | .hbm, ⟨5, _⟩ => ⟨S1024x4096, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S4096x1024, .f32⟩
  | .hbm, ⟨23, _⟩ => ⟨S1024x4096, .f32⟩
  | .hbm, ⟨24, _⟩ => ⟨S1024x4x1024, .f32⟩
  | .hbm, ⟨25, _⟩ => ⟨S4x1024x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== GradRest.lean ====
abbrev S8192x3072 : Shape := ⟨2, ![8192, 3072]⟩
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S1x1024, .f32⟩
  | .hbm, ⟨3, _⟩ => ⟨S1024x3072, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradRestReferenceIdeal.lean ====
abbrev S8192x3072 : Shape := ⟨2, ![8192, 3072]⟩
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S3072x1024 : Shape := ⟨2, ![3072, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S1x1024, .f32⟩
  | .hbm, ⟨3, _⟩ => ⟨S1024x3072, .bf16⟩
  | .hbm, ⟨4, _⟩ => ⟨S1024x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x3072, .f32⟩
  | .hbm, ⟨21, _⟩ => ⟨S8192x3072, .f32⟩
  | .hbm, ⟨22, _⟩ => ⟨S3072x1024, .f32⟩
  | .hbm, ⟨23, _⟩ => ⟨S1024x3072, .f32⟩
  | .hbm, ⟨24, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GradQkv0.lean ====
abbrev S8192x768 : Shape := ⟨2, ![8192, 768]⟩
abbrev S8192x1024 : Shape := ⟨2, ![8192, 1024]⟩
abbrev S1x1024 : Shape := ⟨2, ![1, 1024]⟩
abbrev S1024x768 : Shape := ⟨2, ![1024, 768]⟩
abbrev S_ : Shape := ⟨0, ![]⟩
abbrev S8192 : Shape := ⟨1, ![8192]⟩
abbrev S8192x1 : Shape := ⟨2, ![8192, 1]⟩
abbrev S768x1024 : Shape := ⟨2, ![768, 1024]⟩
abbrev S1024x1024 : Shape := ⟨2, ![1024, 1024]⟩

abbrev nBuf : Space → Nat
  | .hbm => 21
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x1024, .f32⟩
  | .hbm, ⟨2, _⟩ => ⟨S1x1024, .f32⟩
  | .hbm, ⟨3, _⟩ => ⟨S1024x768, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== GradQkv0Ideal.lean ====
abbrev S8192x768 : Shape := ⟨2, ![8192, 768]⟩
abbrev S8192x1024 : Shape := ⟨2, ![8192, 1024]⟩
abbrev S1x1024 : Shape := ⟨2, ![1, 1024]⟩
abbrev S1024x768 : Shape := ⟨2, ![1024, 768]⟩
abbrev S_ : Shape := ⟨0, ![]⟩
abbrev S8192 : Shape := ⟨1, ![8192]⟩
abbrev S8192x1 : Shape := ⟨2, ![8192, 1]⟩
abbrev S768x1024 : Shape := ⟨2, ![768, 1024]⟩
abbrev S1024x1024 : Shape := ⟨2, ![1024, 1024]⟩

abbrev nBuf : Space → Nat
  | .hbm => 21
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x1024, .f32⟩
  | .hbm, ⟨2, _⟩ => ⟨S1x1024, .f32⟩
  | .hbm, ⟨3, _⟩ => ⟨S1024x768, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== GradQkvReferenceIdeal.lean ====
abbrev S8192x768 : Shape := ⟨2, ![8192, 768]⟩
abbrev S8192x1024 : Shape := ⟨2, ![8192, 1024]⟩
abbrev S1x1024 : Shape := ⟨2, ![1, 1024]⟩
abbrev S1024x768 : Shape := ⟨2, ![1024, 768]⟩
abbrev S_ : Shape := ⟨0, ![]⟩
abbrev S8192 : Shape := ⟨1, ![8192]⟩
abbrev S8192x1 : Shape := ⟨2, ![8192, 1]⟩
abbrev S768x1024 : Shape := ⟨2, ![768, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .f32⟩
  | .hbm, ⟨2, _⟩ => ⟨S1x1024, .f32⟩
  | .hbm, ⟨3, _⟩ => ⟨S1024x768, .bf16⟩
  | .hbm, ⟨4, _⟩ => ⟨S1024x768, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x768, .f32⟩
  | .hbm, ⟨21, _⟩ => ⟨S8192x768, .f32⟩
  | .hbm, ⟨22, _⟩ => ⟨S768x1024, .f32⟩
  | .hbm, ⟨23, _⟩ => ⟨S1024x768, .f32⟩
  | .hbm, ⟨24, _⟩ => ⟨S768x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GradQkv1.lean ====
abbrev S8192x768 : Shape := ⟨2, ![8192, 768]⟩
abbrev S8192x1024 : Shape := ⟨2, ![8192, 1024]⟩
abbrev S1x1024 : Shape := ⟨2, ![1, 1024]⟩
abbrev S1024x768 : Shape := ⟨2, ![1024, 768]⟩
abbrev S_ : Shape := ⟨0, ![]⟩
abbrev S8192 : Shape := ⟨1, ![8192]⟩
abbrev S8192x1 : Shape := ⟨2, ![8192, 1]⟩
abbrev S2048x3072 : Shape := ⟨2, ![2048, 3072]⟩
abbrev S2048x4096 : Shape := ⟨2, ![2048, 4096]⟩
abbrev S768x1024 : Shape := ⟨2, ![768, 1024]⟩
abbrev S1024x1024 : Shape := ⟨2, ![1024, 1024]⟩

abbrev nBuf : Space → Nat
  | .hbm => 23
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x1024, .f32⟩
  | .hbm, ⟨2, _⟩ => ⟨S1x1024, .f32⟩
  | .hbm, ⟨3, _⟩ => ⟨S1024x768, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S2048x3072, .bf16⟩
  | .hbm, ⟨21, _⟩ => ⟨S2048x4096, .bf16⟩
  | .hbm, ⟨22, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== GradQkv1Ideal.lean ====
abbrev S8192x768 : Shape := ⟨2, ![8192, 768]⟩
abbrev S8192x1024 : Shape := ⟨2, ![8192, 1024]⟩
abbrev S1x1024 : Shape := ⟨2, ![1, 1024]⟩
abbrev S1024x768 : Shape := ⟨2, ![1024, 768]⟩
abbrev S_ : Shape := ⟨0, ![]⟩
abbrev S8192 : Shape := ⟨1, ![8192]⟩
abbrev S8192x1 : Shape := ⟨2, ![8192, 1]⟩
abbrev S2048x3072 : Shape := ⟨2, ![2048, 3072]⟩
abbrev S2048x4096 : Shape := ⟨2, ![2048, 4096]⟩
abbrev S768x1024 : Shape := ⟨2, ![768, 1024]⟩
abbrev S1024x1024 : Shape := ⟨2, ![1024, 1024]⟩

abbrev nBuf : Space → Nat
  | .hbm => 23
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x1024, .f32⟩
  | .hbm, ⟨2, _⟩ => ⟨S1x1024, .f32⟩
  | .hbm, ⟨3, _⟩ => ⟨S1024x768, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S2048x3072, .bf16⟩
  | .hbm, ⟨21, _⟩ => ⟨S2048x4096, .bf16⟩
  | .hbm, ⟨22, _⟩ => ⟨S768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== GradQkv2.lean ====
abbrev S8192x768 : Shape := ⟨2, ![8192, 768]⟩
abbrev S8192x1024 : Shape := ⟨2, ![8192, 1024]⟩
abbrev S1x1024 : Shape := ⟨2, ![1, 1024]⟩
abbrev S1024x768 : Shape := ⟨2, ![1024, 768]⟩
abbrev S_ : Shape := ⟨0, ![]⟩
abbrev S8192 : Shape := ⟨1, ![8192]⟩
abbrev S8192x1 : Shape := ⟨2, ![8192, 1]⟩
abbrev S512x12288 : Shape := ⟨2, ![512, 12288]⟩
abbrev S512x16384 : Shape := ⟨2, ![512, 16384]⟩
abbrev S768x1024 : Shape := ⟨2, ![768, 1024]⟩
abbrev S512x768 : Shape := ⟨2, ![512, 768]⟩
abbrev S512x1024 : Shape := ⟨2, ![512, 1024]⟩

abbrev nBuf : Space → Nat
  | .hbm => 23
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x1024, .f32⟩
  | .hbm, ⟨2, _⟩ => ⟨S1x1024, .f32⟩
  | .hbm, ⟨3, _⟩ => ⟨S1024x768, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S512x12288, .bf16⟩
  | .hbm, ⟨21, _⟩ => ⟨S512x16384, .bf16⟩
  | .hbm, ⟨22, _⟩ => ⟨S768x1024, .f32⟩
  | .local _ .vmem, ⟨0, _⟩ => ⟨S512x768, .bf16⟩
  | .local _ .vmem, ⟨1, _⟩ => ⟨S512x768, .bf16⟩
  | .local _ .vmem, ⟨2, _⟩ => ⟨S512x1024, .bf16⟩
  | .local _ .vmem, ⟨3, _⟩ => ⟨S512x1024, .bf16⟩
  | .local _ .vmem, ⟨4, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== AdamGain.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainIdeal.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1x1024x1344 : Shape := ⟨3, ![1, 1024, 1344]⟩
abbrev S1024x1344 : Shape := ⟨2, ![1024, 1344]⟩
abbrev S1344x1024 : Shape := ⟨2, ![1344, 1024]⟩
abbrev S224x1024 : Shape := ⟨2, ![224, 1024]⟩

abbrev nBuf : Space → Nat
  | .hbm => 16
  | .vmem => 16
  | .smem => 0
  | _ => 0

abbrev bufTy : (tb : Table) → Fin (tcTables nBuf tb) → BufTy
  | .hbm, ⟨0, _⟩ => ⟨S1x1024x1344, .f32⟩
  | .hbm, ⟨1, _⟩ => ⟨S1x1024x1344, .f32⟩
  | .hbm, ⟨2, _⟩ => ⟨S1x1024x1344, .f32⟩
  | .hbm, ⟨3, _⟩ => ⟨S1x1024x1344, .f32⟩
  | .hbm, ⟨4, _⟩ => ⟨S1024x1344, .f32⟩
  | .hbm, ⟨5, _⟩ => ⟨S1344x1024, .f32⟩
  | .hbm, ⟨6, _⟩ => ⟨S1024x1344, .f32⟩
  | .hbm, ⟨7, _⟩ => ⟨S1344x1024, .f32⟩
  | .hbm, ⟨8, _⟩ => ⟨S1024x1344, .f32⟩
  | .hbm, ⟨9, _⟩ => ⟨S1344x1024, .f32⟩
  | .hbm, ⟨10, _⟩ => ⟨S1024x1344, .f32⟩
  | .hbm, ⟨11, _⟩ => ⟨S1344x1024, .f32⟩
  | .hbm, ⟨12, _⟩ => ⟨S1344x1024, .f32⟩
  | .hbm, ⟨13, _⟩ => ⟨S1344x1024, .f32⟩
  | .hbm, ⟨14, _⟩ => ⟨S1344x1024, .f32⟩
  | .hbm, ⟨15, _⟩ => ⟨S1344x1024, .f32⟩
  | .local _ .vmem, ⟨0, _⟩ => ⟨S224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | .local _ .vmem, ⟨9, _⟩ => ⟨S224x1024, .f32⟩
  | .local _ .vmem, ⟨10, _⟩ => ⟨S224x1024, .f32⟩
  | .local _ .vmem, ⟨11, _⟩ => ⟨S224x1024, .f32⟩
  | .local _ .vmem, ⟨12, _⟩ => ⟨S224x1024, .f32⟩
  | .local _ .vmem, ⟨13, _⟩ => ⟨S224x1024, .f32⟩
  | .local _ .vmem, ⟨14, _⟩ => ⟨S224x1024, .f32⟩
  | .local _ .vmem, ⟨15, _⟩ => ⟨S224x1024, .f32⟩
  | _, _ => ⟨S1x1024x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S1x1024x1344 : Shape := ⟨3, ![1, 1024, 1344]⟩
abbrev S1024x1344 : Shape := ⟨2, ![1024, 1344]⟩
abbrev S1344x1024 : Shape := ⟨2, ![1344, 1024]⟩
abbrev S224x1024 : Shape := ⟨2, ![224, 1024]⟩

abbrev nBuf : Space → Nat
  | .hbm => 16
  | .vmem => 16
  | .smem => 0
  | _ => 0

abbrev bufTy : (tb : Table) → Fin (tcTables nBuf tb) → BufTy
  | .hbm, ⟨0, _⟩ => ⟨S1x1024x1344, .f32⟩
  | .hbm, ⟨1, _⟩ => ⟨S1x1024x1344, .f32⟩
  | .hbm, ⟨2, _⟩ => ⟨S1x1024x1344, .f32⟩
  | .hbm, ⟨3, _⟩ => ⟨S1x1024x1344, .f32⟩
  | .hbm, ⟨4, _⟩ => ⟨S1024x1344, .f32⟩
  | .hbm, ⟨5, _⟩ => ⟨S1344x1024, .f32⟩
  | .hbm, ⟨6, _⟩ => ⟨S1024x1344, .f32⟩
  | .hbm, ⟨7, _⟩ => ⟨S1344x1024, .f32⟩
  | .hbm, ⟨8, _⟩ => ⟨S1024x1344, .f32⟩
  | .hbm, ⟨9, _⟩ => ⟨S1344x1024, .f32⟩
  | .hbm, ⟨10, _⟩ => ⟨S1024x1344, .f32⟩
  | .hbm, ⟨11, _⟩ => ⟨S1344x1024, .f32⟩
  | .hbm, ⟨12, _⟩ => ⟨S1344x1024, .f32⟩
  | .hbm, ⟨13, _⟩ => ⟨S1344x1024, .f32⟩
  | .hbm, ⟨14, _⟩ => ⟨S1344x1024, .f32⟩
  | .hbm, ⟨15, _⟩ => ⟨S1344x1024, .f32⟩
  | .local _ .vmem, ⟨0, _⟩ => ⟨S224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | .local _ .vmem, ⟨9, _⟩ => ⟨S224x1024, .f32⟩
  | .local _ .vmem, ⟨10, _⟩ => ⟨S224x1024, .f32⟩
  | .local _ .vmem, ⟨11, _⟩ => ⟨S224x1024, .f32⟩
  | .local _ .vmem, ⟨12, _⟩ => ⟨S224x1024, .f32⟩
  | .local _ .vmem, ⟨13, _⟩ => ⟨S224x1024, .f32⟩
  | .local _ .vmem, ⟨14, _⟩ => ⟨S224x1024, .f32⟩
  | .local _ .vmem, ⟨15, _⟩ => ⟨S224x1024, .f32⟩
  | _, _ => ⟨S1x1024x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S1x1024x1344 : Shape := ⟨3, ![1, 1024, 1344]⟩
abbrev S_ : Shape := ⟨0, ![]⟩
abbrev S1024x1344 : Shape := ⟨2, ![1024, 1344]⟩
abbrev S1344x1024 : Shape := ⟨2, ![1344, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x1344, .f32⟩
  | .hbm, ⟨1, _⟩ => ⟨S1x1024x1344, .f32⟩
  | .hbm, ⟨2, _⟩ => ⟨S1x1024x1344, .f32⟩
  | .hbm, ⟨3, _⟩ => ⟨S1x1024x1344, .f32⟩
  | .hbm, ⟨4, _⟩ => ⟨S_, .f32⟩
  | .hbm, ⟨5, _⟩ => ⟨S1x1024x1344, .f32⟩
  | .hbm, ⟨6, _⟩ => ⟨S1x1024x1344, .f32⟩
  | .hbm, ⟨7, _⟩ => ⟨S_, .f32⟩
  | .hbm, ⟨8, _⟩ => ⟨S1x1024x1344, .f32⟩
  | .hbm, ⟨9, _⟩ => ⟨S1x1024x1344, .f32⟩
  | .hbm, ⟨10, _⟩ => ⟨S1x1024x1344, .f32⟩
  | .hbm, ⟨11, _⟩ => ⟨S_, .f32⟩
  | .hbm, ⟨12, _⟩ => ⟨S1x1024x1344, .f32⟩
  | .hbm, ⟨13, _⟩ => ⟨S1x1024x1344, .f32⟩
  | .hbm, ⟨14, _⟩ => ⟨S1x1024x1344, .f32⟩
  | .hbm, ⟨15, _⟩ => ⟨S_, .f32⟩
  | .hbm, ⟨16, _⟩ => ⟨S1x1024x1344, .f32⟩
  | .hbm, ⟨17, _⟩ => ⟨S1x1024x1344, .f32⟩
  | .hbm, ⟨18, _⟩ => ⟨S1x1024x1344, .f32⟩
  | .hbm, ⟨19, _⟩ => ⟨S_, .f32⟩
  | .hbm, ⟨20, _⟩ => ⟨S1x1024x1344, .f32⟩
  | .hbm, ⟨21, _⟩ => ⟨S1x1024x1344, .f32⟩
  | .hbm, ⟨22, _⟩ => ⟨S_, .f32⟩
  | .hbm, ⟨23, _⟩ => ⟨S1x1024x1344, .f32⟩
  | .hbm, ⟨24, _⟩ => ⟨S1x1024x1344, .f32⟩
  | .hbm, ⟨25, _⟩ => ⟨S1x1024x1344, .f32⟩
  | .hbm, ⟨26, _⟩ => ⟨S_, .f32⟩
  | .hbm, ⟨27, _⟩ => ⟨S1x1024x1344, .f32⟩
  | .hbm, ⟨28, _⟩ => ⟨S1x1024x1344, .f32⟩
  | .hbm, ⟨29, _⟩ => ⟨S1x1024x1344, .f32⟩
  | .hbm, ⟨30, _⟩ => ⟨S_, .f32⟩
  | .hbm, ⟨31, _⟩ => ⟨S1x1024x1344, .f32⟩
  | .hbm, ⟨32, _⟩ => ⟨S1x1024x1344, .f32⟩
  | .hbm, ⟨33, _⟩ => ⟨S1x1024x1344, .f32⟩
  | .hbm, ⟨34, _⟩ => ⟨S_, .f32⟩
  | .hbm, ⟨35, _⟩ => ⟨S1x1024x1344, .f32⟩
  | .hbm, ⟨36, _⟩ => ⟨S1x1024x1344, .f32⟩
  | .hbm, ⟨37, _⟩ => ⟨S1024x1344, .f32⟩
  | .hbm, ⟨38, _⟩ => ⟨S1344x1024, .f32⟩
  | .hbm, ⟨39, _⟩ => ⟨S1024x1344, .f32⟩
  | .hbm, ⟨40, _⟩ => ⟨S1344x1024, .f32⟩
  | .hbm, ⟨41, _⟩ => ⟨S1024x1344, .f32⟩
  | .hbm, ⟨42, _⟩ => ⟨S1344x1024, .f32⟩
  | .hbm, ⟨43, _⟩ => ⟨S1024x1344, .f32⟩
  | .hbm, ⟨44, _⟩ => ⟨S1344x1024, .f32⟩
  | _, _ => ⟨S1x1024x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== AdamSpatial.lean ====
abbrev S1x4x128x128 : Shape := ⟨4, ![1, 4, 128, 128]⟩
abbrev S512x128 : Shape := ⟨2, ![512, 128]⟩
abbrev S256x128 : Shape := ⟨2, ![256, 128]⟩

abbrev nBuf : Space → Nat
  | .hbm => 12
  | .vmem => 16
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSpatialIdeal.lean ====
abbrev S1x4x128x128 : Shape := ⟨4, ![1, 4, 128, 128]⟩
abbrev S512x128 : Shape := ⟨2, ![512, 128]⟩
abbrev S256x128 : Shape := ⟨2, ![256, 128]⟩

abbrev nBuf : Space → Nat
  | .hbm => 12
  | .vmem => 16
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSpatialReferenceIdeal.lean ====
abbrev S1x4x128x128 : Shape := ⟨4, ![1, 4, 128, 128]⟩
abbrev S_ : Shape := ⟨0, ![]⟩
abbrev S512x128 : Shape := ⟨2, ![512, 128]⟩

abbrev nBuf : Space → Nat
  | .hbm => 41
  | .vmem => 0
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S_, .f32⟩
  | .hbm, ⟨5, _⟩ => ⟨S1x4x128x128, .f32⟩
  | .hbm, ⟨6, _⟩ => ⟨S1x4x128x128, .f32⟩
  | .hbm, ⟨7, _⟩ => ⟨S_, .f32⟩
  | .hbm, ⟨8, _⟩ => ⟨S1x4x128x128, .f32⟩
  | .hbm, ⟨9, _⟩ => ⟨S1x4x128x128, .f32⟩
  | .hbm, ⟨10, _⟩ => ⟨S1x4x128x128, .f32⟩
  | .hbm, ⟨11, _⟩ => ⟨S_, .f32⟩
  | .hbm, ⟨12, _⟩ => ⟨S1x4x128x128, .f32⟩
  | .hbm, ⟨13, _⟩ => ⟨S1x4x128x128, .f32⟩
  | .hbm, ⟨14, _⟩ => ⟨S1x4x128x128, .f32⟩
  | .hbm, ⟨15, _⟩ => ⟨S_, .f32⟩
  | .hbm, ⟨16, _⟩ => ⟨S1x4x128x128, .f32⟩
  | .hbm, ⟨17, _⟩ => ⟨S1x4x128x128, .f32⟩
  | .hbm, ⟨18, _⟩ => ⟨S1x4x128x128, .f32⟩
  | .hbm, ⟨19, _⟩ => ⟨S_, .f32⟩
  | .hbm, ⟨20, _⟩ => ⟨S1x4x128x128, .f32⟩
  | .hbm, ⟨21, _⟩ => ⟨S1x4x128x128, .f32⟩
  | .hbm, ⟨22, _⟩ => ⟨S_, .f32⟩
  | .hbm, ⟨23, _⟩ => ⟨S1x4x128x128, .f32⟩
  | .hbm, ⟨24, _⟩ => ⟨S1x4x128x128, .f32⟩
  | .hbm, ⟨25, _⟩ => ⟨S1x4x128x128, .f32⟩
  | .hbm, ⟨26, _⟩ => ⟨S_, .f32⟩
  | .hbm, ⟨27, _⟩ => ⟨S1x4x128x128, .f32⟩
  | .hbm, ⟨28, _⟩ => ⟨S1x4x128x128, .f32⟩
  | .hbm, ⟨29, _⟩ => ⟨S1x4x128x128, .f32⟩
  | .hbm, ⟨30, _⟩ => ⟨S_, .f32⟩
  | .hbm, ⟨31, _⟩ => ⟨S1x4x128x128, .f32⟩
  | .hbm, ⟨32, _⟩ => ⟨S1x4x128x128, .f32⟩
  | .hbm, ⟨33, _⟩ => ⟨S1x4x128x128, .f32⟩
  | .hbm, ⟨34, _⟩ => ⟨S_, .f32⟩
  | .hbm, ⟨35, _⟩ => ⟨S1x4x128x128, .f32⟩
  | .hbm, ⟨36, _⟩ => ⟨S1x4x128x128, .f32⟩
  | .hbm, ⟨37, _⟩ => ⟨S512x128, .f32⟩
  | .hbm, ⟨38, _⟩ => ⟨S512x128, .f32⟩
  | .hbm, ⟨39, _⟩ => ⟨S512x128, .f32⟩
  | .hbm, ⟨40, _⟩ => ⟨S512x128, .f32⟩
  | _, _ => ⟨S1x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamBias.lean ====
abbrev S1x4x128 : Shape := ⟨3, ![1, 4, 128]⟩
abbrev S4x128 : Shape := ⟨2, ![4, 128]⟩

abbrev nBuf : Space → Nat
  | .hbm => 12
  | .vmem => 8
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasIdeal.lean ====
abbrev S1x4x128 : Shape := ⟨3, ![1, 4, 128]⟩
abbrev S4x128 : Shape := ⟨2, ![4, 128]⟩

abbrev nBuf : Space → Nat
  | .hbm => 12
  | .vmem => 8
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasReferenceIdeal.lean ====
abbrev S1x4x128 : Shape := ⟨3, ![1, 4, 128]⟩
abbrev S_ : Shape := ⟨0, ![]⟩
abbrev S4x128 : Shape := ⟨2, ![4, 128]⟩

abbrev nBuf : Space → Nat
  | .hbm => 41
  | .vmem => 0
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S_, .f32⟩
  | .hbm, ⟨5, _⟩ => ⟨S1x4x128, .f32⟩
  | .hbm, ⟨6, _⟩ => ⟨S1x4x128, .f32⟩
  | .hbm, ⟨7, _⟩ => ⟨S_, .f32⟩
  | .hbm, ⟨8, _⟩ => ⟨S1x4x128, .f32⟩
  | .hbm, ⟨9, _⟩ => ⟨S1x4x128, .f32⟩
  | .hbm, ⟨10, _⟩ => ⟨S1x4x128, .f32⟩
  | .hbm, ⟨11, _⟩ => ⟨S_, .f32⟩
  | .hbm, ⟨12, _⟩ => ⟨S1x4x128, .f32⟩
  | .hbm, ⟨13, _⟩ => ⟨S1x4x128, .f32⟩
  | .hbm, ⟨14, _⟩ => ⟨S1x4x128, .f32⟩
  | .hbm, ⟨15, _⟩ => ⟨S_, .f32⟩
  | .hbm, ⟨16, _⟩ => ⟨S1x4x128, .f32⟩
  | .hbm, ⟨17, _⟩ => ⟨S1x4x128, .f32⟩
  | .hbm, ⟨18, _⟩ => ⟨S1x4x128, .f32⟩
  | .hbm, ⟨19, _⟩ => ⟨S_, .f32⟩
  | .hbm, ⟨20, _⟩ => ⟨S1x4x128, .f32⟩
  | .hbm, ⟨21, _⟩ => ⟨S1x4x128, .f32⟩
  | .hbm, ⟨22, _⟩ => ⟨S_, .f32⟩
  | .hbm, ⟨23, _⟩ => ⟨S1x4x128, .f32⟩
  | .hbm, ⟨24, _⟩ => ⟨S1x4x128, .f32⟩
  | .hbm, ⟨25, _⟩ => ⟨S1x4x128, .f32⟩
  | .hbm, ⟨26, _⟩ => ⟨S_, .f32⟩
  | .hbm, ⟨27, _⟩ => ⟨S1x4x128, .f32⟩
  | .hbm, ⟨28, _⟩ => ⟨S1x4x128, .f32⟩
  | .hbm, ⟨29, _⟩ => ⟨S1x4x128, .f32⟩
  | .hbm, ⟨30, _⟩ => ⟨S_, .f32⟩
  | .hbm, ⟨31, _⟩ => ⟨S1x4x128, .f32⟩
  | .hbm, ⟨32, _⟩ => ⟨S1x4x128, .f32⟩
  | .hbm, ⟨33, _⟩ => ⟨S1x4x128, .f32⟩
  | .hbm, ⟨34, _⟩ => ⟨S_, .f32⟩
  | .hbm, ⟨35, _⟩ => ⟨S1x4x128, .f32⟩
  | .hbm, ⟨36, _⟩ => ⟨S1x4x128, .f32⟩
  | .hbm, ⟨37, _⟩ => ⟨S4x128, .f32⟩
  | .hbm, ⟨38, _⟩ => ⟨S4x128, .f32⟩
  | .hbm, ⟨39, _⟩ => ⟨S4x128, .f32⟩
  | .hbm, ⟨40, _⟩ => ⟨S4x128, .f32⟩
  | _, _ => ⟨S1x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamLn.lean ====
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLnIdeal.lean ====
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLnReferenceIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAttn.lean ====
abbrev S1x256x256 : Shape := ⟨3, ![1, 256, 256]⟩
abbrev S256x256 : Shape := ⟨2, ![256, 256]⟩

abbrev nBuf : Space → Nat
  | .hbm => 12
  | .vmem => 8
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamAttnIdeal.lean ====
abbrev S1x256x256 : Shape := ⟨3, ![1, 256, 256]⟩
abbrev S256x256 : Shape := ⟨2, ![256, 256]⟩

abbrev nBuf : Space → Nat
  | .hbm => 12
  | .vmem => 8
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamAttnReferenceIdeal.lean ====
abbrev S1x256x256 : Shape := ⟨3, ![1, 256, 256]⟩
abbrev S_ : Shape := ⟨0, ![]⟩
abbrev S256x256 : Shape := ⟨2, ![256, 256]⟩

abbrev nBuf : Space → Nat
  | .hbm => 41
  | .vmem => 0
  | .smem => 0
  | _ => 0

abbrev bufTy : (tb : Table) → Fin (tcTables nBuf tb) → BufTy
  | .hbm, ⟨0, _⟩ => ⟨S1x256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S_, .f32⟩
  | .hbm, ⟨5, _⟩ => ⟨S1x256x256, .f32⟩
  | .hbm, ⟨6, _⟩ => ⟨S1x256x256, .f32⟩
  | .hbm, ⟨7, _⟩ => ⟨S_, .f32⟩
  | .hbm, ⟨8, _⟩ => ⟨S1x256x256, .f32⟩
  | .hbm, ⟨9, _⟩ => ⟨S1x256x256, .f32⟩
  | .hbm, ⟨10, _⟩ => ⟨S1x256x256, .f32⟩
  | .hbm, ⟨11, _⟩ => ⟨S_, .f32⟩
  | .hbm, ⟨12, _⟩ => ⟨S1x256x256, .f32⟩
  | .hbm, ⟨13, _⟩ => ⟨S1x256x256, .f32⟩
  | .hbm, ⟨14, _⟩ => ⟨S1x256x256, .f32⟩
  | .hbm, ⟨15, _⟩ => ⟨S_, .f32⟩
  | .hbm, ⟨16, _⟩ => ⟨S1x256x256, .f32⟩
  | .hbm, ⟨17, _⟩ => ⟨S1x256x256, .f32⟩
  | .hbm, ⟨18, _⟩ => ⟨S1x256x256, .f32⟩
  | .hbm, ⟨19, _⟩ => ⟨S_, .f32⟩
  | .hbm, ⟨20, _⟩ => ⟨S1x256x256, .f32⟩
  | .hbm, ⟨21, _⟩ => ⟨S1x256x256, .f32⟩
  | .hbm, ⟨22, _⟩ => ⟨S_, .f32⟩
  | .hbm, ⟨23, _⟩ => ⟨S1x256x256, .f32⟩
  | .hbm, ⟨24, _⟩ => ⟨S1x256x256, .f32⟩
  | .hbm, ⟨25, _⟩ => ⟨S1x256x256, .f32⟩
  | .hbm, ⟨26, _⟩ => ⟨S_, .f32⟩
  | .hbm, ⟨27, _⟩ => ⟨S1x256x256, .f32⟩
  | .hbm, ⟨28, _⟩ => ⟨S1x256x256, .f32⟩
  | .hbm, ⟨29, _⟩ => ⟨S1x256x256, .f32⟩
  | .hbm, ⟨30, _⟩ => ⟨S_, .f32⟩
  | .hbm, ⟨31, _⟩ => ⟨S1x256x256, .f32⟩
  | .hbm, ⟨32, _⟩ => ⟨S1x256x256, .f32⟩
  | .hbm, ⟨33, _⟩ => ⟨S1x256x256, .f32⟩
  | .hbm, ⟨34, _⟩ => ⟨S_, .f32⟩
  | .hbm, ⟨35, _⟩ => ⟨S1x256x256, .f32⟩
  | .hbm, ⟨36, _⟩ => ⟨S1x256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | _, _ => ⟨S1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamGmlp.lean ====
abbrev S1x512x256 : Shape := ⟨3, ![1, 512, 256]⟩
abbrev S512x256 : Shape := ⟨2, ![512, 256]⟩
abbrev S256x256 : Shape := ⟨2, ![256, 256]⟩

abbrev nBuf : Space → Nat
  | .hbm => 12
  | .vmem => 16
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGmlpIdeal.lean ====
abbrev S1x512x256 : Shape := ⟨3, ![1, 512, 256]⟩
abbrev S512x256 : Shape := ⟨2, ![512, 256]⟩
abbrev S256x256 : Shape := ⟨2, ![256, 256]⟩

abbrev nBuf : Space → Nat
  | .hbm => 12
  | .vmem => 16
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGmlpReferenceIdeal.lean ====
abbrev S1x512x256 : Shape := ⟨3, ![1, 512, 256]⟩
abbrev S_ : Shape := ⟨0, ![]⟩
abbrev S512x256 : Shape := ⟨2, ![512, 256]⟩

abbrev nBuf : Space → Nat
  | .hbm => 41
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S_, .f32⟩
  | .hbm, ⟨5, _⟩ => ⟨S1x512x256, .f32⟩
  | .hbm, ⟨6, _⟩ => ⟨S1x512x256, .f32⟩
  | .hbm, ⟨7, _⟩ => ⟨S_, .f32⟩
  | .hbm, ⟨8, _⟩ => ⟨S1x512x256, .f32⟩
  | .hbm, ⟨9, _⟩ => ⟨S1x512x256, .f32⟩
  | .hbm, ⟨10, _⟩ => ⟨S1x512x256, .f32⟩
  | .hbm, ⟨11, _⟩ => ⟨S_, .f32⟩
  | .hbm, ⟨12, _⟩ => ⟨S1x512x256, .f32⟩
  | .hbm, ⟨13, _⟩ => ⟨S1x512x256, .f32⟩
  | .hbm, ⟨14, _⟩ => ⟨S1x512x256, .f32⟩
  | .hbm, ⟨15, _⟩ => ⟨S_, .f32⟩
  | .hbm, ⟨16, _⟩ => ⟨S1x512x256, .f32⟩
  | .hbm, ⟨17, _⟩ => ⟨S1x512x256, .f32⟩
  | .hbm, ⟨18, _⟩ => ⟨S1x512x256, .f32⟩
  | .hbm, ⟨19, _⟩ => ⟨S_, .f32⟩
  | .hbm, ⟨20, _⟩ => ⟨S1x512x256, .f32⟩
  | .hbm, ⟨21, _⟩ => ⟨S1x512x256, .f32⟩
  | .hbm, ⟨22, _⟩ => ⟨S_, .f32⟩
  | .hbm, ⟨23, _⟩ => ⟨S1x512x256, .f32⟩
  | .hbm, ⟨24, _⟩ => ⟨S1x512x256, .f32⟩
  | .hbm, ⟨25, _⟩ => ⟨S1x512x256, .f32⟩
  | .hbm, ⟨26, _⟩ => ⟨S_, .f32⟩
  | .hbm, ⟨27, _⟩ => ⟨S1x512x256, .f32⟩
  | .hbm, ⟨28, _⟩ => ⟨S1x512x256, .f32⟩
  | .hbm, ⟨29, _⟩ => ⟨S1x512x256, .f32⟩
  | .hbm, ⟨30, _⟩ => ⟨S_, .f32⟩
  | .hbm, ⟨31, _⟩ => ⟨S1x512x256, .f32⟩
  | .hbm, ⟨32, _⟩ => ⟨S1x512x256, .f32⟩
  | .hbm, ⟨33, _⟩ => ⟨S1x512x256, .f32⟩
  | .hbm, ⟨34, _⟩ => ⟨S_, .f32⟩
  | .hbm, ⟨35, _⟩ => ⟨S1x512x256, .f32⟩
  | .hbm, ⟨36, _⟩ => ⟨S1x512x256, .f32⟩
  | .hbm, ⟨37, _⟩ => ⟨S512x256, .f32⟩
  | .hbm, ⟨38, _⟩ => ⟨S512x256, .f32⟩
  | .hbm, ⟨39, _⟩ => ⟨S512x256, .f32⟩
  | .hbm, ⟨40, _⟩ => ⟨S512x256, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamOut.lean ====
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutReferenceIdeal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamMlp.lean ====
abbrev S1x1024x1024 : Shape := ⟨3, ![1, 1024, 1024]⟩
abbrev S1024x1024 : Shape := ⟨2, ![1024, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlpReferenceIdeal.lean ====
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S_, .f32⟩
  | .hbm, ⟨5, _⟩ => ⟨S1x1024x1024, .f32⟩
  | .hbm, ⟨6, _⟩ => ⟨S1x1024x1024, .f32⟩
  | .hbm, ⟨7, _⟩ => ⟨S_, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S_, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S_, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S_, .f32⟩
  | .hbm, ⟨23, _⟩ => ⟨S1x1024x1024, .f32⟩
  | .hbm, ⟨24, _⟩ => ⟨S1x1024x1024, .f32⟩
  | .hbm, ⟨25, _⟩ => ⟨S1x1024x1024, .f32⟩
  | .hbm, ⟨26, _⟩ => ⟨S_, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S_, .f32⟩
  | .hbm, ⟨31, _⟩ => ⟨S1x1024x1024, .f32⟩
  | .hbm, ⟨32, _⟩ => ⟨S1x1024x1024, .f32⟩
  | .hbm, ⟨33, _⟩ => ⟨S1x1024x1024, .f32⟩
  | .hbm, ⟨34, _⟩ => ⟨S_, .f32⟩
  | .hbm, ⟨35, _⟩ => ⟨S1x1024x1024, .f32⟩
  | .hbm, ⟨36, _⟩ => ⟨S1x1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Lift.lean ====
/-
  Arrays of real numbers as arrays of the ideal float values, indexed by natural numbers: what each pointwise operation,
  each reduction and each move of the programs makes of such arrays.
-/
module

public import Idealize.ShloMosaic.Lib.Pointwise
public import Idealize.ShloMosaic.Lib.IdealHost
public import Idealize.ShloMosaic.Lib.WholeRead
public import Idealize.ShloMosaic.Lib.ValueLayout
public import Idealize.ShloMosaic.Lib.ValueLayoutCasts
public import Idealize.ShloMosaic.PureOps.Ideal.Laws
public import Idealize.ShloMosaic.PureOps.IdealRules

@[expose] public section

noncomputable section

namespace Cert.Lift

open Idealize.ShloMosaic

/-- The column array of the reals `f i`. -/
def up1 {n : ℕ} (f : ℕ → ℝ) : (⟨1, ![n]⟩ : Shape).Idx → EReal := fun i => ((f (i 0).val : ℝ) : EReal)
/-- The matrix of the reals `f i k`. -/
def up2 {n m : ℕ} (f : ℕ → ℕ → ℝ) : (⟨2, ![n, m]⟩ : Shape).Idx → EReal := fun i => ((f (i 0).val (i 1).val : ℝ) : EReal)
/-- The rank 3 array of the reals `f i k l`. -/
def up3 {n m p : ℕ} (f : ℕ → ℕ → ℕ → ℝ) : (⟨3, ![n, m, p]⟩ : Shape).Idx → EReal :=
  fun i => ((f (i 0).val (i 1).val (i 2).val : ℝ) : EReal)
/-- The rank 4 array of the reals `f i k l o`. -/
def up4 {n m p q : ℕ} (f : ℕ → ℕ → ℕ → ℕ → ℝ) : (⟨4, ![n, m, p, q]⟩ : Shape).Idx → EReal :=
  fun i => ((f (i 0).val (i 1).val (i 2).val (i 3).val : ℝ) : EReal)

variable {φ ψ : FTy} {n m p q : ℕ}

/-- Reals in range suffice. -/
theorem up1_congr {f g : ℕ → ℝ} (h : ∀ i < n, f i = g i) : up1 (n := n) f = up1 g :=
  funext fun i => congrArg _ (h _ (i 0).isLt)
theorem up2_congr {f g : ℕ → ℕ → ℝ} (h : ∀ i < n, ∀ k < m, f i k = g i k) : up2 (n := n) (m := m) f = up2 g :=
  funext fun i => congrArg _ (h _ (i 0).isLt _ (i 1).isLt)
theorem up3_congr {f g : ℕ → ℕ → ℕ → ℝ} (h : ∀ i < n, ∀ k < m, ∀ l < p, f i k l = g i k l) : up3 (n := n) (m := m) (p := p) f = up3 g :=
  funext fun i => congrArg _ (h _ (i 0).isLt _ (i 1).isLt _ (i 2).isLt)
theorem up4_congr {f g : ℕ → ℕ → ℕ → ℕ → ℝ} (h : ∀ i < n, ∀ k < m, ∀ l < p, ∀ o < q, f i k l o = g i k l o) :
    up4 (n := n) (m := m) (p := p) (q := q) f = up4 g :=
  funext fun i => congrArg _ (h _ (i 0).isLt _ (i 1).isLt _ (i 2).isLt _ (i 3).isLt)

/-- A sum of reals over `Fin n`, as an extended real. -/
theorem coe_sum_fin (f : ℕ → ℝ) : (∑ k : Fin n, ((f k.val : ℝ) : EReal)) = ((∑ k ∈ Finset.range n, f k : ℝ) : EReal) := by
  rw [← Fin.sum_univ_eq_sum_range]
  induction n with
  | zero => simp
  | succ n ih => rw [Fin.sum_univ_castSucc, Fin.sum_univ_castSucc, EReal.coe_add]; exact congrArg (· + _) ih

/-- A sum of products of reals over `Fin n`, as an extended real. -/
theorem coe_sum_mul (f g : ℕ → ℝ) :
    (∑ k : Fin n, ((f k.val : ℝ) : EReal) * ((g k.val : ℝ) : EReal)) = ((∑ k ∈ Finset.range n, f k * g k : ℝ) : EReal) :=
  (Finset.sum_congr rfl fun k _ => (EReal.coe_mul _ _).symm).trans (coe_sum_fin fun k => f k * g k)

/-! ### The constants -/

/-- The gelu's factor. -/
def c0 : ℝ := (Ideal.ofBits .f32 0x3F4C422A#32).toReal
/-- The layer norm's epsilon. -/
def eps : ℝ := (Ideal.ofBits .f32 0x358637BD#32).toReal

theorem lit_c0 : (FloatOps.ofBits (F := Ideal) .f32 0x3F4C422A#32 : EReal) = ((c0 : ℝ) : EReal) := by
  have h : ∃ r : ℝ, Ideal.ofBits .f32 0x3F4C422A#32 = (r : EReal) := ⟨_, by simp [Ideal.ofBits, Ideal.ieee]; rfl⟩
  obtain ⟨r, h⟩ := h
  show Ideal.ofBits .f32 0x3F4C422A#32 = _
  rw [c0, h, EReal.toReal_coe]
theorem eps_eq : Ideal.ofBits .f32 0x358637BD#32 = ((8796093 * (2:ℝ) ^ (-43 : ℤ) : ℝ) : EReal) := by
  simp [Ideal.ofBits, Ideal.ieee];
theorem lit_eps : (FloatOps.ofBits (F := Ideal) .f32 0x358637BD#32 : EReal) = ((eps : ℝ) : EReal) := by
  show Ideal.ofBits .f32 0x358637BD#32 = _
  rw [eps, eps_eq, EReal.toReal_coe]
theorem eps_pos : 0 < eps := by rw [eps, eps_eq, EReal.toReal_coe]; positivity
theorem lit_zero : (FloatOps.ofBits (F := Ideal) .f32 0x00000000#32 : EReal) = ((0 : ℝ) : EReal) := by
  show Ideal.ofBits .f32 _ = _; simp [Ideal.ofBits, Ideal.ieee]
theorem lit_one : (FloatOps.ofBits (F := Ideal) .f32 0x3F800000#32 : EReal) = ((1 : ℝ) : EReal) := by
  show Ideal.ofBits .f32 _ = _; simp [Ideal.ofBits, Ideal.ieee]; rw [← EReal.coe_mul]; norm_num
theorem lit_half : (FloatOps.ofBits (F := Ideal) .f32 0x3F000000#32 : EReal) = ((1 / 2 : ℝ) : EReal) := by
  show Ideal.ofBits .f32 _ = _; simp [Ideal.ofBits, Ideal.ieee]; rw [← EReal.coe_mul]; norm_num
theorem lit_mhalf : (FloatOps.ofBits (F := Ideal) .f32 0xBF000000#32 : EReal) = ((-(1 / 2) : ℝ) : EReal) := by
  show Ideal.ofBits .f32 _ = _; simp [Ideal.ofBits, Ideal.ieee]; rw [← EReal.coe_mul]; norm_num
theorem lit_two : (FloatOps.ofBits (F := Ideal) .f32 0x40000000#32 : EReal) = ((2 : ℝ) : EReal) := by
  show Ideal.ofBits .f32 _ = _; simp [Ideal.ofBits, Ideal.ieee]; rw [← EReal.coe_mul]; norm_num
theorem lit_three : (FloatOps.ofBits (F := Ideal) .f32 0x40400000#32 : EReal) = ((3 : ℝ) : EReal) := by
  show Ideal.ofBits .f32 _ = _; simp [Ideal.ofBits, Ideal.ieee]; rw [← EReal.coe_mul]; norm_num
theorem lit_512 : (FloatOps.ofBits (F := Ideal) .f32 0x44000000#32 : EReal) = ((512 : ℝ) : EReal) := by
  show Ideal.ofBits .f32 _ = _; simp [Ideal.ofBits, Ideal.ieee]; rw [← EReal.coe_mul]; norm_num
theorem lit_44715 : (FloatOps.ofBits (F := Ideal) .f32 0x472EAB00#32 : EReal) = ((44715 : ℝ) : EReal) := by
  show Ideal.ofBits .f32 _ = _; simp [Ideal.ofBits, Ideal.ieee]; rw [← EReal.coe_mul]; norm_num
theorem lit_million : (FloatOps.ofBits (F := Ideal) .f32 0x49742400#32 : EReal) = ((1000000 : ℝ) : EReal) := by
  show Ideal.ofBits .f32 _ = _; simp [Ideal.ofBits, Ideal.ieee]; rw [← EReal.coe_mul]; norm_num

/-! ### Pointwise operations -/

theorem broadcast_up1 (r : ℝ) : broadcast ⟨1, ![n]⟩ (r : EReal) = up1 fun _ => r := rfl
theorem broadcast_up2 (r : ℝ) : broadcast ⟨2, ![n, m]⟩ (r : EReal) = up2 fun _ _ => r := rfl
theorem broadcast_up3 (r : ℝ) : broadcast ⟨3, ![n, m, p]⟩ (r : EReal) = up3 fun _ _ _ => r := rfl

theorem mulf_up2 (f g : ℕ → ℕ → ℝ) :
    mulf (F := Ideal) (φ := φ) (s := ⟨2, ![n, m]⟩) (up2 f) (up2 g) = up2 fun i k => f i k * g i k :=
  funext fun _ => (EReal.coe_mul _ _).symm
theorem addf_up2 (f g : ℕ → ℕ → ℝ) :
    addf (F := Ideal) (φ := φ) (s := ⟨2, ![n, m]⟩) (up2 f) (up2 g) = up2 fun i k => f i k + g i k :=
  funext fun _ => (EReal.coe_add _ _).symm
theorem subf_up2 (f g : ℕ → ℕ → ℝ) :
    subf (F := Ideal) (φ := φ) (s := ⟨2, ![n, m]⟩) (up2 f) (up2 g) = up2 fun i k => f i k - g i k :=
  funext fun _ => (EReal.coe_sub _ _).symm
theorem negf_up2 (f : ℕ → ℕ → ℝ) :
    negf (F := Ideal) (φ := φ) (s := ⟨2, ![n, m]⟩) (up2 f) = up2 fun i k => -f i k :=
  funext fun _ => (EReal.coe_neg _).symm
theorem mulf_up1 (f g : ℕ → ℝ) :
    mulf (F := Ideal) (φ := φ) (s := ⟨1, ![n]⟩) (up1 f) (up1 g) = up1 fun i => f i * g i :=
  funext fun _ => (EReal.coe_mul _ _).symm
theorem addf_up1 (f g : ℕ → ℝ) :
    addf (F := Ideal) (φ := φ) (s := ⟨1, ![n]⟩) (up1 f) (up1 g) = up1 fun i => f i + g i :=
  funext fun _ => (EReal.coe_add _ _).symm
theorem mulf_up3 (f g : ℕ → ℕ → ℕ → ℝ) :
    mulf (F := Ideal) (φ := φ) (s := ⟨3, ![n, m, p]⟩) (up3 f) (up3 g) = up3 fun i k l => f i k l * g i k l :=
  funext fun _ => (EReal.coe_mul _ _).symm
theorem addf_up3 (f g : ℕ → ℕ → ℕ → ℝ) :
    addf (F := Ideal) (φ := φ) (s := ⟨3, ![n, m, p]⟩) (up3 f) (up3 g) = up3 fun i k l => f i k l + g i k l :=
  funext fun _ => (EReal.coe_add _ _).symm
theorem mulf_up4 (f g : ℕ → ℕ → ℕ → ℕ → ℝ) :
    mulf (F := Ideal) (φ := φ) (s := ⟨4, ![n, m, p, q]⟩) (up4 f) (up4 g) = up4 fun i k l o => f i k l o * g i k l o :=
  funext fun _ => (EReal.coe_mul _ _).symm
theorem addf_up4 (f g : ℕ → ℕ → ℕ → ℕ → ℝ) :
    addf (F := Ideal) (φ := φ) (s := ⟨4, ![n, m, p, q]⟩) (up4 f) (up4 g) = up4 fun i k l o => f i k l o + g i k l o :=
  funext fun _ => (EReal.coe_add _ _).symm

theorem truncf_up2 (f : ℕ → ℕ → ℝ) (h) : truncf (F := Ideal) (φ := φ) (s := ⟨2, ![n, m]⟩) ψ (up2 f) h = up2 f := rfl
theorem extf_up2 (f : ℕ → ℕ → ℝ) (h) : extf (F := Ideal) (φ := φ) (s := ⟨2, ![n, m]⟩) ψ (up2 f) h = up2 f := rfl
theorem tanh_up2 (f : ℕ → ℕ → ℝ) :
    tanh (F := Ideal) (φ := φ) (s := ⟨2, ![n, m]⟩) (up2 f) = up2 fun i k => Real.tanh (f i k) := rfl

/-- The logistic function. -/
def sg (x : ℝ) : ℝ := 1 / (1 + Real.exp (-x))

theorem one_add_exp_pos (x : ℝ) : 0 < 1 + Real.exp x := by positivity

theorem div_coe_coe (a b : ℝ) (hb : b ≠ 0) : Ideal.div (a : EReal) (b : EReal) = ((a / b : ℝ) : EReal) := by
  rw [Ideal.div_coe hb, ← EReal.coe_mul, div_eq_mul_one_div a b]

theorem logistic_coe (x : ℝ) : Ideal.logistic (x : EReal) = ((sg x : ℝ) : EReal) := by
  have h : (1 : EReal) + Ideal.exp (-(x : EReal)) = ((1 + Real.exp (-x) : ℝ) : EReal) := by
    rw [← EReal.coe_neg, Ideal.exp_coe, EReal.coe_add, EReal.coe_one]
  rw [Ideal.logistic, h, ← EReal.coe_one, div_coe_coe _ _ (one_add_exp_pos _).ne']
  rfl
theorem logistic_up2 (f : ℕ → ℕ → ℝ) :
    logistic (F := Ideal) (φ := φ) (s := ⟨2, ![n, m]⟩) (up2 f) = up2 fun i k => sg (f i k) :=
  funext fun _ => logistic_coe _
/-- A quotient by a nonzero constant. -/
theorem divf_up2 (f : ℕ → ℕ → ℝ) (r : ℝ) (hr : r ≠ 0) :
    divf (F := Ideal) (φ := φ) (s := ⟨2, ![n, m]⟩) (up2 f) (up2 fun _ _ => r) = up2 fun i k => f i k / r :=
  funext fun _ => div_coe_coe _ _ hr
theorem divf_up2_512 (f : ℕ → ℕ → ℝ) :
    divf (F := Ideal) (φ := φ) (s := ⟨2, ![n, m]⟩) (up2 f) (up2 fun _ _ => 512) = up2 fun i k => f i k / 512 :=
  divf_up2 f 512 (by norm_num)
/-- A reciprocal square root of positive numbers. -/
theorem rsqrt_up2 (f : ℕ → ℕ → ℝ) (h : ∀ i k, 0 < f i k) :
    rsqrt (F := Ideal) (φ := φ) (s := ⟨2, ![n, m]⟩) (up2 f) = up2 fun i k => (Real.sqrt (f i k))⁻¹ := by
  funext j
  show Ideal.rsqrt ((f (j 0).val (j 1).val : ℝ) : EReal) = _
  rw [Ideal.rsqrt_coe, if_neg (h _ _).le.not_gt, if_neg (h _ _).ne']
  rfl

/-! ### Moves -/

theorem extract_up2 {n' m' : ℕ} (o0 o1 : ℕ) (f : ℕ → ℕ → ℝ) (h) :
    extractStridedSlice (s := ⟨2, ![n, m]⟩) ⟨2, ![n', m']⟩ ![o0, o1] (up2 f) h = up2 fun i k => f (o0 + i) (o1 + k) := rfl
theorem cast_same2 (f : (⟨2, ![n, m]⟩ : Shape).Idx → EReal) (h) : shapeCast (s := ⟨2, ![n, m]⟩) ⟨2, ![n, m]⟩ f h = f :=
  shapeCast_self _ _
theorem cast_drop (f : ℕ → ℕ → ℕ → ℝ) (h) :
    shapeCast (s := ⟨3, ![1, n, m]⟩) ⟨2, ![n, m]⟩ (up3 f) h = up2 fun i k => f 0 i k := by
  funext j
  exact (congrArg (shapeCast _ (up3 f) h) (ValueIdx.eq_ix2 j)).trans (ValueIdx.shapeCast_1ab_ab_apply (up3 f) h (j 0) (j 1))
theorem cast_add (f : ℕ → ℕ → ℝ) (h) :
    shapeCast (s := ⟨2, ![n, m]⟩) ⟨3, ![1, n, m]⟩ (up2 f) h = up3 fun _ i k => f i k := by
  funext j
  rw [ValueIdx.eq_ix3 j]
  exact ValueIdx.shapeCast_ab_1ab_apply _ _ _ _ _
theorem cast_col (f : ℕ → ℝ) (h) :
    shapeCast (s := ⟨1, ![n]⟩) ⟨2, ![n, 1]⟩ (up1 f) h = up2 fun i _ => f i := by
  funext j
  rw [ValueIdx.eq_ix2 j]
  exact ValueIdx.shapeCast_a_a1_apply _ _ _ _
theorem cast_row (f : ℕ → ℝ) (h) :
    shapeCast (s := ⟨1, ![n]⟩) ⟨2, ![1, n]⟩ (up1 f) h = up2 fun _ k => f k := by
  funext j
  rw [ValueIdx.eq_ix2 j]
  exact ValueIdx.shapeCast_a_1a_apply _ _ _ _
theorem bcast_col (f : ℕ → ℕ → ℝ) (h) :
    broadcastTo (s := ⟨2, ![n, 1]⟩) ⟨2, ![n, m]⟩ (up2 f) h = up2 fun i _ => f i 0 := by
  funext j
  refine (broadcastTo_apply (up2 f) h j (ValueIdx.ix2 (j 0) (0 : Fin 1)) fun ax => ?_).trans rfl
  match ax with
  | ⟨0, _⟩ =>
    show (j 0).val = if n = 1 then 0 else (j 0).val
    split
    · have : (j 0).val < n := (j 0).isLt
      omega
    · rfl
  | ⟨1, _⟩ => rfl
theorem bcast_row (f : ℕ → ℕ → ℝ) (h) :
    broadcastTo (s := ⟨2, ![1, m]⟩) ⟨2, ![n, m]⟩ (up2 f) h = up2 fun _ k => f 0 k := by
  funext j
  exact (congrArg (broadcastTo _ (up2 f) h) (ValueIdx.eq_ix2 j)).trans (ValueIdx.broadcastTo_1b_ab_apply (up2 f) h (j 0) (j 1))

/-! ### Reductions -/

theorem reduce_rows (f : ℕ → ℕ → ℝ) (h : (⟨2, ![n, m]⟩ : Shape).Reduces ([1] : List (Fin 2)) ⟨1, ![n]⟩) (hφ : FTy.f32 = .f32 ∨ FTy.f32 = .bf16)
    (hacc : 0x00000000#32 = 0x00000000#32) :
    multiReduction (F := Ideal) (φ := .f32) (s := ⟨2, ![n, m]⟩) .add ([1] : List (Fin 2)) ⟨1, ![n]⟩ (up2 f) 0x00000000#32 h hφ hacc
      = up1 fun i => ∑ k ∈ Finset.range m, f i k := by
  funext j
  exact (Ideal.multiReduction_add_single _ _ _ _ _ _).trans (coe_sum_fin (n := m) (fun k => f (j 0).val k))
theorem reduce_cols (f : ℕ → ℕ → ℝ) (h : (⟨2, ![n, m]⟩ : Shape).Reduces ([0] : List (Fin 2)) ⟨1, ![m]⟩) (hφ : FTy.f32 = .f32 ∨ FTy.f32 = .bf16)
    (hacc : 0x00000000#32 = 0x00000000#32) :
    multiReduction (F := Ideal) (φ := .f32) (s := ⟨2, ![n, m]⟩) .add ([0] : List (Fin 2)) ⟨1, ![m]⟩ (up2 f) 0x00000000#32 h hφ hacc
      = up1 fun k => ∑ i ∈ Finset.range n, f i k := by
  funext j
  exact (Ideal.multiReduction_add_single _ _ _ _ _ _).trans (coe_sum_fin (n := n) (fun i => f i (j 0).val))

end Cert.Lift

end
-- ==== Proof.Model.lean ====
/-
  The gradient of the merge over the reals, row by row: the arrays the kernel and the reference both compute.
-/
module

public import proofs.«01_k».proof.Proof.Lift

@[expose] public section

noncomputable section

namespace Cert

open Cert.Lift

/-- The arguments, as reals: the cotangent, the attention branch, the four pre-activations, the three matrices, the
spatial weights and biases, and the layer norm's gain and bias. -/
structure In where
  (dy ya up zp ga gb wo wba wbg : ℕ → ℕ → ℝ)
  wsp : ℕ → ℕ → ℕ → ℝ
  bc : ℕ → ℕ → ℝ
  (lg lb : ℕ → ℕ → ℝ)

namespace In

variable (X : In)

/-- The hyperbolic tangent in the gelu. -/
def gt (x : ℝ) : ℝ := Real.tanh (c0 * (x + 8943 / 200000 * (x * x * x)))
/-- The gelu. -/
def gelu (x : ℝ) : ℝ := x * (1 / 2 * (1 + gt x))
/-- Its derivative. -/
def geluD (x : ℝ) : ℝ := 1 / 2 * (1 + gt x) + 1 / 2 * x * (1 - gt x * gt x) * (c0 * (1 + 26829 / 200000 * (x * x)))

/-- The two halves after the gelu. -/
def u (i k : ℕ) : ℝ := gelu (X.up i k)
def z (i k : ℕ) : ℝ := gelu (X.zp i k)
/-- The layer norm of `z`: mean, centred rows, variance, reciprocal deviation, normalised rows, result. -/
def mu (i : ℕ) : ℝ := (∑ k ∈ Finset.range 512, X.z i k) / 512
def zc (i k : ℕ) : ℝ := X.z i k - X.mu i
def vr (i : ℕ) : ℝ := (∑ k ∈ Finset.range 512, X.zc i k * X.zc i k) / 512
def rs (i : ℕ) : ℝ := (Real.sqrt (X.vr i + eps))⁻¹
def zh (i k : ℕ) : ℝ := X.zc i k * X.rs i
def zln (i k : ℕ) : ℝ := X.zh i k * X.lg 0 k + X.lb 0 k
/-- The masked spatial weights. -/
def W (g i j : ℕ) : ℝ := if j ≤ i then X.wsp g i j else 0
/-- The spatial product. -/
def sz (i k : ℕ) : ℝ :=
  (∑ j ∈ Finset.range 128, X.W (k / 128) (i % 128) j * X.zln (128 * (i / 128) + j) k) + X.bc (k / 128) (i % 128)
def yg (i k : ℕ) : ℝ := X.u i k * X.sz i k
/-- The two branches and the merge. -/
def a (i d : ℕ) : ℝ := ∑ e ∈ Finset.range 256, X.ya i e * X.wba e d
def bm (i d : ℕ) : ℝ := ∑ e ∈ Finset.range 512, X.yg i e * X.wbg e d
def mg (i d : ℕ) : ℝ := sg (X.ga i d) * X.a i d + sg (X.gb i d) * X.bm i d
/-- The gradients. -/
def dm (i d : ℕ) : ℝ := ∑ n ∈ Finset.range 1024, X.dy i n * X.wo d n
def dga (i d : ℕ) : ℝ := X.dm i d * X.a i d * (sg (X.ga i d) * (1 - sg (X.ga i d)))
def dgb (i d : ℕ) : ℝ := X.dm i d * X.bm i d * (sg (X.gb i d) * (1 - sg (X.gb i d)))
def da (i d : ℕ) : ℝ := X.dm i d * sg (X.ga i d)
def db (i d : ℕ) : ℝ := X.dm i d * sg (X.gb i d)
def dya (i e : ℕ) : ℝ := ∑ d ∈ Finset.range 1024, X.da i d * X.wba e d
def dyg (i e : ℕ) : ℝ := ∑ d ∈ Finset.range 1024, X.db i d * X.wbg e d
def dsz (i k : ℕ) : ℝ := X.dyg i k * X.u i k
def du (i k : ℕ) : ℝ := X.dyg i k * X.sz i k
def dzln (i k : ℕ) : ℝ := ∑ r ∈ Finset.range 128, X.W (k / 128) r (i % 128) * X.dsz (128 * (i / 128) + r) k
def dzh (i k : ℕ) : ℝ := X.dzln i k * X.lg 0 k
def dz (i k : ℕ) : ℝ :=
  X.rs i * (X.dzh i k - (∑ k ∈ Finset.range 512, X.dzh i k) / 512 - X.zh i k * ((∑ k ∈ Finset.range 512, X.dzh i k * X.zh i k) / 512))
def dzp (i k : ℕ) : ℝ := X.dz i k * geluD (X.zp i k)
def dup (i k : ℕ) : ℝ := X.du i k * geluD (X.up i k)
/-- The four gradients of the pre-activations side by side. -/
def drest (i k : ℕ) : ℝ :=
  if k < 512 then X.dup i k else if k < 1024 then X.dzp i (k - 512) else if k < 2048 then X.dga i (k - 1024) else X.dgb i (k - 2048)
/-- The sums over rows `0 … n - 1`, respectively over chunks `0 … n - 1`. -/
def dwout (n : ℕ) (k l : ℕ) : ℝ := ∑ i ∈ Finset.range n, X.mg i k * X.dy i l
def dwba (n : ℕ) (k l : ℕ) : ℝ := ∑ i ∈ Finset.range n, X.ya i k * X.da i l
def dwbg (n : ℕ) (k l : ℕ) : ℝ := ∑ i ∈ Finset.range n, X.yg i k * X.db i l
def dlg (n : ℕ) (k : ℕ) : ℝ := ∑ i ∈ Finset.range n, X.dzln i k * X.zh i k
def dlb (n : ℕ) (k : ℕ) : ℝ := ∑ i ∈ Finset.range n, X.dzln i k
def dwsp1 (c g i j : ℕ) : ℝ := ∑ d ∈ Finset.range 128, X.dsz (128 * c + i) (128 * g + d) * X.zln (128 * c + j) (128 * g + d)
def dbs1 (c g i : ℕ) : ℝ := ∑ d ∈ Finset.range 128, X.dsz (128 * c + i) (128 * g + d)
def dwsp (n : ℕ) (g i j : ℕ) : ℝ := ∑ c ∈ Finset.range n, if j ≤ i then X.dwsp1 c g i j else 0
def dbs (n : ℕ) (g i : ℕ) : ℝ := ∑ c ∈ Finset.range n, X.dbs1 c g i

theorem vr_eps_pos (i : ℕ) : 0 < X.vr i + eps :=
  add_pos_of_nonneg_of_pos (div_nonneg (Finset.sum_nonneg fun _ _ => mul_self_nonneg _) (by norm_num)) eps_pos

theorem div_tile {c i : ℕ} (hi : i < 128) : (128 * c + i) / 128 = c := by omega
theorem mod_tile {c i : ℕ} (hi : i < 128) : (128 * c + i) % 128 = i := by omega

/-- The gradients on one chunk's rows and one group's columns. -/
theorem du_tile (c g : ℕ) {i k : ℕ} (hi : i < 128) (hk : k < 128) : X.du (128 * c + i) (128 * g + k)
    = X.dyg (128 * c + i) (128 * g + k) * ((∑ j ∈ Finset.range 128, X.W g i j * X.zln (128 * c + j) (128 * g + k)) + X.bc g i) := by
  rw [du, sz, div_tile hi, mod_tile hi, div_tile hk]
theorem dzln_tile (c g : ℕ) {i k : ℕ} (hi : i < 128) (hk : k < 128) : X.dzln (128 * c + i) (128 * g + k)
    = ∑ r ∈ Finset.range 128, X.W g r i * X.dsz (128 * c + r) (128 * g + k) := by
  rw [dzln, div_tile hi, mod_tile hi, div_tile hk]

/-- The rows `256 t … 256 t + 255`. -/
def blk (t : ℕ) : In where
  dy i k := X.dy (256 * t + i) k
  ya i k := X.ya (256 * t + i) k
  up i k := X.up (256 * t + i) k
  zp i k := X.zp (256 * t + i) k
  ga i k := X.ga (256 * t + i) k
  gb i k := X.gb (256 * t + i) k
  wo := X.wo
  wba := X.wba
  wbg := X.wbg
  wsp := X.wsp
  bc := X.bc
  lg := X.lg
  lb := X.lb

variable (t : ℕ)

theorem blk_zln (i k : ℕ) : (X.blk t).zln i k = X.zln (256 * t + i) k := rfl
theorem blk_W (g i j : ℕ) : (X.blk t).W g i j = X.W g i j := rfl
theorem blk_u (i k : ℕ) : (X.blk t).u i k = X.u (256 * t + i) k := rfl
theorem blk_zh (i k : ℕ) : (X.blk t).zh i k = X.zh (256 * t + i) k := rfl
theorem blk_dm (i k : ℕ) : (X.blk t).dm i k = X.dm (256 * t + i) k := rfl
theorem blk_dyg (i k : ℕ) : (X.blk t).dyg i k = X.dyg (256 * t + i) k := rfl
theorem blk_dya (i k : ℕ) : (X.blk t).dya i k = X.dya (256 * t + i) k := rfl
theorem blk_dsz (i k : ℕ) : (X.blk t).dsz i k = X.dsz (256 * t + i) k := rfl

theorem row_chunk (i : ℕ) : 128 * ((256 * t + i) / 128) = 256 * t + 128 * (i / 128) := by omega
theorem row_mod (i : ℕ) : (256 * t + i) % 128 = i % 128 := by omega

theorem blk_sz (i k : ℕ) : (X.blk t).sz i k = X.sz (256 * t + i) k := by
  simp only [sz, row_chunk, row_mod, blk_zln, blk_W, add_assoc]; rfl
theorem blk_yg (i k : ℕ) : (X.blk t).yg i k = X.yg (256 * t + i) k := by simp only [yg, blk_sz, blk_u]
theorem blk_bm (i k : ℕ) : (X.blk t).bm i k = X.bm (256 * t + i) k := by simp only [bm, blk_yg]; rfl
theorem blk_mg (i k : ℕ) : (X.blk t).mg i k = X.mg (256 * t + i) k := by simp only [mg, blk_bm]; rfl
theorem blk_dgb (i k : ℕ) : (X.blk t).dgb i k = X.dgb (256 * t + i) k := by simp only [dgb, blk_bm]; rfl
theorem blk_du (i k : ℕ) : (X.blk t).du i k = X.du (256 * t + i) k := by simp only [du, blk_sz, blk_dyg]
theorem blk_dzln (i k : ℕ) : (X.blk t).dzln i k = X.dzln (256 * t + i) k := by
  simp only [dzln, row_chunk, row_mod, blk_dsz, blk_W, add_assoc]
theorem blk_dzh (i k : ℕ) : (X.blk t).dzh i k = X.dzh (256 * t + i) k := by simp only [dzh, blk_dzln]; rfl
theorem blk_dz (i k : ℕ) : (X.blk t).dz i k = X.dz (256 * t + i) k := by simp only [dz, blk_dzh]; rfl
theorem blk_drest (i k : ℕ) : (X.blk t).drest i k = X.drest (256 * t + i) k := by
  simp only [drest, dup, dzp, blk_du, blk_dz, blk_dgb]; rfl
theorem blk_dwsp1 (c g i j : ℕ) : (X.blk t).dwsp1 c g i j = X.dwsp1 (2 * t + c) g i j := by
  simp only [dwsp1, blk_dsz, blk_zln, show 128 * (2 * t + c) = 256 * t + 128 * c by ring, add_assoc]
theorem blk_dbs1 (c g i : ℕ) : (X.blk t).dbs1 c g i = X.dbs1 (2 * t + c) g i := by
  simp only [dbs1, blk_dsz, show 128 * (2 * t + c) = 256 * t + 128 * c by ring, add_assoc]

/-- One block more in each sum. -/
theorem dwout_succ (k l : ℕ) : X.dwout (256 * (t + 1)) k l = X.dwout (256 * t) k l + ∑ i ∈ Finset.range 256, (X.blk t).mg i k * (X.blk t).dy i l := by
  simp only [dwout, mul_add, mul_one, Finset.sum_range_add, blk_mg]; rfl
theorem dwba_succ (k l : ℕ) : X.dwba (256 * (t + 1)) k l = X.dwba (256 * t) k l + ∑ i ∈ Finset.range 256, (X.blk t).ya i k * (X.blk t).da i l := by
  simp only [dwba, mul_add, mul_one, Finset.sum_range_add]; rfl
theorem dwbg_succ (k l : ℕ) : X.dwbg (256 * (t + 1)) k l = X.dwbg (256 * t) k l + ∑ i ∈ Finset.range 256, (X.blk t).yg i k * (X.blk t).db i l := by
  simp only [dwbg, mul_add, mul_one, Finset.sum_range_add, blk_yg]; rfl
theorem dlg_succ (k : ℕ) : X.dlg (256 * (t + 1)) k = X.dlg (256 * t) k + ∑ i ∈ Finset.range 256, (X.blk t).dzln i k * (X.blk t).zh i k := by
  simp only [dlg, mul_add, mul_one, Finset.sum_range_add, blk_dzln]; rfl
theorem dlb_succ (k : ℕ) : X.dlb (256 * (t + 1)) k = X.dlb (256 * t) k + ∑ i ∈ Finset.range 256, (X.blk t).dzln i k := by
  simp only [dlb, mul_add, mul_one, Finset.sum_range_add, blk_dzln]
theorem dwsp_succ (g i j : ℕ) : X.dwsp (2 * (t + 1)) g i j
    = X.dwsp (2 * t) g i j + (if j ≤ i then (X.blk t).dwsp1 0 g i j else 0) + (if j ≤ i then (X.blk t).dwsp1 1 g i j else 0) := by
  simp only [dwsp, show 2 * (t + 1) = 2 * t + 1 + 1 by ring, Finset.sum_range_succ, blk_dwsp1, add_zero]
theorem dbs_succ (g i : ℕ) : X.dbs (2 * (t + 1)) g i = X.dbs (2 * t) g i + (X.blk t).dbs1 0 g i + (X.blk t).dbs1 1 g i := by
  simp only [dbs, show 2 * (t + 1) = 2 * t + 1 + 1 by ring, Finset.sum_range_succ, blk_dbs1, add_zero]

end In

end Cert

end
-- ==== Proof.KMat.lean ====
/-
  The kernel's matrix products, and those of the host's lines before it, of arrays of reals.
-/
module

public import proofs.«01_k».proof.Proof.Lift
public import proofs.«01_k».proof.Proof.Gen.KernelIdeal.Skeleton

@[expose] public section

noncomputable section

namespace Cert.KLift

open Idealize.ShloMosaic Cert.KernelIdeal Cert.Lift

variable {φ ψ : FTy}

theorem mm_S8192x256_S256x1024_S8192x1024_1_0_0_1 (a b : ℕ → ℕ → ℝ) :
    Host.dotGeneral (F := Ideal) (φ₁ := φ) (φ₂ := ψ) dot_S8192x256_S256x1024_S8192x1024_1_0_0_1_n_n none (up2 a) (up2 b)
      = up2 fun i j => ∑ k ∈ Finset.range 256, a i k * b k j := by
  funext j
  idx_vars j
  pointwise [up2]
  exact coe_sum_mul (n := 256) (fun k => a ↑j0 k) (fun k => b k ↑j1)

theorem mm_S8192x512_S512x1024_S8192x1024_1_0_0_1 (a b : ℕ → ℕ → ℝ) :
    Host.dotGeneral (F := Ideal) (φ₁ := φ) (φ₂ := ψ) dot_S8192x512_S512x1024_S8192x1024_1_0_0_1_n_n none (up2 a) (up2 b)
      = up2 fun i j => ∑ k ∈ Finset.range 512, a i k * b k j := by
  funext j
  idx_vars j
  pointwise [up2]
  exact coe_sum_mul (n := 512) (fun k => a ↑j0 k) (fun k => b k ↑j1)

theorem mm_S256x1024_S1024x1024_S256x1024_1_1_0_0 (a b : ℕ → ℕ → ℝ) :
    matmul (F := Ideal) (φ₁ := φ) (φ₂ := ψ) dot_S256x1024_S1024x1024_S256x1024_1_1_0_0_n_n none (up2 a) (up2 b) (constant S256x1024 .f32 0x00000000#32)
      = up2 fun i j => ∑ k ∈ Finset.range 1024, a i k * b j k := by
  funext j
  idx_vars j
  pointwise [up2]
  exact coe_sum_mul (n := 1024) (fun k => a ↑j0 k) (fun k => b ↑j1 k)

theorem mm_S256x1024_S256x1024_S1024x1024_0_0_1_1 (a b : ℕ → ℕ → ℝ) :
    matmul (F := Ideal) (φ₁ := φ) (φ₂ := ψ) dot_S256x1024_S256x1024_S1024x1024_0_0_1_1_n_n none (up2 a) (up2 b) (constant S1024x1024 .f32 0x00000000#32)
      = up2 fun i j => ∑ k ∈ Finset.range 256, a k i * b k j := by
  funext j
  idx_vars j
  pointwise [up2]
  exact coe_sum_mul (n := 256) (fun k => a k ↑j0) (fun k => b k ↑j1)

theorem mm_S256x256_S256x1024_S256x1024_1_0_0_1 (a b : ℕ → ℕ → ℝ) :
    matmul (F := Ideal) (φ₁ := φ) (φ₂ := ψ) dot_S256x256_S256x1024_S256x1024_1_0_0_1_n_n none (up2 a) (up2 b) (constant S256x1024 .f32 0x00000000#32)
      = up2 fun i j => ∑ k ∈ Finset.range 256, a i k * b k j := by
  funext j
  idx_vars j
  pointwise [up2]
  exact coe_sum_mul (n := 256) (fun k => a ↑j0 k) (fun k => b k ↑j1)

theorem mm_S256x512_S512x1024_S256x1024_1_0_0_1 (a b : ℕ → ℕ → ℝ) :
    matmul (F := Ideal) (φ₁ := φ) (φ₂ := ψ) dot_S256x512_S512x1024_S256x1024_1_0_0_1_n_n none (up2 a) (up2 b) (constant S256x1024 .f32 0x00000000#32)
      = up2 fun i j => ∑ k ∈ Finset.range 512, a i k * b k j := by
  funext j
  idx_vars j
  pointwise [up2]
  exact coe_sum_mul (n := 512) (fun k => a ↑j0 k) (fun k => b k ↑j1)

theorem mm_S256x256_S256x1024_S256x1024_0_0_1_1 (a b : ℕ → ℕ → ℝ) :
    matmul (F := Ideal) (φ₁ := φ) (φ₂ := ψ) dot_S256x256_S256x1024_S256x1024_0_0_1_1_n_n none (up2 a) (up2 b) (constant S256x1024 .f32 0x00000000#32)
      = up2 fun i j => ∑ k ∈ Finset.range 256, a k i * b k j := by
  funext j
  idx_vars j
  pointwise [up2]
  exact coe_sum_mul (n := 256) (fun k => a k ↑j0) (fun k => b k ↑j1)

theorem mm_S256x512_S256x1024_S512x1024_0_0_1_1 (a b : ℕ → ℕ → ℝ) :
    matmul (F := Ideal) (φ₁ := φ) (φ₂ := ψ) dot_S256x512_S256x1024_S512x1024_0_0_1_1_n_n none (up2 a) (up2 b) (constant S512x1024 .f32 0x00000000#32)
      = up2 fun i j => ∑ k ∈ Finset.range 256, a k i * b k j := by
  funext j
  idx_vars j
  pointwise [up2]
  exact coe_sum_mul (n := 256) (fun k => a k ↑j0) (fun k => b k ↑j1)

theorem mm_S256x1024_S256x1024_S256x256_1_1_0_0 (a b : ℕ → ℕ → ℝ) :
    matmul (F := Ideal) (φ₁ := φ) (φ₂ := ψ) dot_S256x1024_S256x1024_S256x256_1_1_0_0_n_n none (up2 a) (up2 b) (constant S256x256 .f32 0x00000000#32)
      = up2 fun i j => ∑ k ∈ Finset.range 1024, a i k * b j k := by
  funext j
  idx_vars j
  pointwise [up2]
  exact coe_sum_mul (n := 1024) (fun k => a ↑j0 k) (fun k => b ↑j1 k)

theorem mm_S256x1024_S512x1024_S256x512_1_1_0_0 (a b : ℕ → ℕ → ℝ) :
    matmul (F := Ideal) (φ₁ := φ) (φ₂ := ψ) dot_S256x1024_S512x1024_S256x512_1_1_0_0_n_n none (up2 a) (up2 b) (constant S256x512 .f32 0x00000000#32)
      = up2 fun i j => ∑ k ∈ Finset.range 1024, a i k * b j k := by
  funext j
  idx_vars j
  pointwise [up2]
  exact coe_sum_mul (n := 1024) (fun k => a ↑j0 k) (fun k => b ↑j1 k)

theorem mm_S128x128_S128x128_S128x128_1_0_0_1 (a b : ℕ → ℕ → ℝ) :
    matmul (F := Ideal) (φ₁ := φ) (φ₂ := ψ) dot_S128x128_S128x128_S128x128_1_0_0_1_n_n none (up2 a) (up2 b) (constant S128x128 .f32 0x00000000#32)
      = up2 fun i j => ∑ k ∈ Finset.range 128, a i k * b k j := by
  funext j
  idx_vars j
  pointwise [up2]
  exact coe_sum_mul (n := 128) (fun k => a ↑j0 k) (fun k => b k ↑j1)

theorem mm_S128x128_S128x128_S128x128_1_1_0_0 (a b : ℕ → ℕ → ℝ) :
    matmul (F := Ideal) (φ₁ := φ) (φ₂ := ψ) dot_S128x128_S128x128_S128x128_1_1_0_0_n_n none (up2 a) (up2 b) (constant S128x128 .f32 0x00000000#32)
      = up2 fun i j => ∑ k ∈ Finset.range 128, a i k * b j k := by
  funext j
  idx_vars j
  pointwise [up2]
  exact coe_sum_mul (n := 128) (fun k => a ↑j0 k) (fun k => b ↑j1 k)

theorem mm_S128x128_S128x128_S128x128_0_0_1_1 (a b : ℕ → ℕ → ℝ) :
    matmul (F := Ideal) (φ₁ := φ) (φ₂ := ψ) dot_S128x128_S128x128_S128x128_0_0_1_1_n_n none (up2 a) (up2 b) (constant S128x128 .f32 0x00000000#32)
      = up2 fun i j => ∑ k ∈ Finset.range 128, a k i * b k j := by
  funext j
  idx_vars j
  pointwise [up2]
  exact coe_sum_mul (n := 128) (fun k => a k ↑j0) (fun k => b k ↑j1)

/-- The spatial product of the forward lines: chunk by chunk and group by group. -/
theorem mm_spatial (a : ℕ → ℕ → ℕ → ℕ → ℝ) (b : ℕ → ℕ → ℕ → ℝ) :
    Host.dotGeneral (F := Ideal) (φ₁ := φ) (φ₂ := ψ) dot_S64x128x4x128_S4x128x128_S4x64x128x128_1_2_03_1_2_0 none (up4 a) (up3 b)
      = up4 fun g c d i => ∑ k ∈ Finset.range 128, a c k g d * b g i k := by
  funext j
  idx_vars j
  pointwise [up4, up3]
  exact coe_sum_mul (n := 128) (fun k => a ↑j1 k ↑j0 ↑j2) (fun k => b ↑j0 ↑j3 k)

end Cert.KLift

end
-- ==== Proof.Reads.lean ====
/-
  What the loads of a whole buffer, of a plane and of a strided slab read of arrays of reals, and what stores leave.
-/
module

public import proofs.«01_k».proof.Proof.Lift
public import Idealize.ShloMosaic.Lib.Pipeline.ReadBack
public import Idealize.ShloMosaic.Lib.Pipeline.Value
public import Idealize.ShloMosaic.Lib.Pipeline.ValueKit.Acc

@[expose] public section

noncomputable section

namespace Cert.Lift

open Idealize.ShloMosaic

variable {sig : RefSig} {κ : Kind} {sp : Space} {e : EltTy} {n m p N a b : ℕ}

/-- The index that a rectangle's index names, coordinate by coordinate. -/
theorem idx_val {s : Shape} (B : LoadRect s) (x : B.shape.Idx) (ax : Fin s.rank) :
    (B.idx x ax).val = B.off ax + B.stride ax * (x ax).val := rfl

/-- A load of a whole matrix. -/
theorem read_whole2 {M : Memref sig κ sp ⟨2, ![n, m]⟩ e} (h : M.IsWhole) (X : (⟨2, ![n, m]⟩ : Shape).Idx → Elt Ideal e) (inb) :
    View.readAt (Elt Ideal) M.view (Rect.unit (s := ⟨2, ![n, m]⟩) ![0, 0] (no_index (⟨2, ![n, m]⟩ : Shape).size) inb).toLoadRect (h.unread X) = X := by
  funext x
  rw [h.readAt_unread]
  refine congrArg X (funext fun ax => Fin.ext ?_)
  rw [idx_val]
  match ax with
  | ⟨0, _⟩ => exact (Nat.zero_add _).trans (Nat.one_mul _)
  | ⟨1, _⟩ => exact (Nat.zero_add _).trans (Nat.one_mul _)

/-- A load of one plane of a stack of matrices. -/
theorem read_plane {M : Memref sig κ sp ⟨3, ![N, n, m]⟩ .f32} (h : M.IsWhole) (f : ℕ → ℕ → ℕ → ℝ) (g : ℕ) (inb) :
    View.readAt (Elt Ideal) M.view
        (Rect.unit (s := ⟨3, ![N, n, m]⟩) ![g, 0, 0] (no_index (⟨3, ![1, n, m]⟩ : Shape).size) inb).toLoadRect
        (h.unread (up3 f : (⟨3, ![N, n, m]⟩ : Shape).Idx → Elt Ideal .f32))
      = (up3 fun o i k => f (g + o) i k : (⟨3, ![1, n, m]⟩ : Shape).Idx → EReal) := by
  funext x
  rw [h.readAt_unread]
  show ((f _ _ _ : ℝ) : EReal) = _
  rw [idx_val, idx_val, idx_val]
  show ((f (g + 1 * _) (0 + 1 * _) (0 + 1 * _) : ℝ) : EReal) = _
  rw [one_mul, one_mul, one_mul, zero_add, zero_add]
  rfl

/-- A load of every `s`-th row of one plane, out of what stores left. -/
theorem read_strided (v : View sig κ sp ⟨3, ![N, n, m]⟩ .f32) (L : List (View.Piece (Elt Ideal) ⟨3, ![N, n, m]⟩ .f32)) (f : ℕ → ℕ → ℕ → ℝ)
    (hL : View.canon L = (up3 f : (⟨3, ![N, n, m]⟩ : Shape).Idx → EReal)) (g r s : ℕ) (inb) :
    v.readCov L { off := ![g, r, 0], size := (no_index (⟨3, ![1, a, b]⟩ : Shape).size), stride := ![1, s, 1], inb := inb }
      = (up3 fun o i k => f (g + o) (r + s * i) k : (⟨3, ![1, a, b]⟩ : Shape).Idx → EReal) := by
  rw [View.readCov_eq_canon', hL]
  funext x
  show ((f _ _ _ : ℝ) : EReal) = _
  rw [idx_val, idx_val, idx_val]
  show ((f (g + 1 * _) (r + s * _) (0 + 1 * _) : ℝ) : EReal) = _
  rw [one_mul, one_mul, zero_add]
  rfl

/-- A load of a whole matrix out of what stores left. -/
theorem read_cov2 (v : View sig κ sp ⟨2, ![n, m]⟩ .f32) (L : List (View.Piece (Elt Ideal) ⟨2, ![n, m]⟩ .f32)) (f : ℕ → ℕ → ℝ)
    (hL : View.canon L = (up2 f : (⟨2, ![n, m]⟩ : Shape).Idx → EReal)) (inb) :
    v.readCov L (Rect.unit (s := ⟨2, ![n, m]⟩) ![0, 0] (no_index (⟨2, ![n, m]⟩ : Shape).size) inb).toLoadRect
      = (up2 f : (⟨2, ![n, m]⟩ : Shape).Idx → EReal) := by
  rw [View.readCov_eq_canon', hL]
  funext x
  show ((f _ _ : ℝ) : EReal) = _
  rw [idx_val, idx_val]
  show ((f (0 + 1 * _) (0 + 1 * _) : ℝ) : EReal) = _
  rw [one_mul, one_mul, zero_add, zero_add]
  rfl

/-- A load of one plane passes over a store of another plane. -/
theorem plane_skip (v : View sig κ sp ⟨3, ![N, n, m]⟩ e) (g' g : ℕ) (inb) (inb') (w : (⟨3, ![1, n, m]⟩ : Shape).Idx → Elt Ideal e)
    (L : List (View.Piece (Elt Ideal) ⟨3, ![N, n, m]⟩ e)) (hg : g' ≠ g) :
    v.readCov (⟨Rect.unit (s := ⟨3, ![N, n, m]⟩) ![g', 0, 0] (no_index (⟨3, ![1, n, m]⟩ : Shape).size) inb, w⟩ :: L)
        (Rect.unit (s := ⟨3, ![N, n, m]⟩) ![g, 0, 0] (no_index (⟨3, ![1, n, m]⟩ : Shape).size) inb').toLoadRect
      = v.readCov L (Rect.unit (s := ⟨3, ![N, n, m]⟩) ![g, 0, 0] (no_index (⟨3, ![1, n, m]⟩ : Shape).size) inb').toLoadRect := by
  rw [View.readCov_eq_canon', View.readCov_eq_canon']
  funext j
  refine View.canon_cons_of_not_mem _ _ fun hm => ?_
  have h0 := (Rect.mem_set_unit (inb := inb)).mp hm 0
  have hj0 : (j 0).val < 1 := (j 0).isLt
  change g' ≤ g + 1 * (j 0).val ∧ g + 1 * (j 0).val < g' + 1 at h0
  omega

/-- A load of one plane of a stack that one store filled. -/
theorem plane_base (v : View sig κ sp ⟨3, ![N, n, m]⟩ .f32) (g : ℕ) (inb) (inb') (f : ℕ → ℕ → ℕ → ℝ)
    (L : List (View.Piece (Elt Ideal) ⟨3, ![N, n, m]⟩ .f32)) :
    v.readCov (⟨Rect.unit (s := ⟨3, ![N, n, m]⟩) ![0, 0, 0] (no_index (⟨3, ![N, n, m]⟩ : Shape).size) inb,
          (up3 f : (⟨3, ![N, n, m]⟩ : Shape).Idx → EReal)⟩ :: L)
        (Rect.unit (s := ⟨3, ![N, n, m]⟩) ![g, 0, 0] (no_index (⟨3, ![1, n, m]⟩ : Shape).size) inb').toLoadRect
      = (up3 fun o i k => f (g + o) i k : (⟨3, ![1, n, m]⟩ : Shape).Idx → EReal) := by
  rw [View.readCov_eq_canon']
  funext x
  rw [View.canon_cons_unit_lit' inb _ _ (fun a => by match a with | ⟨0, _⟩ => rfl | ⟨1, _⟩ => rfl | ⟨2, _⟩ => rfl)]
  show ((f _ _ _ : ℝ) : EReal) = _
  rw [idx_val, idx_val, idx_val]
  show ((f (g + 1 * _) (0 + 1 * _) (0 + 1 * _) : ℝ) : EReal) = _
  rw [one_mul, one_mul, one_mul, zero_add, zero_add]
  rfl

/-- A block stored into a matrix is the matrix's block. -/
theorem piece2 {w : (⟨2, ![a, b]⟩ : Shape).Idx → EReal} {f g : ℕ → ℕ → ℝ} (o0 o1 : ℕ) (inb) (hw : w = up2 f)
    (h : ∀ i < a, ∀ k < b, f i k = g (o0 + i) (o1 + k)) (x) :
    w x = (up2 g : (⟨2, ![n, m]⟩ : Shape).Idx → EReal) ((Rect.unit (s := ⟨2, ![n, m]⟩) ![o0, o1] (⟨2, ![a, b]⟩ : Shape).size inb).emb x) := by
  subst hw
  show ((f _ _ : ℝ) : EReal) = ((g (o0 + 1 * _) (o1 + 1 * _) : ℝ) : EReal)
  rw [one_mul, one_mul, h _ (x 0).isLt _ (x 1).isLt]

/-- A plane stored into a stack is the stack's plane. -/
theorem piece3 {w : (⟨3, ![1, n, m]⟩ : Shape).Idx → EReal} {f g : ℕ → ℕ → ℕ → ℝ} (o : ℕ) (inb) (hw : w = up3 f)
    (h : ∀ i < n, ∀ k < m, f 0 i k = g o i k) (x) :
    w x = (up3 g : (⟨3, ![N, n, m]⟩ : Shape).Idx → EReal)
      ((Rect.unit (s := ⟨3, ![N, n, m]⟩) ![o, 0, 0] (⟨3, ![1, n, m]⟩ : Shape).size inb).emb x) := by
  subst hw
  show ((f _ _ _ : ℝ) : EReal) = ((g (o + 1 * _) (0 + 1 * _) (0 + 1 * _) : ℝ) : EReal)
  have h0 : (x 0).val = 0 := by have : (x 0).val < 1 := (x 0).isLt; omega
  rw [one_mul, one_mul, one_mul, h0, zero_add, zero_add, add_zero]
  exact congrArg _ (h _ (x 1).isLt _ (x 2).isLt)

/-- A list of stores whose last is a block of the matrix holds the matrix's entries. -/
theorem po2 (o0 o1 : ℕ) {inb} {w : (⟨2, ![a, b]⟩ : Shape).Idx → EReal} {f g : ℕ → ℕ → ℝ}
    {L : List (View.Piece (Elt Ideal) ⟨2, ![n, m]⟩ .f32)} (hw : w = up2 f)
    (h : ∀ i < a, ∀ k < b, f i k = g (o0 + i) (o1 + k)) (hL : View.PiecesOf (up2 g : (⟨2, ![n, m]⟩ : Shape).Idx → EReal) L) :
    View.PiecesOf (up2 g : (⟨2, ![n, m]⟩ : Shape).Idx → EReal)
      ((⟨Rect.unit (s := ⟨2, ![n, m]⟩) ![o0, o1] (⟨2, ![a, b]⟩ : Shape).size inb, w⟩ : View.Piece (Elt Ideal) ⟨2, ![n, m]⟩ .f32) :: L) :=
  And.intro (fun x => piece2 o0 o1 inb hw h x) hL

/-- A list of stores whose last is a plane of the stack holds the stack's entries. -/
theorem po3 (o : ℕ) {inb} {w : (⟨3, ![1, n, m]⟩ : Shape).Idx → EReal} {f g : ℕ → ℕ → ℕ → ℝ}
    {L : List (View.Piece (Elt Ideal) ⟨3, ![N, n, m]⟩ .f32)} (hw : w = up3 f)
    (h : ∀ i < n, ∀ k < m, f 0 i k = g o i k) (hL : View.PiecesOf (up3 g : (⟨3, ![N, n, m]⟩ : Shape).Idx → EReal) L) :
    View.PiecesOf (up3 g : (⟨3, ![N, n, m]⟩ : Shape).Idx → EReal)
      ((⟨Rect.unit (s := ⟨3, ![N, n, m]⟩) ![o, 0, 0] (⟨3, ![1, n, m]⟩ : Shape).size inb, w⟩ : View.Piece (Elt Ideal) ⟨3, ![N, n, m]⟩ .f32) :: L) :=
  And.intro (fun x => piece3 o inb hw h x) hL

/-- A list of stores whose last is a block of the matrix holds the matrix's entries. -/
theorem po2b (o0 o1 : ℕ) {inb} {w : (⟨2, ![a, b]⟩ : Shape).Idx → EReal} {f g : ℕ → ℕ → ℝ}
    {L : List (View.Piece (Elt Ideal) ⟨2, ![n, m]⟩ .bf16)} (hw : w = up2 f)
    (h : ∀ i < a, ∀ k < b, f i k = g (o0 + i) (o1 + k)) (hL : View.PiecesOf (up2 g : (⟨2, ![n, m]⟩ : Shape).Idx → EReal) L) :
    View.PiecesOf (up2 g : (⟨2, ![n, m]⟩ : Shape).Idx → EReal)
      ((⟨Rect.unit (s := ⟨2, ![n, m]⟩) ![o0, o1] (⟨2, ![a, b]⟩ : Shape).size inb, w⟩ : View.Piece (Elt Ideal) ⟨2, ![n, m]⟩ .bf16) :: L) :=
  And.intro (fun x => piece2 o0 o1 inb hw h x) hL

/-- A list of stores whose last is a plane of the stack holds the stack's entries. -/
theorem po3b (o : ℕ) {inb} {w : (⟨3, ![1, n, m]⟩ : Shape).Idx → EReal} {f g : ℕ → ℕ → ℕ → ℝ}
    {L : List (View.Piece (Elt Ideal) ⟨3, ![N, n, m]⟩ .bf16)} (hw : w = up3 f)
    (h : ∀ i < n, ∀ k < m, f 0 i k = g o i k) (hL : View.PiecesOf (up3 g : (⟨3, ![N, n, m]⟩ : Shape).Idx → EReal) L) :
    View.PiecesOf (up3 g : (⟨3, ![N, n, m]⟩ : Shape).Idx → EReal)
      ((⟨Rect.unit (s := ⟨3, ![N, n, m]⟩) ![o, 0, 0] (⟨3, ![1, n, m]⟩ : Shape).size inb, w⟩ : View.Piece (Elt Ideal) ⟨3, ![N, n, m]⟩ .bf16) :: L) :=
  And.intro (fun x => piece3 o inb hw h x) hL

/-- After the stores of a list, the planes `o` with `P o` of the stack are those of `g`. -/
def Planes (L : List (View.Piece (Elt Ideal) ⟨3, ![N, n, m]⟩ .f32)) (g : ℕ → ℕ → ℕ → ℝ) (P : ℕ → Prop) : Prop :=
  ∀ y : (⟨3, ![N, n, m]⟩ : Shape).Idx, P (y 0).val → View.canon L y = (up3 g : (⟨3, ![N, n, m]⟩ : Shape).Idx → EReal) y

/-- Nothing is said of no plane. -/
theorem planes_none (L : List (View.Piece (Elt Ideal) ⟨3, ![N, n, m]⟩ .f32)) (g : ℕ → ℕ → ℕ → ℝ) : Planes L g fun _ => False :=
  fun _ h => h.elim

/-- A store of one plane leaves the others. -/
theorem planes_old (o : ℕ) {inb} {w : (⟨3, ![1, n, m]⟩ : Shape).Idx → EReal} {g : ℕ → ℕ → ℕ → ℝ} {P : ℕ → Prop}
    {L : List (View.Piece (Elt Ideal) ⟨3, ![N, n, m]⟩ .f32)} (hL : Planes L g P) :
    Planes ((⟨Rect.unit (s := ⟨3, ![N, n, m]⟩) ![o, 0, 0] (⟨3, ![1, n, m]⟩ : Shape).size inb, w⟩ :
      View.Piece (Elt Ideal) ⟨3, ![N, n, m]⟩ .f32) :: L) g fun x => x ≠ o ∧ P x := by
  intro y hy
  refine (View.canon_cons_of_not_mem _ _ fun hm => ?_).trans (hL y hy.2)
  have h0 := (Rect.mem_set_unit (inb := inb)).mp hm 0
  change o ≤ (y 0).val ∧ (y 0).val < o + 1 at h0
  have := hy.1
  omega

/-- A store of one plane of `g` makes that plane `g`'s. -/
theorem planes_new (o : ℕ) {inb} {w : (⟨3, ![1, n, m]⟩ : Shape).Idx → EReal} {f g : ℕ → ℕ → ℕ → ℝ} {P : ℕ → Prop}
    {L : List (View.Piece (Elt Ideal) ⟨3, ![N, n, m]⟩ .f32)} (hw : w = up3 f) (h : ∀ i < n, ∀ k < m, f 0 i k = g o i k)
    (hL : Planes L g P) :
    Planes ((⟨Rect.unit (s := ⟨3, ![N, n, m]⟩) ![o, 0, 0] (⟨3, ![1, n, m]⟩ : Shape).size inb, w⟩ :
      View.Piece (Elt Ideal) ⟨3, ![N, n, m]⟩ .f32) :: L) g fun x => x = o ∨ P x := by
  intro y hy
  by_cases hm : y ∈ (Rect.unit (s := ⟨3, ![N, n, m]⟩) ![o, 0, 0] (⟨3, ![1, n, m]⟩ : Shape).size inb).set
  · obtain ⟨x, rfl⟩ : ∃ x, y = (Rect.unit (s := ⟨3, ![N, n, m]⟩) ![o, 0, 0] (⟨3, ![1, n, m]⟩ : Shape).size inb).emb x := by
      rw [← Rect.map_emb_univ] at hm
      obtain ⟨x, -, hx⟩ := Finset.mem_map.mp hm
      exact ⟨x, hx.symm⟩
    exact (View.canon_cons_emb _ _ _ _).trans (piece3 o inb hw h x)
  · refine (View.canon_cons_of_not_mem _ _ hm).trans (hL y (hy.resolve_left fun e => hm ?_))
    refine Rect.mem_set_unit.mpr fun a => ?_
    match a with
    | ⟨0, _⟩ => exact ⟨e.ge, Nat.lt_succ_of_le e.le⟩
    | ⟨1, h1⟩ => exact ⟨Nat.zero_le _, (Nat.zero_add _).symm ▸ (y ⟨1, h1⟩).isLt⟩
    | ⟨2, h2⟩ => exact ⟨Nat.zero_le _, (Nat.zero_add _).symm ▸ (y ⟨2, h2⟩).isLt⟩

/-- All planes are `g`'s. -/
theorem planes_all {L : List (View.Piece (Elt Ideal) ⟨3, ![N, n, m]⟩ .f32)} {g : ℕ → ℕ → ℕ → ℝ} {P : ℕ → Prop}
    (hL : Planes L g P) (h : ∀ o < N, P o) : View.canon L = (up3 g : (⟨3, ![N, n, m]⟩ : Shape).Idx → EReal) :=
  funext fun y => hL y (h _ (y 0).isLt)

/-- Two stacks that agree plane by plane. -/
theorem canon_of_pieces {S : Shape} {ε : EltTy} (G : S.Idx → Elt Ideal ε) (L : List (View.Piece (Elt Ideal) S ε))
    (hL : View.PiecesOf G L) (hc : ∀ y, ∃ q ∈ L, y ∈ q.1.set) : View.canon L = G :=
  funext fun y => View.canon_apply_of_pieces G L hL.mem y (hc y)

/-- The lower triangle of one matrix, the rest of another. -/
theorem select_tril (f g : ℕ → ℕ → ℝ) (c : IVec ⟨2, ![n, m]⟩ 1) (hc : ∀ x, c x = 1#1 ↔ (x 1).val ≤ (x 0).val) :
    select c (up2 f : (⟨2, ![n, m]⟩ : Shape).Idx → EReal) (up2 g) = up2 fun i k => if k ≤ i then f i k else g i k := by
  funext x
  show (if _ then _ else _) = ((if _ then _ else _ : ℝ) : EReal)
  by_cases h : (x 1).val ≤ (x 0).val
  · rw [if_pos h]; simp [(hc x).2 h]; rfl
  · rw [if_neg h]
    have : ¬ c x = 1#1 := fun e => h ((hc x).1 e)
    simp [this]; rfl

end Cert.Lift

end
-- ==== Proof.Pay.lean ====
/-
  What the kernel's straight-line pieces compute of arrays of reals.
-/
module

public import proofs.«01_k».proof.Proof.Model
public import proofs.«01_k».proof.Proof.KMat
public import proofs.«01_k».proof.Proof.Reads
public import proofs.«01_k».proof.Proof.Gen.KernelIdeal.Skeleton

@[expose] public section

noncomputable section

namespace Cert.KLift

open Idealize.ShloMosaic Cert.KernelIdeal Cert.KernelIdeal.Gen Cert.Lift

/-- The two named constants. -/
theorem named_k : (Named.named κ "gelu_k" 0x3D372713#32 : Ideal .f32) = ((8943 / 200000 : ℝ) : EReal) :=
  IdealRules.named_const.ideal_named_scalar _ _ _ _ rfl
theorem named_3k : (Named.named κ "gelu_3k" 0x3E095D4F#32 : Ideal .f32) = ((26829 / 200000 : ℝ) : EReal) :=
  IdealRules.named_const.ideal_named_scalar _ _ _ _ rfl

theorem slit_c0 : (Scalar.ofBits .f32 0x3F4C422A#32 : Ideal .f32) = ((c0 : ℝ) : EReal) := lit_c0
theorem slit_eps : (Scalar.ofBits .f32 0x358637BD#32 : Ideal .f32) = ((eps : ℝ) : EReal) := lit_eps
theorem slit_zero : (Scalar.ofBits .f32 0x00000000#32 : Ideal .f32) = ((0 : ℝ) : EReal) := lit_zero
theorem slit_one : (Scalar.ofBits .f32 0x3F800000#32 : Ideal .f32) = ((1 : ℝ) : EReal) := lit_one
theorem slit_half : (Scalar.ofBits .f32 0x3F000000#32 : Ideal .f32) = ((1 / 2 : ℝ) : EReal) := lit_half
theorem slit_512 : (Scalar.ofBits .f32 0x44000000#32 : Ideal .f32) = ((512 : ℝ) : EReal) := lit_512

variable (X : In) (f g : ℕ → ℕ → ℝ) (h : ℕ → ℕ → ℕ → ℝ)

theorem pay79 : k0_pay79 (F := Ideal) (up2 f) = up2 f := rfl
theorem pay84 : k0_pay84 (F := Ideal) (up2 f) = up2 f := rfl

theorem pay80 : k0_pay80 (F := Ideal) (up2 X.zp) = up2 X.zc := by
  unfold k0_pay80
  simp only [pay79, mulf_up2, named_k, broadcast_up2, addf_up2, slit_c0, tanh_up2, slit_one, slit_half, slit_512, reduce_rows, cast_col,
    divf_up2_512, bcast_col, subf_up2]
  rfl
theorem pay81 : k0_pay81 (F := Ideal) (up2 X.zp) = up2 fun i _ => X.rs i := by
  unfold k0_pay81
  simp only [pay80, mulf_up2, broadcast_up2, addf_up2, slit_eps, slit_512, reduce_rows, cast_col, divf_up2_512]
  exact rsqrt_up2 (fun i _ => X.vr i + eps) fun i _ => X.vr_eps_pos i
theorem pay82 : k0_pay82 (F := Ideal) (up2 X.zp) = up2 X.zh := by
  unfold k0_pay82
  simp only [pay80, pay81, mulf_up2, bcast_col]
  rfl
theorem pay83 : k0_pay83 (F := Ideal) (up2 X.zp) (up2 X.lg) (up2 X.lb) = up2 X.zln := by
  unfold k0_pay83
  simp only [pay82, mulf_up2, addf_up2, bcast_row, truncf_up2]
  rfl
theorem pay85 : k0_pay85 (F := Ideal) (up2 X.up) = up2 X.u := by
  unfold k0_pay85
  simp only [pay84, mulf_up2, named_k, broadcast_up2, addf_up2, slit_c0, tanh_up2, slit_one, slit_half]
  rfl

theorem pay86 (x : S128x128.Idx) : k0_pay86 x = 1#1 ↔ (x 1).val ≤ (x 0).val := by
  have hx : ∀ a, (x a).val < 128 := fun a => by
    match a with
    | ⟨0, _⟩ => exact (x 0).isLt
    | ⟨1, _⟩ => exact (x 1).isLt
  have h0 := hx 0
  have h1 := hx 1
  unfold k0_pay86
  pointwise
  generalize (x 0).val = a at *
  generalize (x 1).val = b at *
  show BitVec.ofBool (BitVec.sle (BitVec.ofNat 32 b) (BitVec.ofNat 32 a)) = 1#1 ↔ b ≤ a
  have ha : (BitVec.ofNat 32 a).toInt = a := by
    rw [BitVec.toInt_eq_toNat_of_lt] <;> rw [BitVec.toNat_ofNat, Nat.mod_eq_of_lt (by omega)]
    omega
  have hb : (BitVec.ofNat 32 b).toInt = b := by
    rw [BitVec.toInt_eq_toNat_of_lt] <;> rw [BitVec.toNat_ofNat, Nat.mod_eq_of_lt (by omega)]
    omega
  rw [BitVec.sle, ha, hb]
  by_cases h : b ≤ a <;> simp [h]
theorem sel86 (f g : ℕ → ℕ → ℝ) : select k0_pay86 (up2 f : S128x128.Idx → EReal) (up2 g) = up2 fun i k => if k ≤ i then f i k else g i k :=
  select_tril f g _ pay86

theorem pay87 : k0_pay87 (F := Ideal) (up3 h) = up2 fun i k => if k ≤ i then h 0 i k else 0 := by
  unfold k0_pay87
  simp only [cast_drop, slit_zero, broadcast_up2]
  exact (congrArg (fun v => truncf (F := Ideal) .bf16 v bitsLt_bf16_f32) (sel86 _ _)).trans rfl
theorem pay88 : k0_pay88 (F := Ideal) (up2 f) = up2 fun i k => f (0 + i) (0 + k) := rfl
theorem pay89 : k0_pay89 (F := Ideal) (up2 f) = up2 fun i k => f (0 + i) (0 + k) := rfl
theorem pay91 : k0_pay91 (F := Ideal) (up2 X.dyg) (up2 X.up) = up2 fun i k => X.dsz (0 + i) (0 + k) := by
  unfold k0_pay91
  simp only [pay85, pay89, extract_up2, mulf_up2]
  rfl
theorem pay92 : k0_pay92 (F := Ideal) (up2 X.dyg) (up2 X.up) = up2 fun i k => X.dsz (0 + i) (0 + k) := by
  unfold k0_pay92
  simp only [pay91, truncf_up2]
theorem pay93 : k0_pay93 (F := Ideal) (up3 h) = up2 fun i k => h 0 i k := by
  unfold k0_pay93
  simp only [cast_drop]
theorem pay94 : k0_pay94 (F := Ideal) (up2 X.dyg) (up2 X.up) = up1 fun i => ∑ k ∈ Finset.range 128, X.dsz (0 + i) (0 + k) := by
  unfold k0_pay94
  simp only [pay91, reduce_rows]
theorem pay167 : k0_pay167 (F := Ideal) (up2 f) (up2 g) = up2 fun i k => g i k + ∑ i ∈ Finset.range 256, f i k := by
  unfold k0_pay167
  simp only [reduce_cols, cast_row, addf_up2]
theorem pay168 : k0_pay168 (F := Ideal) (up2 fun i _ => X.rs i) (up2 X.zh) (up2 X.lg) (up2 X.dzln) = up2 X.dz := by
  unfold k0_pay168
  simp only [bcast_row, mulf_up2, reduce_rows, cast_col, slit_512, broadcast_up2, divf_up2_512, bcast_col, subf_up2]
  rfl
theorem pay169 : k0_pay169 (F := Ideal) (up2 f) = up2 fun i k => In.gt (f i k) := by
  unfold k0_pay169
  simp only [mulf_up2, named_k, broadcast_up2, addf_up2, slit_c0, tanh_up2]
  rfl
theorem pay174 : k0_pay174 (F := Ideal) (up2 f) = up2 fun i k => In.gt (f i k) := by
  unfold k0_pay174
  simp only [mulf_up2, named_k, broadcast_up2, addf_up2, slit_c0, tanh_up2]
  rfl
theorem pay170 : k0_pay170 (F := Ideal) (up2 f) = up2 fun i k => 1 / 2 * (1 + In.gt (f i k)) := by
  unfold k0_pay170
  simp only [pay169, mulf_up2, broadcast_up2, addf_up2, slit_one, slit_half]
theorem pay175 : k0_pay175 (F := Ideal) (up2 f) = up2 fun i k => 1 / 2 * (1 + In.gt (f i k)) := by
  unfold k0_pay175
  simp only [pay174, mulf_up2, broadcast_up2, addf_up2, slit_one, slit_half]
theorem pay171 : k0_pay171 (F := Ideal) (up2 f) = up2 fun i k => 1 / 2 * f i k * (1 - In.gt (f i k) * In.gt (f i k)) := by
  unfold k0_pay171
  simp only [pay169, mulf_up2, broadcast_up2, subf_up2, slit_one, slit_half]
theorem pay176 : k0_pay176 (F := Ideal) (up2 f) = up2 fun i k => 1 / 2 * f i k * (1 - In.gt (f i k) * In.gt (f i k)) := by
  unfold k0_pay176
  simp only [pay174, mulf_up2, broadcast_up2, subf_up2, slit_one, slit_half]
theorem pay172 : k0_pay172 (F := Ideal) (up2 f) = up2 fun i k => 1 + 26829 / 200000 * (f i k * f i k) := by
  unfold k0_pay172
  simp only [mulf_up2, named_3k, broadcast_up2, addf_up2, slit_one]
theorem pay173 : k0_pay173 (F := Ideal) (up2 f) (k0_pay170 (up2 g)) (k0_pay171 (up2 g)) (k0_pay172 (up2 g))
    = up2 fun i k => f i k * In.geluD (g i k) := by
  unfold k0_pay173
  simp only [pay170, pay171, pay172, mulf_up2, broadcast_up2, addf_up2, slit_c0, truncf_up2]
  rfl
theorem pay1 : k0_pay1 (F := Ideal) (up2 g) (up2 f) (k0_pay175 (up2 g)) (k0_pay176 (up2 g)) = up2 fun i k => f i k * In.geluD (g i k) := by
  unfold k0_pay1
  simp only [pay175, pay176, mulf_up2, named_3k, broadcast_up2, addf_up2, slit_c0, slit_one, truncf_up2]
  rfl

end Cert.KLift

end
-- ==== Proof.Rules.lean ====
/-
  The rewriting rules of the kernel's body, gathered.
-/
module

public import proofs.«01_k».proof.Proof.Pay

@[expose] public section

noncomputable section

namespace Cert.KLift

open Idealize.ShloMosaic Cert.KernelIdeal Cert.KernelIdeal.Gen Cert.Lift

/-- What every operation of the body does to arrays of reals: the conjunction of the rules of the single operations. -/
def rules :=
  And.intro @mulf_up2 <| And.intro @addf_up2 <| And.intro @subf_up2 <| And.intro @truncf_up2 <| And.intro @extf_up2 <| And.intro @logistic_up2 <|
  And.intro @extract_up2 <| And.intro @cast_same2 <| And.intro @cast_drop <| And.intro @cast_add <| And.intro @cast_col <| And.intro @cast_row <|
  And.intro @bcast_col <| And.intro @bcast_row <| And.intro @reduce_rows <| And.intro @reduce_cols <| And.intro @broadcast_up2 <| And.intro @lit_zero <|
  And.intro @lit_one <| And.intro @read_whole2 <| And.intro @read_plane <| And.intro @View.readCov_cons_toLoadRect <| And.intro
  @mm_S256x1024_S1024x1024_S256x1024_1_1_0_0 <| And.intro @mm_S256x1024_S256x1024_S1024x1024_0_0_1_1 <| And.intro
  @mm_S256x256_S256x1024_S256x1024_1_0_0_1 <| And.intro @mm_S256x512_S512x1024_S256x1024_1_0_0_1 <| And.intro @mm_S256x256_S256x1024_S256x1024_0_0_1_1
  <| And.intro @mm_S256x512_S256x1024_S512x1024_0_0_1_1 <| And.intro @mm_S256x1024_S256x1024_S256x256_1_1_0_0 <| And.intro
  @mm_S256x1024_S512x1024_S256x512_1_1_0_0 <| And.intro @mm_S128x128_S128x128_S128x128_1_0_0_1 <| And.intro @mm_S128x128_S128x128_S128x128_1_1_0_0 <|
  And.intro @mm_S128x128_S128x128_S128x128_0_0_1_1 <| And.intro @pay79 <| And.intro @pay81 <| And.intro @pay82 <| And.intro @pay83 <| And.intro @pay84
  <| And.intro @pay85 <| And.intro @sel86 <| And.intro @pay87 <| And.intro @pay88 <| And.intro @pay89 <| And.intro @pay91 <| And.intro @pay92 <|
  And.intro @pay93 <| And.intro @pay94 <| And.intro @pay167 <| @pay168

end Cert.KLift

end
-- ==== Proof.KerA.lean ====
/-
  What the kernel's body computes at a grid point of case A, of arrays of reals.
-/
module

public import proofs.«01_k».proof.Proof.Rules
public import proofs.«01_k».proof.Proof.Gen.KernelIdeal.Frame

@[expose] public section

set_option maxHeartbeats 1000000

noncomputable section

namespace Cert.KLift

open Idealize.ShloMosaic Cert.KernelIdeal Cert.KernelIdeal.Gen Cert.Lift

variable {c : Dev nD} {i : grid0.Coords}
  {arg1 : Memref sig .tc .vmem S256x1024 .bf16} {harg1 : arg1.IsWhole}
  {arg2 : Memref sig .tc .vmem S256x256 .f32} {harg2 : arg2.IsWhole}
  {arg3 : Memref sig .tc .vmem S256x512 .bf16} {harg3 : arg3.IsWhole}
  {arg4 : Memref sig .tc .vmem S256x1024 .bf16} {harg4 : arg4.IsWhole}
  {arg5 : Memref sig .tc .vmem S256x512 .bf16} {harg5 : arg5.IsWhole}
  {arg6 : Memref sig .tc .vmem S256x512 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1024x1024 .bf16} {harg9 : arg9.IsWhole}
  {arg10 : Memref sig .tc .vmem S256x1024 .bf16} {harg10 : arg10.IsWhole}
  {arg11 : Memref sig .tc .vmem S512x1024 .bf16} {harg11 : arg11.IsWhole}
  {arg12 : Memref sig .tc .vmem S4x128x128 .f32} {harg12 : arg12.IsWhole}
  {arg13 : Memref sig .tc .vmem S4x128x1 .f32} {harg13 : arg13.IsWhole}
  {arg14 : Memref sig .tc .vmem S1x512 .f32} {harg14 : arg14.IsWhole}
  {arg15 : Memref sig .tc .vmem S1x512 .f32} {harg15 : arg15.IsWhole}
  {arg16 : Memref sig .tc .vmem S256x256 .f32} {harg16 : arg16.IsWhole}
  {arg17 : Memref sig .tc .vmem S64x1024 .f32} {harg17 : arg17.IsWhole}
  {arg18 : Memref sig .tc .vmem S16x4096 .f32} {harg18 : arg18.IsWhole}
  {arg19 : Memref sig .tc .vmem S256x3072 .bf16} {harg19 : arg19.IsWhole}
  {arg20 : Memref sig .tc .vmem S1024x1024 .f32} {harg20 : arg20.IsWhole}
  {arg21 : Memref sig .tc .vmem S4x256x256 .f32} {harg21 : arg21.IsWhole}
  {arg22 : Memref sig .tc .vmem S4x512x256 .f32} {harg22 : arg22.IsWhole}
  {arg23 : Memref sig .tc .vmem S4x128x128 .f32} {harg23 : arg23.IsWhole}
  {arg24 : Memref sig .tc .vmem S4x128x128 .f32} {harg24 : arg24.IsWhole}
  {arg25 : Memref sig .tc .vmem S1x512 .f32} {harg25 : arg25.IsWhole}
  {arg26 : Memref sig .tc .vmem S1x512 .f32} {harg26 : arg26.IsWhole}
  {arg27 : Memref sig .tc .vmem S256x512 .f32} {harg27 : arg27.IsWhole}
  {arg28 : Memref sig .tc .vmem S256x512 .f32} {harg28 : arg28.IsWhole}
  {arg29 : Memref sig .tc .vmem S2x256x128 .f32} {harg29 : arg29.IsWhole}
  {X : In}

theorem v5_A : kernelRun0_A.sl.v5 (F := Ideal) c arg1 harg1 arg9 harg9 (up2 X.dy) (up2 X.wo) = up2 X.dm := by
  simp only [kernelRun0_A.sl.v5, kernelRun0_A.sl.cst, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  rfl

theorem v18_A : kernelRun0_A.sl.v18 (F := Ideal) c arg2 harg2 arg10 harg10 (up2 X.ya) (up2 X.wba) = up2 X.a := by
  simp only [kernelRun0_A.sl.v18, kernelRun0_A.sl.v14, kernelRun0_A.sl.cst, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  rfl

theorem v20_A : kernelRun0_A.sl.v20 (F := Ideal) c arg3 harg3 arg11 harg11 (up2 X.yg) (up2 X.wbg) = up2 X.bm := by
  simp only [kernelRun0_A.sl.v20, kernelRun0_A.sl.v16, kernelRun0_A.sl.cst, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  rfl

theorem v23_A : kernelRun0_A.sl.v23 (F := Ideal) c arg7 harg7 (up2 X.ga) = up2 fun i k => sg (X.ga i k) := by
  simp only [kernelRun0_A.sl.v23, kernelRun0_A.sl.v22, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem v26_A : kernelRun0_A.sl.v26 (F := Ideal) c arg8 harg8 (up2 X.gb) = up2 fun i k => sg (X.gb i k) := by
  simp only [kernelRun0_A.sl.v26, kernelRun0_A.sl.v25, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem v32_A : kernelRun0_A.sl.v32 (F := Ideal) c arg1 harg1 arg2 harg2 arg7 harg7 arg9 harg9 arg10 harg10 (up2 X.dy) (up2 X.ya) (up2 X.ga) (up2 X.wo) (up2 X.wba) = up2 X.dga := by
  simp only [kernelRun0_A.sl.v32, kernelRun0_A.sl.v31, kernelRun0_A.sl.v30, kernelRun0_A.sl.v29, kernelRun0_A.sl.v28, kernelRun0_A.sl.cst_25, kernelRun0_A.sl.v27, v23_A, v5_A, v18_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  rfl

theorem v39_A : kernelRun0_A.sl.v39 (F := Ideal) c arg1 harg1 arg3 harg3 arg8 harg8 arg9 harg9 arg11 harg11 (up2 X.dy) (up2 X.yg) (up2 X.gb) (up2 X.wo) (up2 X.wbg) = up2 X.dgb := by
  simp only [kernelRun0_A.sl.v39, kernelRun0_A.sl.v38, kernelRun0_A.sl.v37, kernelRun0_A.sl.v36, kernelRun0_A.sl.v28, kernelRun0_A.sl.cst_25, kernelRun0_A.sl.v34, v20_A, v26_A, v5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  rfl

theorem v42_A : kernelRun0_A.sl.v42 (F := Ideal) c arg1 harg1 arg7 harg7 arg9 harg9 (up2 X.dy) (up2 X.ga) (up2 X.wo) = up2 X.da := by
  simp only [kernelRun0_A.sl.v42, kernelRun0_A.sl.v41, v23_A, v5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  rfl

theorem v44_A : kernelRun0_A.sl.v44 (F := Ideal) c arg1 harg1 arg8 harg8 arg9 harg9 (up2 X.dy) (up2 X.gb) (up2 X.wo) = up2 X.db := by
  simp only [kernelRun0_A.sl.v44, kernelRun0_A.sl.v43, v26_A, v5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  rfl

theorem v11_A : kernelRun0_A.sl.v11 (F := Ideal) c arg1 harg1 arg4 harg4 arg20 (up2 X.dy) (up2 X.mg) = up2 fun k l => 0 + ∑ i ∈ Finset.range 256, X.mg i k * X.dy i l := by
  simp only [kernelRun0_A.sl.v11, kernelRun0_A.sl.v7, kernelRun0_A.sl.v6, kernelRun0_A.sl.H19_1, kernelRun0_A.sl.v709, kernelRun0_A.sl.cst_524, kernelRun0_A.sl.v10, kernelRun0_A.sl.v9, kernelRun0_A.sl.cst_8, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem v45_A : kernelRun0_A.sl.v45 (F := Ideal) c arg1 harg1 arg2 harg2 arg7 harg7 arg9 harg9 (up2 X.dy) (up2 X.ya) (up2 X.ga) (up2 X.wo) = up2 fun k l => ∑ i ∈ Finset.range 256, X.ya i k * X.da i l := by
  simp only [kernelRun0_A.sl.v45, kernelRun0_A.sl.v14, kernelRun0_A.sl.cst, v42_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem v46_A : kernelRun0_A.sl.v46 (F := Ideal) c arg1 harg1 arg3 harg3 arg8 harg8 arg9 harg9 (up2 X.dy) (up2 X.yg) (up2 X.gb) (up2 X.wo) = up2 fun k l => ∑ i ∈ Finset.range 256, X.yg i k * X.db i l := by
  simp only [kernelRun0_A.sl.v46, kernelRun0_A.sl.v16, kernelRun0_A.sl.cst_30, v44_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem v53_A : kernelRun0_A.sl.v53 (F := Ideal) c arg1 harg1 arg2 harg2 arg7 harg7 arg9 harg9 arg21 (up2 X.dy) (up2 X.ya) (up2 X.ga) (up2 X.wo) = up3 fun _ k l => 0 + ∑ i ∈ Finset.range 256, X.ya i k * X.da i (0 + l) := by
  simp only [kernelRun0_A.sl.v53, kernelRun0_A.sl.v50, kernelRun0_A.sl.v49, kernelRun0_A.sl.v48, kernelRun0_A.sl.v47, kernelRun0_A.sl.H20_1, kernelRun0_A.sl.v711, kernelRun0_A.sl.cst_524, v45_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho k _ l _ => by simp only [Nat.lt_one_iff.1 ho, zero_add, add_zero]

theorem v67_A : kernelRun0_A.sl.v67 (F := Ideal) c arg1 harg1 arg2 harg2 arg7 harg7 arg9 harg9 arg21 (up2 X.dy) (up2 X.ya) (up2 X.ga) (up2 X.wo) = up3 fun _ k l => 0 + ∑ i ∈ Finset.range 256, X.ya i k * X.da i (256 + l) := by
  simp only [kernelRun0_A.sl.v67, kernelRun0_A.sl.v64, kernelRun0_A.sl.v63, kernelRun0_A.sl.v62, kernelRun0_A.sl.v61, kernelRun0_A.sl.H20_2, kernelRun0_A.sl.H20_1, kernelRun0_A.sl.v711, kernelRun0_A.sl.cst_524, v45_A, v53_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho k _ l _ => by simp only [Nat.lt_one_iff.1 ho, zero_add, add_zero]

theorem v81_A : kernelRun0_A.sl.v81 (F := Ideal) c arg1 harg1 arg2 harg2 arg7 harg7 arg9 harg9 arg21 (up2 X.dy) (up2 X.ya) (up2 X.ga) (up2 X.wo) = up3 fun _ k l => 0 + ∑ i ∈ Finset.range 256, X.ya i k * X.da i (512 + l) := by
  simp only [kernelRun0_A.sl.v81, kernelRun0_A.sl.v78, kernelRun0_A.sl.v77, kernelRun0_A.sl.v76, kernelRun0_A.sl.v75, kernelRun0_A.sl.H20_3, kernelRun0_A.sl.H20_2, kernelRun0_A.sl.H20_1, kernelRun0_A.sl.v711, kernelRun0_A.sl.cst_524, v45_A, v53_A, v67_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho k _ l _ => by simp only [Nat.lt_one_iff.1 ho, zero_add, add_zero]

theorem v95_A : kernelRun0_A.sl.v95 (F := Ideal) c arg1 harg1 arg2 harg2 arg7 harg7 arg9 harg9 arg21 (up2 X.dy) (up2 X.ya) (up2 X.ga) (up2 X.wo) = up3 fun _ k l => 0 + ∑ i ∈ Finset.range 256, X.ya i k * X.da i (768 + l) := by
  simp only [kernelRun0_A.sl.v95, kernelRun0_A.sl.v92, kernelRun0_A.sl.v91, kernelRun0_A.sl.v90, kernelRun0_A.sl.v89, kernelRun0_A.sl.H20_4, kernelRun0_A.sl.H20_3, kernelRun0_A.sl.H20_2, kernelRun0_A.sl.H20_1, kernelRun0_A.sl.v711, kernelRun0_A.sl.cst_524, v45_A, v81_A, v53_A, v67_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho k _ l _ => by simp only [Nat.lt_one_iff.1 ho, zero_add, add_zero]

theorem v60_A : kernelRun0_A.sl.v60 (F := Ideal) c arg1 harg1 arg3 harg3 arg8 harg8 arg9 harg9 arg22 (up2 X.dy) (up2 X.yg) (up2 X.gb) (up2 X.wo) = up3 fun _ k l => 0 + ∑ i ∈ Finset.range 256, X.yg i k * X.db i (0 + l) := by
  simp only [kernelRun0_A.sl.v60, kernelRun0_A.sl.v57, kernelRun0_A.sl.v56, kernelRun0_A.sl.v55, kernelRun0_A.sl.v54, kernelRun0_A.sl.H21_1, kernelRun0_A.sl.v713, kernelRun0_A.sl.cst_524, v46_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho k _ l _ => by simp only [Nat.lt_one_iff.1 ho, zero_add, add_zero]

theorem v74_A : kernelRun0_A.sl.v74 (F := Ideal) c arg1 harg1 arg3 harg3 arg8 harg8 arg9 harg9 arg22 (up2 X.dy) (up2 X.yg) (up2 X.gb) (up2 X.wo) = up3 fun _ k l => 0 + ∑ i ∈ Finset.range 256, X.yg i k * X.db i (256 + l) := by
  simp only [kernelRun0_A.sl.v74, kernelRun0_A.sl.v71, kernelRun0_A.sl.v70, kernelRun0_A.sl.v69, kernelRun0_A.sl.v68, kernelRun0_A.sl.H21_2, kernelRun0_A.sl.H21_1, kernelRun0_A.sl.v713, kernelRun0_A.sl.cst_524, v46_A, v60_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho k _ l _ => by simp only [Nat.lt_one_iff.1 ho, zero_add, add_zero]

theorem v88_A : kernelRun0_A.sl.v88 (F := Ideal) c arg1 harg1 arg3 harg3 arg8 harg8 arg9 harg9 arg22 (up2 X.dy) (up2 X.yg) (up2 X.gb) (up2 X.wo) = up3 fun _ k l => 0 + ∑ i ∈ Finset.range 256, X.yg i k * X.db i (512 + l) := by
  simp only [kernelRun0_A.sl.v88, kernelRun0_A.sl.v85, kernelRun0_A.sl.v84, kernelRun0_A.sl.v83, kernelRun0_A.sl.v82, kernelRun0_A.sl.H21_3, kernelRun0_A.sl.H21_2, kernelRun0_A.sl.H21_1, kernelRun0_A.sl.v713, kernelRun0_A.sl.cst_524, v46_A, v60_A, v74_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho k _ l _ => by simp only [Nat.lt_one_iff.1 ho, zero_add, add_zero]

theorem v102_A : kernelRun0_A.sl.v102 (F := Ideal) c arg1 harg1 arg3 harg3 arg8 harg8 arg9 harg9 arg22 (up2 X.dy) (up2 X.yg) (up2 X.gb) (up2 X.wo) = up3 fun _ k l => 0 + ∑ i ∈ Finset.range 256, X.yg i k * X.db i (768 + l) := by
  simp only [kernelRun0_A.sl.v102, kernelRun0_A.sl.v99, kernelRun0_A.sl.v98, kernelRun0_A.sl.v97, kernelRun0_A.sl.v96, kernelRun0_A.sl.H21_4, kernelRun0_A.sl.H21_3, kernelRun0_A.sl.H21_2, kernelRun0_A.sl.H21_1, kernelRun0_A.sl.v713, kernelRun0_A.sl.cst_524, v46_A, v60_A, v88_A, v74_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho k _ l _ => by simp only [Nat.lt_one_iff.1 ho, zero_add, add_zero]

theorem v104_A : kernelRun0_A.sl.v104 (F := Ideal) c arg1 harg1 arg7 harg7 arg9 harg9 arg10 harg10 (up2 X.dy) (up2 X.ga) (up2 X.wo) (up2 X.wba) = up2 X.dya := by
  simp only [kernelRun0_A.sl.v104, kernelRun0_A.sl.cst_78, v42_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  rfl

theorem r_A : kernelRun0_A.sl.r (F := Ideal) c arg1 harg1 arg8 harg8 arg9 harg9 arg11 harg11 (up2 X.dy) (up2 X.gb) (up2 X.wo) (up2 X.wbg) = up2 X.dyg := by
  simp only [kernelRun0_A.sl.r, v44_A, k0_pay78, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  rfl

theorem r_2_A : kernelRun0_A.sl.r_2 (F := Ideal) c arg6 harg6 (up2 X.zp) = up2 fun i _ => X.rs i := by
  simp only [kernelRun0_A.sl.r_2, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem r_3_A : kernelRun0_A.sl.r_3 (F := Ideal) c arg6 harg6 (up2 X.zp) = up2 X.zh := by
  simp only [kernelRun0_A.sl.r_3, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem r_5_A : kernelRun0_A.sl.r_5 (F := Ideal) c arg6 harg6 arg14 harg14 arg15 harg15 (up2 X.zp) (up2 X.lg) (up2 X.lb) = up2 X.zln := by
  simp only [kernelRun0_A.sl.r_5, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem r_7_A : kernelRun0_A.sl.r_7 (F := Ideal) c arg5 harg5 (up2 X.up) = up2 X.u := by
  simp only [kernelRun0_A.sl.r_7, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem v341_A : kernelRun0_A.sl.v341 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (0 + i) (0 + k) := by
  simp only [kernelRun0_A.sl.v341, kernelRun0_A.sl.v338, kernelRun0_A.sl.r_8, kernelRun0_A.sl.r_10, kernelRun0_A.sl.cst_296, r_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.dzln_tile 0 0 hi hk).symm

theorem v328_A : kernelRun0_A.sl.v328 (F := Ideal) c arg1 harg1 arg5 harg5 arg8 harg8 arg9 harg9 arg11 harg11 arg24 (up2 X.dy) (up2 X.up) (up2 X.gb) (up2 X.wo) (up2 X.wbg) = up3 fun _ i k => 0 + X.dbs1 0 0 i := by
  simp only [kernelRun0_A.sl.v328, kernelRun0_A.sl.v325, kernelRun0_A.sl.v324, kernelRun0_A.sl.v323, kernelRun0_A.sl.v322, kernelRun0_A.sl.r_12, kernelRun0_A.sl.r_11, kernelRun0_A.sl.v319, kernelRun0_A.sl.H23_1, kernelRun0_A.sl.v715, kernelRun0_A.sl.cst_524, r_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v337_A : kernelRun0_A.sl.v337 (F := Ideal) c arg1 harg1 arg5 harg5 arg6 harg6 arg8 harg8 arg9 harg9 arg11 harg11 arg14 harg14 arg15 harg15 arg23 (up2 X.dy) (up2 X.up) (up2 X.zp) (up2 X.gb) (up2 X.wo) (up2 X.wbg) (up2 X.lg) (up2 X.lb) = up3 fun _ i k => 0 + (if k ≤ i then X.dwsp1 0 0 i k else 0) := by
  simp only [kernelRun0_A.sl.v337, kernelRun0_A.sl.v334, kernelRun0_A.sl.v333, kernelRun0_A.sl.v332, kernelRun0_A.sl.cst_524, kernelRun0_A.sl.v331, kernelRun0_A.sl.r_9, kernelRun0_A.sl.r_10, kernelRun0_A.sl.cst_296, kernelRun0_A.sl.v330, kernelRun0_A.sl.v329, kernelRun0_A.sl.H23_1, kernelRun0_A.sl.v715, r_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v352_A : kernelRun0_A.sl.v352 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (128 + i) (0 + k) := by
  simp only [kernelRun0_A.sl.v352, kernelRun0_A.sl.v349, kernelRun0_A.sl.v348, kernelRun0_A.sl.v347, kernelRun0_A.sl.v346, kernelRun0_A.sl.v345, kernelRun0_A.sl.v343, kernelRun0_A.sl.v342, kernelRun0_A.sl.r_8, kernelRun0_A.sl.cst_296, r_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.du_tile 1 0 hi hk).symm

theorem v378_A : kernelRun0_A.sl.v378 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (128 + i) (0 + k) := by
  simp only [kernelRun0_A.sl.v378, kernelRun0_A.sl.v375, kernelRun0_A.sl.v355, kernelRun0_A.sl.v354, kernelRun0_A.sl.v353, kernelRun0_A.sl.v348, kernelRun0_A.sl.r_8, kernelRun0_A.sl.cst_296, r_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.dzln_tile 1 0 hi hk).symm

theorem v365_A : kernelRun0_A.sl.v365 (F := Ideal) c arg1 harg1 arg5 harg5 arg8 harg8 arg9 harg9 arg11 harg11 arg24 (up2 X.dy) (up2 X.up) (up2 X.gb) (up2 X.wo) (up2 X.wbg) = up3 fun _ i k => 0 + X.dbs1 0 0 i + X.dbs1 1 0 i := by
  simp only [kernelRun0_A.sl.v365, kernelRun0_A.sl.v362, kernelRun0_A.sl.v361, kernelRun0_A.sl.v360, kernelRun0_A.sl.v359, kernelRun0_A.sl.v358, kernelRun0_A.sl.v354, kernelRun0_A.sl.v353, kernelRun0_A.sl.v348, kernelRun0_A.sl.v357, kernelRun0_A.sl.v356, kernelRun0_A.sl.H23_2, kernelRun0_A.sl.H23_1, kernelRun0_A.sl.v715, kernelRun0_A.sl.cst_524, r_A, v328_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v374_A : kernelRun0_A.sl.v374 (F := Ideal) c arg1 harg1 arg5 harg5 arg6 harg6 arg8 harg8 arg9 harg9 arg11 harg11 arg14 harg14 arg15 harg15 arg23 (up2 X.dy) (up2 X.up) (up2 X.zp) (up2 X.gb) (up2 X.wo) (up2 X.wbg) (up2 X.lg) (up2 X.lb) = up3 fun _ i k => 0 + (if k ≤ i then X.dwsp1 0 0 i k else 0) + (if k ≤ i then X.dwsp1 1 0 i k else 0) := by
  simp only [kernelRun0_A.sl.v374, kernelRun0_A.sl.v371, kernelRun0_A.sl.v370, kernelRun0_A.sl.v368, kernelRun0_A.sl.v355, kernelRun0_A.sl.v354, kernelRun0_A.sl.v353, kernelRun0_A.sl.v348, kernelRun0_A.sl.v342, kernelRun0_A.sl.cst_296, kernelRun0_A.sl.v332, kernelRun0_A.sl.cst_524, kernelRun0_A.sl.v367, kernelRun0_A.sl.v366, kernelRun0_A.sl.H22_2, kernelRun0_A.sl.H23_1, kernelRun0_A.sl.v715, r_A, v337_A, r_7_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v394_A : kernelRun0_A.sl.v394 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (0 + i) (128 + k) := by
  simp only [kernelRun0_A.sl.v394, kernelRun0_A.sl.v391, kernelRun0_A.sl.v390, kernelRun0_A.sl.v389, kernelRun0_A.sl.v388, kernelRun0_A.sl.v387, kernelRun0_A.sl.v385, kernelRun0_A.sl.v384, kernelRun0_A.sl.v383, kernelRun0_A.sl.v382, kernelRun0_A.sl.v380, kernelRun0_A.sl.v332, kernelRun0_A.sl.cst_524, kernelRun0_A.sl.cst_296, r_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.du_tile 0 1 hi hk).symm

theorem v420_A : kernelRun0_A.sl.v420 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (0 + i) (128 + k) := by
  simp only [kernelRun0_A.sl.v420, kernelRun0_A.sl.v417, kernelRun0_A.sl.v397, kernelRun0_A.sl.v396, kernelRun0_A.sl.v395, kernelRun0_A.sl.v390, kernelRun0_A.sl.v383, kernelRun0_A.sl.v382, kernelRun0_A.sl.v380, kernelRun0_A.sl.v332, kernelRun0_A.sl.cst_524, kernelRun0_A.sl.cst_296, r_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.dzln_tile 0 1 hi hk).symm

theorem v407_A : kernelRun0_A.sl.v407 (F := Ideal) c arg1 harg1 arg5 harg5 arg8 harg8 arg9 harg9 arg11 harg11 arg24 (up2 X.dy) (up2 X.up) (up2 X.gb) (up2 X.wo) (up2 X.wbg) = up3 fun _ i k => 0 + X.dbs1 0 1 i := by
  simp only [kernelRun0_A.sl.v407, kernelRun0_A.sl.v404, kernelRun0_A.sl.v403, kernelRun0_A.sl.v402, kernelRun0_A.sl.v401, kernelRun0_A.sl.v400, kernelRun0_A.sl.v396, kernelRun0_A.sl.v395, kernelRun0_A.sl.v390, kernelRun0_A.sl.v399, kernelRun0_A.sl.v398, kernelRun0_A.sl.H23_3, kernelRun0_A.sl.H23_2, kernelRun0_A.sl.H23_1, kernelRun0_A.sl.v715, kernelRun0_A.sl.cst_524, r_A, v365_A, r_7_A, v328_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v416_A : kernelRun0_A.sl.v416 (F := Ideal) c arg1 harg1 arg5 harg5 arg6 harg6 arg8 harg8 arg9 harg9 arg11 harg11 arg14 harg14 arg15 harg15 arg23 (up2 X.dy) (up2 X.up) (up2 X.zp) (up2 X.gb) (up2 X.wo) (up2 X.wbg) (up2 X.lg) (up2 X.lb) = up3 fun _ i k => 0 + (if k ≤ i then X.dwsp1 0 1 i k else 0) := by
  simp only [kernelRun0_A.sl.v416, kernelRun0_A.sl.v413, kernelRun0_A.sl.v412, kernelRun0_A.sl.v410, kernelRun0_A.sl.v397, kernelRun0_A.sl.v396, kernelRun0_A.sl.v395, kernelRun0_A.sl.v390, kernelRun0_A.sl.v384, kernelRun0_A.sl.cst_296, kernelRun0_A.sl.v332, kernelRun0_A.sl.cst_524, kernelRun0_A.sl.v409, kernelRun0_A.sl.v408, kernelRun0_A.sl.H22_3, kernelRun0_A.sl.H22_2, kernelRun0_A.sl.H23_1, kernelRun0_A.sl.v715, v374_A, v337_A, r_A, r_7_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v431_A : kernelRun0_A.sl.v431 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (128 + i) (128 + k) := by
  simp only [kernelRun0_A.sl.v431, kernelRun0_A.sl.v428, kernelRun0_A.sl.v427, kernelRun0_A.sl.v426, kernelRun0_A.sl.v422, kernelRun0_A.sl.v421, kernelRun0_A.sl.v383, kernelRun0_A.sl.v382, kernelRun0_A.sl.v380, kernelRun0_A.sl.v332, kernelRun0_A.sl.cst_524, kernelRun0_A.sl.cst_296, kernelRun0_A.sl.v388, kernelRun0_A.sl.v387, r_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.du_tile 1 1 hi hk).symm

theorem v457_A : kernelRun0_A.sl.v457 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (128 + i) (128 + k) := by
  simp only [kernelRun0_A.sl.v457, kernelRun0_A.sl.v454, kernelRun0_A.sl.v434, kernelRun0_A.sl.v433, kernelRun0_A.sl.v432, kernelRun0_A.sl.v427, kernelRun0_A.sl.v383, kernelRun0_A.sl.v382, kernelRun0_A.sl.v380, kernelRun0_A.sl.v332, kernelRun0_A.sl.cst_524, kernelRun0_A.sl.cst_296, r_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.dzln_tile 1 1 hi hk).symm

theorem v444_A : kernelRun0_A.sl.v444 (F := Ideal) c arg1 harg1 arg5 harg5 arg8 harg8 arg9 harg9 arg11 harg11 arg24 (up2 X.dy) (up2 X.up) (up2 X.gb) (up2 X.wo) (up2 X.wbg) = up3 fun _ i k => 0 + X.dbs1 0 1 i + X.dbs1 1 1 i := by
  simp only [kernelRun0_A.sl.v444, kernelRun0_A.sl.v441, kernelRun0_A.sl.v440, kernelRun0_A.sl.v439, kernelRun0_A.sl.v438, kernelRun0_A.sl.v437, kernelRun0_A.sl.v433, kernelRun0_A.sl.v432, kernelRun0_A.sl.v427, kernelRun0_A.sl.v436, kernelRun0_A.sl.v435, kernelRun0_A.sl.H23_4, kernelRun0_A.sl.H23_3, kernelRun0_A.sl.H23_2, kernelRun0_A.sl.H23_1, kernelRun0_A.sl.v715, kernelRun0_A.sl.cst_524, r_A, v328_A, v407_A, v365_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v453_A : kernelRun0_A.sl.v453 (F := Ideal) c arg1 harg1 arg5 harg5 arg6 harg6 arg8 harg8 arg9 harg9 arg11 harg11 arg14 harg14 arg15 harg15 arg23 (up2 X.dy) (up2 X.up) (up2 X.zp) (up2 X.gb) (up2 X.wo) (up2 X.wbg) (up2 X.lg) (up2 X.lb) = up3 fun _ i k => 0 + (if k ≤ i then X.dwsp1 0 1 i k else 0) + (if k ≤ i then X.dwsp1 1 1 i k else 0) := by
  simp only [kernelRun0_A.sl.v453, kernelRun0_A.sl.v450, kernelRun0_A.sl.v449, kernelRun0_A.sl.v447, kernelRun0_A.sl.v434, kernelRun0_A.sl.v433, kernelRun0_A.sl.v432, kernelRun0_A.sl.v427, kernelRun0_A.sl.v421, kernelRun0_A.sl.cst_296, kernelRun0_A.sl.v332, kernelRun0_A.sl.cst_524, kernelRun0_A.sl.v446, kernelRun0_A.sl.v445, kernelRun0_A.sl.H22_4, kernelRun0_A.sl.H22_3, kernelRun0_A.sl.H22_2, kernelRun0_A.sl.H23_1, kernelRun0_A.sl.v715, v374_A, v337_A, r_A, r_7_A, r_5_A, v416_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v473_A : kernelRun0_A.sl.v473 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (0 + i) (256 + k) := by
  simp only [kernelRun0_A.sl.v473, kernelRun0_A.sl.v470, kernelRun0_A.sl.v469, kernelRun0_A.sl.v468, kernelRun0_A.sl.v467, kernelRun0_A.sl.v466, kernelRun0_A.sl.v464, kernelRun0_A.sl.v463, kernelRun0_A.sl.v462, kernelRun0_A.sl.v461, kernelRun0_A.sl.v459, kernelRun0_A.sl.v332, kernelRun0_A.sl.cst_524, kernelRun0_A.sl.cst_296, r_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.du_tile 0 2 hi hk).symm

theorem v499_A : kernelRun0_A.sl.v499 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (0 + i) (256 + k) := by
  simp only [kernelRun0_A.sl.v499, kernelRun0_A.sl.v496, kernelRun0_A.sl.v476, kernelRun0_A.sl.v475, kernelRun0_A.sl.v474, kernelRun0_A.sl.v469, kernelRun0_A.sl.v462, kernelRun0_A.sl.v461, kernelRun0_A.sl.v459, kernelRun0_A.sl.v332, kernelRun0_A.sl.cst_524, kernelRun0_A.sl.cst_296, r_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.dzln_tile 0 2 hi hk).symm

theorem v486_A : kernelRun0_A.sl.v486 (F := Ideal) c arg1 harg1 arg5 harg5 arg8 harg8 arg9 harg9 arg11 harg11 arg24 (up2 X.dy) (up2 X.up) (up2 X.gb) (up2 X.wo) (up2 X.wbg) = up3 fun _ i k => 0 + X.dbs1 0 2 i := by
  simp only [kernelRun0_A.sl.v486, kernelRun0_A.sl.v483, kernelRun0_A.sl.v482, kernelRun0_A.sl.v481, kernelRun0_A.sl.v480, kernelRun0_A.sl.v479, kernelRun0_A.sl.v475, kernelRun0_A.sl.v474, kernelRun0_A.sl.v469, kernelRun0_A.sl.v478, kernelRun0_A.sl.v477, kernelRun0_A.sl.H23_5, kernelRun0_A.sl.H23_4, kernelRun0_A.sl.H23_3, kernelRun0_A.sl.H23_2, kernelRun0_A.sl.H23_1, kernelRun0_A.sl.v715, kernelRun0_A.sl.cst_524, v444_A, r_A, v328_A, v407_A, v365_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v495_A : kernelRun0_A.sl.v495 (F := Ideal) c arg1 harg1 arg5 harg5 arg6 harg6 arg8 harg8 arg9 harg9 arg11 harg11 arg14 harg14 arg15 harg15 arg23 (up2 X.dy) (up2 X.up) (up2 X.zp) (up2 X.gb) (up2 X.wo) (up2 X.wbg) (up2 X.lg) (up2 X.lb) = up3 fun _ i k => 0 + (if k ≤ i then X.dwsp1 0 2 i k else 0) := by
  simp only [kernelRun0_A.sl.v495, kernelRun0_A.sl.v492, kernelRun0_A.sl.v491, kernelRun0_A.sl.v489, kernelRun0_A.sl.v476, kernelRun0_A.sl.v475, kernelRun0_A.sl.v474, kernelRun0_A.sl.v469, kernelRun0_A.sl.v463, kernelRun0_A.sl.cst_296, kernelRun0_A.sl.v332, kernelRun0_A.sl.cst_524, kernelRun0_A.sl.v488, kernelRun0_A.sl.v487, kernelRun0_A.sl.H22_5, kernelRun0_A.sl.H22_4, kernelRun0_A.sl.H22_3, kernelRun0_A.sl.H22_2, kernelRun0_A.sl.H23_1, kernelRun0_A.sl.v715, v374_A, v337_A, r_A, v453_A, r_7_A, r_5_A, v416_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v510_A : kernelRun0_A.sl.v510 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (128 + i) (256 + k) := by
  simp only [kernelRun0_A.sl.v510, kernelRun0_A.sl.v507, kernelRun0_A.sl.v506, kernelRun0_A.sl.v505, kernelRun0_A.sl.v501, kernelRun0_A.sl.v500, kernelRun0_A.sl.v462, kernelRun0_A.sl.v461, kernelRun0_A.sl.v459, kernelRun0_A.sl.v332, kernelRun0_A.sl.cst_524, kernelRun0_A.sl.cst_296, kernelRun0_A.sl.v467, kernelRun0_A.sl.v466, r_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.du_tile 1 2 hi hk).symm

theorem v536_A : kernelRun0_A.sl.v536 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (128 + i) (256 + k) := by
  simp only [kernelRun0_A.sl.v536, kernelRun0_A.sl.v533, kernelRun0_A.sl.v513, kernelRun0_A.sl.v512, kernelRun0_A.sl.v511, kernelRun0_A.sl.v506, kernelRun0_A.sl.v462, kernelRun0_A.sl.v461, kernelRun0_A.sl.v459, kernelRun0_A.sl.v332, kernelRun0_A.sl.cst_524, kernelRun0_A.sl.cst_296, r_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.dzln_tile 1 2 hi hk).symm

theorem v523_A : kernelRun0_A.sl.v523 (F := Ideal) c arg1 harg1 arg5 harg5 arg8 harg8 arg9 harg9 arg11 harg11 arg24 (up2 X.dy) (up2 X.up) (up2 X.gb) (up2 X.wo) (up2 X.wbg) = up3 fun _ i k => 0 + X.dbs1 0 2 i + X.dbs1 1 2 i := by
  simp only [kernelRun0_A.sl.v523, kernelRun0_A.sl.v520, kernelRun0_A.sl.v519, kernelRun0_A.sl.v518, kernelRun0_A.sl.v517, kernelRun0_A.sl.v516, kernelRun0_A.sl.v512, kernelRun0_A.sl.v511, kernelRun0_A.sl.v506, kernelRun0_A.sl.v515, kernelRun0_A.sl.v514, kernelRun0_A.sl.H23_6, kernelRun0_A.sl.H23_5, kernelRun0_A.sl.H23_4, kernelRun0_A.sl.H23_3, kernelRun0_A.sl.H23_2, kernelRun0_A.sl.H23_1, kernelRun0_A.sl.v715, kernelRun0_A.sl.cst_524, v444_A, v486_A, r_A, v328_A, v407_A, v365_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v532_A : kernelRun0_A.sl.v532 (F := Ideal) c arg1 harg1 arg5 harg5 arg6 harg6 arg8 harg8 arg9 harg9 arg11 harg11 arg14 harg14 arg15 harg15 arg23 (up2 X.dy) (up2 X.up) (up2 X.zp) (up2 X.gb) (up2 X.wo) (up2 X.wbg) (up2 X.lg) (up2 X.lb) = up3 fun _ i k => 0 + (if k ≤ i then X.dwsp1 0 2 i k else 0) + (if k ≤ i then X.dwsp1 1 2 i k else 0) := by
  simp only [kernelRun0_A.sl.v532, kernelRun0_A.sl.v529, kernelRun0_A.sl.v528, kernelRun0_A.sl.v526, kernelRun0_A.sl.v513, kernelRun0_A.sl.v512, kernelRun0_A.sl.v511, kernelRun0_A.sl.v506, kernelRun0_A.sl.v500, kernelRun0_A.sl.cst_296, kernelRun0_A.sl.v332, kernelRun0_A.sl.cst_524, kernelRun0_A.sl.v525, kernelRun0_A.sl.v524, kernelRun0_A.sl.H22_6, kernelRun0_A.sl.H22_5, kernelRun0_A.sl.H22_4, kernelRun0_A.sl.H22_3, kernelRun0_A.sl.H22_2, kernelRun0_A.sl.H23_1, kernelRun0_A.sl.v715, v374_A, v337_A, v495_A, r_A, v453_A, r_7_A, r_5_A, v416_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v552_A : kernelRun0_A.sl.v552 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (0 + i) (384 + k) := by
  simp only [kernelRun0_A.sl.v552, kernelRun0_A.sl.v549, kernelRun0_A.sl.v548, kernelRun0_A.sl.v547, kernelRun0_A.sl.v546, kernelRun0_A.sl.v545, kernelRun0_A.sl.v543, kernelRun0_A.sl.v542, kernelRun0_A.sl.v541, kernelRun0_A.sl.v540, kernelRun0_A.sl.v538, kernelRun0_A.sl.v332, kernelRun0_A.sl.cst_524, kernelRun0_A.sl.cst_296, r_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.du_tile 0 3 hi hk).symm

theorem v578_A : kernelRun0_A.sl.v578 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (0 + i) (384 + k) := by
  simp only [kernelRun0_A.sl.v578, kernelRun0_A.sl.v575, kernelRun0_A.sl.v555, kernelRun0_A.sl.v554, kernelRun0_A.sl.v553, kernelRun0_A.sl.v548, kernelRun0_A.sl.v541, kernelRun0_A.sl.v540, kernelRun0_A.sl.v538, kernelRun0_A.sl.v332, kernelRun0_A.sl.cst_524, kernelRun0_A.sl.cst_296, r_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.dzln_tile 0 3 hi hk).symm

theorem v565_A : kernelRun0_A.sl.v565 (F := Ideal) c arg1 harg1 arg5 harg5 arg8 harg8 arg9 harg9 arg11 harg11 arg24 (up2 X.dy) (up2 X.up) (up2 X.gb) (up2 X.wo) (up2 X.wbg) = up3 fun _ i k => 0 + X.dbs1 0 3 i := by
  simp only [kernelRun0_A.sl.v565, kernelRun0_A.sl.v562, kernelRun0_A.sl.v561, kernelRun0_A.sl.v560, kernelRun0_A.sl.v559, kernelRun0_A.sl.v558, kernelRun0_A.sl.v554, kernelRun0_A.sl.v553, kernelRun0_A.sl.v548, kernelRun0_A.sl.v557, kernelRun0_A.sl.v556, kernelRun0_A.sl.H23_7, kernelRun0_A.sl.H23_6, kernelRun0_A.sl.H23_5, kernelRun0_A.sl.H23_4, kernelRun0_A.sl.H23_3, kernelRun0_A.sl.H23_2, kernelRun0_A.sl.H23_1, kernelRun0_A.sl.v715, kernelRun0_A.sl.cst_524, v444_A, v486_A, r_A, v328_A, v407_A, v365_A, r_7_A, v523_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v574_A : kernelRun0_A.sl.v574 (F := Ideal) c arg1 harg1 arg5 harg5 arg6 harg6 arg8 harg8 arg9 harg9 arg11 harg11 arg14 harg14 arg15 harg15 arg23 (up2 X.dy) (up2 X.up) (up2 X.zp) (up2 X.gb) (up2 X.wo) (up2 X.wbg) (up2 X.lg) (up2 X.lb) = up3 fun _ i k => 0 + (if k ≤ i then X.dwsp1 0 3 i k else 0) := by
  simp only [kernelRun0_A.sl.v574, kernelRun0_A.sl.v571, kernelRun0_A.sl.v570, kernelRun0_A.sl.v568, kernelRun0_A.sl.v555, kernelRun0_A.sl.v554, kernelRun0_A.sl.v553, kernelRun0_A.sl.v548, kernelRun0_A.sl.v542, kernelRun0_A.sl.cst_296, kernelRun0_A.sl.v332, kernelRun0_A.sl.cst_524, kernelRun0_A.sl.v567, kernelRun0_A.sl.v566, kernelRun0_A.sl.H22_7, kernelRun0_A.sl.H22_6, kernelRun0_A.sl.H22_5, kernelRun0_A.sl.H22_4, kernelRun0_A.sl.H22_3, kernelRun0_A.sl.H22_2, kernelRun0_A.sl.H23_1, kernelRun0_A.sl.v715, v374_A, v337_A, v495_A, r_A, v453_A, r_7_A, r_5_A, v416_A, v532_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v589_A : kernelRun0_A.sl.v589 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (128 + i) (384 + k) := by
  simp only [kernelRun0_A.sl.v589, kernelRun0_A.sl.v586, kernelRun0_A.sl.v585, kernelRun0_A.sl.v584, kernelRun0_A.sl.v580, kernelRun0_A.sl.v579, kernelRun0_A.sl.v541, kernelRun0_A.sl.v540, kernelRun0_A.sl.v538, kernelRun0_A.sl.v332, kernelRun0_A.sl.cst_524, kernelRun0_A.sl.cst_296, kernelRun0_A.sl.v546, kernelRun0_A.sl.v545, r_A, r_5_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.du_tile 1 3 hi hk).symm

theorem v615_A : kernelRun0_A.sl.v615 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (128 + i) (384 + k) := by
  simp only [kernelRun0_A.sl.v615, kernelRun0_A.sl.v612, kernelRun0_A.sl.v592, kernelRun0_A.sl.v591, kernelRun0_A.sl.v590, kernelRun0_A.sl.v585, kernelRun0_A.sl.v541, kernelRun0_A.sl.v540, kernelRun0_A.sl.v538, kernelRun0_A.sl.v332, kernelRun0_A.sl.cst_524, kernelRun0_A.sl.cst_296, r_A, r_7_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.dzln_tile 1 3 hi hk).symm

theorem v602_A : kernelRun0_A.sl.v602 (F := Ideal) c arg1 harg1 arg5 harg5 arg8 harg8 arg9 harg9 arg11 harg11 arg24 (up2 X.dy) (up2 X.up) (up2 X.gb) (up2 X.wo) (up2 X.wbg) = up3 fun _ i k => 0 + X.dbs1 0 3 i + X.dbs1 1 3 i := by
  simp only [kernelRun0_A.sl.v602, kernelRun0_A.sl.v599, kernelRun0_A.sl.v598, kernelRun0_A.sl.v597, kernelRun0_A.sl.v596, kernelRun0_A.sl.v595, kernelRun0_A.sl.v591, kernelRun0_A.sl.v590, kernelRun0_A.sl.v585, kernelRun0_A.sl.v594, kernelRun0_A.sl.v593, kernelRun0_A.sl.H23_8, kernelRun0_A.sl.H23_7, kernelRun0_A.sl.H23_6, kernelRun0_A.sl.H23_5, kernelRun0_A.sl.H23_4, kernelRun0_A.sl.H23_3, kernelRun0_A.sl.H23_2, kernelRun0_A.sl.H23_1, kernelRun0_A.sl.v715, kernelRun0_A.sl.cst_524, v444_A, v486_A, r_A, v328_A, v407_A, v565_A, v365_A, r_7_A, v523_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

theorem v611_A : kernelRun0_A.sl.v611 (F := Ideal) c arg1 harg1 arg5 harg5 arg6 harg6 arg8 harg8 arg9 harg9 arg11 harg11 arg14 harg14 arg15 harg15 arg23 (up2 X.dy) (up2 X.up) (up2 X.zp) (up2 X.gb) (up2 X.wo) (up2 X.wbg) (up2 X.lg) (up2 X.lb) = up3 fun _ i k => 0 + (if k ≤ i then X.dwsp1 0 3 i k else 0) + (if k ≤ i then X.dwsp1 1 3 i k else 0) := by
  simp only [kernelRun0_A.sl.v611, kernelRun0_A.sl.v608, kernelRun0_A.sl.v607, kernelRun0_A.sl.v605, kernelRun0_A.sl.v592, kernelRun0_A.sl.v591, kernelRun0_A.sl.v590, kernelRun0_A.sl.v585, kernelRun0_A.sl.v579, kernelRun0_A.sl.cst_296, kernelRun0_A.sl.v332, kernelRun0_A.sl.cst_524, kernelRun0_A.sl.v604, kernelRun0_A.sl.v603, kernelRun0_A.sl.H22_8, kernelRun0_A.sl.H22_7, kernelRun0_A.sl.H22_6, kernelRun0_A.sl.H22_5, kernelRun0_A.sl.H22_4, kernelRun0_A.sl.H22_3, kernelRun0_A.sl.H22_2, kernelRun0_A.sl.H23_1, kernelRun0_A.sl.v715, v374_A, v337_A, v495_A, r_A, v574_A, v453_A, r_7_A, r_5_A, v416_A, v532_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up3_congr fun o ho i _ k _ => by first | rfl | (simp only [zero_add, add_zero]; rfl)

end Cert.KLift

end
-- ==== Proof.TileA.lean ====
/-
  What the kernel's body computes at a grid point of case A, of arrays of reals.
-/
module

public import proofs.«01_k».proof.Proof.KerA
public import proofs.«01_k».proof.Proof.Gen.KernelIdeal.Frame

@[expose] public section

set_option maxHeartbeats 1000000

noncomputable section

namespace Cert.KLift

open Idealize.ShloMosaic Cert.KernelIdeal Cert.KernelIdeal.Gen Cert.Lift

variable {c : Dev nD} {i : grid0.Coords}
  {arg1 : Memref sig .tc .vmem S256x1024 .bf16} {harg1 : arg1.IsWhole}
  {arg2 : Memref sig .tc .vmem S256x256 .f32} {harg2 : arg2.IsWhole}
  {arg3 : Memref sig .tc .vmem S256x512 .bf16} {harg3 : arg3.IsWhole}
  {arg4 : Memref sig .tc .vmem S256x1024 .bf16} {harg4 : arg4.IsWhole}
  {arg5 : Memref sig .tc .vmem S256x512 .bf16} {harg5 : arg5.IsWhole}
  {arg6 : Memref sig .tc .vmem S256x512 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1024x1024 .bf16} {harg9 : arg9.IsWhole}
  {arg10 : Memref sig .tc .vmem S256x1024 .bf16} {harg10 : arg10.IsWhole}
  {arg11 : Memref sig .tc .vmem S512x1024 .bf16} {harg11 : arg11.IsWhole}
  {arg12 : Memref sig .tc .vmem S4x128x128 .f32} {harg12 : arg12.IsWhole}
  {arg13 : Memref sig .tc .vmem S4x128x1 .f32} {harg13 : arg13.IsWhole}
  {arg14 : Memref sig .tc .vmem S1x512 .f32} {harg14 : arg14.IsWhole}
  {arg15 : Memref sig .tc .vmem S1x512 .f32} {harg15 : arg15.IsWhole}
  {arg16 : Memref sig .tc .vmem S256x256 .f32} {harg16 : arg16.IsWhole}
  {arg17 : Memref sig .tc .vmem S64x1024 .f32} {harg17 : arg17.IsWhole}
  {arg18 : Memref sig .tc .vmem S16x4096 .f32} {harg18 : arg18.IsWhole}
  {arg19 : Memref sig .tc .vmem S256x3072 .bf16} {harg19 : arg19.IsWhole}
  {arg20 : Memref sig .tc .vmem S1024x1024 .f32} {harg20 : arg20.IsWhole}
  {arg21 : Memref sig .tc .vmem S4x256x256 .f32} {harg21 : arg21.IsWhole}
  {arg22 : Memref sig .tc .vmem S4x512x256 .f32} {harg22 : arg22.IsWhole}
  {arg23 : Memref sig .tc .vmem S4x128x128 .f32} {harg23 : arg23.IsWhole}
  {arg24 : Memref sig .tc .vmem S4x128x128 .f32} {harg24 : arg24.IsWhole}
  {arg25 : Memref sig .tc .vmem S1x512 .f32} {harg25 : arg25.IsWhole}
  {arg26 : Memref sig .tc .vmem S1x512 .f32} {harg26 : arg26.IsWhole}
  {arg27 : Memref sig .tc .vmem S256x512 .f32} {harg27 : arg27.IsWhole}
  {arg28 : Memref sig .tc .vmem S256x512 .f32} {harg28 : arg28.IsWhole}
  {arg29 : Memref sig .tc .vmem S2x256x128 .f32} {harg29 : arg29.IsWhole}
  {X : In}

theorem HS0_8_A : View.canon (kernelRun0_A.sl.HS0_8 (F := Ideal) c arg1 harg1 arg5 harg5 arg8 harg8 arg9 harg9 arg11 harg11 arg12 harg12 (up2 X.dy) (up2 X.up) (up2 X.gb) (up2 X.wo) (up2 X.wbg) (up3 X.wsp)) = (up2 X.dzln : S256x512.Idx → EReal) :=
  canon_of_pieces _ _ (po2 128 384 v615_A (fun _ _ _ _ => rfl) <| po2 0 384 v578_A (fun _ _ _ _ => rfl) <| po2 128 256 v536_A (fun _ _ _ _ => rfl) <| po2 0 256 v499_A (fun _ _ _ _ => rfl) <| po2 128 128 v457_A (fun _ _ _ _ => rfl) <| po2 0 128 v420_A (fun _ _ _ _ => rfl) <| po2 128 0 v378_A (fun _ _ _ _ => rfl) <| po2 0 0 v341_A (fun _ _ _ _ => rfl) <| trivial)
    fun y => View.cover_of_tiledL (s := S256x512) _ S128x128.size (by sl_kernel_rfl) y

theorem pay90_A : k0_pay90 (F := Ideal) (up2 X.dyg) (up2 X.zln) (up3 fun o i k => X.wsp (0 + o) i k : S1x128x128.Idx → EReal) (up3 fun o i _ => X.bc (0 + o) i) = up2 fun i k => X.du (0 + i) (0 + k) := by
  simp only [k0_pay90, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]
  exact up2_congr fun i hi k hk => (X.du_tile 0 0 hi hk).symm

theorem HS1_8_A : View.canon (kernelRun0_A.sl.HS1_8 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb)) = (up2 X.du : S256x512.Idx → EReal) :=
  canon_of_pieces _ _ (po2 128 384 v589_A (fun _ _ _ _ => rfl) <| po2 0 384 v552_A (fun _ _ _ _ => rfl) <| po2 128 256 v510_A (fun _ _ _ _ => rfl) <| po2 0 256 v473_A (fun _ _ _ _ => rfl) <| po2 128 128 v431_A (fun _ _ _ _ => rfl) <| po2 0 128 v394_A (fun _ _ _ _ => rfl) <| po2 128 0 v352_A (fun _ _ _ _ => rfl) <| po2 0 0 (by
      simp only [r_A, r_5_A, read_plane]
      exact pay90_A) (fun _ _ _ _ => rfl) <| trivial)
    fun y => View.cover_of_tiledL (s := S256x512) _ S128x128.size (by sl_kernel_rfl) y

theorem HS2_2_A : View.canon (kernelRun0_A.sl.HS2_2 (F := Ideal) c arg1 harg1 arg7 harg7 arg9 harg9 arg10 harg10 (up2 X.dy) (up2 X.ga) (up2 X.wo) (up2 X.wba)) = (up3 fun h i k => X.dya i (128 * h + k) : S2x256x128.Idx → EReal) :=
  canon_of_pieces _ _ (po3 (f := fun _ i k => X.dya i (128 + k)) 1 (by simp only [kernelRun0_A.sl.v110, kernelRun0_A.sl.v113, v104_A, extract_up2, cast_add, zero_add]) (fun _ _ _ _ => rfl) <| po3 (f := fun _ i k => X.dya i (0 + k)) 0 (by simp only [kernelRun0_A.sl.v106, kernelRun0_A.sl.v109, v104_A, extract_up2, cast_add, zero_add]) (fun _ _ _ _ => rfl) <| trivial)
    fun y => View.cover_of_tiledL (s := S2x256x128) _ S1x256x128.size (by sl_kernel_rfl) y

theorem HS2_4_A : View.canon (kernelRun0_A.sl.HS2_4 (F := Ideal) c arg1 harg1 arg7 harg7 arg9 harg9 arg10 harg10 (up2 X.dy) (up2 X.ga) (up2 X.wo) (up2 X.wba)) = (up3 fun h i k => X.dya i (128 * h + k) : S2x256x128.Idx → EReal) :=
  canon_of_pieces _ _ (po3 (f := fun _ i k => X.dya i (128 + k)) 1 (by simp only [kernelRun0_A.sl.v110, kernelRun0_A.sl.v113, v104_A, extract_up2, cast_add, zero_add]) (fun _ _ _ _ => rfl) <| po3 (f := fun _ i k => X.dya i (0 + k)) 0 (by simp only [kernelRun0_A.sl.v106, kernelRun0_A.sl.v109, v104_A, extract_up2, cast_add, zero_add]) (fun _ _ _ _ => rfl) <| po3 (f := fun _ i k => X.dya i (128 + k)) 1 (by simp only [kernelRun0_A.sl.v110, kernelRun0_A.sl.v113, v104_A, extract_up2, cast_add, zero_add]) (fun _ _ _ _ => rfl) <| po3 (f := fun _ i k => X.dya i (0 + k)) 0 (by simp only [kernelRun0_A.sl.v106, kernelRun0_A.sl.v109, v104_A, extract_up2, cast_add, zero_add]) (fun _ _ _ _ => rfl) <| trivial)
    fun y => View.cover_of_tiledL (s := S2x256x128) _ S1x256x128.size (by sl_kernel_rfl) y

theorem v616_A : kernelRun0_A.sl.v616 (F := Ideal) c arg1 harg1 arg5 harg5 arg8 harg8 arg9 harg9 arg11 harg11 arg12 harg12 arg27 (up2 X.dy) (up2 X.up) (up2 X.gb) (up2 X.wo) (up2 X.wbg) (up3 X.wsp) = up2 X.dzln := read_cov2 _ _ _ HS0_8_A _

theorem v678_A : kernelRun0_A.sl.v678 (F := Ideal) c arg1 harg1 arg6 harg6 arg8 harg8 arg9 harg9 arg11 harg11 arg12 harg12 arg13 harg13 arg14 harg14 arg15 harg15 arg28 (up2 X.dy) (up2 X.zp) (up2 X.gb) (up2 X.wo) (up2 X.wbg) (up3 X.wsp) (up3 fun g i _ => X.bc g i) (up2 X.lg) (up2 X.lb) = up2 X.du := read_cov2 _ _ _ HS1_8_A _

theorem v622_A : kernelRun0_A.sl.v622 (F := Ideal) c arg1 harg1 arg5 harg5 arg6 harg6 arg8 harg8 arg9 harg9 arg11 harg11 arg12 harg12 arg25 arg27 (up2 X.dy) (up2 X.up) (up2 X.zp) (up2 X.gb) (up2 X.wo) (up2 X.wbg) (up3 X.wsp) = up2 fun i k => 0 + ∑ i ∈ Finset.range 256, X.dzln i k * X.zh i k := by
  simp only [kernelRun0_A.sl.v622, kernelRun0_A.sl.v621, kernelRun0_A.sl.v620, kernelRun0_A.sl.v619, kernelRun0_A.sl.v618, kernelRun0_A.sl.v617, kernelRun0_A.sl.H24_1, kernelRun0_A.sl.v719, kernelRun0_A.sl.cst_524, r_3_A, v616_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem v625_A : kernelRun0_A.sl.v625 (F := Ideal) c arg26 = up2 fun i k => 0 := by
  simp only [kernelRun0_A.sl.v625, kernelRun0_A.sl.v624, kernelRun0_A.sl.H24_1, kernelRun0_A.sl.v719, kernelRun0_A.sl.cst_524, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem r_13_A : kernelRun0_A.sl.r_13 (F := Ideal) c arg1 harg1 arg5 harg5 arg6 harg6 arg8 harg8 arg9 harg9 arg11 harg11 arg12 harg12 arg14 harg14 arg27 (up2 X.dy) (up2 X.up) (up2 X.zp) (up2 X.gb) (up2 X.wo) (up2 X.wbg) (up3 X.wsp) (up2 X.lg) = up2 X.dz := by
  simp only [kernelRun0_A.sl.r_13, kernelRun0_A.sl.r_4, r_3_A, r_2_A, v616_A, rules, broadcast_up3, plane_skip, plane_base, ne_eq, not_false_eq_true, Nat.reduceEqDiff, OfNat.one_ne_ofNat, one_ne_zero, OfNat.ofNat_ne_zero, OfNat.ofNat_ne_one, zero_ne_one, OfNat.zero_ne_ofNat]

theorem v115_A : kernelRun0_A.sl.v115 (F := Ideal) c arg1 harg1 arg7 harg7 arg9 harg9 arg10 harg10 arg29 (up2 X.dy) (up2 X.ga) (up2 X.wo) (up2 X.wba) = up2 fun i k => X.dya (0 + 4 * i) (0 + k) := by
  unfold kernelRun0_A.sl.v115 kernelRun0_A.sl.v114
  exact (congrArg (fun w => shapeCast _ w _) (read_strided _ _ _ HS2_2_A 0 0 4 _)).trans (cast_drop _ _)

theorem v118_A : kernelRun0_A.sl.v118 (F := Ideal) c arg1 harg1 arg7 harg7 arg9 harg9 arg10 harg10 arg29 (up2 X.dy) (up2 X.ga) (up2 X.wo) (up2 X.wba) = up2 fun i k => X.dya (0 + 4 * i) (128 + k) := by
  unfold kernelRun0_A.sl.v118 kernelRun0_A.sl.v117
  exact (congrArg (fun w => shapeCast _ w _) (read_strided _ _ _ HS2_2_A 1 0 4 _)).trans (cast_drop _ _)

theorem v121_A : kernelRun0_A.sl.v121 (F := Ideal) c arg1 harg1 arg7 harg7 arg9 harg9 arg10 harg10 arg29 (up2 X.dy) (up2 X.ga) (up2 X.wo) (up2 X.wba) = up2 fun i k => X.dya (1 + 4 * i) (0 + k) := by
  unfold kernelRun0_A.sl.v121 kernelRun0_A.sl.v120
  exact (congrArg (fun w => shapeCast _ w _) (read_strided _ _ _ HS2_2_A 0 1 4 _)).trans (cast_drop _ _)

theorem v124_A : kernelRun0_A.sl.v124 (F := Ideal) c arg1 harg1 arg7 harg7 arg9 harg9 arg10 harg10 arg29 (up2 X.dy) (up2 X.ga) (up2 X.wo) (up2 X.wba) = up2 fun i k => X.dya (1 + 4 * i) (128 + k) := by
  unfold kernelRun0_A.sl.v124 kernelRun0_A.sl.v123
  exact (congrArg (fun w => shapeCast _ w _) (read_strided _ _ _ HS2_2_A 1 1 4 _)).trans (cast_drop _ _)

theorem v127_A : kernelRun0_A.sl.v127 (F := Ideal) c arg1 harg1 arg7 harg7 arg9 harg9 arg10 harg10 arg29 (up2 X.dy) (up2 X.ga) (up2 X.wo) (up2 X.wba) = up2 fun i k => X.dya (2 + 4 * i) (0 + k) := by
  unfold kernelRun0_A.sl.v127 kernelRun0_A.sl.v126
  exact (congrArg (fun w => shapeCast _ w _) (read_strided _ _ _ HS2_2_A 0 2 4 _)).trans (cast_drop _ _)

theorem v130_A : kernelRun0_A.sl.v130 (F := Ideal) c arg1 harg1 arg7 harg7 arg9 harg9 arg10 harg10 arg29 (up2 X.dy) (up2 X.ga) (up2 X.wo) (up2 X.wba) = up2 fun i k => X.dya (2 + 4 * i) (128 + k) := by
  unfold kernelRun0_A.sl.v130 kernelRun0_A.sl.v129
  exact (congrArg (fun w => shapeCast _ w _) (read_strided _ _ _ HS2_2_A 1 2 4 _)).trans (cast_drop _ _)

theorem v133_A : kernelRun0_A.sl.v133 (F := Ideal) c arg1 harg1 arg7 harg7 arg9 harg9 arg10 harg10 arg29 (up2 X.dy) (up2 X.ga) (up2 X.wo) (up2 X.wba) = up2 fun i k => X.dya (3 + 4 * i) (0 + k) := by
  unfold kernelRun0_A.sl.v133 kernelRun0_A.sl.v132
  exact (congrArg (fun w => shapeCast _ w _) (read_strided _ _ _ HS2_2_A 0 3 4 _)).trans (cast_drop _ _)

theorem v136_A : kernelRun0_A.sl.v136 (F := Ideal) c arg1 harg1 arg7 harg7 arg9 harg9 arg10 harg10 arg29 (up2 X.dy) (up2 X.ga) (up2 X.wo) (up2 X.wba) = up2 fun i k => X.dya (3 + 4 * i) (128 + k) := by
  unfold kernelRun0_A.sl.v136 kernelRun0_A.sl.v135
  exact (congrArg (fun w => shapeCast _ w _) (read_strided _ _ _ HS2_2_A 1 3 4 _)).trans (cast_drop _ _)

theorem v147_A : kernelRun0_A.sl.v147 (F := Ideal) c arg1 harg1 arg7 harg7 arg9 harg9 arg10 harg10 arg29 (up2 X.dy) (up2 X.ga) (up2 X.wo) (up2 X.wba) = up2 fun i k => X.dya (0 + 16 * i) (0 + k) := by
  unfold kernelRun0_A.sl.v147 kernelRun0_A.sl.v146
  exact (congrArg (fun w => shapeCast _ w _) (read_strided _ _ _ HS2_4_A 0 0 16 _)).trans (cast_drop _ _)

theorem v150_A : kernelRun0_A.sl.v150 (F := Ideal) c arg1 harg1 arg7 harg7 arg9 harg9 arg10 harg10 arg29 (up2 X.dy) (up2 X.ga) (up2 X.wo) (up2 X.wba) = up2 fun i k => X.dya (0 + 16 * i) (128 + k) := by
  unfold kernelRun0_A.sl.v150 kernelRun0_A.sl.v149
  exact (congrArg (fun w => shapeCast _ w _) (read_strided _ _ _ HS2_4_A 1 0 16 _)).trans (cast_drop _ _)

theorem v153_A : kernelRun0_A.sl.v153 (F := Ideal) c arg1 harg1 arg7 harg7 arg9 harg9 arg10 harg10 arg29 (up2 X.dy) (up2 X.ga) (up2 X.wo) (up2 X.wba) = up2 fun i k => X.dya (1 + 16 * i) (0 + k) := by
  unfold kernelRun0_A.sl.v153 kernelRun0_A.sl.v152
  exact (congrArg (fun w => shapeCast _ w _) (read_strided _ _ _ HS2_4_A 0 1 16 _)).trans (cast_drop _ _)

theorem v156_A : kernelRun0_A.sl.v156 (F := Ideal) c arg1 harg1 arg7 harg7 arg9 harg9 arg10 harg10 arg29 (up2 X.dy) (up2 X.ga) (up2 X.wo) (up2 X.wba) = up2 fun i k => X.dya (1 + 16 * i) (128 + k) := by
  unfold kernelRun0_A.sl.v156 kernelRun0_A.sl.v155
  exact (congrArg (fun w => shapeCast _ w _) (read_strided _ _ _ HS2_4_A 1 1 16 _)).trans (cast_drop _ _)

theorem v159_A : kernelRun0_A.sl.v159 (F := Ideal) c arg1 harg1 arg7 harg7 arg9 harg9 arg10 harg10 arg29 (up2 X.dy) (up2 X.ga) (up2 X.wo) (up2 X.wba) = up2 fun i k => X.dya (2 + 16 * i) (0 + k) := by
  unfold kernelRun0_A.sl.v159 kernelRun0_A.sl.v158
  exact (congrArg (fun w => shapeCast _ w _) (read_strided _ _ _ HS2_4_A 0 2 16 _)).trans (cast_drop _ _)

theorem v162_A : kernelRun0_A.sl.v162 (F := Ideal) c arg1 harg1 arg7 harg7 arg9 harg9 arg10 harg10 arg29 (up2 X.dy) (up2 X.ga) (up2 X.wo) (up2 X.wba) = up2 fun i k => X.dya (2 + 16 * i) (128 + k) := by
  unfold kernelRun0_A.sl.v162 kernelRun0_A.sl.v161
  exact (congrArg (fun w => shapeCast _ w _) (read_strided _ _ _ HS2_4_A 1 2 16 _)).trans (cast_drop _ _)

theorem v165_A : kernelRun0_A.sl.v165 (F := Ideal) c arg1 harg1 arg7 harg7 arg9 harg9 arg10 harg10 arg29 (up2 X.dy) (up2 X.ga) (up2 X.wo) (up2 X.wba) = up2 fun i k => X.dya (3 + 16 * i) (0 + k) := by
  unfold kernelRun0_A.sl.v165 kernelRun0_A.sl.v164
  exact (congrArg (fun w => shapeCast _ w _) (read_strided _ _ _ HS2_4_A 0 3 16 _)).trans (cast_drop _ _)

theorem v168_A : kernelRun0_A.sl.v168 (F := Ideal) c arg1 harg1 arg7 harg7 arg9 harg9 arg10 harg10 arg29 (up2 X.dy) (up2 X.ga) (up2 X.wo) (up2 X.wba) = up2 fun i k => X.dya (3 + 16 * i) (128 + k) := by
  unfold kernelRun0_A.sl.v168 kernelRun0_A.sl.v167
  exact (congrArg (fun w => shapeCast _ w _) (read_strided _ _ _ HS2_4_A 1 3 16 _)).trans (cast_drop _ _)

theorem v171_A : kernelRun0_A.sl.v171 (F := Ideal) c arg1 harg1 arg7 harg7 arg9 harg9 arg10 harg10 arg29 (up2 X.dy) (up2 X.ga) (up2 X.wo) (up2 X.wba) = up2 fun i k => X.dya (4 + 16 * i) (0 + k) := by
  unfold kernelRun0_A.sl.v171 kernelRun0_A.sl.v170
  exact (congrArg (fun w => shapeCast _ w _) (read_strided _ _ _ HS2_4_A 0 4 16 _)).trans (cast_drop _ _)

theorem v174_A : kernelRun0_A.sl.v174 (F := Ideal) c arg1 harg1 arg7 harg7 arg9 harg9 arg10 harg10 arg29 (up2 X.dy) (up2 X.ga) (up2 X.wo) (up2 X.wba) = up2 fun i k => X.dya (4 + 16 * i) (128 + k) := by
  unfold kernelRun0_A.sl.v174 kernelRun0_A.sl.v173
  exact (congrArg (fun w => shapeCast _ w _) (read_strided _ _ _ HS2_4_A 1 4 16 _)).trans (cast_drop _ _)

theorem v177_A : kernelRun0_A.sl.v177 (F := Ideal) c arg1 harg1 arg7 harg7 arg9 harg9 arg10 harg10 arg29 (up2 X.dy) (up2 X.ga) (up2 X.wo) (up2 X.wba) = up2 fun i k => X.dya (5 + 16 * i) (0 + k) := by
  unfold kernelRun0_A.sl.v177 kernelRun0_A.sl.v176
  exact (congrArg (fun w => shapeCast _ w _) (read_strided _ _ _ HS2_4_A 0 5 16 _)).trans (cast_drop _ _)

theorem v180_A : kernelRun0_A.sl.v180 (F := Ideal) c arg1 harg1 arg7 harg7 arg9 harg9 arg10 harg10 arg29 (up2 X.dy) (up2 X.ga) (up2 X.wo) (up2 X.wba) = up2 fun i k => X.dya (5 + 16 * i) (128 + k) := by
  unfold kernelRun0_A.sl.v180 kernelRun0_A.sl.v179
  exact (congrArg (fun w => shapeCast _ w _) (read_strided _ _ _ HS2_4_A 1 5 16 _)).trans (cast_drop _ _)

theorem v183_A : kernelRun0_A.sl.v183 (F := Ideal) c arg1 harg1 arg7 harg7 arg9 harg9 arg10 harg10 arg29 (up2 X.dy) (up2 X.ga) (up2 X.wo) (up2 X.wba) = up2 fun i k => X.dya (6 + 16 * i) (0 + k) := by
  unfold kernelRun0_A.sl.v183 kernelRun0_A.sl.v182
  exact (congrArg (fun w => shapeCast _ w _) (read_strided _ _ _ HS2_4_A 0 6 16 _)).trans (cast_drop _ _)

theorem v186_A : kernelRun0_A.sl.v186 (F := Ideal) c arg1 harg1 arg7 harg7 arg9 harg9 arg10 harg10 arg29 (up2 X.dy) (up2 X.ga) (up2 X.wo) (up2 X.wba) = up2 fun i k => X.dya (6 + 16 * i) (128 + k) := by
  unfold kernelRun0_A.sl.v186 kernelRun0_A.sl.v185
  exact (congrArg (fun w => shapeCast _ w _) (read_strided _ _ _ HS2_4_A 1 6 16 _)).trans (cast_drop _ _)

theorem v189_A : kernelRun0_A.sl.v189 (F := Ideal) c arg1 harg1 arg7 harg7 arg9 harg9 arg10 harg10 arg29 (up2 X.dy) (up2 X.ga) (up2 X.wo) (up2 X.wba) = up2 fun i k => X.dya (7 + 16 * i) (0 + k) := by
  unfold kernelRun0_A.sl.v189 kernelRun0_A.sl.v188
  exact (congrArg (fun w => shapeCast _ w _) (read_strided _ _ _ HS2_4_A 0 7 16 _)).trans (cast_drop _ _)

theorem v192_A : kernelRun0_A.sl.v192 (F := Ideal) c arg1 harg1 arg7 harg7 arg9 harg9 arg10 harg10 arg29 (up2 X.dy) (up2 X.ga) (up2 X.wo) (up2 X.wba) = up2 fun i k => X.dya (7 + 16 * i) (128 + k) := by
  unfold kernelRun0_A.sl.v192 kernelRun0_A.sl.v191
  exact (congrArg (fun w => shapeCast _ w _) (read_strided _ _ _ HS2_4_A 1 7 16 _)).trans (cast_drop _ _)

theorem v195_A : kernelRun0_A.sl.v195 (F := Ideal) c arg1 harg1 arg7 harg7 arg9 harg9 arg10 harg10 arg29 (up2 X.dy) (up2 X.ga) (up2 X.wo) (up2 X.wba) = up2 fun i k => X.dya (8 + 16 * i) (0 + k) := by
  unfold kernelRun0_A.sl.v195 kernelRun0_A.sl.v194
  exact (congrArg (fun w => shapeCast _ w _) (read_strided _ _ _ HS2_4_A 0 8 16 _)).trans (cast_drop _ _)

theorem v198_A : kernelRun0_A.sl.v198 (F := Ideal) c arg1 harg1 arg7 harg7 arg9 harg9 arg10 harg10 arg29 (up2 X.dy) (up2 X.ga) (up2 X.wo) (up2 X.wba) = up2 fun i k => X.dya (8 + 16 * i) (128 + k) := by
  unfold kernelRun0_A.sl.v198 kernelRun0_A.sl.v197
  exact (congrArg (fun w => shapeCast _ w _) (read_strided _ _ _ HS2_4_A 1 8 16 _)).trans (cast_drop _ _)

theorem v201_A : kernelRun0_A.sl.v201 (F := Ideal) c arg1 harg1 arg7 harg7 arg9 harg9 arg10 harg10 arg29 (up2 X.dy) (up2 X.ga) (up2 X.wo) (up2 X.wba) = up2 fun i k => X.dya (9 + 16 * i) (0 + k) := by
  unfold kernelRun0_A.sl.v201 kernelRun0_A.sl.v200
  exact (congrArg (fun w => shapeCast _ w _) (read_strided _ _ _ HS2_4_A 0 9 16 _)).trans (cast_drop _ _)

theorem v204_A : kernelRun0_A.sl.v204 (F := Ideal) c arg1 harg1 arg7 harg7 arg9 harg9 arg10 harg10 arg29 (up2 X.dy) (up2 X.ga) (up2 X.wo) (up2 X.wba) = up2 fun i k => X.dya (9 + 16 * i) (128 + k) := by
  unfold kernelRun0_A.sl.v204 kernelRun0_A.sl.v203
  exact (congrArg (fun w => shapeCast _ w _) (read_strided _ _ _ HS2_4_A 1 9 16 _)).trans (cast_drop _ _)

theorem v207_A : kernelRun0_A.sl.v207 (F := Ideal) c arg1 harg1 arg7 harg7 arg9 harg9 arg10 harg10 arg29 (up2 X.dy) (up2 X.ga) (up2 X.wo) (up2 X.wba) = up2 fun i k => X.dya (10 + 16 * i) (0 + k) := by
  unfold kernelRun0_A.sl.v207 kernelRun0_A.sl.v206
  exact (congrArg (fun w => shapeCast _ w _) (read_strided _ _ _ HS2_4_A 0 10 16 _)).trans (cast_drop _ _)

theorem v210_A : kernelRun0_A.sl.v210 (F := Ideal) c arg1 harg1 arg7 harg7 arg9 harg9 arg10 harg10 arg29 (up2 X.dy) (up2 X.ga) (up2 X.wo) (up2 X.wba) = up2 fun i k => X.dya (10 + 16 * i) (128 + k) := by
  unfold kernelRun0_A.sl.v210 kernelRun0_A.sl.v209
  exact (congrArg (fun w => shapeCast _ w _) (read_strided _ _ _ HS2_4_A 1 10 16 _)).trans (cast_drop _ _)

theorem v213_A : kernelRun0_A.sl.v213 (F := Ideal) c arg1 harg1 arg7 harg7 arg9 harg9 arg10 harg10 arg29 (up2 X.dy) (up2 X.ga) (up2 X.wo) (up2 X.wba) = up2 fun i k => X.dya (11 + 16 * i) (0 + k) := by
  unfold kernelRun0_A.sl.v213 kernelRun0_A.sl.v212
  exact (congrArg (fun w => shapeCast _ w _) (read_strided _ _ _ HS2_4_A 0 11 16 _)).trans (cast_drop _ _)

theorem v216_A : kernelRun0_A.sl.v216 (F := Ideal) c arg1 harg1 arg7 harg7 arg9 harg9 arg10 harg10 arg29 (up2 X.dy) (up2 X.ga) (up2 X.wo) (up2 X.wba) = up2 fun i k => X.dya (11 + 16 * i) (128 + k) := by
  unfold kernelRun0_A.sl.v216 kernelRun0_A.sl.v215
  exact (congrArg (fun w => shapeCast _ w _) (read_strided _ _ _ HS2_4_A 1 11 16 _)).trans (cast_drop _ _)

theorem v219_A : kernelRun0_A.sl.v219 (F := Ideal) c arg1 harg1 arg7 harg7 arg9 harg9 arg10 harg10 arg29 (up2 X.dy) (up2 X.ga) (up2 X.wo) (up2 X.wba) = up2 fun i k => X.dya (12 + 16 * i) (0 + k) := by
  unfold kernelRun0_A.sl.v219 kernelRun0_A.sl.v218
  exact (congrArg (fun w => shapeCast _ w _) (read_strided _ _ _ HS2_4_A 0 12 16 _)).trans (cast_drop _ _)

theorem v222_A : kernelRun0_A.sl.v222 (F := Ideal) c arg1 harg1 arg7 harg7 arg9 harg9 arg10 harg10 arg29 (up2 X.dy) (up2 X.ga) (up2 X.wo) (up2 X.wba) = up2 fun i k => X.dya (12 + 16 * i) (128 + k) := by
  unfold kernelRun0_A.sl.v222 kernelRun0_A.sl.v221
  exact (congrArg (fun w => shapeCast _ w _) (read_strided _ _ _ HS2_4_A 1 12 16 _)).trans (cast_drop _ _)

theorem v225_A : kernelRun0_A.sl.v225 (F := Ideal) c arg1 harg1 arg7 harg7 arg9 harg9 arg10 harg10 arg29 (up2 X.dy) (up2 X.ga) (up2 X.wo) (up2 X.wba) = up2 fun i k => X.dya (13 + 16 * i) (0 + k) := by
  unfold kernelRun0_A.sl.v225 kernelRun0_A.sl.v224
  exact (congrArg (fun w => shapeCast _ w _) (read_strided _ _ _ HS2_4_A 0 13 16 _)).trans (cast_drop _ _)

theorem v228_A : kernelRun0_A.sl.v228 (F := Ideal) c arg1 harg1 arg7 harg7 arg9 harg9 arg10 harg10 arg29 (up2 X.dy) (up2 X.ga) (up2 X.wo) (up2 X.wba) = up2 fun i k => X.dya (13 + 16 * i) (128 + k) := by
  unfold kernelRun0_A.sl.v228 kernelRun0_A.sl.v227
  exact (congrArg (fun w => shapeCast _ w _) (read_strided _ _ _ HS2_4_A 1 13 16 _)).trans (cast_drop _ _)

theorem v231_A : kernelRun0_A.sl.v231 (F := Ideal) c arg1 harg1 arg7 harg7 arg9 harg9 arg10 harg10 arg29 (up2 X.dy) (up2 X.ga) (up2 X.wo) (up2 X.wba) = up2 fun i k => X.dya (14 + 16 * i) (0 + k) := by
  unfold kernelRun0_A.sl.v231 kernelRun0_A.sl.v230
  exact (congrArg (fun w => shapeCast _ w _) (read_strided _ _ _ HS2_4_A 0 14 16 _)).trans (cast_drop _ _)

theorem v234_A : kernelRun0_A.sl.v234 (F := Ideal) c arg1 harg1 arg7 harg7 arg9 harg9 arg10 harg10 arg29 (up2 X.dy) (up2 X.ga) (up2 X.wo) (up2 X.wba) = up2 fun i k => X.dya (14 + 16 * i) (128 + k) := by
  unfold kernelRun0_A.sl.v234 kernelRun0_A.sl.v233
  exact (congrArg (fun w => shapeCast _ w _) (read_strided _ _ _ HS2_4_A 1 14 16 _)).trans (cast_drop _ _)

theorem v237_A : kernelRun0_A.sl.v237 (F := Ideal) c arg1 harg1 arg7 harg7 arg9 harg9 arg10 harg10 arg29 (up2 X.dy) (up2 X.ga) (up2 X.wo) (up2 X.wba) = up2 fun i k => X.dya (15 + 16 * i) (0 + k) := by
  unfold kernelRun0_A.sl.v237 kernelRun0_A.sl.v236
  exact (congrArg (fun w => shapeCast _ w _) (read_strided _ _ _ HS2_4_A 0 15 16 _)).trans (cast_drop _ _)

theorem v240_A : kernelRun0_A.sl.v240 (F := Ideal) c arg1 harg1 arg7 harg7 arg9 harg9 arg10 harg10 arg29 (up2 X.dy) (up2 X.ga) (up2 X.wo) (up2 X.wba) = up2 fun i k => X.dya (15 + 16 * i) (128 + k) := by
  unfold kernelRun0_A.sl.v240 kernelRun0_A.sl.v239
  exact (congrArg (fun w => shapeCast _ w _) (read_strided _ _ _ HS2_4_A 1 15 16 _)).trans (cast_drop _ _)

end Cert.KLift

end
-- ==== Proof.OutA.lean ====
/-
  What the kernel's body computes at a grid point of case A, of arrays of reals.
-/
module

public import proofs.«01_k».proof.Proof.TileA
public import proofs.«01_k».proof.Proof.Gen.KernelIdeal.Frame

@[expose] public section

set_option maxHeartbeats 1000000

noncomputable section

namespace Cert.KLift

open Idealize.ShloMosaic Cert.KernelIdeal Cert.KernelIdeal.Gen Cert.Lift

variable {c : Dev nD} {i : grid0.Coords}
  {arg1 : Memref sig .tc .vmem S256x1024 .bf16} {harg1 : arg1.IsWhole}
  {arg2 : Memref sig .tc .vmem S256x256 .f32} {harg2 : arg2.IsWhole}
  {arg3 : Memref sig .tc .vmem S256x512 .bf16} {harg3 : arg3.IsWhole}
  {arg4 : Memref sig .tc .vmem S256x1024 .bf16} {harg4 : arg4.IsWhole}
  {arg5 : Memref sig .tc .vmem S256x512 .bf16} {harg5 : arg5.IsWhole}
  {arg6 : Memref sig .tc .vmem S256x512 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1024x1024 .bf16} {harg9 : arg9.IsWhole}
  {arg10 : Memref sig .tc .vmem S256x1024 .bf16} {harg10 : arg10.IsWhole}
  {arg11 : Memref sig .tc .vmem S512x1024 .bf16} {harg11 : arg11.IsWhole}
  {arg12 : Memref sig .tc .vmem S4x128x128 .f32} {harg12 : arg12.IsWhole}
  {arg13 : Memref sig .tc .vmem S4x128x1 .f32} {harg13 : arg13.IsWhole}
  {arg14 : Memref sig .tc .vmem S1x512 .f32} {harg14 : arg14.IsWhole}
  {arg15 : Memref sig .tc .vmem S1x512 .f32} {harg15 : arg15.IsWhole}
  {arg16 : Memref sig .tc .vmem S256x256 .f32} {harg16 : arg16.IsWhole}
  {arg17 : Memref sig .tc .vmem S64x1024 .f32} {harg17 : arg17.IsWhole}
  {arg18 : Memref sig .tc .vmem S16x4096 .f32} {harg18 : arg18.IsWhole}
  {arg19 : Memref sig .tc .vmem S256x3072 .bf16} {harg19 : arg19.IsWhole}
  {arg20 : Memref sig .tc .vmem S1024x1024 .f32} {harg20 : arg20.IsWhole}
  {arg21 : Memref sig .tc .vmem S4x256x256 .f32} {harg21 : arg21.IsWhole}
  {arg22 : Memref sig .tc .vmem S4x512x256 .f32} {harg22 : arg22.IsWhole}
  {arg23 : Memref sig .tc .vmem S4x128x128 .f32} {harg23 : arg23.IsWhole}
  {arg24 : Memref sig .tc .vmem S4x128x128 .f32} {harg24 : arg24.IsWhole}
  {arg25 : Memref sig .tc .vmem S1x512 .f32} {harg25 : arg25.IsWhole}
  {arg26 : Memref sig .tc .vmem S1x512 .f32} {harg26 : arg26.IsWhole}
  {arg27 : Memref sig .tc .vmem S256x512 .f32} {harg27 : arg27.IsWhole}
  {arg28 : Memref sig .tc .vmem S256x512 .f32} {harg28 : arg28.IsWhole}
  {arg29 : Memref sig .tc .vmem S2x256x128 .f32} {harg29 : arg29.IsWhole}
  {X : In}

theorem out15_A {hc0} : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up2 X.dya := by
  refine (View.read_writes_junk_eq_canon _ _).trans ?_
  unfold kernelRun0_A
  dsimp only
  exact canon_of_pieces _ _ (po2 0 0 v104_A (fun i _ k _ => by rw [zero_add, zero_add]) <| trivial)
    fun y => View.cover_of_tiledL (s := S256x256) _ S256x256.size (by sl_kernel_rfl) y

theorem out16_A {hc0} : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up2 fun i k => X.dya (4 * i + k / 256) (k % 256) := by
  refine (View.read_writes_junk_eq_canon _ _).trans ?_
  unfold kernelRun0_A
  dsimp only
  exact canon_of_pieces _ _ (po2 0 896 v136_A (fun i hi k hk => congrArg₂ X.dya (by omega) (by omega)) <| po2 0 768 v133_A (fun i hi k hk => congrArg₂ X.dya (by omega) (by omega)) <| po2 0 640 v130_A (fun i hi k hk => congrArg₂ X.dya (by omega) (by omega)) <| po2 0 512 v127_A (fun i hi k hk => congrArg₂ X.dya (by omega) (by omega)) <| po2 0 384 v124_A (fun i hi k hk => congrArg₂ X.dya (by omega) (by omega)) <| po2 0 256 v121_A (fun i hi k hk => congrArg₂ X.dya (by omega) (by omega)) <| po2 0 128 v118_A (fun i hi k hk => congrArg₂ X.dya (by omega) (by omega)) <| po2 0 0 v115_A (fun i hi k hk => congrArg₂ X.dya (by omega) (by omega)) <| trivial)
    fun y => View.cover_of_tiledL (s := S64x1024) _ S64x128.size (by sl_kernel_rfl) y

theorem out17_A {hc0} : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up2 fun i k => X.dya (16 * i + k / 256) (k % 256) := by
  refine (View.read_writes_junk_eq_canon _ _).trans ?_
  unfold kernelRun0_A
  dsimp only
  exact canon_of_pieces _ _ (po2 0 3968 v240_A (fun i hi k hk => congrArg₂ X.dya (by omega) (by omega)) <| po2 0 3840 v237_A (fun i hi k hk => congrArg₂ X.dya (by omega) (by omega)) <| po2 0 3712 v234_A (fun i hi k hk => congrArg₂ X.dya (by omega) (by omega)) <| po2 0 3584 v231_A (fun i hi k hk => congrArg₂ X.dya (by omega) (by omega)) <| po2 0 3456 v228_A (fun i hi k hk => congrArg₂ X.dya (by omega) (by omega)) <| po2 0 3328 v225_A (fun i hi k hk => congrArg₂ X.dya (by omega) (by omega)) <| po2 0 3200 v222_A (fun i hi k hk => congrArg₂ X.dya (by omega) (by omega)) <| po2 0 3072 v219_A (fun i hi k hk => congrArg₂ X.dya (by omega) (by omega)) <| po2 0 2944 v216_A (fun i hi k hk => congrArg₂ X.dya (by omega) (by omega)) <| po2 0 2816 v213_A (fun i hi k hk => congrArg₂ X.dya (by omega) (by omega)) <| po2 0 2688 v210_A (fun i hi k hk => congrArg₂ X.dya (by omega) (by omega)) <| po2 0 2560 v207_A (fun i hi k hk => congrArg₂ X.dya (by omega) (by omega)) <| po2 0 2432 v204_A (fun i hi k hk => congrArg₂ X.dya (by omega) (by omega)) <| po2 0 2304 v201_A (fun i hi k hk => congrArg₂ X.dya (by omega) (by omega)) <| po2 0 2176 v198_A (fun i hi k hk => congrArg₂ X.dya (by omega) (by omega)) <| po2 0 2048 v195_A (fun i hi k hk => congrArg₂ X.dya (by omega) (by omega)) <| po2 0 1920 v192_A (fun i hi k hk => congrArg₂ X.dya (by omega) (by omega)) <| po2 0 1792 v189_A (fun i hi k hk => congrArg₂ X.dya (by omega) (by omega)) <| po2 0 1664 v186_A (fun i hi k hk => congrArg₂ X.dya (by omega) (by omega)) <| po2 0 1536 v183_A (fun i hi k hk => congrArg₂ X.dya (by omega) (by omega)) <| po2 0 1408 v180_A (fun i hi k hk => congrArg₂ X.dya (by omega) (by omega)) <| po2 0 1280 v177_A (fun i hi k hk => congrArg₂ X.dya (by omega) (by omega)) <| po2 0 1152 v174_A (fun i hi k hk => congrArg₂ X.dya (by omega) (by omega)) <| po2 0 1024 v171_A (fun i hi k hk => congrArg₂ X.dya (by omega) (by omega)) <| po2 0 896 v168_A (fun i hi k hk => congrArg₂ X.dya (by omega) (by omega)) <| po2 0 768 v165_A (fun i hi k hk => congrArg₂ X.dya (by omega) (by omega)) <| po2 0 640 v162_A (fun i hi k hk => congrArg₂ X.dya (by omega) (by omega)) <| po2 0 512 v159_A (fun i hi k hk => congrArg₂ X.dya (by omega) (by omega)) <| po2 0 384 v156_A (fun i hi k hk => congrArg₂ X.dya (by omega) (by omega)) <| po2 0 256 v153_A (fun i hi k hk => congrArg₂ X.dya (by omega) (by omega)) <| po2 0 128 v150_A (fun i hi k hk => congrArg₂ X.dya (by omega) (by omega)) <| po2 0 0 v147_A (fun i hi k hk => congrArg₂ X.dya (by omega) (by omega)) <| trivial)
    fun y => View.cover_of_tiledL (s := S16x4096) _ S16x128.size (by sl_kernel_rfl) y

theorem out18_A {hc0} : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up2 X.drest := by
  refine (View.read_writes_junk_eq_canon _ _).trans (canon_of_pieces _ _ ?_ (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb)))
  unfold kernelRun0_A
  dsimp only
  exact po2b 0 0 (f := X.dup) (by simp only [kernelRun0_A.sl.r_6, kernelRun0_A.sl.r_17, kernelRun0_A.sl.r_18, v678_A, pay84, read_whole2, pay1]; rfl) (fun i _ k hk => by rw [zero_add, zero_add, In.drest, if_pos hk]) <| po2b 0 512 (f := X.dzp) (by simp only [kernelRun0_A.sl.r_14, kernelRun0_A.sl.r_1, kernelRun0_A.sl.r_15, kernelRun0_A.sl.r_16, r_13_A, pay79, read_whole2, pay173]; rfl) (fun i _ k hk => by rw [zero_add, In.drest, if_neg (by omega), if_pos (by omega), Nat.add_sub_cancel_left]) <| po2b 0 2048 v39_A (fun i _ k hk => by rw [zero_add, In.drest, if_neg (by omega), if_neg (by omega), if_neg (by omega), Nat.add_sub_cancel_left]) <| po2b 0 1024 v32_A (fun i _ k hk => by rw [zero_add, In.drest, if_neg (by omega), if_neg (by omega), if_pos (by omega), Nat.add_sub_cancel_left]) <| trivial

theorem out19_A {hc0} : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up2 fun k l => 0 + ∑ i ∈ Finset.range 256, X.mg i k * X.dy i l := by
  refine (View.read_writes_junk_eq_canon _ _).trans ?_
  unfold kernelRun0_A
  dsimp only
  exact (View.canon_cons_unit_lit' _ _ _ fun a => by match a with | ⟨0, _⟩ => rfl | ⟨1, _⟩ => rfl).trans v11_A

theorem out20_A {hc0} : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up3 fun g k l => 0 + ∑ i ∈ Finset.range 256, X.ya i k * X.da i (256 * g + l) := by
  refine (View.read_writes_junk_eq_canon _ _).trans ?_
  unfold kernelRun0_A
  dsimp only
  exact planes_all (planes_new 3 v95_A (fun i _ k _ => rfl) <| planes_new 2 v81_A (fun i _ k _ => rfl) <| planes_new 1 v67_A (fun i _ k _ => rfl) <| planes_new 0 v53_A (fun i _ k _ => rfl) <| planes_none _ _) fun o ho => by omega

theorem out21_A {hc0} : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up3 fun g k l => 0 + ∑ i ∈ Finset.range 256, X.yg i k * X.db i (256 * g + l) := by
  refine (View.read_writes_junk_eq_canon _ _).trans ?_
  unfold kernelRun0_A
  dsimp only
  exact planes_all (planes_new 3 v102_A (fun i _ k _ => rfl) <| planes_new 2 v88_A (fun i _ k _ => rfl) <| planes_new 1 v74_A (fun i _ k _ => rfl) <| planes_new 0 v60_A (fun i _ k _ => rfl) <| planes_none _ _) fun o ho => by omega

theorem out22_A {hc0} : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up3 fun g i k => 0 + (if k ≤ i then X.dwsp1 0 g i k else 0) + (if k ≤ i then X.dwsp1 1 g i k else 0) := by
  refine (View.read_writes_junk_eq_canon _ _).trans ?_
  unfold kernelRun0_A
  dsimp only
  exact planes_all (planes_new 3 v611_A (fun i _ k _ => rfl) <| planes_old 3 <| planes_new 2 v532_A (fun i _ k _ => rfl) <| planes_old 2 <| planes_new 1 v453_A (fun i _ k _ => rfl) <| planes_old 1 <| planes_new 0 v374_A (fun i _ k _ => rfl) <| planes_old 0 <| planes_none _ _) fun o ho => by omega

theorem out23_A {hc0} : out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up3 fun g i k => 0 + X.dbs1 0 g i + X.dbs1 1 g i := by
  refine (View.read_writes_junk_eq_canon _ _).trans ?_
  unfold kernelRun0_A
  dsimp only
  exact planes_all (planes_new 3 v602_A (fun i _ k _ => rfl) <| planes_old 3 <| planes_new 2 v523_A (fun i _ k _ => rfl) <| planes_old 2 <| planes_new 1 v444_A (fun i _ k _ => rfl) <| planes_old 1 <| planes_new 0 v365_A (fun i _ k _ => rfl) <| planes_old 0 <| planes_none _ _) fun o ho => by omega

theorem out24_A {hc0} : out0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up2 fun i k => 0 + ∑ i ∈ Finset.range 256, X.dzln i k * X.zh i k := by
  refine (View.read_writes_junk_eq_canon _ _).trans ?_
  unfold kernelRun0_A
  dsimp only
  exact (View.canon_cons_unit_lit' _ _ _ fun a => by match a with | ⟨0, _⟩ => rfl | ⟨1, _⟩ => rfl).trans v622_A

theorem out25_A {hc0} : out0_A_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) = up2 fun i k => 0 + ∑ i ∈ Finset.range 256, X.dzln i k := by
  refine (View.read_writes_junk_eq_canon _ _).trans ?_
  unfold kernelRun0_A
  dsimp only
  exact (View.canon_cons_unit_lit' _ _ _ fun a => by match a with | ⟨0, _⟩ => rfl | ⟨1, _⟩ => rfl).trans (by simp only [v616_A, v625_A, pay167])

end Cert.KLift

end
-- ==== Proof.KerB.lean ====
/-
  What the kernel's body computes at a grid point of case B, of arrays of reals.
-/
module

public import proofs.«01_k».proof.Proof.Rules
public import proofs.«01_k».proof.Proof.Gen.KernelIdeal.Frame

@[expose] public section

set_option maxHeartbeats 1000000

noncomputable section

namespace Cert.KLift

open Idealize.ShloMosaic Cert.KernelIdeal Cert.KernelIdeal.Gen Cert.Lift

variable {c : Dev nD} {i : grid0.Coords}
  {arg1 : Memref sig .tc .vmem S256x1024 .bf16} {harg1 : arg1.IsWhole}
  {arg2 : Memref sig .tc .vmem S256x256 .f32} {harg2 : arg2.IsWhole}
  {arg3 : Memref sig .tc .vmem S256x512 .bf16} {harg3 : arg3.IsWhole}
  {arg4 : Memref sig .tc .vmem S256x1024 .bf16} {harg4 : arg4.IsWhole}
  {arg5 : Memref sig .tc .vmem S256x512 .bf16} {harg5 : arg5.IsWhole}
  {arg6 : Memref sig .tc .vmem S256x512 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1024x1024 .bf16} {harg9 : arg9.IsWhole}
  {arg10 : Memref sig .tc .vmem S256x1024 .bf16} {harg10 : arg10.IsWhole}
  {arg11 : Memref sig .tc .vmem S512x1024 .bf16} {harg11 : arg11.IsWhole}
  {arg12 : Memref sig .tc .vmem S4x128x128 .f32} {harg12 : arg12.IsWhole}
  {arg13 : Memref sig .tc .vmem S4x128x1 .f32} {harg13 : arg13.IsWhole}
  {arg14 : Memref sig .tc .vmem S1x512 .f32} {harg14 : arg14.IsWhole}
  {arg15 : Memref sig .tc .vmem S1x512 .f32} {harg15 : arg15.IsWhole}
  {arg16 : Memref sig .tc .vmem S256x256 .f32} {harg16 : arg16.IsWhole}
  {arg17 : Memref sig .tc .vmem S64x1024 .f32} {harg17 : arg17.IsWhole}
  {arg18 : Memref sig .tc .vmem S16x4096 .f32} {harg18 : arg18.IsWhole}
  {arg19 : Memref sig .tc .vmem S256x3072 .bf16} {harg19 : arg19.IsWhole}
  {arg20 : Memref sig .tc .vmem S1024x1024 .f32} {harg20 : arg20.IsWhole}
  {arg21 : Memref sig .tc .vmem S4x256x256 .f32} {harg21 : arg21.IsWhole}
  {arg22 : Memref sig .tc .vmem S4x512x256 .f32} {harg22 : arg22.IsWhole}
  {arg23 : Memref sig .tc .vmem S4x128x128 .f32} {harg23 : arg23.IsWhole}
  {arg24 : Memref sig .tc .vmem S4x128x128 .f32} {harg24 : arg24.IsWhole}
  {arg25 : Memref sig .tc .vmem S1x512 .f32} {harg25 : arg25.IsWhole}
  {arg26 : Memref sig .tc .vmem S1x512 .f32} {harg26 : arg26.IsWhole}
  {arg27 : Memref sig .tc .vmem S256x512 .f32} {harg27 : arg27.IsWhole}
  {arg28 : Memref sig .tc .vmem S256x512 .f32} {harg28 : arg28.IsWhole}
  {arg29 : Memref sig .tc .vmem S2x256x128 .f32} {harg29 : arg29.IsWhole}
  {X : In} {Y19 Y24 Y25 : ℕ → ℕ → ℝ} {Y20 Y21 Y22 Y23 : ℕ → ℕ → ℕ → ℝ}

theorem v5_B : kernelRun0_B.sl.v5 (F := Ideal) c arg1 harg1 arg9 harg9 (up2 X.dy) (up2 X.wo) = up2 X.dm := by
  simp only [kernelRun0_B.sl.v5, kernelRun0_B.sl.cst, rules]
  rfl

theorem v18_B : kernelRun0_B.sl.v18 (F := Ideal) c arg2 harg2 arg10 harg10 (up2 X.ya) (up2 X.wba) = up2 X.a := by
  simp only [kernelRun0_B.sl.v18, kernelRun0_B.sl.v14, kernelRun0_B.sl.cst, rules]
  rfl

theorem v20_B : kernelRun0_B.sl.v20 (F := Ideal) c arg3 harg3 arg11 harg11 (up2 X.yg) (up2 X.wbg) = up2 X.bm := by
  simp only [kernelRun0_B.sl.v20, kernelRun0_B.sl.v16, kernelRun0_B.sl.cst, rules]
  rfl

theorem v23_B : kernelRun0_B.sl.v23 (F := Ideal) c arg7 harg7 (up2 X.ga) = up2 fun i k => sg (X.ga i k) := by
  simp only [kernelRun0_B.sl.v23, kernelRun0_B.sl.v22, rules]

theorem v26_B : kernelRun0_B.sl.v26 (F := Ideal) c arg8 harg8 (up2 X.gb) = up2 fun i k => sg (X.gb i k) := by
  simp only [kernelRun0_B.sl.v26, kernelRun0_B.sl.v25, rules]

theorem v32_B : kernelRun0_B.sl.v32 (F := Ideal) c arg1 harg1 arg2 harg2 arg7 harg7 arg9 harg9 arg10 harg10 (up2 X.dy) (up2 X.ya) (up2 X.ga) (up2 X.wo) (up2 X.wba) = up2 X.dga := by
  simp only [kernelRun0_B.sl.v32, kernelRun0_B.sl.v31, kernelRun0_B.sl.v30, kernelRun0_B.sl.v29, kernelRun0_B.sl.v28, kernelRun0_B.sl.cst_25, kernelRun0_B.sl.v27, v5_B, v18_B, v23_B, rules]
  rfl

theorem v39_B : kernelRun0_B.sl.v39 (F := Ideal) c arg1 harg1 arg3 harg3 arg8 harg8 arg9 harg9 arg11 harg11 (up2 X.dy) (up2 X.yg) (up2 X.gb) (up2 X.wo) (up2 X.wbg) = up2 X.dgb := by
  simp only [kernelRun0_B.sl.v39, kernelRun0_B.sl.v38, kernelRun0_B.sl.v37, kernelRun0_B.sl.v36, kernelRun0_B.sl.v28, kernelRun0_B.sl.cst_25, kernelRun0_B.sl.v34, v20_B, v26_B, v5_B, rules]
  rfl

theorem v42_B : kernelRun0_B.sl.v42 (F := Ideal) c arg1 harg1 arg7 harg7 arg9 harg9 (up2 X.dy) (up2 X.ga) (up2 X.wo) = up2 X.da := by
  simp only [kernelRun0_B.sl.v42, kernelRun0_B.sl.v41, v5_B, v23_B, rules]
  rfl

theorem v44_B : kernelRun0_B.sl.v44 (F := Ideal) c arg1 harg1 arg8 harg8 arg9 harg9 (up2 X.dy) (up2 X.gb) (up2 X.wo) = up2 X.db := by
  simp only [kernelRun0_B.sl.v44, kernelRun0_B.sl.v43, v26_B, v5_B, rules]
  rfl

theorem v11_B : kernelRun0_B.sl.v11 (F := Ideal) c arg1 harg1 arg4 harg4 arg20 harg20 (up2 X.dy) (up2 X.mg) (up2 Y19) = up2 fun k l => Y19 k l + ∑ i ∈ Finset.range 256, X.mg i k * X.dy i l := by
  simp only [kernelRun0_B.sl.v11, kernelRun0_B.sl.v7, kernelRun0_B.sl.v10, kernelRun0_B.sl.v9, kernelRun0_B.sl.cst_8, rules]

theorem v45_B : kernelRun0_B.sl.v45 (F := Ideal) c arg1 harg1 arg2 harg2 arg7 harg7 arg9 harg9 (up2 X.dy) (up2 X.ya) (up2 X.ga) (up2 X.wo) = up2 fun k l => ∑ i ∈ Finset.range 256, X.ya i k * X.da i l := by
  simp only [kernelRun0_B.sl.v45, kernelRun0_B.sl.v14, kernelRun0_B.sl.cst, v42_B, rules]

theorem v46_B : kernelRun0_B.sl.v46 (F := Ideal) c arg1 harg1 arg3 harg3 arg8 harg8 arg9 harg9 (up2 X.dy) (up2 X.yg) (up2 X.gb) (up2 X.wo) = up2 fun k l => ∑ i ∈ Finset.range 256, X.yg i k * X.db i l := by
  simp only [kernelRun0_B.sl.v46, kernelRun0_B.sl.v16, kernelRun0_B.sl.cst_30, v44_B, rules]

theorem v53_B : kernelRun0_B.sl.v53 (F := Ideal) c arg1 harg1 arg2 harg2 arg7 harg7 arg9 harg9 arg21 harg21 (up2 X.dy) (up2 X.ya) (up2 X.ga) (up2 X.wo) (up3 Y20) = up3 fun _ k l => Y20 0 k l + ∑ i ∈ Finset.range 256, X.ya i k * X.da i (0 + l) := by
  simp only [kernelRun0_B.sl.v53, kernelRun0_B.sl.v50, kernelRun0_B.sl.v49, kernelRun0_B.sl.v48, v45_B, rules]
  exact up3_congr fun o ho k _ l _ => by simp only [Nat.lt_one_iff.1 ho, zero_add, add_zero]

theorem v67_B : kernelRun0_B.sl.v67 (F := Ideal) c arg1 harg1 arg2 harg2 arg7 harg7 arg9 harg9 arg21 harg21 (up2 X.dy) (up2 X.ya) (up2 X.ga) (up2 X.wo) (up3 Y20) = up3 fun _ k l => Y20 1 k l + ∑ i ∈ Finset.range 256, X.ya i k * X.da i (256 + l) := by
  simp only [kernelRun0_B.sl.v67, kernelRun0_B.sl.v64, kernelRun0_B.sl.v63, kernelRun0_B.sl.v62, kernelRun0_B.sl.v61, v45_B, rules]
  exact up3_congr fun o ho k _ l _ => by simp only [Nat.lt_one_iff.1 ho, zero_add, add_zero]

theorem v81_B : kernelRun0_B.sl.v81 (F := Ideal) c arg1 harg1 arg2 harg2 arg7 harg7 arg9 harg9 arg21 harg21 (up2 X.dy) (up2 X.ya) (up2 X.ga) (up2 X.wo) (up3 Y20) = up3 fun _ k l => Y20 2 k l + ∑ i ∈ Finset.range 256, X.ya i k * X.da i (512 + l) := by
  simp only [kernelRun0_B.sl.v81, kernelRun0_B.sl.v78, kernelRun0_B.sl.v77, kernelRun0_B.sl.v76, kernelRun0_B.sl.v75, v45_B, rules]
  exact up3_congr fun o ho k _ l _ => by simp only [Nat.lt_one_iff.1 ho, zero_add, add_zero]

theorem v95_B : kernelRun0_B.sl.v95 (F := Ideal) c arg1 harg1 arg2 harg2 arg7 harg7 arg9 harg9 arg21 harg21 (up2 X.dy) (up2 X.ya) (up2 X.ga) (up2 X.wo) (up3 Y20) = up3 fun _ k l => Y20 3 k l + ∑ i ∈ Finset.range 256, X.ya i k * X.da i (768 + l) := by
  simp only [kernelRun0_B.sl.v95, kernelRun0_B.sl.v92, kernelRun0_B.sl.v91, kernelRun0_B.sl.v90, kernelRun0_B.sl.v89, v45_B, rules]
  exact up3_congr fun o ho k _ l _ => by simp only [Nat.lt_one_iff.1 ho, zero_add, add_zero]

theorem v60_B : kernelRun0_B.sl.v60 (F := Ideal) c arg1 harg1 arg3 harg3 arg8 harg8 arg9 harg9 arg22 harg22 (up2 X.dy) (up2 X.yg) (up2 X.gb) (up2 X.wo) (up3 Y21) = up3 fun _ k l => Y21 0 k l + ∑ i ∈ Finset.range 256, X.yg i k * X.db i (0 + l) := by
  simp only [kernelRun0_B.sl.v60, kernelRun0_B.sl.v57, kernelRun0_B.sl.v56, kernelRun0_B.sl.v55, v46_B, rules]
  exact up3_congr fun o ho k _ l _ => by simp only [Nat.lt_one_iff.1 ho, zero_add, add_zero]

theorem v74_B : kernelRun0_B.sl.v74 (F := Ideal) c arg1 harg1 arg3 harg3 arg8 harg8 arg9 harg9 arg22 harg22 (up2 X.dy) (up2 X.yg) (up2 X.gb) (up2 X.wo) (up3 Y21) = up3 fun _ k l => Y21 1 k l + ∑ i ∈ Finset.range 256, X.yg i k * X.db i (256 + l) := by
  simp only [kernelRun0_B.sl.v74, kernelRun0_B.sl.v71, kernelRun0_B.sl.v70, kernelRun0_B.sl.v69, kernelRun0_B.sl.v68, v46_B, rules]
  exact up3_congr fun o ho k _ l _ => by simp only [Nat.lt_one_iff.1 ho, zero_add, add_zero]

theorem v88_B : kernelRun0_B.sl.v88 (F := Ideal) c arg1 harg1 arg3 harg3 arg8 harg8 arg9 harg9 arg22 harg22 (up2 X.dy) (up2 X.yg) (up2 X.gb) (up2 X.wo) (up3 Y21) = up3 fun _ k l => Y21 2 k l + ∑ i ∈ Finset.range 256, X.yg i k * X.db i (512 + l) := by
  simp only [kernelRun0_B.sl.v88, kernelRun0_B.sl.v85, kernelRun0_B.sl.v84, kernelRun0_B.sl.v83, kernelRun0_B.sl.v82, v46_B, rules]
  exact up3_congr fun o ho k _ l _ => by simp only [Nat.lt_one_iff.1 ho, zero_add, add_zero]

theorem v102_B : kernelRun0_B.sl.v102 (F := Ideal) c arg1 harg1 arg3 harg3 arg8 harg8 arg9 harg9 arg22 harg22 (up2 X.dy) (up2 X.yg) (up2 X.gb) (up2 X.wo) (up3 Y21) = up3 fun _ k l => Y21 3 k l + ∑ i ∈ Finset.range 256, X.yg i k * X.db i (768 + l) := by
  simp only [kernelRun0_B.sl.v102, kernelRun0_B.sl.v99, kernelRun0_B.sl.v98, kernelRun0_B.sl.v97, kernelRun0_B.sl.v96, v46_B, rules]
  exact up3_congr fun o ho k _ l _ => by simp only [Nat.lt_one_iff.1 ho, zero_add, add_zero]

theorem v104_B : kernelRun0_B.sl.v104 (F := Ideal) c arg1 harg1 arg7 harg7 arg9 harg9 arg10 harg10 (up2 X.dy) (up2 X.ga) (up2 X.wo) (up2 X.wba) = up2 X.dya := by
  simp only [kernelRun0_B.sl.v104, kernelRun0_B.sl.cst_78, v42_B, rules]
  rfl

theorem r_B : kernelRun0_B.sl.r (F := Ideal) c arg1 harg1 arg8 harg8 arg9 harg9 arg11 harg11 (up2 X.dy) (up2 X.gb) (up2 X.wo) (up2 X.wbg) = up2 X.dyg := by
  simp only [kernelRun0_B.sl.r, v44_B, k0_pay78, rules]
  rfl

theorem r_2_B : kernelRun0_B.sl.r_2 (F := Ideal) c arg6 harg6 (up2 X.zp) = up2 fun i _ => X.rs i := by
  simp only [kernelRun0_B.sl.r_2, rules]

theorem r_3_B : kernelRun0_B.sl.r_3 (F := Ideal) c arg6 harg6 (up2 X.zp) = up2 X.zh := by
  simp only [kernelRun0_B.sl.r_3, rules]

theorem r_5_B : kernelRun0_B.sl.r_5 (F := Ideal) c arg6 harg6 arg14 harg14 arg15 harg15 (up2 X.zp) (up2 X.lg) (up2 X.lb) = up2 X.zln := by
  simp only [kernelRun0_B.sl.r_5, rules]

theorem r_7_B : kernelRun0_B.sl.r_7 (F := Ideal) c arg5 harg5 (up2 X.up) = up2 X.u := by
  simp only [kernelRun0_B.sl.r_7, rules]

theorem v341_B : kernelRun0_B.sl.v341 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (0 + i) (0 + k) := by
  simp only [kernelRun0_B.sl.v341, kernelRun0_B.sl.v338, kernelRun0_B.sl.r_8, kernelRun0_B.sl.r_10, kernelRun0_B.sl.cst_296, r_B, rules]
  exact up2_congr fun i hi k hk => (X.dzln_tile 0 0 hi hk).symm

theorem v328_B : kernelRun0_B.sl.v328 (F := Ideal) c arg1 harg1 arg5 harg5 arg8 harg8 arg9 harg9 arg11 harg11 arg24 harg24 (up2 X.dy) (up2 X.up) (up2 X.gb) (up2 X.wo) (up2 X.wbg) (up3 Y23) = up3 fun _ i k => Y23 0 i k + X.dbs1 0 0 i := by
  simp only [kernelRun0_B.sl.v328, kernelRun0_B.sl.v325, kernelRun0_B.sl.v324, kernelRun0_B.sl.v323, kernelRun0_B.sl.v322, kernelRun0_B.sl.r_12, kernelRun0_B.sl.r_11, r_B, rules]
  exact up3_congr fun o ho i _ k _ => by first | rfl | (simp only [zero_add, add_zero]; rfl)

theorem v337_B : kernelRun0_B.sl.v337 (F := Ideal) c arg1 harg1 arg5 harg5 arg6 harg6 arg8 harg8 arg9 harg9 arg11 harg11 arg14 harg14 arg15 harg15 arg23 harg23 (up2 X.dy) (up2 X.up) (up2 X.zp) (up2 X.gb) (up2 X.wo) (up2 X.wbg) (up2 X.lg) (up2 X.lb) (up3 Y22) = up3 fun _ i k => Y22 0 i k + (if k ≤ i then X.dwsp1 0 0 i k else 0) := by
  simp only [kernelRun0_B.sl.v337, kernelRun0_B.sl.v334, kernelRun0_B.sl.v333, kernelRun0_B.sl.v332, kernelRun0_B.sl.cst_297, kernelRun0_B.sl.v331, kernelRun0_B.sl.r_9, kernelRun0_B.sl.r_10, kernelRun0_B.sl.cst_296, kernelRun0_B.sl.v330, r_5_B, r_B, rules]
  exact up3_congr fun o ho i _ k _ => by first | rfl | (simp only [zero_add, add_zero]; rfl)

theorem v352_B : kernelRun0_B.sl.v352 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (128 + i) (0 + k) := by
  simp only [kernelRun0_B.sl.v352, kernelRun0_B.sl.v349, kernelRun0_B.sl.v348, kernelRun0_B.sl.v347, kernelRun0_B.sl.v346, kernelRun0_B.sl.v345, kernelRun0_B.sl.v343, kernelRun0_B.sl.v342, kernelRun0_B.sl.r_8, kernelRun0_B.sl.cst_296, r_5_B, r_B, rules]
  exact up2_congr fun i hi k hk => (X.du_tile 1 0 hi hk).symm

theorem v378_B : kernelRun0_B.sl.v378 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (128 + i) (0 + k) := by
  simp only [kernelRun0_B.sl.v378, kernelRun0_B.sl.v375, kernelRun0_B.sl.v355, kernelRun0_B.sl.v354, kernelRun0_B.sl.v353, kernelRun0_B.sl.v348, kernelRun0_B.sl.r_8, kernelRun0_B.sl.cst_296, r_7_B, r_B, rules]
  exact up2_congr fun i hi k hk => (X.dzln_tile 1 0 hi hk).symm

theorem v365_B : kernelRun0_B.sl.v365 (F := Ideal) c arg1 harg1 arg5 harg5 arg8 harg8 arg9 harg9 arg11 harg11 arg24 harg24 (up2 X.dy) (up2 X.up) (up2 X.gb) (up2 X.wo) (up2 X.wbg) (up3 Y23) = up3 fun _ i k => Y23 0 i k + X.dbs1 0 0 i + X.dbs1 1 0 i := by
  simp only [kernelRun0_B.sl.v365, kernelRun0_B.sl.v362, kernelRun0_B.sl.v361, kernelRun0_B.sl.v360, kernelRun0_B.sl.v359, kernelRun0_B.sl.v358, kernelRun0_B.sl.v354, kernelRun0_B.sl.v353, kernelRun0_B.sl.v348, kernelRun0_B.sl.v357, kernelRun0_B.sl.v356, kernelRun0_B.sl.H23_1, r_7_B, v328_B, r_B, rules]
  exact up3_congr fun o ho i _ k _ => by first | rfl | (simp only [zero_add, add_zero]; rfl)

theorem v374_B : kernelRun0_B.sl.v374 (F := Ideal) c arg1 harg1 arg5 harg5 arg6 harg6 arg8 harg8 arg9 harg9 arg11 harg11 arg14 harg14 arg15 harg15 arg23 harg23 (up2 X.dy) (up2 X.up) (up2 X.zp) (up2 X.gb) (up2 X.wo) (up2 X.wbg) (up2 X.lg) (up2 X.lb) (up3 Y22) = up3 fun _ i k => Y22 0 i k + (if k ≤ i then X.dwsp1 0 0 i k else 0) + (if k ≤ i then X.dwsp1 1 0 i k else 0) := by
  simp only [kernelRun0_B.sl.v374, kernelRun0_B.sl.v371, kernelRun0_B.sl.v370, kernelRun0_B.sl.v368, kernelRun0_B.sl.v355, kernelRun0_B.sl.v354, kernelRun0_B.sl.v353, kernelRun0_B.sl.v348, kernelRun0_B.sl.v342, kernelRun0_B.sl.cst_296, kernelRun0_B.sl.v332, kernelRun0_B.sl.cst_297, kernelRun0_B.sl.v367, kernelRun0_B.sl.v366, kernelRun0_B.sl.H22_1, r_5_B, r_7_B, v337_B, r_B, rules]
  exact up3_congr fun o ho i _ k _ => by first | rfl | (simp only [zero_add, add_zero]; rfl)

theorem v394_B : kernelRun0_B.sl.v394 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (0 + i) (128 + k) := by
  simp only [kernelRun0_B.sl.v394, kernelRun0_B.sl.v391, kernelRun0_B.sl.v390, kernelRun0_B.sl.v389, kernelRun0_B.sl.v388, kernelRun0_B.sl.v387, kernelRun0_B.sl.v385, kernelRun0_B.sl.v384, kernelRun0_B.sl.v383, kernelRun0_B.sl.v382, kernelRun0_B.sl.v380, kernelRun0_B.sl.v332, kernelRun0_B.sl.cst_297, kernelRun0_B.sl.cst_296, r_5_B, r_B, rules]
  exact up2_congr fun i hi k hk => (X.du_tile 0 1 hi hk).symm

theorem v420_B : kernelRun0_B.sl.v420 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (0 + i) (128 + k) := by
  simp only [kernelRun0_B.sl.v420, kernelRun0_B.sl.v417, kernelRun0_B.sl.v397, kernelRun0_B.sl.v396, kernelRun0_B.sl.v395, kernelRun0_B.sl.v390, kernelRun0_B.sl.v383, kernelRun0_B.sl.v382, kernelRun0_B.sl.v380, kernelRun0_B.sl.v332, kernelRun0_B.sl.cst_297, kernelRun0_B.sl.cst_296, r_7_B, r_B, rules]
  exact up2_congr fun i hi k hk => (X.dzln_tile 0 1 hi hk).symm

theorem v407_B : kernelRun0_B.sl.v407 (F := Ideal) c arg1 harg1 arg5 harg5 arg8 harg8 arg9 harg9 arg11 harg11 arg24 harg24 (up2 X.dy) (up2 X.up) (up2 X.gb) (up2 X.wo) (up2 X.wbg) (up3 Y23) = up3 fun _ i k => Y23 1 i k + X.dbs1 0 1 i := by
  simp only [kernelRun0_B.sl.v407, kernelRun0_B.sl.v404, kernelRun0_B.sl.v403, kernelRun0_B.sl.v402, kernelRun0_B.sl.v401, kernelRun0_B.sl.v400, kernelRun0_B.sl.v396, kernelRun0_B.sl.v395, kernelRun0_B.sl.v390, kernelRun0_B.sl.v399, kernelRun0_B.sl.v398, r_7_B, r_B, rules]
  exact up3_congr fun o ho i _ k _ => by first | rfl | (simp only [zero_add, add_zero]; rfl)

theorem v416_B : kernelRun0_B.sl.v416 (F := Ideal) c arg1 harg1 arg5 harg5 arg6 harg6 arg8 harg8 arg9 harg9 arg11 harg11 arg14 harg14 arg15 harg15 arg23 harg23 (up2 X.dy) (up2 X.up) (up2 X.zp) (up2 X.gb) (up2 X.wo) (up2 X.wbg) (up2 X.lg) (up2 X.lb) (up3 Y22) = up3 fun _ i k => Y22 1 i k + (if k ≤ i then X.dwsp1 0 1 i k else 0) := by
  simp only [kernelRun0_B.sl.v416, kernelRun0_B.sl.v413, kernelRun0_B.sl.v412, kernelRun0_B.sl.v410, kernelRun0_B.sl.v397, kernelRun0_B.sl.v396, kernelRun0_B.sl.v395, kernelRun0_B.sl.v390, kernelRun0_B.sl.v384, kernelRun0_B.sl.cst_296, kernelRun0_B.sl.v332, kernelRun0_B.sl.cst_297, kernelRun0_B.sl.v409, kernelRun0_B.sl.v408, r_5_B, r_7_B, r_B, rules]
  exact up3_congr fun o ho i _ k _ => by first | rfl | (simp only [zero_add, add_zero]; rfl)

theorem v431_B : kernelRun0_B.sl.v431 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (128 + i) (128 + k) := by
  simp only [kernelRun0_B.sl.v431, kernelRun0_B.sl.v428, kernelRun0_B.sl.v427, kernelRun0_B.sl.v426, kernelRun0_B.sl.v422, kernelRun0_B.sl.v421, kernelRun0_B.sl.v383, kernelRun0_B.sl.v382, kernelRun0_B.sl.v380, kernelRun0_B.sl.v332, kernelRun0_B.sl.cst_297, kernelRun0_B.sl.cst_296, kernelRun0_B.sl.v388, kernelRun0_B.sl.v387, r_5_B, r_B, rules]
  exact up2_congr fun i hi k hk => (X.du_tile 1 1 hi hk).symm

theorem v457_B : kernelRun0_B.sl.v457 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (128 + i) (128 + k) := by
  simp only [kernelRun0_B.sl.v457, kernelRun0_B.sl.v454, kernelRun0_B.sl.v434, kernelRun0_B.sl.v433, kernelRun0_B.sl.v432, kernelRun0_B.sl.v427, kernelRun0_B.sl.v383, kernelRun0_B.sl.v382, kernelRun0_B.sl.v380, kernelRun0_B.sl.v332, kernelRun0_B.sl.cst_297, kernelRun0_B.sl.cst_296, r_7_B, r_B, rules]
  exact up2_congr fun i hi k hk => (X.dzln_tile 1 1 hi hk).symm

theorem v444_B : kernelRun0_B.sl.v444 (F := Ideal) c arg1 harg1 arg5 harg5 arg8 harg8 arg9 harg9 arg11 harg11 arg24 harg24 (up2 X.dy) (up2 X.up) (up2 X.gb) (up2 X.wo) (up2 X.wbg) (up3 Y23) = up3 fun _ i k => Y23 1 i k + X.dbs1 0 1 i + X.dbs1 1 1 i := by
  simp only [kernelRun0_B.sl.v444, kernelRun0_B.sl.v441, kernelRun0_B.sl.v440, kernelRun0_B.sl.v439, kernelRun0_B.sl.v438, kernelRun0_B.sl.v437, kernelRun0_B.sl.v433, kernelRun0_B.sl.v432, kernelRun0_B.sl.v427, kernelRun0_B.sl.v436, kernelRun0_B.sl.v435, kernelRun0_B.sl.H23_3, kernelRun0_B.sl.H23_1, v365_B, r_B, r_7_B, v407_B, v328_B, rules]
  exact up3_congr fun o ho i _ k _ => by first | rfl | (simp only [zero_add, add_zero]; rfl)

theorem v453_B : kernelRun0_B.sl.v453 (F := Ideal) c arg1 harg1 arg5 harg5 arg6 harg6 arg8 harg8 arg9 harg9 arg11 harg11 arg14 harg14 arg15 harg15 arg23 harg23 (up2 X.dy) (up2 X.up) (up2 X.zp) (up2 X.gb) (up2 X.wo) (up2 X.wbg) (up2 X.lg) (up2 X.lb) (up3 Y22) = up3 fun _ i k => Y22 1 i k + (if k ≤ i then X.dwsp1 0 1 i k else 0) + (if k ≤ i then X.dwsp1 1 1 i k else 0) := by
  simp only [kernelRun0_B.sl.v453, kernelRun0_B.sl.v450, kernelRun0_B.sl.v449, kernelRun0_B.sl.v447, kernelRun0_B.sl.v434, kernelRun0_B.sl.v433, kernelRun0_B.sl.v432, kernelRun0_B.sl.v427, kernelRun0_B.sl.v421, kernelRun0_B.sl.cst_296, kernelRun0_B.sl.v332, kernelRun0_B.sl.cst_297, kernelRun0_B.sl.v446, kernelRun0_B.sl.v445, kernelRun0_B.sl.H22_3, kernelRun0_B.sl.H22_1, v416_B, r_B, r_5_B, r_7_B, v374_B, v337_B, rules]
  exact up3_congr fun o ho i _ k _ => by first | rfl | (simp only [zero_add, add_zero]; rfl)

theorem v473_B : kernelRun0_B.sl.v473 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (0 + i) (256 + k) := by
  simp only [kernelRun0_B.sl.v473, kernelRun0_B.sl.v470, kernelRun0_B.sl.v469, kernelRun0_B.sl.v468, kernelRun0_B.sl.v467, kernelRun0_B.sl.v466, kernelRun0_B.sl.v464, kernelRun0_B.sl.v463, kernelRun0_B.sl.v462, kernelRun0_B.sl.v461, kernelRun0_B.sl.v459, kernelRun0_B.sl.v332, kernelRun0_B.sl.cst_297, kernelRun0_B.sl.cst_296, r_5_B, r_B, rules]
  exact up2_congr fun i hi k hk => (X.du_tile 0 2 hi hk).symm

theorem v499_B : kernelRun0_B.sl.v499 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (0 + i) (256 + k) := by
  simp only [kernelRun0_B.sl.v499, kernelRun0_B.sl.v496, kernelRun0_B.sl.v476, kernelRun0_B.sl.v475, kernelRun0_B.sl.v474, kernelRun0_B.sl.v469, kernelRun0_B.sl.v462, kernelRun0_B.sl.v461, kernelRun0_B.sl.v459, kernelRun0_B.sl.v332, kernelRun0_B.sl.cst_297, kernelRun0_B.sl.cst_296, r_7_B, r_B, rules]
  exact up2_congr fun i hi k hk => (X.dzln_tile 0 2 hi hk).symm

theorem v486_B : kernelRun0_B.sl.v486 (F := Ideal) c arg1 harg1 arg5 harg5 arg8 harg8 arg9 harg9 arg11 harg11 arg24 harg24 (up2 X.dy) (up2 X.up) (up2 X.gb) (up2 X.wo) (up2 X.wbg) (up3 Y23) = up3 fun _ i k => Y23 2 i k + X.dbs1 0 2 i := by
  simp only [kernelRun0_B.sl.v486, kernelRun0_B.sl.v483, kernelRun0_B.sl.v482, kernelRun0_B.sl.v481, kernelRun0_B.sl.v480, kernelRun0_B.sl.v479, kernelRun0_B.sl.v475, kernelRun0_B.sl.v474, kernelRun0_B.sl.v469, kernelRun0_B.sl.v478, kernelRun0_B.sl.v477, r_7_B, r_B, rules]
  exact up3_congr fun o ho i _ k _ => by first | rfl | (simp only [zero_add, add_zero]; rfl)

theorem v495_B : kernelRun0_B.sl.v495 (F := Ideal) c arg1 harg1 arg5 harg5 arg6 harg6 arg8 harg8 arg9 harg9 arg11 harg11 arg14 harg14 arg15 harg15 arg23 harg23 (up2 X.dy) (up2 X.up) (up2 X.zp) (up2 X.gb) (up2 X.wo) (up2 X.wbg) (up2 X.lg) (up2 X.lb) (up3 Y22) = up3 fun _ i k => Y22 2 i k + (if k ≤ i then X.dwsp1 0 2 i k else 0) := by
  simp only [kernelRun0_B.sl.v495, kernelRun0_B.sl.v492, kernelRun0_B.sl.v491, kernelRun0_B.sl.v489, kernelRun0_B.sl.v476, kernelRun0_B.sl.v475, kernelRun0_B.sl.v474, kernelRun0_B.sl.v469, kernelRun0_B.sl.v463, kernelRun0_B.sl.cst_296, kernelRun0_B.sl.v332, kernelRun0_B.sl.cst_297, kernelRun0_B.sl.v488, kernelRun0_B.sl.v487, r_5_B, r_7_B, r_B, rules]
  exact up3_congr fun o ho i _ k _ => by first | rfl | (simp only [zero_add, add_zero]; rfl)

theorem v510_B : kernelRun0_B.sl.v510 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (128 + i) (256 + k) := by
  simp only [kernelRun0_B.sl.v510, kernelRun0_B.sl.v507, kernelRun0_B.sl.v506, kernelRun0_B.sl.v505, kernelRun0_B.sl.v501, kernelRun0_B.sl.v500, kernelRun0_B.sl.v462, kernelRun0_B.sl.v461, kernelRun0_B.sl.v459, kernelRun0_B.sl.v332, kernelRun0_B.sl.cst_297, kernelRun0_B.sl.cst_296, kernelRun0_B.sl.v467, kernelRun0_B.sl.v466, r_5_B, r_B, rules]
  exact up2_congr fun i hi k hk => (X.du_tile 1 2 hi hk).symm

theorem v536_B : kernelRun0_B.sl.v536 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (128 + i) (256 + k) := by
  simp only [kernelRun0_B.sl.v536, kernelRun0_B.sl.v533, kernelRun0_B.sl.v513, kernelRun0_B.sl.v512, kernelRun0_B.sl.v511, kernelRun0_B.sl.v506, kernelRun0_B.sl.v462, kernelRun0_B.sl.v461, kernelRun0_B.sl.v459, kernelRun0_B.sl.v332, kernelRun0_B.sl.cst_297, kernelRun0_B.sl.cst_296, r_7_B, r_B, rules]
  exact up2_congr fun i hi k hk => (X.dzln_tile 1 2 hi hk).symm

theorem v523_B : kernelRun0_B.sl.v523 (F := Ideal) c arg1 harg1 arg5 harg5 arg8 harg8 arg9 harg9 arg11 harg11 arg24 harg24 (up2 X.dy) (up2 X.up) (up2 X.gb) (up2 X.wo) (up2 X.wbg) (up3 Y23) = up3 fun _ i k => Y23 2 i k + X.dbs1 0 2 i + X.dbs1 1 2 i := by
  simp only [kernelRun0_B.sl.v523, kernelRun0_B.sl.v520, kernelRun0_B.sl.v519, kernelRun0_B.sl.v518, kernelRun0_B.sl.v517, kernelRun0_B.sl.v516, kernelRun0_B.sl.v512, kernelRun0_B.sl.v511, kernelRun0_B.sl.v506, kernelRun0_B.sl.v515, kernelRun0_B.sl.v514, kernelRun0_B.sl.H23_5, kernelRun0_B.sl.H23_3, kernelRun0_B.sl.H23_1, v486_B, v365_B, r_B, r_7_B, v444_B, v407_B, v328_B, rules]
  exact up3_congr fun o ho i _ k _ => by first | rfl | (simp only [zero_add, add_zero]; rfl)

theorem v532_B : kernelRun0_B.sl.v532 (F := Ideal) c arg1 harg1 arg5 harg5 arg6 harg6 arg8 harg8 arg9 harg9 arg11 harg11 arg14 harg14 arg15 harg15 arg23 harg23 (up2 X.dy) (up2 X.up) (up2 X.zp) (up2 X.gb) (up2 X.wo) (up2 X.wbg) (up2 X.lg) (up2 X.lb) (up3 Y22) = up3 fun _ i k => Y22 2 i k + (if k ≤ i then X.dwsp1 0 2 i k else 0) + (if k ≤ i then X.dwsp1 1 2 i k else 0) := by
  simp only [kernelRun0_B.sl.v532, kernelRun0_B.sl.v529, kernelRun0_B.sl.v528, kernelRun0_B.sl.v526, kernelRun0_B.sl.v513, kernelRun0_B.sl.v512, kernelRun0_B.sl.v511, kernelRun0_B.sl.v506, kernelRun0_B.sl.v500, kernelRun0_B.sl.cst_296, kernelRun0_B.sl.v332, kernelRun0_B.sl.cst_297, kernelRun0_B.sl.v525, kernelRun0_B.sl.v524, kernelRun0_B.sl.H22_5, kernelRun0_B.sl.H22_3, kernelRun0_B.sl.H22_1, v453_B, v416_B, v337_B, r_B, r_5_B, r_7_B, v374_B, v495_B, rules]
  exact up3_congr fun o ho i _ k _ => by first | rfl | (simp only [zero_add, add_zero]; rfl)

theorem v552_B : kernelRun0_B.sl.v552 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (0 + i) (384 + k) := by
  simp only [kernelRun0_B.sl.v552, kernelRun0_B.sl.v549, kernelRun0_B.sl.v548, kernelRun0_B.sl.v547, kernelRun0_B.sl.v546, kernelRun0_B.sl.v545, kernelRun0_B.sl.v543, kernelRun0_B.sl.v542, kernelRun0_B.sl.v541, kernelRun0_B.sl.v540, kernelRun0_B.sl.v538, kernelRun0_B.sl.v332, kernelRun0_B.sl.cst_297, kernelRun0_B.sl.cst_296, r_5_B, r_B, rules]
  exact up2_congr fun i hi k hk => (X.du_tile 0 3 hi hk).symm

theorem v578_B : kernelRun0_B.sl.v578 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (0 + i) (384 + k) := by
  simp only [kernelRun0_B.sl.v578, kernelRun0_B.sl.v575, kernelRun0_B.sl.v555, kernelRun0_B.sl.v554, kernelRun0_B.sl.v553, kernelRun0_B.sl.v548, kernelRun0_B.sl.v541, kernelRun0_B.sl.v540, kernelRun0_B.sl.v538, kernelRun0_B.sl.v332, kernelRun0_B.sl.cst_297, kernelRun0_B.sl.cst_296, r_7_B, r_B, rules]
  exact up2_congr fun i hi k hk => (X.dzln_tile 0 3 hi hk).symm

theorem v565_B : kernelRun0_B.sl.v565 (F := Ideal) c arg1 harg1 arg5 harg5 arg8 harg8 arg9 harg9 arg11 harg11 arg24 harg24 (up2 X.dy) (up2 X.up) (up2 X.gb) (up2 X.wo) (up2 X.wbg) (up3 Y23) = up3 fun _ i k => Y23 3 i k + X.dbs1 0 3 i := by
  simp only [kernelRun0_B.sl.v565, kernelRun0_B.sl.v562, kernelRun0_B.sl.v561, kernelRun0_B.sl.v560, kernelRun0_B.sl.v559, kernelRun0_B.sl.v558, kernelRun0_B.sl.v554, kernelRun0_B.sl.v553, kernelRun0_B.sl.v548, kernelRun0_B.sl.v557, kernelRun0_B.sl.v556, r_7_B, r_B, rules]
  exact up3_congr fun o ho i _ k _ => by first | rfl | (simp only [zero_add, add_zero]; rfl)

theorem v574_B : kernelRun0_B.sl.v574 (F := Ideal) c arg1 harg1 arg5 harg5 arg6 harg6 arg8 harg8 arg9 harg9 arg11 harg11 arg14 harg14 arg15 harg15 arg23 harg23 (up2 X.dy) (up2 X.up) (up2 X.zp) (up2 X.gb) (up2 X.wo) (up2 X.wbg) (up2 X.lg) (up2 X.lb) (up3 Y22) = up3 fun _ i k => Y22 3 i k + (if k ≤ i then X.dwsp1 0 3 i k else 0) := by
  simp only [kernelRun0_B.sl.v574, kernelRun0_B.sl.v571, kernelRun0_B.sl.v570, kernelRun0_B.sl.v568, kernelRun0_B.sl.v555, kernelRun0_B.sl.v554, kernelRun0_B.sl.v553, kernelRun0_B.sl.v548, kernelRun0_B.sl.v542, kernelRun0_B.sl.cst_296, kernelRun0_B.sl.v332, kernelRun0_B.sl.cst_297, kernelRun0_B.sl.v567, kernelRun0_B.sl.v566, r_5_B, r_7_B, r_B, rules]
  exact up3_congr fun o ho i _ k _ => by first | rfl | (simp only [zero_add, add_zero]; rfl)

theorem v589_B : kernelRun0_B.sl.v589 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb) = up2 fun i k => X.du (128 + i) (384 + k) := by
  simp only [kernelRun0_B.sl.v589, kernelRun0_B.sl.v586, kernelRun0_B.sl.v585, kernelRun0_B.sl.v584, kernelRun0_B.sl.v580, kernelRun0_B.sl.v579, kernelRun0_B.sl.v541, kernelRun0_B.sl.v540, kernelRun0_B.sl.v538, kernelRun0_B.sl.v332, kernelRun0_B.sl.cst_297, kernelRun0_B.sl.cst_296, kernelRun0_B.sl.v546, kernelRun0_B.sl.v545, r_5_B, r_B, rules]
  exact up2_congr fun i hi k hk => (X.du_tile 1 3 hi hk).symm

theorem v615_B : kernelRun0_B.sl.v615 (F := Ideal) c arg1 harg1 arg5 harg5 arg8 harg8 arg9 harg9 arg11 harg11 arg12 harg12 (up2 X.dy) (up2 X.up) (up2 X.gb) (up2 X.wo) (up2 X.wbg) (up3 X.wsp) = up2 fun i k => X.dzln (128 + i) (384 + k) := by
  simp only [kernelRun0_B.sl.v615, kernelRun0_B.sl.v612, kernelRun0_B.sl.v592, kernelRun0_B.sl.v591, kernelRun0_B.sl.v590, kernelRun0_B.sl.v585, kernelRun0_B.sl.v541, kernelRun0_B.sl.v540, kernelRun0_B.sl.v538, kernelRun0_B.sl.v332, kernelRun0_B.sl.cst_297, kernelRun0_B.sl.cst_296, r_7_B, r_B, rules]
  exact up2_congr fun i hi k hk => (X.dzln_tile 1 3 hi hk).symm

theorem v602_B : kernelRun0_B.sl.v602 (F := Ideal) c arg1 harg1 arg5 harg5 arg8 harg8 arg9 harg9 arg11 harg11 arg24 harg24 (up2 X.dy) (up2 X.up) (up2 X.gb) (up2 X.wo) (up2 X.wbg) (up3 Y23) = up3 fun _ i k => Y23 3 i k + X.dbs1 0 3 i + X.dbs1 1 3 i := by
  simp only [kernelRun0_B.sl.v602, kernelRun0_B.sl.v599, kernelRun0_B.sl.v598, kernelRun0_B.sl.v597, kernelRun0_B.sl.v596, kernelRun0_B.sl.v595, kernelRun0_B.sl.v591, kernelRun0_B.sl.v590, kernelRun0_B.sl.v585, kernelRun0_B.sl.v594, kernelRun0_B.sl.v593, kernelRun0_B.sl.H23_7, kernelRun0_B.sl.H23_5, kernelRun0_B.sl.H23_3, kernelRun0_B.sl.H23_1, v486_B, v365_B, v565_B, r_B, r_7_B, v444_B, v407_B, v523_B, v328_B, rules]
  exact up3_congr fun o ho i _ k _ => by first | rfl | (simp only [zero_add, add_zero]; rfl)

theorem v611_B : kernelRun0_B.sl.v611 (F := Ideal) c arg1 harg1 arg5 harg5 arg6 harg6 arg8 harg8 arg9 harg9 arg11 harg11 arg14 harg14 arg15 harg15 arg23 harg23 (up2 X.dy) (up2 X.up) (up2 X.zp) (up2 X.gb) (up2 X.wo) (up2 X.wbg) (up2 X.lg) (up2 X.lb) (up3 Y22) = up3 fun _ i k => Y22 3 i k + (if k ≤ i then X.dwsp1 0 3 i k else 0) + (if k ≤ i then X.dwsp1 1 3 i k else 0) := by
  simp only [kernelRun0_B.sl.v611, kernelRun0_B.sl.v608, kernelRun0_B.sl.v607, kernelRun0_B.sl.v605, kernelRun0_B.sl.v592, kernelRun0_B.sl.v591, kernelRun0_B.sl.v590, kernelRun0_B.sl.v585, kernelRun0_B.sl.v579, kernelRun0_B.sl.cst_296, kernelRun0_B.sl.v332, kernelRun0_B.sl.cst_297, kernelRun0_B.sl.v604, kernelRun0_B.sl.v603, kernelRun0_B.sl.H22_7, kernelRun0_B.sl.H22_5, kernelRun0_B.sl.H22_3, kernelRun0_B.sl.H22_1, v453_B, v574_B, v416_B, v337_B, r_B, r_5_B, r_7_B, v374_B, v495_B, v532_B, rules]
  exact up3_congr fun o ho i _ k _ => by first | rfl | (simp only [zero_add, add_zero]; rfl)

end Cert.KLift

end
-- ==== Proof.TileB.lean ====
/-
  What the kernel's body computes at a grid point of case B, of arrays of reals.
-/
module

public import proofs.«01_k».proof.Proof.KerB
public import proofs.«01_k».proof.Proof.Gen.KernelIdeal.Frame

@[expose] public section

set_option maxHeartbeats 1000000

noncomputable section

namespace Cert.KLift

open Idealize.ShloMosaic Cert.KernelIdeal Cert.KernelIdeal.Gen Cert.Lift

variable {c : Dev nD} {i : grid0.Coords}
  {arg1 : Memref sig .tc .vmem S256x1024 .bf16} {harg1 : arg1.IsWhole}
  {arg2 : Memref sig .tc .vmem S256x256 .f32} {harg2 : arg2.IsWhole}
  {arg3 : Memref sig .tc .vmem S256x512 .bf16} {harg3 : arg3.IsWhole}
  {arg4 : Memref sig .tc .vmem S256x1024 .bf16} {harg4 : arg4.IsWhole}
  {arg5 : Memref sig .tc .vmem S256x512 .bf16} {harg5 : arg5.IsWhole}
  {arg6 : Memref sig .tc .vmem S256x512 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1024x1024 .bf16} {harg9 : arg9.IsWhole}
  {arg10 : Memref sig .tc .vmem S256x1024 .bf16} {harg10 : arg10.IsWhole}
  {arg11 : Memref sig .tc .vmem S512x1024 .bf16} {harg11 : arg11.IsWhole}
  {arg12 : Memref sig .tc .vmem S4x128x128 .f32} {harg12 : arg12.IsWhole}
  {arg13 : Memref sig .tc .vmem S4x128x1 .f32} {harg13 : arg13.IsWhole}
  {arg14 : Memref sig .tc .vmem S1x512 .f32} {harg14 : arg14.IsWhole}
  {arg15 : Memref sig .tc .vmem S1x512 .f32} {harg15 : arg15.IsWhole}
  {arg16 : Memref sig .tc .vmem S256x256 .f32} {harg16 : arg16.IsWhole}
  {arg17 : Memref sig .tc .vmem S64x1024 .f32} {harg17 : arg17.IsWhole}
  {arg18 : Memref sig .tc .vmem S16x4096 .f32} {harg18 : arg18.IsWhole}
  {arg19 : Memref sig .tc .vmem S256x3072 .bf16} {harg19 : arg19.IsWhole}
  {arg20 : Memref sig .tc .vmem S1024x1024 .f32} {harg20 : arg20.IsWhole}
  {arg21 : Memref sig .tc .vmem S4x256x256 .f32} {harg21 : arg21.IsWhole}
  {arg22 : Memref sig .tc .vmem S4x512x256 .f32} {harg22 : arg22.IsWhole}
  {arg23 : Memref sig .tc .vmem S4x128x128 .f32} {harg23 : arg23.IsWhole}
  {arg24 : Memref sig .tc .vmem S4x128x128 .f32} {harg24 : arg24.IsWhole}
  {arg25 : Memref sig .tc .vmem S1x512 .f32} {harg25 : arg25.IsWhole}
  {arg26 : Memref sig .tc .vmem S1x512 .f32} {harg26 : arg26.IsWhole}
  {arg27 : Memref sig .tc .vmem S256x512 .f32} {harg27 : arg27.IsWhole}
  {arg28 : Memref sig .tc .vmem S256x512 .f32} {harg28 : arg28.IsWhole}
  {arg29 : Memref sig .tc .vmem S2x256x128 .f32} {harg29 : arg29.IsWhole}
  {X : In} {Y19 Y24 Y25 : ℕ → ℕ → ℝ} {Y20 Y21 Y22 Y23 : ℕ → ℕ → ℕ → ℝ}

theorem HS0_8_B : View.canon (kernelRun0_B.sl.HS0_8 (F := Ideal) c arg1 harg1 arg5 harg5 arg8 harg8 arg9 harg9 arg11 harg11 arg12 harg12 (up2 X.dy) (up2 X.up) (up2 X.gb) (up2 X.wo) (up2 X.wbg) (up3 X.wsp)) = (up2 X.dzln : S256x512.Idx → EReal) :=
  canon_of_pieces _ _ (po2 128 384 v615_B (fun _ _ _ _ => rfl) <| po2 0 384 v578_B (fun _ _ _ _ => rfl) <| po2 128 256 v536_B (fun _ _ _ _ => rfl) <| po2 0 256 v499_B (fun _ _ _ _ => rfl) <| po2 128 128 v457_B (fun _ _ _ _ => rfl) <| po2 0 128 v420_B (fun _ _ _ _ => rfl) <| po2 128 0 v378_B (fun _ _ _ _ => rfl) <| po2 0 0 v341_B (fun _ _ _ _ => rfl) <| trivial)
    fun y => View.cover_of_tiledL (s := S256x512) _ S128x128.size (by sl_kernel_rfl) y

theorem pay90_B : k0_pay90 (F := Ideal) (up2 X.dyg) (up2 X.zln) (up3 fun o i k => X.wsp (0 + o) i k : S1x128x128.Idx → EReal) (up3 fun o i _ => X.bc (0 + o) i) = up2 fun i k => X.du (0 + i) (0 + k) := by
  simp only [k0_pay90, rules]
  exact up2_congr fun i hi k hk => (X.du_tile 0 0 hi hk).symm

theorem HS1_8_B : View.canon (kernelRun0_B.sl.HS1_8 (F := Ideal) c arg1 harg1 arg6 harg6 arg8 harg8 arg9 harg9 arg11 harg11 arg12 harg12 arg13 harg13 arg14 harg14 arg15 harg15 (up2 X.dy) (up2 X.zp) (up2 X.gb) (up2 X.wo) (up2 X.wbg) (up3 X.wsp) (up3 fun g i _ => X.bc g i) (up2 X.lg) (up2 X.lb)) = (up2 X.du : S256x512.Idx → EReal) :=
  canon_of_pieces _ _ (po2 128 384 v589_B (fun _ _ _ _ => rfl) <| po2 0 384 v552_B (fun _ _ _ _ => rfl) <| po2 128 256 v510_B (fun _ _ _ _ => rfl) <| po2 0 256 v473_B (fun _ _ _ _ => rfl) <| po2 128 128 v431_B (fun _ _ _ _ => rfl) <| po2 0 128 v394_B (fun _ _ _ _ => rfl) <| po2 128 0 v352_B (fun _ _ _ _ => rfl) <| po2 0 0 (by
      simp only [r_B, r_5_B, read_plane]
      exact pay90_B) (fun _ _ _ _ => rfl) <| trivial)
    fun y => View.cover_of_tiledL (s := S256x512) _ S128x128.size (by sl_kernel_rfl) y

theorem HS2_2_B : View.canon (kernelRun0_B.sl.HS2_2 (F := Ideal) c arg1 harg1 arg7 harg7 arg9 harg9 arg10 harg10 (up2 X.dy) (up2 X.ga) (up2 X.wo) (up2 X.wba)) = (up3 fun h i k => X.dya i (128 * h + k) : S2x256x128.Idx → EReal) :=
  canon_of_pieces _ _ (po3 (f := fun _ i k => X.dya i (128 + k)) 1 (by simp only [kernelRun0_B.sl.v110, kernelRun0_B.sl.v113, v104_B, extract_up2, cast_add, zero_add]) (fun _ _ _ _ => rfl) <| po3 (f := fun _ i k => X.dya i (0 + k)) 0 (by simp only [kernelRun0_B.sl.v106, kernelRun0_B.sl.v109, v104_B, extract_up2, cast_add, zero_add]) (fun _ _ _ _ => rfl) <| trivial)
    fun y => View.cover_of_tiledL (s := S2x256x128) _ S1x256x128.size (by sl_kernel_rfl) y

theorem HS2_4_B : View.canon (kernelRun0_B.sl.HS2_4 (F := Ideal) c arg1 harg1 arg7 harg7 arg9 harg9 arg10 harg10 (up2 X.dy) (up2 X.ga) (up2 X.wo) (up2 X.wba)) = (up3 fun h i k => X.dya i (128 * h + k) : S2x256x128.Idx → EReal) :=
  canon_of_pieces _ _ (po3 (f := fun _ i k => X.dya i (128 + k)) 1 (by simp only [kernelRun0_B.sl.v110, kernelRun0_B.sl.v113, v104_B, extract_up2, cast_add, zero_add]) (fun _ _ _ _ => rfl) <| po3 (f := fun _ i k => X.dya i (0 + k)) 0 (by simp only [kernelRun0_B.sl.v106, kernelRun0_B.sl.v109, v104_B, extract_up2, cast_add, zero_add]) (fun _ _ _ _ => rfl) <| po3 (f := fun _ i k => X.dya i (128 + k)) 1 (by simp only [kernelRun0_B.sl.v110, kernelRun0_B.sl.v113, v104_B, extract_up2, cast_add, zero_add]) (fun _ _ _ _ => rfl) <| po3 (f := fun _ i k => X.dya i (0 + k)) 0 (by simp only [kernelRun0_B.sl.v106, kernelRun0_B.sl.v109, v104_B, extract_up2, cast_add, zero_add]) (fun _ _ _ _ => rfl) <| trivial)
    fun y => View.cover_of_tiledL (s := S2x256x128) _ S1x256x128.size (by sl_kernel_rfl) y

theorem v616_B : kernelRun0_B.sl.v616 (F := Ideal) c arg1 harg1 arg5 harg5 arg8 harg8 arg9 harg9 arg11 harg11 arg12 harg12 arg27 (up2 X.dy) (up2 X.up) (up2 X.gb) (up2 X.wo) (up2 X.wbg) (up3 X.wsp) = up2 X.dzln := read_cov2 _ _ _ HS0_8_B _

theorem v678_B : kernelRun0_B.sl.v678 (F := Ideal) c arg1 harg1 arg6 harg6 arg8 harg8 arg9 harg9 arg11 harg11 arg12 harg12 arg13 harg13 arg14 harg14 arg15 harg15 arg28 (up2 X.dy) (up2 X.zp) (up2 X.gb) (up2 X.wo) (up2 X.wbg) (up3 X.wsp) (up3 fun g i _ => X.bc g i) (up2 X.lg) (up2 X.lb) = up2 X.du := read_cov2 _ _ _ HS1_8_B _

theorem v622_B : kernelRun0_B.sl.v622 (F := Ideal) c arg1 harg1 arg5 harg5 arg6 harg6 arg8 harg8 arg9 harg9 arg11 harg11 arg12 harg12 arg25 harg25 arg27 (up2 X.dy) (up2 X.up) (up2 X.zp) (up2 X.gb) (up2 X.wo) (up2 X.wbg) (up3 X.wsp) (up2 Y24) = up2 fun i k => Y24 i k + ∑ i ∈ Finset.range 256, X.dzln i k * X.zh i k := by
  simp only [kernelRun0_B.sl.v622, kernelRun0_B.sl.v621, kernelRun0_B.sl.v620, kernelRun0_B.sl.v619, kernelRun0_B.sl.v618, r_3_B, v616_B, rules]

theorem v625_B : kernelRun0_B.sl.v625 (F := Ideal) c arg26 harg26 (up2 Y25) = up2 fun i k => Y25 i k := by
  simp only [kernelRun0_B.sl.v625, rules]

theorem r_13_B : kernelRun0_B.sl.r_13 (F := Ideal) c arg1 harg1 arg5 harg5 arg6 harg6 arg8 harg8 arg9 harg9 arg11 harg11 arg12 harg12 arg14 harg14 arg27 (up2 X.dy) (up2 X.up) (up2 X.zp) (up2 X.gb) (up2 X.wo) (up2 X.wbg) (up3 X.wsp) (up2 X.lg) = up2 X.dz := by
  simp only [kernelRun0_B.sl.r_13, kernelRun0_B.sl.r_4, r_3_B, r_2_B, v616_B, rules]

theorem v115_B : kernelRun0_B.sl.v115 (F := Ideal) c arg1 harg1 arg7 harg7 arg9 harg9 arg10 harg10 arg29 (up2 X.dy) (up2 X.ga) (up2 X.wo) (up2 X.wba) = up2 fun i k => X.dya (0 + 4 * i) (0 + k) := by
  unfold kernelRun0_B.sl.v115 kernelRun0_B.sl.v114
  exact (congrArg (fun w => shapeCast _ w _) (read_strided _ _ _ HS2_2_B 0 0 4 _)).trans (cast_drop _ _)

theorem v118_B : kernelRun0_B.sl.v118 (F := Ideal) c arg1 harg1 arg7 harg7 arg9 harg9 arg10 harg10 arg29 (up2 X.dy) (up2 X.ga) (up2 X.wo) (up2 X.wba) = up2 fun i k => X.dya (0 + 4 * i) (128 + k) := by
  unfold kernelRun0_B.sl.v118 kernelRun0_B.sl.v117
  exact (congrArg (fun w => shapeCast _ w _) (read_strided _ _ _ HS2_2_B 1 0 4 _)).trans (cast_drop _ _)

theorem v121_B : kernelRun0_B.sl.v121 (F := Ideal) c arg1 harg1 arg7 harg7 arg9 harg9 arg10 harg10 arg29 (up2 X.dy) (up2 X.ga) (up2 X.wo) (up2 X.wba) = up2 fun i k => X.dya (1 + 4 * i) (0 + k) := by
  unfold kernelRun0_B.sl.v121 kernelRun0_B.sl.v120
  exact (congrArg (fun w => shapeCast _ w _) (read_strided _ _ _ HS2_2_B 0 1 4 _)).trans (cast_drop _ _)

theorem v124_B : kernelRun0_B.sl.v124 (F := Ideal) c arg1 harg1 arg7 harg7 arg9 harg9 arg10 harg10 arg29 (up2 X.dy) (up2 X.ga) (up2 X.wo) (up2 X.wba) = up2 fun i k => X.dya (1 + 4 * i) (128 + k) := by
  unfold kernelRun0_B.sl.v124 kernelRun0_B.sl.v123
  exact (congrArg (fun w => shapeCast _ w _) (read_strided _ _ _ HS2_2_B 1 1 4 _)).trans (cast_drop _ _)

theorem v127_B : kernelRun0_B.sl.v127 (F := Ideal) c arg1 harg1 arg7 harg7 arg9 harg9 arg10 harg10 arg29 (up2 X.dy) (up2 X.ga) (up2 X.wo) (up2 X.wba) = up2 fun i k => X.dya (2 + 4 * i) (0 + k) := by
  unfold kernelRun0_B.sl.v127 kernelRun0_B.sl.v126
  exact (congrArg (fun w => shapeCast _ w _) (read_strided _ _ _ HS2_2_B 0 2 4 _)).trans (cast_drop _ _)

theorem v130_B : kernelRun0_B.sl.v130 (F := Ideal) c arg1 harg1 arg7 harg7 arg9 harg9 arg10 harg10 arg29 (up2 X.dy) (up2 X.ga) (up2 X.wo) (up2 X.wba) = up2 fun i k => X.dya (2 + 4 * i) (128 + k) := by
  unfold kernelRun0_B.sl.v130 kernelRun0_B.sl.v129
  exact (congrArg (fun w => shapeCast _ w _) (read_strided _ _ _ HS2_2_B 1 2 4 _)).trans (cast_drop _ _)

theorem v133_B : kernelRun0_B.sl.v133 (F := Ideal) c arg1 harg1 arg7 harg7 arg9 harg9 arg10 harg10 arg29 (up2 X.dy) (up2 X.ga) (up2 X.wo) (up2 X.wba) = up2 fun i k => X.dya (3 + 4 * i) (0 + k) := by
  unfold kernelRun0_B.sl.v133 kernelRun0_B.sl.v132
  exact (congrArg (fun w => shapeCast _ w _) (read_strided _ _ _ HS2_2_B 0 3 4 _)).trans (cast_drop _ _)

theorem v136_B : kernelRun0_B.sl.v136 (F := Ideal) c arg1 harg1 arg7 harg7 arg9 harg9 arg10 harg10 arg29 (up2 X.dy) (up2 X.ga) (up2 X.wo) (up2 X.wba) = up2 fun i k => X.dya (3 + 4 * i) (128 + k) := by
  unfold kernelRun0_B.sl.v136 kernelRun0_B.sl.v135
  exact (congrArg (fun w => shapeCast _ w _) (read_strided _ _ _ HS2_2_B 1 3 4 _)).trans (cast_drop _ _)

theorem v147_B : kernelRun0_B.sl.v147 (F := Ideal) c arg1 harg1 arg7 harg7 arg9 harg9 arg10 harg10 arg29 (up2 X.dy) (up2 X.ga) (up2 X.wo) (up2 X.wba) = up2 fun i k => X.dya (0 + 16 * i) (0 + k) := by
  unfold kernelRun0_B.sl.v147 kernelRun0_B.sl.v146
  exact (congrArg (fun w => shapeCast _ w _) (read_strided _ _ _ HS2_4_B 0 0 16 _)).trans (cast_drop _ _)

theorem v150_B : kernelRun0_B.sl.v150 (F := Ideal) c arg1 harg1 arg7 harg7 arg9 harg9 arg10 harg10 arg29 (up2 X.dy) (up2 X.ga) (up2 X.wo) (up2 X.wba) = up2 fun i k => X.dya (0 + 16 * i) (128 + k) := by
  unfold kernelRun0_B.sl.v150 kernelRun0_B.sl.v149
  exact (congrArg (fun w => shapeCast _ w _) (read_strided _ _ _ HS2_4_B 1 0 16 _)).trans (cast_drop _ _)

theorem v153_B : kernelRun0_B.sl.v153 (F := Ideal) c arg1 harg1 arg7 harg7 arg9 harg9 arg10 harg10 arg29 (up2 X.dy) (up2 X.ga) (up2 X.wo) (up2 X.wba) = up2 fun i k => X.dya (1 + 16 * i) (0 + k) := by
  unfold kernelRun0_B.sl.v153 kernelRun0_B.sl.v152
  exact (congrArg (fun w => shapeCast _ w _) (read_strided _ _ _ HS2_4_B 0 1 16 _)).trans (cast_drop _ _)

theorem v156_B : kernelRun0_B.sl.v156 (F := Ideal) c arg1 harg1 arg7 harg7 arg9 harg9 arg10 harg10 arg29 (up2 X.dy) (up2 X.ga) (up2 X.wo) (up2 X.wba) = up2 fun i k => X.dya (1 + 16 * i) (128 + k) := by
  unfold kernelRun0_B.sl.v156 kernelRun0_B.sl.v155
  exact (congrArg (fun w => shapeCast _ w _) (read_strided _ _ _ HS2_4_B 1 1 16 _)).trans (cast_drop _ _)

theorem v159_B : kernelRun0_B.sl.v159 (F := Ideal) c arg1 harg1 arg7 harg7 arg9 harg9 arg10 harg10 arg29 (up2 X.dy) (up2 X.ga) (up2 X.wo) (up2 X.wba) = up2 fun i k => X.dya (2 + 16 * i) (0 + k) := by
  unfold kernelRun0_B.sl.v159 kernelRun0_B.sl.v158
  exact (congrArg (fun w => shapeCast _ w _) (read_strided _ _ _ HS2_4_B 0 2 16 _)).trans (cast_drop _ _)

theorem v162_B : kernelRun0_B.sl.v162 (F := Ideal) c arg1 harg1 arg7 harg7 arg9 harg9 arg10 harg10 arg29 (up2 X.dy) (up2 X.ga) (up2 X.wo) (up2 X.wba) = up2 fun i k => X.dya (2 + 16 * i) (128 + k) := by
  unfold kernelRun0_B.sl.v162 kernelRun0_B.sl.v161
  exact (congrArg (fun w => shapeCast _ w _) (read_strided _ _ _ HS2_4_B 1 2 16 _)).trans (cast_drop _ _)

theorem v165_B : kernelRun0_B.sl.v165 (F := Ideal) c arg1 harg1 arg7 harg7 arg9 harg9 arg10 harg10 arg29 (up2 X.dy) (up2 X.ga) (up2 X.wo) (up2 X.wba) = up2 fun i k => X.dya (3 + 16 * i) (0 + k) := by
  unfold kernelRun0_B.sl.v165 kernelRun0_B.sl.v164
  exact (congrArg (fun w => shapeCast _ w _) (read_strided _ _ _ HS2_4_B 0 3 16 _)).trans (cast_drop _ _)

theorem v168_B : kernelRun0_B.sl.v168 (F := Ideal) c arg1 harg1 arg7 harg7 arg9 harg9 arg10 harg10 arg29 (up2 X.dy) (up2 X.ga) (up2 X.wo) (up2 X.wba) = up2 fun i k => X.dya (3 + 16 * i) (128 + k) := by
  unfold kernelRun0_B.sl.v168 kernelRun0_B.sl.v167
  exact (congrArg (fun w => shapeCast _ w _) (read_strided _ _ _ HS2_4_B 1 3 16 _)).trans (cast_drop _ _)

theorem v171_B : kernelRun0_B.sl.v171 (F := Ideal) c arg1 harg1 arg7 harg7 arg9 harg9 arg10 harg10 arg29 (up2 X.dy) (up2 X.ga) (up2 X.wo) (up2 X.wba) = up2 fun i k => X.dya (4 + 16 * i) (0 + k) := by
  unfold kernelRun0_B.sl.v171 kernelRun0_B.sl.v170
  exact (congrArg (fun w => shapeCast _ w _) (read_strided _ _ _ HS2_4_B 0 4 16 _)).trans (cast_drop _ _)

theorem v174_B : kernelRun0_B.sl.v174 (F := Ideal) c arg1 harg1 arg7 harg7 arg9 harg9 arg10 harg10 arg29 (up2 X.dy) (up2 X.ga) (up2 X.wo) (up2 X.wba) = up2 fun i k => X.dya (4 + 16 * i) (128 + k) := by
  unfold kernelRun0_B.sl.v174 kernelRun0_B.sl.v173
  exact (congrArg (fun w => shapeCast _ w _) (read_strided _ _ _ HS2_4_B 1 4 16 _)).trans (cast_drop _ _)

theorem v177_B : kernelRun0_B.sl.v177 (F := Ideal) c arg1 harg1 arg7 harg7 arg9 harg9 arg10 harg10 arg29 (up2 X.dy) (up2 X.ga) (up2 X.wo) (up2 X.wba) = up2 fun i k => X.dya (5 + 16 * i) (0 + k) := by
  unfold kernelRun0_B.sl.v177 kernelRun0_B.sl.v176
  exact (congrArg (fun w => shapeCast _ w _) (read_strided _ _ _ HS2_4_B 0 5 16 _)).trans (cast_drop _ _)

theorem v180_B : kernelRun0_B.sl.v180 (F := Ideal) c arg1 harg1 arg7 harg7 arg9 harg9 arg10 harg10 arg29 (up2 X.dy) (up2 X.ga) (up2 X.wo) (up2 X.wba) = up2 fun i k => X.dya (5 + 16 * i) (128 + k) := by
  unfold kernelRun0_B.sl.v180 kernelRun0_B.sl.v179
  exact (congrArg (fun w => shapeCast _ w _) (read_strided _ _ _ HS2_4_B 1 5 16 _)).trans (cast_drop _ _)

theorem v183_B : kernelRun0_B.sl.v183 (F := Ideal) c arg1 harg1 arg7 harg7 arg9 harg9 arg10 harg10 arg29 (up2 X.dy) (up2 X.ga) (up2 X.wo) (up2 X.wba) = up2 fun i k => X.dya (6 + 16 * i) (0 + k) := by
  unfold kernelRun0_B.sl.v183 kernelRun0_B.sl.v182
  exact (congrArg (fun w => shapeCast _ w _) (read_strided _ _ _ HS2_4_B 0 6 16 _)).trans (cast_drop _ _)

theorem v186_B : kernelRun0_B.sl.v186 (F := Ideal) c arg1 harg1 arg7 harg7 arg9 harg9 arg10 harg10 arg29 (up2 X.dy) (up2 X.ga) (up2 X.wo) (up2 X.wba) = up2 fun i k => X.dya (6 + 16 * i) (128 + k) := by
  unfold kernelRun0_B.sl.v186 kernelRun0_B.sl.v185
  exact (congrArg (fun w => shapeCast _ w _) (read_strided _ _ _ HS2_4_B 1 6 16 _)).trans (cast_drop _ _)

theorem v189_B : kernelRun0_B.sl.v189 (F := Ideal) c arg1 harg1 arg7 harg7 arg9 harg9 arg10 harg10 arg29 (up2 X.dy) (up2 X.ga) (up2 X.wo) (up2 X.wba) = up2 fun i k => X.dya (7 + 16 * i) (0 + k) := by
  unfold kernelRun0_B.sl.v189 kernelRun0_B.sl.v188
  exact (congrArg (fun w => shapeCast _ w _) (read_strided _ _ _ HS2_4_B 0 7 16 _)).trans (cast_drop _ _)

theorem v192_B : kernelRun0_B.sl.v192 (F := Ideal) c arg1 harg1 arg7 harg7 arg9 harg9 arg10 harg10 arg29 (up2 X.dy) (up2 X.ga) (up2 X.wo) (up2 X.wba) = up2 fun i k => X.dya (7 + 16 * i) (128 + k) := by
  unfold kernelRun0_B.sl.v192 kernelRun0_B.sl.v191
  exact (congrArg (fun w => shapeCast _ w _) (read_strided _ _ _ HS2_4_B 1 7 16 _)).trans (cast_drop _ _)

theorem v195_B : kernelRun0_B.sl.v195 (F := Ideal) c arg1 harg1 arg7 harg7 arg9 harg9 arg10 harg10 arg29 (up2 X.dy) (up2 X.ga) (up2 X.wo) (up2 X.wba) = up2 fun i k => X.dya (8 + 16 * i) (0 + k) := by
  unfold kernelRun0_B.sl.v195 kernelRun0_B.sl.v194
  exact (congrArg (fun w => shapeCast _ w _) (read_strided _ _ _ HS2_4_B 0 8 16 _)).trans (cast_drop _ _)

theorem v198_B : kernelRun0_B.sl.v198 (F := Ideal) c arg1 harg1 arg7 harg7 arg9 harg9 arg10 harg10 arg29 (up2 X.dy) (up2 X.ga) (up2 X.wo) (up2 X.wba) = up2 fun i k => X.dya (8 + 16 * i) (128 + k) := by
  unfold kernelRun0_B.sl.v198 kernelRun0_B.sl.v197
  exact (congrArg (fun w => shapeCast _ w _) (read_strided _ _ _ HS2_4_B 1 8 16 _)).trans (cast_drop _ _)

theorem v201_B : kernelRun0_B.sl.v201 (F := Ideal) c arg1 harg1 arg7 harg7 arg9 harg9 arg10 harg10 arg29 (up2 X.dy) (up2 X.ga) (up2 X.wo) (up2 X.wba) = up2 fun i k => X.dya (9 + 16 * i) (0 + k) := by
  unfold kernelRun0_B.sl.v201 kernelRun0_B.sl.v200
  exact (congrArg (fun w => shapeCast _ w _) (read_strided _ _ _ HS2_4_B 0 9 16 _)).trans (cast_drop _ _)

theorem v204_B : kernelRun0_B.sl.v204 (F := Ideal) c arg1 harg1 arg7 harg7 arg9 harg9 arg10 harg10 arg29 (up2 X.dy) (up2 X.ga) (up2 X.wo) (up2 X.wba) = up2 fun i k => X.dya (9 + 16 * i) (128 + k) := by
  unfold kernelRun0_B.sl.v204 kernelRun0_B.sl.v203
  exact (congrArg (fun w => shapeCast _ w _) (read_strided _ _ _ HS2_4_B 1 9 16 _)).trans (cast_drop _ _)

theorem v207_B : kernelRun0_B.sl.v207 (F := Ideal) c arg1 harg1 arg7 harg7 arg9 harg9 arg10 harg10 arg29 (up2 X.dy) (up2 X.ga) (up2 X.wo) (up2 X.wba) = up2 fun i k => X.dya (10 + 16 * i) (0 + k) := by
  unfold kernelRun0_B.sl.v207 kernelRun0_B.sl.v206
  exact (congrArg (fun w => shapeCast _ w _) (read_strided _ _ _ HS2_4_B 0 10 16 _)).trans (cast_drop _ _)

theorem v210_B : kernelRun0_B.sl.v210 (F := Ideal) c arg1 harg1 arg7 harg7 arg9 harg9 arg10 harg10 arg29 (up2 X.dy) (up2 X.ga) (up2 X.wo) (up2 X.wba) = up2 fun i k => X.dya (10 + 16 * i) (128 + k) := by
  unfold kernelRun0_B.sl.v210 kernelRun0_B.sl.v209
  exact (congrArg (fun w => shapeCast _ w _) (read_strided _ _ _ HS2_4_B 1 10 16 _)).trans (cast_drop _ _)

theorem v213_B : kernelRun0_B.sl.v213 (F := Ideal) c arg1 harg1 arg7 harg7 arg9 harg9 arg10 harg10 arg29 (up2 X.dy) (up2 X.ga) (up2 X.wo) (up2 X.wba) = up2 fun i k => X.dya (11 + 16 * i) (0 + k) := by
  unfold kernelRun0_B.sl.v213 kernelRun0_B.sl.v212
  exact (congrArg (fun w => shapeCast _ w _) (read_strided _ _ _ HS2_4_B 0 11 16 _)).trans (cast_drop _ _)

theorem v216_B : kernelRun0_B.sl.v216 (F := Ideal) c arg1 harg1 arg7 harg7 arg9 harg9 arg10 harg10 arg29 (up2 X.dy) (up2 X.ga) (up2 X.wo) (up2 X.wba) = up2 fun i k => X.dya (11 + 16 * i) (128 + k) := by
  unfold kernelRun0_B.sl.v216 kernelRun0_B.sl.v215
  exact (congrArg (fun w => shapeCast _ w _) (read_strided _ _ _ HS2_4_B 1 11 16 _)).trans (cast_drop _ _)

theorem v219_B : kernelRun0_B.sl.v219 (F := Ideal) c arg1 harg1 arg7 harg7 arg9 harg9 arg10 harg10 arg29 (up2 X.dy) (up2 X.ga) (up2 X.wo) (up2 X.wba) = up2 fun i k => X.dya (12 + 16 * i) (0 + k) := by
  unfold kernelRun0_B.sl.v219 kernelRun0_B.sl.v218
  exact (congrArg (fun w => shapeCast _ w _) (read_strided _ _ _ HS2_4_B 0 12 16 _)).trans (cast_drop _ _)

theorem v222_B : kernelRun0_B.sl.v222 (F := Ideal) c arg1 harg1 arg7 harg7 arg9 harg9 arg10 harg10 arg29 (up2 X.dy) (up2 X.ga) (up2 X.wo) (up2 X.wba) = up2 fun i k => X.dya (12 + 16 * i) (128 + k) := by
  unfold kernelRun0_B.sl.v222 kernelRun0_B.sl.v221
  exact (congrArg (fun w => shapeCast _ w _) (read_strided _ _ _ HS2_4_B 1 12 16 _)).trans (cast_drop _ _)

theorem v225_B : kernelRun0_B.sl.v225 (F := Ideal) c arg1 harg1 arg7 harg7 arg9 harg9 arg10 harg10 arg29 (up2 X.dy) (up2 X.ga) (up2 X.wo) (up2 X.wba) = up2 fun i k => X.dya (13 + 16 * i) (0 + k) := by
  unfold kernelRun0_B.sl.v225 kernelRun0_B.sl.v224
  exact (congrArg (fun w => shapeCast _ w _) (read_strided _ _ _ HS2_4_B 0 13 16 _)).trans (cast_drop _ _)

theorem v228_B : kernelRun0_B.sl.v228 (F := Ideal) c arg1 harg1 arg7 harg7 arg9 harg9 arg10 harg10 arg29 (up2 X.dy) (up2 X.ga) (up2 X.wo) (up2 X.wba) = up2 fun i k => X.dya (13 + 16 * i) (128 + k) := by
  unfold kernelRun0_B.sl.v228 kernelRun0_B.sl.v227
  exact (congrArg (fun w => shapeCast _ w _) (read_strided _ _ _ HS2_4_B 1 13 16 _)).trans (cast_drop _ _)

theorem v231_B : kernelRun0_B.sl.v231 (F := Ideal) c arg1 harg1 arg7 harg7 arg9 harg9 arg10 harg10 arg29 (up2 X.dy) (up2 X.ga) (up2 X.wo) (up2 X.wba) = up2 fun i k => X.dya (14 + 16 * i) (0 + k) := by
  unfold kernelRun0_B.sl.v231 kernelRun0_B.sl.v230
  exact (congrArg (fun w => shapeCast _ w _) (read_strided _ _ _ HS2_4_B 0 14 16 _)).trans (cast_drop _ _)

theorem v234_B : kernelRun0_B.sl.v234 (F := Ideal) c arg1 harg1 arg7 harg7 arg9 harg9 arg10 harg10 arg29 (up2 X.dy) (up2 X.ga) (up2 X.wo) (up2 X.wba) = up2 fun i k => X.dya (14 + 16 * i) (128 + k) := by
  unfold kernelRun0_B.sl.v234 kernelRun0_B.sl.v233
  exact (congrArg (fun w => shapeCast _ w _) (read_strided _ _ _ HS2_4_B 1 14 16 _)).trans (cast_drop _ _)

theorem v237_B : kernelRun0_B.sl.v237 (F := Ideal) c arg1 harg1 arg7 harg7 arg9 harg9 arg10 harg10 arg29 (up2 X.dy) (up2 X.ga) (up2 X.wo) (up2 X.wba) = up2 fun i k => X.dya (15 + 16 * i) (0 + k) := by
  unfold kernelRun0_B.sl.v237 kernelRun0_B.sl.v236
  exact (congrArg (fun w => shapeCast _ w _) (read_strided _ _ _ HS2_4_B 0 15 16 _)).trans (cast_drop _ _)

theorem v240_B : kernelRun0_B.sl.v240 (F := Ideal) c arg1 harg1 arg7 harg7 arg9 harg9 arg10 harg10 arg29 (up2 X.dy) (up2 X.ga) (up2 X.wo) (up2 X.wba) = up2 fun i k => X.dya (15 + 16 * i) (128 + k) := by
  unfold kernelRun0_B.sl.v240 kernelRun0_B.sl.v239
  exact (congrArg (fun w => shapeCast _ w _) (read_strided _ _ _ HS2_4_B 1 15 16 _)).trans (cast_drop _ _)

end Cert.KLift

end
-- ==== Proof.OutB.lean ====
/-
  What the kernel's body computes at a grid point of case B, of arrays of reals.
-/
module

public import proofs.«01_k».proof.Proof.TileB
public import proofs.«01_k».proof.Proof.Gen.KernelIdeal.Frame

@[expose] public section

set_option maxHeartbeats 1000000

noncomputable section

namespace Cert.KLift

open Idealize.ShloMosaic Cert.KernelIdeal Cert.KernelIdeal.Gen Cert.Lift

variable {c : Dev nD} {i : grid0.Coords}
  {arg1 : Memref sig .tc .vmem S256x1024 .bf16} {harg1 : arg1.IsWhole}
  {arg2 : Memref sig .tc .vmem S256x256 .f32} {harg2 : arg2.IsWhole}
  {arg3 : Memref sig .tc .vmem S256x512 .bf16} {harg3 : arg3.IsWhole}
  {arg4 : Memref sig .tc .vmem S256x1024 .bf16} {harg4 : arg4.IsWhole}
  {arg5 : Memref sig .tc .vmem S256x512 .bf16} {harg5 : arg5.IsWhole}
  {arg6 : Memref sig .tc .vmem S256x512 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1024x1024 .bf16} {harg9 : arg9.IsWhole}
  {arg10 : Memref sig .tc .vmem S256x1024 .bf16} {harg10 : arg10.IsWhole}
  {arg11 : Memref sig .tc .vmem S512x1024 .bf16} {harg11 : arg11.IsWhole}
  {arg12 : Memref sig .tc .vmem S4x128x128 .f32} {harg12 : arg12.IsWhole}
  {arg13 : Memref sig .tc .vmem S4x128x1 .f32} {harg13 : arg13.IsWhole}
  {arg14 : Memref sig .tc .vmem S1x512 .f32} {harg14 : arg14.IsWhole}
  {arg15 : Memref sig .tc .vmem S1x512 .f32} {harg15 : arg15.IsWhole}
  {arg16 : Memref sig .tc .vmem S256x256 .f32} {harg16 : arg16.IsWhole}
  {arg17 : Memref sig .tc .vmem S64x1024 .f32} {harg17 : arg17.IsWhole}
  {arg18 : Memref sig .tc .vmem S16x4096 .f32} {harg18 : arg18.IsWhole}
  {arg19 : Memref sig .tc .vmem S256x3072 .bf16} {harg19 : arg19.IsWhole}
  {arg20 : Memref sig .tc .vmem S1024x1024 .f32} {harg20 : arg20.IsWhole}
  {arg21 : Memref sig .tc .vmem S4x256x256 .f32} {harg21 : arg21.IsWhole}
  {arg22 : Memref sig .tc .vmem S4x512x256 .f32} {harg22 : arg22.IsWhole}
  {arg23 : Memref sig .tc .vmem S4x128x128 .f32} {harg23 : arg23.IsWhole}
  {arg24 : Memref sig .tc .vmem S4x128x128 .f32} {harg24 : arg24.IsWhole}
  {arg25 : Memref sig .tc .vmem S1x512 .f32} {harg25 : arg25.IsWhole}
  {arg26 : Memref sig .tc .vmem S1x512 .f32} {harg26 : arg26.IsWhole}
  {arg27 : Memref sig .tc .vmem S256x512 .f32} {harg27 : arg27.IsWhole}
  {arg28 : Memref sig .tc .vmem S256x512 .f32} {harg28 : arg28.IsWhole}
  {arg29 : Memref sig .tc .vmem S2x256x128 .f32} {harg29 : arg29.IsWhole}
  {X : In} {Y19 Y24 Y25 : ℕ → ℕ → ℝ} {Y20 Y21 Y22 Y23 : ℕ → ℕ → ℕ → ℝ}

theorem out15_B {hc0} : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up2 X.dya := by
  refine (View.read_writes_junk_eq_canon _ _).trans ?_
  unfold kernelRun0_B
  dsimp only
  exact canon_of_pieces _ _ (po2 0 0 v104_B (fun i _ k _ => by rw [zero_add, zero_add]) <| trivial)
    fun y => View.cover_of_tiledL (s := S256x256) _ S256x256.size (by sl_kernel_rfl) y

theorem out16_B {hc0} : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up2 fun i k => X.dya (4 * i + k / 256) (k % 256) := by
  refine (View.read_writes_junk_eq_canon _ _).trans ?_
  unfold kernelRun0_B
  dsimp only
  exact canon_of_pieces _ _ (po2 0 896 v136_B (fun i hi k hk => congrArg₂ X.dya (by omega) (by omega)) <| po2 0 768 v133_B (fun i hi k hk => congrArg₂ X.dya (by omega) (by omega)) <| po2 0 640 v130_B (fun i hi k hk => congrArg₂ X.dya (by omega) (by omega)) <| po2 0 512 v127_B (fun i hi k hk => congrArg₂ X.dya (by omega) (by omega)) <| po2 0 384 v124_B (fun i hi k hk => congrArg₂ X.dya (by omega) (by omega)) <| po2 0 256 v121_B (fun i hi k hk => congrArg₂ X.dya (by omega) (by omega)) <| po2 0 128 v118_B (fun i hi k hk => congrArg₂ X.dya (by omega) (by omega)) <| po2 0 0 v115_B (fun i hi k hk => congrArg₂ X.dya (by omega) (by omega)) <| trivial)
    fun y => View.cover_of_tiledL (s := S64x1024) _ S64x128.size (by sl_kernel_rfl) y

theorem out17_B {hc0} : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up2 fun i k => X.dya (16 * i + k / 256) (k % 256) := by
  refine (View.read_writes_junk_eq_canon _ _).trans ?_
  unfold kernelRun0_B
  dsimp only
  exact canon_of_pieces _ _ (po2 0 3968 v240_B (fun i hi k hk => congrArg₂ X.dya (by omega) (by omega)) <| po2 0 3840 v237_B (fun i hi k hk => congrArg₂ X.dya (by omega) (by omega)) <| po2 0 3712 v234_B (fun i hi k hk => congrArg₂ X.dya (by omega) (by omega)) <| po2 0 3584 v231_B (fun i hi k hk => congrArg₂ X.dya (by omega) (by omega)) <| po2 0 3456 v228_B (fun i hi k hk => congrArg₂ X.dya (by omega) (by omega)) <| po2 0 3328 v225_B (fun i hi k hk => congrArg₂ X.dya (by omega) (by omega)) <| po2 0 3200 v222_B (fun i hi k hk => congrArg₂ X.dya (by omega) (by omega)) <| po2 0 3072 v219_B (fun i hi k hk => congrArg₂ X.dya (by omega) (by omega)) <| po2 0 2944 v216_B (fun i hi k hk => congrArg₂ X.dya (by omega) (by omega)) <| po2 0 2816 v213_B (fun i hi k hk => congrArg₂ X.dya (by omega) (by omega)) <| po2 0 2688 v210_B (fun i hi k hk => congrArg₂ X.dya (by omega) (by omega)) <| po2 0 2560 v207_B (fun i hi k hk => congrArg₂ X.dya (by omega) (by omega)) <| po2 0 2432 v204_B (fun i hi k hk => congrArg₂ X.dya (by omega) (by omega)) <| po2 0 2304 v201_B (fun i hi k hk => congrArg₂ X.dya (by omega) (by omega)) <| po2 0 2176 v198_B (fun i hi k hk => congrArg₂ X.dya (by omega) (by omega)) <| po2 0 2048 v195_B (fun i hi k hk => congrArg₂ X.dya (by omega) (by omega)) <| po2 0 1920 v192_B (fun i hi k hk => congrArg₂ X.dya (by omega) (by omega)) <| po2 0 1792 v189_B (fun i hi k hk => congrArg₂ X.dya (by omega) (by omega)) <| po2 0 1664 v186_B (fun i hi k hk => congrArg₂ X.dya (by omega) (by omega)) <| po2 0 1536 v183_B (fun i hi k hk => congrArg₂ X.dya (by omega) (by omega)) <| po2 0 1408 v180_B (fun i hi k hk => congrArg₂ X.dya (by omega) (by omega)) <| po2 0 1280 v177_B (fun i hi k hk => congrArg₂ X.dya (by omega) (by omega)) <| po2 0 1152 v174_B (fun i hi k hk => congrArg₂ X.dya (by omega) (by omega)) <| po2 0 1024 v171_B (fun i hi k hk => congrArg₂ X.dya (by omega) (by omega)) <| po2 0 896 v168_B (fun i hi k hk => congrArg₂ X.dya (by omega) (by omega)) <| po2 0 768 v165_B (fun i hi k hk => congrArg₂ X.dya (by omega) (by omega)) <| po2 0 640 v162_B (fun i hi k hk => congrArg₂ X.dya (by omega) (by omega)) <| po2 0 512 v159_B (fun i hi k hk => congrArg₂ X.dya (by omega) (by omega)) <| po2 0 384 v156_B (fun i hi k hk => congrArg₂ X.dya (by omega) (by omega)) <| po2 0 256 v153_B (fun i hi k hk => congrArg₂ X.dya (by omega) (by omega)) <| po2 0 128 v150_B (fun i hi k hk => congrArg₂ X.dya (by omega) (by omega)) <| po2 0 0 v147_B (fun i hi k hk => congrArg₂ X.dya (by omega) (by omega)) <| trivial)
    fun y => View.cover_of_tiledL (s := S16x4096) _ S16x128.size (by sl_kernel_rfl) y

theorem out18_B {hc0} : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up2 X.drest := by
  refine (View.read_writes_junk_eq_canon _ _).trans (canon_of_pieces _ _ ?_ (cover0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25)))
  unfold kernelRun0_B
  dsimp only
  exact po2b 0 0 (f := X.dup) (by simp only [kernelRun0_B.sl.r_6, kernelRun0_B.sl.r_17, kernelRun0_B.sl.r_18, v678_B, pay84, read_whole2, pay1]; rfl) (fun i _ k hk => by rw [zero_add, zero_add, In.drest, if_pos hk]) <| po2b 0 512 (f := X.dzp) (by simp only [kernelRun0_B.sl.r_14, kernelRun0_B.sl.r_1, kernelRun0_B.sl.r_15, kernelRun0_B.sl.r_16, r_13_B, pay79, read_whole2, pay173]; rfl) (fun i _ k hk => by rw [zero_add, In.drest, if_neg (by omega), if_pos (by omega), Nat.add_sub_cancel_left]) <| po2b 0 2048 v39_B (fun i _ k hk => by rw [zero_add, In.drest, if_neg (by omega), if_neg (by omega), if_neg (by omega), Nat.add_sub_cancel_left]) <| po2b 0 1024 v32_B (fun i _ k hk => by rw [zero_add, In.drest, if_neg (by omega), if_neg (by omega), if_pos (by omega), Nat.add_sub_cancel_left]) <| trivial

theorem out19_B {hc0} : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up2 fun k l => Y19 k l + ∑ i ∈ Finset.range 256, X.mg i k * X.dy i l := by
  refine (View.read_writes_junk_eq_canon _ _).trans ?_
  unfold kernelRun0_B
  dsimp only
  exact (View.canon_cons_unit_lit' _ _ _ fun a => by match a with | ⟨0, _⟩ => rfl | ⟨1, _⟩ => rfl).trans v11_B

theorem out20_B {hc0} : out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up3 fun g k l => Y20 g k l + ∑ i ∈ Finset.range 256, X.ya i k * X.da i (256 * g + l) := by
  refine (View.read_writes_junk_eq_canon _ _).trans ?_
  unfold kernelRun0_B
  dsimp only
  exact planes_all (planes_new 3 v95_B (fun i _ k _ => rfl) <| planes_new 2 v81_B (fun i _ k _ => rfl) <| planes_new 1 v67_B (fun i _ k _ => rfl) <| planes_new 0 v53_B (fun i _ k _ => rfl) <| planes_none _ _) fun o ho => by omega

theorem out21_B {hc0} : out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up3 fun g k l => Y21 g k l + ∑ i ∈ Finset.range 256, X.yg i k * X.db i (256 * g + l) := by
  refine (View.read_writes_junk_eq_canon _ _).trans ?_
  unfold kernelRun0_B
  dsimp only
  exact planes_all (planes_new 3 v102_B (fun i _ k _ => rfl) <| planes_new 2 v88_B (fun i _ k _ => rfl) <| planes_new 1 v74_B (fun i _ k _ => rfl) <| planes_new 0 v60_B (fun i _ k _ => rfl) <| planes_none _ _) fun o ho => by omega

theorem out22_B {hc0} : out0_B_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up3 fun g i k => Y22 g i k + (if k ≤ i then X.dwsp1 0 g i k else 0) + (if k ≤ i then X.dwsp1 1 g i k else 0) := by
  refine (View.read_writes_junk_eq_canon _ _).trans ?_
  unfold kernelRun0_B
  dsimp only
  exact planes_all (planes_new 3 v611_B (fun i _ k _ => rfl) <| planes_old 3 <| planes_new 2 v532_B (fun i _ k _ => rfl) <| planes_old 2 <| planes_new 1 v453_B (fun i _ k _ => rfl) <| planes_old 1 <| planes_new 0 v374_B (fun i _ k _ => rfl) <| planes_old 0 <| planes_none _ _) fun o ho => by omega

theorem out23_B {hc0} : out0_B_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up3 fun g i k => Y23 g i k + X.dbs1 0 g i + X.dbs1 1 g i := by
  refine (View.read_writes_junk_eq_canon _ _).trans ?_
  unfold kernelRun0_B
  dsimp only
  exact planes_all (planes_new 3 v602_B (fun i _ k _ => rfl) <| planes_old 3 <| planes_new 2 v523_B (fun i _ k _ => rfl) <| planes_old 2 <| planes_new 1 v444_B (fun i _ k _ => rfl) <| planes_old 1 <| planes_new 0 v365_B (fun i _ k _ => rfl) <| planes_old 0 <| planes_none _ _) fun o ho => by omega

theorem out24_B {hc0} : out0_B_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up2 fun i k => Y24 i k + ∑ i ∈ Finset.range 256, X.dzln i k * X.zh i k := by
  refine (View.read_writes_junk_eq_canon _ _).trans ?_
  unfold kernelRun0_B
  dsimp only
  exact (View.canon_cons_unit_lit' _ _ _ fun a => by match a with | ⟨0, _⟩ => rfl | ⟨1, _⟩ => rfl).trans v622_B

theorem out25_B {hc0} : out0_B_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 (up2 X.dy) (up2 X.ya) (up2 X.yg) (up2 X.mg) (up2 X.up) (up2 X.zp) (up2 X.ga) (up2 X.gb) (up2 X.wo) (up2 X.wba) (up2 X.wbg) (up3 X.wsp) (up3 fun g i _ => X.bc g i) (up2 X.lg) (up2 X.lb) (up2 Y19) (up3 Y20) (up3 Y21) (up3 Y22) (up3 Y23) (up2 Y24) (up2 Y25) = up2 fun i k => Y25 i k + ∑ i ∈ Finset.range 256, X.dzln i k := by
  refine (View.read_writes_junk_eq_canon _ _).trans ?_
  unfold kernelRun0_B
  dsimp only
  exact (View.canon_cons_unit_lit' _ _ _ fun a => by match a with | ⟨0, _⟩ => rfl | ⟨1, _⟩ => rfl).trans (by simp only [v616_B, v625_B, pay167])

end Cert.KLift

end
-- ==== Proof.Args.lean ====
/-
  The arguments of the mixer's backward pass as arrays of reals.
-/
module

public import proofs.«01_k».proof.Proof.Model

@[expose] public section

namespace Cert

/-- The ten arguments, of reals: the gradient of the block's output, the attention's output, the rest of the projection, the
    output and branch weights, the spatial weight and bias, the layer norm's scale and shift. -/
structure Args where
  (dy ya rest wo wba wbg : ℕ → ℕ → ℝ)
  wsp : ℕ → ℕ → ℕ → ℝ
  bsp : ℕ → ℕ → ℝ
  (lg lb : ℕ → ℕ → ℝ)

/-- The projection's columns split into the two gelu inputs and the two gates. -/
def Args.toIn (A : Args) : In where
  dy := A.dy
  ya := A.ya
  up i k := A.rest i (0 + k)
  zp i k := A.rest i (512 + k)
  ga i k := A.rest i (1024 + k)
  gb i k := A.rest i (2048 + k)
  wo := A.wo
  wba := A.wba
  wbg := A.wbg
  wsp := A.wsp
  bc := A.bsp
  lg := A.lg
  lb := A.lb

end Cert
-- ==== Proof.Blocks.lean ====
/-
  The kernel's launch, block by block: what it reads at a point of its grid, what it leaves there, and the sums over the points.
-/
module

public import proofs.«01_k».proof.Proof.OutA
public import proofs.«01_k».proof.Proof.OutB
public import proofs.«01_k».proof.Proof.Args
public import proofs.«01_k».proof.Proof.Gen.KernelIdeal.Value
public import Idealize.ShloMosaic.Lib.Pipeline.ValueKit

@[expose] public section

set_option maxHeartbeats 1000000

noncomputable section

namespace Cert.KLift

open Idealize.ShloMosaic Cert.KernelIdeal Cert.KernelIdeal.Gen Cert.Lift

variable (m : (ℓ : Loc nD τ sig) → Buf (Elt Ideal) ℓ) (c : Dev nD) (A : Args)

/-- What the launch finds in its operands' buffers on device `c`. -/
structure Sees : Prop where
  main_arg0 : (V m c main_arg0 : S8192x1024.Idx → EReal) = up2 A.dy
  main_arg1 : (V m c main_arg1 : S8192x256.Idx → EReal) = up2 A.ya
  main_v92 : (V m c main_v92 : S8192x512.Idx → EReal) = up2 A.toIn.yg
  main_v93 : (V m c main_v93 : S8192x1024.Idx → EReal) = up2 A.toIn.mg
  main_arg2 : (V m c main_arg2 : S8192x3072.Idx → EReal) = up2 A.rest
  main_arg3 : (V m c main_arg3 : S1024x1024.Idx → EReal) = up2 A.wo
  main_arg4 : (V m c main_arg4 : S256x1024.Idx → EReal) = up2 A.wba
  main_arg5 : (V m c main_arg5 : S512x1024.Idx → EReal) = up2 A.wbg
  main_arg6 : (V m c main_arg6 : S4x128x128.Idx → EReal) = up3 A.wsp
  main_v91 : (V m c main_v91 : S4x128x1.Idx → EReal) = up3 (fun g i _ => A.bsp g i)
  main_arg8 : (V m c main_arg8 : S1x512.Idx → EReal) = up2 A.lg
  main_arg9 : (V m c main_arg9 : S1x512.Idx → EReal) = up2 A.lb

variable {m c A}

theorem tr0 (t : Fin cfg0.N) : win0_0.index t = ![t.val, 0] :=
  (by decide +kernel : ∀ t : Fin grid0.N, win0_0.index t = ![t.val, 0]) t
theorem iblk_0 (h : Sees m c A) (t : Fin cfg0.N) : (iblk m c 0 t : S256x1024.Idx → EReal) = up2 (A.toIn.blk t.val).dy := by
  funext y
  have e : iblk m c 0 t y = V m c main_arg0 (((cfg0.win 0).blk t).view.emb y) := rfl
  rw [e, h.main_arg0]
  show ((A.dy _ _ : ℝ) : EReal) = _
  blk_simp
  rw [tr0]
  show ((A.dy (t.val * 256 + _) (0 * 1024 + _) : ℝ) : EReal) = ((A.dy (256 * t.val + _) _ : ℝ) : EReal)
  rw [Nat.mul_comm t.val, Nat.zero_mul, Nat.zero_add]

theorem tr1 (t : Fin cfg0.N) : win0_1.index t = ![t.val, 0] :=
  (by decide +kernel : ∀ t : Fin grid0.N, win0_1.index t = ![t.val, 0]) t
theorem iblk_1 (h : Sees m c A) (t : Fin cfg0.N) : (iblk m c 1 t : S256x256.Idx → EReal) = up2 (A.toIn.blk t.val).ya := by
  funext y
  have e : iblk m c 1 t y = V m c main_arg1 (((cfg0.win 1).blk t).view.emb y) := rfl
  rw [e, h.main_arg1]
  show ((A.ya _ _ : ℝ) : EReal) = _
  blk_simp
  rw [tr1]
  show ((A.ya (t.val * 256 + _) (0 * 256 + _) : ℝ) : EReal) = ((A.ya (256 * t.val + _) _ : ℝ) : EReal)
  rw [Nat.mul_comm t.val, Nat.zero_mul, Nat.zero_add]

theorem tr2 (t : Fin cfg0.N) : win0_2.index t = ![t.val, 0] :=
  (by decide +kernel : ∀ t : Fin grid0.N, win0_2.index t = ![t.val, 0]) t
theorem iblk_2 (h : Sees m c A) (t : Fin cfg0.N) : (iblk m c 2 t : S256x512.Idx → EReal) = up2 (A.toIn.blk t.val).yg := by
  funext y
  have e : iblk m c 2 t y = V m c main_v92 (((cfg0.win 2).blk t).view.emb y) := rfl
  rw [e, h.main_v92]
  show ((A.toIn.yg _ _ : ℝ) : EReal) = _
  blk_simp
  rw [tr2]
  show ((A.toIn.yg (t.val * 256 + _) (0 * 512 + _) : ℝ) : EReal) = (((A.toIn.blk t.val).yg _ _ : ℝ) : EReal)
  rw [In.blk_yg, Nat.mul_comm t.val, Nat.zero_mul, Nat.zero_add]

theorem tr3 (t : Fin cfg0.N) : win0_3.index t = ![t.val, 0] :=
  (by decide +kernel : ∀ t : Fin grid0.N, win0_3.index t = ![t.val, 0]) t
theorem iblk_3 (h : Sees m c A) (t : Fin cfg0.N) : (iblk m c 3 t : S256x1024.Idx → EReal) = up2 (A.toIn.blk t.val).mg := by
  funext y
  have e : iblk m c 3 t y = V m c main_v93 (((cfg0.win 3).blk t).view.emb y) := rfl
  rw [e, h.main_v93]
  show ((A.toIn.mg _ _ : ℝ) : EReal) = _
  blk_simp
  rw [tr3]
  show ((A.toIn.mg (t.val * 256 + _) (0 * 1024 + _) : ℝ) : EReal) = (((A.toIn.blk t.val).mg _ _ : ℝ) : EReal)
  rw [In.blk_mg, Nat.mul_comm t.val, Nat.zero_mul, Nat.zero_add]

theorem tr4 (t : Fin cfg0.N) : win0_4.index t = ![t.val, 0] :=
  (by decide +kernel : ∀ t : Fin grid0.N, win0_4.index t = ![t.val, 0]) t
theorem iblk_4 (h : Sees m c A) (t : Fin cfg0.N) : (iblk m c 4 t : S256x512.Idx → EReal) = up2 (A.toIn.blk t.val).up := by
  funext y
  have e : iblk m c 4 t y = V m c main_arg2 (((cfg0.win 4).blk t).view.emb y) := rfl
  rw [e, h.main_arg2]
  show ((A.rest _ _ : ℝ) : EReal) = _
  blk_simp
  rw [tr4]
  show ((A.rest (t.val * 256 + _) (0 * 512 + _) : ℝ) : EReal) = ((A.rest (256 * t.val + _) (0 + _) : ℝ) : EReal)
  rw [Nat.mul_comm t.val]

theorem tr5 (t : Fin cfg0.N) : win0_5.index t = ![t.val, 1] :=
  (by decide +kernel : ∀ t : Fin grid0.N, win0_5.index t = ![t.val, 1]) t
theorem iblk_5 (h : Sees m c A) (t : Fin cfg0.N) : (iblk m c 5 t : S256x512.Idx → EReal) = up2 (A.toIn.blk t.val).zp := by
  funext y
  have e : iblk m c 5 t y = V m c main_arg2 (((cfg0.win 5).blk t).view.emb y) := rfl
  rw [e, h.main_arg2]
  show ((A.rest _ _ : ℝ) : EReal) = _
  blk_simp
  rw [tr5]
  show ((A.rest (t.val * 256 + _) (1 * 512 + _) : ℝ) : EReal) = ((A.rest (256 * t.val + _) (512 + _) : ℝ) : EReal)
  rw [Nat.mul_comm t.val]

theorem tr6 (t : Fin cfg0.N) : win0_6.index t = ![t.val, 1] :=
  (by decide +kernel : ∀ t : Fin grid0.N, win0_6.index t = ![t.val, 1]) t
theorem iblk_6 (h : Sees m c A) (t : Fin cfg0.N) : (iblk m c 6 t : S256x1024.Idx → EReal) = up2 (A.toIn.blk t.val).ga := by
  funext y
  have e : iblk m c 6 t y = V m c main_arg2 (((cfg0.win 6).blk t).view.emb y) := rfl
  rw [e, h.main_arg2]
  show ((A.rest _ _ : ℝ) : EReal) = _
  blk_simp
  rw [tr6]
  show ((A.rest (t.val * 256 + _) (1 * 1024 + _) : ℝ) : EReal) = ((A.rest (256 * t.val + _) (1024 + _) : ℝ) : EReal)
  rw [Nat.mul_comm t.val]

theorem tr7 (t : Fin cfg0.N) : win0_7.index t = ![t.val, 2] :=
  (by decide +kernel : ∀ t : Fin grid0.N, win0_7.index t = ![t.val, 2]) t
theorem iblk_7 (h : Sees m c A) (t : Fin cfg0.N) : (iblk m c 7 t : S256x1024.Idx → EReal) = up2 (A.toIn.blk t.val).gb := by
  funext y
  have e : iblk m c 7 t y = V m c main_arg2 (((cfg0.win 7).blk t).view.emb y) := rfl
  rw [e, h.main_arg2]
  show ((A.rest _ _ : ℝ) : EReal) = _
  blk_simp
  rw [tr7]
  show ((A.rest (t.val * 256 + _) (2 * 1024 + _) : ℝ) : EReal) = ((A.rest (256 * t.val + _) (2048 + _) : ℝ) : EReal)
  rw [Nat.mul_comm t.val]

theorem tr8 (t : Fin cfg0.N) : win0_8.index t = ![0, 0] :=
  (by decide +kernel : ∀ t : Fin grid0.N, win0_8.index t = ![0, 0]) t
theorem iblk_8 (h : Sees m c A) (t : Fin cfg0.N) : (iblk m c 8 t : S1024x1024.Idx → EReal) = up2 (A.toIn.blk t.val).wo := by
  funext y
  have e : iblk m c 8 t y = V m c main_arg3 (((cfg0.win 8).blk t).view.emb y) := rfl
  rw [e, h.main_arg3]
  show ((A.wo _ _ : ℝ) : EReal) = _
  blk_simp
  rw [tr8]
  show ((A.wo (0 * 1024 + _) (0 * 1024 + _) : ℝ) : EReal) = ((A.wo _ _ : ℝ) : EReal)
  simp only [Nat.zero_mul, Nat.zero_add]

theorem tr9 (t : Fin cfg0.N) : win0_9.index t = ![0, 0] :=
  (by decide +kernel : ∀ t : Fin grid0.N, win0_9.index t = ![0, 0]) t
theorem iblk_9 (h : Sees m c A) (t : Fin cfg0.N) : (iblk m c 9 t : S256x1024.Idx → EReal) = up2 (A.toIn.blk t.val).wba := by
  funext y
  have e : iblk m c 9 t y = V m c main_arg4 (((cfg0.win 9).blk t).view.emb y) := rfl
  rw [e, h.main_arg4]
  show ((A.wba _ _ : ℝ) : EReal) = _
  blk_simp
  rw [tr9]
  show ((A.wba (0 * 256 + _) (0 * 1024 + _) : ℝ) : EReal) = ((A.wba _ _ : ℝ) : EReal)
  simp only [Nat.zero_mul, Nat.zero_add]

theorem tr10 (t : Fin cfg0.N) : win0_10.index t = ![0, 0] :=
  (by decide +kernel : ∀ t : Fin grid0.N, win0_10.index t = ![0, 0]) t
theorem iblk_10 (h : Sees m c A) (t : Fin cfg0.N) : (iblk m c 10 t : S512x1024.Idx → EReal) = up2 (A.toIn.blk t.val).wbg := by
  funext y
  have e : iblk m c 10 t y = V m c main_arg5 (((cfg0.win 10).blk t).view.emb y) := rfl
  rw [e, h.main_arg5]
  show ((A.wbg _ _ : ℝ) : EReal) = _
  blk_simp
  rw [tr10]
  show ((A.wbg (0 * 512 + _) (0 * 1024 + _) : ℝ) : EReal) = ((A.wbg _ _ : ℝ) : EReal)
  simp only [Nat.zero_mul, Nat.zero_add]

theorem tr11 (t : Fin cfg0.N) : win0_11.index t = ![0, 0, 0] :=
  (by decide +kernel : ∀ t : Fin grid0.N, win0_11.index t = ![0, 0, 0]) t
theorem iblk_11 (h : Sees m c A) (t : Fin cfg0.N) : (iblk m c 11 t : S4x128x128.Idx → EReal) = up3 (A.toIn.blk t.val).wsp := by
  funext y
  have e : iblk m c 11 t y = V m c main_arg6 (((cfg0.win 11).blk t).view.emb y) := rfl
  rw [e, h.main_arg6]
  show ((A.wsp _ _ _ : ℝ) : EReal) = _
  blk_simp
  rw [tr11]
  show ((A.wsp (0 * 4 + _) (0 * 128 + _) (0 * 128 + _) : ℝ) : EReal) = ((A.wsp _ _ _ : ℝ) : EReal)
  simp only [Nat.zero_mul, Nat.zero_add]

theorem tr12 (t : Fin cfg0.N) : win0_12.index t = ![0, 0, 0] :=
  (by decide +kernel : ∀ t : Fin grid0.N, win0_12.index t = ![0, 0, 0]) t
theorem iblk_12 (h : Sees m c A) (t : Fin cfg0.N) : (iblk m c 12 t : S4x128x1.Idx → EReal) = up3 fun g i _ => (A.toIn.blk t.val).bc g i := by
  funext y
  have e : iblk m c 12 t y = V m c main_v91 (((cfg0.win 12).blk t).view.emb y) := rfl
  rw [e, h.main_v91]
  show ((A.bsp _ _ : ℝ) : EReal) = _
  blk_simp
  rw [tr12]
  show ((A.bsp (0 * 4 + _) (0 * 128 + _) : ℝ) : EReal) = ((A.bsp _ _ : ℝ) : EReal)
  simp only [Nat.zero_mul, Nat.zero_add]

theorem tr13 (t : Fin cfg0.N) : win0_13.index t = ![0, 0] :=
  (by decide +kernel : ∀ t : Fin grid0.N, win0_13.index t = ![0, 0]) t
theorem iblk_13 (h : Sees m c A) (t : Fin cfg0.N) : (iblk m c 13 t : S1x512.Idx → EReal) = up2 (A.toIn.blk t.val).lg := by
  funext y
  have e : iblk m c 13 t y = V m c main_arg8 (((cfg0.win 13).blk t).view.emb y) := rfl
  rw [e, h.main_arg8]
  show ((A.lg _ _ : ℝ) : EReal) = _
  blk_simp
  rw [tr13]
  have h0 : (y 0).val = 0 := by have : (y 0).val < 1 := (y 0).isLt; omega
  show ((A.lg 0 (0 * 512 + _) : ℝ) : EReal) = ((A.lg (y 0).val _ : ℝ) : EReal)
  rw [h0, Nat.zero_mul, Nat.zero_add]

theorem tr14 (t : Fin cfg0.N) : win0_14.index t = ![0, 0] :=
  (by decide +kernel : ∀ t : Fin grid0.N, win0_14.index t = ![0, 0]) t
theorem iblk_14 (h : Sees m c A) (t : Fin cfg0.N) : (iblk m c 14 t : S1x512.Idx → EReal) = up2 (A.toIn.blk t.val).lb := by
  funext y
  have e : iblk m c 14 t y = V m c main_arg9 (((cfg0.win 14).blk t).view.emb y) := rfl
  rw [e, h.main_arg9]
  show ((A.lb _ _ : ℝ) : EReal) = _
  blk_simp
  rw [tr14]
  have h0 : (y 0).val = 0 := by have : (y 0).val < 1 := (y 0).isLt; omega
  show ((A.lb 0 (0 * 512 + _) : ℝ) : EReal) = ((A.lb (y 0).val _ : ℝ) : EReal)
  rw [h0, Nat.zero_mul, Nat.zero_add]

end Cert.KLift

end
-- ==== Proof.Outs.lean ====
/-
  What every point of the kernel's grid leaves in the output windows.
-/
module

public import proofs.«01_k».proof.Proof.Blocks
public import proofs.«01_k».proof.Proof.Gen.KernelIdeal.Value
public import Idealize.ShloMosaic.Lib.Pipeline.ValueKit

@[expose] public section

set_option maxHeartbeats 1000000

noncomputable section

namespace Cert.KLift

open Idealize.ShloMosaic Cert.KernelIdeal Cert.KernelIdeal.Gen Cert.Lift

variable {m : (ℓ : Loc nD τ sig) → Buf (Elt Ideal) ℓ} {c : Dev nD} {A : Args}

/-- What point `n` leaves: its own blocks of the first four results, and the sums so far of the other seven. -/
def Left (A : Args) (n : ℕ) (o : Vec Ideal S256x256 .f32 × Vec Ideal S64x1024 .f32 × Vec Ideal S16x4096 .f32 × Vec Ideal S256x3072 .bf16 × Vec Ideal S1024x1024 .f32 × Vec Ideal S4x256x256 .f32 × Vec Ideal S4x512x256 .f32 × Vec Ideal S4x128x128 .f32 × Vec Ideal S4x128x128 .f32 × Vec Ideal S1x512 .f32 × Vec Ideal S1x512 .f32) : Prop :=
  o.1 = (up2 (A.toIn.blk n).dya)
  ∧ o.2.1 = (up2 fun i k => (A.toIn.blk n).dya (4 * i + k / 256) (k % 256))
  ∧ o.2.2.1 = (up2 fun i k => (A.toIn.blk n).dya (16 * i + k / 256) (k % 256))
  ∧ o.2.2.2.1 = (up2 (A.toIn.blk n).drest)
  ∧ o.2.2.2.2.1 = (up2 (A.toIn.dwout (256 * (n + 1))))
  ∧ o.2.2.2.2.2.1 = (up3 fun g k l => A.toIn.dwba (256 * (n + 1)) k (256 * g + l))
  ∧ o.2.2.2.2.2.2.1 = (up3 fun g k l => A.toIn.dwbg (256 * (n + 1)) k (256 * g + l))
  ∧ o.2.2.2.2.2.2.2.1 = (up3 (A.toIn.dwsp (2 * (n + 1))))
  ∧ o.2.2.2.2.2.2.2.2.1 = (up3 fun g i _ => A.toIn.dbs (2 * (n + 1)) g i)
  ∧ o.2.2.2.2.2.2.2.2.2.1 = (up2 fun _ k => A.toIn.dlg (256 * (n + 1)) k)
  ∧ o.2.2.2.2.2.2.2.2.2.2 = (up2 fun _ k => A.toIn.dlb (256 * (n + 1)) k)

/-- At the first point. -/
theorem left_A (h : Sees m c A) (t : Fin cfg0.N) (h0 : t.val % 32 = 0) (ht : t.val = 0) : Left A t.val (outsAt0 m c t.val t.isLt) := by
  rw [outsAt0_A m c t h0]
  refine ⟨?_, ?_, ?_, ?_, ?_, ?_, ?_, ?_, ?_, ?_, ?_⟩
  all_goals dsimp only
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    exact out15_A
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    exact out16_A
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    exact out17_A
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    exact out18_A
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    refine out19_A.trans (up2_congr fun i _ k _ => ?_)
    rw [A.toIn.dwout_succ t.val _ _, ht]
    simp only [In.dwout, Nat.mul_zero, Finset.range_zero, Finset.sum_empty]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    refine out20_A.trans (up3_congr fun g _ i _ k _ => ?_)
    rw [A.toIn.dwba_succ t.val _ _, ht]
    simp only [In.dwba, Nat.mul_zero, Finset.range_zero, Finset.sum_empty]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    refine out21_A.trans (up3_congr fun g _ i _ k _ => ?_)
    rw [A.toIn.dwbg_succ t.val _ _, ht]
    simp only [In.dwbg, Nat.mul_zero, Finset.range_zero, Finset.sum_empty]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    refine out22_A.trans (up3_congr fun g _ i _ k _ => ?_)
    rw [A.toIn.dwsp_succ t.val _ _ _, ht]
    simp only [In.dwsp, Nat.mul_zero, Finset.range_zero, Finset.sum_empty]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    refine out23_A.trans (up3_congr fun g _ i _ k _ => ?_)
    rw [A.toIn.dbs_succ t.val _ _, ht]
    simp only [In.dbs, Nat.mul_zero, Finset.range_zero, Finset.sum_empty]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    refine out24_A.trans (up2_congr fun i _ k _ => ?_)
    rw [A.toIn.dlg_succ t.val _, ht]
    simp only [In.dlg, Nat.mul_zero, Finset.range_zero, Finset.sum_empty]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t]
    refine out25_A.trans (up2_congr fun i _ k _ => ?_)
    rw [A.toIn.dlb_succ t.val _, ht]
    simp only [In.dlb, Nat.mul_zero, Finset.range_zero, Finset.sum_empty]

/-- At a later point, from the point before. -/
theorem left_B (h : Sees m c A) (t : Fin cfg0.N) (h0 : ¬t.val % 32 = 0) (n : ℕ) (ht : t.val = n + 1)
    (hp : ∀ hn, Left A n (outsAt0 m c n hn)) : Left A t.val (outsAt0 m c t.val t.isLt) := by
  rw [outsAt0_B m c t h0]
  have e : ∀ hn, outsAt0 m c (t.val - 1) hn = outsAt0 m c n (by rw [ht, Nat.add_sub_cancel] at hn; exact hn) := by
    intro hn
    have : t.val - 1 = n := by omega
    subst this
    rfl
  obtain ⟨-, -, -, -, e19, e20, e21, e22, e23, e24, e25⟩ := hp (by have := t.isLt; omega)
  refine ⟨?_, ?_, ?_, ?_, ?_, ?_, ?_, ?_, ?_, ?_, ?_⟩
  all_goals dsimp only
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    exact out15_B
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    exact out16_B
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    exact out17_B
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    exact out18_B
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    refine out19_B.trans (up2_congr fun i _ k _ => ?_)
    rw [A.toIn.dwout_succ t.val _ _, ht]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    refine out20_B.trans (up3_congr fun g _ i _ k _ => ?_)
    rw [A.toIn.dwba_succ t.val _ _, ht]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    refine out21_B.trans (up3_congr fun g _ i _ k _ => ?_)
    rw [A.toIn.dwbg_succ t.val _ _, ht]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    refine out22_B.trans (up3_congr fun g _ i _ k _ => ?_)
    rw [A.toIn.dwsp_succ t.val _ _ _, ht]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    refine out23_B.trans (up3_congr fun g _ i _ k _ => ?_)
    rw [A.toIn.dbs_succ t.val _ _, ht]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    refine out24_B.trans (up2_congr fun i _ k _ => ?_)
    rw [A.toIn.dlg_succ t.val _, ht]
  · rw [iblk_0 h t, iblk_1 h t, iblk_2 h t, iblk_3 h t, iblk_4 h t, iblk_5 h t, iblk_6 h t, iblk_7 h t, iblk_8 h t, iblk_9 h t, iblk_10 h t, iblk_11 h t, iblk_12 h t, iblk_13 h t, iblk_14 h t, e, e19, e20, e21, e22, e23, e24, e25]
    refine out25_B.trans (up2_congr fun i _ k _ => ?_)
    rw [A.toIn.dlb_succ t.val _, ht]

/-- At every point. -/
theorem left_all (h : Sees m c A) (n : ℕ) : ∀ hn, Left A n (outsAt0 m c n hn) := by
  induction n with
  | zero => exact fun hn => left_A h ⟨0, hn⟩ (by rfl) rfl
  | succ n ih =>
    intro hn
    have : n + 1 < 32 := hn
    exact left_B h ⟨n + 1, hn⟩ (by show ¬(n + 1) % 32 = 0; omega) n rfl ih

end Cert.KLift

end
-- ==== Proof.Arr.lean ====
/-
  The arrays the kernel's launch leaves.
-/
module

public import proofs.«01_k».proof.Proof.Outs

@[expose] public section

set_option maxHeartbeats 1000000

noncomputable section

namespace Cert.KLift

open Idealize.ShloMosaic Cert.KernelIdeal Cert.KernelIdeal.Gen Cert.Lift

variable {m : (ℓ : Loc nD τ sig) → Buf (Elt Ideal) ℓ} {c : Dev nD} {A : Args}

/-- The last point. -/
def tLast : Fin cfg0.N := Fin.mk 31 (by decide)

/-- What the last point leaves. -/
theorem left_last (h : Sees m c A) (t : Fin cfg0.N) (ht : t.val = 31) : Left A 31 (outsAt0 m c t.val t.isLt) := by
  obtain ⟨n, hn⟩ := t
  obtain rfl : n = 31 := ht
  exact left_all h 31 hn

theorem tr15 (t : Fin cfg0.N) : win0_15.index t = ![t.val, 0] :=
  (by decide +kernel : ∀ t : Fin grid0.N, win0_15.index t = ![t.val, 0]) t
theorem arr_15 (h : Sees m c A) : ((dats m 0 c).arrAt 15 cfg0.N : S8192x256.Idx → EReal) = up2 A.toIn.dya := by
  refine (dats m 0 c).arrAt_eq_of_covers 15 _ (by decide +kernel) fun t hf y => ?_
  blk_simp
  rw [after0_15, (left_all h t.val t.isLt).1]
  show (((A.toIn.blk t.val).dya ((y 0).val) ((y 1).val) : ℝ) : EReal) = ((A.toIn.dya _ _ : ℝ) : EReal)
  blk_simp
  rw [In.blk_dya, tr15]
  exact congrArg (fun r : ℝ => (r : EReal)) (congrArg₂ A.toIn.dya
    (by show 256 * t.val + ((y 0).val) = (t.val * 256 + (y 0).val); omega) (by show (y 1).val = (0 * 256 + (y 1).val); omega))

theorem tr16 (t : Fin cfg0.N) : win0_16.index t = ![t.val, 0] :=
  (by decide +kernel : ∀ t : Fin grid0.N, win0_16.index t = ![t.val, 0]) t
theorem arr_16 (h : Sees m c A) : ((dats m 0 c).arrAt 16 cfg0.N : S2048x1024.Idx → EReal) = up2 fun i k => A.toIn.dya (4 * i + k / 256) (k % 256) := by
  refine (dats m 0 c).arrAt_eq_of_covers 16 _ (by decide +kernel) fun t hf y => ?_
  blk_simp
  rw [after0_16, (left_all h t.val t.isLt).2.1]
  show (((A.toIn.blk t.val).dya (4 * (y 0).val + (y 1).val / 256) ((y 1).val % 256) : ℝ) : EReal) = ((A.toIn.dya _ _ : ℝ) : EReal)
  blk_simp
  rw [In.blk_dya, tr16]
  exact congrArg (fun r : ℝ => (r : EReal)) (congrArg₂ A.toIn.dya
    (by show 256 * t.val + (4 * (y 0).val + (y 1).val / 256) = 4 * (t.val * 64 + (y 0).val) + (0 * 1024 + (y 1).val) / 256; omega) (by show (y 1).val % 256 = (0 * 1024 + (y 1).val) % 256; omega))

theorem tr17 (t : Fin cfg0.N) : win0_17.index t = ![t.val, 0] :=
  (by decide +kernel : ∀ t : Fin grid0.N, win0_17.index t = ![t.val, 0]) t
theorem arr_17 (h : Sees m c A) : ((dats m 0 c).arrAt 17 cfg0.N : S512x4096.Idx → EReal) = up2 fun i k => A.toIn.dya (16 * i + k / 256) (k % 256) := by
  refine (dats m 0 c).arrAt_eq_of_covers 17 _ (by decide +kernel) fun t hf y => ?_
  blk_simp
  rw [after0_17, (left_all h t.val t.isLt).2.2.1]
  show (((A.toIn.blk t.val).dya (16 * (y 0).val + (y 1).val / 256) ((y 1).val % 256) : ℝ) : EReal) = ((A.toIn.dya _ _ : ℝ) : EReal)
  blk_simp
  rw [In.blk_dya, tr17]
  exact congrArg (fun r : ℝ => (r : EReal)) (congrArg₂ A.toIn.dya
    (by show 256 * t.val + (16 * (y 0).val + (y 1).val / 256) = 16 * (t.val * 16 + (y 0).val) + (0 * 4096 + (y 1).val) / 256; omega) (by show (y 1).val % 256 = (0 * 4096 + (y 1).val) % 256; omega))

theorem tr18 (t : Fin cfg0.N) : win0_18.index t = ![t.val, 0] :=
  (by decide +kernel : ∀ t : Fin grid0.N, win0_18.index t = ![t.val, 0]) t
theorem arr_18 (h : Sees m c A) : ((dats m 0 c).arrAt 18 cfg0.N : S8192x3072.Idx → EReal) = up2 A.toIn.drest := by
  refine (dats m 0 c).arrAt_eq_of_covers 18 _ (by decide +kernel) fun t hf y => ?_
  blk_simp
  rw [after0_18, (left_all h t.val t.isLt).2.2.2.1]
  show (((A.toIn.blk t.val).drest ((y 0).val) ((y 1).val) : ℝ) : EReal) = ((A.toIn.drest _ _ : ℝ) : EReal)
  blk_simp
  rw [In.blk_drest, tr18]
  exact congrArg (fun r : ℝ => (r : EReal)) (congrArg₂ A.toIn.drest
    (by show 256 * t.val + ((y 0).val) = (t.val * 256 + (y 0).val); omega) (by show (y 1).val = (0 * 3072 + (y 1).val); omega))

theorem arr_19 (h : Sees m c A) : ((dats m 0 c).arrAt 19 cfg0.N : S1024x1024.Idx → EReal) = up2 (A.toIn.dwout 8192) := by
  refine (dats m 0 c).arrAt_eq_of_after_last 19 tLast (by decide +kernel) _ fun j => ?_
  rw [after0_19, (left_last h tLast rfl).2.2.2.2.1]
  rfl

theorem arr_20 (h : Sees m c A) : ((dats m 0 c).arrAt 20 cfg0.N : S4x256x256.Idx → EReal) = up3 fun g k l => A.toIn.dwba 8192 k (256 * g + l) := by
  refine (dats m 0 c).arrAt_eq_of_after_last 20 tLast (by decide +kernel) _ fun j => ?_
  rw [after0_20, (left_last h tLast rfl).2.2.2.2.2.1]
  rfl

theorem arr_21 (h : Sees m c A) : ((dats m 0 c).arrAt 21 cfg0.N : S4x512x256.Idx → EReal) = up3 fun g k l => A.toIn.dwbg 8192 k (256 * g + l) := by
  refine (dats m 0 c).arrAt_eq_of_after_last 21 tLast (by decide +kernel) _ fun j => ?_
  rw [after0_21, (left_last h tLast rfl).2.2.2.2.2.2.1]
  rfl

theorem arr_22 (h : Sees m c A) : ((dats m 0 c).arrAt 22 cfg0.N : S4x128x128.Idx → EReal) = up3 (A.toIn.dwsp 64) := by
  refine (dats m 0 c).arrAt_eq_of_after_last 22 tLast (by decide +kernel) _ fun j => ?_
  rw [after0_22, (left_last h tLast rfl).2.2.2.2.2.2.2.1]
  rfl

theorem arr_23 (h : Sees m c A) : ((dats m 0 c).arrAt 23 cfg0.N : S4x128x128.Idx → EReal) = up3 fun g i _ => A.toIn.dbs 64 g i := by
  refine (dats m 0 c).arrAt_eq_of_after_last 23 tLast (by decide +kernel) _ fun j => ?_
  rw [after0_23, (left_last h tLast rfl).2.2.2.2.2.2.2.2.1]
  rfl

theorem arr_24 (h : Sees m c A) : ((dats m 0 c).arrAt 24 cfg0.N : S1x512.Idx → EReal) = up2 fun _ k => A.toIn.dlg 8192 k := by
  refine (dats m 0 c).arrAt_eq_of_after_last 24 tLast (by decide +kernel) _ fun j => ?_
  rw [after0_24, (left_last h tLast rfl).2.2.2.2.2.2.2.2.2.1]
  rfl

theorem arr_25 (h : Sees m c A) : ((dats m 0 c).arrAt 25 cfg0.N : S1x512.Idx → EReal) = up2 fun _ k => A.toIn.dlb 8192 k := by
  refine (dats m 0 c).arrAt_eq_of_after_last 25 tLast (by decide +kernel) _ fun j => ?_
  rw [after0_25, (left_last h tLast rfl).2.2.2.2.2.2.2.2.2.2]
  rfl

end Cert.KLift

end
-- ==== Proof.HLift.lean ====
/-
  The host's operations on arrays of reals.
-/
module

public import proofs.«01_k».proof.Proof.Lift

@[expose] public section

noncomputable section

namespace Cert.HLift

open Idealize.ShloMosaic Cert.Lift

variable {φ ψ : FTy} {n m p q : ℕ}

theorem divf_up2 (f g : ℕ → ℕ → ℝ) (hg : ∀ i k, g i k ≠ 0) :
    Host.divf (F := Ideal) (φ := φ) (s := ⟨2, ![n, m]⟩) (up2 f) (up2 g) = up2 fun i k => f i k / g i k :=
  funext fun _ => div_coe_coe _ _ (hg _ _)
theorem negf_up2 (f : ℕ → ℕ → ℝ) :
    Host.negf (F := Ideal) (φ := φ) (s := ⟨2, ![n, m]⟩) (up2 f) = up2 fun i k => -f i k :=
  funext fun _ => (EReal.coe_neg _).symm
theorem exp_up2 (f : ℕ → ℕ → ℝ) :
    Host.exp (F := Ideal) (φ := φ) (s := ⟨2, ![n, m]⟩) (up2 f) = up2 fun i k => Real.exp (f i k) :=
  funext fun _ => Ideal.exp_coe _
theorem tanh_up2 (f : ℕ → ℕ → ℝ) :
    Host.tanh (F := Ideal) (φ := φ) (s := ⟨2, ![n, m]⟩) (up2 f) = up2 fun i k => Real.tanh (f i k) := rfl
theorem rsqrt_up2 (f : ℕ → ℕ → ℝ) (h : ∀ i k, 0 < f i k) :
    Host.rsqrt (F := Ideal) (φ := φ) (s := ⟨2, ![n, m]⟩) (up2 f) = up2 fun i k => (Real.sqrt (f i k))⁻¹ := by
  funext j
  show Ideal.rsqrt ((f (j 0).val (j 1).val : ℝ) : EReal) = _
  rw [Ideal.rsqrt_coe, if_neg (h _ _).le.not_gt, if_neg (h _ _).ne']
  rfl

/-- A sum that starts at zero. -/
theorem zero_add_sum (f : ℕ → ℝ) :
    (FloatOps.ofBits (F := Ideal) .f32 0x00000000#32 : EReal) + ∑ k : Fin n, ((f k.val : ℝ) : EReal) = ((∑ k ∈ Finset.range n, f k : ℝ) : EReal) := by
  rw [lit_zero, coe_sum_fin, ← EReal.coe_add, zero_add]

/-- A constant written out on every index. -/
theorem const_apply {s : Shape} (b : BitVec 32) (r : ℝ) (hb : (FloatOps.ofBits (F := Ideal) .f32 b : EReal) = ((r : ℝ) : EReal)) (i : s.Idx) :
    constant (F := Ideal) s .f32 b i = ((r : ℝ) : EReal) := hb

end Cert.HLift

end
-- ==== Proof.RMat.lean ====
/-
  The reference's matrix products of arrays of reals.
-/
module

public import proofs.«01_k».proof.Proof.Lift
public import proofs.«01_k».proof.Proof.Gen.ReferenceIdeal

@[expose] public section

noncomputable section

namespace Cert.RLift

open Idealize.ShloMosaic Cert.ReferenceIdeal Cert.Lift

variable {φ ψ : FTy}

theorem mm_S8192x256_S256x1024_S8192x1024_1_0_0_1 (a b : ℕ → ℕ → ℝ) :
    Host.dotGeneral (F := Ideal) (φ₁ := φ) (φ₂ := ψ) dot_S8192x256_S256x1024_S8192x1024_1_0_0_1_n_n none (up2 a) (up2 b)
      = up2 fun i j => ∑ k ∈ Finset.range 256, a i k * b k j := by
  funext j
  idx_vars j
  pointwise [up2]
  exact coe_sum_mul (n := 256) (fun k => a ↑j0 k) (fun k => b k ↑j1)

theorem mm_S8192x512_S512x1024_S8192x1024_1_0_0_1 (a b : ℕ → ℕ → ℝ) :
    Host.dotGeneral (F := Ideal) (φ₁ := φ) (φ₂ := ψ) dot_S8192x512_S512x1024_S8192x1024_1_0_0_1_n_n none (up2 a) (up2 b)
      = up2 fun i j => ∑ k ∈ Finset.range 512, a i k * b k j := by
  funext j
  idx_vars j
  pointwise [up2]
  exact coe_sum_mul (n := 512) (fun k => a ↑j0 k) (fun k => b k ↑j1)

theorem mm_S8192x1024_S1024x1024_S8192x1024_1_0_0_1 (a b : ℕ → ℕ → ℝ) :
    Host.dotGeneral (F := Ideal) (φ₁ := φ) (φ₂ := ψ) dot_S8192x1024_S1024x1024_S8192x1024_1_0_0_1_n_n none (up2 a) (up2 b)
      = up2 fun i j => ∑ k ∈ Finset.range 1024, a i k * b k j := by
  funext j
  idx_vars j
  pointwise [up2]
  exact coe_sum_mul (n := 1024) (fun k => a ↑j0 k) (fun k => b k ↑j1)

theorem mm_S8192x1024_S8192x1024_S1024x1024_0_0_1_1 (a b : ℕ → ℕ → ℝ) :
    Host.dotGeneral (F := Ideal) (φ₁ := φ) (φ₂ := ψ) dot_S8192x1024_S8192x1024_S1024x1024_0_0_1_1_n_n none (up2 a) (up2 b)
      = up2 fun i j => ∑ k ∈ Finset.range 8192, a k i * b k j := by
  funext j
  idx_vars j
  pointwise [up2]
  exact coe_sum_mul (n := 8192) (fun k => a k ↑j0) (fun k => b k ↑j1)

theorem mm_S8192x1024_S1024x1024_S8192x1024_1_1_0_0 (a b : ℕ → ℕ → ℝ) :
    Host.dotGeneral (F := Ideal) (φ₁ := φ) (φ₂ := ψ) dot_S8192x1024_S1024x1024_S8192x1024_1_1_0_0_n_n none (up2 a) (up2 b)
      = up2 fun i j => ∑ k ∈ Finset.range 1024, a i k * b j k := by
  funext j
  idx_vars j
  pointwise [up2]
  exact coe_sum_mul (n := 1024) (fun k => a ↑j0 k) (fun k => b ↑j1 k)

theorem mm_S8192x1024_S8192x512_S1024x512_0_0_1_1 (a b : ℕ → ℕ → ℝ) :
    Host.dotGeneral (F := Ideal) (φ₁ := φ) (φ₂ := ψ) dot_S8192x1024_S8192x512_S1024x512_0_0_1_1_n_n none (up2 a) (up2 b)
      = up2 fun i j => ∑ k ∈ Finset.range 8192, a k i * b k j := by
  funext j
  idx_vars j
  pointwise [up2]
  exact coe_sum_mul (n := 8192) (fun k => a k ↑j0) (fun k => b k ↑j1)

theorem mm_S8192x1024_S512x1024_S8192x512_1_1_0_0 (a b : ℕ → ℕ → ℝ) :
    Host.dotGeneral (F := Ideal) (φ₁ := φ) (φ₂ := ψ) dot_S8192x1024_S512x1024_S8192x512_1_1_0_0_n_n none (up2 a) (up2 b)
      = up2 fun i j => ∑ k ∈ Finset.range 1024, a i k * b j k := by
  funext j
  idx_vars j
  pointwise [up2]
  exact coe_sum_mul (n := 1024) (fun k => a ↑j0 k) (fun k => b ↑j1 k)

theorem mm_S8192x1024_S8192x256_S1024x256_0_0_1_1 (a b : ℕ → ℕ → ℝ) :
    Host.dotGeneral (F := Ideal) (φ₁ := φ) (φ₂ := ψ) dot_S8192x1024_S8192x256_S1024x256_0_0_1_1_n_n none (up2 a) (up2 b)
      = up2 fun i j => ∑ k ∈ Finset.range 8192, a k i * b k j := by
  funext j
  idx_vars j
  pointwise [up2]
  exact coe_sum_mul (n := 8192) (fun k => a k ↑j0) (fun k => b k ↑j1)

theorem mm_S8192x1024_S256x1024_S8192x256_1_1_0_0 (a b : ℕ → ℕ → ℝ) :
    Host.dotGeneral (F := Ideal) (φ₁ := φ) (φ₂ := ψ) dot_S8192x1024_S256x1024_S8192x256_1_1_0_0_n_n none (up2 a) (up2 b)
      = up2 fun i j => ∑ k ∈ Finset.range 1024, a i k * b j k := by
  funext j
  idx_vars j
  pointwise [up2]
  exact coe_sum_mul (n := 1024) (fun k => a ↑j0 k) (fun k => b ↑j1 k)

/-- The spatial product of the forward lines: chunk by chunk and group by group. -/
theorem mm_spatial (a : ℕ → ℕ → ℕ → ℕ → ℝ) (b : ℕ → ℕ → ℕ → ℝ) :
    Host.dotGeneral (F := Ideal) (φ₁ := φ) (φ₂ := ψ) dot_S64x128x4x128_S4x128x128_S4x64x128x128_1_2_03_1_2_0 none (up4 a) (up3 b)
      = up4 fun g c d i => ∑ k ∈ Finset.range 128, a c k g d * b g i k := by
  funext j
  idx_vars j
  pointwise [up4, up3]
  exact coe_sum_mul (n := 128) (fun k => a ↑j1 k ↑j0 ↑j2) (fun k => b ↑j0 ↑j3 k)

/-- The gradient of the spatial weights: a sum over the chunks and the columns of a group. -/
theorem mm_dwsp (a b : ℕ → ℕ → ℕ → ℕ → ℝ) :
    Host.dotGeneral (F := Ideal) (φ₁ := φ) (φ₂ := ψ) dot_S4x64x128x128_S64x128x4x128_S4x128x128_12_03_3_1_0_2 none (up4 a) (up4 b)
      = up3 fun g i k => ∑ c ∈ Finset.range 64, ∑ d ∈ Finset.range 128, a g c d i * b c k g d := by
  funext j
  idx_vars j
  pointwise [up4, up3]
  exact (Finset.sum_congr rfl fun (c : Fin 64) _ => coe_sum_mul (n := 128) (fun d => a ↑j0 ↑c d ↑j1) (fun d => b ↑c ↑j2 ↑j0 d)).trans
    (coe_sum_fin (n := 64) fun c => ∑ d ∈ Finset.range 128, a ↑j0 c d ↑j1 * b c ↑j2 ↑j0 d)

/-- The gradient of the normalised rows. -/
theorem mm_dzln (a : ℕ → ℕ → ℕ → ℕ → ℝ) (b : ℕ → ℕ → ℕ → ℝ) :
    Host.dotGeneral (F := Ideal) (φ₁ := φ) (φ₂ := ψ) dot_S4x64x128x128_S4x128x128_S4x64x128x128_3_1_12_2_0_0 none (up4 a) (up3 b)
      = up4 fun g c d i => ∑ k ∈ Finset.range 128, a g c d k * b g k i := by
  funext j
  idx_vars j
  pointwise [up4, up3]
  exact coe_sum_mul (n := 128) (fun k => a ↑j0 ↑j1 ↑j2 k) (fun k => b ↑j0 k ↑j3)

end Cert.RLift

end
-- ==== Proof.Alg.lean ====
/-
  The layer norm's and the gelu's gradients as the reference writes them, over the reals.
-/
module

public import proofs.«01_k».proof.Proof.Args

@[expose] public section

noncomputable section

namespace Cert.In

open Cert.Lift

variable (X : In)

/-- The spatial product on one chunk's rows and one group's columns. -/
theorem sz_tile_ref (c g : ℕ) {i k : ℕ} (hi : i < 128) (hk : k < 128) : X.sz (128 * c + i) (128 * g + k)
    = (∑ j ∈ Finset.range 128, X.zln (128 * c + j) (128 * g + k) * X.W g i j) + X.bc g i := by
  rw [sz, div_tile hi, mod_tile hi, div_tile hk]
  exact congrArg (· + _) (Finset.sum_congr rfl fun _ _ => mul_comm _ _)

/-- The squared reciprocal deviation is the reciprocal variance. -/
theorem rs_sq (i : ℕ) : X.rs i / (X.vr i + eps) = X.rs i * X.rs i * X.rs i := by
  have h := X.vr_eps_pos i
  have hs : Real.sqrt (X.vr i + eps) * Real.sqrt (X.vr i + eps) = X.vr i + eps := Real.mul_self_sqrt h.le
  have hp : Real.sqrt (X.vr i + eps) ≠ 0 := (Real.sqrt_pos.2 h).ne'
  rw [rs]
  nth_rewrite 2 [← hs]
  field_simp

/-- The centred rows have sum zero. -/
theorem sum_zc (i : ℕ) : ∑ k ∈ Finset.range 512, X.zc i k = 0 := by
  simp only [zc, Finset.sum_sub_distrib, Finset.sum_const, Finset.card_range, nsmul_eq_mul, mu]
  push_cast; ring

/-- The gradient of the layer norm. -/
theorem dz_ref (i k : ℕ) :
    X.dzh i k * X.rs i + (∑ k ∈ Finset.range 512, X.zc i k * X.dzh i k) * (-(1 / 2) * (X.rs i / (X.vr i + eps))) / 512 * (2 * X.zc i k)
      + ((∑ k ∈ Finset.range 512, -(X.dzh i k * X.rs i))
        + (∑ k ∈ Finset.range 512, -((∑ k ∈ Finset.range 512, X.zc i k * X.dzh i k) * (-(1 / 2) * (X.rs i / (X.vr i + eps))) / 512 * (2 * X.zc i k)))) / 512
      = X.dz i k := by
  have h1 : ∑ k ∈ Finset.range 512, X.dzh i k * X.zh i k = (∑ k ∈ Finset.range 512, X.zc i k * X.dzh i k) * X.rs i := by
    rw [Finset.sum_mul]; exact Finset.sum_congr rfl fun k _ => by rw [zh]; ring
  rw [dz, h1, rs_sq, zh]
  generalize (∑ k ∈ Finset.range 512, X.zc i k * X.dzh i k) = S
  have h2 : ∑ k ∈ Finset.range 512, -(S * (-(1 / 2) * (X.rs i * X.rs i * X.rs i)) / 512 * (2 * X.zc i k)) = 0 := by
    have : ∀ k, -(S * (-(1 / 2) * (X.rs i * X.rs i * X.rs i)) / 512 * (2 * X.zc i k)) = (S * (X.rs i * X.rs i * X.rs i) / 512) * X.zc i k := fun k => by ring
    rw [Finset.sum_congr rfl fun k _ => this k, ← Finset.mul_sum, sum_zc, mul_zero]
  rw [h2, Finset.sum_neg_distrib, ← Finset.sum_mul]
  ring

/-- The gradient of the gelu. -/
theorem gelu_ref (x d : ℝ) :
    d * (1 / 2 * (1 + gt x)) + c0 * (1 / 2 * (x * d) * ((1 + gt x) * (1 - gt x)))
      + 44715 / 1000000 * (c0 * (1 / 2 * (x * d) * ((1 + gt x) * (1 - gt x)))) * (3 * (x * x)) = d * geluD x := by
  rw [geluD]; ring

theorem dzp_ref (i k : ℕ) :
    X.dz i k * (1 / 2 * (1 + gt (X.zp i k))) + c0 * (1 / 2 * (X.zp i k * X.dz i k) * ((1 + gt (X.zp i k)) * (1 - gt (X.zp i k))))
      + 44715 / 1000000 * (c0 * (1 / 2 * (X.zp i k * X.dz i k) * ((1 + gt (X.zp i k)) * (1 - gt (X.zp i k))))) * (3 * (X.zp i k * X.zp i k))
      = X.dzp i k := gelu_ref _ _

theorem dup_ref (i k : ℕ) :
    X.du i k * (1 / 2 * (1 + gt (X.up i k))) + c0 * (1 / 2 * (X.up i k * X.du i k) * ((1 + gt (X.up i k)) * (1 - gt (X.up i k))))
      + 44715 / 1000000 * (c0 * (1 / 2 * (X.up i k * X.du i k) * ((1 + gt (X.up i k)) * (1 - gt (X.up i k))))) * (3 * (X.up i k * X.up i k))
      = X.dup i k := gelu_ref _ _

end Cert.In

end
-- ==== Proof.RHand.lean ====
/-
  The reference's mask, its sums over two axes and its joined arrays, on arrays of reals.
-/
module

public import proofs.«01_k».proof.Proof.HLift
public import proofs.«01_k».proof.Proof.RMat
public import proofs.«01_k».proof.Proof.Gen.ReferenceIdeal.Read
@[expose] public section
noncomputable section
namespace Cert.HLift
open Idealize.ShloMosaic Cert.Lift Cert.ReferenceIdeal Cert.ReferenceIdeal.Read Facts₀ Facts

/-- Two matrices side by side. -/
theorem concat_up2 {n m p q : ℕ} (f g : ℕ → ℕ → ℝ) (hq : q = m + p) (h) :
    concatenate (⟨2, ![n, q]⟩ : Shape) 1 [⟨⟨2, ![n, m]⟩, (up2 f : (⟨2, ![n, m]⟩ : Shape).Idx → EReal)⟩, ⟨⟨2, ![n, p]⟩, (up2 g : (⟨2, ![n, p]⟩ : Shape).Idx → EReal)⟩] h
      = up2 fun i k => if k < m then f i k else g i (k - m) := by
  funext j
  have h1 : (j 1).val < q := (j 1).isLt
  by_cases hm : (j 1).val < m
  · refine (concatenate_pair_apply_left 1 (up2 f) (up2 g) h j rfl (ValueIdx.ix2 (j 0) ⟨(j 1).val, hm⟩) fun b => ?_).trans ?_
    · match b with
      | ⟨0, _⟩ => rfl
      | ⟨1, _⟩ => rfl
    · show ((f (j 0).val (j 1).val : ℝ) : EReal) = ((if (j 1).val < m then _ else _ : ℝ) : EReal)
      rw [if_pos hm]
  · refine (concatenate_pair_apply_right 1 (up2 f) (up2 g) h j rfl rfl (ValueIdx.ix2 (j 0) ⟨(j 1).val - m, by omega⟩) (fun b hb => ?_) ?_).trans ?_
    · match b with
      | ⟨0, _⟩ => rfl
      | ⟨1, _⟩ => exact absurd rfl hb
    · show (j 1).val - m + m = (j 1).val
      omega
    · show ((g (j 0).val ((j 1).val - m) : ℝ) : EReal) = ((if (j 1).val < m then _ else _ : ℝ) : EReal)
      rw [if_neg hm]

theorem drop_64 (x : S64x128x4x128.Idx) (j0 : Fin 128) (j1 : Fin 4) :
    reducesTo_S64x128x4x128_S128x4_d0_3.drop x = ValueIdx.ix2 j0 j1 ↔ (x 1).val = j0.val ∧ (x 2).val = j1.val := by
  constructor
  · intro h
    exact ⟨congrArg Fin.val (congrFun h 0), congrArg Fin.val (congrFun h 1)⟩
  · intro h
    funext b
    match b with
    | ⟨0, _⟩ => exact Fin.ext h.1
    | ⟨1, _⟩ => exact Fin.ext h.2
theorem drop_1 (x : S1x128x4x1.Idx) (j0 : Fin 128) (j1 : Fin 4) :
    reducesTo_S1x128x4x1_S128x4_d0_3.drop x = ValueIdx.ix2 j0 j1 ↔ (x 1).val = j0.val ∧ (x 2).val = j1.val := by
  constructor
  · intro h
    exact ⟨congrArg Fin.val (congrFun h 0), congrArg Fin.val (congrFun h 1)⟩
  · intro h
    funext b
    match b with
    | ⟨0, _⟩ => exact Fin.ext h.1
    | ⟨1, _⟩ => exact Fin.ext h.2

/-- A sum over the chunks and over a group's columns. -/
theorem sum_v138 (f : ℕ → ℕ → ℕ → ℕ → ℝ) (init : S_.Idx → EReal) (hi : init (Shape.Idx.first h_S_) = ((0 : ℝ) : EReal)) :
    Host.reduceAdd (F := Ideal) (φ := .f32) (up4 f : S64x128x4x128.Idx → EReal) init reducesTo_S64x128x4x128_S128x4_d0_3 h_S_ = up2 fun i k => ∑ c ∈ Finset.range 64, ∑ d ∈ Finset.range 128, f c i k d := by
  funext j
  idx_vars j
  pointwise [up2]
  rw [Ideal.hostReduceAdd, hi, EReal.coe_zero, zero_add]
  have e : ((∑ c ∈ Finset.range 64, ∑ d ∈ Finset.range 128, f c j0 j1 d : ℝ) : EReal) = ∑ p : Fin 64 × Fin 128, ((f p.1.val j0 j1 p.2.val : ℝ) : EReal) := by
    rw [Fintype.sum_prod_type, ← coe_sum_fin (n := 64) fun c => ∑ d ∈ Finset.range 128, f c j0 j1 d]
    exact Finset.sum_congr rfl fun c _ => (coe_sum_fin (n := 128) fun d => f c.val j0 j1 d).symm
  refine Eq.trans ?_ e.symm
  refine Finset.sum_nbij' (fun x => ((x 0 : Fin 64), (x 3 : Fin 128))) (fun p => ValueIdx.ix4 p.1 j0 j1 p.2) ?_ ?_ ?_ ?_ ?_
  · intro x _; exact Finset.mem_univ _
  · intro p _; exact Finset.mem_filter.2 ⟨Finset.mem_univ _, (drop_64 _ _ _).2 ⟨rfl, rfl⟩⟩
  · intro x hx
    have hx := (drop_64 _ _ _).1 (Finset.mem_filter.1 hx).2
    funext b
    match b with
    | ⟨0, _⟩ => rfl
    | ⟨1, _⟩ => exact Fin.ext hx.1.symm
    | ⟨2, _⟩ => exact Fin.ext hx.2.symm
    | ⟨3, _⟩ => rfl
  · intro p _; rfl
  · intro x hx
    have hx := (drop_64 _ _ _).1 (Finset.mem_filter.1 hx).2
    show ((f (x 0).val (x 1).val (x 2).val (x 3).val : ℝ) : EReal) = ((f (x 0).val j0.val j1.val (x 3).val : ℝ) : EReal)
    rw [hx.1, hx.2]
/-- A sum over two axes of size one. -/
theorem sum_v140 (f : ℕ → ℕ → ℕ → ℕ → ℝ) (init : S_.Idx → EReal) (hi : init (Shape.Idx.first h_S_) = ((0 : ℝ) : EReal)) :
    Host.reduceAdd (F := Ideal) (φ := .f32) (up4 f : S1x128x4x1.Idx → EReal) init reducesTo_S1x128x4x1_S128x4_d0_3 h_S_ = up2 fun i k => f 0 i k 0 := by
  funext j
  idx_vars j
  pointwise [up2]
  rw [Ideal.hostReduceAdd, hi, EReal.coe_zero, zero_add]
  have e : ((f 0 j0 j1 0 : ℝ) : EReal) = up4 f (ValueIdx.ix4 (0 : Fin 1) j0 j1 (0 : Fin 1)) := rfl
  refine (Finset.sum_eq_single_of_mem (ValueIdx.ix4 (0 : Fin 1) j0 j1 (0 : Fin 1)) (Finset.mem_filter.2 ⟨Finset.mem_univ _, (drop_1 _ _ _).2 ⟨rfl, rfl⟩⟩) ?_).trans e.symm
  intro x hx hne
  refine absurd ?_ hne
  have hx := (drop_1 _ _ _).1 (Finset.mem_filter.1 hx).2
  funext b
  match b with
  | ⟨0, _⟩ => exact Subsingleton.elim (α := Fin 1) _ _
  | ⟨1, _⟩ => exact Fin.ext hx.1
  | ⟨2, _⟩ => exact Fin.ext hx.2
  | ⟨3, _⟩ => exact Subsingleton.elim (α := Fin 1) _ _

/-- The mask of the lower triangle. -/
theorem tril (i : S128x128.Idx) : val_main_v101 (F := Ideal) i = 1#1 ↔ (i 1).val ≤ (i 0).val := by
  have h0 : (i 0).val < 128 := (i 0).isLt
  have h1 : (i 1).val < 128 := (i 1).isLt
  have e : val_main_v101 (F := Ideal) i = Scalar.select (IntOp.cmpi .sge (IntOp.addi (BitVec.ofNat 32 (i 0).val) 0#32) (BitVec.ofNat 32 (i 1).val)) 1#1 0#1 := by
    rw [val_main_v101_apply, val_main_call0_v4_apply, val_main_v100_apply, val_main_call0_v5_apply, val_main_call0_v2_apply, val_main_call0_v3_apply, val_main_call0_v1_apply]
    rfl
  rw [e]
  generalize (i 0).val = a at *
  generalize (i 1).val = b at *
  have hs : ∀ c : BitVec 1, Scalar.select c 1#1 0#1 = 1#1 ↔ c = 1#1 := by decide
  rw [hs, show IntOp.addi (BitVec.ofNat 32 a) 0#32 = BitVec.ofNat 32 a from BitVec.add_zero _]
  show BitVec.ofBool (BitVec.sle (BitVec.ofNat 32 b) (BitVec.ofNat 32 a)) = 1#1 ↔ b ≤ a
  have ha : (BitVec.ofNat 32 a).toInt = a := by
    rw [BitVec.toInt_eq_toNat_of_lt] <;> rw [BitVec.toNat_ofNat, Nat.mod_eq_of_lt (by omega)]
    omega
  have hb : (BitVec.ofNat 32 b).toInt = b := by
    rw [BitVec.toInt_eq_toNat_of_lt] <;> rw [BitVec.toNat_ofNat, Nat.mod_eq_of_lt (by omega)]
    omega
  rw [BitVec.sle, ha, hb]
  by_cases h : b ≤ a <;> simp [h]
theorem tril3 (x : S4x128x128.Idx) : val_main_v104_1 (F := Ideal) x = 1#1 ↔ (x 2).val ≤ (x 1).val := by
  rw [val_main_v104_1_apply, val_main_v102_apply]
  exact tril _
/-- The lower triangle of each of four matrices. -/
theorem select_tril3 (f : ℕ → ℕ → ℕ → ℝ) (z : S4x128x128.Idx → EReal) (hz : ∀ x, z x = ((0 : ℝ) : EReal)) :
    select (val_main_v104_1 (F := Ideal)) (up3 f : S4x128x128.Idx → EReal) z = up3 fun g i k => if k ≤ i then f g i k else 0 := by
  funext x
  show (if _ then _ else _) = ((if _ then _ else _ : ℝ) : EReal)
  by_cases h : (x 2).val ≤ (x 1).val
  · rw [if_pos h]; simp [(tril3 x).2 h]; rfl
  · rw [if_neg h]
    have : ¬ val_main_v104_1 (F := Ideal) x = 1#1 := fun e => h ((tril3 x).1 e)
    simp [this, hz]

end Cert.HLift

end
-- ==== Proof.Ref.lean ====
/-
  The reference, operation by operation, on arrays of reals.
-/
module

public import proofs.«01_k».proof.Proof.HLift
public import proofs.«01_k».proof.Proof.RMat
public import proofs.«01_k».proof.Proof.Alg
public import proofs.«01_k».proof.Proof.RHand
public import proofs.«01_k».proof.Proof.Gen.ReferenceIdeal.Read

@[expose] public section

noncomputable section

namespace Cert.Ref

open Idealize.ShloMosaic Cert.ReferenceIdeal Cert.ReferenceIdeal.Read Cert.Lift

variable {A : Args}
  {x0 : (⟨S8192x1024, .bf16⟩ : BufTy).Contents (Elt Ideal)} {x1 : (⟨S8192x256, .f32⟩ : BufTy).Contents (Elt Ideal)}
  {x2 : (⟨S8192x3072, .bf16⟩ : BufTy).Contents (Elt Ideal)} {x3 : (⟨S1024x1024, .bf16⟩ : BufTy).Contents (Elt Ideal)}
  {x4 : (⟨S256x1024, .bf16⟩ : BufTy).Contents (Elt Ideal)} {x5 : (⟨S512x1024, .bf16⟩ : BufTy).Contents (Elt Ideal)}
  {x6 : (⟨S4x128x128, .f32⟩ : BufTy).Contents (Elt Ideal)} {x7 : (⟨S4x128, .f32⟩ : BufTy).Contents (Elt Ideal)}
  {x8 x9 : (⟨S1x512, .f32⟩ : BufTy).Contents (Elt Ideal)}

/-- The arguments are the reals of `A`. -/
structure RArgs (A : Args)
    (x0 : (⟨S8192x1024, .bf16⟩ : BufTy).Contents (Elt Ideal)) (x1 : (⟨S8192x256, .f32⟩ : BufTy).Contents (Elt Ideal))
    (x2 : (⟨S8192x3072, .bf16⟩ : BufTy).Contents (Elt Ideal)) (x3 : (⟨S1024x1024, .bf16⟩ : BufTy).Contents (Elt Ideal))
    (x4 : (⟨S256x1024, .bf16⟩ : BufTy).Contents (Elt Ideal)) (x5 : (⟨S512x1024, .bf16⟩ : BufTy).Contents (Elt Ideal))
    (x6 : (⟨S4x128x128, .f32⟩ : BufTy).Contents (Elt Ideal)) (x7 : (⟨S4x128, .f32⟩ : BufTy).Contents (Elt Ideal))
    (x8 x9 : (⟨S1x512, .f32⟩ : BufTy).Contents (Elt Ideal)) : Prop where
  x0 : (x0 : S8192x1024.Idx → EReal) = up2 A.dy
  x1 : (x1 : S8192x256.Idx → EReal) = up2 A.ya
  x2 : (x2 : S8192x3072.Idx → EReal) = up2 A.rest
  x3 : (x3 : S1024x1024.Idx → EReal) = up2 A.wo
  x4 : (x4 : S256x1024.Idx → EReal) = up2 A.wba
  x5 : (x5 : S512x1024.Idx → EReal) = up2 A.wbg
  x6 : (x6 : S4x128x128.Idx → EReal) = up3 A.wsp
  x7 : (x7 : S4x128.Idx → EReal) = up2 A.bsp
  x8 : (x8 : S1x512.Idx → EReal) = up2 A.lg
  x9 : (x9 : S1x512.Idx → EReal) = up2 A.lb

theorem rv0 (h : RArgs A x0 x1 x2 x3 x4 x5 x6 x7 x8 x9) :
    (val_main_v0 (F := Ideal) x2 : S8192x3072.Idx → EReal) = up2 fun i k => A.rest i k := by
  unfold val_main_v0
  rw [h.x2]
  refine Eq.trans (Lift.extf_up2 _ _) ?_
  rfl

theorem rv1 (h : RArgs A x0 x1 x2 x3 x4 x5 x6 x7 x8 x9) :
    (val_main_v1 (F := Ideal) x2 : S8192x512.Idx → EReal) = up2 fun i k => A.toIn.up i k := by
  unfold val_main_v1
  rw [rv0 h]
  refine Eq.trans (extract_up2 _ _ _ _) ?_
  exact up2_congr fun i hi k hk => by rw [Nat.zero_add i]; rfl

theorem rv2 (h : RArgs A x0 x1 x2 x3 x4 x5 x6 x7 x8 x9) :
    (val_main_v2 (F := Ideal) x2 : S8192x512.Idx → EReal) = up2 fun i k => A.toIn.zp i k := by
  unfold val_main_v2
  rw [rv0 h]
  refine Eq.trans (extract_up2 _ _ _ _) ?_
  exact up2_congr fun i hi k hk => by rw [Nat.zero_add i]; rfl

theorem rv3 (h : RArgs A x0 x1 x2 x3 x4 x5 x6 x7 x8 x9) :
    (val_main_v3 (F := Ideal) x2 : S8192x1024.Idx → EReal) = up2 fun i k => A.toIn.ga i k := by
  unfold val_main_v3
  rw [rv0 h]
  refine Eq.trans (extract_up2 _ _ _ _) ?_
  exact up2_congr fun i hi k hk => by rw [Nat.zero_add i]; rfl

theorem rv4 (h : RArgs A x0 x1 x2 x3 x4 x5 x6 x7 x8 x9) :
    (val_main_v4 (F := Ideal) x2 : S8192x1024.Idx → EReal) = up2 fun i k => A.toIn.gb i k := by
  unfold val_main_v4
  rw [rv0 h]
  refine Eq.trans (extract_up2 _ _ _ _) ?_
  exact up2_congr fun i hi k hk => by rw [Nat.zero_add i]; rfl

theorem rv5 (h : RArgs A x0 x1 x2 x3 x4 x5 x6 x7 x8 x9) :
    (val_main_v5 (F := Ideal) x4 : S256x1024.Idx → EReal) = up2 fun i k => A.wba i k := by
  unfold val_main_v5
  rw [h.x4]
  refine Eq.trans (Lift.extf_up2 _ _) ?_
  rfl

theorem rv6 (h : RArgs A x0 x1 x2 x3 x4 x5 x6 x7 x8 x9) :
    (val_main_v6 (F := Ideal) x5 : S512x1024.Idx → EReal) = up2 fun i k => A.wbg i k := by
  unfold val_main_v6
  rw [h.x5]
  refine Eq.trans (Lift.extf_up2 _ _) ?_
  rfl

theorem rv7 (h : RArgs A x0 x1 x2 x3 x4 x5 x6 x7 x8 x9) :
    (val_main_v7 (F := Ideal) x3 : S1024x1024.Idx → EReal) = up2 fun i k => A.wo i k := by
  unfold val_main_v7
  rw [h.x3]
  refine Eq.trans (Lift.extf_up2 _ _) ?_
  rfl

theorem rv8 (h : RArgs A x0 x1 x2 x3 x4 x5 x6 x7 x8 x9) :
    (val_main_v8 (F := Ideal) : S8192x512.Idx → EReal) = up2 fun i k => 44715 :=
  funext fun j => (val_main_v8_apply j).trans lit_44715

theorem rv9 (h : RArgs A x0 x1 x2 x3 x4 x5 x6 x7 x8 x9) :
    (val_main_v9 (F := Ideal) : S8192x512.Idx → EReal) = up2 fun i k => 1000000 :=
  funext fun j => (val_main_v9_apply j).trans lit_million

theorem rv10 (h : RArgs A x0 x1 x2 x3 x4 x5 x6 x7 x8 x9) :
    (val_main_v10 (F := Ideal) : S8192x512.Idx → EReal) = up2 fun i k => 44715 / 1000000 := by
  unfold val_main_v10
  rw [rv8 h, rv9 h]
  refine Eq.trans (HLift.divf_up2 _ _ (fun _ _ => by norm_num)) ?_
  rfl

theorem rv11 (h : RArgs A x0 x1 x2 x3 x4 x5 x6 x7 x8 x9) :
    (val_main_v11 (F := Ideal) x2 : S8192x512.Idx → EReal) = up2 fun i k => A.toIn.up i k * A.toIn.up i k := by
  unfold val_main_v11
  rw [rv1 h]
  refine Eq.trans (Lift.mulf_up2 _ _) ?_
  rfl

theorem rv12 (h : RArgs A x0 x1 x2 x3 x4 x5 x6 x7 x8 x9) :
    (val_main_v12 (F := Ideal) x2 : S8192x512.Idx → EReal) = up2 fun i k => A.toIn.up i k * A.toIn.up i k * A.toIn.up i k := by
  unfold val_main_v12
  rw [rv11 h, rv1 h]
  refine Eq.trans (Lift.mulf_up2 _ _) ?_
  rfl

theorem rv13 (h : RArgs A x0 x1 x2 x3 x4 x5 x6 x7 x8 x9) :
    (val_main_v13 (F := Ideal) x2 : S8192x512.Idx → EReal) = up2 fun i k => A.toIn.up i k * A.toIn.up i k := by
  unfold val_main_v13
  rw [rv1 h]
  refine Eq.trans (Lift.mulf_up2 _ _) ?_
  rfl

theorem rv14 (h : RArgs A x0 x1 x2 x3 x4 x5 x6 x7 x8 x9) :
    (val_main_v14 (F := Ideal) : S8192x512.Idx → EReal) = up2 fun i k => 3 :=
  funext fun j => (val_main_v14_apply j).trans lit_three

theorem rv15 (h : RArgs A x0 x1 x2 x3 x4 x5 x6 x7 x8 x9) :
    (val_main_v15 (F := Ideal) x2 : S8192x512.Idx → EReal) = up2 fun i k => 3 * (A.toIn.up i k * A.toIn.up i k) := by
  unfold val_main_v15
  rw [rv14 h, rv13 h]
  refine Eq.trans (Lift.mulf_up2 _ _) ?_
  rfl

theorem rv16 (h : RArgs A x0 x1 x2 x3 x4 x5 x6 x7 x8 x9) :
    (val_main_v16 (F := Ideal) x2 : S8192x512.Idx → EReal) = up2 fun i k => 44715 / 1000000 * (A.toIn.up i k * A.toIn.up i k * A.toIn.up i k) := by
  unfold val_main_v16
  rw [rv10 h, rv12 h]
  refine Eq.trans (Lift.mulf_up2 _ _) ?_
  rfl

theorem rv17 (h : RArgs A x0 x1 x2 x3 x4 x5 x6 x7 x8 x9) :
    (val_main_v17 (F := Ideal) x2 : S8192x512.Idx → EReal) = up2 fun i k => A.toIn.up i k + 44715 / 1000000 * (A.toIn.up i k * A.toIn.up i k * A.toIn.up i k) := by
  unfold val_main_v17
  rw [rv1 h, rv16 h]
  refine Eq.trans (Lift.addf_up2 _ _) ?_
  rfl

theorem rv18 (h : RArgs A x0 x1 x2 x3 x4 x5 x6 x7 x8 x9) :
    (val_main_v18 (F := Ideal) : S8192x512.Idx → EReal) = up2 fun i k => c0 :=
  funext fun j => (val_main_v18_apply j).trans lit_c0

theorem rv19 (h : RArgs A x0 x1 x2 x3 x4 x5 x6 x7 x8 x9) :
    (val_main_v19 (F := Ideal) x2 : S8192x512.Idx → EReal) = up2 fun i k => c0 * (A.toIn.up i k + 44715 / 1000000 * (A.toIn.up i k * A.toIn.up i k * A.toIn.up i k)) := by
  unfold val_main_v19
  rw [rv18 h, rv17 h]
  refine Eq.trans (Lift.mulf_up2 _ _) ?_
  rfl

theorem rv20 (h : RArgs A x0 x1 x2 x3 x4 x5 x6 x7 x8 x9) :
    (val_main_v20 (F := Ideal) x2 : S8192x512.Idx → EReal) = up2 fun i k => In.gt (A.toIn.up i k) := by
  unfold val_main_v20
  rw [rv19 h]
  refine Eq.trans (HLift.tanh_up2 _) ?_
  exact up2_congr fun i hi k hk => by rw [In.gt, show (8943 / 200000 : ℝ) = 44715 / 1000000 by norm_num]

theorem rv21 (h : RArgs A x0 x1 x2 x3 x4 x5 x6 x7 x8 x9) :
    (val_main_v21 (F := Ideal) : S8192x512.Idx → EReal) = up2 fun i k => 1 :=
  funext fun j => (val_main_v21_apply j).trans lit_one

theorem rv22 (h : RArgs A x0 x1 x2 x3 x4 x5 x6 x7 x8 x9) :
    (val_main_v22 (F := Ideal) x2 : S8192x512.Idx → EReal) = up2 fun i k => 1 + In.gt (A.toIn.up i k) := by
  unfold val_main_v22
  rw [rv21 h, rv20 h]
  refine Eq.trans (Lift.addf_up2 _ _) ?_
  rfl

theorem rv23 (h : RArgs A x0 x1 x2 x3 x4 x5 x6 x7 x8 x9) :
    (val_main_v23 (F := Ideal) : S8192x512.Idx → EReal) = up2 fun i k => 1 :=
  funext fun j => (val_main_v23_apply j).trans lit_one

theorem rv24 (h : RArgs A x0 x1 x2 x3 x4 x5 x6 x7 x8 x9) :
    (val_main_v24 (F := Ideal) x2 : S8192x512.Idx → EReal) = up2 fun i k => 1 - In.gt (A.toIn.up i k) := by
  unfold val_main_v24
  rw [rv23 h, rv20 h]
  refine Eq.trans (Lift.subf_up2 _ _) ?_
  rfl

theorem rv25 (h : RArgs A x0 x1 x2 x3 x4 x5 x6 x7 x8 x9) :
    (val_main_v25 (F := Ideal) x2 : S8192x512.Idx → EReal) = up2 fun i k => (1 + In.gt (A.toIn.up i k)) * (1 - In.gt (A.toIn.up i k)) := by
  unfold val_main_v25
  rw [rv22 h, rv24 h]
  refine Eq.trans (Lift.mulf_up2 _ _) ?_
  rfl

theorem rv26 (h : RArgs A x0 x1 x2 x3 x4 x5 x6 x7 x8 x9) :
    (val_main_v26 (F := Ideal) : S8192x512.Idx → EReal) = up2 fun i k => 1 :=
  funext fun j => (val_main_v26_apply j).trans lit_one

theorem rv27 (h : RArgs A x0 x1 x2 x3 x4 x5 x6 x7 x8 x9) :
    (val_main_v27 (F := Ideal) x2 : S8192x512.Idx → EReal) = up2 fun i k => 1 + In.gt (A.toIn.up i k) := by
  unfold val_main_v27
  rw [rv26 h, rv20 h]
  refine Eq.trans (Lift.addf_up2 _ _) ?_
  rfl

theorem rv28 (h : RArgs A x0 x1 x2 x3 x4 x5 x6 x7 x8 x9) :
    (val_main_v28 (F := Ideal) : S8192x512.Idx → EReal) = up2 fun i k => 1 / 2 :=
  funext fun j => (val_main_v28_apply j).trans lit_half

theorem rv29 (h : RArgs A x0 x1 x2 x3 x4 x5 x6 x7 x8 x9) :
    (val_main_v29 (F := Ideal) x2 : S8192x512.Idx → EReal) = up2 fun i k => 1 / 2 * (1 + In.gt (A.toIn.up i k)) := by
  unfold val_main_v29
  rw [rv28 h, rv27 h]
  refine Eq.trans (Lift.mulf_up2 _ _) ?_
  rfl

theorem rv30 (h : RArgs A x0 x1 x2 x3 x4 x5 x6 x7 x8 x9) :
    (val_main_v30 (F := Ideal) x2 : S8192x512.Idx → EReal) = up2 fun i k => A.toIn.u i k := by
  unfold val_main_v30
  rw [rv1 h, rv29 h]
  refine Eq.trans (Lift.mulf_up2 _ _) ?_
  rfl

theorem rv31 (h : RArgs A x0 x1 x2 x3 x4 x5 x6 x7 x8 x9) :
    (val_main_v31 (F := Ideal) : S8192x512.Idx → EReal) = up2 fun i k => 44715 :=
  funext fun j => (val_main_v31_apply j).trans lit_44715

theorem rv32 (h : RArgs A x0 x1 x2 x3 x4 x5 x6 x7 x8 x9) :
    (val_main_v32 (F := Ideal) : S8192x512.Idx → EReal) = up2 fun i k => 1000000 :=
  funext fun j => (val_main_v32_apply j).trans lit_million

theorem rv33 (h : RArgs A x0 x1 x2 x3 x4 x5 x6 x7 x8 x9) :
    (val_main_v33 (F := Ideal) : S8192x512.Idx → EReal) = up2 fun i k => 44715 / 1000000 := by
  unfold val_main_v33
  rw [rv31 h, rv32 h]
  refine Eq.trans (HLift.divf_up2 _ _ (fun _ _ => by norm_num)) ?_
  rfl

theorem rv34 (h : RArgs A x0 x1 x2 x3 x4 x5 x6 x7 x8 x9) :
    (val_main_v34 (F := Ideal) x2 : S8192x512.Idx → EReal) = up2 fun i k => A.toIn.zp i k * A.toIn.zp i k := by
  unfold val_main_v34
  rw [rv2 h]
  refine Eq.trans (Lift.mulf_up2 _ _) ?_
  rfl

theorem rv35 (h : RArgs A x0 x1 x2 x3 x4 x5 x6 x7 x8 x9) :
    (val_main_v35 (F := Ideal) x2 : S8192x512.Idx → EReal) = up2 fun i k => A.toIn.zp i k * A.toIn.zp i k * A.toIn.zp i k := by
  unfold val_main_v35
  rw [rv34 h, rv2 h]
  refine Eq.trans (Lift.mulf_up2 _ _) ?_
  rfl

theorem rv36 (h : RArgs A x0 x1 x2 x3 x4 x5 x6 x7 x8 x9) :
    (val_main_v36 (F := Ideal) x2 : S8192x512.Idx → EReal) = up2 fun i k => A.toIn.zp i k * A.toIn.zp i k := by
  unfold val_main_v36
  rw [rv2 h]
  refine Eq.trans (Lift.mulf_up2 _ _) ?_
  rfl

theorem rv37 (h : RArgs A x0 x1 x2 x3 x4 x5 x6 x7 x8 x9) :
    (val_main_v37 (F := Ideal) : S8192x512.Idx → EReal) = up2 fun i k => 3 :=
  funext fun j => (val_main_v37_apply j).trans lit_three

theorem rv38 (h : RArgs A x0 x1 x2 x3 x4 x5 x6 x7 x8 x9) :
    (val_main_v38 (F := Ideal) x2 : S8192x512.Idx → EReal) = up2 fun i k => 3 * (A.toIn.zp i k * A.toIn.zp i k) := by
  unfold val_main_v38
  rw [rv37 h, rv36 h]
  refine Eq.trans (Lift.mulf_up2 _ _) ?_
  rfl

theorem rv39 (h : RArgs A x0 x1 x2 x3 x4 x5 x6 x7 x8 x9) :
    (val_main_v39 (F := Ideal) x2 : S8192x512.Idx → EReal) = up2 fun i k => 44715 / 1000000 * (A.toIn.zp i k * A.toIn.zp i k * A.toIn.zp i k) := by
  unfold val_main_v39
  rw [rv33 h, rv35 h]
  refine Eq.trans (Lift.mulf_up2 _ _) ?_
  rfl

theorem rv40 (h : RArgs A x0 x1 x2 x3 x4 x5 x6 x7 x8 x9) :
    (val_main_v40 (F := Ideal) x2 : S8192x512.Idx → EReal) = up2 fun i k => A.toIn.zp i k + 44715 / 1000000 * (A.toIn.zp i k * A.toIn.zp i k * A.toIn.zp i k) := by
  unfold val_main_v40
  rw [rv2 h, rv39 h]
  refine Eq.trans (Lift.addf_up2 _ _) ?_
  rfl

theorem rv41 (h : RArgs A x0 x1 x2 x3 x4 x5 x6 x7 x8 x9) :
    (val_main_v41 (F := Ideal) : S8192x512.Idx → EReal) = up2 fun i k => c0 :=
  funext fun j => (val_main_v41_apply j).trans lit_c0

theorem rv42 (h : RArgs A x0 x1 x2 x3 x4 x5 x6 x7 x8 x9) :
    (val_main_v42 (F := Ideal) x2 : S8192x512.Idx → EReal) = up2 fun i k => c0 * (A.toIn.zp i k + 44715 / 1000000 * (A.toIn.zp i k * A.toIn.zp i k * A.toIn.zp i k)) := by
  unfold val_main_v42
  rw [rv41 h, rv40 h]
  refine Eq.trans (Lift.mulf_up2 _ _) ?_
  rfl

theorem rv43 (h : RArgs A x0 x1 x2 x3 x4 x5 x6 x7 x8 x9) :
    (val_main_v43 (F := Ideal) x2 : S8192x512.Idx → EReal) = up2 fun i k => In.gt (A.toIn.zp i k) := by
  unfold val_main_v43
  rw [rv42 h]
  refine Eq.trans (HLift.tanh_up2 _) ?_
  exact up2_congr fun i hi k hk => by rw [In.gt, show (8943 / 200000 : ℝ) = 44715 / 1000000 by norm_num]

theorem rv44 (h : RArgs A x0 x1 x2 x3 x4 x5 x6 x7 x8 x9) :
    (val_main_v44 (F := Ideal) : S8192x512.Idx → EReal) = up2 fun i k => 1 :=
  funext fun j => (val_main_v44_apply j).trans lit_one

theorem rv45 (h : RArgs A x0 x1 x2 x3 x4 x5 x6 x7 x8 x9) :
    (val_main_v45 (F := Ideal) x2 : S8192x512.Idx → EReal) = up2 fun i k => 1 + In.gt (A.toIn.zp i k) := by
  unfold val_main_v45
  rw [rv44 h, rv43 h]
  refine Eq.trans (Lift.addf_up2 _ _) ?_
  rfl

theorem rv46 (h : RArgs A x0 x1 x2 x3 x4 x5 x6 x7 x8 x9) :
    (val_main_v46 (F := Ideal) : S8192x512.Idx → EReal) = up2 fun i k => 1 :=
  funext fun j => (val_main_v46_apply j).trans lit_one

theorem rv47 (h : RArgs A x0 x1 x2 x3 x4 x5 x6 x7 x8 x9) :
    (val_main_v47 (F := Ideal) x2 : S8192x512.Idx → EReal) = up2 fun i k => 1 - In.gt (A.toIn.zp i k) := by
  unfold val_main_v47
  rw [rv46 h, rv43 h]
  refine Eq.trans (Lift.subf_up2 _ _) ?_
  rfl

theorem rv48 (h : RArgs A x0 x1 x2 x3 x4 x5 x6 x7 x8 x9) :
    (val_main_v48 (F := Ideal) x2 : S8192x512.Idx → EReal) = up2 fun i k => (1 + In.gt (A.toIn.zp i k)) * (1 - In.gt (A.toIn.zp i k)) := by
  unfold val_main_v48
  rw [rv45 h, rv47 h]
  refine Eq.trans (Lift.mulf_up2 _ _) ?_
  rfl

theorem rv49 (h : RArgs A x0 x1 x2 x3 x4 x5 x6 x7 x8 x9) :
    (val_main_v49 (F := Ideal) : S8192x512.Idx → EReal) = up2 fun i k => 1 :=
  funext fun j => (val_main_v49_apply j).trans lit_one

theorem rv50 (h : RArgs A x0 x1 x2 x3 x4 x5 x6 x7 x8 x9) :
    (val_main_v50 (F := Ideal) x2 : S8192x512.Idx → EReal) = up2 fun i k => 1 + In.gt (A.toIn.zp i k) := by
  unfold val_main_v50
  rw [rv49 h, rv43 h]
  refine Eq.trans (Lift.addf_up2 _ _) ?_
  rfl

theorem rv51 (h : RArgs A x0 x1 x2 x3 x4 x5 x6 x7 x8 x9) :
    (val_main_v51 (F := Ideal) : S8192x512.Idx → EReal) = up2 fun i k => 1 / 2 :=
  funext fun j => (val_main_v51_apply j).trans lit_half

theorem rv52 (h : RArgs A x0 x1 x2 x3 x4 x5 x6 x7 x8 x9) :
    (val_main_v52 (F := Ideal) x2 : S8192x512.Idx → EReal) = up2 fun i k => 1 / 2 * (1 + In.gt (A.toIn.zp i k)) := by
  unfold val_main_v52
  rw [rv51 h, rv50 h]
  refine Eq.trans (Lift.mulf_up2 _ _) ?_
  rfl

theorem rv53 (h : RArgs A x0 x1 x2 x3 x4 x5 x6 x7 x8 x9) :
    (val_main_v53 (F := Ideal) x2 : S8192x512.Idx → EReal) = up2 fun i k => A.toIn.z i k := by
  unfold val_main_v53
  rw [rv2 h, rv52 h]
  refine Eq.trans (Lift.mulf_up2 _ _) ?_
  rfl

theorem rv54 (h : RArgs A x0 x1 x2 x3 x4 x5 x6 x7 x8 x9) :
    (val_main_v54 (F := Ideal) x2 : S8192x1024.Idx → EReal) = up2 fun i k => -A.toIn.ga i k := by
  unfold val_main_v54
  rw [rv3 h]
  refine Eq.trans (HLift.negf_up2 _) ?_
  rfl

theorem rv55 (h : RArgs A x0 x1 x2 x3 x4 x5 x6 x7 x8 x9) :
    (val_main_v55 (F := Ideal) x2 : S8192x1024.Idx → EReal) = up2 fun i k => Real.exp (-A.toIn.ga i k) := by
  unfold val_main_v55
  rw [rv54 h]
  refine Eq.trans (HLift.exp_up2 _) ?_
  rfl

theorem rv56 (h : RArgs A x0 x1 x2 x3 x4 x5 x6 x7 x8 x9) :
    (val_main_v56 (F := Ideal) : S8192x1024.Idx → EReal) = up2 fun i k => 1 :=
  funext fun j => (val_main_v56_apply j).trans lit_one

theorem rv57 (h : RArgs A x0 x1 x2 x3 x4 x5 x6 x7 x8 x9) :
    (val_main_v57 (F := Ideal) x2 : S8192x1024.Idx → EReal) = up2 fun i k => 1 + Real.exp (-A.toIn.ga i k) := by
  unfold val_main_v57
  rw [rv56 h, rv55 h]
  refine Eq.trans (Lift.addf_up2 _ _) ?_
  rfl

theorem rv58 (h : RArgs A x0 x1 x2 x3 x4 x5 x6 x7 x8 x9) :
    (val_main_v58 (F := Ideal) : S8192x1024.Idx → EReal) = up2 fun i k => 1 :=
  funext fun j => (val_main_v58_apply j).trans lit_one

theorem rv59 (h : RArgs A x0 x1 x2 x3 x4 x5 x6 x7 x8 x9) :
    (val_main_v59 (F := Ideal) x2 : S8192x1024.Idx → EReal) = up2 fun i k => sg (A.toIn.ga i k) := by
  unfold val_main_v59
  rw [rv58 h, rv57 h]
  refine Eq.trans (HLift.divf_up2 _ _ (fun _ _ => (one_add_exp_pos _).ne')) ?_
  rfl

theorem rv60 (h : RArgs A x0 x1 x2 x3 x4 x5 x6 x7 x8 x9) :
    (val_main_v60 (F := Ideal) : S8192x1024.Idx → EReal) = up2 fun i k => 1 :=
  funext fun j => (val_main_v60_apply j).trans lit_one

theorem rv61 (h : RArgs A x0 x1 x2 x3 x4 x5 x6 x7 x8 x9) :
    (val_main_v61 (F := Ideal) x2 : S8192x1024.Idx → EReal) = up2 fun i k => 1 - sg (A.toIn.ga i k) := by
  unfold val_main_v61
  rw [rv60 h, rv59 h]
  refine Eq.trans (Lift.subf_up2 _ _) ?_
  rfl

theorem rv62 (h : RArgs A x0 x1 x2 x3 x4 x5 x6 x7 x8 x9) :
    (val_main_v62 (F := Ideal) x2 : S8192x1024.Idx → EReal) = up2 fun i k => sg (A.toIn.ga i k) * (1 - sg (A.toIn.ga i k)) := by
  unfold val_main_v62
  rw [rv59 h, rv61 h]
  refine Eq.trans (Lift.mulf_up2 _ _) ?_
  rfl

theorem rv63 (h : RArgs A x0 x1 x2 x3 x4 x5 x6 x7 x8 x9) :
    (val_main_v63 (F := Ideal) x2 : S8192x1024.Idx → EReal) = up2 fun i k => -A.toIn.gb i k := by
  unfold val_main_v63
  rw [rv4 h]
  refine Eq.trans (HLift.negf_up2 _) ?_
  rfl

theorem rv64 (h : RArgs A x0 x1 x2 x3 x4 x5 x6 x7 x8 x9) :
    (val_main_v64 (F := Ideal) x2 : S8192x1024.Idx → EReal) = up2 fun i k => Real.exp (-A.toIn.gb i k) := by
  unfold val_main_v64
  rw [rv63 h]
  refine Eq.trans (HLift.exp_up2 _) ?_
  rfl

theorem rv65 (h : RArgs A x0 x1 x2 x3 x4 x5 x6 x7 x8 x9) :
    (val_main_v65 (F := Ideal) : S8192x1024.Idx → EReal) = up2 fun i k => 1 :=
  funext fun j => (val_main_v65_apply j).trans lit_one

theorem rv66 (h : RArgs A x0 x1 x2 x3 x4 x5 x6 x7 x8 x9) :
    (val_main_v66 (F := Ideal) x2 : S8192x1024.Idx → EReal) = up2 fun i k => 1 + Real.exp (-A.toIn.gb i k) := by
  unfold val_main_v66
  rw [rv65 h, rv64 h]
  refine Eq.trans (Lift.addf_up2 _ _) ?_
  rfl

theorem rv67 (h : RArgs A x0 x1 x2 x3 x4 x5 x6 x7 x8 x9) :
    (val_main_v67 (F := Ideal) : S8192x1024.Idx → EReal) = up2 fun i k => 1 :=
  funext fun j => (val_main_v67_apply j).trans lit_one

theorem rv68 (h : RArgs A x0 x1 x2 x3 x4 x5 x6 x7 x8 x9) :
    (val_main_v68 (F := Ideal) x2 : S8192x1024.Idx → EReal) = up2 fun i k => sg (A.toIn.gb i k) := by
  unfold val_main_v68
  rw [rv67 h, rv66 h]
  refine Eq.trans (HLift.divf_up2 _ _ (fun _ _ => (one_add_exp_pos _).ne')) ?_
  rfl

theorem rv69 (h : RArgs A x0 x1 x2 x3 x4 x5 x6 x7 x8 x9) :
    (val_main_v69 (F := Ideal) : S8192x1024.Idx → EReal) = up2 fun i k => 1 :=
  funext fun j => (val_main_v69_apply j).trans lit_one

theorem rv70 (h : RArgs A x0 x1 x2 x3 x4 x5 x6 x7 x8 x9) :
    (val_main_v70 (F := Ideal) x2 : S8192x1024.Idx → EReal) = up2 fun i k => 1 - sg (A.toIn.gb i k) := by
  unfold val_main_v70
  rw [rv69 h, rv68 h]
  refine Eq.trans (Lift.subf_up2 _ _) ?_
  rfl

theorem rv71 (h : RArgs A x0 x1 x2 x3 x4 x5 x6 x7 x8 x9) :
    (val_main_v71 (F := Ideal) x2 : S8192x1024.Idx → EReal) = up2 fun i k => sg (A.toIn.gb i k) * (1 - sg (A.toIn.gb i k)) := by
  unfold val_main_v71
  rw [rv68 h, rv70 h]
  refine Eq.trans (Lift.mulf_up2 _ _) ?_
  rfl

theorem rv72 (h : RArgs A x0 x1 x2 x3 x4 x5 x6 x7 x8 x9) :
    (val_main_v72 (F := Ideal) x2 : S8192.Idx → EReal) = up1 fun i => ∑ k ∈ Finset.range 512, A.toIn.z i k := by
  funext j
  rw [val_main_v72_apply, rv53 h]
  exact HLift.zero_add_sum (n := 512) (fun r => (fun i k => (A.toIn.z i k : ℝ)) (j 0).val r)

theorem rv73 (h : RArgs A x0 x1 x2 x3 x4 x5 x6 x7 x8 x9) :
    (val_main_v73 (F := Ideal) x2 : S8192x1.Idx → EReal) = up2 fun i k => ∑ k ∈ Finset.range 512, A.toIn.z i k := by
  funext j
  refine (val_main_v73_apply _ j).trans ((congrFun (rv72 h) _).trans ?_)
  rfl

theorem rv74 (h : RArgs A x0 x1 x2 x3 x4 x5 x6 x7 x8 x9) :
    (val_main_v74 (F := Ideal) : S8192x1.Idx → EReal) = up2 fun i k => 512 :=
  funext fun j => (val_main_v74_apply j).trans lit_512

theorem rv75 (h : RArgs A x0 x1 x2 x3 x4 x5 x6 x7 x8 x9) :
    (val_main_v75 (F := Ideal) x2 : S8192x1.Idx → EReal) = up2 fun i k => A.toIn.mu i := by
  unfold val_main_v75
  rw [rv73 h, rv74 h]
  refine Eq.trans (HLift.divf_up2 _ _ (fun _ _ => by norm_num)) ?_
  rfl

theorem rv76 (h : RArgs A x0 x1 x2 x3 x4 x5 x6 x7 x8 x9) :
    (val_main_v76 (F := Ideal) x2 : S8192x512.Idx → EReal) = up2 fun i k => A.toIn.mu i := by
  funext j
  refine (val_main_v76_apply _ j).trans ((congrFun (rv75 h) _).trans ?_)
  rfl

theorem rv77 (h : RArgs A x0 x1 x2 x3 x4 x5 x6 x7 x8 x9) :
    (val_main_v77 (F := Ideal) x2 : S8192x512.Idx → EReal) = up2 fun i k => A.toIn.zc i k := by
  unfold val_main_v77
  rw [rv53 h, rv76 h]
  refine Eq.trans (Lift.subf_up2 _ _) ?_
  rfl

theorem rv78 (h : RArgs A x0 x1 x2 x3 x4 x5 x6 x7 x8 x9) :
    (val_main_v78 (F := Ideal) x2 : S8192x512.Idx → EReal) = up2 fun i k => A.toIn.zc i k * A.toIn.zc i k := by
  unfold val_main_v78
  rw [rv77 h]
  refine Eq.trans (Lift.mulf_up2 _ _) ?_
  rfl

theorem rv79 (h : RArgs A x0 x1 x2 x3 x4 x5 x6 x7 x8 x9) :
    (val_main_v79 (F := Ideal) : S8192x512.Idx → EReal) = up2 fun i k => 2 :=
  funext fun j => (val_main_v79_apply j).trans lit_two

theorem rv80 (h : RArgs A x0 x1 x2 x3 x4 x5 x6 x7 x8 x9) :
    (val_main_v80 (F := Ideal) x2 : S8192x512.Idx → EReal) = up2 fun i k => 2 * A.toIn.zc i k := by
  unfold val_main_v80
  rw [rv79 h, rv77 h]
  refine Eq.trans (Lift.mulf_up2 _ _) ?_
  rfl

theorem rv81 (h : RArgs A x0 x1 x2 x3 x4 x5 x6 x7 x8 x9) :
    (val_main_v81 (F := Ideal) x2 : S8192.Idx → EReal) = up1 fun i => ∑ k ∈ Finset.range 512, A.toIn.zc i k * A.toIn.zc i k := by
  funext j
  rw [val_main_v81_apply, rv78 h]
  exact HLift.zero_add_sum (n := 512) (fun r => (fun i k => (A.toIn.zc i k * A.toIn.zc i k : ℝ)) (j 0).val r)

theorem rv82 (h : RArgs A x0 x1 x2 x3 x4 x5 x6 x7 x8 x9) :
    (val_main_v82 (F := Ideal) x2 : S8192x1.Idx → EReal) = up2 fun i k => ∑ k ∈ Finset.range 512, A.toIn.zc i k * A.toIn.zc i k := by
  funext j
  refine (val_main_v82_apply _ j).trans ((congrFun (rv81 h) _).trans ?_)
  rfl

theorem rv83 (h : RArgs A x0 x1 x2 x3 x4 x5 x6 x7 x8 x9) :
    (val_main_v83 (F := Ideal) : S8192x1.Idx → EReal) = up2 fun i k => 512 :=
  funext fun j => (val_main_v83_apply j).trans lit_512

theorem rv84 (h : RArgs A x0 x1 x2 x3 x4 x5 x6 x7 x8 x9) :
    (val_main_v84 (F := Ideal) x2 : S8192x1.Idx → EReal) = up2 fun i k => A.toIn.vr i := by
  unfold val_main_v84
  rw [rv82 h, rv83 h]
  refine Eq.trans (HLift.divf_up2 _ _ (fun _ _ => by norm_num)) ?_
  rfl

theorem rv85 (h : RArgs A x0 x1 x2 x3 x4 x5 x6 x7 x8 x9) :
    (val_main_v85 (F := Ideal) x2 : S8192x512.Idx → EReal) = up2 fun i k => A.toIn.mu i := by
  funext j
  refine (val_main_v85_apply _ j).trans ((congrFun (rv75 h) _).trans ?_)
  rfl

theorem rv86 (h : RArgs A x0 x1 x2 x3 x4 x5 x6 x7 x8 x9) :
    (val_main_v86 (F := Ideal) x2 : S8192x512.Idx → EReal) = up2 fun i k => A.toIn.zc i k := by
  unfold val_main_v86
  rw [rv53 h, rv85 h]
  refine Eq.trans (Lift.subf_up2 _ _) ?_
  rfl

theorem rv87 (h : RArgs A x0 x1 x2 x3 x4 x5 x6 x7 x8 x9) :
    (val_main_v87 (F := Ideal) : S8192x1.Idx → EReal) = up2 fun i k => eps :=
  funext fun j => (val_main_v87_apply j).trans lit_eps

theorem rv88 (h : RArgs A x0 x1 x2 x3 x4 x5 x6 x7 x8 x9) :
    (val_main_v88 (F := Ideal) x2 : S8192x1.Idx → EReal) = up2 fun i k => A.toIn.vr i + eps := by
  unfold val_main_v88
  rw [rv84 h, rv87 h]
  refine Eq.trans (Lift.addf_up2 _ _) ?_
  rfl

theorem rv89 (h : RArgs A x0 x1 x2 x3 x4 x5 x6 x7 x8 x9) :
    (val_main_v89 (F := Ideal) x2 : S8192x1.Idx → EReal) = up2 fun i k => A.toIn.rs i := by
  unfold val_main_v89
  rw [rv88 h]
  refine Eq.trans (HLift.rsqrt_up2 _ (fun i _ => A.toIn.vr_eps_pos i)) ?_
  rfl

theorem rv90 (h : RArgs A x0 x1 x2 x3 x4 x5 x6 x7 x8 x9) :
    (val_main_v90 (F := Ideal) x2 : S8192x1.Idx → EReal) = up2 fun i k => A.toIn.rs i / (A.toIn.vr i + eps) := by
  unfold val_main_v90
  rw [rv89 h, rv88 h]
  refine Eq.trans (HLift.divf_up2 _ _ (fun i _ => (A.toIn.vr_eps_pos i).ne')) ?_
  rfl

theorem rv91 (h : RArgs A x0 x1 x2 x3 x4 x5 x6 x7 x8 x9) :
    (val_main_v91 (F := Ideal) : S8192x1.Idx → EReal) = up2 fun i k => -(1 / 2) :=
  funext fun j => (val_main_v91_apply j).trans lit_mhalf

theorem rv92 (h : RArgs A x0 x1 x2 x3 x4 x5 x6 x7 x8 x9) :
    (val_main_v92 (F := Ideal) x2 : S8192x1.Idx → EReal) = up2 fun i k => -(1 / 2) * (A.toIn.rs i / (A.toIn.vr i + eps)) := by
  unfold val_main_v92
  rw [rv91 h, rv90 h]
  refine Eq.trans (Lift.mulf_up2 _ _) ?_
  rfl

theorem rv93 (h : RArgs A x0 x1 x2 x3 x4 x5 x6 x7 x8 x9) :
    (val_main_v93 (F := Ideal) x2 : S8192x512.Idx → EReal) = up2 fun i k => A.toIn.rs i := by
  funext j
  refine (val_main_v93_apply _ j).trans ((congrFun (rv89 h) _).trans ?_)
  rfl

theorem rv94 (h : RArgs A x0 x1 x2 x3 x4 x5 x6 x7 x8 x9) :
    (val_main_v94 (F := Ideal) x2 : S8192x512.Idx → EReal) = up2 fun i k => A.toIn.zh i k := by
  unfold val_main_v94
  rw [rv86 h, rv93 h]
  refine Eq.trans (Lift.mulf_up2 _ _) ?_
  rfl

theorem rv95 (h : RArgs A x0 x1 x2 x3 x4 x5 x6 x7 x8 x9) :
    (val_main_v95 (F := Ideal) x8 : S8192x512.Idx → EReal) = up2 fun i k => A.lg 0 k := by
  funext j
  refine (val_main_v95_apply _ j).trans ((congrFun (h.x8) _).trans ?_)
  rfl

theorem rv96 (h : RArgs A x0 x1 x2 x3 x4 x5 x6 x7 x8 x9) :
    (val_main_v96 (F := Ideal) x2 x8 : S8192x512.Idx → EReal) = up2 fun i k => A.toIn.zh i k * A.lg 0 k := by
  unfold val_main_v96
  rw [rv94 h, rv95 h]
  refine Eq.trans (Lift.mulf_up2 _ _) ?_
  rfl

theorem rv97 (h : RArgs A x0 x1 x2 x3 x4 x5 x6 x7 x8 x9) :
    (val_main_v97 (F := Ideal) x9 : S8192x512.Idx → EReal) = up2 fun i k => A.lb 0 k := by
  funext j
  refine (val_main_v97_apply _ j).trans ((congrFun (h.x9) _).trans ?_)
  rfl

theorem rv98 (h : RArgs A x0 x1 x2 x3 x4 x5 x6 x7 x8 x9) :
    (val_main_v98 (F := Ideal) x2 x8 x9 : S8192x512.Idx → EReal) = up2 fun i k => A.toIn.zln i k := by
  unfold val_main_v98
  rw [rv96 h, rv97 h]
  refine Eq.trans (Lift.addf_up2 _ _) ?_
  rfl

theorem rv99 (h : RArgs A x0 x1 x2 x3 x4 x5 x6 x7 x8 x9) :
    (val_main_v99 (F := Ideal) x2 x8 x9 : S64x128x4x128.Idx → EReal) = up4 fun i k l o => A.toIn.zln (128 * i + k) (128 * l + o) := by
  funext j
  refine (val_main_v99_apply _ _ _ j).trans ((congrFun (rv98 h) _).trans ?_)
  have h0 : (j 0).val < 64 := (j 0).isLt
  have h1 : (j 1).val < 128 := (j 1).isLt
  have h2 : (j 2).val < 4 := (j 2).isLt
  have h3 : (j 3).val < 128 := (j 3).isLt
  refine congrArg Real.toEReal ?_
  show (fun i k => (A.toIn.zln i k : ℝ)) (idx_main_v99 j 0).val (idx_main_v99 j 1).val = (fun i k l o => (A.toIn.zln (128 * i + k) (128 * l + o) : ℝ)) (j 0).val (j 1).val (j 2).val (j 3).val
  simp only
  congr 1 <;> omega

theorem rv103 (h : RArgs A x0 x1 x2 x3 x4 x5 x6 x7 x8 x9) :
    (val_main_v103 (F := Ideal) : S4x128x128.Idx → EReal) = up3 fun i k l => 0 :=
  funext fun j => (val_main_v103_apply j).trans lit_zero

theorem rv104_0 (h : RArgs A x0 x1 x2 x3 x4 x5 x6 x7 x8 x9) :
    (val_main_v104_0 (F := Ideal) x6 : S4x128x128.Idx → EReal) = up3 fun i k l => A.toIn.W i k l := by
  unfold val_main_v104_0
  rw [h.x6]
  exact HLift.select_tril3 _ _ fun x => (val_main_v103_apply x).trans lit_zero

theorem rv105 (h : RArgs A x0 x1 x2 x3 x4 x5 x6 x7 x8 x9) :
    (val_main_v105 (F := Ideal) x2 x6 x8 x9 : S4x64x128x128.Idx → EReal) = up4 fun i k l o => ∑ r ∈ Finset.range 128, A.toIn.zln (128 * k + r) (128 * i + l) * A.toIn.W i o r := by
  unfold val_main_v105
  rw [rv99 h, rv104_0 h]
  refine Eq.trans (RLift.mm_spatial _ _) ?_
  rfl

theorem rv106 (h : RArgs A x0 x1 x2 x3 x4 x5 x6 x7 x8 x9) :
    (val_main_v106 (F := Ideal) x2 x6 x8 x9 : S64x128x4x128.Idx → EReal) = up4 fun i k l o => ∑ r ∈ Finset.range 128, A.toIn.zln (128 * i + r) (128 * l + o) * A.toIn.W l k r := by
  funext j
  refine (val_main_v106_apply _ _ _ _ j).trans ((congrFun (rv105 h) _).trans ?_)
  rfl

theorem rv107 (h : RArgs A x0 x1 x2 x3 x4 x5 x6 x7 x8 x9) :
    (val_main_v107 (F := Ideal) x7 : S128x4.Idx → EReal) = up2 fun i k => A.bsp k i := by
  funext j
  refine (val_main_v107_apply _ j).trans ((congrFun (h.x7) _).trans ?_)
  rfl

theorem rv108 (h : RArgs A x0 x1 x2 x3 x4 x5 x6 x7 x8 x9) :
    (val_main_v108 (F := Ideal) x7 : S1x128x4x1.Idx → EReal) = up4 fun i k l o => A.bsp l k := by
  funext j
  refine (val_main_v108_apply _ j).trans ((congrFun (rv107 h) _).trans ?_)
  rfl

theorem rv109 (h : RArgs A x0 x1 x2 x3 x4 x5 x6 x7 x8 x9) :
    (val_main_v109 (F := Ideal) x7 : S64x128x4x128.Idx → EReal) = up4 fun i k l o => A.bsp l k := by
  funext j
  refine (val_main_v109_apply _ j).trans ((congrFun (rv108 h) _).trans ?_)
  rfl

theorem rv110 (h : RArgs A x0 x1 x2 x3 x4 x5 x6 x7 x8 x9) :
    (val_main_v110 (F := Ideal) x2 x6 x7 x8 x9 : S64x128x4x128.Idx → EReal) = up4 fun i k l o => A.toIn.sz (128 * i + k) (128 * l + o) := by
  unfold val_main_v110
  rw [rv106 h, rv109 h]
  refine Eq.trans (Lift.addf_up4 _ _) ?_
  exact up4_congr fun i hi k hk l hl o ho => by rw [A.toIn.sz_tile_ref i l hk ho]; rfl

theorem rv111 (h : RArgs A x0 x1 x2 x3 x4 x5 x6 x7 x8 x9) :
    (val_main_v111 (F := Ideal) x2 : S64x128x4x128.Idx → EReal) = up4 fun i k l o => A.toIn.u (128 * i + k) (128 * l + o) := by
  funext j
  refine (val_main_v111_apply _ j).trans ((congrFun (rv30 h) _).trans ?_)
  have h0 : (j 0).val < 64 := (j 0).isLt
  have h1 : (j 1).val < 128 := (j 1).isLt
  have h2 : (j 2).val < 4 := (j 2).isLt
  have h3 : (j 3).val < 128 := (j 3).isLt
  refine congrArg Real.toEReal ?_
  show (fun i k => (A.toIn.u i k : ℝ)) (idx_main_v111 j 0).val (idx_main_v111 j 1).val = (fun i k l o => (A.toIn.u (128 * i + k) (128 * l + o) : ℝ)) (j 0).val (j 1).val (j 2).val (j 3).val
  simp only
  congr 1 <;> omega

theorem rv112 (h : RArgs A x0 x1 x2 x3 x4 x5 x6 x7 x8 x9) :
    (val_main_v112 (F := Ideal) x2 x6 x7 x8 x9 : S64x128x4x128.Idx → EReal) = up4 fun i k l o => A.toIn.yg (128 * i + k) (128 * l + o) := by
  unfold val_main_v112
  rw [rv111 h, rv110 h]
  refine Eq.trans (Lift.mulf_up4 _ _) ?_
  rfl

theorem rv113 (h : RArgs A x0 x1 x2 x3 x4 x5 x6 x7 x8 x9) :
    (val_main_v113 (F := Ideal) x2 x6 x7 x8 x9 : S8192x512.Idx → EReal) = up2 fun i k => A.toIn.yg i k := by
  funext j
  refine (val_main_v113_apply _ _ _ _ _ j).trans ((congrFun (rv112 h) _).trans ?_)
  have h0 : (j 0).val < 8192 := (j 0).isLt
  have h1 : (j 1).val < 512 := (j 1).isLt
  refine congrArg Real.toEReal ?_
  show (fun i k l o => (A.toIn.yg (128 * i + k) (128 * l + o) : ℝ)) (idx_main_v113 j 0).val (idx_main_v113 j 1).val (idx_main_v113 j 2).val (idx_main_v113 j 3).val = (fun i k => (A.toIn.yg i k : ℝ)) (j 0).val (j 1).val
  simp only
  congr 1 <;> omega

theorem rv114 (h : RArgs A x0 x1 x2 x3 x4 x5 x6 x7 x8 x9) :
    (val_main_v114 (F := Ideal) x1 x4 : S8192x1024.Idx → EReal) = up2 fun i k => A.toIn.a i k := by
  unfold val_main_v114
  rw [h.x1, rv5 h]
  refine Eq.trans (RLift.mm_S8192x256_S256x1024_S8192x1024_1_0_0_1 _ _) ?_
  rfl

theorem rv115 (h : RArgs A x0 x1 x2 x3 x4 x5 x6 x7 x8 x9) :
    (val_main_v115 (F := Ideal) x1 x2 x4 : S8192x1024.Idx → EReal) = up2 fun i k => sg (A.toIn.ga i k) * A.toIn.a i k := by
  unfold val_main_v115
  rw [rv59 h, rv114 h]
  refine Eq.trans (Lift.mulf_up2 _ _) ?_
  rfl

theorem rv116 (h : RArgs A x0 x1 x2 x3 x4 x5 x6 x7 x8 x9) :
    (val_main_v116 (F := Ideal) x2 x5 x6 x7 x8 x9 : S8192x1024.Idx → EReal) = up2 fun i k => A.toIn.bm i k := by
  unfold val_main_v116
  rw [rv113 h, rv6 h]
  refine Eq.trans (RLift.mm_S8192x512_S512x1024_S8192x1024_1_0_0_1 _ _) ?_
  rfl

theorem rv117 (h : RArgs A x0 x1 x2 x3 x4 x5 x6 x7 x8 x9) :
    (val_main_v117 (F := Ideal) x2 x5 x6 x7 x8 x9 : S8192x1024.Idx → EReal) = up2 fun i k => sg (A.toIn.gb i k) * A.toIn.bm i k := by
  unfold val_main_v117
  rw [rv68 h, rv116 h]
  refine Eq.trans (Lift.mulf_up2 _ _) ?_
  rfl

theorem rv118 (h : RArgs A x0 x1 x2 x3 x4 x5 x6 x7 x8 x9) :
    (val_main_v118 (F := Ideal) x1 x2 x4 x5 x6 x7 x8 x9 : S8192x1024.Idx → EReal) = up2 fun i k => A.toIn.mg i k := by
  unfold val_main_v118
  rw [rv115 h, rv117 h]
  refine Eq.trans (Lift.addf_up2 _ _) ?_
  rfl

theorem rv120 (h : RArgs A x0 x1 x2 x3 x4 x5 x6 x7 x8 x9) :
    (val_main_v120 (F := Ideal) x0 : S8192x1024.Idx → EReal) = up2 fun i k => A.dy i k := by
  unfold val_main_v120
  rw [h.x0]
  refine Eq.trans (Lift.extf_up2 _ _) ?_
  rfl

theorem rv121 (h : RArgs A x0 x1 x2 x3 x4 x5 x6 x7 x8 x9) :
    (val_main_v121 (F := Ideal) x0 x1 x2 x4 x5 x6 x7 x8 x9 : S1024x1024.Idx → EReal) = up2 fun i k => ∑ r ∈ Finset.range 8192, A.dy r i * A.toIn.mg r k := by
  unfold val_main_v121
  rw [rv120 h, rv118 h]
  refine Eq.trans (RLift.mm_S8192x1024_S8192x1024_S1024x1024_0_0_1_1 _ _) ?_
  rfl

theorem rv122 (h : RArgs A x0 x1 x2 x3 x4 x5 x6 x7 x8 x9) :
    (val_main_v122 (F := Ideal) x0 x1 x2 x4 x5 x6 x7 x8 x9 : S1024x1024.Idx → EReal) = up2 fun i k => A.toIn.dwout 8192 i k := by
  funext j
  refine (val_main_v122_apply _ _ _ _ _ _ _ _ _ j).trans ((congrFun (rv121 h) _).trans ?_)
  exact congrArg Real.toEReal (by exact Finset.sum_congr rfl fun _ _ => mul_comm _ _)

theorem rv123 (h : RArgs A x0 x1 x2 x3 x4 x5 x6 x7 x8 x9) :
    (val_main_v123 (F := Ideal) x0 x3 : S8192x1024.Idx → EReal) = up2 fun i k => A.toIn.dm i k := by
  unfold val_main_v123
  rw [rv120 h, rv7 h]
  refine Eq.trans (RLift.mm_S8192x1024_S1024x1024_S8192x1024_1_1_0_0 _ _) ?_
  rfl

theorem rv124 (h : RArgs A x0 x1 x2 x3 x4 x5 x6 x7 x8 x9) :
    (val_main_v124 (F := Ideal) x0 x2 x3 : S8192x1024.Idx → EReal) = up2 fun i k => A.toIn.db i k := by
  unfold val_main_v124
  rw [rv68 h, rv123 h]
  refine Eq.trans (Lift.mulf_up2 _ _) ?_
  exact up2_congr fun i hi k hk => by exact mul_comm _ _

theorem rv125 (h : RArgs A x0 x1 x2 x3 x4 x5 x6 x7 x8 x9) :
    (val_main_v125 (F := Ideal) x0 x2 x3 x5 x6 x7 x8 x9 : S8192x1024.Idx → EReal) = up2 fun i k => A.toIn.dm i k * A.toIn.bm i k := by
  unfold val_main_v125
  rw [rv123 h, rv116 h]
  refine Eq.trans (Lift.mulf_up2 _ _) ?_
  rfl

theorem rv126 (h : RArgs A x0 x1 x2 x3 x4 x5 x6 x7 x8 x9) :
    (val_main_v126 (F := Ideal) x0 x2 x3 x6 x7 x8 x9 : S1024x512.Idx → EReal) = up2 fun i k => ∑ r ∈ Finset.range 8192, A.toIn.db r i * A.toIn.yg r k := by
  unfold val_main_v126
  rw [rv124 h, rv113 h]
  refine Eq.trans (RLift.mm_S8192x1024_S8192x512_S1024x512_0_0_1_1 _ _) ?_
  rfl

theorem rv127 (h : RArgs A x0 x1 x2 x3 x4 x5 x6 x7 x8 x9) :
    (val_main_v127 (F := Ideal) x0 x2 x3 x6 x7 x8 x9 : S512x1024.Idx → EReal) = up2 fun i k => A.toIn.dwbg 8192 i k := by
  funext j
  refine (val_main_v127_apply _ _ _ _ _ _ _ j).trans ((congrFun (rv126 h) _).trans ?_)
  exact congrArg Real.toEReal (by exact Finset.sum_congr rfl fun _ _ => mul_comm _ _)

theorem rv128 (h : RArgs A x0 x1 x2 x3 x4 x5 x6 x7 x8 x9) :
    (val_main_v128 (F := Ideal) x0 x2 x3 x5 : S8192x512.Idx → EReal) = up2 fun i k => A.toIn.dyg i k := by
  unfold val_main_v128
  rw [rv124 h, rv6 h]
  refine Eq.trans (RLift.mm_S8192x1024_S512x1024_S8192x512_1_1_0_0 _ _) ?_
  rfl

theorem rv129 (h : RArgs A x0 x1 x2 x3 x4 x5 x6 x7 x8 x9) :
    (val_main_v129 (F := Ideal) x0 x2 x3 : S8192x1024.Idx → EReal) = up2 fun i k => A.toIn.da i k := by
  unfold val_main_v129
  rw [rv59 h, rv123 h]
  refine Eq.trans (Lift.mulf_up2 _ _) ?_
  exact up2_congr fun i hi k hk => by exact mul_comm _ _

theorem rv130 (h : RArgs A x0 x1 x2 x3 x4 x5 x6 x7 x8 x9) :
    (val_main_v130 (F := Ideal) x0 x1 x3 x4 : S8192x1024.Idx → EReal) = up2 fun i k => A.toIn.dm i k * A.toIn.a i k := by
  unfold val_main_v130
  rw [rv123 h, rv114 h]
  refine Eq.trans (Lift.mulf_up2 _ _) ?_
  rfl

theorem rv131 (h : RArgs A x0 x1 x2 x3 x4 x5 x6 x7 x8 x9) :
    (val_main_v131 (F := Ideal) x0 x1 x2 x3 : S1024x256.Idx → EReal) = up2 fun i k => ∑ r ∈ Finset.range 8192, A.toIn.da r i * A.ya r k := by
  unfold val_main_v131
  rw [rv129 h, h.x1]
  refine Eq.trans (RLift.mm_S8192x1024_S8192x256_S1024x256_0_0_1_1 _ _) ?_
  rfl

theorem rv132 (h : RArgs A x0 x1 x2 x3 x4 x5 x6 x7 x8 x9) :
    (val_main_v132 (F := Ideal) x0 x1 x2 x3 : S256x1024.Idx → EReal) = up2 fun i k => A.toIn.dwba 8192 i k := by
  funext j
  refine (val_main_v132_apply _ _ _ _ j).trans ((congrFun (rv131 h) _).trans ?_)
  exact congrArg Real.toEReal (by exact Finset.sum_congr rfl fun _ _ => mul_comm _ _)

theorem rv133 (h : RArgs A x0 x1 x2 x3 x4 x5 x6 x7 x8 x9) :
    (val_main_v133 (F := Ideal) x0 x2 x3 x4 : S8192x256.Idx → EReal) = up2 fun i k => A.toIn.dya i k := by
  unfold val_main_v133
  rw [rv129 h, rv5 h]
  refine Eq.trans (RLift.mm_S8192x1024_S256x1024_S8192x256_1_1_0_0 _ _) ?_
  rfl

theorem rv134 (h : RArgs A x0 x1 x2 x3 x4 x5 x6 x7 x8 x9) :
    (val_main_v134 (F := Ideal) x0 x2 x3 x5 : S64x128x4x128.Idx → EReal) = up4 fun i k l o => A.toIn.dyg (128 * i + k) (128 * l + o) := by
  funext j
  refine (val_main_v134_apply _ _ _ _ j).trans ((congrFun (rv128 h) _).trans ?_)
  have h0 : (j 0).val < 64 := (j 0).isLt
  have h1 : (j 1).val < 128 := (j 1).isLt
  have h2 : (j 2).val < 4 := (j 2).isLt
  have h3 : (j 3).val < 128 := (j 3).isLt
  refine congrArg Real.toEReal ?_
  show (fun i k => (A.toIn.dyg i k : ℝ)) (idx_main_v134 j 0).val (idx_main_v134 j 1).val = (fun i k l o => (A.toIn.dyg (128 * i + k) (128 * l + o) : ℝ)) (j 0).val (j 1).val (j 2).val (j 3).val
  simp only
  congr 1 <;> omega

theorem rv135 (h : RArgs A x0 x1 x2 x3 x4 x5 x6 x7 x8 x9) :
    (val_main_v135 (F := Ideal) x0 x2 x3 x5 : S64x128x4x128.Idx → EReal) = up4 fun i k l o => A.toIn.dsz (128 * i + k) (128 * l + o) := by
  unfold val_main_v135
  rw [rv111 h, rv134 h]
  refine Eq.trans (Lift.mulf_up4 _ _) ?_
  exact up4_congr fun i hi k hk l hl o ho => by exact mul_comm _ _

theorem rv136 (h : RArgs A x0 x1 x2 x3 x4 x5 x6 x7 x8 x9) :
    (val_main_v136 (F := Ideal) x0 x2 x3 x5 x6 x7 x8 x9 : S64x128x4x128.Idx → EReal) = up4 fun i k l o => A.toIn.du (128 * i + k) (128 * l + o) := by
  unfold val_main_v136
  rw [rv134 h, rv110 h]
  refine Eq.trans (Lift.mulf_up4 _ _) ?_
  rfl

theorem rv137 (h : RArgs A x0 x1 x2 x3 x4 x5 x6 x7 x8 x9) :
    (val_main_v137 (F := Ideal) x0 x2 x3 x5 x6 x7 x8 x9 : S8192x512.Idx → EReal) = up2 fun i k => A.toIn.du i k := by
  funext j
  refine (val_main_v137_apply _ _ _ _ _ _ _ _ j).trans ((congrFun (rv136 h) _).trans ?_)
  have h0 : (j 0).val < 8192 := (j 0).isLt
  have h1 : (j 1).val < 512 := (j 1).isLt
  refine congrArg Real.toEReal ?_
  show (fun i k l o => (A.toIn.du (128 * i + k) (128 * l + o) : ℝ)) (idx_main_v137 j 0).val (idx_main_v137 j 1).val (idx_main_v137 j 2).val (idx_main_v137 j 3).val = (fun i k => (A.toIn.du i k : ℝ)) (j 0).val (j 1).val
  simp only
  congr 1 <;> omega

theorem rv138 (h : RArgs A x0 x1 x2 x3 x4 x5 x6 x7 x8 x9) :
    (val_main_v138 (F := Ideal) x0 x2 x3 x5 : S128x4.Idx → EReal) = up2 fun i k => A.toIn.dbs 64 k i := by
  unfold val_main_v138
  rw [rv135 h]
  refine (HLift.sum_v138 _ _ lit_zero).trans ?_
  rfl

theorem rv139 (h : RArgs A x0 x1 x2 x3 x4 x5 x6 x7 x8 x9) :
    (val_main_v139 (F := Ideal) x0 x2 x3 x5 : S1x128x4x1.Idx → EReal) = up4 fun i k l o => A.toIn.dbs 64 l k := by
  funext j
  refine (val_main_v139_apply _ _ _ _ j).trans ((congrFun (rv138 h) _).trans ?_)
  have h0 : (j 0).val < 1 := (j 0).isLt
  have h1 : (j 1).val < 128 := (j 1).isLt
  have h2 : (j 2).val < 4 := (j 2).isLt
  have h3 : (j 3).val < 1 := (j 3).isLt
  refine congrArg Real.toEReal ?_
  show (fun i k => (A.toIn.dbs 64 k i : ℝ)) (idx_main_v139 j 0).val (idx_main_v139 j 1).val = (fun i k l o => (A.toIn.dbs 64 l k : ℝ)) (j 0).val (j 1).val (j 2).val (j 3).val
  simp only
  congr 1 <;> omega

theorem rv140 (h : RArgs A x0 x1 x2 x3 x4 x5 x6 x7 x8 x9) :
    (val_main_v140 (F := Ideal) x0 x2 x3 x5 : S128x4.Idx → EReal) = up2 fun i k => A.toIn.dbs 64 k i := by
  unfold val_main_v140
  rw [rv139 h]
  exact HLift.sum_v140 _ _ lit_zero

theorem rv141 (h : RArgs A x0 x1 x2 x3 x4 x5 x6 x7 x8 x9) :
    (val_main_v141 (F := Ideal) x0 x2 x3 x5 : S4x128.Idx → EReal) = up2 fun i k => A.toIn.dbs 64 i k := by
  funext j
  refine (val_main_v141_apply _ _ _ _ j).trans ((congrFun (rv140 h) _).trans ?_)
  rfl

theorem rv142 (h : RArgs A x0 x1 x2 x3 x4 x5 x6 x7 x8 x9) :
    (val_main_v142 (F := Ideal) x0 x2 x3 x5 : S4x64x128x128.Idx → EReal) = up4 fun i k l o => A.toIn.dsz (128 * k + o) (128 * i + l) := by
  funext j
  refine (val_main_v142_apply _ _ _ _ j).trans ((congrFun (rv135 h) _).trans ?_)
  rfl

theorem rv143 (h : RArgs A x0 x1 x2 x3 x4 x5 x6 x7 x8 x9) :
    (val_main_v143 (F := Ideal) x0 x2 x3 x5 x8 x9 : S4x128x128.Idx → EReal) = up3 fun i k l => ∑ c ∈ Finset.range 64, A.toIn.dwsp1 c i k l := by
  unfold val_main_v143
  rw [rv142 h, rv99 h]
  refine Eq.trans (RLift.mm_dwsp _ _) ?_
  rfl

theorem rv144 (h : RArgs A x0 x1 x2 x3 x4 x5 x6 x7 x8 x9) :
    (val_main_v144 (F := Ideal) x0 x2 x3 x5 x6 : S4x64x128x128.Idx → EReal) = up4 fun i k l o => ∑ r ∈ Finset.range 128, A.toIn.dsz (128 * k + r) (128 * i + l) * A.toIn.W i r o := by
  unfold val_main_v144
  rw [rv142 h, rv104_0 h]
  refine Eq.trans (RLift.mm_dzln _ _) ?_
  rfl

theorem rv145 (h : RArgs A x0 x1 x2 x3 x4 x5 x6 x7 x8 x9) :
    (val_main_v145 (F := Ideal) x0 x2 x3 x5 x6 : S64x128x4x128.Idx → EReal) = up4 fun i k l o => A.toIn.dzln (128 * i + k) (128 * l + o) := by
  funext j
  refine (val_main_v145_apply _ _ _ _ _ j).trans ((congrFun (rv144 h) _).trans (congrArg Real.toEReal ?_))
  exact (Finset.sum_congr rfl fun _ _ => mul_comm _ _).trans (A.toIn.dzln_tile (j 0).val (j 2).val (j 1).isLt (j 3).isLt).symm

theorem rv146 (h : RArgs A x0 x1 x2 x3 x4 x5 x6 x7 x8 x9) :
    (val_main_v146 (F := Ideal) x0 x2 x3 x5 x8 x9 : S4x128x128.Idx → EReal) = up3 fun i k l => A.toIn.dwsp 64 i k l := by
  unfold val_main_v146
  rw [rv143 h]
  refine (HLift.select_tril3 _ _ fun x => (val_main_call2_v0_apply x).trans lit_zero).trans (up3_congr fun g _ i _ k _ => ?_)
  rw [In.dwsp]
  by_cases e : k ≤ i
  · rw [if_pos e]; exact Finset.sum_congr rfl fun _ _ => (if_pos e).symm
  · rw [if_neg e]; exact (Finset.sum_eq_zero fun _ _ => if_neg e).symm

theorem rv147 (h : RArgs A x0 x1 x2 x3 x4 x5 x6 x7 x8 x9) :
    (val_main_v147 (F := Ideal) x0 x2 x3 x5 x6 : S8192x512.Idx → EReal) = up2 fun i k => A.toIn.dzln i k := by
  funext j
  refine (val_main_v147_apply _ _ _ _ _ j).trans ((congrFun (rv145 h) _).trans ?_)
  have h0 : (j 0).val < 8192 := (j 0).isLt
  have h1 : (j 1).val < 512 := (j 1).isLt
  refine congrArg Real.toEReal ?_
  show (fun i k l o => (A.toIn.dzln (128 * i + k) (128 * l + o) : ℝ)) (idx_main_v147 j 0).val (idx_main_v147 j 1).val (idx_main_v147 j 2).val (idx_main_v147 j 3).val = (fun i k => (A.toIn.dzln i k : ℝ)) (j 0).val (j 1).val
  simp only
  congr 1 <;> omega

theorem rv148 (h : RArgs A x0 x1 x2 x3 x4 x5 x6 x7 x8 x9) :
    (val_main_v148 (F := Ideal) x0 x2 x3 x5 x6 : S512.Idx → EReal) = up1 fun i => A.toIn.dlb 8192 i := by
  funext j
  rw [val_main_v148_apply, rv147 h]
  exact HLift.zero_add_sum (n := 8192) (fun r => (fun i k => (A.toIn.dzln i k : ℝ)) r (j 0).val)

theorem rv149 (h : RArgs A x0 x1 x2 x3 x4 x5 x6 x7 x8 x9) :
    (val_main_v149 (F := Ideal) x0 x2 x3 x5 x6 : S1x512.Idx → EReal) = up2 fun i k => A.toIn.dlb 8192 k := by
  funext j
  refine (val_main_v149_apply _ _ _ _ _ j).trans ((congrFun (rv148 h) _).trans ?_)
  have h0 : (j 0).val < 1 := (j 0).isLt
  have h1 : (j 1).val < 512 := (j 1).isLt
  refine congrArg Real.toEReal ?_
  show (fun i => (A.toIn.dlb 8192 i : ℝ)) (idx_main_v149 j 0).val = (fun i k => (A.toIn.dlb 8192 k : ℝ)) (j 0).val (j 1).val
  simp only
  congr 1 <;> omega

theorem rv150 (h : RArgs A x0 x1 x2 x3 x4 x5 x6 x7 x8 x9) :
    (val_main_v150 (F := Ideal) x0 x2 x3 x5 x6 : S8192x512.Idx → EReal) = up2 fun i k => A.toIn.zh i k * A.toIn.dzln i k := by
  unfold val_main_v150
  rw [rv94 h, rv147 h]
  refine Eq.trans (Lift.mulf_up2 _ _) ?_
  rfl

theorem rv151 (h : RArgs A x0 x1 x2 x3 x4 x5 x6 x7 x8 x9) :
    (val_main_v151 (F := Ideal) x0 x2 x3 x5 x6 : S512.Idx → EReal) = up1 fun i => A.toIn.dlg 8192 i := by
  funext j
  rw [val_main_v151_apply, rv150 h]
  refine (HLift.zero_add_sum (n := 8192) (fun r => (fun i k => (A.toIn.zh i k * A.toIn.dzln i k : ℝ)) r (j 0).val)).trans ?_
  exact congrArg Real.toEReal (Finset.sum_congr rfl fun _ _ => mul_comm _ _)

theorem rv152 (h : RArgs A x0 x1 x2 x3 x4 x5 x6 x7 x8 x9) :
    (val_main_v152 (F := Ideal) x0 x2 x3 x5 x6 : S1x512.Idx → EReal) = up2 fun i k => A.toIn.dlg 8192 k := by
  funext j
  refine (val_main_v152_apply _ _ _ _ _ j).trans ((congrFun (rv151 h) _).trans ?_)
  have h0 : (j 0).val < 1 := (j 0).isLt
  have h1 : (j 1).val < 512 := (j 1).isLt
  refine congrArg Real.toEReal ?_
  show (fun i => (A.toIn.dlg 8192 i : ℝ)) (idx_main_v152 j 0).val = (fun i k => (A.toIn.dlg 8192 k : ℝ)) (j 0).val (j 1).val
  simp only
  congr 1 <;> omega

theorem rv153 (h : RArgs A x0 x1 x2 x3 x4 x5 x6 x7 x8 x9) :
    (val_main_v153 (F := Ideal) x8 : S8192x512.Idx → EReal) = up2 fun i k => A.lg 0 k := by
  funext j
  refine (val_main_v153_apply _ j).trans ((congrFun (h.x8) _).trans ?_)
  rfl

theorem rv154 (h : RArgs A x0 x1 x2 x3 x4 x5 x6 x7 x8 x9) :
    (val_main_v154 (F := Ideal) x0 x2 x3 x5 x6 x8 : S8192x512.Idx → EReal) = up2 fun i k => A.toIn.dzh i k := by
  unfold val_main_v154
  rw [rv147 h, rv153 h]
  refine Eq.trans (Lift.mulf_up2 _ _) ?_
  rfl

theorem rv155 (h : RArgs A x0 x1 x2 x3 x4 x5 x6 x7 x8 x9) :
    (val_main_v155 (F := Ideal) x0 x2 x3 x5 x6 x8 : S8192x512.Idx → EReal) = up2 fun i k => A.toIn.zc i k * A.toIn.dzh i k := by
  unfold val_main_v155
  rw [rv86 h, rv154 h]
  refine Eq.trans (Lift.mulf_up2 _ _) ?_
  rfl

theorem rv156 (h : RArgs A x0 x1 x2 x3 x4 x5 x6 x7 x8 x9) :
    (val_main_v156 (F := Ideal) x0 x2 x3 x5 x6 x8 : S8192.Idx → EReal) = up1 fun i => ∑ k ∈ Finset.range 512, A.toIn.zc i k * A.toIn.dzh i k := by
  funext j
  rw [val_main_v156_apply, rv155 h]
  exact HLift.zero_add_sum (n := 512) (fun r => (fun i k => (A.toIn.zc i k * A.toIn.dzh i k : ℝ)) (j 0).val r)

theorem rv157 (h : RArgs A x0 x1 x2 x3 x4 x5 x6 x7 x8 x9) :
    (val_main_v157 (F := Ideal) x0 x2 x3 x5 x6 x8 : S8192x1.Idx → EReal) = up2 fun i k => ∑ k ∈ Finset.range 512, A.toIn.zc i k * A.toIn.dzh i k := by
  unfold val_main_v157
  rw [rv156 h]
  exact cast_col _ _

theorem rv158 (h : RArgs A x0 x1 x2 x3 x4 x5 x6 x7 x8 x9) :
    (val_main_v158 (F := Ideal) x2 : S8192x512.Idx → EReal) = up2 fun i k => A.toIn.rs i := by
  funext j
  refine (val_main_v158_apply _ j).trans ((congrFun (rv89 h) _).trans ?_)
  rfl

theorem rv159 (h : RArgs A x0 x1 x2 x3 x4 x5 x6 x7 x8 x9) :
    (val_main_v159 (F := Ideal) x0 x2 x3 x5 x6 x8 : S8192x512.Idx → EReal) = up2 fun i k => A.toIn.dzh i k * A.toIn.rs i := by
  unfold val_main_v159
  rw [rv154 h, rv158 h]
  refine Eq.trans (Lift.mulf_up2 _ _) ?_
  rfl

theorem rv160 (h : RArgs A x0 x1 x2 x3 x4 x5 x6 x7 x8 x9) :
    (val_main_v160 (F := Ideal) x0 x2 x3 x5 x6 x8 : S8192x1.Idx → EReal) = up2 fun i k => (∑ k ∈ Finset.range 512, A.toIn.zc i k * A.toIn.dzh i k) * (-(1 / 2) * (A.toIn.rs i / (A.toIn.vr i + eps))) := by
  unfold val_main_v160
  rw [rv157 h, rv92 h]
  refine Eq.trans (Lift.mulf_up2 _ _) ?_
  rfl

theorem rv161 (h : RArgs A x0 x1 x2 x3 x4 x5 x6 x7 x8 x9) :
    (val_main_v161 (F := Ideal) x0 x2 x3 x5 x6 x8 : S8192x512.Idx → EReal) = up2 fun i k => -(A.toIn.dzh i k * A.toIn.rs i) := by
  unfold val_main_v161
  rw [rv159 h]
  refine Eq.trans (HLift.negf_up2 _) ?_
  rfl

theorem rv162 (h : RArgs A x0 x1 x2 x3 x4 x5 x6 x7 x8 x9) :
    (val_main_v162 (F := Ideal) x0 x2 x3 x5 x6 x8 : S8192.Idx → EReal) = up1 fun i => ∑ k ∈ Finset.range 512, -(A.toIn.dzh i k * A.toIn.rs i) := by
  funext j
  rw [val_main_v162_apply, rv161 h]
  exact HLift.zero_add_sum (n := 512) (fun r => (fun i k => (-(A.toIn.dzh i k * A.toIn.rs i) : ℝ)) (j 0).val r)

theorem rv163 (h : RArgs A x0 x1 x2 x3 x4 x5 x6 x7 x8 x9) :
    (val_main_v163 (F := Ideal) x0 x2 x3 x5 x6 x8 : S8192x1.Idx → EReal) = up2 fun i k => ∑ k ∈ Finset.range 512, -(A.toIn.dzh i k * A.toIn.rs i) := by
  unfold val_main_v163
  rw [rv162 h]
  exact cast_col _ _

theorem rv164 (h : RArgs A x0 x1 x2 x3 x4 x5 x6 x7 x8 x9) :
    (val_main_v164 (F := Ideal) : S8192x1.Idx → EReal) = up2 fun i k => 512 :=
  funext fun j => (val_main_v164_apply j).trans lit_512

theorem rv165 (h : RArgs A x0 x1 x2 x3 x4 x5 x6 x7 x8 x9) :
    (val_main_v165 (F := Ideal) x0 x2 x3 x5 x6 x8 : S8192x1.Idx → EReal) = up2 fun i k => (∑ k ∈ Finset.range 512, A.toIn.zc i k * A.toIn.dzh i k) * (-(1 / 2) * (A.toIn.rs i / (A.toIn.vr i + eps))) / 512 := by
  unfold val_main_v165
  rw [rv160 h, rv164 h]
  refine Eq.trans (HLift.divf_up2 _ _ (fun _ _ => by norm_num)) ?_
  rfl

theorem rv166 (h : RArgs A x0 x1 x2 x3 x4 x5 x6 x7 x8 x9) :
    (val_main_v166 (F := Ideal) x0 x2 x3 x5 x6 x8 : S8192.Idx → EReal) = up1 fun i => (∑ k ∈ Finset.range 512, A.toIn.zc i k * A.toIn.dzh i k) * (-(1 / 2) * (A.toIn.rs i / (A.toIn.vr i + eps))) / 512 := by
  funext j
  rw [val_main_v166_apply, rv165 h]
  refine (HLift.zero_add_sum (n := 1) (fun r => (fun i k => ((∑ k ∈ Finset.range 512, A.toIn.zc i k * A.toIn.dzh i k) * (-(1 / 2) * (A.toIn.rs i / (A.toIn.vr i + eps))) / 512 : ℝ)) (j 0).val r)).trans ?_
  rw [Finset.sum_range_one]; rfl

theorem rv167 (h : RArgs A x0 x1 x2 x3 x4 x5 x6 x7 x8 x9) :
    (val_main_v167 (F := Ideal) x0 x2 x3 x5 x6 x8 : S8192x512.Idx → EReal) = up2 fun i k => (∑ k ∈ Finset.range 512, A.toIn.zc i k * A.toIn.dzh i k) * (-(1 / 2) * (A.toIn.rs i / (A.toIn.vr i + eps))) / 512 := by
  funext j
  refine (val_main_v167_apply _ _ _ _ _ _ j).trans ((congrFun (rv166 h) _).trans ?_)
  rfl

theorem rv168 (h : RArgs A x0 x1 x2 x3 x4 x5 x6 x7 x8 x9) :
    (val_main_v168 (F := Ideal) x0 x2 x3 x5 x6 x8 : S8192x512.Idx → EReal) = up2 fun i k => (∑ k ∈ Finset.range 512, A.toIn.zc i k * A.toIn.dzh i k) * (-(1 / 2) * (A.toIn.rs i / (A.toIn.vr i + eps))) / 512 * (2 * A.toIn.zc i k) := by
  unfold val_main_v168
  rw [rv167 h, rv80 h]
  refine Eq.trans (Lift.mulf_up2 _ _) ?_
  rfl

theorem rv169 (h : RArgs A x0 x1 x2 x3 x4 x5 x6 x7 x8 x9) :
    (val_main_v169 (F := Ideal) x0 x2 x3 x5 x6 x8 : S8192x512.Idx → EReal) = up2 fun i k => -((∑ k ∈ Finset.range 512, A.toIn.zc i k * A.toIn.dzh i k) * (-(1 / 2) * (A.toIn.rs i / (A.toIn.vr i + eps))) / 512 * (2 * A.toIn.zc i k)) := by
  unfold val_main_v169
  rw [rv168 h]
  refine Eq.trans (HLift.negf_up2 _) ?_
  rfl

theorem rv170 (h : RArgs A x0 x1 x2 x3 x4 x5 x6 x7 x8 x9) :
    (val_main_v170 (F := Ideal) x0 x2 x3 x5 x6 x8 : S8192.Idx → EReal) = up1 fun i => ∑ k ∈ Finset.range 512, -((∑ k ∈ Finset.range 512, A.toIn.zc i k * A.toIn.dzh i k) * (-(1 / 2) * (A.toIn.rs i / (A.toIn.vr i + eps))) / 512 * (2 * A.toIn.zc i k)) := by
  funext j
  rw [val_main_v170_apply, rv169 h]
  exact HLift.zero_add_sum (n := 512) (fun r => (fun i k => (-((∑ k ∈ Finset.range 512, A.toIn.zc i k * A.toIn.dzh i k) * (-(1 / 2) * (A.toIn.rs i / (A.toIn.vr i + eps))) / 512 * (2 * A.toIn.zc i k)) : ℝ)) (j 0).val r)

theorem rv171 (h : RArgs A x0 x1 x2 x3 x4 x5 x6 x7 x8 x9) :
    (val_main_v171 (F := Ideal) x0 x2 x3 x5 x6 x8 : S8192x1.Idx → EReal) = up2 fun i k => ∑ k ∈ Finset.range 512, -((∑ k ∈ Finset.range 512, A.toIn.zc i k * A.toIn.dzh i k) * (-(1 / 2) * (A.toIn.rs i / (A.toIn.vr i + eps))) / 512 * (2 * A.toIn.zc i k)) := by
  unfold val_main_v171
  rw [rv170 h]
  exact cast_col _ _

theorem rv172 (h : RArgs A x0 x1 x2 x3 x4 x5 x6 x7 x8 x9) :
    (val_main_v172 (F := Ideal) x0 x2 x3 x5 x6 x8 : S8192x512.Idx → EReal) = up2 fun i k => A.toIn.dzh i k * A.toIn.rs i + (∑ k ∈ Finset.range 512, A.toIn.zc i k * A.toIn.dzh i k) * (-(1 / 2) * (A.toIn.rs i / (A.toIn.vr i + eps))) / 512 * (2 * A.toIn.zc i k) := by
  unfold val_main_v172
  rw [rv159 h, rv168 h]
  refine Eq.trans (Lift.addf_up2 _ _) ?_
  rfl

theorem rv173 (h : RArgs A x0 x1 x2 x3 x4 x5 x6 x7 x8 x9) :
    (val_main_v173 (F := Ideal) x0 x2 x3 x5 x6 x8 : S8192x1.Idx → EReal) = up2 fun i k => (∑ k ∈ Finset.range 512, -(A.toIn.dzh i k * A.toIn.rs i)) + (∑ k ∈ Finset.range 512, -((∑ k ∈ Finset.range 512, A.toIn.zc i k * A.toIn.dzh i k) * (-(1 / 2) * (A.toIn.rs i / (A.toIn.vr i + eps))) / 512 * (2 * A.toIn.zc i k))) := by
  unfold val_main_v173
  rw [rv163 h, rv171 h]
  refine Eq.trans (Lift.addf_up2 _ _) ?_
  rfl

theorem rv174 (h : RArgs A x0 x1 x2 x3 x4 x5 x6 x7 x8 x9) :
    (val_main_v174 (F := Ideal) : S8192x1.Idx → EReal) = up2 fun i k => 512 :=
  funext fun j => (val_main_v174_apply j).trans lit_512

theorem rv175 (h : RArgs A x0 x1 x2 x3 x4 x5 x6 x7 x8 x9) :
    (val_main_v175 (F := Ideal) x0 x2 x3 x5 x6 x8 : S8192x1.Idx → EReal) = up2 fun i k => ((∑ k ∈ Finset.range 512, -(A.toIn.dzh i k * A.toIn.rs i)) + (∑ k ∈ Finset.range 512, -((∑ k ∈ Finset.range 512, A.toIn.zc i k * A.toIn.dzh i k) * (-(1 / 2) * (A.toIn.rs i / (A.toIn.vr i + eps))) / 512 * (2 * A.toIn.zc i k)))) / 512 := by
  unfold val_main_v175
  rw [rv173 h, rv174 h]
  refine Eq.trans (HLift.divf_up2 _ _ (fun _ _ => by norm_num)) ?_
  rfl

theorem rv176 (h : RArgs A x0 x1 x2 x3 x4 x5 x6 x7 x8 x9) :
    (val_main_v176 (F := Ideal) x0 x2 x3 x5 x6 x8 : S8192.Idx → EReal) = up1 fun i => ((∑ k ∈ Finset.range 512, -(A.toIn.dzh i k * A.toIn.rs i)) + (∑ k ∈ Finset.range 512, -((∑ k ∈ Finset.range 512, A.toIn.zc i k * A.toIn.dzh i k) * (-(1 / 2) * (A.toIn.rs i / (A.toIn.vr i + eps))) / 512 * (2 * A.toIn.zc i k)))) / 512 := by
  funext j
  rw [val_main_v176_apply, rv175 h]
  refine (HLift.zero_add_sum (n := 1) (fun r => (fun i k => (((∑ k ∈ Finset.range 512, -(A.toIn.dzh i k * A.toIn.rs i)) + (∑ k ∈ Finset.range 512, -((∑ k ∈ Finset.range 512, A.toIn.zc i k * A.toIn.dzh i k) * (-(1 / 2) * (A.toIn.rs i / (A.toIn.vr i + eps))) / 512 * (2 * A.toIn.zc i k)))) / 512 : ℝ)) (j 0).val r)).trans ?_
  rw [Finset.sum_range_one]; rfl

theorem rv177 (h : RArgs A x0 x1 x2 x3 x4 x5 x6 x7 x8 x9) :
    (val_main_v177 (F := Ideal) x0 x2 x3 x5 x6 x8 : S8192x512.Idx → EReal) = up2 fun i k => ((∑ k ∈ Finset.range 512, -(A.toIn.dzh i k * A.toIn.rs i)) + (∑ k ∈ Finset.range 512, -((∑ k ∈ Finset.range 512, A.toIn.zc i k * A.toIn.dzh i k) * (-(1 / 2) * (A.toIn.rs i / (A.toIn.vr i + eps))) / 512 * (2 * A.toIn.zc i k)))) / 512 := by
  funext j
  refine (val_main_v177_apply _ _ _ _ _ _ j).trans ((congrFun (rv176 h) _).trans ?_)
  rfl

theorem rv178 (h : RArgs A x0 x1 x2 x3 x4 x5 x6 x7 x8 x9) :
    (val_main_v178 (F := Ideal) x0 x2 x3 x5 x6 x8 : S8192x512.Idx → EReal) = up2 fun i k => A.toIn.dz i k := by
  unfold val_main_v178
  rw [rv172 h, rv177 h]
  refine Eq.trans (Lift.addf_up2 _ _) ?_
  exact up2_congr fun i hi k hk => by exact A.toIn.dz_ref i k

theorem rv179 (h : RArgs A x0 x1 x2 x3 x4 x5 x6 x7 x8 x9) :
    (val_main_v179 (F := Ideal) x0 x2 x3 x5 x6 x7 x8 x9 : S8192x1024.Idx → EReal) = up2 fun i k => A.toIn.dgb i k := by
  unfold val_main_v179
  rw [rv125 h, rv71 h]
  refine Eq.trans (Lift.mulf_up2 _ _) ?_
  rfl

theorem rv180 (h : RArgs A x0 x1 x2 x3 x4 x5 x6 x7 x8 x9) :
    (val_main_v180 (F := Ideal) x0 x1 x2 x3 x4 : S8192x1024.Idx → EReal) = up2 fun i k => A.toIn.dga i k := by
  unfold val_main_v180
  rw [rv130 h, rv62 h]
  refine Eq.trans (Lift.mulf_up2 _ _) ?_
  rfl

theorem rv181 (h : RArgs A x0 x1 x2 x3 x4 x5 x6 x7 x8 x9) :
    (val_main_v181 (F := Ideal) x0 x2 x3 x5 x6 x8 : S8192x512.Idx → EReal) = up2 fun i k => A.toIn.zp i k * A.toIn.dz i k := by
  unfold val_main_v181
  rw [rv2 h, rv178 h]
  refine Eq.trans (Lift.mulf_up2 _ _) ?_
  rfl

theorem rv182 (h : RArgs A x0 x1 x2 x3 x4 x5 x6 x7 x8 x9) :
    (val_main_v182 (F := Ideal) x0 x2 x3 x5 x6 x8 : S8192x512.Idx → EReal) = up2 fun i k => A.toIn.dz i k * (1 / 2 * (1 + In.gt (A.toIn.zp i k))) := by
  unfold val_main_v182
  rw [rv178 h, rv52 h]
  refine Eq.trans (Lift.mulf_up2 _ _) ?_
  rfl

theorem rv183 (h : RArgs A x0 x1 x2 x3 x4 x5 x6 x7 x8 x9) :
    (val_main_v183 (F := Ideal) : S8192x512.Idx → EReal) = up2 fun i k => 1 / 2 :=
  funext fun j => (val_main_v183_apply j).trans lit_half

theorem rv184 (h : RArgs A x0 x1 x2 x3 x4 x5 x6 x7 x8 x9) :
    (val_main_v184 (F := Ideal) x0 x2 x3 x5 x6 x8 : S8192x512.Idx → EReal) = up2 fun i k => 1 / 2 * (A.toIn.zp i k * A.toIn.dz i k) := by
  unfold val_main_v184
  rw [rv183 h, rv181 h]
  refine Eq.trans (Lift.mulf_up2 _ _) ?_
  rfl

theorem rv185 (h : RArgs A x0 x1 x2 x3 x4 x5 x6 x7 x8 x9) :
    (val_main_v185 (F := Ideal) x0 x2 x3 x5 x6 x8 : S8192x512.Idx → EReal) = up2 fun i k => 1 / 2 * (A.toIn.zp i k * A.toIn.dz i k) * ((1 + In.gt (A.toIn.zp i k)) * (1 - In.gt (A.toIn.zp i k))) := by
  unfold val_main_v185
  rw [rv184 h, rv48 h]
  refine Eq.trans (Lift.mulf_up2 _ _) ?_
  rfl

theorem rv186 (h : RArgs A x0 x1 x2 x3 x4 x5 x6 x7 x8 x9) :
    (val_main_v186 (F := Ideal) : S8192x512.Idx → EReal) = up2 fun i k => c0 :=
  funext fun j => (val_main_v186_apply j).trans lit_c0

theorem rv187 (h : RArgs A x0 x1 x2 x3 x4 x5 x6 x7 x8 x9) :
    (val_main_v187 (F := Ideal) x0 x2 x3 x5 x6 x8 : S8192x512.Idx → EReal) = up2 fun i k => c0 * (1 / 2 * (A.toIn.zp i k * A.toIn.dz i k) * ((1 + In.gt (A.toIn.zp i k)) * (1 - In.gt (A.toIn.zp i k)))) := by
  unfold val_main_v187
  rw [rv186 h, rv185 h]
  refine Eq.trans (Lift.mulf_up2 _ _) ?_
  rfl

theorem rv188 (h : RArgs A x0 x1 x2 x3 x4 x5 x6 x7 x8 x9) :
    (val_main_v188 (F := Ideal) x0 x2 x3 x5 x6 x8 : S8192x512.Idx → EReal) = up2 fun i k => A.toIn.dz i k * (1 / 2 * (1 + In.gt (A.toIn.zp i k))) + c0 * (1 / 2 * (A.toIn.zp i k * A.toIn.dz i k) * ((1 + In.gt (A.toIn.zp i k)) * (1 - In.gt (A.toIn.zp i k)))) := by
  unfold val_main_v188
  rw [rv182 h, rv187 h]
  refine Eq.trans (Lift.addf_up2 _ _) ?_
  rfl

theorem rv189 (h : RArgs A x0 x1 x2 x3 x4 x5 x6 x7 x8 x9) :
    (val_main_v189 (F := Ideal) x0 x2 x3 x5 x6 x8 : S8192x512.Idx → EReal) = up2 fun i k => 44715 / 1000000 * (c0 * (1 / 2 * (A.toIn.zp i k * A.toIn.dz i k) * ((1 + In.gt (A.toIn.zp i k)) * (1 - In.gt (A.toIn.zp i k))))) := by
  unfold val_main_v189
  rw [rv33 h, rv187 h]
  refine Eq.trans (Lift.mulf_up2 _ _) ?_
  rfl

theorem rv190 (h : RArgs A x0 x1 x2 x3 x4 x5 x6 x7 x8 x9) :
    (val_main_v190 (F := Ideal) x0 x2 x3 x5 x6 x8 : S8192x512.Idx → EReal) = up2 fun i k => 44715 / 1000000 * (c0 * (1 / 2 * (A.toIn.zp i k * A.toIn.dz i k) * ((1 + In.gt (A.toIn.zp i k)) * (1 - In.gt (A.toIn.zp i k))))) * (3 * (A.toIn.zp i k * A.toIn.zp i k)) := by
  unfold val_main_v190
  rw [rv189 h, rv38 h]
  refine Eq.trans (Lift.mulf_up2 _ _) ?_
  rfl

theorem rv191 (h : RArgs A x0 x1 x2 x3 x4 x5 x6 x7 x8 x9) :
    (val_main_v191 (F := Ideal) x0 x2 x3 x5 x6 x8 : S8192x512.Idx → EReal) = up2 fun i k => A.toIn.dzp i k := by
  unfold val_main_v191
  rw [rv188 h, rv190 h]
  refine Eq.trans (Lift.addf_up2 _ _) ?_
  exact up2_congr fun i hi k hk => by exact A.toIn.dzp_ref i k

theorem rv192 (h : RArgs A x0 x1 x2 x3 x4 x5 x6 x7 x8 x9) :
    (val_main_v192 (F := Ideal) x0 x2 x3 x5 x6 x7 x8 x9 : S8192x512.Idx → EReal) = up2 fun i k => A.toIn.up i k * A.toIn.du i k := by
  unfold val_main_v192
  rw [rv1 h, rv137 h]
  refine Eq.trans (Lift.mulf_up2 _ _) ?_
  rfl

theorem rv193 (h : RArgs A x0 x1 x2 x3 x4 x5 x6 x7 x8 x9) :
    (val_main_v193 (F := Ideal) x0 x2 x3 x5 x6 x7 x8 x9 : S8192x512.Idx → EReal) = up2 fun i k => A.toIn.du i k * (1 / 2 * (1 + In.gt (A.toIn.up i k))) := by
  unfold val_main_v193
  rw [rv137 h, rv29 h]
  refine Eq.trans (Lift.mulf_up2 _ _) ?_
  rfl

theorem rv194 (h : RArgs A x0 x1 x2 x3 x4 x5 x6 x7 x8 x9) :
    (val_main_v194 (F := Ideal) : S8192x512.Idx → EReal) = up2 fun i k => 1 / 2 :=
  funext fun j => (val_main_v194_apply j).trans lit_half

theorem rv195 (h : RArgs A x0 x1 x2 x3 x4 x5 x6 x7 x8 x9) :
    (val_main_v195 (F := Ideal) x0 x2 x3 x5 x6 x7 x8 x9 : S8192x512.Idx → EReal) = up2 fun i k => 1 / 2 * (A.toIn.up i k * A.toIn.du i k) := by
  unfold val_main_v195
  rw [rv194 h, rv192 h]
  refine Eq.trans (Lift.mulf_up2 _ _) ?_
  rfl

theorem rv196 (h : RArgs A x0 x1 x2 x3 x4 x5 x6 x7 x8 x9) :
    (val_main_v196 (F := Ideal) x0 x2 x3 x5 x6 x7 x8 x9 : S8192x512.Idx → EReal) = up2 fun i k => 1 / 2 * (A.toIn.up i k * A.toIn.du i k) * ((1 + In.gt (A.toIn.up i k)) * (1 - In.gt (A.toIn.up i k))) := by
  unfold val_main_v196
  rw [rv195 h, rv25 h]
  refine Eq.trans (Lift.mulf_up2 _ _) ?_
  rfl

theorem rv197 (h : RArgs A x0 x1 x2 x3 x4 x5 x6 x7 x8 x9) :
    (val_main_v197 (F := Ideal) : S8192x512.Idx → EReal) = up2 fun i k => c0 :=
  funext fun j => (val_main_v197_apply j).trans lit_c0

theorem rv198 (h : RArgs A x0 x1 x2 x3 x4 x5 x6 x7 x8 x9) :
    (val_main_v198 (F := Ideal) x0 x2 x3 x5 x6 x7 x8 x9 : S8192x512.Idx → EReal) = up2 fun i k => c0 * (1 / 2 * (A.toIn.up i k * A.toIn.du i k) * ((1 + In.gt (A.toIn.up i k)) * (1 - In.gt (A.toIn.up i k)))) := by
  unfold val_main_v198
  rw [rv197 h, rv196 h]
  refine Eq.trans (Lift.mulf_up2 _ _) ?_
  rfl

theorem rv199 (h : RArgs A x0 x1 x2 x3 x4 x5 x6 x7 x8 x9) :
    (val_main_v199 (F := Ideal) x0 x2 x3 x5 x6 x7 x8 x9 : S8192x512.Idx → EReal) = up2 fun i k => A.toIn.du i k * (1 / 2 * (1 + In.gt (A.toIn.up i k))) + c0 * (1 / 2 * (A.toIn.up i k * A.toIn.du i k) * ((1 + In.gt (A.toIn.up i k)) * (1 - In.gt (A.toIn.up i k)))) := by
  unfold val_main_v199
  rw [rv193 h, rv198 h]
  refine Eq.trans (Lift.addf_up2 _ _) ?_
  rfl

theorem rv200 (h : RArgs A x0 x1 x2 x3 x4 x5 x6 x7 x8 x9) :
    (val_main_v200 (F := Ideal) x0 x2 x3 x5 x6 x7 x8 x9 : S8192x512.Idx → EReal) = up2 fun i k => 44715 / 1000000 * (c0 * (1 / 2 * (A.toIn.up i k * A.toIn.du i k) * ((1 + In.gt (A.toIn.up i k)) * (1 - In.gt (A.toIn.up i k))))) := by
  unfold val_main_v200
  rw [rv10 h, rv198 h]
  refine Eq.trans (Lift.mulf_up2 _ _) ?_
  rfl

theorem rv201 (h : RArgs A x0 x1 x2 x3 x4 x5 x6 x7 x8 x9) :
    (val_main_v201 (F := Ideal) x0 x2 x3 x5 x6 x7 x8 x9 : S8192x512.Idx → EReal) = up2 fun i k => 44715 / 1000000 * (c0 * (1 / 2 * (A.toIn.up i k * A.toIn.du i k) * ((1 + In.gt (A.toIn.up i k)) * (1 - In.gt (A.toIn.up i k))))) * (3 * (A.toIn.up i k * A.toIn.up i k)) := by
  unfold val_main_v201
  rw [rv200 h, rv15 h]
  refine Eq.trans (Lift.mulf_up2 _ _) ?_
  rfl

theorem rv202 (h : RArgs A x0 x1 x2 x3 x4 x5 x6 x7 x8 x9) :
    (val_main_v202 (F := Ideal) x0 x2 x3 x5 x6 x7 x8 x9 : S8192x512.Idx → EReal) = up2 fun i k => A.toIn.dup i k := by
  unfold val_main_v202
  rw [rv199 h, rv201 h]
  refine Eq.trans (Lift.addf_up2 _ _) ?_
  exact up2_congr fun i hi k hk => by exact A.toIn.dup_ref i k

theorem rv203 (h : RArgs A x0 x1 x2 x3 x4 x5 x6 x7 x8 x9) :
    (val_main_v203 (F := Ideal) x0 x2 x3 x5 x6 x7 x8 x9 : S8192x1024.Idx → EReal) = up2 fun i k => if k < 512 then A.toIn.dup i k else A.toIn.dzp i (k - 512) := by
  unfold val_main_v203
  rw [rv202 h, rv191 h]
  exact HLift.concat_up2 (n := 8192) (m := 512) (p := 512) (q := 1024) _ _ rfl _

theorem rv204 (h : RArgs A x0 x1 x2 x3 x4 x5 x6 x7 x8 x9) :
    (val_main_v204 (F := Ideal) x0 x1 x2 x3 x4 x5 x6 x7 x8 x9 : S8192x2048.Idx → EReal) = up2 fun i k => if k < 1024 then A.toIn.dga i k else A.toIn.dgb i (k - 1024) := by
  unfold val_main_v204
  rw [rv180 h, rv179 h]
  exact HLift.concat_up2 (n := 8192) (m := 1024) (p := 1024) (q := 2048) _ _ rfl _

theorem rv205 (h : RArgs A x0 x1 x2 x3 x4 x5 x6 x7 x8 x9) :
    (val_main_v205 (F := Ideal) x0 x1 x2 x3 x4 x5 x6 x7 x8 x9 : S8192x3072.Idx → EReal) = up2 fun i k => A.toIn.drest i k := by
  unfold val_main_v205
  rw [rv203 h, rv204 h]
  refine (HLift.concat_up2 (n := 8192) (m := 1024) (p := 2048) (q := 3072) _ _ rfl _).trans (up2_congr fun i _ k _ => ?_)
  simp only [In.drest, Nat.sub_sub]
  by_cases h1 : k < 512
  · rw [if_pos (by omega), if_pos h1, if_pos h1]
  · by_cases h2 : k < 1024
    · rw [if_pos h2, if_neg h1, if_neg h1, if_pos h2]
    · rw [if_neg h2, if_neg h1, if_neg h2]
      by_cases h3 : k < 2048
      · rw [if_pos (by omega), if_pos h3]
      · rw [if_neg (by omega), if_neg h3]

theorem rv206 (h : RArgs A x0 x1 x2 x3 x4 x5 x6 x7 x8 x9) :
    (val_main_v206 (F := Ideal) x0 x2 x3 x4 : S2048x1024.Idx → EReal) = up2 fun i k => A.toIn.dya (4 * i + k / 256) (k % 256) := by
  funext j
  refine (val_main_v206_apply _ _ _ _ j).trans ((congrFun (rv133 h) _).trans ?_)
  have h0 : (j 0).val < 2048 := (j 0).isLt
  have h1 : (j 1).val < 1024 := (j 1).isLt
  refine congrArg Real.toEReal ?_
  show (fun i k => (A.toIn.dya i k : ℝ)) (idx_main_v206 j 0).val (idx_main_v206 j 1).val = (fun i k => (A.toIn.dya (4 * i + k / 256) (k % 256) : ℝ)) (j 0).val (j 1).val
  simp only
  congr 1 <;> omega

theorem rv207 (h : RArgs A x0 x1 x2 x3 x4 x5 x6 x7 x8 x9) :
    (val_main_v207 (F := Ideal) x0 x2 x3 x4 : S512x4096.Idx → EReal) = up2 fun i k => A.toIn.dya (16 * i + k / 256) (k % 256) := by
  funext j
  refine (val_main_v207_apply _ _ _ _ j).trans ((congrFun (rv133 h) _).trans ?_)
  have h0 : (j 0).val < 512 := (j 0).isLt
  have h1 : (j 1).val < 4096 := (j 1).isLt
  refine congrArg Real.toEReal ?_
  show (fun i k => (A.toIn.dya i k : ℝ)) (idx_main_v207 j 0).val (idx_main_v207 j 1).val = (fun i k => (A.toIn.dya (16 * i + k / 256) (k % 256) : ℝ)) (j 0).val (j 1).val
  simp only
  congr 1 <;> omega

theorem rv208 (h : RArgs A x0 x1 x2 x3 x4 x5 x6 x7 x8 x9) :
    (val_main_v208 (F := Ideal) x0 x1 x2 x3 x4 x5 x6 x7 x8 x9 : S8192x3072.Idx → EReal) = up2 fun i k => A.toIn.drest i k := by
  unfold val_main_v208
  rw [rv205 h]
  refine Eq.trans (Lift.truncf_up2 _ _) ?_
  rfl

theorem rv209 (h : RArgs A x0 x1 x2 x3 x4 x5 x6 x7 x8 x9) :
    (val_main_v209 (F := Ideal) x0 x1 x2 x3 : S256x4x256.Idx → EReal) = up3 fun i k l => A.toIn.dwba 8192 i (256 * k + l) := by
  funext j
  refine (val_main_v209_apply _ _ _ _ j).trans ((congrFun (rv132 h) _).trans ?_)
  have h0 : (j 0).val < 256 := (j 0).isLt
  have h1 : (j 1).val < 4 := (j 1).isLt
  have h2 : (j 2).val < 256 := (j 2).isLt
  refine congrArg Real.toEReal ?_
  show (fun i k => (A.toIn.dwba 8192 i k : ℝ)) (idx_main_v209 j 0).val (idx_main_v209 j 1).val = (fun i k l => (A.toIn.dwba 8192 i (256 * k + l) : ℝ)) (j 0).val (j 1).val (j 2).val
  simp only
  congr 1 <;> omega

theorem rv210 (h : RArgs A x0 x1 x2 x3 x4 x5 x6 x7 x8 x9) :
    (val_main_v210 (F := Ideal) x0 x1 x2 x3 : S4x256x256.Idx → EReal) = up3 fun i k l => A.toIn.dwba 8192 k (256 * i + l) := by
  funext j
  refine (val_main_v210_apply _ _ _ _ j).trans ((congrFun (rv209 h) _).trans (congrArg Real.toEReal ?_))
  show A.toIn.dwba 8192 (j 1).val (256 * (j 0).val + (j 2).val) = _
  rfl

theorem rv211 (h : RArgs A x0 x1 x2 x3 x4 x5 x6 x7 x8 x9) :
    (val_main_v211 (F := Ideal) x0 x2 x3 x6 x7 x8 x9 : S512x4x256.Idx → EReal) = up3 fun i k l => A.toIn.dwbg 8192 i (256 * k + l) := by
  funext j
  refine (val_main_v211_apply _ _ _ _ _ _ _ j).trans ((congrFun (rv127 h) _).trans ?_)
  have h0 : (j 0).val < 512 := (j 0).isLt
  have h1 : (j 1).val < 4 := (j 1).isLt
  have h2 : (j 2).val < 256 := (j 2).isLt
  refine congrArg Real.toEReal ?_
  show (fun i k => (A.toIn.dwbg 8192 i k : ℝ)) (idx_main_v211 j 0).val (idx_main_v211 j 1).val = (fun i k l => (A.toIn.dwbg 8192 i (256 * k + l) : ℝ)) (j 0).val (j 1).val (j 2).val
  simp only
  congr 1 <;> omega

theorem rv212 (h : RArgs A x0 x1 x2 x3 x4 x5 x6 x7 x8 x9) :
    (val_main_v212 (F := Ideal) x0 x2 x3 x6 x7 x8 x9 : S4x512x256.Idx → EReal) = up3 fun i k l => A.toIn.dwbg 8192 k (256 * i + l) := by
  funext j
  refine (val_main_v212_apply _ _ _ _ _ _ _ j).trans ((congrFun (rv211 h) _).trans (congrArg Real.toEReal ?_))
  show A.toIn.dwbg 8192 (j 1).val (256 * (j 0).val + (j 2).val) = _
  rfl

theorem rv213 (h : RArgs A x0 x1 x2 x3 x4 x5 x6 x7 x8 x9) :
    (val_main_v213 (F := Ideal) x0 x2 x3 x5 : S4x128x1.Idx → EReal) = up3 fun i k l => A.toIn.dbs 64 i k := by
  funext j
  refine (val_main_v213_apply _ _ _ _ j).trans ((congrFun (rv141 h) _).trans ?_)
  rfl

theorem rv214 (h : RArgs A x0 x1 x2 x3 x4 x5 x6 x7 x8 x9) :
    (val_main_v214 (F := Ideal) x0 x2 x3 x5 : S4x128x128.Idx → EReal) = up3 fun i k l => A.toIn.dbs 64 i k := by
  funext j
  refine (val_main_v214_apply _ _ _ _ j).trans ((congrFun (rv213 h) _).trans ?_)
  rfl

end Cert.Ref

end
-- ==== Proof.Host.lean ====
/-
  What the kernel's host lines hand to the launch: the arguments themselves, the gated branch and the merge.
-/
module

public import proofs.«01_k».proof.Proof.Blocks
public import proofs.«01_k».proof.Proof.Ref

@[expose] public section

noncomputable section

namespace Cert.KernelIdeal

open Cert.KernelIdeal.Gen Cert.Lift Idealize.ShloMosaic Idealize.ShloMosaic.TcCoe Idealize.SL.Sem

variable (m : (ℓ : Loc nD τ sig) → Buf (Elt Ideal) ℓ) (c : Dev nD)

/-- The gated branch is computed by the reference's own lines. -/
theorem host_92 : (V m c main_v92 : S8192x512.Idx → EReal)
    = Cert.ReferenceIdeal.Read.val_main_v113 (F := Ideal) (m ((c : Thread nD τ).loc main_arg2)) (m ((c : Thread nD τ).loc main_arg6)) (m ((c : Thread nD τ).loc main_arg7)) (m ((c : Thread nD τ).loc main_arg8)) (m ((c : Thread nD τ).loc main_arg9)) := by
  entry_read
  rfl
/-- So is the merge. -/
theorem host_93 : (V m c main_v93 : S8192x1024.Idx → EReal)
    = Cert.ReferenceIdeal.Read.val_main_v118 (F := Ideal) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  entry_read
  rfl
theorem host_91 : (V m c main_v91 : S4x128x1.Idx → EReal)
    = shapeCast S4x128x1 (m ((c : Thread nD τ).loc main_arg7) : S4x128.Idx → EReal) shapeCasts_S4x128_S4x128x1 := by
  entry_read
  rfl

theorem cast_up2_col (f : ℕ → ℕ → ℝ) (h) : shapeCast S4x128x1 (up2 f : S4x128.Idx → EReal) h = up3 fun g i _ => f g i := by
  funext j
  idx_vars j
  pointwise [up2, up3]

variable {m c} {A : Args}

/-- On arguments of reals the launch finds arrays of reals. -/
theorem sees (h : Cert.Ref.RArgs A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : Cert.KLift.Sees m c A where
  main_arg0 := (V_main_arg0 m c).trans h.x0
  main_arg1 := (V_main_arg1 m c).trans h.x1
  main_v92 := (host_92 m c).trans (Cert.Ref.rv113 h)
  main_v93 := (host_93 m c).trans (Cert.Ref.rv118 h)
  main_arg2 := (V_main_arg2 m c).trans h.x2
  main_arg3 := (V_main_arg3 m c).trans h.x3
  main_arg4 := (V_main_arg4 m c).trans h.x4
  main_arg5 := (V_main_arg5 m c).trans h.x5
  main_arg6 := (V_main_arg6 m c).trans h.x6
  main_v91 := (host_91 m c).trans ((congrArg (fun x => shapeCast S4x128x1 x shapeCasts_S4x128_S4x128x1) h.x7).trans (cast_up2_col _ _))
  main_arg8 := (V_main_arg8 m c).trans h.x8
  main_arg9 := (V_main_arg9 m c).trans h.x9

end Cert.KernelIdeal

end
-- ==== Proof.Finite.lean ====
/-
  What the precondition says: the arguments' elements are reals, so that the arguments are arrays of reals.
-/
module

public import proofs.«01_k».proof.Defs
public import proofs.«01_k».proof.Proof.Ref
public import proofs.«01_k».proof.Proof.Gen.Pre_finite
public import Idealize.ShloMosaic.Lib.ReduceAll

@[expose] public section

noncomputable section

namespace Cert.Finite

open Cert.Lift Idealize.ShloMosaic Idealize.ShloMosaic.TcCoe Idealize.SL.Sem

/-- An extended real whose absolute value compares below infinity is a real. -/
theorem real_of_lt (x : EReal) (e : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have e' : BitVec.ofBool (decide (max x (-x) < (FloatOps.ofBits (F := Ideal) .f32 0x7F800000#32 : EReal))) = 1#1 := e
  have h : max x (-x) < (FloatOps.ofBits (F := Ideal) .f32 0x7F800000#32 : EReal) := by
    by_contra hc
    rw [decide_eq_false hc] at e'
    exact absurd e' (by decide)
  refine EReal.coe_toReal ?_ ?_
  · rintro rfl
    exact not_top_lt ((le_max_left _ _).trans_lt h)
  · rintro rfl
    exact not_top_lt ((le_max_right ⊥ (-⊥)).trans_lt h)

/-- An array of rank 2 whose elements are reals is an array of reals. -/
theorem reals2 {n m : ℕ} (x : (⟨2, ![n, m]⟩ : Shape).Idx → EReal) (h : ∀ i, (((x i).toReal : ℝ) : EReal) = x i) : ∃ f, x = up2 f := by
  refine ⟨fun i k => if hi : i < n ∧ k < m then (x (Shape.pair (d := ![n, m]) ⟨i, hi.1⟩ ⟨k, hi.2⟩)).toReal else 0, funext fun j => ?_⟩
  have e : Shape.pair (d := ![n, m]) (j 0) (j 1) = j := funext fun a => by match a with | 0 => rfl | 1 => rfl
  show _ = (((if hi : (j 0).val < n ∧ (j 1).val < m then (x (Shape.pair (d := ![n, m]) ⟨(j 0).val, hi.1⟩ ⟨(j 1).val, hi.2⟩)).toReal else 0) : ℝ) : EReal)
  rw [dif_pos ⟨(j 0).isLt, (j 1).isLt⟩]
  refine (h j).symm.trans ?_
  exact congrArg (fun y => (((x y).toReal : ℝ) : EReal)) e.symm

/-- The same of rank 3. -/
theorem reals3 {n m p : ℕ} (x : (⟨3, ![n, m, p]⟩ : Shape).Idx → EReal) (h : ∀ i, (((x i).toReal : ℝ) : EReal) = x i) : ∃ f, x = up3 f := by
  let ix (a : Fin n) (b : Fin m) (c : Fin p) : (⟨3, ![n, m, p]⟩ : Shape).Idx := fun k => match k with | 0 => a | 1 => b | 2 => c
  refine ⟨fun i k l => if hi : i < n ∧ k < m ∧ l < p then (x (ix ⟨i, hi.1⟩ ⟨k, hi.2.1⟩ ⟨l, hi.2.2⟩)).toReal else 0, funext fun j => ?_⟩
  have e : ix (j 0) (j 1) (j 2) = j := funext fun a => by match a with | 0 => rfl | 1 => rfl | 2 => rfl
  show _ = (((if hi : (j 0).val < n ∧ (j 1).val < m ∧ (j 2).val < p then (x (ix ⟨(j 0).val, hi.1⟩ ⟨(j 1).val, hi.2.1⟩ ⟨(j 2).val, hi.2.2⟩)).toReal else 0) : ℝ) : EReal)
  rw [dif_pos ⟨(j 0).isLt, (j 1).isLt, (j 2).isLt⟩]
  refine (h j).symm.trans ?_
  exact congrArg (fun y => (((x y).toReal : ℝ) : EReal)) e.symm

open Cert.Pre_finite Cert.Pre_finite.Facts

local instance : Subsingleton S_.Idx := ⟨fun _ _ => funext fun a => a.elim0⟩

/-- An `all` that came out 1 over the comparisons of the absolute values with infinity: every element is a real. -/
theorem all_real {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant S_ .f32 0x7F800000#32))) (constantI S_ 1 1#1) h hu j = 1#1)
    (i : s.Idx) : (((x i : EReal).toReal : ℝ) : EReal) = x i :=
  real_of_lt (x i) (Host.reduce_andi_all _ _ h hu j e i)

/-- Arguments of which `finite` is 1 are arrays of reals. -/
theorem args [hF : Cert.Pre_finite.Facts] (x0 : FVec Ideal S8192x1024 .bf16) (x1 : FVec Ideal S8192x256 .f32) (x2 : FVec Ideal S8192x3072 .bf16) (x3 : FVec Ideal S1024x1024 .bf16)
    (x4 : FVec Ideal S256x1024 .bf16) (x5 : FVec Ideal S512x1024 .bf16) (x6 : FVec Ideal S4x128x128 .f32) (x7 : FVec Ideal S4x128 .f32) (x8 x9 : FVec Ideal S1x512 .f32)
    (h : Cert.Pre_finite.fn (F := Ideal) x0 x1 x2 x3 x4 x5 x6 x7 x8 x9 = fun _ => 1#1) : ∃ A : Args, Cert.Ref.RArgs A x0 x1 x2 x3 x4 x5 x6 x7 x8 x9 := by
  have h0 := congrFun h (fun a => a.elim0)
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  obtain ⟨f0, q0⟩ := reals2 _ (all_real (extf .f32 x0 bitsLt_bf16_f32) _ _ _ _ e0)
  obtain ⟨f1, q1⟩ := reals2 _ (all_real x1 _ _ _ _ e1)
  obtain ⟨f2, q2⟩ := reals2 _ (all_real (extf .f32 x2 bitsLt_bf16_f32) _ _ _ _ e2)
  obtain ⟨f3, q3⟩ := reals2 _ (all_real (extf .f32 x3 bitsLt_bf16_f32) _ _ _ _ e3)
  obtain ⟨f4, q4⟩ := reals2 _ (all_real (extf .f32 x4 bitsLt_bf16_f32) _ _ _ _ e4)
  obtain ⟨f5, q5⟩ := reals2 _ (all_real (extf .f32 x5 bitsLt_bf16_f32) _ _ _ _ e5)
  obtain ⟨f6, q6⟩ := reals3 _ (all_real x6 _ _ _ _ e6)
  obtain ⟨f7, q7⟩ := reals2 _ (all_real x7 _ _ _ _ e7)
  obtain ⟨f8, q8⟩ := reals2 _ (all_real x8 _ _ _ _ e8)
  obtain ⟨f9, q9⟩ := reals2 _ (all_real x9 _ _ _ _ e9)
  exact ⟨⟨f0, f1, f2, f3, f4, f5, f6, f7, f8, f9⟩, ⟨q0, q1, q2, q3, q4, q5, q6, q7, q8, q9⟩⟩

end Cert.Finite

end
-- ==== Proof.MlpModel.lean ====
/-
  The gradient of the mlp over the reals, row by row: the arrays the kernel and the reference both compute.
-/
module

public import proofs.«01_k».proof.Proof.Lift

@[expose] public section

noncomputable section

namespace Cert

open Cert.Lift

namespace Rms

variable (dn x g : ℕ → ℕ → ℝ) (i k : ℕ)

/-- The mean square of a row, and the epsilon with it. -/
def w : ℝ := (∑ k ∈ Finset.range 1024, x i k * x i k) / 1024 + eps
/-- The reciprocal root mean square of a row. -/
def r : ℝ := (Real.sqrt (w x i))⁻¹
/-- The gradient at a row, given the gradient `dn` at the normalised row with gain `g`. -/
def dsrc : ℝ :=
  r x i * (g 0 k * dn i k) - x i k * (r x i * r x i * r x i * ((∑ k ∈ Finset.range 1024, g 0 k * dn i k * x i k) / 1024))
/-- A row's part of the gain's gradient. -/
def dgain : ℝ := dn i k * (x i k * r x i)

theorem w_pos : 0 < w x i :=
  add_pos_of_nonneg_of_pos (div_nonneg (Finset.sum_nonneg fun _ _ => mul_self_nonneg _) (by norm_num)) eps_pos

/-- The cube of the reciprocal root. -/
theorem r_div : r x i / w x i = r x i * r x i * r x i := by
  have h : r x i * r x i = (w x i)⁻¹ := by
    rw [r, ← mul_inv, Real.mul_self_sqrt (w_pos x i).le]
  rw [h, div_eq_mul_inv, mul_comm]

/-- The gradient at a row as the chain rule gives it, through the mean square. -/
theorem dsrc_chain :
    dn i k * g 0 k * r x i + x i k * ((∑ k ∈ Finset.range 1024, x i k * (dn i k * g 0 k)) * (-(1 / 2) * (r x i / w x i)) / 1024)
      + (∑ k ∈ Finset.range 1024, x i k * (dn i k * g 0 k)) * (-(1 / 2) * (r x i / w x i)) / 1024 * x i k = dsrc dn x g i k := by
  have e : ∑ k ∈ Finset.range 1024, x i k * (dn i k * g 0 k) = ∑ k ∈ Finset.range 1024, g 0 k * dn i k * x i k :=
    Finset.sum_congr rfl fun _ _ => by ring
  rw [e, r_div, dsrc]
  ring

end Rms

/-- What the kernel's call reads, as reals: the cotangent, the activation, the two matrices, the cotangent that passes by,
the rows before the norm, the rows before the norm before, and the two gains. -/
structure MIn where
  (dy a wmo wmi dout x y g2 g1 : ℕ → ℕ → ℝ)

namespace MIn

variable (X : MIn)

/-- The gradient at the activation, at the product before it, at the normalised rows, at the rows and at the rows before. -/
def da (i j : ℕ) : ℝ := ∑ k ∈ Finset.range 1024, X.dy i k * X.wmo j k
def dap (i j : ℕ) : ℝ := X.da i j * (2 * X.a i j)
def dh (i k : ℕ) : ℝ := ∑ j ∈ Finset.range 4096, X.dap i j * X.wmi k j
def dx (i k : ℕ) : ℝ := X.dout i k + Rms.dsrc X.dh X.x X.g2 i k
def dyy (i k : ℕ) : ℝ := Rms.dsrc X.dx X.y X.g1 i k
/-- The sums over the rows `0 … n - 1` of the gains' gradients. -/
def dg2 (n k : ℕ) : ℝ := ∑ i ∈ Finset.range n, Rms.dgain X.dh X.x i k
def dg1 (n k : ℕ) : ℝ := ∑ i ∈ Finset.range n, Rms.dgain X.dx X.y i k

/-- The rows `512 t … 512 t + 511`. -/
def blk (t : ℕ) : MIn where
  dy i k := X.dy (512 * t + i) k
  a i k := X.a (512 * t + i) k
  wmo := X.wmo
  wmi := X.wmi
  dout i k := X.dout (512 * t + i) k
  x i k := X.x (512 * t + i) k
  y i k := X.y (512 * t + i) k
  g2 := X.g2
  g1 := X.g1

variable (t i k : ℕ)

theorem blk_dap : (X.blk t).dap i k = X.dap (512 * t + i) k := rfl
theorem blk_dh : (X.blk t).dh i k = X.dh (512 * t + i) k := rfl
theorem blk_dx : (X.blk t).dx i k = X.dx (512 * t + i) k := rfl
theorem blk_dyy : (X.blk t).dyy i k = X.dyy (512 * t + i) k := rfl

/-- One block more in each sum. -/
theorem dg2_succ : X.dg2 (512 * (t + 1)) k = X.dg2 (512 * t) k + ∑ i ∈ Finset.range 512, Rms.dgain (X.blk t).dh (X.blk t).x i k := by
  simp only [dg2, mul_add, mul_one, Finset.sum_range_add]; rfl
theorem dg1_succ : X.dg1 (512 * (t + 1)) k = X.dg1 (512 * t) k + ∑ i ∈ Finset.range 512, Rms.dgain (X.blk t).dx (X.blk t).y i k := by
  simp only [dg1, mul_add, mul_one, Finset.sum_range_add]; rfl

end MIn

/-- The program's arguments, as reals. -/
structure MArgs where
  (dy wmo wmi dout x y g2 g1 : ℕ → ℕ → ℝ)

namespace MArgs

variable (A : MArgs)

/-- The pre-activation. -/
def p (i j : ℕ) : ℝ := ∑ k ∈ Finset.range 1024, A.x i k * Rms.r A.x i * A.g2 0 k * A.wmi k j
/-- The call's operands. -/
def toIn : MIn where
  dy := A.dy
  a i j := max (A.p i j) 0
  wmo := A.wmo
  wmi := A.wmi
  dout := A.dout
  x := A.x
  y := A.y
  g2 := A.g2
  g1 := A.g1

/-- The gradient of the squared activation, as the chain rule gives it. -/
theorem dap_chain (i j : ℕ) :
    (if 0 < A.p i j then max (A.p i j) 0 * A.toIn.da i j + A.toIn.da i j * max (A.p i j) 0 else 0) = A.toIn.dap i j := by
  show _ = A.toIn.da i j * (2 * max (A.p i j) 0)
  split
  · ring
  · rename_i h
    rw [max_eq_right (not_lt.1 h)]; ring

end MArgs

end Cert

end
-- ==== Proof.MlpPay.lean ====
/-
  What the second kernel's straight-line pieces compute of arrays of reals.
-/
module

public import proofs.«01_k».proof.Proof.MlpModel
public import proofs.«01_k».proof.Proof.Reads
public import proofs.«01_k».proof.Proof.Gen.MlpIdeal.Skeleton

@[expose] public section

noncomputable section

namespace Cert.MLift

open Idealize.ShloMosaic Cert.MlpIdeal Cert.MlpIdeal.Gen Cert.Lift

section moves

variable {sig : RefSig} {κ : Kind} {sp : Space} {n m a b : ℕ}

/-- A load of a rectangle of a matrix of bf16 numbers. -/
theorem read_part2 {M : Memref sig κ sp ⟨2, ![n, m]⟩ .bf16} (h : M.IsWhole) (f : ℕ → ℕ → ℝ) (o0 o1 : ℕ) (inb) :
    View.readAt (Elt Ideal) M.view
        (Rect.unit (s := ⟨2, ![n, m]⟩) ![o0, o1] (no_index (⟨2, ![a, b]⟩ : Shape).size) inb).toLoadRect
        (h.unread (up2 f : (⟨2, ![n, m]⟩ : Shape).Idx → Elt Ideal .bf16))
      = (up2 fun i k => f (o0 + i) (o1 + k) : (⟨2, ![a, b]⟩ : Shape).Idx → EReal) := by
  funext x
  rw [h.readAt_unread]
  show ((f _ _ : ℝ) : EReal) = _
  rw [idx_val, idx_val]
  show ((f (o0 + 1 * _) (o1 + 1 * _) : ℝ) : EReal) = _
  rw [one_mul, one_mul]
  rfl

/-- A load of a whole matrix of bf16 numbers out of what stores left. -/
theorem read_cov2b (v : View sig κ sp ⟨2, ![n, m]⟩ .bf16) (L : List (View.Piece (Elt Ideal) ⟨2, ![n, m]⟩ .bf16)) (f : ℕ → ℕ → ℝ)
    (hL : View.canon L = (up2 f : (⟨2, ![n, m]⟩ : Shape).Idx → EReal)) (inb) :
    v.readCov L (Rect.unit (s := ⟨2, ![n, m]⟩) ![0, 0] (no_index (⟨2, ![n, m]⟩ : Shape).size) inb).toLoadRect
      = (up2 f : (⟨2, ![n, m]⟩ : Shape).Idx → EReal) := by
  rw [View.readCov_eq_canon', hL]
  funext x
  show ((f _ _ : ℝ) : EReal) = _
  rw [idx_val, idx_val]
  show ((f (0 + 1 * _) (0 + 1 * _) : ℝ) : EReal) = _
  rw [one_mul, one_mul, zero_add, zero_add]
  rfl

end moves

section products

variable {φ ψ : FTy}

/-- The matrix products, over the reals. -/
theorem mm_512 (a b : ℕ → ℕ → ℝ) :
    matmul (F := Ideal) (φ₁ := φ) (φ₂ := ψ) dot_S512x1024_S512x1024_S512x512_1_1_0_0_n_n none (up2 a) (up2 b) (constant S512x512 .f32 0x00000000#32)
      = up2 fun i j => ∑ k ∈ Finset.range 1024, a i k * b j k := by
  funext j
  idx_vars j
  pointwise [up2]
  exact coe_sum_mul (n := 1024) (fun k => a ↑j0 k) (fun k => b ↑j1 k)
theorem mm_4096 (a b : ℕ → ℕ → ℝ) :
    matmul (F := Ideal) (φ₁ := φ) (φ₂ := ψ) dot_S512x4096_S1024x4096_S512x1024_1_1_0_0_n_n none (up2 a) (up2 b) (constant S512x1024 .f32 0x00000000#32)
      = up2 fun i j => ∑ k ∈ Finset.range 4096, a i k * b j k := by
  funext j
  idx_vars j
  pointwise [up2]
  exact coe_sum_mul (n := 4096) (fun k => a ↑j0 k) (fun k => b ↑j1 k)

end products

theorem lit_1024 : (FloatOps.ofBits (F := Ideal) .f32 0x44800000#32 : EReal) = ((1024 : ℝ) : EReal) := by
  show Ideal.ofBits .f32 _ = _; simp [Ideal.ofBits, Ideal.ieee]; rw [← EReal.coe_mul]; norm_num
theorem slit_1024 : (Scalar.ofBits .f32 0x44800000#32 : Ideal .f32) = ((1024 : ℝ) : EReal) := lit_1024
theorem slit_eps : (Scalar.ofBits .f32 0x358637BD#32 : Ideal .f32) = ((eps : ℝ) : EReal) := lit_eps
theorem slit_zero : (Scalar.ofBits .f32 0x00000000#32 : Ideal .f32) = ((0 : ℝ) : EReal) := lit_zero
theorem slit_two : (Scalar.ofBits .f32 0x40000000#32 : Ideal .f32) = ((2 : ℝ) : EReal) := lit_two

theorem divf_1024 {n m : ℕ} {φ : FTy} (f : ℕ → ℕ → ℝ) :
    divf (F := Ideal) (φ := φ) (s := ⟨2, ![n, m]⟩) (up2 f) (up2 fun _ _ => 1024) = up2 fun i k => f i k / 1024 :=
  divf_up2 f 1024 (by norm_num)

variable (dn x g o d a b : ℕ → ℕ → ℝ)

/-- A block of the gradient at the product before the square: a product's block, times twice a block of the activation. -/
def blockOf (a b f : ℕ → ℕ → ℝ) (i j : ℕ) : ℝ := (∑ k ∈ Finset.range 1024, a i k * b j k) * (2 * f i j)

theorem pay6 : k0_pay6 (F := Ideal) (up2 a) (up2 b) (up2 x) = up2 (blockOf a b x) := by
  unfold k0_pay6
  simp only [mm_512, cast_same2, extf_up2, slit_two, broadcast_up2, mulf_up2, truncf_up2]
  rfl
theorem pay7 : k0_pay7 (F := Ideal) (up2 a) (up2 b) (up2 x) = up2 (blockOf a b x) := by
  unfold k0_pay7
  simp only [mm_512, cast_same2, extf_up2, slit_two, broadcast_up2, mulf_up2, truncf_up2]
  rfl
theorem pay11 : k0_pay11 (F := Ideal) (k0_pay8 (up2 a) (up2 b)) (k0_pay9 (up2 x)) k0_pay10 = up2 (blockOf a b x) := by
  unfold k0_pay11 k0_pay8 k0_pay9 k0_pay10
  simp only [mm_512, cast_same2, extf_up2, slit_two, broadcast_up2, mulf_up2, truncf_up2]
  rfl
theorem pay12 : k0_pay12 (F := Ideal) (up2 a) (up2 b) (up2 x) = up2 (blockOf a b x) := by
  unfold k0_pay12
  simp only [mm_512, cast_same2, extf_up2, slit_two, broadcast_up2, mulf_up2, truncf_up2]
  rfl
theorem pay13 : k0_pay13 (F := Ideal) (up2 a) (up2 b) (up2 x) = up2 (blockOf a b x) := by
  unfold k0_pay13
  simp only [mm_512, cast_same2, extf_up2, slit_two, broadcast_up2, mulf_up2, truncf_up2]
  rfl
theorem pay14 : k0_pay14 (F := Ideal) (up2 a) (up2 b) (up2 x) = up2 (blockOf a b x) := by
  unfold k0_pay14
  simp only [mm_512, cast_same2, extf_up2, slit_two, broadcast_up2, mulf_up2, truncf_up2]
  rfl
theorem pay15 : k0_pay15 (F := Ideal) (up2 a) (up2 b) (up2 x) = up2 (blockOf a b x) := by
  unfold k0_pay15
  simp only [mm_512, cast_same2, extf_up2, slit_two, broadcast_up2, mulf_up2, truncf_up2]
  rfl
theorem pay16 : k0_pay16 (F := Ideal) (up2 a) (up2 b) (up2 x) = up2 (blockOf a b x) := by
  unfold k0_pay16
  simp only [mm_512, cast_same2, extf_up2, slit_two, broadcast_up2, mulf_up2, truncf_up2]
  rfl

/-- The gradient at the normalised rows. -/
theorem pay17 : k0_pay17 (F := Ideal) (up2 a) (up2 b) = up2 fun i j => ∑ k ∈ Finset.range 4096, a i k * b j k := by
  unfold k0_pay17
  simp only [mm_4096, cast_same2]

/-- The mean squares and their reciprocal roots. -/
theorem pay18 : k0_pay18 (F := Ideal) (up2 x) = up1 fun i => ∑ k ∈ Finset.range 1024, x i k * x i k := by
  unfold k0_pay18
  simp only [mulf_up2]
  exact reduce_rows _ _ _ _
theorem pay19 : k0_pay19 (F := Ideal) (k0_pay18 (up2 x)) = up2 fun i _ => Rms.r x i := by
  unfold k0_pay19
  simp only [pay18, cast_col, slit_1024, slit_eps, broadcast_up2, divf_1024, addf_up2]
  exact rsqrt_up2 (fun i _ => Rms.w x i) fun i _ => Rms.w_pos x i
theorem pay22 : k0_pay22 (F := Ideal) (up2 x) = up2 x := rfl
theorem pay23 : k0_pay23 (F := Ideal) (up2 x) = up2 fun i _ => ∑ k ∈ Finset.range 1024, x i k * x i k := by
  unfold k0_pay23
  simp only [pay22, mulf_up2, reduce_rows, cast_col]
theorem pay1 : k0_pay1 (F := Ideal) (k0_pay23 (up2 x)) (FloatOps.ofBits .f32 0x44800000#32) = up2 fun i _ => Rms.r x i := by
  unfold k0_pay1
  simp only [pay23, lit_1024, slit_eps, broadcast_up2, divf_1024, addf_up2]
  exact rsqrt_up2 (fun i _ => Rms.w x i) fun i _ => Rms.w_pos x i

/-- The gradients at the rows, and the rows' parts of the gains' gradients. -/
theorem pay20 : k0_pay20 (F := Ideal) (up2 dn) (up2 x) (up2 g) (k0_pay18 (up2 x)) (up2 d) = up2 fun i k => d i k + Rms.dsrc dn x g i k := by
  unfold k0_pay20
  simp only [pay19, mulf_up2, addf_up2, subf_up2, bcast_row, bcast_col, reduce_rows, cast_col, slit_1024, broadcast_up2, divf_1024]
  rfl
theorem pay21 : k0_pay21 (F := Ideal) (up2 dn) (up2 x) (k0_pay18 (up2 x)) (up2 o) = up2 fun i k => o i k + ∑ r ∈ Finset.range 512, Rms.dgain dn x r k := by
  unfold k0_pay21
  simp only [pay19, mulf_up2, addf_up2, bcast_col, reduce_cols, cast_row, cast_same2]
  rfl
theorem pay2 : k0_pay2 (F := Ideal) (up2 dn) (k0_pay22 (up2 x)) (up2 g) (k0_pay23 (up2 x)) (FloatOps.ofBits .f32 0x44800000#32) = up2 (Rms.dsrc dn x g) := by
  unfold k0_pay2
  simp only [pay1, pay22]
  simp only [mulf_up2, addf_up2, subf_up2, bcast_row, bcast_col, reduce_rows, cast_col, slit_1024, broadcast_up2, divf_1024, truncf_up2]
  rfl
theorem pay3 : k0_pay3 (F := Ideal) (up2 dn) (k0_pay22 (up2 x)) (k0_pay23 (up2 x)) (FloatOps.ofBits .f32 0x44800000#32) (up2 o)
    = up2 fun i k => o i k + ∑ r ∈ Finset.range 512, Rms.dgain dn x r k := by
  unfold k0_pay3
  simp only [pay1, pay22, mulf_up2, addf_up2, bcast_col, reduce_cols, cast_row, cast_same2]
  rfl
theorem pay4 : k0_pay4 (F := Ideal) = up2 fun _ _ => 0 := by
  unfold k0_pay4
  simp only [slit_zero, broadcast_up2]
theorem pay5 : k0_pay5 (F := Ideal) = up2 fun _ _ => 0 := by
  unfold k0_pay5
  simp only [slit_zero, broadcast_up2]

end Cert.MLift

end
-- ==== Proof.MlpKer.lean ====
/-
  What the second kernel's body computes at a point of its grid, of arrays of reals.
-/
module

public import proofs.«01_k».proof.Proof.MlpPay
public import proofs.«01_k».proof.Proof.Gen.MlpIdeal.Frame

@[expose] public section

set_option maxHeartbeats 1000000

noncomputable section

namespace Cert.MLift

open Idealize.ShloMosaic Cert.MlpIdeal Cert.MlpIdeal.Gen Cert.Lift

variable {c : Dev nD} {i : grid0.Coords}
  {arg1 : Memref sig .tc .vmem S512x1024 .bf16} {harg1 : arg1.IsWhole}
  {arg2 : Memref sig .tc .vmem S512x4096 .bf16} {harg2 : arg2.IsWhole}
  {arg3 : Memref sig .tc .vmem S4096x1024 .bf16} {harg3 : arg3.IsWhole}
  {arg4 : Memref sig .tc .vmem S1024x4096 .bf16} {harg4 : arg4.IsWhole}
  {arg5 : Memref sig .tc .vmem S512x1024 .f32} {harg5 : arg5.IsWhole}
  {arg6 : Memref sig .tc .vmem S512x1024 .f32} {harg6 : arg6.IsWhole}
  {arg7 : Memref sig .tc .vmem S512x1024 .bf16} {harg7 : arg7.IsWhole}
  {arg8 : Memref sig .tc .vmem S1x1024 .f32} {harg8 : arg8.IsWhole}
  {arg9 : Memref sig .tc .vmem S1x1024 .f32} {harg9 : arg9.IsWhole}
  {arg10 : Memref sig .tc .vmem S512x4096 .bf16} {harg10 : arg10.IsWhole}
  {arg11 : Memref sig .tc .vmem S512x1024 .f32} {harg11 : arg11.IsWhole}
  {arg12 : Memref sig .tc .vmem S512x1024 .bf16} {harg12 : arg12.IsWhole}
  {arg13 : Memref sig .tc .vmem S1x1024 .f32} {harg13 : arg13.IsWhole}
  {arg14 : Memref sig .tc .vmem S1x1024 .f32} {harg14 : arg14.IsWhole}
  {X : MIn} {o2 o1 : ℕ → ℕ → ℝ}

/-- The gradient at the product before the square, as the eight stores leave it. -/
theorem H9_A : View.canon (kernelRun0_A.sl.H9_8 (F := Ideal) c arg1 harg1 arg2 harg2 arg3 harg3 (up2 X.dy) (up2 X.a) (up2 X.wmo)) = (up2 X.dap : S512x4096.Idx → EReal) := by
  unfold kernelRun0_A.sl.H9_8
  exact canon_of_pieces _ _ (po2b 0 3584 (f := blockOf (fun i k => X.dy (0 + i) (0 + k)) (fun i k => X.wmo (3584 + i) (0 + k)) (fun i k => X.a (0 + i) (3584 + k)))
      (by simp only [kernelRun0_A.sl.r, kernelRun0_A.sl.r_1, kernelRun0_A.sl.r_2, kernelRun0_A.sl.r_3, read_whole2, read_part2, pay16]) (fun i _ k _ => by simp only [blockOf, MIn.dap, MIn.da, Nat.zero_add]) <| po2b 0 3072 (f := blockOf (fun i k => X.dy (0 + i) (0 + k)) (fun i k => X.wmo (3072 + i) (0 + k)) (fun i k => X.a (0 + i) (3072 + k)))
      (by simp only [kernelRun0_A.sl.r, kernelRun0_A.sl.r_1, kernelRun0_A.sl.r_2, kernelRun0_A.sl.r_3, read_whole2, read_part2, pay15]) (fun i _ k _ => by simp only [blockOf, MIn.dap, MIn.da, Nat.zero_add]) <| po2b 0 2560 (f := blockOf (fun i k => X.dy (0 + i) (0 + k)) (fun i k => X.wmo (2560 + i) (0 + k)) (fun i k => X.a (0 + i) (2560 + k)))
      (by simp only [kernelRun0_A.sl.r, kernelRun0_A.sl.r_1, kernelRun0_A.sl.r_2, kernelRun0_A.sl.r_3, read_whole2, read_part2, pay14]) (fun i _ k _ => by simp only [blockOf, MIn.dap, MIn.da, Nat.zero_add]) <| po2b 0 2048 (f := blockOf (fun i k => X.dy (0 + i) (0 + k)) (fun i k => X.wmo (2048 + i) (0 + k)) (fun i k => X.a (0 + i) (2048 + k)))
      (by simp only [kernelRun0_A.sl.r, kernelRun0_A.sl.r_1, kernelRun0_A.sl.r_2, kernelRun0_A.sl.r_3, read_whole2, read_part2, pay13]) (fun i _ k _ => by simp only [blockOf, MIn.dap, MIn.da, Nat.zero_add]) <| po2b 0 1536 (f := blockOf (fun i k => X.dy (0 + i) (0 + k)) (fun i k => X.wmo (1536 + i) (0 + k)) (fun i k => X.a (0 + i) (1536 + k)))
      (by simp only [kernelRun0_A.sl.r, kernelRun0_A.sl.r_1, kernelRun0_A.sl.r_2, kernelRun0_A.sl.r_3, read_whole2, read_part2, pay12]) (fun i _ k _ => by simp only [blockOf, MIn.dap, MIn.da, Nat.zero_add]) <| po2b 0 1024 (f := blockOf (fun i k => X.dy (0 + i) (0 + k)) (fun i k => X.wmo (1024 + i) (0 + k)) (fun i k => X.a (0 + i) (1024 + k)))
      (by simp only [kernelRun0_A.sl.r, kernelRun0_A.sl.r_1, kernelRun0_A.sl.r_2, kernelRun0_A.sl.r_3, read_whole2, read_part2, pay11]) (fun i _ k _ => by simp only [blockOf, MIn.dap, MIn.da, Nat.zero_add]) <| po2b 0 512 (f := blockOf (fun i k => X.dy (0 + i) (0 + k)) (fun i k => X.wmo (512 + i) (0 + k)) (fun i k => X.a (0 + i) (512 + k)))
      (by simp only [kernelRun0_A.sl.r, kernelRun0_A.sl.r_1, kernelRun0_A.sl.r_2, kernelRun0_A.sl.r_3, read_whole2, read_part2, pay7]) (fun i _ k _ => by simp only [blockOf, MIn.dap, MIn.da, Nat.zero_add]) <| po2b 0 0 (f := blockOf (fun i k => X.dy (0 + i) (0 + k)) (fun i k => X.wmo (0 + i) (0 + k)) (fun i k => X.a (0 + i) (0 + k)))
      (by simp only [kernelRun0_A.sl.r, kernelRun0_A.sl.r_1, kernelRun0_A.sl.r_2, kernelRun0_A.sl.r_3, read_whole2, read_part2, pay6]) (fun i _ k _ => by simp only [blockOf, MIn.dap, MIn.da, Nat.zero_add]) <| trivial)
    fun y => View.cover_of_tiledL (s := S512x4096) _ S512x512.size (by sl_kernel_rfl) y
theorem v84_A : kernelRun0_A.sl.v84 (F := Ideal) c arg1 harg1 arg2 harg2 arg3 harg3 arg10 (up2 X.dy) (up2 X.a) (up2 X.wmo) = up2 X.dap := read_cov2b _ _ _ H9_A _
/-- The gradient at the normalised rows, and at the rows. -/
theorem r4_A : kernelRun0_A.sl.r_4 (F := Ideal) c arg1 harg1 arg2 harg2 arg3 harg3 arg4 harg4 arg10 (up2 X.dy) (up2 X.a) (up2 X.wmo) (up2 X.wmi) = up2 X.dh := by
  simp only [kernelRun0_A.sl.r_4, v84_A, read_whole2, pay17]
  rfl
theorem dx_A : k0_pay20 (kernelRun0_A.sl.r_4 (F := Ideal) c arg1 harg1 arg2 harg2 arg3 harg3 arg4 harg4 arg10 (up2 X.dy) (up2 X.a) (up2 X.wmo) (up2 X.wmi)) (kernelRun0_A.sl.r_5 c arg6 harg6 (up2 X.x)) (kernelRun0_A.sl.r_6 c arg8 harg8 (up2 X.g2)) (kernelRun0_A.sl.r_7 c arg6 harg6 (up2 X.x))
    (View.readAt (Elt Ideal) arg5.view (Rect.unit ![0, 0] S512x1024.size inb_S512x1024_S512x1024_0_0).toLoadRect (harg5.unread (up2 X.dout))) = up2 X.dx := by
  simp only [r4_A, kernelRun0_A.sl.r_5, kernelRun0_A.sl.r_6, kernelRun0_A.sl.r_7, read_whole2, pay20]
  rfl
theorem r8_A : kernelRun0_A.sl.r_8 (F := Ideal) c arg1 harg1 arg2 harg2 arg3 harg3 arg4 harg4 arg5 harg5 arg6 harg6 arg8 harg8 arg10 (up2 X.dy) (up2 X.a) (up2 X.wmo) (up2 X.wmi) (up2 X.dout) (up2 X.x) (up2 X.g2) = up2 X.dx := dx_A

/-- What the body leaves in the five output windows. -/
theorem out9_A {hc0} : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1) = up2 X.dap := by
  refine (View.read_writes_junk_eq_canon _ _).trans ?_
  unfold kernelRun0_A
  dsimp only
  exact H9_A
theorem out10_A {hc0} : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1) = up2 X.dx := by
  refine (View.read_writes_junk_eq_canon _ _).trans ?_
  unfold kernelRun0_A
  dsimp only
  exact canon_of_pieces _ _ (po2 0 0 dx_A (fun i _ k _ => by rw [zero_add, zero_add]) <| trivial)
    fun y => View.cover_of_tiledL (s := S512x1024) _ S512x1024.size (by sl_kernel_rfl) y
theorem out11_A {hc0} : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1) = up2 X.dyy := by
  refine (View.read_writes_junk_eq_canon _ _).trans ?_
  unfold kernelRun0_A
  dsimp only
  exact canon_of_pieces _ _ (po2b 0 0 (f := X.dyy) (by
      simp only [r8_A, kernelRun0_A.sl.r_9, kernelRun0_A.sl.r_10, kernelRun0_A.sl.r_11, kernelRun0_A.sl.cst_86, read_whole2, pay2]
      rfl) (fun i _ k _ => by rw [zero_add, zero_add]) <| trivial)
    fun y => View.cover_of_tiledL (s := S512x1024) _ S512x1024.size (by sl_kernel_rfl) y
theorem out12_A {hc0} : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1)
    = up2 fun i k => 0 + ∑ r ∈ Finset.range 512, Rms.dgain X.dh X.x r k := by
  refine (View.read_writes_junk_eq_canon _ _).trans ?_
  unfold kernelRun0_A
  dsimp only
  exact (View.canon_cons_unit_lit' _ _ _ fun a => by match a with | ⟨0, _⟩ => rfl | ⟨1, _⟩ => rfl).trans (by
    simp only [r4_A, kernelRun0_A.sl.r_5, kernelRun0_A.sl.r_7, read_whole2, kernelRun0_A.sl.v121, kernelRun0_A.sl.H12_1, View.readCov_cons_toLoadRect, pay4, pay21])
theorem out13_A {hc0} : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1)
    = up2 fun i k => 0 + ∑ r ∈ Finset.range 512, Rms.dgain X.dx X.y r k := by
  refine (View.read_writes_junk_eq_canon _ _).trans ?_
  unfold kernelRun0_A
  dsimp only
  exact (View.canon_cons_unit_lit' _ _ _ fun a => by match a with | ⟨0, _⟩ => rfl | ⟨1, _⟩ => rfl).trans (by
    simp only [r8_A, kernelRun0_A.sl.r_9, kernelRun0_A.sl.r_11, kernelRun0_A.sl.cst_86, read_whole2, kernelRun0_A.sl.v158, kernelRun0_A.sl.H13_1, View.readCov_cons_toLoadRect, pay5, pay3])

/-- The gradient at the product before the square, as the eight stores leave it. -/
theorem H9_B : View.canon (kernelRun0_B.sl.H9_8 (F := Ideal) c arg1 harg1 arg2 harg2 arg3 harg3 (up2 X.dy) (up2 X.a) (up2 X.wmo)) = (up2 X.dap : S512x4096.Idx → EReal) := by
  unfold kernelRun0_B.sl.H9_8
  exact canon_of_pieces _ _ (po2b 0 3584 (f := blockOf (fun i k => X.dy (0 + i) (0 + k)) (fun i k => X.wmo (3584 + i) (0 + k)) (fun i k => X.a (0 + i) (3584 + k)))
      (by simp only [kernelRun0_B.sl.r, kernelRun0_B.sl.r_1, kernelRun0_B.sl.r_2, kernelRun0_B.sl.r_3, read_whole2, read_part2, pay16]) (fun i _ k _ => by simp only [blockOf, MIn.dap, MIn.da, Nat.zero_add]) <| po2b 0 3072 (f := blockOf (fun i k => X.dy (0 + i) (0 + k)) (fun i k => X.wmo (3072 + i) (0 + k)) (fun i k => X.a (0 + i) (3072 + k)))
      (by simp only [kernelRun0_B.sl.r, kernelRun0_B.sl.r_1, kernelRun0_B.sl.r_2, kernelRun0_B.sl.r_3, read_whole2, read_part2, pay15]) (fun i _ k _ => by simp only [blockOf, MIn.dap, MIn.da, Nat.zero_add]) <| po2b 0 2560 (f := blockOf (fun i k => X.dy (0 + i) (0 + k)) (fun i k => X.wmo (2560 + i) (0 + k)) (fun i k => X.a (0 + i) (2560 + k)))
      (by simp only [kernelRun0_B.sl.r, kernelRun0_B.sl.r_1, kernelRun0_B.sl.r_2, kernelRun0_B.sl.r_3, read_whole2, read_part2, pay14]) (fun i _ k _ => by simp only [blockOf, MIn.dap, MIn.da, Nat.zero_add]) <| po2b 0 2048 (f := blockOf (fun i k => X.dy (0 + i) (0 + k)) (fun i k => X.wmo (2048 + i) (0 + k)) (fun i k => X.a (0 + i) (2048 + k)))
      (by simp only [kernelRun0_B.sl.r, kernelRun0_B.sl.r_1, kernelRun0_B.sl.r_2, kernelRun0_B.sl.r_3, read_whole2, read_part2, pay13]) (fun i _ k _ => by simp only [blockOf, MIn.dap, MIn.da, Nat.zero_add]) <| po2b 0 1536 (f := blockOf (fun i k => X.dy (0 + i) (0 + k)) (fun i k => X.wmo (1536 + i) (0 + k)) (fun i k => X.a (0 + i) (1536 + k)))
      (by simp only [kernelRun0_B.sl.r, kernelRun0_B.sl.r_1, kernelRun0_B.sl.r_2, kernelRun0_B.sl.r_3, read_whole2, read_part2, pay12]) (fun i _ k _ => by simp only [blockOf, MIn.dap, MIn.da, Nat.zero_add]) <| po2b 0 1024 (f := blockOf (fun i k => X.dy (0 + i) (0 + k)) (fun i k => X.wmo (1024 + i) (0 + k)) (fun i k => X.a (0 + i) (1024 + k)))
      (by simp only [kernelRun0_B.sl.r, kernelRun0_B.sl.r_1, kernelRun0_B.sl.r_2, kernelRun0_B.sl.r_3, read_whole2, read_part2, pay11]) (fun i _ k _ => by simp only [blockOf, MIn.dap, MIn.da, Nat.zero_add]) <| po2b 0 512 (f := blockOf (fun i k => X.dy (0 + i) (0 + k)) (fun i k => X.wmo (512 + i) (0 + k)) (fun i k => X.a (0 + i) (512 + k)))
      (by simp only [kernelRun0_B.sl.r, kernelRun0_B.sl.r_1, kernelRun0_B.sl.r_2, kernelRun0_B.sl.r_3, read_whole2, read_part2, pay7]) (fun i _ k _ => by simp only [blockOf, MIn.dap, MIn.da, Nat.zero_add]) <| po2b 0 0 (f := blockOf (fun i k => X.dy (0 + i) (0 + k)) (fun i k => X.wmo (0 + i) (0 + k)) (fun i k => X.a (0 + i) (0 + k)))
      (by simp only [kernelRun0_B.sl.r, kernelRun0_B.sl.r_1, kernelRun0_B.sl.r_2, kernelRun0_B.sl.r_3, read_whole2, read_part2, pay6]) (fun i _ k _ => by simp only [blockOf, MIn.dap, MIn.da, Nat.zero_add]) <| trivial)
    fun y => View.cover_of_tiledL (s := S512x4096) _ S512x512.size (by sl_kernel_rfl) y
theorem v84_B : kernelRun0_B.sl.v84 (F := Ideal) c arg1 harg1 arg2 harg2 arg3 harg3 arg10 (up2 X.dy) (up2 X.a) (up2 X.wmo) = up2 X.dap := read_cov2b _ _ _ H9_B _
/-- The gradient at the normalised rows, and at the rows. -/
theorem r4_B : kernelRun0_B.sl.r_4 (F := Ideal) c arg1 harg1 arg2 harg2 arg3 harg3 arg4 harg4 arg10 (up2 X.dy) (up2 X.a) (up2 X.wmo) (up2 X.wmi) = up2 X.dh := by
  simp only [kernelRun0_B.sl.r_4, v84_B, read_whole2, pay17]
  rfl
theorem dx_B : k0_pay20 (kernelRun0_B.sl.r_4 (F := Ideal) c arg1 harg1 arg2 harg2 arg3 harg3 arg4 harg4 arg10 (up2 X.dy) (up2 X.a) (up2 X.wmo) (up2 X.wmi)) (kernelRun0_B.sl.r_5 c arg6 harg6 (up2 X.x)) (kernelRun0_B.sl.r_6 c arg8 harg8 (up2 X.g2)) (kernelRun0_B.sl.r_7 c arg6 harg6 (up2 X.x))
    (View.readAt (Elt Ideal) arg5.view (Rect.unit ![0, 0] S512x1024.size inb_S512x1024_S512x1024_0_0).toLoadRect (harg5.unread (up2 X.dout))) = up2 X.dx := by
  simp only [r4_B, kernelRun0_B.sl.r_5, kernelRun0_B.sl.r_6, kernelRun0_B.sl.r_7, read_whole2, pay20]
  rfl
theorem r8_B : kernelRun0_B.sl.r_8 (F := Ideal) c arg1 harg1 arg2 harg2 arg3 harg3 arg4 harg4 arg5 harg5 arg6 harg6 arg8 harg8 arg10 (up2 X.dy) (up2 X.a) (up2 X.wmo) (up2 X.wmi) (up2 X.dout) (up2 X.x) (up2 X.g2) = up2 X.dx := dx_B

/-- What the body leaves in the five output windows. -/
theorem out9_B {hc0} : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1) (up2 o2) (up2 o1) = up2 X.dap := by
  refine (View.read_writes_junk_eq_canon _ _).trans ?_
  unfold kernelRun0_B
  dsimp only
  exact H9_B
theorem out10_B {hc0} : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1) (up2 o2) (up2 o1) = up2 X.dx := by
  refine (View.read_writes_junk_eq_canon _ _).trans ?_
  unfold kernelRun0_B
  dsimp only
  exact canon_of_pieces _ _ (po2 0 0 dx_B (fun i _ k _ => by rw [zero_add, zero_add]) <| trivial)
    fun y => View.cover_of_tiledL (s := S512x1024) _ S512x1024.size (by sl_kernel_rfl) y
theorem out11_B {hc0} : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1) (up2 o2) (up2 o1) = up2 X.dyy := by
  refine (View.read_writes_junk_eq_canon _ _).trans ?_
  unfold kernelRun0_B
  dsimp only
  exact canon_of_pieces _ _ (po2b 0 0 (f := X.dyy) (by
      simp only [r8_B, kernelRun0_B.sl.r_9, kernelRun0_B.sl.r_10, kernelRun0_B.sl.r_11, kernelRun0_B.sl.cst_86, read_whole2, pay2]
      rfl) (fun i _ k _ => by rw [zero_add, zero_add]) <| trivial)
    fun y => View.cover_of_tiledL (s := S512x1024) _ S512x1024.size (by sl_kernel_rfl) y
theorem out12_B {hc0} : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1) (up2 o2) (up2 o1)
    = up2 fun i k => o2 i k + ∑ r ∈ Finset.range 512, Rms.dgain X.dh X.x r k := by
  refine (View.read_writes_junk_eq_canon _ _).trans ?_
  unfold kernelRun0_B
  dsimp only
  exact (View.canon_cons_unit_lit' _ _ _ fun a => by match a with | ⟨0, _⟩ => rfl | ⟨1, _⟩ => rfl).trans (by
    simp only [r4_B, kernelRun0_B.sl.r_5, kernelRun0_B.sl.r_7, read_whole2, read_whole2, pay21])
theorem out13_B {hc0} : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 (up2 X.dy) (up2 X.a) (up2 X.wmo) (up2 X.wmi) (up2 X.dout) (up2 X.x) (up2 X.y) (up2 X.g2) (up2 X.g1) (up2 o2) (up2 o1)
    = up2 fun i k => o1 i k + ∑ r ∈ Finset.range 512, Rms.dgain X.dx X.y r k := by
  refine (View.read_writes_junk_eq_canon _ _).trans ?_
  unfold kernelRun0_B
  dsimp only
  exact (View.canon_cons_unit_lit' _ _ _ fun a => by match a with | ⟨0, _⟩ => rfl | ⟨1, _⟩ => rfl).trans (by
    simp only [r8_B, kernelRun0_B.sl.r_9, kernelRun0_B.sl.r_11, kernelRun0_B.sl.cst_86, read_whole2, read_whole2, pay3])

end Cert.MLift

end
-- ==== Proof.MlpLaunch.lean ====
/-
  The second kernel's launch: what it reads at a point of its grid, what every point leaves, and the arrays it leaves.
-/
module

public import proofs.«01_k».proof.Proof.MlpKer
public import proofs.«01_k».proof.Proof.Gen.MlpIdeal.Value
public import Idealize.ShloMosaic.Lib.Pipeline.ValueKit

@[expose] public section

set_option maxHeartbeats 1000000

noncomputable section

namespace Cert.MLift

open Idealize.ShloMosaic Cert.MlpIdeal Cert.MlpIdeal.Gen Cert.Lift

variable (m : (ℓ : Loc nD τ sig) → Buf (Elt Ideal) ℓ) (c : Dev nD) (A : MArgs)

/-- What the launch finds in its operands' buffers on device `c`. -/
structure Sees : Prop where
  main_arg0 : (V m c main_arg0 : S8192x1024.Idx → EReal) = up2 A.dy
  main_v15 : (V m c main_v15 : S8192x4096.Idx → EReal) = up2 A.toIn.a
  main_arg1 : (V m c main_arg1 : S4096x1024.Idx → EReal) = up2 A.wmo
  main_arg2 : (V m c main_arg2 : S1024x4096.Idx → EReal) = up2 A.wmi
  main_arg3 : (V m c main_arg3 : S8192x1024.Idx → EReal) = up2 A.dout
  main_arg4 : (V m c main_arg4 : S8192x1024.Idx → EReal) = up2 A.x
  main_arg5 : (V m c main_arg5 : S8192x1024.Idx → EReal) = up2 A.y
  main_arg6 : (V m c main_arg6 : S1x1024.Idx → EReal) = up2 A.g2
  main_arg7 : (V m c main_arg7 : S1x1024.Idx → EReal) = up2 A.g1

variable {m c A}

theorem tr0 (t : Fin cfg0.N) : win0_0.index t = ![t.val, 0] :=
  (by decide +kernel : ∀ t : Fin grid0.N, win0_0.index t = ![t.val, 0]) t
theorem iblk_0 (h : Sees m c A) (t : Fin cfg0.N) : (iblk m c 0 t : S512x1024.Idx → EReal) = up2 (A.toIn.blk t.val).dy := by
  funext y
  have e : iblk m c 0 t y = V m c main_arg0 (((cfg0.win 0).blk t).view.emb y) := rfl
  rw [e, h.main_arg0]
  show ((A.dy _ _ : ℝ) : EReal) = _
  blk_simp
  rw [tr0]
  show ((A.dy (t.val * 512 + _) (0 * 1024 + _) : ℝ) : EReal) = ((A.dy (512 * t.val + _) _ : ℝ) : EReal)
  rw [Nat.mul_comm t.val, Nat.zero_mul, Nat.zero_add]

theorem tr1 (t : Fin cfg0.N) : win0_1.index t = ![t.val, 0] :=
  (by decide +kernel : ∀ t : Fin grid0.N, win0_1.index t = ![t.val, 0]) t
theorem iblk_1 (h : Sees m c A) (t : Fin cfg0.N) : (iblk m c 1 t : S512x4096.Idx → EReal) = up2 (A.toIn.blk t.val).a := by
  funext y
  have e : iblk m c 1 t y = V m c main_v15 (((cfg0.win 1).blk t).view.emb y) := rfl
  rw [e, h.main_v15]
  show ((A.toIn.a _ _ : ℝ) : EReal) = _
  blk_simp
  rw [tr1]
  show ((A.toIn.a (t.val * 512 + _) (0 * 4096 + _) : ℝ) : EReal) = ((A.toIn.a (512 * t.val + _) _ : ℝ) : EReal)
  rw [Nat.mul_comm t.val, Nat.zero_mul, Nat.zero_add]

theorem tr2 (t : Fin cfg0.N) : win0_2.index t = ![0, 0] :=
  (by decide +kernel : ∀ t : Fin grid0.N, win0_2.index t = ![0, 0]) t
theorem iblk_2 (h : Sees m c A) (t : Fin cfg0.N) : (iblk m c 2 t : S4096x1024.Idx → EReal) = up2 (A.toIn.blk t.val).wmo := by
  funext y
  have e : iblk m c 2 t y = V m c main_arg1 (((cfg0.win 2).blk t).view.emb y) := rfl
  rw [e, h.main_arg1]
  show ((A.wmo _ _ : ℝ) : EReal) = _
  blk_simp
  rw [tr2]
  show ((A.wmo (0 * 4096 + _) (0 * 1024 + _) : ℝ) : EReal) = ((A.wmo _ _ : ℝ) : EReal)
  simp only [Nat.zero_mul, Nat.zero_add]

theorem tr3 (t : Fin cfg0.N) : win0_3.index t = ![0, 0] :=
  (by decide +kernel : ∀ t : Fin grid0.N, win0_3.index t = ![0, 0]) t
theorem iblk_3 (h : Sees m c A) (t : Fin cfg0.N) : (iblk m c 3 t : S1024x4096.Idx → EReal) = up2 (A.toIn.blk t.val).wmi := by
  funext y
  have e : iblk m c 3 t y = V m c main_arg2 (((cfg0.win 3).blk t).view.emb y) := rfl
  rw [e, h.main_arg2]
  show ((A.wmi _ _ : ℝ) : EReal) = _
  blk_simp
  rw [tr3]
  show ((A.wmi (0 * 1024 + _) (0 * 4096 + _) : ℝ) : EReal) = ((A.wmi _ _ : ℝ) : EReal)
  simp only [Nat.zero_mul, Nat.zero_add]

theorem tr4 (t : Fin cfg0.N) : win0_4.index t = ![t.val, 0] :=
  (by decide +kernel : ∀ t : Fin grid0.N, win0_4.index t = ![t.val, 0]) t
theorem iblk_4 (h : Sees m c A) (t : Fin cfg0.N) : (iblk m c 4 t : S512x1024.Idx → EReal) = up2 (A.toIn.blk t.val).dout := by
  funext y
  have e : iblk m c 4 t y = V m c main_arg3 (((cfg0.win 4).blk t).view.emb y) := rfl
  rw [e, h.main_arg3]
  show ((A.dout _ _ : ℝ) : EReal) = _
  blk_simp
  rw [tr4]
  show ((A.dout (t.val * 512 + _) (0 * 1024 + _) : ℝ) : EReal) = ((A.dout (512 * t.val + _) _ : ℝ) : EReal)
  rw [Nat.mul_comm t.val, Nat.zero_mul, Nat.zero_add]

theorem tr5 (t : Fin cfg0.N) : win0_5.index t = ![t.val, 0] :=
  (by decide +kernel : ∀ t : Fin grid0.N, win0_5.index t = ![t.val, 0]) t
theorem iblk_5 (h : Sees m c A) (t : Fin cfg0.N) : (iblk m c 5 t : S512x1024.Idx → EReal) = up2 (A.toIn.blk t.val).x := by
  funext y
  have e : iblk m c 5 t y = V m c main_arg4 (((cfg0.win 5).blk t).view.emb y) := rfl
  rw [e, h.main_arg4]
  show ((A.x _ _ : ℝ) : EReal) = _
  blk_simp
  rw [tr5]
  show ((A.x (t.val * 512 + _) (0 * 1024 + _) : ℝ) : EReal) = ((A.x (512 * t.val + _) _ : ℝ) : EReal)
  rw [Nat.mul_comm t.val, Nat.zero_mul, Nat.zero_add]

theorem tr6 (t : Fin cfg0.N) : win0_6.index t = ![t.val, 0] :=
  (by decide +kernel : ∀ t : Fin grid0.N, win0_6.index t = ![t.val, 0]) t
theorem iblk_6 (h : Sees m c A) (t : Fin cfg0.N) : (iblk m c 6 t : S512x1024.Idx → EReal) = up2 (A.toIn.blk t.val).y := by
  funext y
  have e : iblk m c 6 t y = V m c main_arg5 (((cfg0.win 6).blk t).view.emb y) := rfl
  rw [e, h.main_arg5]
  show ((A.y _ _ : ℝ) : EReal) = _
  blk_simp
  rw [tr6]
  show ((A.y (t.val * 512 + _) (0 * 1024 + _) : ℝ) : EReal) = ((A.y (512 * t.val + _) _ : ℝ) : EReal)
  rw [Nat.mul_comm t.val, Nat.zero_mul, Nat.zero_add]

theorem tr7 (t : Fin cfg0.N) : win0_7.index t = ![0, 0] :=
  (by decide +kernel : ∀ t : Fin grid0.N, win0_7.index t = ![0, 0]) t
theorem iblk_7 (h : Sees m c A) (t : Fin cfg0.N) : (iblk m c 7 t : S1x1024.Idx → EReal) = up2 (A.toIn.blk t.val).g2 := by
  funext y
  have e : iblk m c 7 t y = V m c main_arg6 (((cfg0.win 7).blk t).view.emb y) := rfl
  rw [e, h.main_arg6]
  show ((A.g2 _ _ : ℝ) : EReal) = _
  blk_simp
  rw [tr7]
  have hy : (y 0).val = 0 := by have : (y 0).val < 1 := (y 0).isLt; omega
  show ((A.g2 0 (0 * 1024 + _) : ℝ) : EReal) = ((A.g2 (y 0).val _ : ℝ) : EReal)
  rw [hy, Nat.zero_mul, Nat.zero_add]

theorem tr8 (t : Fin cfg0.N) : win0_8.index t = ![0, 0] :=
  (by decide +kernel : ∀ t : Fin grid0.N, win0_8.index t = ![0, 0]) t
theorem iblk_8 (h : Sees m c A) (t : Fin cfg0.N) : (iblk m c 8 t : S1x1024.Idx → EReal) = up2 (A.toIn.blk t.val).g1 := by
  funext y
  have e : iblk m c 8 t y = V m c main_arg7 (((cfg0.win 8).blk t).view.emb y) := rfl
  rw [e, h.main_arg7]
  show ((A.g1 _ _ : ℝ) : EReal) = _
  blk_simp
  rw [tr8]
  have hy : (y 0).val = 0 := by have : (y 0).val < 1 := (y 0).isLt; omega
  show ((A.g1 0 (0 * 1024 + _) : ℝ) : EReal) = ((A.g1 (y 0).val _ : ℝ) : EReal)
  rw [hy, Nat.zero_mul, Nat.zero_add]

/-- What point `n` leaves: its own blocks of the first three results, and the sums so far of the other two. -/
def Left (A : MArgs) (n : ℕ) (o : Vec Ideal S512x4096 .bf16 × Vec Ideal S512x1024 .f32 × Vec Ideal S512x1024 .bf16 × Vec Ideal S1x1024 .f32 × Vec Ideal S1x1024 .f32) : Prop :=
  o.1 = up2 (A.toIn.blk n).dap
  ∧ o.2.1 = up2 (A.toIn.blk n).dx
  ∧ o.2.2.1 = up2 (A.toIn.blk n).dyy
  ∧ o.2.2.2.1 = (up2 fun _ k => A.toIn.dg2 (512 * (n + 1)) k)
  ∧ o.2.2.2.2 = (up2 fun _ k => A.toIn.dg1 (512 * (n + 1)) k)

/-- At the first point. -/
theorem left_A (h : Sees m c A) (t : Fin cfg0.N) (h0 : t.val % 16 = 0) (ht : t.val = 0) : Left A t.val (outsAt0 m c t.val t.isLt) := by
  rw [outsAt0_A m c t h0]
  refine ⟨?_, ?_, ?_, ?_, ?_⟩
  all_goals dsimp only
  · rw [iblk_0 h t, iblk_1 h t, iblk_2 h t, iblk_3 h t, iblk_4 h t, iblk_5 h t, iblk_6 h t, iblk_7 h t, iblk_8 h t]
    exact out9_A
  · rw [iblk_0 h t, iblk_1 h t, iblk_2 h t, iblk_3 h t, iblk_4 h t, iblk_5 h t, iblk_6 h t, iblk_7 h t, iblk_8 h t]
    exact out10_A
  · rw [iblk_0 h t, iblk_1 h t, iblk_2 h t, iblk_3 h t, iblk_4 h t, iblk_5 h t, iblk_6 h t, iblk_7 h t, iblk_8 h t]
    exact out11_A
  · rw [iblk_0 h t, iblk_1 h t, iblk_2 h t, iblk_3 h t, iblk_4 h t, iblk_5 h t, iblk_6 h t, iblk_7 h t, iblk_8 h t]
    refine out12_A.trans (up2_congr fun i _ k _ => ?_)
    rw [A.toIn.dg2_succ t.val _, ht]
    simp only [MIn.dg2, Nat.mul_zero, Finset.range_zero, Finset.sum_empty]
  · rw [iblk_0 h t, iblk_1 h t, iblk_2 h t, iblk_3 h t, iblk_4 h t, iblk_5 h t, iblk_6 h t, iblk_7 h t, iblk_8 h t]
    refine out13_A.trans (up2_congr fun i _ k _ => ?_)
    rw [A.toIn.dg1_succ t.val _, ht]
    simp only [MIn.dg1, Nat.mul_zero, Finset.range_zero, Finset.sum_empty]

/-- At a later point, from the point before. -/
theorem left_B (h : Sees m c A) (t : Fin cfg0.N) (h0 : ¬t.val % 16 = 0) (n : ℕ) (ht : t.val = n + 1)
    (hp : ∀ hn, Left A n (outsAt0 m c n hn)) : Left A t.val (outsAt0 m c t.val t.isLt) := by
  rw [outsAt0_B m c t h0]
  have e : ∀ hn, outsAt0 m c (t.val - 1) hn = outsAt0 m c n (by rw [ht, Nat.add_sub_cancel] at hn; exact hn) := by
    intro hn
    have : t.val - 1 = n := by omega
    subst this
    rfl
  obtain ⟨-, -, -, e12, e13⟩ := hp (by have := t.isLt; omega)
  refine ⟨?_, ?_, ?_, ?_, ?_⟩
  all_goals dsimp only
  · rw [iblk_0 h t, iblk_1 h t, iblk_2 h t, iblk_3 h t, iblk_4 h t, iblk_5 h t, iblk_6 h t, iblk_7 h t, iblk_8 h t, e, e12, e13]
    exact out9_B
  · rw [iblk_0 h t, iblk_1 h t, iblk_2 h t, iblk_3 h t, iblk_4 h t, iblk_5 h t, iblk_6 h t, iblk_7 h t, iblk_8 h t, e, e12, e13]
    exact out10_B
  · rw [iblk_0 h t, iblk_1 h t, iblk_2 h t, iblk_3 h t, iblk_4 h t, iblk_5 h t, iblk_6 h t, iblk_7 h t, iblk_8 h t, e, e12, e13]
    exact out11_B
  · rw [iblk_0 h t, iblk_1 h t, iblk_2 h t, iblk_3 h t, iblk_4 h t, iblk_5 h t, iblk_6 h t, iblk_7 h t, iblk_8 h t, e, e12, e13]
    refine out12_B.trans (up2_congr fun i _ k _ => ?_)
    rw [A.toIn.dg2_succ t.val _, ht]
  · rw [iblk_0 h t, iblk_1 h t, iblk_2 h t, iblk_3 h t, iblk_4 h t, iblk_5 h t, iblk_6 h t, iblk_7 h t, iblk_8 h t, e, e12, e13]
    refine out13_B.trans (up2_congr fun i _ k _ => ?_)
    rw [A.toIn.dg1_succ t.val _, ht]

/-- At every point. -/
theorem left_all (h : Sees m c A) (n : ℕ) : ∀ hn, Left A n (outsAt0 m c n hn) := by
  induction n with
  | zero => exact fun hn => left_A h ⟨0, hn⟩ (by rfl) rfl
  | succ n ih =>
    intro hn
    have : n + 1 < 16 := hn
    exact left_B h ⟨n + 1, hn⟩ (by show ¬(n + 1) % 16 = 0; omega) n rfl ih

/-- The last point, and what it leaves. -/
def tLast : Fin cfg0.N := Fin.mk 15 (by decide)
theorem left_last (h : Sees m c A) (t : Fin cfg0.N) (ht : t.val = 15) : Left A 15 (outsAt0 m c t.val t.isLt) := by
  obtain ⟨n, hn⟩ := t
  obtain rfl : n = 15 := ht
  exact left_all h 15 hn

/-! The arrays the launch leaves. -/

theorem tr9 (t : Fin cfg0.N) : win0_9.index t = ![t.val, 0] :=
  (by decide +kernel : ∀ t : Fin grid0.N, win0_9.index t = ![t.val, 0]) t
theorem arr_9 (h : Sees m c A) : ((dats m 0 c).arrAt 9 cfg0.N : S8192x4096.Idx → EReal) = up2 A.toIn.dap := by
  refine (dats m 0 c).arrAt_eq_of_covers 9 _ (by decide +kernel) fun t hf y => ?_
  blk_simp
  rw [after0_9, (left_all h t.val t.isLt).1]
  show (((A.toIn.blk t.val).dap ((y 0).val) ((y 1).val) : ℝ) : EReal) = ((A.toIn.dap _ _ : ℝ) : EReal)
  blk_simp
  rw [MIn.blk_dap, tr9]
  exact congrArg (fun r : ℝ => (r : EReal)) (congrArg₂ A.toIn.dap
    (by show 512 * t.val + ((y 0).val) = (t.val * 512 + (y 0).val); omega) (by show (y 1).val = (0 * 4096 + (y 1).val); omega))

theorem tr10 (t : Fin cfg0.N) : win0_10.index t = ![t.val, 0] :=
  (by decide +kernel : ∀ t : Fin grid0.N, win0_10.index t = ![t.val, 0]) t
theorem arr_10 (h : Sees m c A) : ((dats m 0 c).arrAt 10 cfg0.N : S8192x1024.Idx → EReal) = up2 A.toIn.dx := by
  refine (dats m 0 c).arrAt_eq_of_covers 10 _ (by decide +kernel) fun t hf y => ?_
  blk_simp
  rw [after0_10, (left_all h t.val t.isLt).2.1]
  show (((A.toIn.blk t.val).dx ((y 0).val) ((y 1).val) : ℝ) : EReal) = ((A.toIn.dx _ _ : ℝ) : EReal)
  blk_simp
  rw [MIn.blk_dx, tr10]
  exact congrArg (fun r : ℝ => (r : EReal)) (congrArg₂ A.toIn.dx
    (by show 512 * t.val + ((y 0).val) = (t.val * 512 + (y 0).val); omega) (by show (y 1).val = (0 * 1024 + (y 1).val); omega))

theorem tr11 (t : Fin cfg0.N) : win0_11.index t = ![t.val, 0] :=
  (by decide +kernel : ∀ t : Fin grid0.N, win0_11.index t = ![t.val, 0]) t
theorem arr_11 (h : Sees m c A) : ((dats m 0 c).arrAt 11 cfg0.N : S8192x1024.Idx → EReal) = up2 A.toIn.dyy := by
  refine (dats m 0 c).arrAt_eq_of_covers 11 _ (by decide +kernel) fun t hf y => ?_
  blk_simp
  rw [after0_11, (left_all h t.val t.isLt).2.2.1]
  show (((A.toIn.blk t.val).dyy ((y 0).val) ((y 1).val) : ℝ) : EReal) = ((A.toIn.dyy _ _ : ℝ) : EReal)
  blk_simp
  rw [MIn.blk_dyy, tr11]
  exact congrArg (fun r : ℝ => (r : EReal)) (congrArg₂ A.toIn.dyy
    (by show 512 * t.val + ((y 0).val) = (t.val * 512 + (y 0).val); omega) (by show (y 1).val = (0 * 1024 + (y 1).val); omega))

theorem arr_12 (h : Sees m c A) : ((dats m 0 c).arrAt 12 cfg0.N : S1x1024.Idx → EReal) = up2 fun _ k => A.toIn.dg2 8192 k := by
  refine (dats m 0 c).arrAt_eq_of_after_last 12 tLast (by decide +kernel) _ fun j => ?_
  rw [after0_12, (left_last h tLast rfl).2.2.2.1]
  rfl

theorem arr_13 (h : Sees m c A) : ((dats m 0 c).arrAt 13 cfg0.N : S1x1024.Idx → EReal) = up2 fun _ k => A.toIn.dg1 8192 k := by
  refine (dats m 0 c).arrAt_eq_of_after_last 13 tLast (by decide +kernel) _ fun j => ?_
  rw [after0_13, (left_last h tLast rfl).2.2.2.2]
  rfl

end Cert.MLift

end
-- ==== Proof.MlpRef.lean ====
/-
  The second reference, operation by operation, on arrays of reals.
-/
module

public import proofs.«01_k».proof.Proof.HLift
public import proofs.«01_k».proof.Proof.MlpModel
public import proofs.«01_k».proof.Proof.Gen.MlpReferenceIdeal.Read

@[expose] public section

noncomputable section

namespace Cert.MRef

open Idealize.ShloMosaic Cert.MlpReferenceIdeal Cert.MlpReferenceIdeal.Read Cert.Lift

section lemmas

variable {φ ψ : FTy}

theorem lit_1024 : (FloatOps.ofBits (F := Ideal) .f32 0x44800000#32 : EReal) = ((1024 : ℝ) : EReal) := by
  show Ideal.ofBits .f32 _ = _; simp [Ideal.ofBits, Ideal.ieee]; rw [← EReal.coe_mul]; norm_num

/-- The greater of two arrays of reals. -/
theorem max_up2 {n m : ℕ} (f g : ℕ → ℕ → ℝ) :
    maximumf (F := Ideal) (φ := φ) (s := ⟨2, ![n, m]⟩) (up2 f) (up2 g) = up2 fun i k => max (f i k) (g i k) :=
  funext fun _ => (EReal.coe_strictMono.monotone.map_max).symm

/-- An array where another is positive, zero elsewhere. -/
theorem select_pos {n m : ℕ} (p f : ℕ → ℕ → ℝ) (P Z : (⟨2, ![n, m]⟩ : Shape).Idx → EReal) (hP : P = up2 p) (hZ : Z = up2 fun _ _ => 0) :
    select (cmpf (F := Ideal) (φ := φ) (s := ⟨2, ![n, m]⟩) .ogt P Z) (up2 f : (⟨2, ![n, m]⟩ : Shape).Idx → EReal) (up2 fun _ _ => 0)
      = up2 fun i k => if 0 < p i k then f i k else 0 := by
  subst hP hZ
  funext j
  show Scalar.select (Ideal.cmp .ogt ((p (j 0).val (j 1).val : ℝ) : EReal) ((0 : ℝ) : EReal)) ((f (j 0).val (j 1).val : ℝ) : EReal) ((0 : ℝ) : EReal)
    = (((if 0 < p (j 0).val (j 1).val then f (j 0).val (j 1).val else 0) : ℝ) : EReal)
  by_cases h : 0 < p (j 0).val (j 1).val
  · rw [if_pos h]
    have e : Ideal.cmp .ogt ((p (j 0).val (j 1).val : ℝ) : EReal) ((0 : ℝ) : EReal) = 1#1 := by
      rw [Ideal.cmp_ogt]; simp [EReal.coe_lt_coe_iff, h]
    rw [e]; rfl
  · rw [if_neg h]
    have e : Ideal.cmp .ogt ((p (j 0).val (j 1).val : ℝ) : EReal) ((0 : ℝ) : EReal) = 0#1 := by
      rw [Ideal.cmp_ogt]; simp [EReal.coe_lt_coe_iff, h]
    rw [e]; rfl

/-- The matrix products, over the reals. -/
theorem mm_S8192x1024_S1024x4096_S8192x4096_1_0_0_1 (a b : ℕ → ℕ → ℝ) :
    Host.dotGeneral (F := Ideal) (φ₁ := φ) (φ₂ := ψ) dot_S8192x1024_S1024x4096_S8192x4096_1_0_0_1_n_n none (up2 a) (up2 b)
      = up2 fun i j => ∑ k ∈ Finset.range 1024, a i k * b k j := by
  funext j
  idx_vars j
  pointwise [up2]
  exact coe_sum_mul (n := 1024) (fun k => a ↑j0 k) (fun k => b k ↑j1)
theorem mm_S8192x1024_S4096x1024_S8192x4096_1_1_0_0 (a b : ℕ → ℕ → ℝ) :
    Host.dotGeneral (F := Ideal) (φ₁ := φ) (φ₂ := ψ) dot_S8192x1024_S4096x1024_S8192x4096_1_1_0_0_n_n none (up2 a) (up2 b)
      = up2 fun i j => ∑ k ∈ Finset.range 1024, a i k * b j k := by
  funext j
  idx_vars j
  pointwise [up2]
  exact coe_sum_mul (n := 1024) (fun k => a ↑j0 k) (fun k => b ↑j1 k)
theorem mm_S8192x4096_S1024x4096_S8192x1024_1_1_0_0 (a b : ℕ → ℕ → ℝ) :
    Host.dotGeneral (F := Ideal) (φ₁ := φ) (φ₂ := ψ) dot_S8192x4096_S1024x4096_S8192x1024_1_1_0_0_n_n none (up2 a) (up2 b)
      = up2 fun i j => ∑ k ∈ Finset.range 4096, a i k * b j k := by
  funext j
  idx_vars j
  pointwise [up2]
  exact coe_sum_mul (n := 4096) (fun k => a ↑j0 k) (fun k => b ↑j1 k)

end lemmas

variable {A : MArgs}
  {x0 : (⟨S8192x1024, .bf16⟩ : BufTy).Contents (Elt Ideal)} {x1 : (⟨S4096x1024, .bf16⟩ : BufTy).Contents (Elt Ideal)}
  {x2 : (⟨S1024x4096, .bf16⟩ : BufTy).Contents (Elt Ideal)} {x3 x4 : (⟨S8192x1024, .f32⟩ : BufTy).Contents (Elt Ideal)}
  {x5 : (⟨S8192x1024, .bf16⟩ : BufTy).Contents (Elt Ideal)} {x6 x7 : (⟨S1x1024, .f32⟩ : BufTy).Contents (Elt Ideal)}

/-- The arguments are the reals of `A`. -/
structure MRArgs (A : MArgs)
    (x0 : (⟨S8192x1024, .bf16⟩ : BufTy).Contents (Elt Ideal)) (x1 : (⟨S4096x1024, .bf16⟩ : BufTy).Contents (Elt Ideal))
    (x2 : (⟨S1024x4096, .bf16⟩ : BufTy).Contents (Elt Ideal)) (x3 x4 : (⟨S8192x1024, .f32⟩ : BufTy).Contents (Elt Ideal))
    (x5 : (⟨S8192x1024, .bf16⟩ : BufTy).Contents (Elt Ideal)) (x6 x7 : (⟨S1x1024, .f32⟩ : BufTy).Contents (Elt Ideal)) : Prop where
  x0 : (x0 : S8192x1024.Idx → EReal) = up2 A.dy
  x1 : (x1 : S4096x1024.Idx → EReal) = up2 A.wmo
  x2 : (x2 : S1024x4096.Idx → EReal) = up2 A.wmi
  x3 : (x3 : S8192x1024.Idx → EReal) = up2 A.dout
  x4 : (x4 : S8192x1024.Idx → EReal) = up2 A.x
  x5 : (x5 : S8192x1024.Idx → EReal) = up2 A.y
  x6 : (x6 : S1x1024.Idx → EReal) = up2 A.g2
  x7 : (x7 : S1x1024.Idx → EReal) = up2 A.g1

theorem rv_zero0 : (val_main_call0_v0 (F := Ideal) : S8192x4096.Idx → EReal) = up2 fun _ _ => 0 :=
  funext fun j => (val_main_call0_v0_apply j).trans lit_zero

theorem rv0 (h : MRArgs A x0 x1 x2 x3 x4 x5 x6 x7) :
    (val_main_v0 (F := Ideal) x0 : S8192x1024.Idx → EReal) = up2 fun i k => A.dy i k := by
  unfold val_main_v0
  rw [h.x0]
  refine Eq.trans (Lift.extf_up2 _ _) ?_
  rfl

theorem rv1 (h : MRArgs A x0 x1 x2 x3 x4 x5 x6 x7) :
    (val_main_v1 (F := Ideal) x1 : S4096x1024.Idx → EReal) = up2 fun i k => A.wmo i k := by
  unfold val_main_v1
  rw [h.x1]
  refine Eq.trans (Lift.extf_up2 _ _) ?_
  rfl

theorem rv2 (h : MRArgs A x0 x1 x2 x3 x4 x5 x6 x7) :
    (val_main_v2 (F := Ideal) x2 : S1024x4096.Idx → EReal) = up2 fun i k => A.wmi i k := by
  unfold val_main_v2
  rw [h.x2]
  refine Eq.trans (Lift.extf_up2 _ _) ?_
  rfl

theorem rv3 (h : MRArgs A x0 x1 x2 x3 x4 x5 x6 x7) :
    (val_main_v3 (F := Ideal) x5 : S8192x1024.Idx → EReal) = up2 fun i k => A.y i k := by
  unfold val_main_v3
  rw [h.x5]
  refine Eq.trans (Lift.extf_up2 _ _) ?_
  rfl

theorem rv4 (h : MRArgs A x0 x1 x2 x3 x4 x5 x6 x7) :
    (val_main_v4 (F := Ideal) x4 : S8192x1024.Idx → EReal) = up2 fun i k => A.x i k * A.x i k := by
  unfold val_main_v4
  rw [h.x4]
  refine Eq.trans (Lift.mulf_up2 _ _) ?_
  rfl

theorem rv5 (h : MRArgs A x0 x1 x2 x3 x4 x5 x6 x7) :
    (val_main_v5 (F := Ideal) x4 : S8192.Idx → EReal) = up1 fun i => ∑ k ∈ Finset.range 1024, A.x i k * A.x i k := by
  funext j
  rw [val_main_v5_apply, rv4 h]
  exact HLift.zero_add_sum (n := 1024) (fun r => (fun i k => (A.x i k * A.x i k : ℝ)) (j 0).val r)

theorem rv6 (h : MRArgs A x0 x1 x2 x3 x4 x5 x6 x7) :
    (val_main_v6 (F := Ideal) x4 : S8192x1.Idx → EReal) = up2 fun i k => ∑ k ∈ Finset.range 1024, A.x i k * A.x i k := by
  funext j
  refine (val_main_v6_apply _ j).trans ((congrFun (rv5 h) _).trans ?_)
  rfl

theorem rv7 (h : MRArgs A x0 x1 x2 x3 x4 x5 x6 x7) :
    (val_main_v7 (F := Ideal) : S8192x1.Idx → EReal) = up2 fun i k => 1024 :=
  funext fun j => (val_main_v7_apply j).trans MRef.lit_1024

theorem rv8 (h : MRArgs A x0 x1 x2 x3 x4 x5 x6 x7) :
    (val_main_v8 (F := Ideal) x4 : S8192x1.Idx → EReal) = up2 fun i k => (∑ k ∈ Finset.range 1024, A.x i k * A.x i k) / 1024 := by
  unfold val_main_v8
  rw [rv6 h, rv7 h]
  refine Eq.trans (HLift.divf_up2 _ _ (fun _ _ => by norm_num)) ?_
  rfl

theorem rv9 (h : MRArgs A x0 x1 x2 x3 x4 x5 x6 x7) :
    (val_main_v9 (F := Ideal) : S8192x1.Idx → EReal) = up2 fun i k => eps :=
  funext fun j => (val_main_v9_apply j).trans lit_eps

theorem rv10 (h : MRArgs A x0 x1 x2 x3 x4 x5 x6 x7) :
    (val_main_v10 (F := Ideal) x4 : S8192x1.Idx → EReal) = up2 fun i k => Rms.w A.x i := by
  unfold val_main_v10
  rw [rv8 h, rv9 h]
  refine Eq.trans (Lift.addf_up2 _ _) ?_
  rfl

theorem rv11 (h : MRArgs A x0 x1 x2 x3 x4 x5 x6 x7) :
    (val_main_v11 (F := Ideal) x4 : S8192x1.Idx → EReal) = up2 fun i k => Rms.r A.x i := by
  unfold val_main_v11
  rw [rv10 h]
  refine Eq.trans (HLift.rsqrt_up2 _ (fun i _ => Rms.w_pos _ i)) ?_
  rfl

theorem rv12 (h : MRArgs A x0 x1 x2 x3 x4 x5 x6 x7) :
    (val_main_v12 (F := Ideal) x4 : S8192x1.Idx → EReal) = up2 fun i k => Rms.r A.x i / Rms.w A.x i := by
  unfold val_main_v12
  rw [rv11 h, rv10 h]
  refine Eq.trans (HLift.divf_up2 _ _ (fun i _ => (Rms.w_pos _ i).ne')) ?_
  rfl

theorem rv13 (h : MRArgs A x0 x1 x2 x3 x4 x5 x6 x7) :
    (val_main_v13 (F := Ideal) : S8192x1.Idx → EReal) = up2 fun i k => -(1 / 2) :=
  funext fun j => (val_main_v13_apply j).trans lit_mhalf

theorem rv14 (h : MRArgs A x0 x1 x2 x3 x4 x5 x6 x7) :
    (val_main_v14 (F := Ideal) x4 : S8192x1.Idx → EReal) = up2 fun i k => -(1 / 2) * (Rms.r A.x i / Rms.w A.x i) := by
  unfold val_main_v14
  rw [rv13 h, rv12 h]
  refine Eq.trans (Lift.mulf_up2 _ _) ?_
  rfl

theorem rv15 (h : MRArgs A x0 x1 x2 x3 x4 x5 x6 x7) :
    (val_main_v15 (F := Ideal) x4 : S8192x1024.Idx → EReal) = up2 fun i k => Rms.r A.x i := by
  funext j
  refine (val_main_v15_apply _ j).trans ((congrFun (rv11 h) _).trans ?_)
  rfl

theorem rv16 (h : MRArgs A x0 x1 x2 x3 x4 x5 x6 x7) :
    (val_main_v16 (F := Ideal) x4 : S8192x1024.Idx → EReal) = up2 fun i k => A.x i k * Rms.r A.x i := by
  unfold val_main_v16
  rw [rv15 h, h.x4]
  refine Eq.trans (Lift.mulf_up2 _ _) ?_
  rfl

theorem rv17 (h : MRArgs A x0 x1 x2 x3 x4 x5 x6 x7) :
    (val_main_v17 (F := Ideal) x6 : S8192x1024.Idx → EReal) = up2 fun i k => A.g2 0 k := by
  funext j
  refine (val_main_v17_apply _ j).trans ((congrFun (h.x6) _).trans ?_)
  rfl

theorem rv18 (h : MRArgs A x0 x1 x2 x3 x4 x5 x6 x7) :
    (val_main_v18 (F := Ideal) x4 x6 : S8192x1024.Idx → EReal) = up2 fun i k => A.x i k * Rms.r A.x i * A.g2 0 k := by
  unfold val_main_v18
  rw [rv16 h, rv17 h]
  refine Eq.trans (Lift.mulf_up2 _ _) ?_
  rfl

theorem rv19 (h : MRArgs A x0 x1 x2 x3 x4 x5 x6 x7) :
    (val_main_v19 (F := Ideal) x2 x4 x6 : S8192x4096.Idx → EReal) = up2 fun i k => A.p i k := by
  unfold val_main_v19
  rw [rv18 h, rv2 h]
  refine Eq.trans (MRef.mm_S8192x1024_S1024x4096_S8192x4096_1_0_0_1 _ _) ?_
  rfl

theorem rv20 (h : MRArgs A x0 x1 x2 x3 x4 x5 x6 x7) :
    (val_main_v20 (F := Ideal) x2 x4 x6 : S8192x4096.Idx → EReal) = up2 fun i k => max (A.p i k) 0 := by
  unfold val_main_v20
  rw [rv19 h, rv_zero0]
  exact MRef.max_up2 _ _

theorem rv21 (h : MRArgs A x0 x1 x2 x3 x4 x5 x6 x7) :
    (val_main_v21 (F := Ideal) : S8192x4096.Idx → EReal) = up2 fun i k => 0 :=
  funext fun j => (val_main_v21_apply j).trans lit_zero

theorem rv23 (h : MRArgs A x0 x1 x2 x3 x4 x5 x6 x7) :
    (val_main_v23 (F := Ideal) : S8192x4096.Idx → EReal) = up2 fun i k => 0 :=
  funext fun j => (val_main_v23_apply j).trans lit_zero

theorem rv26 (h : MRArgs A x0 x1 x2 x3 x4 x5 x6 x7) :
    (val_main_v26 (F := Ideal) x0 x1 : S8192x4096.Idx → EReal) = up2 fun i k => A.toIn.da i k := by
  unfold val_main_v26
  rw [rv0 h, rv1 h]
  refine Eq.trans (MRef.mm_S8192x1024_S4096x1024_S8192x4096_1_1_0_0 _ _) ?_
  rfl

theorem rv27 (h : MRArgs A x0 x1 x2 x3 x4 x5 x6 x7) :
    (val_main_v27 (F := Ideal) x0 x1 x2 x4 x6 : S8192x4096.Idx → EReal) = up2 fun i k => max (A.p i k) 0 * A.toIn.da i k := by
  unfold val_main_v27
  rw [rv20 h, rv26 h]
  refine Eq.trans (Lift.mulf_up2 _ _) ?_
  rfl

theorem rv28 (h : MRArgs A x0 x1 x2 x3 x4 x5 x6 x7) :
    (val_main_v28 (F := Ideal) x0 x1 x2 x4 x6 : S8192x4096.Idx → EReal) = up2 fun i k => A.toIn.da i k * max (A.p i k) 0 := by
  unfold val_main_v28
  rw [rv26 h, rv20 h]
  refine Eq.trans (Lift.mulf_up2 _ _) ?_
  rfl

theorem rv29 (h : MRArgs A x0 x1 x2 x3 x4 x5 x6 x7) :
    (val_main_v29 (F := Ideal) x0 x1 x2 x4 x6 : S8192x4096.Idx → EReal) = up2 fun i k => max (A.p i k) 0 * A.toIn.da i k + A.toIn.da i k * max (A.p i k) 0 := by
  unfold val_main_v29
  rw [rv27 h, rv28 h]
  refine Eq.trans (Lift.addf_up2 _ _) ?_
  rfl

theorem rv30 (h : MRArgs A x0 x1 x2 x3 x4 x5 x6 x7) :
    (val_main_v30 (F := Ideal) : S8192x4096.Idx → EReal) = up2 fun i k => 0 :=
  funext fun j => (val_main_v30_apply j).trans lit_zero

theorem rv31 (h : MRArgs A x0 x1 x2 x3 x4 x5 x6 x7) :
    (val_main_v31 (F := Ideal) x0 x1 x2 x4 x6 : S8192x4096.Idx → EReal) = up2 fun i k => A.toIn.dap i k := by
  unfold val_main_v31
  rw [rv29 h, rv30 h]
  refine (MRef.select_pos _ _ _ _ (rv19 h) (rv21 h)).trans (up2_congr fun i hi k hk => ?_)
  exact A.dap_chain i k

theorem rv32 (h : MRArgs A x0 x1 x2 x3 x4 x5 x6 x7) :
    (val_main_v32 (F := Ideal) x0 x1 x2 x4 x6 : S8192x1024.Idx → EReal) = up2 fun i k => A.toIn.dh i k := by
  unfold val_main_v32
  rw [rv31 h, rv2 h]
  refine Eq.trans (MRef.mm_S8192x4096_S1024x4096_S8192x1024_1_1_0_0 _ _) ?_
  rfl

theorem rv33 (h : MRArgs A x0 x1 x2 x3 x4 x5 x6 x7) :
    (val_main_v33 (F := Ideal) x0 x1 x2 x4 x6 : S8192x1024.Idx → EReal) = up2 fun i k => A.x i k * Rms.r A.x i * A.toIn.dh i k := by
  unfold val_main_v33
  rw [rv16 h, rv32 h]
  refine Eq.trans (Lift.mulf_up2 _ _) ?_
  rfl

theorem rv34 (h : MRArgs A x0 x1 x2 x3 x4 x5 x6 x7) :
    (val_main_v34 (F := Ideal) x0 x1 x2 x4 x6 : S1024.Idx → EReal) = up1 fun i => A.toIn.dg2 8192 i := by
  funext j
  rw [val_main_v34_apply, rv33 h]
  refine (HLift.zero_add_sum (n := 8192) (fun r => (fun i k => (A.x i k * Rms.r A.x i * A.toIn.dh i k : ℝ)) r (j 0).val)).trans ?_
  exact congrArg Real.toEReal (Finset.sum_congr rfl fun _ _ => mul_comm _ _)

theorem rv35 (h : MRArgs A x0 x1 x2 x3 x4 x5 x6 x7) :
    (val_main_v35 (F := Ideal) x0 x1 x2 x4 x6 : S1x1024.Idx → EReal) = up2 fun i k => A.toIn.dg2 8192 k := by
  funext j
  refine (val_main_v35_apply _ _ _ _ _ j).trans ((congrFun (rv34 h) _).trans ?_)
  have h0 : (j 0).val < 1 := (j 0).isLt
  have h1 : (j 1).val < 1024 := (j 1).isLt
  refine congrArg Real.toEReal ?_
  show (fun i => (A.toIn.dg2 8192 i : ℝ)) (idx_main_v35 j 0).val = (fun i k => (A.toIn.dg2 8192 k : ℝ)) (j 0).val (j 1).val
  simp only
  congr 1 <;> omega

theorem rv36 (h : MRArgs A x0 x1 x2 x3 x4 x5 x6 x7) :
    (val_main_v36 (F := Ideal) x6 : S8192x1024.Idx → EReal) = up2 fun i k => A.g2 0 k := by
  funext j
  refine (val_main_v36_apply _ j).trans ((congrFun (h.x6) _).trans ?_)
  rfl

theorem rv37 (h : MRArgs A x0 x1 x2 x3 x4 x5 x6 x7) :
    (val_main_v37 (F := Ideal) x0 x1 x2 x4 x6 : S8192x1024.Idx → EReal) = up2 fun i k => A.toIn.dh i k * A.g2 0 k := by
  unfold val_main_v37
  rw [rv32 h, rv36 h]
  refine Eq.trans (Lift.mulf_up2 _ _) ?_
  rfl

theorem rv38 (h : MRArgs A x0 x1 x2 x3 x4 x5 x6 x7) :
    (val_main_v38 (F := Ideal) x0 x1 x2 x4 x6 : S8192x1024.Idx → EReal) = up2 fun i k => A.x i k * (A.toIn.dh i k * A.g2 0 k) := by
  unfold val_main_v38
  rw [rv37 h, h.x4]
  refine Eq.trans (Lift.mulf_up2 _ _) ?_
  rfl

theorem rv39 (h : MRArgs A x0 x1 x2 x3 x4 x5 x6 x7) :
    (val_main_v39 (F := Ideal) x0 x1 x2 x4 x6 : S8192.Idx → EReal) = up1 fun i => ∑ k ∈ Finset.range 1024, A.x i k * (A.toIn.dh i k * A.g2 0 k) := by
  funext j
  rw [val_main_v39_apply, rv38 h]
  exact HLift.zero_add_sum (n := 1024) (fun r => (fun i k => (A.x i k * (A.toIn.dh i k * A.g2 0 k) : ℝ)) (j 0).val r)

theorem rv40 (h : MRArgs A x0 x1 x2 x3 x4 x5 x6 x7) :
    (val_main_v40 (F := Ideal) x0 x1 x2 x4 x6 : S8192x1.Idx → EReal) = up2 fun i k => ∑ k ∈ Finset.range 1024, A.x i k * (A.toIn.dh i k * A.g2 0 k) := by
  funext j
  refine (val_main_v40_apply _ _ _ _ _ j).trans ((congrFun (rv39 h) _).trans ?_)
  have h0 : (j 0).val < 8192 := (j 0).isLt
  have h1 : (j 1).val < 1 := (j 1).isLt
  exact congrArg (fun i => ((∑ k ∈ Finset.range 1024, A.x i k * (A.toIn.dh i k * A.g2 0 k) : ℝ) : EReal)) (by dsimp only [idx_main_v40]; omega : (idx_main_v40 j 0).val = (j 0).val)

theorem rv41 (h : MRArgs A x0 x1 x2 x3 x4 x5 x6 x7) :
    (val_main_v41 (F := Ideal) x4 : S8192x1024.Idx → EReal) = up2 fun i k => Rms.r A.x i := by
  funext j
  refine (val_main_v41_apply _ j).trans ((congrFun (rv11 h) _).trans ?_)
  rfl

theorem rv42 (h : MRArgs A x0 x1 x2 x3 x4 x5 x6 x7) :
    (val_main_v42 (F := Ideal) x0 x1 x2 x4 x6 : S8192x1024.Idx → EReal) = up2 fun i k => A.toIn.dh i k * A.g2 0 k * Rms.r A.x i := by
  unfold val_main_v42
  rw [rv37 h, rv41 h]
  refine Eq.trans (Lift.mulf_up2 _ _) ?_
  rfl

theorem rv43 (h : MRArgs A x0 x1 x2 x3 x4 x5 x6 x7) :
    (val_main_v43 (F := Ideal) x0 x1 x2 x4 x6 : S8192x1.Idx → EReal) = up2 fun i k => (∑ k ∈ Finset.range 1024, A.x i k * (A.toIn.dh i k * A.g2 0 k)) * (-(1 / 2) * (Rms.r A.x i / Rms.w A.x i)) := by
  unfold val_main_v43
  rw [rv40 h, rv14 h]
  refine Eq.trans (Lift.mulf_up2 _ _) ?_
  rfl

theorem rv44 (h : MRArgs A x0 x1 x2 x3 x4 x5 x6 x7) :
    (val_main_v44 (F := Ideal) : S8192x1.Idx → EReal) = up2 fun i k => 1024 :=
  funext fun j => (val_main_v44_apply j).trans MRef.lit_1024

theorem rv45 (h : MRArgs A x0 x1 x2 x3 x4 x5 x6 x7) :
    (val_main_v45 (F := Ideal) x0 x1 x2 x4 x6 : S8192x1.Idx → EReal) = up2 fun i k => (∑ k ∈ Finset.range 1024, A.x i k * (A.toIn.dh i k * A.g2 0 k)) * (-(1 / 2) * (Rms.r A.x i / Rms.w A.x i)) / 1024 := by
  unfold val_main_v45
  rw [rv43 h, rv44 h]
  refine Eq.trans (HLift.divf_up2 _ _ (fun _ _ => by norm_num)) ?_
  rfl

theorem rv46 (h : MRArgs A x0 x1 x2 x3 x4 x5 x6 x7) :
    (val_main_v46 (F := Ideal) x0 x1 x2 x4 x6 : S8192.Idx → EReal) = up1 fun i => (∑ k ∈ Finset.range 1024, A.x i k * (A.toIn.dh i k * A.g2 0 k)) * (-(1 / 2) * (Rms.r A.x i / Rms.w A.x i)) / 1024 := by
  funext j
  rw [val_main_v46_apply, rv45 h]
  refine (HLift.zero_add_sum (n := 1) (fun r => (fun i k => ((∑ k ∈ Finset.range 1024, A.x i k * (A.toIn.dh i k * A.g2 0 k)) * (-(1 / 2) * (Rms.r A.x i / Rms.w A.x i)) / 1024 : ℝ)) (j 0).val r)).trans ?_
  rw [Finset.sum_range_one]; rfl

theorem rv47 (h : MRArgs A x0 x1 x2 x3 x4 x5 x6 x7) :
    (val_main_v47 (F := Ideal) x0 x1 x2 x4 x6 : S8192x1024.Idx → EReal) = up2 fun i k => (∑ k ∈ Finset.range 1024, A.x i k * (A.toIn.dh i k * A.g2 0 k)) * (-(1 / 2) * (Rms.r A.x i / Rms.w A.x i)) / 1024 := by
  funext j
  refine (val_main_v47_apply _ _ _ _ _ j).trans ((congrFun (rv46 h) _).trans ?_)
  rfl

theorem rv48 (h : MRArgs A x0 x1 x2 x3 x4 x5 x6 x7) :
    (val_main_v48 (F := Ideal) x0 x1 x2 x4 x6 : S8192x1024.Idx → EReal) = up2 fun i k => A.x i k * ((∑ k ∈ Finset.range 1024, A.x i k * (A.toIn.dh i k * A.g2 0 k)) * (-(1 / 2) * (Rms.r A.x i / Rms.w A.x i)) / 1024) := by
  unfold val_main_v48
  rw [rv47 h, h.x4]
  refine Eq.trans (Lift.mulf_up2 _ _) ?_
  rfl

theorem rv49 (h : MRArgs A x0 x1 x2 x3 x4 x5 x6 x7) :
    (val_main_v49 (F := Ideal) x0 x1 x2 x4 x6 : S8192x1024.Idx → EReal) = up2 fun i k => A.toIn.dh i k * A.g2 0 k * Rms.r A.x i + A.x i k * ((∑ k ∈ Finset.range 1024, A.x i k * (A.toIn.dh i k * A.g2 0 k)) * (-(1 / 2) * (Rms.r A.x i / Rms.w A.x i)) / 1024) := by
  unfold val_main_v49
  rw [rv42 h, rv48 h]
  refine Eq.trans (Lift.addf_up2 _ _) ?_
  rfl

theorem rv50 (h : MRArgs A x0 x1 x2 x3 x4 x5 x6 x7) :
    (val_main_v50 (F := Ideal) x0 x1 x2 x4 x6 : S8192x1024.Idx → EReal) = up2 fun i k => (∑ k ∈ Finset.range 1024, A.x i k * (A.toIn.dh i k * A.g2 0 k)) * (-(1 / 2) * (Rms.r A.x i / Rms.w A.x i)) / 1024 * A.x i k := by
  unfold val_main_v50
  rw [rv47 h, h.x4]
  refine Eq.trans (Lift.mulf_up2 _ _) ?_
  rfl

theorem rv51 (h : MRArgs A x0 x1 x2 x3 x4 x5 x6 x7) :
    (val_main_v51 (F := Ideal) x0 x1 x2 x4 x6 : S8192x1024.Idx → EReal) = up2 fun i k => Rms.dsrc (A.toIn.dh) A.x A.g2 i k := by
  unfold val_main_v51
  rw [rv49 h, rv50 h]
  refine Eq.trans (Lift.addf_up2 _ _) ?_
  exact up2_congr fun i hi k hk => by exact Rms.dsrc_chain _ _ _ i k

theorem rv52 (h : MRArgs A x0 x1 x2 x3 x4 x5 x6 x7) :
    (val_main_v52 (F := Ideal) x0 x1 x2 x3 x4 x6 : S8192x1024.Idx → EReal) = up2 fun i k => A.toIn.dx i k := by
  unfold val_main_v52
  rw [h.x3, rv51 h]
  refine Eq.trans (Lift.addf_up2 _ _) ?_
  rfl

theorem rv53 (h : MRArgs A x0 x1 x2 x3 x4 x5 x6 x7) :
    (val_main_v53 (F := Ideal) x5 : S8192x1024.Idx → EReal) = up2 fun i k => A.y i k * A.y i k := by
  unfold val_main_v53
  rw [rv3 h]
  refine Eq.trans (Lift.mulf_up2 _ _) ?_
  rfl

theorem rv54 (h : MRArgs A x0 x1 x2 x3 x4 x5 x6 x7) :
    (val_main_v54 (F := Ideal) x5 : S8192.Idx → EReal) = up1 fun i => ∑ k ∈ Finset.range 1024, A.y i k * A.y i k := by
  funext j
  rw [val_main_v54_apply, rv53 h]
  exact HLift.zero_add_sum (n := 1024) (fun r => (fun i k => (A.y i k * A.y i k : ℝ)) (j 0).val r)

theorem rv55 (h : MRArgs A x0 x1 x2 x3 x4 x5 x6 x7) :
    (val_main_v55 (F := Ideal) x5 : S8192x1.Idx → EReal) = up2 fun i k => ∑ k ∈ Finset.range 1024, A.y i k * A.y i k := by
  funext j
  refine (val_main_v55_apply _ j).trans ((congrFun (rv54 h) _).trans ?_)
  rfl

theorem rv56 (h : MRArgs A x0 x1 x2 x3 x4 x5 x6 x7) :
    (val_main_v56 (F := Ideal) : S8192x1.Idx → EReal) = up2 fun i k => 1024 :=
  funext fun j => (val_main_v56_apply j).trans MRef.lit_1024

theorem rv57 (h : MRArgs A x0 x1 x2 x3 x4 x5 x6 x7) :
    (val_main_v57 (F := Ideal) x5 : S8192x1.Idx → EReal) = up2 fun i k => (∑ k ∈ Finset.range 1024, A.y i k * A.y i k) / 1024 := by
  unfold val_main_v57
  rw [rv55 h, rv56 h]
  refine Eq.trans (HLift.divf_up2 _ _ (fun _ _ => by norm_num)) ?_
  rfl

theorem rv58 (h : MRArgs A x0 x1 x2 x3 x4 x5 x6 x7) :
    (val_main_v58 (F := Ideal) : S8192x1.Idx → EReal) = up2 fun i k => eps :=
  funext fun j => (val_main_v58_apply j).trans lit_eps

theorem rv59 (h : MRArgs A x0 x1 x2 x3 x4 x5 x6 x7) :
    (val_main_v59 (F := Ideal) x5 : S8192x1.Idx → EReal) = up2 fun i k => Rms.w A.y i := by
  unfold val_main_v59
  rw [rv57 h, rv58 h]
  refine Eq.trans (Lift.addf_up2 _ _) ?_
  rfl

theorem rv60 (h : MRArgs A x0 x1 x2 x3 x4 x5 x6 x7) :
    (val_main_v60 (F := Ideal) x5 : S8192x1.Idx → EReal) = up2 fun i k => Rms.r A.y i := by
  unfold val_main_v60
  rw [rv59 h]
  refine Eq.trans (HLift.rsqrt_up2 _ (fun i _ => Rms.w_pos _ i)) ?_
  rfl

theorem rv61 (h : MRArgs A x0 x1 x2 x3 x4 x5 x6 x7) :
    (val_main_v61 (F := Ideal) x5 : S8192x1.Idx → EReal) = up2 fun i k => Rms.r A.y i / Rms.w A.y i := by
  unfold val_main_v61
  rw [rv60 h, rv59 h]
  refine Eq.trans (HLift.divf_up2 _ _ (fun i _ => (Rms.w_pos _ i).ne')) ?_
  rfl

theorem rv62 (h : MRArgs A x0 x1 x2 x3 x4 x5 x6 x7) :
    (val_main_v62 (F := Ideal) : S8192x1.Idx → EReal) = up2 fun i k => -(1 / 2) :=
  funext fun j => (val_main_v62_apply j).trans lit_mhalf

theorem rv63 (h : MRArgs A x0 x1 x2 x3 x4 x5 x6 x7) :
    (val_main_v63 (F := Ideal) x5 : S8192x1.Idx → EReal) = up2 fun i k => -(1 / 2) * (Rms.r A.y i / Rms.w A.y i) := by
  unfold val_main_v63
  rw [rv62 h, rv61 h]
  refine Eq.trans (Lift.mulf_up2 _ _) ?_
  rfl

theorem rv64 (h : MRArgs A x0 x1 x2 x3 x4 x5 x6 x7) :
    (val_main_v64 (F := Ideal) x5 : S8192x1024.Idx → EReal) = up2 fun i k => Rms.r A.y i := by
  funext j
  refine (val_main_v64_apply _ j).trans ((congrFun (rv60 h) _).trans ?_)
  rfl

theorem rv65 (h : MRArgs A x0 x1 x2 x3 x4 x5 x6 x7) :
    (val_main_v65 (F := Ideal) x5 : S8192x1024.Idx → EReal) = up2 fun i k => A.y i k * Rms.r A.y i := by
  unfold val_main_v65
  rw [rv3 h, rv64 h]
  refine Eq.trans (Lift.mulf_up2 _ _) ?_
  rfl

theorem rv66 (h : MRArgs A x0 x1 x2 x3 x4 x5 x6 x7) :
    (val_main_v66 (F := Ideal) x7 : S8192x1024.Idx → EReal) = up2 fun i k => A.g1 0 k := by
  funext j
  refine (val_main_v66_apply _ j).trans ((congrFun (h.x7) _).trans ?_)
  rfl

theorem rv67 (h : MRArgs A x0 x1 x2 x3 x4 x5 x6 x7) :
    (val_main_v67 (F := Ideal) x5 x7 : S8192x1024.Idx → EReal) = up2 fun i k => A.y i k * Rms.r A.y i * A.g1 0 k := by
  unfold val_main_v67
  rw [rv65 h, rv66 h]
  refine Eq.trans (Lift.mulf_up2 _ _) ?_
  rfl

theorem rv68 (h : MRArgs A x0 x1 x2 x3 x4 x5 x6 x7) :
    (val_main_v68 (F := Ideal) x0 x1 x2 x3 x4 x5 x6 : S8192x1024.Idx → EReal) = up2 fun i k => A.y i k * Rms.r A.y i * A.toIn.dx i k := by
  unfold val_main_v68
  rw [rv65 h, rv52 h]
  refine Eq.trans (Lift.mulf_up2 _ _) ?_
  rfl

theorem rv69 (h : MRArgs A x0 x1 x2 x3 x4 x5 x6 x7) :
    (val_main_v69 (F := Ideal) x0 x1 x2 x3 x4 x5 x6 : S1024.Idx → EReal) = up1 fun i => A.toIn.dg1 8192 i := by
  funext j
  rw [val_main_v69_apply, rv68 h]
  refine (HLift.zero_add_sum (n := 8192) (fun r => (fun i k => (A.y i k * Rms.r A.y i * A.toIn.dx i k : ℝ)) r (j 0).val)).trans ?_
  exact congrArg Real.toEReal (Finset.sum_congr rfl fun _ _ => mul_comm _ _)

theorem rv70 (h : MRArgs A x0 x1 x2 x3 x4 x5 x6 x7) :
    (val_main_v70 (F := Ideal) x0 x1 x2 x3 x4 x5 x6 : S1x1024.Idx → EReal) = up2 fun i k => A.toIn.dg1 8192 k := by
  funext j
  refine (val_main_v70_apply _ _ _ _ _ _ _ j).trans ((congrFun (rv69 h) _).trans ?_)
  have h0 : (j 0).val < 1 := (j 0).isLt
  have h1 : (j 1).val < 1024 := (j 1).isLt
  refine congrArg Real.toEReal ?_
  show (fun i => (A.toIn.dg1 8192 i : ℝ)) (idx_main_v70 j 0).val = (fun i k => (A.toIn.dg1 8192 k : ℝ)) (j 0).val (j 1).val
  simp only
  congr 1 <;> omega

theorem rv71 (h : MRArgs A x0 x1 x2 x3 x4 x5 x6 x7) :
    (val_main_v71 (F := Ideal) x7 : S8192x1024.Idx → EReal) = up2 fun i k => A.g1 0 k := by
  funext j
  refine (val_main_v71_apply _ j).trans ((congrFun (h.x7) _).trans ?_)
  rfl

theorem rv72 (h : MRArgs A x0 x1 x2 x3 x4 x5 x6 x7) :
    (val_main_v72 (F := Ideal) x0 x1 x2 x3 x4 x6 x7 : S8192x1024.Idx → EReal) = up2 fun i k => A.toIn.dx i k * A.g1 0 k := by
  unfold val_main_v72
  rw [rv52 h, rv71 h]
  refine Eq.trans (Lift.mulf_up2 _ _) ?_
  rfl

theorem rv73 (h : MRArgs A x0 x1 x2 x3 x4 x5 x6 x7) :
    (val_main_v73 (F := Ideal) x0 x1 x2 x3 x4 x5 x6 x7 : S8192x1024.Idx → EReal) = up2 fun i k => A.y i k * (A.toIn.dx i k * A.g1 0 k) := by
  unfold val_main_v73
  rw [rv3 h, rv72 h]
  refine Eq.trans (Lift.mulf_up2 _ _) ?_
  rfl

theorem rv74 (h : MRArgs A x0 x1 x2 x3 x4 x5 x6 x7) :
    (val_main_v74 (F := Ideal) x0 x1 x2 x3 x4 x5 x6 x7 : S8192.Idx → EReal) = up1 fun i => ∑ k ∈ Finset.range 1024, A.y i k * (A.toIn.dx i k * A.g1 0 k) := by
  funext j
  rw [val_main_v74_apply, rv73 h]
  exact HLift.zero_add_sum (n := 1024) (fun r => (fun i k => (A.y i k * (A.toIn.dx i k * A.g1 0 k) : ℝ)) (j 0).val r)

theorem rv75 (h : MRArgs A x0 x1 x2 x3 x4 x5 x6 x7) :
    (val_main_v75 (F := Ideal) x0 x1 x2 x3 x4 x5 x6 x7 : S8192x1.Idx → EReal) = up2 fun i k => ∑ k ∈ Finset.range 1024, A.y i k * (A.toIn.dx i k * A.g1 0 k) := by
  funext j
  refine (val_main_v75_apply _ _ _ _ _ _ _ _ j).trans ((congrFun (rv74 h) _).trans ?_)
  have h0 : (j 0).val < 8192 := (j 0).isLt
  have h1 : (j 1).val < 1 := (j 1).isLt
  exact congrArg (fun i => ((∑ k ∈ Finset.range 1024, A.y i k * (A.toIn.dx i k * A.g1 0 k) : ℝ) : EReal)) (by dsimp only [idx_main_v75]; omega : (idx_main_v75 j 0).val = (j 0).val)

theorem rv76 (h : MRArgs A x0 x1 x2 x3 x4 x5 x6 x7) :
    (val_main_v76 (F := Ideal) x5 : S8192x1024.Idx → EReal) = up2 fun i k => Rms.r A.y i := by
  funext j
  refine (val_main_v76_apply _ j).trans ((congrFun (rv60 h) _).trans ?_)
  rfl

theorem rv77 (h : MRArgs A x0 x1 x2 x3 x4 x5 x6 x7) :
    (val_main_v77 (F := Ideal) x0 x1 x2 x3 x4 x5 x6 x7 : S8192x1024.Idx → EReal) = up2 fun i k => A.toIn.dx i k * A.g1 0 k * Rms.r A.y i := by
  unfold val_main_v77
  rw [rv72 h, rv76 h]
  refine Eq.trans (Lift.mulf_up2 _ _) ?_
  rfl

theorem rv78 (h : MRArgs A x0 x1 x2 x3 x4 x5 x6 x7) :
    (val_main_v78 (F := Ideal) x0 x1 x2 x3 x4 x5 x6 x7 : S8192x1.Idx → EReal) = up2 fun i k => (∑ k ∈ Finset.range 1024, A.y i k * (A.toIn.dx i k * A.g1 0 k)) * (-(1 / 2) * (Rms.r A.y i / Rms.w A.y i)) := by
  unfold val_main_v78
  rw [rv75 h, rv63 h]
  refine Eq.trans (Lift.mulf_up2 _ _) ?_
  rfl

theorem rv79 (h : MRArgs A x0 x1 x2 x3 x4 x5 x6 x7) :
    (val_main_v79 (F := Ideal) : S8192x1.Idx → EReal) = up2 fun i k => 1024 :=
  funext fun j => (val_main_v79_apply j).trans MRef.lit_1024

theorem rv80 (h : MRArgs A x0 x1 x2 x3 x4 x5 x6 x7) :
    (val_main_v80 (F := Ideal) x0 x1 x2 x3 x4 x5 x6 x7 : S8192x1.Idx → EReal) = up2 fun i k => (∑ k ∈ Finset.range 1024, A.y i k * (A.toIn.dx i k * A.g1 0 k)) * (-(1 / 2) * (Rms.r A.y i / Rms.w A.y i)) / 1024 := by
  unfold val_main_v80
  rw [rv78 h, rv79 h]
  refine Eq.trans (HLift.divf_up2 _ _ (fun _ _ => by norm_num)) ?_
  rfl

theorem rv81 (h : MRArgs A x0 x1 x2 x3 x4 x5 x6 x7) :
    (val_main_v81 (F := Ideal) x0 x1 x2 x3 x4 x5 x6 x7 : S8192.Idx → EReal) = up1 fun i => (∑ k ∈ Finset.range 1024, A.y i k * (A.toIn.dx i k * A.g1 0 k)) * (-(1 / 2) * (Rms.r A.y i / Rms.w A.y i)) / 1024 := by
  funext j
  rw [val_main_v81_apply, rv80 h]
  refine (HLift.zero_add_sum (n := 1) (fun r => (fun i k => ((∑ k ∈ Finset.range 1024, A.y i k * (A.toIn.dx i k * A.g1 0 k)) * (-(1 / 2) * (Rms.r A.y i / Rms.w A.y i)) / 1024 : ℝ)) (j 0).val r)).trans ?_
  rw [Finset.sum_range_one]; rfl

theorem rv82 (h : MRArgs A x0 x1 x2 x3 x4 x5 x6 x7) :
    (val_main_v82 (F := Ideal) x0 x1 x2 x3 x4 x5 x6 x7 : S8192x1024.Idx → EReal) = up2 fun i k => (∑ k ∈ Finset.range 1024, A.y i k * (A.toIn.dx i k * A.g1 0 k)) * (-(1 / 2) * (Rms.r A.y i / Rms.w A.y i)) / 1024 := by
  funext j
  refine (val_main_v82_apply _ _ _ _ _ _ _ _ j).trans ((congrFun (rv81 h) _).trans ?_)
  rfl

theorem rv83 (h : MRArgs A x0 x1 x2 x3 x4 x5 x6 x7) :
    (val_main_v83 (F := Ideal) x0 x1 x2 x3 x4 x5 x6 x7 : S8192x1024.Idx → EReal) = up2 fun i k => A.y i k * ((∑ k ∈ Finset.range 1024, A.y i k * (A.toIn.dx i k * A.g1 0 k)) * (-(1 / 2) * (Rms.r A.y i / Rms.w A.y i)) / 1024) := by
  unfold val_main_v83
  rw [rv3 h, rv82 h]
  refine Eq.trans (Lift.mulf_up2 _ _) ?_
  rfl

theorem rv84 (h : MRArgs A x0 x1 x2 x3 x4 x5 x6 x7) :
    (val_main_v84 (F := Ideal) x0 x1 x2 x3 x4 x5 x6 x7 : S8192x1024.Idx → EReal) = up2 fun i k => A.toIn.dx i k * A.g1 0 k * Rms.r A.y i + A.y i k * ((∑ k ∈ Finset.range 1024, A.y i k * (A.toIn.dx i k * A.g1 0 k)) * (-(1 / 2) * (Rms.r A.y i / Rms.w A.y i)) / 1024) := by
  unfold val_main_v84
  rw [rv77 h, rv83 h]
  refine Eq.trans (Lift.addf_up2 _ _) ?_
  rfl

theorem rv85 (h : MRArgs A x0 x1 x2 x3 x4 x5 x6 x7) :
    (val_main_v85 (F := Ideal) x0 x1 x2 x3 x4 x5 x6 x7 : S8192x1024.Idx → EReal) = up2 fun i k => (∑ k ∈ Finset.range 1024, A.y i k * (A.toIn.dx i k * A.g1 0 k)) * (-(1 / 2) * (Rms.r A.y i / Rms.w A.y i)) / 1024 * A.y i k := by
  unfold val_main_v85
  rw [rv82 h, rv3 h]
  refine Eq.trans (Lift.mulf_up2 _ _) ?_
  rfl

theorem rv86 (h : MRArgs A x0 x1 x2 x3 x4 x5 x6 x7) :
    (val_main_v86 (F := Ideal) x0 x1 x2 x3 x4 x5 x6 x7 : S8192x1024.Idx → EReal) = up2 fun i k => Rms.dsrc (A.toIn.dx) A.y A.g1 i k := by
  unfold val_main_v86
  rw [rv84 h, rv85 h]
  refine Eq.trans (Lift.addf_up2 _ _) ?_
  exact up2_congr fun i hi k hk => by exact Rms.dsrc_chain _ _ _ i k

theorem rv87 (h : MRArgs A x0 x1 x2 x3 x4 x5 x6 x7) :
    (val_main_v87 (F := Ideal) x0 x1 x2 x4 x6 : S8192x4096.Idx → EReal) = up2 fun i k => A.toIn.dap i k := by
  unfold val_main_v87
  rw [rv31 h]
  refine Eq.trans (Lift.truncf_up2 _ _) ?_
  rfl

theorem rv88 (h : MRArgs A x0 x1 x2 x3 x4 x5 x6 x7) :
    (val_main_v88 (F := Ideal) x0 x1 x2 x3 x4 x5 x6 x7 : S8192x1024.Idx → EReal) = up2 fun i k => A.toIn.dyy i k := by
  unfold val_main_v88
  rw [rv86 h]
  refine Eq.trans (Lift.truncf_up2 _ _) ?_
  rfl

end Cert.MRef

end
-- ==== Proof.MlpHost.lean ====
/-
  What the second kernel's host lines hand to the launch: the arguments themselves and the activation.
-/
module

public import proofs.«01_k».proof.Proof.MlpLaunch
public import proofs.«01_k».proof.Proof.MlpRef

@[expose] public section

noncomputable section

namespace Cert.MlpIdeal

open Cert.MlpIdeal.Gen Cert.Lift Idealize.ShloMosaic Idealize.ShloMosaic.TcCoe Idealize.SL.Sem

variable (m : (ℓ : Loc nD τ sig) → Buf (Elt Ideal) ℓ) (c : Dev nD)

/-- The activation is computed by the reference's own lines. -/
theorem host_a : (V m c main_v15 : S8192x4096.Idx → EReal)
    = Cert.MlpReferenceIdeal.Read.val_main_v20 (F := Ideal) (m ((c : Thread nD τ).loc main_arg2)) (m ((c : Thread nD τ).loc main_arg4)) (m ((c : Thread nD τ).loc main_arg6)) := by
  entry_read
  rfl

variable {m c} {A : MArgs}

/-- On arguments of reals the launch finds arrays of reals. -/
theorem sees (h : Cert.MRef.MRArgs A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) : Cert.MLift.Sees m c A where
  main_arg0 := (V_main_arg0 m c).trans h.x0
  main_v15 := (host_a m c).trans (Cert.MRef.rv20 h)
  main_arg1 := (V_main_arg1 m c).trans h.x1
  main_arg2 := (V_main_arg2 m c).trans h.x2
  main_arg3 := (V_main_arg3 m c).trans h.x3
  main_arg4 := (V_main_arg4 m c).trans h.x4
  main_arg5 := (V_main_arg5 m c).trans h.x5
  main_arg6 := (V_main_arg6 m c).trans h.x6
  main_arg7 := (V_main_arg7 m c).trans h.x7

end Cert.MlpIdeal

end
-- ==== Proof.MlpFinite.lean ====
/-
  What the second precondition says: the arguments are arrays of reals.
-/
module

public import proofs.«01_k».proof.Proof.Finite
public import proofs.«01_k».proof.Proof.MlpRef
public import proofs.«01_k».proof.Proof.Gen.Pre_mlp_finite

@[expose] public section

noncomputable section

namespace Cert.Finite

open Cert.Lift Idealize.ShloMosaic Idealize.ShloMosaic.TcCoe Idealize.SL.Sem Cert.Pre_mlp_finite Cert.Pre_mlp_finite.Facts

/-- Arguments of which `mlp_finite` is 1 are arrays of reals. -/
theorem mlp_args [hF : Cert.Pre_mlp_finite.Facts] (x0 : FVec Ideal S8192x1024 .bf16) (x1 : FVec Ideal S4096x1024 .bf16) (x2 : FVec Ideal S1024x4096 .bf16) (x3 : FVec Ideal S8192x1024 .f32) (x4 : FVec Ideal S8192x1024 .f32) (x5 : FVec Ideal S8192x1024 .bf16) (x6 : FVec Ideal S1x1024 .f32) (x7 : FVec Ideal S1x1024 .f32)
    (h : Cert.Pre_mlp_finite.fn (F := Ideal) x0 x1 x2 x3 x4 x5 x6 x7 = fun _ => 1#1) : ∃ A : MArgs, Cert.MRef.MRArgs A x0 x1 x2 x3 x4 x5 x6 x7 := by
  have h0 := congrFun h (fun a => a.elim0)
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  obtain ⟨f0, q0⟩ := reals2 _ (all_real (extf .f32 x0 bitsLt_bf16_f32) _ _ _ _ e0)
  obtain ⟨f1, q1⟩ := reals2 _ (all_real (extf .f32 x1 bitsLt_bf16_f32) _ _ _ _ e1)
  obtain ⟨f2, q2⟩ := reals2 _ (all_real (extf .f32 x2 bitsLt_bf16_f32) _ _ _ _ e2)
  obtain ⟨f3, q3⟩ := reals2 _ (all_real x3 _ _ _ _ e3)
  obtain ⟨f4, q4⟩ := reals2 _ (all_real x4 _ _ _ _ e4)
  obtain ⟨f5, q5⟩ := reals2 _ (all_real (extf .f32 x5 bitsLt_bf16_f32) _ _ _ _ e5)
  obtain ⟨f6, q6⟩ := reals2 _ (all_real x6 _ _ _ _ e6)
  obtain ⟨f7, q7⟩ := reals2 _ (all_real x7 _ _ _ _ e7)
  exact ⟨⟨f0, f1, f2, f3, f4, f5, f6, f7⟩, ⟨q0, q1, q2, q3, q4, q5, q6, q7⟩⟩

end Cert.Finite

end
-- ==== Proof.Sums.lean ====
/-
  Arrays of extended reals named by their entries, and sums of products of rows taken part by part.
-/
module

public import proofs.«01_k».proof.Proof.Reads

@[expose] public section

noncomputable section

namespace Cert.GLift

open Idealize.ShloMosaic Cert.Lift

variable {n m n' m' : ℕ}

/-- The matrix with these entries. -/
def ue2 (f : ℕ → ℕ → EReal) : (⟨2, ![n, m]⟩ : Shape).Idx → EReal := fun i => f (i 0).val (i 1).val
/-- The stack of matrices with these entries. -/
def ue3 {p : ℕ} (f : ℕ → ℕ → ℕ → EReal) : (⟨3, ![p, n, m]⟩ : Shape).Idx → EReal := fun i => f (i 0).val (i 1).val (i 2).val

/-- Every matrix is given by its entries. -/
theorem ue2_exists (X : (⟨2, ![n, m]⟩ : Shape).Idx → EReal) : ∃ f, X = ue2 f := by
  refine ⟨fun i k => if h : i < n ∧ k < m then X (ValueIdx.ix2 ⟨i, h.1⟩ ⟨k, h.2⟩) else 0, funext fun j => ?_⟩
  have hj : (j 0).val < n ∧ (j 1).val < m := ⟨(j 0).isLt, (j 1).isLt⟩
  show X j = if h : (j 0).val < n ∧ (j 1).val < m then X (ValueIdx.ix2 ⟨(j 0).val, h.1⟩ ⟨(j 1).val, h.2⟩) else 0
  rw [dif_pos hj]
  exact congrArg X (ValueIdx.eq_ix2 j)

/-- Two matrices with the same entries. -/
theorem ue2_congr {f g : ℕ → ℕ → EReal} (h : ∀ i < n, ∀ k < m, f i k = g i k) : ue2 (n := n) (m := m) f = ue2 g :=
  funext fun j => h _ (j 0).isLt _ (j 1).isLt
/-- Two stacks with the same entries. -/
theorem ue3_congr {p : ℕ} {f g : ℕ → ℕ → ℕ → EReal} (h : ∀ o < p, ∀ i < n, ∀ k < m, f o i k = g o i k) :
    ue3 (p := p) (n := n) (m := m) f = ue3 g :=
  funext fun j => h _ (j 0).isLt _ (j 1).isLt _ (j 2).isLt

/-- A matrix laid out anew, its entries in the same order. -/
theorem recast (f : ℕ → ℕ → EReal) (h) :
    shapeCast (s := ⟨2, ![n, m]⟩) ⟨2, ![n', m']⟩ (ue2 f) h = ue2 fun i k => f ((i * m' + k) / m) ((i * m' + k) % m) := by
  funext j
  have hm : (j 0).val * m' + (j 1).val < n * m := by
    have h0 : (j 0).val < n' := (j 0).isLt
    have h1 : (j 1).val < m' := (j 1).isLt
    have e : n' * m' = n * m := by
      have := (show Shape.numel _ = Shape.numel _ from h)
      simpa [Shape.numel, Fin.prod_univ_two] using this
    calc (j 0).val * m' + (j 1).val < (j 0).val * m' + m' := Nat.add_lt_add_left h1 _
      _ = ((j 0).val + 1) * m' := (Nat.succ_mul _ _).symm
      _ ≤ n' * m' := Nat.mul_le_mul_right _ h0
      _ = n * m := e
  have hp : 0 < m := Nat.pos_of_ne_zero fun e => by rw [e, Nat.mul_zero] at hm; exact absurd hm (Nat.not_lt_zero _)
  exact shapeCast_apply (ue2 f) h j (ValueIdx.ix2 ⟨_, Nat.div_lt_of_lt_mul (Nat.mul_comm n m ▸ hm)⟩ ⟨_, Nat.mod_lt _ hp⟩)
    (by rewrite [Shape.rowMajor_val_two, Shape.rowMajor_val_two]; exact Nat.div_add_mod' _ _)

/-- A matrix as a stack of one. -/
theorem cast_up (f : ℕ → ℕ → EReal) (h) :
    shapeCast (s := ⟨2, ![n, m]⟩) ⟨3, ![1, n, m]⟩ (ue2 f) h = ue3 fun _ i k => f i k := by
  funext j
  rw [ValueIdx.eq_ix3 j]
  exact ValueIdx.shapeCast_ab_1ab_apply _ _ _ _ _
/-- A stack of one as a matrix. -/
theorem cast_down (f : ℕ → ℕ → ℕ → EReal) (h) :
    shapeCast (s := ⟨3, ![1, n, m]⟩) ⟨2, ![n, m]⟩ (ue3 f) h = ue2 fun i k => f 0 i k := by
  funext j
  exact (congrArg (shapeCast _ (ue3 f) h) (ValueIdx.eq_ix2 j)).trans (ValueIdx.shapeCast_1ab_ab_apply (ue3 f) h (j 0) (j 1))

/-- A load of a whole stack. -/
theorem read_whole3 {sig : RefSig} {κ : Kind} {sp : Space} {e : EltTy} {p : ℕ} {M : Memref sig κ sp ⟨3, ![p, n, m]⟩ e} (h : M.IsWhole)
    (X : (⟨3, ![p, n, m]⟩ : Shape).Idx → Elt Ideal e) (inb) :
    View.readAt (Elt Ideal) M.view (Rect.unit (s := ⟨3, ![p, n, m]⟩) ![0, 0, 0] (no_index (⟨3, ![p, n, m]⟩ : Shape).size) inb).toLoadRect (h.unread X) = X := by
  funext x
  rw [h.readAt_unread]
  refine congrArg X (funext fun ax => Fin.ext ?_)
  rw [idx_val]
  match ax with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- The products of the rows of `A` and `B`, summed over the first `P` parts of `ts` rows each; row `k` of part `p` is row `row p k`. -/
def parts (ts : ℕ) (row : ℕ → ℕ → ℕ) (A B : ℕ → ℕ → EReal) (P i j : ℕ) : EReal :=
  ∑ p ∈ Finset.range P, ∑ k ∈ Finset.range ts, A (row p k) i * B (row p k) j

/-- The sum over all 8192 rows. -/
def rows (A B : ℕ → ℕ → EReal) (i j : ℕ) : EReal := ∑ k ∈ Finset.range 8192, A k i * B k j

theorem parts_zero (ts : ℕ) (row : ℕ → ℕ → ℕ) (A B : ℕ → ℕ → EReal) (i j : ℕ) : parts ts row A B 0 i j = 0 := rfl

/-- One part more. -/
theorem parts_succ (ts : ℕ) (row : ℕ → ℕ → ℕ) (A B : ℕ → ℕ → EReal) (P i j : ℕ) :
    parts ts row A B (P + 1) i j = parts ts row A B P i j + ∑ k ∈ Finset.range ts, A (row P k) i * B (row P k) j :=
  Finset.sum_range_succ _ _

/-- Parts that hold every row once sum to the sum over the rows. -/
theorem parts_all {ts P : ℕ} {row : ℕ → ℕ → ℕ} (pi ki : ℕ → ℕ) (A B : ℕ → ℕ → EReal) (i j : ℕ)
    (h1 : ∀ p < P, ∀ k < ts, row p k < 8192 ∧ pi (row p k) = p ∧ ki (row p k) = k)
    (h2 : ∀ x < 8192, pi x < P ∧ ki x < ts ∧ row (pi x) (ki x) = x) : parts ts row A B P i j = rows A B i j := by
  unfold parts rows
  rw [← Finset.sum_product']
  refine Finset.sum_nbij' (fun q => row q.1 q.2) (fun x => (pi x, ki x)) ?_ ?_ ?_ ?_ ?_
  · intro q hq
    have := Finset.mem_product.mp hq
    exact Finset.mem_range.mpr (h1 _ (Finset.mem_range.mp this.1) _ (Finset.mem_range.mp this.2)).1
  · intro x hx
    have := h2 x (Finset.mem_range.mp hx)
    exact Finset.mem_product.mpr ⟨Finset.mem_range.mpr this.1, Finset.mem_range.mpr this.2.1⟩
  · intro q hq
    have := Finset.mem_product.mp hq
    have := h1 _ (Finset.mem_range.mp this.1) _ (Finset.mem_range.mp this.2)
    exact Prod.ext this.2.1 this.2.2
  · exact fun x hx => (h2 x (Finset.mem_range.mp hx)).2.2
  · exact fun _ _ => rfl

end Cert.GLift

end
-- ==== Proof.SumGradOut.lean ====
/-
  The gradient of the second weight of the multilayer perceptron: the launch sums the products of the squared activation's rows and the cotangent's rows.
-/
module

public import proofs.«01_k».proof.Proof.Sums
public import proofs.«01_k».proof.Proof.Gen.GradOutIdeal.Value
public import proofs.«01_k».proof.Proof.Gen.GradOutReferenceIdeal.Read
public import Idealize.ShloMosaic.Lib.Pipeline.ValueKit

@[expose] public section

set_option maxHeartbeats 1000000

noncomputable section

namespace Cert.GradOutProof

open Idealize.ShloMosaic Idealize.ShloMosaic.TcCoe Idealize.SL.Sem Cert.GradOutIdeal Cert.GradOutIdeal.Gen Cert.Lift Cert.GLift

/-! What the body computes of two blocks. -/

/-- The first store is of zeros. -/
theorem pay1 : k0_pay1 (F := Ideal) = ue2 fun _ _ => 0 := by
  funext j
  unfold k0_pay1
  exact lit_zero.trans EReal.coe_zero

/-- The product of two blocks along their rows. -/
theorem product (a b : ℕ → ℕ → EReal) :
    matmul (F := Ideal) (φ₁ := .bf16) (φ₂ := .bf16) dot_S2048x1024_S2048x1024_S1024x1024_0_0_1_1_n_n none (ue2 a) (ue2 b) (constant S1024x1024 .f32 0x00000000#32)
      = ue2 fun i j => ∑ k ∈ Finset.range 2048, a k i * b k j := by
  funext j
  idx_vars j
  pointwise [ue2]
  exact Fin.sum_univ_eq_sum_range (fun k => a k ↑j0 * b k ↑j1) 2048

/-- The second store adds the blocks' product to what the block held. -/
theorem pay2 (a o b : ℕ → ℕ → EReal) : k0_pay2 (F := Ideal) (ue2 a) (ue2 o) (ue2 b)
    = ue2 fun i j => o i j + ∑ k ∈ Finset.range 2048, (a k i * a k i) * b k j := by
  unfold k0_pay2
  dsimp only
  rw [cast_same2, cast_same2]
  exact (congrArg (addf (F := Ideal) (φ := .f32) (ue2 o)) (product (fun k i => a k i * a k i) b)).trans rfl

section bodies

variable {c : Dev nD} {i : grid0.Coords} {arg3 : Memref sig .tc .vmem S2048x1024 .bf16} {harg3 : arg3.IsWhole} {arg4 : Memref sig .tc .vmem S2048x1024 .bf16} {harg4 : arg4.IsWhole} {arg5 : Memref sig .tc .vmem S1024x1024 .f32} {harg5 : arg5.IsWhole} {a b o : ℕ → ℕ → EReal}

/-- At a block's first point the body leaves the product. -/
theorem out_A {hc0} : out0_A_2 (F := Ideal) c i arg3 harg3 arg4 harg4 arg5 harg5 hc0 (ue2 a) (ue2 b) = ue2 fun i j => ∑ k ∈ Finset.range 2048, (a k i * a k i) * b k j := by
  refine (View.read_writes_junk_eq_canon _ _).trans ?_
  unfold kernelRun0_A
  dsimp only
  refine (View.canon_cons_unit_lit' _ _ _ fun a => by match a with | ⟨0, _⟩ => rfl | ⟨1, _⟩ => rfl).trans ?_
  simp only [kernelRun0_A.sl.v8, kernelRun0_A.sl.H2_1, read_whole2, View.readCov_cons_toLoadRect, pay1]
  refine (pay2 a (fun _ _ => 0) b).trans ?_
  simp only [zero_add]

/-- At a later point it adds the product to what it finds. -/
theorem out_B {hc0} : out0_B_2 (F := Ideal) c i arg3 harg3 arg4 harg4 arg5 harg5 hc0 (ue2 a) (ue2 b) (ue2 o) = ue2 fun i j => o i j + ∑ k ∈ Finset.range 2048, (a k i * a k i) * b k j := by
  refine (View.read_writes_junk_eq_canon _ _).trans ?_
  unfold kernelRun0_B
  dsimp only
  refine (View.canon_cons_unit_lit' _ _ _ fun a => by match a with | ⟨0, _⟩ => rfl | ⟨1, _⟩ => rfl).trans ?_
  simp only [read_whole2]
  exact pay2 a o b

end bodies

/-! The launch. -/

variable (m : (ℓ : Loc nD τ sig) → Buf (Elt Ideal) ℓ) (c : Dev nD) (a b : ℕ → ℕ → EReal)

/-- What the launch finds in its operands' buffers on device `c`. -/
structure Sees : Prop where
  left : (V m c main_v15 : S8192x4096.Idx → EReal) = ue2 a
  right : (V m c main_arg0 : S8192x1024.Idx → EReal) = ue2 b

/-- Row `k` of the blocks of part `p`. -/
def row (p k : ℕ) : ℕ := p * 2048 + k

variable {m c a b}

theorem tr0 (t : Fin cfg0.N) : win0_0.index t = ![t.val % 4, t.val / 4] :=
  (by decide +kernel : ∀ t : Fin grid0.N, win0_0.index t = ![t.val % 4, t.val / 4]) t
theorem tr1 (t : Fin cfg0.N) : win0_1.index t = ![t.val % 4, t.val / 4 % 1] :=
  (by decide +kernel : ∀ t : Fin grid0.N, win0_1.index t = ![t.val % 4, t.val / 4 % 1]) t
theorem tr2 (t : Fin cfg0.N) : win0_2.index t = ![t.val / 4, t.val / 4 % 1] :=
  (by decide +kernel : ∀ t : Fin grid0.N, win0_2.index t = ![t.val / 4, t.val / 4 % 1]) t

/-- The launch's block 0 at a point. -/
theorem iblk_0 (h : Sees m c a b) (t : Fin cfg0.N) : (iblk m c 0 t : S2048x1024.Idx → EReal) = ue2 fun k i => a (row (t.val % 4) k) (t.val / 4 * 1024 + i) := by
  funext y
  have e : iblk m c 0 t y = V m c main_v15 (((cfg0.win 0).blk t).view.emb y) := rfl
  rw [e, h.left]
  show a _ _ = a _ _
  blk_simp
  rw [tr0]
  have h0 : (y 0).val < 2048 := (y 0).isLt
  have h1 : (y 1).val < 1024 := (y 1).isLt
  have ht : t.val < 16 := t.isLt
  refine congrArg₂ a ?_ ?_
  · show t.val % 4 * 2048 + (y 0).val = (t.val % 4) * 2048 + (y 0).val
    omega
  · show t.val / 4 * 1024 + (y 1).val = t.val / 4 * 1024 + (y 1).val
    omega

/-- The launch's block 1 at a point. -/
theorem iblk_1 (h : Sees m c a b) (t : Fin cfg0.N) : (iblk m c 1 t : S2048x1024.Idx → EReal) = ue2 fun k i => b (row (t.val % 4) k) (t.val / 4 % 1 * 1024 + i) := by
  funext y
  have e : iblk m c 1 t y = V m c main_arg0 (((cfg0.win 1).blk t).view.emb y) := rfl
  rw [e, h.right]
  show b _ _ = b _ _
  blk_simp
  rw [tr1]
  have h0 : (y 0).val < 2048 := (y 0).isLt
  have h1 : (y 1).val < 1024 := (y 1).isLt
  have ht : t.val < 16 := t.isLt
  refine congrArg₂ b ?_ ?_
  · show t.val % 4 * 2048 + (y 0).val = (t.val % 4) * 2048 + (y 0).val
    omega
  · show t.val / 4 % 1 * 1024 + (y 1).val = t.val / 4 % 1 * 1024 + (y 1).val
    omega

/-- What point `n` leaves: the sum over the parts so far. -/
def Left (a b : ℕ → ℕ → EReal) (n : ℕ) (o : S1024x1024.Idx → EReal) : Prop :=
  o = ue2 fun i j => parts 2048 row (fun k i => a k i * a k i) b (n % 4 + 1) (n / 4 * 1024 + i) (n / 4 % 1 * 1024 + j)

/-- At a block's first point. -/
theorem left_A (h : Sees m c a b) (t : Fin cfg0.N) (h0 : t.val % 4 = 0) : Left a b t.val (outsAt0 m c t.val t.isLt) := by
  unfold Left
  rw [outsAt0_A m c t h0, iblk_0 h t, iblk_1 h t]
  refine out_A.trans ?_
  have ht : t.val < 16 := t.isLt
  have hp : t.val % 4 = 0 := by omega
  rw [hp]
  refine ue2_congr fun i _ j _ => ?_
  rw [parts_succ, parts_zero, zero_add]

/-- At a later point, from the point before. -/
theorem left_B (h : Sees m c a b) (t : Fin cfg0.N) (h0 : ¬t.val % 4 = 0) (n : ℕ) (ht : t.val = n + 1)
    (hp : ∀ hn, Left a b n (outsAt0 m c n hn)) : Left a b t.val (outsAt0 m c t.val t.isLt) := by
  unfold Left
  rw [outsAt0_B m c t h0, iblk_0 h t, iblk_1 h t]
  have e : ∀ hn, outsAt0 m c (t.val - 1) hn = outsAt0 m c n (by rw [ht, Nat.add_sub_cancel] at hn; exact hn) := by
    intro hn
    have : t.val - 1 = n := by omega
    subst this
    rfl
  have hL := hp (by have := t.isLt; omega)
  unfold Left at hL
  rw [e, hL]
  refine (out_B (a := fun k i => a (row (t.val % 4) k) (t.val / 4 * 1024 + i)) (b := fun k j => b (row (t.val % 4) k) (t.val / 4 % 1 * 1024 + j))
    (o := fun i j => parts 2048 row (fun k i => a k i * a k i) b (n % 4 + 1) (n / 4 * 1024 + i) (n / 4 % 1 * 1024 + j))).trans ?_
  have e1 : n % 4 + 1 = t.val % 4 := by omega

  have d0 : n / 4 = t.val / 4 := by omega
  have d1 : n / 4 % 1 = t.val / 4 % 1 := by omega
  rw [e1]
  try rw [d0]
  try rw [d1]
  refine ue2_congr fun i _ j _ => ?_
  rw [parts_succ]

/-- At every point. -/
theorem left_all (h : Sees m c a b) (n : ℕ) : ∀ hn, Left a b n (outsAt0 m c n hn) := by
  induction n with
  | zero => exact fun hn => left_A h ⟨0, hn⟩ (by rfl)
  | succ n ih =>
    intro hn
    by_cases h0 : (n + 1) % 4 = 0
    · exact left_A h ⟨n + 1, hn⟩ h0
    · exact left_B h ⟨n + 1, hn⟩ h0 n rfl ih

/-- All parts together hold every row once. -/
theorem all_rows (A B : ℕ → ℕ → EReal) (i j : ℕ) : parts 2048 row A B (3 + 1) i j = rows A B i j :=
  parts_all (fun x => x / 2048) (fun x => x % 2048) A B i j (by
    intro p hp k hk
    dsimp only [row]
    omega) (by intro x hx; dsimp only [row]; omega)

/-- The array the launch leaves. -/
theorem arr (h : Sees m c a b) : ((dats m 0 c).arrAt 2 cfg0.N : S4096x1024.Idx → EReal) = ue2 (rows (fun k i => a k i * a k i) b) := by
  refine (dats m 0 c).arrAt_eq_of_covers 2 _ (by decide +kernel) fun t hf y => ?_
  have h3 : t.val % 4 = 3 := (flush0_2 t).mp hf
  blk_simp
  have hL := left_all h t.val t.isLt
  unfold Left at hL
  rw [after0_2, hL]

  show parts 2048 row (fun k i => a k i * a k i) b (t.val % 4 + 1) (t.val / 4 * 1024 + (y 0).val) (t.val / 4 % 1 * 1024 + (y 1).val) = rows (fun k i => a k i * a k i) b _ _
  rw [h3]
  refine (all_rows _ _ _ _).trans ?_
  blk_simp
  rw [tr2]
  rfl

/-! The reference. -/

/-- The product along all rows. -/
theorem host_product (a b : ℕ → ℕ → EReal) :
    Host.dotGeneral (F := Ideal) (φ₁ := .f32) (φ₂ := .f32) Cert.GradOutReferenceIdeal.dot_S8192x1024_S8192x4096_S1024x4096_0_0_1_1_n_n none (ue2 a) (ue2 b) = ue2 (rows a b) := by
  funext j
  idx_vars j
  pointwise [ue2]
  exact Fin.sum_univ_eq_sum_range (fun k => a k ↑j0 * b k ↑j1) 8192

/-- The reference's result. -/
theorem ref {x0 : (⟨2, ![8192, 1024]⟩ : Shape).Idx → EReal} {x1 : (⟨2, ![8192, 1024]⟩ : Shape).Idx → EReal} {x2 : (⟨2, ![1, 1024]⟩ : Shape).Idx → EReal} {x3 : (⟨2, ![1024, 4096]⟩ : Shape).Idx → EReal}
    (ha : (Cert.GradOutReferenceIdeal.Read.val_main_v16 (F := Ideal) x1 x2 x3 : (⟨2, ![8192, 4096]⟩ : Shape).Idx → EReal) = ue2 a)
    (hb : (Cert.GradOutReferenceIdeal.Read.val_main_v0 (F := Ideal) x0 : (⟨2, ![8192, 1024]⟩ : Shape).Idx → EReal) = ue2 b) :
    (Cert.GradOutReferenceIdeal.Read.val_main_v20 (F := Ideal) x0 x1 x2 x3 : S4096x1024.Idx → EReal) = ue2 (rows (fun k i => a k i * a k i) b) := by
  have hs : (Cert.GradOutReferenceIdeal.Read.val_main_v17 (F := Ideal) x1 x2 x3 : (⟨2, ![8192, 4096]⟩ : Shape).Idx → EReal) = ue2 (fun k i => a k i * a k i) := by
    unfold Cert.GradOutReferenceIdeal.Read.val_main_v17
    rw [ha]
    rfl
  have hd : (Cert.GradOutReferenceIdeal.Read.val_main_v19 (F := Ideal) x0 x1 x2 x3 : (⟨2, ![1024, 4096]⟩ : Shape).Idx → EReal) = ue2 (rows b (fun k i => a k i * a k i)) := by
    unfold Cert.GradOutReferenceIdeal.Read.val_main_v19
    rw [hb, hs]
    exact host_product _ _
  funext j
  rw [Cert.GradOutReferenceIdeal.Read.val_main_v20_apply, hd]
  show rows b (fun k i => a k i * a k i) (j 1).val (j 0).val = rows (fun k i => a k i * a k i) b (j 0).val (j 1).val
  unfold rows
  exact Finset.sum_congr rfl fun k _ => mul_comm _ _

/-! The two together. -/

variable (m c)

/-- The left operand is computed by the reference's own lines. -/
theorem host_left : (V m c main_v15 : S8192x4096.Idx → EReal) = Cert.GradOutReferenceIdeal.Read.val_main_v16 (F := Ideal) (m ((c : Thread nD τ).loc main_arg1)) (m ((c : Thread nD τ).loc main_arg2)) (m ((c : Thread nD τ).loc main_arg3)) := by
  entry_read
  rfl

/-- The right operand is an argument. -/
theorem host_right : (V m c main_arg0 : S8192x1024.Idx → EReal) = Cert.GradOutReferenceIdeal.Read.val_main_v0 (F := Ideal) (m ((c : Thread nD τ).loc main_arg0)) := V_main_arg0 m c

/-- The reference's result is the array the launch leaves. -/
theorem leaves {x0 : (⟨2, ![8192, 1024]⟩ : Shape).Idx → EReal} {x1 : (⟨2, ![8192, 1024]⟩ : Shape).Idx → EReal} {x2 : (⟨2, ![1, 1024]⟩ : Shape).Idx → EReal} {x3 : (⟨2, ![1024, 4096]⟩ : Shape).Idx → EReal}
    (e0 : x0 = m ((c : Thread nD τ).loc main_arg0)) (e1 : x1 = m ((c : Thread nD τ).loc main_arg1)) (e2 : x2 = m ((c : Thread nD τ).loc main_arg2)) (e3 : x3 = m ((c : Thread nD τ).loc main_arg3)) :
    (Cert.GradOutReferenceIdeal.Read.val_main_v20 (F := Ideal) x0 x1 x2 x3 : S4096x1024.Idx → EReal) = (dats m 0 c).arrAt 2 cfg0.N := by
  obtain ⟨a, ha⟩ := ue2_exists (Cert.GradOutReferenceIdeal.Read.val_main_v16 (F := Ideal) x1 x2 x3 : (⟨2, ![8192, 4096]⟩ : Shape).Idx → EReal)
  obtain ⟨b, hb⟩ := ue2_exists (Cert.GradOutReferenceIdeal.Read.val_main_v0 (F := Ideal) x0 : (⟨2, ![8192, 1024]⟩ : Shape).Idx → EReal)
  have hr := ref ha hb
  subst e0 e1 e2 e3
  exact hr.trans (arr ⟨(host_left m c).trans ha, (host_right m c).trans hb⟩).symm

end Cert.GradOutProof

end
-- ==== Proof.SumGradIn.lean ====
/-
  The gradient of the first weight of the multilayer perceptron: the launch sums the products of the normalised rows and the cotangent's rows.
-/
module

public import proofs.«01_k».proof.Proof.Sums
public import proofs.«01_k».proof.Proof.Gen.GradInIdeal.Value
public import proofs.«01_k».proof.Proof.Gen.GradInReferenceIdeal.Read
public import Idealize.ShloMosaic.Lib.Pipeline.ValueKit

@[expose] public section

set_option maxHeartbeats 1000000

noncomputable section

namespace Cert.GradInProof

open Idealize.ShloMosaic Idealize.ShloMosaic.TcCoe Idealize.SL.Sem Cert.GradInIdeal Cert.GradInIdeal.Gen Cert.Lift Cert.GLift

/-! What the body computes of two blocks. -/

/-- The first store is of zeros. -/
theorem pay1 : k0_pay1 (F := Ideal) = ue3 fun _ _ _ => 0 := by
  funext j
  unfold k0_pay1
  exact lit_zero.trans EReal.coe_zero

/-- The product of two blocks along their rows. -/
theorem product (a b : ℕ → ℕ → EReal) :
    matmul (F := Ideal) (φ₁ := .bf16) (φ₂ := .bf16) dot_S2048x1024_S2048x1024_S1024x1024_0_0_1_1_n_n none (ue2 a) (ue2 b) (constant S1024x1024 .f32 0x00000000#32)
      = ue2 fun i j => ∑ k ∈ Finset.range 2048, a k i * b k j := by
  funext j
  idx_vars j
  pointwise [ue2]
  exact Fin.sum_univ_eq_sum_range (fun k => a k ↑j0 * b k ↑j1) 2048

/-- The second store adds the blocks' product to what the block held. -/
theorem pay2 (a o b : ℕ → ℕ → EReal) : k0_pay2 (F := Ideal) (ue2 a) (ue3 (fun _ i j => o i j)) (ue2 b)
    = ue3 fun _ i j => o i j + ∑ k ∈ Finset.range 2048, a k i * b k j := by
  unfold k0_pay2
  dsimp only
  rw [cast_same2, cast_down, product, ← cast_up (n := 1024) (m := 1024) (fun i j => o i j + ∑ k ∈ Finset.range 2048, a k i * b k j) shapeCasts_S1024x1024_S1x1024x1024]
  rfl

section bodies

variable {c : Dev nD} {i : grid0.Coords} {arg3 : Memref sig .tc .vmem S2048x1024 .bf16} {harg3 : arg3.IsWhole} {arg4 : Memref sig .tc .vmem S2048x1024 .bf16} {harg4 : arg4.IsWhole} {arg5 : Memref sig .tc .vmem S1x1024x1024 .f32} {harg5 : arg5.IsWhole} {a b o : ℕ → ℕ → EReal}

/-- At a block's first point the body leaves the product. -/
theorem out_A {hc0} : out0_A_2 (F := Ideal) c i arg3 harg3 arg4 harg4 arg5 harg5 hc0 (ue2 a) (ue2 b) = ue3 fun _ i j => ∑ k ∈ Finset.range 2048, a k i * b k j := by
  refine (View.read_writes_junk_eq_canon _ _).trans ?_
  unfold kernelRun0_A
  dsimp only
  refine (View.canon_cons_unit_lit' _ _ _ fun a => by match a with | ⟨0, _⟩ => rfl | ⟨1, _⟩ => rfl | ⟨2, _⟩ => rfl).trans ?_
  simp only [kernelRun0_A.sl.v5, kernelRun0_A.sl.H2_1, read_whole2, View.readCov_cons_toLoadRect, pay1]
  refine (pay2 a (fun _ _ => 0) b).trans ?_
  simp only [zero_add]

/-- At a later point it adds the product to what it finds. -/
theorem out_B {hc0} : out0_B_2 (F := Ideal) c i arg3 harg3 arg4 harg4 arg5 harg5 hc0 (ue2 a) (ue2 b) (ue3 (fun _ i j => o i j)) = ue3 fun _ i j => o i j + ∑ k ∈ Finset.range 2048, a k i * b k j := by
  refine (View.read_writes_junk_eq_canon _ _).trans ?_
  unfold kernelRun0_B
  dsimp only
  refine (View.canon_cons_unit_lit' _ _ _ fun a => by match a with | ⟨0, _⟩ => rfl | ⟨1, _⟩ => rfl | ⟨2, _⟩ => rfl).trans ?_
  simp only [read_whole2, read_whole3]
  exact pay2 a o b

end bodies

/-! The launch. -/

variable (m : (ℓ : Loc nD τ sig) → Buf (Elt Ideal) ℓ) (c : Dev nD) (a b : ℕ → ℕ → EReal)

/-- What the launch finds in its operands' buffers on device `c`. -/
structure Sees : Prop where
  left : (V m c main_v12 : S8192x1024.Idx → EReal) = ue2 a
  right : (V m c main_arg0 : S8192x4096.Idx → EReal) = ue2 b

/-- Row `k` of the blocks of part `p`. -/
def row (p k : ℕ) : ℕ := p * 2048 + k

variable {m c a b}

theorem tr0 (t : Fin cfg0.N) : win0_0.index t = ![t.val % 4, t.val / 16] :=
  (by decide +kernel : ∀ t : Fin grid0.N, win0_0.index t = ![t.val % 4, t.val / 16]) t
theorem tr1 (t : Fin cfg0.N) : win0_1.index t = ![t.val % 4, t.val / 4 % 4] :=
  (by decide +kernel : ∀ t : Fin grid0.N, win0_1.index t = ![t.val % 4, t.val / 4 % 4]) t
theorem tr2 (t : Fin cfg0.N) : win0_2.index t = ![t.val / 4 % 4, t.val / 16, 0] :=
  (by decide +kernel : ∀ t : Fin grid0.N, win0_2.index t = ![t.val / 4 % 4, t.val / 16, 0]) t

/-- The launch's block 0 at a point. -/
theorem iblk_0 (h : Sees m c a b) (t : Fin cfg0.N) : (iblk m c 0 t : S2048x1024.Idx → EReal) = ue2 fun k i => a (row (t.val % 4) k) (t.val / 16 * 1024 + i) := by
  funext y
  have e : iblk m c 0 t y = V m c main_v12 (((cfg0.win 0).blk t).view.emb y) := rfl
  rw [e, h.left]
  show a _ _ = a _ _
  blk_simp
  rw [tr0]
  have h0 : (y 0).val < 2048 := (y 0).isLt
  have h1 : (y 1).val < 1024 := (y 1).isLt
  have ht : t.val < 16 := t.isLt
  refine congrArg₂ a ?_ ?_
  · show t.val % 4 * 2048 + (y 0).val = (t.val % 4) * 2048 + (y 0).val
    omega
  · show t.val / 16 * 1024 + (y 1).val = t.val / 16 * 1024 + (y 1).val
    omega

/-- The launch's block 1 at a point. -/
theorem iblk_1 (h : Sees m c a b) (t : Fin cfg0.N) : (iblk m c 1 t : S2048x1024.Idx → EReal) = ue2 fun k i => b (row (t.val % 4) k) (t.val / 4 % 4 * 1024 + i) := by
  funext y
  have e : iblk m c 1 t y = V m c main_arg0 (((cfg0.win 1).blk t).view.emb y) := rfl
  rw [e, h.right]
  show b _ _ = b _ _
  blk_simp
  rw [tr1]
  have h0 : (y 0).val < 2048 := (y 0).isLt
  have h1 : (y 1).val < 1024 := (y 1).isLt
  have ht : t.val < 16 := t.isLt
  refine congrArg₂ b ?_ ?_
  · show t.val % 4 * 2048 + (y 0).val = (t.val % 4) * 2048 + (y 0).val
    omega
  · show t.val / 4 % 4 * 1024 + (y 1).val = t.val / 4 % 4 * 1024 + (y 1).val
    omega

/-- What point `n` leaves: the sum over the parts so far. -/
def Left (a b : ℕ → ℕ → EReal) (n : ℕ) (o : S1x1024x1024.Idx → EReal) : Prop :=
  o = ue3 fun _ i j => parts 2048 row a b (n % 4 + 1) (n / 16 * 1024 + i) (n / 4 % 4 * 1024 + j)

/-- At a block's first point. -/
theorem left_A (h : Sees m c a b) (t : Fin cfg0.N) (h0 : t.val % 4 = 0) : Left a b t.val (outsAt0 m c t.val t.isLt) := by
  unfold Left
  rw [outsAt0_A m c t h0, iblk_0 h t, iblk_1 h t]
  refine out_A.trans ?_
  have ht : t.val < 16 := t.isLt
  have hp : t.val % 4 = 0 := by omega
  rw [hp]
  refine ue3_congr fun _ _ i _ j _ => ?_
  rw [parts_succ, parts_zero, zero_add]

/-- At a later point, from the point before. -/
theorem left_B (h : Sees m c a b) (t : Fin cfg0.N) (h0 : ¬t.val % 4 = 0) (n : ℕ) (ht : t.val = n + 1)
    (hp : ∀ hn, Left a b n (outsAt0 m c n hn)) : Left a b t.val (outsAt0 m c t.val t.isLt) := by
  unfold Left
  rw [outsAt0_B m c t h0, iblk_0 h t, iblk_1 h t]
  have e : ∀ hn, outsAt0 m c (t.val - 1) hn = outsAt0 m c n (by rw [ht, Nat.add_sub_cancel] at hn; exact hn) := by
    intro hn
    have : t.val - 1 = n := by omega
    subst this
    rfl
  have hL := hp (by have := t.isLt; omega)
  unfold Left at hL
  rw [e, hL]
  refine (out_B (a := fun k i => a (row (t.val % 4) k) (t.val / 16 * 1024 + i)) (b := fun k j => b (row (t.val % 4) k) (t.val / 4 % 4 * 1024 + j))
    (o := fun i j => parts 2048 row a b (n % 4 + 1) (n / 16 * 1024 + i) (n / 4 % 4 * 1024 + j))).trans ?_
  have e1 : n % 4 + 1 = t.val % 4 := by omega

  have d0 : n / 16 = t.val / 16 := by omega
  have d1 : n / 4 % 4 = t.val / 4 % 4 := by omega
  rw [e1]
  try rw [d0]
  try rw [d1]
  refine ue3_congr fun _ _ i _ j _ => ?_
  rw [parts_succ]

/-- At every point. -/
theorem left_all (h : Sees m c a b) (n : ℕ) : ∀ hn, Left a b n (outsAt0 m c n hn) := by
  induction n with
  | zero => exact fun hn => left_A h ⟨0, hn⟩ (by rfl)
  | succ n ih =>
    intro hn
    by_cases h0 : (n + 1) % 4 = 0
    · exact left_A h ⟨n + 1, hn⟩ h0
    · exact left_B h ⟨n + 1, hn⟩ h0 n rfl ih

/-- All parts together hold every row once. -/
theorem all_rows (A B : ℕ → ℕ → EReal) (i j : ℕ) : parts 2048 row A B (3 + 1) i j = rows A B i j :=
  parts_all (fun x => x / 2048) (fun x => x % 2048) A B i j (by
    intro p hp k hk
    dsimp only [row]
    omega) (by intro x hx; dsimp only [row]; omega)

/-- The array the launch leaves. -/
theorem arr (h : Sees m c a b) : ((dats m 0 c).arrAt 2 cfg0.N : S4x1024x1024.Idx → EReal) = ue3 fun o i j => rows a b i (o * 1024 + j) := by
  refine (dats m 0 c).arrAt_eq_of_covers 2 _ (by decide +kernel) fun t hf y => ?_
  have h3 : t.val % 4 = 3 := (flush0_2 t).mp hf
  blk_simp
  have hL := left_all h t.val t.isLt
  unfold Left at hL
  rw [after0_2, hL]

  have hy : (y 0).val = 0 := by have : (y 0).val < 1 := (y 0).isLt; omega
  show parts 2048 row a b (t.val % 4 + 1) (t.val / 16 * 1024 + (y 1).val) (t.val / 4 % 4 * 1024 + (y 2).val) = rows a b _ (_ * 1024 + _)
  rw [h3]
  refine (all_rows _ _ _ _).trans ?_
  blk_simp
  rw [tr2]
  refine congrArg₂ (rows a b) ?_ ?_
  · rfl
  · show t.val / 4 % 4 * 1024 + (y 2).val = t.val / 4 % 4 * 1024 + (0 * 1024 + (y 2).val)
    rw [Nat.zero_mul, Nat.zero_add]

/-! The reference. -/

/-- The product along all rows. -/
theorem host_product (a b : ℕ → ℕ → EReal) :
    Host.dotGeneral (F := Ideal) (φ₁ := .f32) (φ₂ := .f32) Cert.GradInReferenceIdeal.dot_S8192x4096_S8192x1024_S4096x1024_0_0_1_1_n_n none (ue2 a) (ue2 b) = ue2 (rows a b) := by
  funext j
  idx_vars j
  pointwise [ue2]
  exact Fin.sum_univ_eq_sum_range (fun k => a k ↑j0 * b k ↑j1) 8192

/-- The reference's result. -/
theorem ref {x0 : (⟨2, ![8192, 4096]⟩ : Shape).Idx → EReal} {x1 : (⟨2, ![8192, 1024]⟩ : Shape).Idx → EReal} {x2 : (⟨2, ![1, 1024]⟩ : Shape).Idx → EReal}
    (ha : (Cert.GradInReferenceIdeal.Read.val_main_v13 (F := Ideal) x1 x2 : (⟨2, ![8192, 1024]⟩ : Shape).Idx → EReal) = ue2 a)
    (hb : (Cert.GradInReferenceIdeal.Read.val_main_v0 (F := Ideal) x0 : (⟨2, ![8192, 4096]⟩ : Shape).Idx → EReal) = ue2 b) :
    (Cert.GradInReferenceIdeal.Read.val_main_v18 (F := Ideal) x0 x1 x2 : S4x1024x1024.Idx → EReal) = ue3 fun o i j => rows a b i (o * 1024 + j) := by
  have hd : (Cert.GradInReferenceIdeal.Read.val_main_v15 (F := Ideal) x0 x1 x2 : (⟨2, ![4096, 1024]⟩ : Shape).Idx → EReal) = ue2 (rows b a) := by
    unfold Cert.GradInReferenceIdeal.Read.val_main_v15
    rw [hb, ha]
    exact host_product _ _
  funext j
  rw [Cert.GradInReferenceIdeal.Read.val_main_v18_apply, Cert.GradInReferenceIdeal.Read.val_main_v17_apply, Cert.GradInReferenceIdeal.Read.val_main_v16_apply, hd]
  have h0 : (j 0).val < 4 := (j 0).isLt
  have h1 : (j 1).val < 1024 := (j 1).isLt
  have h2 : (j 2).val < 1024 := (j 2).isLt
  show rows b a ((((j 1).val * 4 + (j 0).val) * 1024 + (j 2).val) % 4096) ((((j 1).val * 4 + (j 0).val) * 1024 + (j 2).val) / 4096)
    = rows a b (j 1).val ((j 0).val * 1024 + (j 2).val)
  rw [show (((j 1).val * 4 + (j 0).val) * 1024 + (j 2).val) % 4096 = (j 0).val * 1024 + (j 2).val by omega,
    show (((j 1).val * 4 + (j 0).val) * 1024 + (j 2).val) / 4096 = (j 1).val by omega]
  unfold rows
  exact Finset.sum_congr rfl fun k _ => mul_comm _ _

/-! The two together. -/

variable (m c)

/-- The left operand is computed by the reference's own lines. -/
theorem host_left : (V m c main_v12 : S8192x1024.Idx → EReal) = Cert.GradInReferenceIdeal.Read.val_main_v13 (F := Ideal) (m ((c : Thread nD τ).loc main_arg1)) (m ((c : Thread nD τ).loc main_arg2)) := by
  entry_read
  rfl

/-- The right operand is an argument. -/
theorem host_right : (V m c main_arg0 : S8192x4096.Idx → EReal) = Cert.GradInReferenceIdeal.Read.val_main_v0 (F := Ideal) (m ((c : Thread nD τ).loc main_arg0)) := V_main_arg0 m c

/-- The reference's result is the array the launch leaves. -/
theorem leaves {x0 : (⟨2, ![8192, 4096]⟩ : Shape).Idx → EReal} {x1 : (⟨2, ![8192, 1024]⟩ : Shape).Idx → EReal} {x2 : (⟨2, ![1, 1024]⟩ : Shape).Idx → EReal}
    (e0 : x0 = m ((c : Thread nD τ).loc main_arg0)) (e1 : x1 = m ((c : Thread nD τ).loc main_arg1)) (e2 : x2 = m ((c : Thread nD τ).loc main_arg2)) :
    (Cert.GradInReferenceIdeal.Read.val_main_v18 (F := Ideal) x0 x1 x2 : S4x1024x1024.Idx → EReal) = (dats m 0 c).arrAt 2 cfg0.N := by
  obtain ⟨a, ha⟩ := ue2_exists (Cert.GradInReferenceIdeal.Read.val_main_v13 (F := Ideal) x1 x2 : (⟨2, ![8192, 1024]⟩ : Shape).Idx → EReal)
  obtain ⟨b, hb⟩ := ue2_exists (Cert.GradInReferenceIdeal.Read.val_main_v0 (F := Ideal) x0 : (⟨2, ![8192, 4096]⟩ : Shape).Idx → EReal)
  have hr := ref ha hb
  subst e0 e1 e2
  exact hr.trans (arr ⟨(host_left m c).trans ha, (host_right m c).trans hb⟩).symm

end Cert.GradInProof

end
-- ==== Proof.SumGradRest.lean ====
/-
  The gradient of the columns of the input projection that feed the convolution and the gates: the launch sums the products of the cotangent's rows and the normalised rows.
-/
module

public import proofs.«01_k».proof.Proof.Sums
public import proofs.«01_k».proof.Proof.Gen.GradRestIdeal.Value
public import proofs.«01_k».proof.Proof.Gen.GradRestReferenceIdeal.Read
public import Idealize.ShloMosaic.Lib.Pipeline.ValueKit

@[expose] public section

set_option maxHeartbeats 1000000

noncomputable section

namespace Cert.GradRestProof

open Idealize.ShloMosaic Idealize.ShloMosaic.TcCoe Idealize.SL.Sem Cert.GradRestIdeal Cert.GradRestIdeal.Gen Cert.Lift Cert.GLift

/-! What the body computes of two blocks. -/

/-- The first store is of zeros. -/
theorem pay1 : k0_pay1 (F := Ideal) = ue2 fun _ _ => 0 := by
  funext j
  unfold k0_pay1
  exact lit_zero.trans EReal.coe_zero

/-- The product of two blocks along their rows. -/
theorem product (a b : ℕ → ℕ → EReal) :
    matmul (F := Ideal) (φ₁ := .bf16) (φ₂ := .bf16) dot_S2048x1024_S2048x1024_S1024x1024_0_0_1_1_n_n none (ue2 a) (ue2 b) (constant S1024x1024 .f32 0x00000000#32)
      = ue2 fun i j => ∑ k ∈ Finset.range 2048, a k i * b k j := by
  funext j
  idx_vars j
  pointwise [ue2]
  exact Fin.sum_univ_eq_sum_range (fun k => a k ↑j0 * b k ↑j1) 2048

/-- The second store adds the blocks' product to what the block held. -/
theorem pay2 (a o b : ℕ → ℕ → EReal) : k0_pay2 (F := Ideal) (ue2 a) (ue2 o) (ue2 b)
    = ue2 fun i j => o i j + ∑ k ∈ Finset.range 2048, a k i * b k j := by
  unfold k0_pay2
  dsimp only
  simp only [cast_same2, product]
  rfl

section bodies

variable {c : Dev nD} {i : grid0.Coords} {arg3 : Memref sig .tc .vmem S2048x1024 .bf16} {harg3 : arg3.IsWhole} {arg4 : Memref sig .tc .vmem S2048x1024 .bf16} {harg4 : arg4.IsWhole} {arg5 : Memref sig .tc .vmem S1024x1024 .f32} {harg5 : arg5.IsWhole} {a b o : ℕ → ℕ → EReal}

/-- At a block's first point the body leaves the product. -/
theorem out_A {hc0} : out0_A_2 (F := Ideal) c i arg3 harg3 arg4 harg4 arg5 harg5 hc0 (ue2 a) (ue2 b) = ue2 fun i j => ∑ k ∈ Finset.range 2048, a k i * b k j := by
  refine (View.read_writes_junk_eq_canon _ _).trans ?_
  unfold kernelRun0_A
  dsimp only
  refine (View.canon_cons_unit_lit' _ _ _ fun a => by match a with | ⟨0, _⟩ => rfl | ⟨1, _⟩ => rfl).trans ?_
  simp only [kernelRun0_A.sl.v4, kernelRun0_A.sl.H2_1, read_whole2, View.readCov_cons_toLoadRect, pay1]
  refine (pay2 a (fun _ _ => 0) b).trans ?_
  simp only [zero_add]

/-- At a later point it adds the product to what it finds. -/
theorem out_B {hc0} : out0_B_2 (F := Ideal) c i arg3 harg3 arg4 harg4 arg5 harg5 hc0 (ue2 a) (ue2 b) (ue2 o) = ue2 fun i j => o i j + ∑ k ∈ Finset.range 2048, a k i * b k j := by
  refine (View.read_writes_junk_eq_canon _ _).trans ?_
  unfold kernelRun0_B
  dsimp only
  refine (View.canon_cons_unit_lit' _ _ _ fun a => by match a with | ⟨0, _⟩ => rfl | ⟨1, _⟩ => rfl).trans ?_
  simp only [read_whole2]
  exact pay2 a o b

end bodies

/-! The launch. -/

variable (m : (ℓ : Loc nD τ sig) → Buf (Elt Ideal) ℓ) (c : Dev nD) (a b : ℕ → ℕ → EReal)

/-- What the launch finds in its operands' buffers on device `c`. -/
structure Sees : Prop where
  left : (V m c main_arg0 : S8192x3072.Idx → EReal) = ue2 a
  right : (V m c main_v12 : S8192x1024.Idx → EReal) = ue2 b

/-- Row `k` of the blocks of part `p`. -/
def row (p k : ℕ) : ℕ := p * 2048 + k

variable {m c a b}

theorem tr0 (t : Fin cfg0.N) : win0_0.index t = ![t.val % 4, t.val / 4] :=
  (by decide +kernel : ∀ t : Fin grid0.N, win0_0.index t = ![t.val % 4, t.val / 4]) t
theorem tr1 (t : Fin cfg0.N) : win0_1.index t = ![t.val % 4, t.val / 4 % 1] :=
  (by decide +kernel : ∀ t : Fin grid0.N, win0_1.index t = ![t.val % 4, t.val / 4 % 1]) t
theorem tr2 (t : Fin cfg0.N) : win0_2.index t = ![t.val / 4, t.val / 4 % 1] :=
  (by decide +kernel : ∀ t : Fin grid0.N, win0_2.index t = ![t.val / 4, t.val / 4 % 1]) t

/-- The launch's block 0 at a point. -/
theorem iblk_0 (h : Sees m c a b) (t : Fin cfg0.N) : (iblk m c 0 t : S2048x1024.Idx → EReal) = ue2 fun k i => a (row (t.val % 4) k) (t.val / 4 * 1024 + i) := by
  funext y
  have e : iblk m c 0 t y = V m c main_arg0 (((cfg0.win 0).blk t).view.emb y) := rfl
  rw [e, h.left]
  show a _ _ = a _ _
  blk_simp
  rw [tr0]
  have h0 : (y 0).val < 2048 := (y 0).isLt
  have h1 : (y 1).val < 1024 := (y 1).isLt
  have ht : t.val < 12 := t.isLt
  refine congrArg₂ a ?_ ?_
  · show t.val % 4 * 2048 + (y 0).val = (t.val % 4) * 2048 + (y 0).val
    omega
  · show t.val / 4 * 1024 + (y 1).val = t.val / 4 * 1024 + (y 1).val
    omega

/-- The launch's block 1 at a point. -/
theorem iblk_1 (h : Sees m c a b) (t : Fin cfg0.N) : (iblk m c 1 t : S2048x1024.Idx → EReal) = ue2 fun k i => b (row (t.val % 4) k) (t.val / 4 % 1 * 1024 + i) := by
  funext y
  have e : iblk m c 1 t y = V m c main_v12 (((cfg0.win 1).blk t).view.emb y) := rfl
  rw [e, h.right]
  show b _ _ = b _ _
  blk_simp
  rw [tr1]
  have h0 : (y 0).val < 2048 := (y 0).isLt
  have h1 : (y 1).val < 1024 := (y 1).isLt
  have ht : t.val < 12 := t.isLt
  refine congrArg₂ b ?_ ?_
  · show t.val % 4 * 2048 + (y 0).val = (t.val % 4) * 2048 + (y 0).val
    omega
  · show t.val / 4 % 1 * 1024 + (y 1).val = t.val / 4 % 1 * 1024 + (y 1).val
    omega

/-- What point `n` leaves: the sum over the parts so far. -/
def Left (a b : ℕ → ℕ → EReal) (n : ℕ) (o : S1024x1024.Idx → EReal) : Prop :=
  o = ue2 fun i j => parts 2048 row a b (n % 4 + 1) (n / 4 * 1024 + i) (n / 4 % 1 * 1024 + j)

/-- At a block's first point. -/
theorem left_A (h : Sees m c a b) (t : Fin cfg0.N) (h0 : t.val % 4 = 0) : Left a b t.val (outsAt0 m c t.val t.isLt) := by
  unfold Left
  rw [outsAt0_A m c t h0, iblk_0 h t, iblk_1 h t]
  refine out_A.trans ?_
  have ht : t.val < 12 := t.isLt
  have hp : t.val % 4 = 0 := by omega
  rw [hp]
  refine ue2_congr fun i _ j _ => ?_
  rw [parts_succ, parts_zero, zero_add]

/-- At a later point, from the point before. -/
theorem left_B (h : Sees m c a b) (t : Fin cfg0.N) (h0 : ¬t.val % 4 = 0) (n : ℕ) (ht : t.val = n + 1)
    (hp : ∀ hn, Left a b n (outsAt0 m c n hn)) : Left a b t.val (outsAt0 m c t.val t.isLt) := by
  unfold Left
  rw [outsAt0_B m c t h0, iblk_0 h t, iblk_1 h t]
  have e : ∀ hn, outsAt0 m c (t.val - 1) hn = outsAt0 m c n (by rw [ht, Nat.add_sub_cancel] at hn; exact hn) := by
    intro hn
    have : t.val - 1 = n := by omega
    subst this
    rfl
  have hL := hp (by have := t.isLt; omega)
  unfold Left at hL
  rw [e, hL]
  refine (out_B (a := fun k i => a (row (t.val % 4) k) (t.val / 4 * 1024 + i)) (b := fun k j => b (row (t.val % 4) k) (t.val / 4 % 1 * 1024 + j))
    (o := fun i j => parts 2048 row a b (n % 4 + 1) (n / 4 * 1024 + i) (n / 4 % 1 * 1024 + j))).trans ?_
  have e1 : n % 4 + 1 = t.val % 4 := by omega

  have d0 : n / 4 = t.val / 4 := by omega
  have d1 : n / 4 % 1 = t.val / 4 % 1 := by omega
  rw [e1]
  try rw [d0]
  try rw [d1]
  refine ue2_congr fun i _ j _ => ?_
  rw [parts_succ]

/-- At every point. -/
theorem left_all (h : Sees m c a b) (n : ℕ) : ∀ hn, Left a b n (outsAt0 m c n hn) := by
  induction n with
  | zero => exact fun hn => left_A h ⟨0, hn⟩ (by rfl)
  | succ n ih =>
    intro hn
    by_cases h0 : (n + 1) % 4 = 0
    · exact left_A h ⟨n + 1, hn⟩ h0
    · exact left_B h ⟨n + 1, hn⟩ h0 n rfl ih

/-- All parts together hold every row once. -/
theorem all_rows (A B : ℕ → ℕ → EReal) (i j : ℕ) : parts 2048 row A B (3 + 1) i j = rows A B i j :=
  parts_all (fun x => x / 2048) (fun x => x % 2048) A B i j (by
    intro p hp k hk
    dsimp only [row]
    omega) (by intro x hx; dsimp only [row]; omega)

/-- The array the launch leaves. -/
theorem arr (h : Sees m c a b) : ((dats m 0 c).arrAt 2 cfg0.N : S3072x1024.Idx → EReal) = ue2 (rows a b) := by
  refine (dats m 0 c).arrAt_eq_of_covers 2 _ (by decide +kernel) fun t hf y => ?_
  have h3 : t.val % 4 = 3 := (flush0_2 t).mp hf
  blk_simp
  have hL := left_all h t.val t.isLt
  unfold Left at hL
  rw [after0_2, hL]

  show parts 2048 row a b (t.val % 4 + 1) (t.val / 4 * 1024 + (y 0).val) (t.val / 4 % 1 * 1024 + (y 1).val) = rows a b _ _
  rw [h3]
  refine (all_rows _ _ _ _).trans ?_
  blk_simp
  rw [tr2]
  rfl

/-! The reference. -/

/-- The product along all rows. -/
theorem host_product (a b : ℕ → ℕ → EReal) :
    Host.dotGeneral (F := Ideal) (φ₁ := .f32) (φ₂ := .f32) Cert.GradRestReferenceIdeal.dot_S8192x3072_S8192x1024_S3072x1024_0_0_1_1_n_n none (ue2 a) (ue2 b) = ue2 (rows a b) := by
  funext j
  idx_vars j
  pointwise [ue2]
  exact Fin.sum_univ_eq_sum_range (fun k => a k ↑j0 * b k ↑j1) 8192

/-- The reference's result. -/
theorem ref {x0 : (⟨2, ![8192, 3072]⟩ : Shape).Idx → EReal} {x1 : (⟨2, ![8192, 1024]⟩ : Shape).Idx → EReal} {x2 : (⟨2, ![1, 1024]⟩ : Shape).Idx → EReal}
    (ha : (Cert.GradRestReferenceIdeal.Read.val_main_v14 (F := Ideal) x0 : (⟨2, ![8192, 3072]⟩ : Shape).Idx → EReal) = ue2 a)
    (hb : (Cert.GradRestReferenceIdeal.Read.val_main_v12 (F := Ideal) x1 x2 : (⟨2, ![8192, 1024]⟩ : Shape).Idx → EReal) = ue2 b) :
    (Cert.GradRestReferenceIdeal.Read.val_main_v17 (F := Ideal) x0 x1 x2 : S3072x1024.Idx → EReal) = ue2 (rows a b) := by
  have hd : (Cert.GradRestReferenceIdeal.Read.val_main_v15 (F := Ideal) x0 x1 x2 : (⟨2, ![3072, 1024]⟩ : Shape).Idx → EReal) = ue2 (rows a b) := by
    unfold Cert.GradRestReferenceIdeal.Read.val_main_v15
    rw [ha, hb]
    exact host_product _ _
  funext j
  rw [Cert.GradRestReferenceIdeal.Read.val_main_v17_apply, Cert.GradRestReferenceIdeal.Read.val_main_v16_apply, hd]
  rfl

/-! The two together. -/

variable (m c)

/-- The left operand is an argument. -/
theorem host_left : (V m c main_arg0 : S8192x3072.Idx → EReal) = Cert.GradRestReferenceIdeal.Read.val_main_v14 (F := Ideal) (m ((c : Thread nD τ).loc main_arg0)) := V_main_arg0 m c

/-- The right operand is computed by the reference's own lines. -/
theorem host_right : (V m c main_v12 : S8192x1024.Idx → EReal) = Cert.GradRestReferenceIdeal.Read.val_main_v12 (F := Ideal) (m ((c : Thread nD τ).loc main_arg1)) (m ((c : Thread nD τ).loc main_arg2)) := by
  entry_read
  rfl

/-- The reference's result is the array the launch leaves. -/
theorem leaves {x0 : (⟨2, ![8192, 3072]⟩ : Shape).Idx → EReal} {x1 : (⟨2, ![8192, 1024]⟩ : Shape).Idx → EReal} {x2 : (⟨2, ![1, 1024]⟩ : Shape).Idx → EReal}
    (e0 : x0 = m ((c : Thread nD τ).loc main_arg0)) (e1 : x1 = m ((c : Thread nD τ).loc main_arg1)) (e2 : x2 = m ((c : Thread nD τ).loc main_arg2)) :
    (Cert.GradRestReferenceIdeal.Read.val_main_v17 (F := Ideal) x0 x1 x2 : S3072x1024.Idx → EReal) = (dats m 0 c).arrAt 2 cfg0.N := by
  obtain ⟨a, ha⟩ := ue2_exists (Cert.GradRestReferenceIdeal.Read.val_main_v14 (F := Ideal) x0 : (⟨2, ![8192, 3072]⟩ : Shape).Idx → EReal)
  obtain ⟨b, hb⟩ := ue2_exists (Cert.GradRestReferenceIdeal.Read.val_main_v12 (F := Ideal) x1 x2 : (⟨2, ![8192, 1024]⟩ : Shape).Idx → EReal)
  have hr := ref ha hb
  subst e0 e1 e2
  exact hr.trans (arr ⟨(host_left m c).trans ha, (host_right m c).trans hb⟩).symm

end Cert.GradRestProof

end
-- ==== Proof.SumGradQkv0.lean ====
/-
  The gradient of attention group 0's columns of the input projection: the launch sums the products of the cotangent's rows and the normalised rows, taken residue by residue.
-/
module

public import proofs.«01_k».proof.Proof.Sums
public import proofs.«01_k».proof.Proof.Gen.GradQkv0Ideal.Value
public import proofs.«01_k».proof.Proof.Gen.GradQkvReferenceIdeal.Read
public import Idealize.ShloMosaic.Lib.Pipeline.ValueKit

@[expose] public section

set_option maxHeartbeats 1000000

noncomputable section

namespace Cert.GradQkv0Proof

open Idealize.ShloMosaic Idealize.ShloMosaic.TcCoe Idealize.SL.Sem Cert.GradQkv0Ideal Cert.GradQkv0Ideal.Gen Cert.Lift Cert.GLift

/-! What the body computes of two blocks. -/

/-- The first store is of zeros. -/
theorem pay1 : k0_pay1 (F := Ideal) = ue2 fun _ _ => 0 := by
  funext j
  unfold k0_pay1
  exact lit_zero.trans EReal.coe_zero

/-- The product of two blocks along their rows. -/
theorem product (a b : ℕ → ℕ → EReal) :
    matmul (F := Ideal) (φ₁ := .bf16) (φ₂ := .bf16) dot_S1024x768_S1024x1024_S768x1024_0_0_1_1_n_n none (ue2 a) (ue2 b) (constant S768x1024 .f32 0x00000000#32)
      = ue2 fun i j => ∑ k ∈ Finset.range 1024, a k i * b k j := by
  funext j
  idx_vars j
  pointwise [ue2]
  exact Fin.sum_univ_eq_sum_range (fun k => a k ↑j0 * b k ↑j1) 1024

/-- The second store adds the blocks' product to what the block held. -/
theorem pay2 (a o b : ℕ → ℕ → EReal) : k0_pay2 (F := Ideal) (ue2 o) (ue2 a) (ue2 b)
    = ue2 fun i j => o i j + ∑ k ∈ Finset.range 1024, a k i * b k j := by
  unfold k0_pay2
  dsimp only
  simp only [cast_same2, product]
  rfl

section bodies

variable {c : Dev nD} {i : grid0.Coords} {arg2 : Memref sig .tc .vmem S1024x768 .bf16} {harg2 : arg2.IsWhole} {arg3 : Memref sig .tc .vmem S1024x1024 .bf16} {harg3 : arg3.IsWhole} {arg4 : Memref sig .tc .vmem S768x1024 .f32} {harg4 : arg4.IsWhole} {a b o : ℕ → ℕ → EReal}

/-- At a block's first point the body leaves the product. -/
theorem out_A {hc0} : out0_A_2 (F := Ideal) c i arg2 harg2 arg3 harg3 arg4 harg4 hc0 (ue2 a) (ue2 b) = ue2 fun i j => ∑ k ∈ Finset.range 1024, a k i * b k j := by
  refine (View.read_writes_junk_eq_canon _ _).trans ?_
  unfold kernelRun0_A
  dsimp only
  refine (View.canon_cons_unit_lit' _ _ _ fun a => by match a with | ⟨0, _⟩ => rfl | ⟨1, _⟩ => rfl).trans ?_
  simp only [kernelRun0_A.sl.v5, kernelRun0_A.sl.H2_1, read_whole2, View.readCov_cons_toLoadRect, pay1]
  refine (pay2 a (fun _ _ => 0) b).trans ?_
  simp only [zero_add]

/-- At a later point it adds the product to what it finds. -/
theorem out_B {hc0} : out0_B_2 (F := Ideal) c i arg2 harg2 arg3 harg3 arg4 harg4 hc0 (ue2 a) (ue2 b) (ue2 o) = ue2 fun i j => o i j + ∑ k ∈ Finset.range 1024, a k i * b k j := by
  refine (View.read_writes_junk_eq_canon _ _).trans ?_
  unfold kernelRun0_B
  dsimp only
  refine (View.canon_cons_unit_lit' _ _ _ fun a => by match a with | ⟨0, _⟩ => rfl | ⟨1, _⟩ => rfl).trans ?_
  simp only [read_whole2]
  exact pay2 a o b

end bodies

/-! The launch. -/

variable (m : (ℓ : Loc nD τ sig) → Buf (Elt Ideal) ℓ) (c : Dev nD) (a b : ℕ → ℕ → EReal)

/-- What the launch finds in its operands' buffers on device `c`. -/
structure Sees : Prop where
  left : (V m c main_arg0 : S8192x768.Idx → EReal) = ue2 a
  right : (V m c main_v12 : S8192x1024.Idx → EReal) = ue2 b

/-- Row `k` of the blocks of part `p`. -/
def row (p k : ℕ) : ℕ := (p % 8 * 1024 + k) * 1 + p / 8

variable {m c a b}

theorem tr0 (t : Fin cfg0.N) : win0_0.index t = ![t.val % 8, t.val / 8] :=
  (by decide +kernel : ∀ t : Fin grid0.N, win0_0.index t = ![t.val % 8, t.val / 8]) t
theorem tr1 (t : Fin cfg0.N) : win0_1.index t = ![t.val % 8, t.val / 8] :=
  (by decide +kernel : ∀ t : Fin grid0.N, win0_1.index t = ![t.val % 8, t.val / 8]) t
theorem tr2 (t : Fin cfg0.N) : win0_2.index t = ![0, 0] :=
  (by decide +kernel : ∀ t : Fin grid0.N, win0_2.index t = ![0, 0]) t

/-- The launch's block 0 at a point. -/
theorem iblk_0 (h : Sees m c a b) (t : Fin cfg0.N) : (iblk m c 0 t : S1024x768.Idx → EReal) = ue2 fun k i => a (row (t.val) k) (i) := by
  funext y
  have e : iblk m c 0 t y = V m c main_arg0 (((cfg0.win 0).blk t).view.emb y) := rfl
  rw [e, h.left]
  show a _ _ = a _ _
  blk_simp
  rw [tr0]
  have h0 : (y 0).val < 1024 := (y 0).isLt
  have h1 : (y 1).val < 768 := (y 1).isLt
  have ht : t.val < 8 := t.isLt
  refine congrArg₂ a ?_ ?_
  · show t.val % 8 * 1024 + (y 0).val = ((t.val) % 8 * 1024 + (y 0).val) * 1 + (t.val) / 8
    omega
  · show t.val / 8 * 768 + (y 1).val = (y 1).val
    omega

/-- The launch's block 1 at a point. -/
theorem iblk_1 (h : Sees m c a b) (t : Fin cfg0.N) : (iblk m c 1 t : S1024x1024.Idx → EReal) = ue2 fun k i => b (row (t.val) k) (i) := by
  funext y
  have e : iblk m c 1 t y = V m c main_v12 (((cfg0.win 1).blk t).view.emb y) := rfl
  rw [e, h.right]
  show b _ _ = b _ _
  blk_simp
  rw [tr1]
  have h0 : (y 0).val < 1024 := (y 0).isLt
  have h1 : (y 1).val < 1024 := (y 1).isLt
  have ht : t.val < 8 := t.isLt
  refine congrArg₂ b ?_ ?_
  · show t.val % 8 * 1024 + (y 0).val = ((t.val) % 8 * 1024 + (y 0).val) * 1 + (t.val) / 8
    omega
  · show t.val / 8 * 1024 + (y 1).val = (y 1).val
    omega

/-- What point `n` leaves: the sum over the parts so far. -/
def Left (a b : ℕ → ℕ → EReal) (n : ℕ) (o : S768x1024.Idx → EReal) : Prop :=
  o = ue2 fun i j => parts 1024 row a b (n + 1) (i) (j)

/-- At a block's first point. -/
theorem left_A (h : Sees m c a b) (t : Fin cfg0.N) (h0 : t.val % 8 = 0) : Left a b t.val (outsAt0 m c t.val t.isLt) := by
  unfold Left
  rw [outsAt0_A m c t h0, iblk_0 h t, iblk_1 h t]
  refine out_A.trans ?_
  have ht : t.val < 8 := t.isLt
  have hp : t.val = 0 := by omega
  rw [hp]
  refine ue2_congr fun i _ j _ => ?_
  rw [parts_succ, parts_zero, zero_add]

/-- At a later point, from the point before. -/
theorem left_B (h : Sees m c a b) (t : Fin cfg0.N) (h0 : ¬t.val % 8 = 0) (n : ℕ) (ht : t.val = n + 1)
    (hp : ∀ hn, Left a b n (outsAt0 m c n hn)) : Left a b t.val (outsAt0 m c t.val t.isLt) := by
  unfold Left
  rw [outsAt0_B m c t h0, iblk_0 h t, iblk_1 h t]
  have e : ∀ hn, outsAt0 m c (t.val - 1) hn = outsAt0 m c n (by rw [ht, Nat.add_sub_cancel] at hn; exact hn) := by
    intro hn
    have : t.val - 1 = n := by omega
    subst this
    rfl
  have hL := hp (by have := t.isLt; omega)
  unfold Left at hL
  rw [e, hL]
  refine (out_B (a := fun k i => a (row (t.val) k) (i)) (b := fun k j => b (row (t.val) k) (j))
    (o := fun i j => parts 1024 row a b (n + 1) (i) (j))).trans ?_
  have e1 : n + 1 = t.val := by omega

  rw [e1]
  refine ue2_congr fun i _ j _ => ?_
  rw [parts_succ]

/-- At every point. -/
theorem left_all (h : Sees m c a b) (n : ℕ) : ∀ hn, Left a b n (outsAt0 m c n hn) := by
  induction n with
  | zero => exact fun hn => left_A h ⟨0, hn⟩ (by rfl)
  | succ n ih =>
    intro hn
    by_cases h0 : (n + 1) % 8 = 0
    · exact left_A h ⟨n + 1, hn⟩ h0
    · exact left_B h ⟨n + 1, hn⟩ h0 n rfl ih

/-- All parts together hold every row once. -/
theorem all_rows (A B : ℕ → ℕ → EReal) (i j : ℕ) : parts 1024 row A B (7 + 1) i j = rows A B i j :=
  parts_all (fun x => x % 1 * 8 + x / 1 / 1024) (fun x => x / 1 % 1024) A B i j (by
    intro p hp k hk
    dsimp only [row]
    have hr : p / 8 < 1 := by omega
    have e1 : ((p % 8 * 1024 + k) * 1 + p / 8) / 1 = p % 8 * 1024 + k := by omega
    have e2 : ((p % 8 * 1024 + k) * 1 + p / 8) % 1 = p / 8 := by omega
    have e3 : (p % 8 * 1024 + k) / 1024 = p % 8 := by omega
    refine ⟨by omega, ?_, ?_⟩
    · rw [e1, e2, e3]
      omega
    · rw [e1]
      omega) (by intro x hx; dsimp only [row]; omega)

/-- The last point. -/
def tLast : Fin cfg0.N := Fin.mk 7 (by decide)

/-- The array the launch leaves. -/
theorem arr (h : Sees m c a b) : ((dats m 0 c).arrAt 2 cfg0.N : S768x1024.Idx → EReal) = ue2 (rows a b) := by
  refine (dats m 0 c).arrAt_eq_of_after_last 2 tLast (by decide +kernel) _ fun j => ?_
  have hL := left_all h tLast.val tLast.isLt
  unfold Left at hL
  rw [after0_2, hL]
  exact all_rows _ _ _ _

/-! The reference. -/

/-- The product along all rows. -/
theorem host_product (a b : ℕ → ℕ → EReal) :
    Host.dotGeneral (F := Ideal) (φ₁ := .f32) (φ₂ := .f32) Cert.GradQkvReferenceIdeal.dot_S8192x768_S8192x1024_S768x1024_0_0_1_1_n_n none (ue2 a) (ue2 b) = ue2 (rows a b) := by
  funext j
  idx_vars j
  pointwise [ue2]
  exact Fin.sum_univ_eq_sum_range (fun k => a k ↑j0 * b k ↑j1) 8192

/-- The reference's result. -/
theorem ref {x0 : (⟨2, ![8192, 768]⟩ : Shape).Idx → EReal} {x1 : (⟨2, ![8192, 1024]⟩ : Shape).Idx → EReal} {x2 : (⟨2, ![1, 1024]⟩ : Shape).Idx → EReal}
    (ha : (Cert.GradQkvReferenceIdeal.Read.val_main_v14 (F := Ideal) x0 : (⟨2, ![8192, 768]⟩ : Shape).Idx → EReal) = ue2 a)
    (hb : (Cert.GradQkvReferenceIdeal.Read.val_main_v12 (F := Ideal) x1 x2 : (⟨2, ![8192, 1024]⟩ : Shape).Idx → EReal) = ue2 b) :
    (Cert.GradQkvReferenceIdeal.Read.val_main_v17 (F := Ideal) x0 x1 x2 : S768x1024.Idx → EReal) = ue2 (rows a b) := by
  have hd : (Cert.GradQkvReferenceIdeal.Read.val_main_v15 (F := Ideal) x0 x1 x2 : (⟨2, ![768, 1024]⟩ : Shape).Idx → EReal) = ue2 (rows a b) := by
    unfold Cert.GradQkvReferenceIdeal.Read.val_main_v15
    rw [ha, hb]
    exact host_product _ _
  funext j
  rw [Cert.GradQkvReferenceIdeal.Read.val_main_v17_apply, Cert.GradQkvReferenceIdeal.Read.val_main_v16_apply, hd]
  rfl

/-! The two together. -/

variable (m c)

/-- The left operand is an argument. -/
theorem host_left : (V m c main_arg0 : S8192x768.Idx → EReal) = Cert.GradQkvReferenceIdeal.Read.val_main_v14 (F := Ideal) (m ((c : Thread nD τ).loc main_arg0)) := V_main_arg0 m c

/-- The right operand is computed by the reference's own lines. -/
theorem host_right : (V m c main_v12 : S8192x1024.Idx → EReal) = Cert.GradQkvReferenceIdeal.Read.val_main_v12 (F := Ideal) (m ((c : Thread nD τ).loc main_arg1)) (m ((c : Thread nD τ).loc main_arg2)) := by
  entry_read
  rfl

/-- The reference's result is the array the launch leaves. -/
theorem leaves {x0 : (⟨2, ![8192, 768]⟩ : Shape).Idx → EReal} {x1 : (⟨2, ![8192, 1024]⟩ : Shape).Idx → EReal} {x2 : (⟨2, ![1, 1024]⟩ : Shape).Idx → EReal}
    (e0 : x0 = m ((c : Thread nD τ).loc main_arg0)) (e1 : x1 = m ((c : Thread nD τ).loc main_arg1)) (e2 : x2 = m ((c : Thread nD τ).loc main_arg2)) :
    (Cert.GradQkvReferenceIdeal.Read.val_main_v17 (F := Ideal) x0 x1 x2 : S768x1024.Idx → EReal) = (dats m 0 c).arrAt 2 cfg0.N := by
  obtain ⟨a, ha⟩ := ue2_exists (Cert.GradQkvReferenceIdeal.Read.val_main_v14 (F := Ideal) x0 : (⟨2, ![8192, 768]⟩ : Shape).Idx → EReal)
  obtain ⟨b, hb⟩ := ue2_exists (Cert.GradQkvReferenceIdeal.Read.val_main_v12 (F := Ideal) x1 x2 : (⟨2, ![8192, 1024]⟩ : Shape).Idx → EReal)
  have hr := ref ha hb
  subst e0 e1 e2
  exact hr.trans (arr ⟨(host_left m c).trans ha, (host_right m c).trans hb⟩).symm

end Cert.GradQkv0Proof

end
-- ==== Proof.SumGradQkv1.lean ====
/-
  The gradient of attention group 1's columns of the input projection: the launch sums the products of the cotangent's rows and the normalised rows, taken residue by residue.
-/
module

public import proofs.«01_k».proof.Proof.Sums
public import proofs.«01_k».proof.Proof.Gen.GradQkv1Ideal.Value
public import proofs.«01_k».proof.Proof.Gen.GradQkvReferenceIdeal.Read
public import Idealize.ShloMosaic.Lib.Pipeline.ValueKit

@[expose] public section

set_option maxHeartbeats 1000000

noncomputable section

namespace Cert.GradQkv1Proof

open Idealize.ShloMosaic Idealize.ShloMosaic.TcCoe Idealize.SL.Sem Cert.GradQkv1Ideal Cert.GradQkv1Ideal.Gen Cert.Lift Cert.GLift

/-! What the body computes of two blocks. -/

/-- The first store is of zeros. -/
theorem pay1 : k0_pay1 (F := Ideal) = ue2 fun _ _ => 0 := by
  funext j
  unfold k0_pay1
  exact lit_zero.trans EReal.coe_zero

/-- The product of two blocks along their rows. -/
theorem product (a b : ℕ → ℕ → EReal) :
    matmul (F := Ideal) (φ₁ := .bf16) (φ₂ := .bf16) dot_S1024x768_S1024x1024_S768x1024_0_0_1_1_n_n none (ue2 a) (ue2 b) (constant S768x1024 .f32 0x00000000#32)
      = ue2 fun i j => ∑ k ∈ Finset.range 1024, a k i * b k j := by
  funext j
  idx_vars j
  pointwise [ue2]
  exact Fin.sum_univ_eq_sum_range (fun k => a k ↑j0 * b k ↑j1) 1024

/-- The second store adds the blocks' product to what the block held. -/
theorem pay2 (a o b : ℕ → ℕ → EReal) : k0_pay2 (F := Ideal) (ue2 o) (ue2 a) (ue2 b)
    = ue2 fun i j => o i j + ∑ k ∈ Finset.range 1024, a k i * b k j := by
  unfold k0_pay2
  dsimp only
  simp only [cast_same2, product]
  rfl

section bodies

variable {c : Dev nD} {i : grid0.Coords} {arg2 : Memref sig .tc .vmem S1024x768 .bf16} {harg2 : arg2.IsWhole} {arg3 : Memref sig .tc .vmem S1024x1024 .bf16} {harg3 : arg3.IsWhole} {arg4 : Memref sig .tc .vmem S768x1024 .f32} {harg4 : arg4.IsWhole} {a b o : ℕ → ℕ → EReal}

/-- At a block's first point the body leaves the product. -/
theorem out_A {hc0} : out0_A_2 (F := Ideal) c i arg2 harg2 arg3 harg3 arg4 harg4 hc0 (ue2 a) (ue2 b) = ue2 fun i j => ∑ k ∈ Finset.range 1024, a k i * b k j := by
  refine (View.read_writes_junk_eq_canon _ _).trans ?_
  unfold kernelRun0_A
  dsimp only
  refine (View.canon_cons_unit_lit' _ _ _ fun a => by match a with | ⟨0, _⟩ => rfl | ⟨1, _⟩ => rfl).trans ?_
  simp only [kernelRun0_A.sl.v5, kernelRun0_A.sl.H2_1, read_whole2, View.readCov_cons_toLoadRect, pay1]
  refine (pay2 a (fun _ _ => 0) b).trans ?_
  simp only [zero_add]

/-- At a later point it adds the product to what it finds. -/
theorem out_B {hc0} : out0_B_2 (F := Ideal) c i arg2 harg2 arg3 harg3 arg4 harg4 hc0 (ue2 a) (ue2 b) (ue2 o) = ue2 fun i j => o i j + ∑ k ∈ Finset.range 1024, a k i * b k j := by
  refine (View.read_writes_junk_eq_canon _ _).trans ?_
  unfold kernelRun0_B
  dsimp only
  refine (View.canon_cons_unit_lit' _ _ _ fun a => by match a with | ⟨0, _⟩ => rfl | ⟨1, _⟩ => rfl).trans ?_
  simp only [read_whole2]
  exact pay2 a o b

end bodies

/-! The launch. -/

variable (m : (ℓ : Loc nD τ sig) → Buf (Elt Ideal) ℓ) (c : Dev nD) (a b : ℕ → ℕ → EReal)

/-- What the launch finds in its operands' buffers on device `c`. -/
structure Sees : Prop where
  left : (V m c main_v13 : S2048x3072.Idx → EReal) = ue2 fun l k => a ((l * 3072 + k) / 768) ((l * 3072 + k) % 768)
  right : (V m c main_v14 : S2048x4096.Idx → EReal) = ue2 fun l k => b ((l * 4096 + k) / 1024) ((l * 4096 + k) % 1024)

/-- Row `k` of the blocks of part `p`. -/
def row (p k : ℕ) : ℕ := (p % 2 * 1024 + k) * 4 + p / 2

variable {m c a b}

theorem tr0 (t : Fin cfg0.N) : win0_0.index t = ![t.val % 2, t.val / 2] :=
  (by decide +kernel : ∀ t : Fin grid0.N, win0_0.index t = ![t.val % 2, t.val / 2]) t
theorem tr1 (t : Fin cfg0.N) : win0_1.index t = ![t.val % 2, t.val / 2] :=
  (by decide +kernel : ∀ t : Fin grid0.N, win0_1.index t = ![t.val % 2, t.val / 2]) t
theorem tr2 (t : Fin cfg0.N) : win0_2.index t = ![0, 0] :=
  (by decide +kernel : ∀ t : Fin grid0.N, win0_2.index t = ![0, 0]) t

/-- The launch's block 0 at a point. -/
theorem iblk_0 (h : Sees m c a b) (t : Fin cfg0.N) : (iblk m c 0 t : S1024x768.Idx → EReal) = ue2 fun k i => a (row (t.val) k) (i) := by
  funext y
  have e : iblk m c 0 t y = V m c main_v13 (((cfg0.win 0).blk t).view.emb y) := rfl
  rw [e, h.left]
  show a _ _ = a _ _
  blk_simp
  rw [tr0]
  have h0 : (y 0).val < 1024 := (y 0).isLt
  have h1 : (y 1).val < 768 := (y 1).isLt
  have ht : t.val < 8 := t.isLt
  refine congrArg₂ a ?_ ?_
  · show ((t.val % 2 * 1024 + (y 0).val) * 3072 + (t.val / 2 * 768 + (y 1).val)) / 768 = ((t.val) % 2 * 1024 + (y 0).val) * 4 + (t.val) / 2
    omega
  · show ((t.val % 2 * 1024 + (y 0).val) * 3072 + (t.val / 2 * 768 + (y 1).val)) % 768 = (y 1).val
    omega

/-- The launch's block 1 at a point. -/
theorem iblk_1 (h : Sees m c a b) (t : Fin cfg0.N) : (iblk m c 1 t : S1024x1024.Idx → EReal) = ue2 fun k i => b (row (t.val) k) (i) := by
  funext y
  have e : iblk m c 1 t y = V m c main_v14 (((cfg0.win 1).blk t).view.emb y) := rfl
  rw [e, h.right]
  show b _ _ = b _ _
  blk_simp
  rw [tr1]
  have h0 : (y 0).val < 1024 := (y 0).isLt
  have h1 : (y 1).val < 1024 := (y 1).isLt
  have ht : t.val < 8 := t.isLt
  refine congrArg₂ b ?_ ?_
  · show ((t.val % 2 * 1024 + (y 0).val) * 4096 + (t.val / 2 * 1024 + (y 1).val)) / 1024 = ((t.val) % 2 * 1024 + (y 0).val) * 4 + (t.val) / 2
    omega
  · show ((t.val % 2 * 1024 + (y 0).val) * 4096 + (t.val / 2 * 1024 + (y 1).val)) % 1024 = (y 1).val
    omega

/-- What point `n` leaves: the sum over the parts so far. -/
def Left (a b : ℕ → ℕ → EReal) (n : ℕ) (o : S768x1024.Idx → EReal) : Prop :=
  o = ue2 fun i j => parts 1024 row a b (n + 1) (i) (j)

/-- At a block's first point. -/
theorem left_A (h : Sees m c a b) (t : Fin cfg0.N) (h0 : t.val % 8 = 0) : Left a b t.val (outsAt0 m c t.val t.isLt) := by
  unfold Left
  rw [outsAt0_A m c t h0, iblk_0 h t, iblk_1 h t]
  refine out_A.trans ?_
  have ht : t.val < 8 := t.isLt
  have hp : t.val = 0 := by omega
  rw [hp]
  refine ue2_congr fun i _ j _ => ?_
  rw [parts_succ, parts_zero, zero_add]

/-- At a later point, from the point before. -/
theorem left_B (h : Sees m c a b) (t : Fin cfg0.N) (h0 : ¬t.val % 8 = 0) (n : ℕ) (ht : t.val = n + 1)
    (hp : ∀ hn, Left a b n (outsAt0 m c n hn)) : Left a b t.val (outsAt0 m c t.val t.isLt) := by
  unfold Left
  rw [outsAt0_B m c t h0, iblk_0 h t, iblk_1 h t]
  have e : ∀ hn, outsAt0 m c (t.val - 1) hn = outsAt0 m c n (by rw [ht, Nat.add_sub_cancel] at hn; exact hn) := by
    intro hn
    have : t.val - 1 = n := by omega
    subst this
    rfl
  have hL := hp (by have := t.isLt; omega)
  unfold Left at hL
  rw [e, hL]
  refine (out_B (a := fun k i => a (row (t.val) k) (i)) (b := fun k j => b (row (t.val) k) (j))
    (o := fun i j => parts 1024 row a b (n + 1) (i) (j))).trans ?_
  have e1 : n + 1 = t.val := by omega

  rw [e1]
  refine ue2_congr fun i _ j _ => ?_
  rw [parts_succ]

/-- At every point. -/
theorem left_all (h : Sees m c a b) (n : ℕ) : ∀ hn, Left a b n (outsAt0 m c n hn) := by
  induction n with
  | zero => exact fun hn => left_A h ⟨0, hn⟩ (by rfl)
  | succ n ih =>
    intro hn
    by_cases h0 : (n + 1) % 8 = 0
    · exact left_A h ⟨n + 1, hn⟩ h0
    · exact left_B h ⟨n + 1, hn⟩ h0 n rfl ih

/-- All parts together hold every row once. -/
theorem all_rows (A B : ℕ → ℕ → EReal) (i j : ℕ) : parts 1024 row A B (7 + 1) i j = rows A B i j :=
  parts_all (fun x => x % 4 * 2 + x / 4 / 1024) (fun x => x / 4 % 1024) A B i j (by
    intro p hp k hk
    dsimp only [row]
    have hr : p / 2 < 4 := by omega
    have e1 : ((p % 2 * 1024 + k) * 4 + p / 2) / 4 = p % 2 * 1024 + k := by omega
    have e2 : ((p % 2 * 1024 + k) * 4 + p / 2) % 4 = p / 2 := by omega
    have e3 : (p % 2 * 1024 + k) / 1024 = p % 2 := by omega
    refine ⟨by omega, ?_, ?_⟩
    · rw [e1, e2, e3]
      omega
    · rw [e1]
      omega) (by intro x hx; dsimp only [row]; omega)

/-- The last point. -/
def tLast : Fin cfg0.N := Fin.mk 7 (by decide)

/-- The array the launch leaves. -/
theorem arr (h : Sees m c a b) : ((dats m 0 c).arrAt 2 cfg0.N : S768x1024.Idx → EReal) = ue2 (rows a b) := by
  refine (dats m 0 c).arrAt_eq_of_after_last 2 tLast (by decide +kernel) _ fun j => ?_
  have hL := left_all h tLast.val tLast.isLt
  unfold Left at hL
  rw [after0_2, hL]
  exact all_rows _ _ _ _

/-! The reference. -/

/-- The product along all rows. -/
theorem host_product (a b : ℕ → ℕ → EReal) :
    Host.dotGeneral (F := Ideal) (φ₁ := .f32) (φ₂ := .f32) Cert.GradQkvReferenceIdeal.dot_S8192x768_S8192x1024_S768x1024_0_0_1_1_n_n none (ue2 a) (ue2 b) = ue2 (rows a b) := by
  funext j
  idx_vars j
  pointwise [ue2]
  exact Fin.sum_univ_eq_sum_range (fun k => a k ↑j0 * b k ↑j1) 8192

/-- The reference's result. -/
theorem ref {x0 : (⟨2, ![8192, 768]⟩ : Shape).Idx → EReal} {x1 : (⟨2, ![8192, 1024]⟩ : Shape).Idx → EReal} {x2 : (⟨2, ![1, 1024]⟩ : Shape).Idx → EReal}
    (ha : (Cert.GradQkvReferenceIdeal.Read.val_main_v14 (F := Ideal) x0 : (⟨2, ![8192, 768]⟩ : Shape).Idx → EReal) = ue2 a)
    (hb : (Cert.GradQkvReferenceIdeal.Read.val_main_v12 (F := Ideal) x1 x2 : (⟨2, ![8192, 1024]⟩ : Shape).Idx → EReal) = ue2 b) :
    (Cert.GradQkvReferenceIdeal.Read.val_main_v17 (F := Ideal) x0 x1 x2 : S768x1024.Idx → EReal) = ue2 (rows a b) := by
  have hd : (Cert.GradQkvReferenceIdeal.Read.val_main_v15 (F := Ideal) x0 x1 x2 : (⟨2, ![768, 1024]⟩ : Shape).Idx → EReal) = ue2 (rows a b) := by
    unfold Cert.GradQkvReferenceIdeal.Read.val_main_v15
    rw [ha, hb]
    exact host_product _ _
  funext j
  rw [Cert.GradQkvReferenceIdeal.Read.val_main_v17_apply, Cert.GradQkvReferenceIdeal.Read.val_main_v16_apply, hd]
  rfl

/-! The two together. -/

variable (m c)

/-- The left operand is what the reference's own lines compute, laid out anew. -/
theorem host_left : (V m c main_v13 : S2048x3072.Idx → EReal)
    = shapeCast (s := ⟨2, ![8192, 768]⟩) S2048x3072 (Cert.GradQkvReferenceIdeal.Read.val_main_v14 (F := Ideal) (m ((c : Thread nD τ).loc main_arg0)) : (⟨2, ![8192, 768]⟩ : Shape).Idx → EReal) shapeCasts_S8192x768_S2048x3072 := by
  entry_read
  rfl

/-- The right operand is what the reference's own lines compute, laid out anew. -/
theorem host_right : (V m c main_v14 : S2048x4096.Idx → EReal)
    = shapeCast (s := ⟨2, ![8192, 1024]⟩) S2048x4096 (Cert.GradQkvReferenceIdeal.Read.val_main_v12 (F := Ideal) (m ((c : Thread nD τ).loc main_arg1)) (m ((c : Thread nD τ).loc main_arg2)) : (⟨2, ![8192, 1024]⟩ : Shape).Idx → EReal) shapeCasts_S8192x1024_S2048x4096 := by
  entry_read
  rfl

/-- The reference's result is the array the launch leaves. -/
theorem leaves {x0 : (⟨2, ![8192, 768]⟩ : Shape).Idx → EReal} {x1 : (⟨2, ![8192, 1024]⟩ : Shape).Idx → EReal} {x2 : (⟨2, ![1, 1024]⟩ : Shape).Idx → EReal}
    (e0 : x0 = m ((c : Thread nD τ).loc main_arg0)) (e1 : x1 = m ((c : Thread nD τ).loc main_arg1)) (e2 : x2 = m ((c : Thread nD τ).loc main_arg2)) :
    (Cert.GradQkvReferenceIdeal.Read.val_main_v17 (F := Ideal) x0 x1 x2 : S768x1024.Idx → EReal) = (dats m 0 c).arrAt 2 cfg0.N := by
  obtain ⟨a, ha⟩ := ue2_exists (Cert.GradQkvReferenceIdeal.Read.val_main_v14 (F := Ideal) x0 : (⟨2, ![8192, 768]⟩ : Shape).Idx → EReal)
  obtain ⟨b, hb⟩ := ue2_exists (Cert.GradQkvReferenceIdeal.Read.val_main_v12 (F := Ideal) x1 x2 : (⟨2, ![8192, 1024]⟩ : Shape).Idx → EReal)
  have hr := ref ha hb
  subst e0 e1 e2
  exact hr.trans (arr ⟨(host_left m c).trans ((congrArg (fun X => shapeCast _ X shapeCasts_S8192x768_S2048x3072) ha).trans (recast _ _)), (host_right m c).trans ((congrArg (fun X => shapeCast _ X shapeCasts_S8192x1024_S2048x4096) hb).trans (recast _ _))⟩).symm

end Cert.GradQkv1Proof

end
-- ==== Proof.SumGradQkv2.lean ====
/-
  The gradient of attention group 2's columns of the input projection: the launch sums the products of the cotangent's rows and the normalised rows, taken residue by residue.
-/
module

public import proofs.«01_k».proof.Proof.Sums
public import proofs.«01_k».proof.Proof.Gen.GradQkv2Ideal.Value
public import proofs.«01_k».proof.Proof.Gen.GradQkvReferenceIdeal.Read
public import Idealize.ShloMosaic.Lib.Pipeline.ValueKit

@[expose] public section

set_option maxHeartbeats 1000000

noncomputable section

namespace Cert.GradQkv2Proof

open Idealize.ShloMosaic Idealize.ShloMosaic.TcCoe Idealize.SL.Sem Cert.GradQkv2Ideal Cert.GradQkv2Ideal.Gen Cert.Lift Cert.GLift

/-! What the body computes of two blocks. -/

/-- The first store is of zeros. -/
theorem pay1 : k0_pay1 (F := Ideal) = ue2 fun _ _ => 0 := by
  funext j
  unfold k0_pay1
  exact lit_zero.trans EReal.coe_zero

/-- The product of two blocks along their rows. -/
theorem product (a b : ℕ → ℕ → EReal) :
    matmul (F := Ideal) (φ₁ := .bf16) (φ₂ := .bf16) dot_S512x768_S512x1024_S768x1024_0_0_1_1_n_n none (ue2 a) (ue2 b) (constant S768x1024 .f32 0x00000000#32)
      = ue2 fun i j => ∑ k ∈ Finset.range 512, a k i * b k j := by
  funext j
  idx_vars j
  pointwise [ue2]
  exact Fin.sum_univ_eq_sum_range (fun k => a k ↑j0 * b k ↑j1) 512

/-- The second store adds the blocks' product to what the block held. -/
theorem pay2 (a o b : ℕ → ℕ → EReal) : k0_pay2 (F := Ideal) (ue2 o) (ue2 a) (ue2 b)
    = ue2 fun i j => o i j + ∑ k ∈ Finset.range 512, a k i * b k j := by
  unfold k0_pay2
  dsimp only
  simp only [cast_same2, product]
  rfl

section bodies

variable {c : Dev nD} {i : grid0.Coords} {arg2 : Memref sig .tc .vmem S512x768 .bf16} {harg2 : arg2.IsWhole} {arg3 : Memref sig .tc .vmem S512x1024 .bf16} {harg3 : arg3.IsWhole} {arg4 : Memref sig .tc .vmem S768x1024 .f32} {harg4 : arg4.IsWhole} {a b o : ℕ → ℕ → EReal}

/-- At a block's first point the body leaves the product. -/
theorem out_A {hc0} : out0_A_2 (F := Ideal) c i arg2 harg2 arg3 harg3 arg4 harg4 hc0 (ue2 a) (ue2 b) = ue2 fun i j => ∑ k ∈ Finset.range 512, a k i * b k j := by
  refine (View.read_writes_junk_eq_canon _ _).trans ?_
  unfold kernelRun0_A
  dsimp only
  refine (View.canon_cons_unit_lit' _ _ _ fun a => by match a with | ⟨0, _⟩ => rfl | ⟨1, _⟩ => rfl).trans ?_
  simp only [kernelRun0_A.sl.v5, kernelRun0_A.sl.H2_1, read_whole2, View.readCov_cons_toLoadRect, pay1]
  refine (pay2 a (fun _ _ => 0) b).trans ?_
  simp only [zero_add]

/-- At a later point it adds the product to what it finds. -/
theorem out_B {hc0} : out0_B_2 (F := Ideal) c i arg2 harg2 arg3 harg3 arg4 harg4 hc0 (ue2 a) (ue2 b) (ue2 o) = ue2 fun i j => o i j + ∑ k ∈ Finset.range 512, a k i * b k j := by
  refine (View.read_writes_junk_eq_canon _ _).trans ?_
  unfold kernelRun0_B
  dsimp only
  refine (View.canon_cons_unit_lit' _ _ _ fun a => by match a with | ⟨0, _⟩ => rfl | ⟨1, _⟩ => rfl).trans ?_
  simp only [read_whole2]
  exact pay2 a o b

end bodies

/-! The launch. -/

variable (m : (ℓ : Loc nD τ sig) → Buf (Elt Ideal) ℓ) (c : Dev nD) (a b : ℕ → ℕ → EReal)

/-- What the launch finds in its operands' buffers on device `c`. -/
structure Sees : Prop where
  left : (V m c main_v13 : S512x12288.Idx → EReal) = ue2 fun l k => a ((l * 12288 + k) / 768) ((l * 12288 + k) % 768)
  right : (V m c main_v14 : S512x16384.Idx → EReal) = ue2 fun l k => b ((l * 16384 + k) / 1024) ((l * 16384 + k) % 1024)

/-- Row `k` of the blocks of part `p`. -/
def row (p k : ℕ) : ℕ := (p % 1 * 512 + k) * 16 + p / 1

variable {m c a b}

theorem tr0 (t : Fin cfg0.N) : win0_0.index t = ![t.val % 1, t.val / 1] :=
  (by decide +kernel : ∀ t : Fin grid0.N, win0_0.index t = ![t.val % 1, t.val / 1]) t
theorem tr1 (t : Fin cfg0.N) : win0_1.index t = ![t.val % 1, t.val / 1] :=
  (by decide +kernel : ∀ t : Fin grid0.N, win0_1.index t = ![t.val % 1, t.val / 1]) t
theorem tr2 (t : Fin cfg0.N) : win0_2.index t = ![0, 0] :=
  (by decide +kernel : ∀ t : Fin grid0.N, win0_2.index t = ![0, 0]) t

/-- The launch's block 0 at a point. -/
theorem iblk_0 (h : Sees m c a b) (t : Fin cfg0.N) : (iblk m c 0 t : S512x768.Idx → EReal) = ue2 fun k i => a (row (t.val) k) (i) := by
  funext y
  have e : iblk m c 0 t y = V m c main_v13 (((cfg0.win 0).blk t).view.emb y) := rfl
  rw [e, h.left]
  show a _ _ = a _ _
  blk_simp
  rw [tr0]
  have h0 : (y 0).val < 512 := (y 0).isLt
  have h1 : (y 1).val < 768 := (y 1).isLt
  have ht : t.val < 16 := t.isLt
  refine congrArg₂ a ?_ ?_
  · show ((t.val % 1 * 512 + (y 0).val) * 12288 + (t.val / 1 * 768 + (y 1).val)) / 768 = ((t.val) % 1 * 512 + (y 0).val) * 16 + (t.val) / 1
    omega
  · show ((t.val % 1 * 512 + (y 0).val) * 12288 + (t.val / 1 * 768 + (y 1).val)) % 768 = (y 1).val
    omega

/-- The launch's block 1 at a point. -/
theorem iblk_1 (h : Sees m c a b) (t : Fin cfg0.N) : (iblk m c 1 t : S512x1024.Idx → EReal) = ue2 fun k i => b (row (t.val) k) (i) := by
  funext y
  have e : iblk m c 1 t y = V m c main_v14 (((cfg0.win 1).blk t).view.emb y) := rfl
  rw [e, h.right]
  show b _ _ = b _ _
  blk_simp
  rw [tr1]
  have h0 : (y 0).val < 512 := (y 0).isLt
  have h1 : (y 1).val < 1024 := (y 1).isLt
  have ht : t.val < 16 := t.isLt
  refine congrArg₂ b ?_ ?_
  · show ((t.val % 1 * 512 + (y 0).val) * 16384 + (t.val / 1 * 1024 + (y 1).val)) / 1024 = ((t.val) % 1 * 512 + (y 0).val) * 16 + (t.val) / 1
    omega
  · show ((t.val % 1 * 512 + (y 0).val) * 16384 + (t.val / 1 * 1024 + (y 1).val)) % 1024 = (y 1).val
    omega

/-- What point `n` leaves: the sum over the parts so far. -/
def Left (a b : ℕ → ℕ → EReal) (n : ℕ) (o : S768x1024.Idx → EReal) : Prop :=
  o = ue2 fun i j => parts 512 row a b (n + 1) (i) (j)

/-- At a block's first point. -/
theorem left_A (h : Sees m c a b) (t : Fin cfg0.N) (h0 : t.val % 16 = 0) : Left a b t.val (outsAt0 m c t.val t.isLt) := by
  unfold Left
  rw [outsAt0_A m c t h0, iblk_0 h t, iblk_1 h t]
  refine out_A.trans ?_
  have ht : t.val < 16 := t.isLt
  have hp : t.val = 0 := by omega
  rw [hp]
  refine ue2_congr fun i _ j _ => ?_
  rw [parts_succ, parts_zero, zero_add]

/-- At a later point, from the point before. -/
theorem left_B (h : Sees m c a b) (t : Fin cfg0.N) (h0 : ¬t.val % 16 = 0) (n : ℕ) (ht : t.val = n + 1)
    (hp : ∀ hn, Left a b n (outsAt0 m c n hn)) : Left a b t.val (outsAt0 m c t.val t.isLt) := by
  unfold Left
  rw [outsAt0_B m c t h0, iblk_0 h t, iblk_1 h t]
  have e : ∀ hn, outsAt0 m c (t.val - 1) hn = outsAt0 m c n (by rw [ht, Nat.add_sub_cancel] at hn; exact hn) := by
    intro hn
    have : t.val - 1 = n := by omega
    subst this
    rfl
  have hL := hp (by have := t.isLt; omega)
  unfold Left at hL
  rw [e, hL]
  refine (out_B (a := fun k i => a (row (t.val) k) (i)) (b := fun k j => b (row (t.val) k) (j))
    (o := fun i j => parts 512 row a b (n + 1) (i) (j))).trans ?_
  have e1 : n + 1 = t.val := by omega

  rw [e1]
  refine ue2_congr fun i _ j _ => ?_
  rw [parts_succ]

/-- At every point. -/
theorem left_all (h : Sees m c a b) (n : ℕ) : ∀ hn, Left a b n (outsAt0 m c n hn) := by
  induction n with
  | zero => exact fun hn => left_A h ⟨0, hn⟩ (by rfl)
  | succ n ih =>
    intro hn
    by_cases h0 : (n + 1) % 16 = 0
    · exact left_A h ⟨n + 1, hn⟩ h0
    · exact left_B h ⟨n + 1, hn⟩ h0 n rfl ih

/-- All parts together hold every row once. -/
theorem all_rows (A B : ℕ → ℕ → EReal) (i j : ℕ) : parts 512 row A B (15 + 1) i j = rows A B i j :=
  parts_all (fun x => x % 16 * 1 + x / 16 / 512) (fun x => x / 16 % 512) A B i j (by
    intro p hp k hk
    dsimp only [row]
    have hr : p / 1 < 16 := by omega
    have e1 : ((p % 1 * 512 + k) * 16 + p / 1) / 16 = p % 1 * 512 + k := by omega
    have e2 : ((p % 1 * 512 + k) * 16 + p / 1) % 16 = p / 1 := by omega
    have e3 : (p % 1 * 512 + k) / 512 = p % 1 := by omega
    refine ⟨by omega, ?_, ?_⟩
    · rw [e1, e2, e3]
      omega
    · rw [e1]
      omega) (by intro x hx; dsimp only [row]; omega)

/-- The last point. -/
def tLast : Fin cfg0.N := Fin.mk 15 (by decide)

/-- The array the launch leaves. -/
theorem arr (h : Sees m c a b) : ((dats m 0 c).arrAt 2 cfg0.N : S768x1024.Idx → EReal) = ue2 (rows a b) := by
  refine (dats m 0 c).arrAt_eq_of_after_last 2 tLast (by decide +kernel) _ fun j => ?_
  have hL := left_all h tLast.val tLast.isLt
  unfold Left at hL
  rw [after0_2, hL]
  exact all_rows _ _ _ _

/-! The reference. -/

/-- The product along all rows. -/
theorem host_product (a b : ℕ → ℕ → EReal) :
    Host.dotGeneral (F := Ideal) (φ₁ := .f32) (φ₂ := .f32) Cert.GradQkvReferenceIdeal.dot_S8192x768_S8192x1024_S768x1024_0_0_1_1_n_n none (ue2 a) (ue2 b) = ue2 (rows a b) := by
  funext j
  idx_vars j
  pointwise [ue2]
  exact Fin.sum_univ_eq_sum_range (fun k => a k ↑j0 * b k ↑j1) 8192

/-- The reference's result. -/
theorem ref {x0 : (⟨2, ![8192, 768]⟩ : Shape).Idx → EReal} {x1 : (⟨2, ![8192, 1024]⟩ : Shape).Idx → EReal} {x2 : (⟨2, ![1, 1024]⟩ : Shape).Idx → EReal}
    (ha : (Cert.GradQkvReferenceIdeal.Read.val_main_v14 (F := Ideal) x0 : (⟨2, ![8192, 768]⟩ : Shape).Idx → EReal) = ue2 a)
    (hb : (Cert.GradQkvReferenceIdeal.Read.val_main_v12 (F := Ideal) x1 x2 : (⟨2, ![8192, 1024]⟩ : Shape).Idx → EReal) = ue2 b) :
    (Cert.GradQkvReferenceIdeal.Read.val_main_v17 (F := Ideal) x0 x1 x2 : S768x1024.Idx → EReal) = ue2 (rows a b) := by
  have hd : (Cert.GradQkvReferenceIdeal.Read.val_main_v15 (F := Ideal) x0 x1 x2 : (⟨2, ![768, 1024]⟩ : Shape).Idx → EReal) = ue2 (rows a b) := by
    unfold Cert.GradQkvReferenceIdeal.Read.val_main_v15
    rw [ha, hb]
    exact host_product _ _
  funext j
  rw [Cert.GradQkvReferenceIdeal.Read.val_main_v17_apply, Cert.GradQkvReferenceIdeal.Read.val_main_v16_apply, hd]
  rfl

/-! The two together. -/

variable (m c)

/-- The left operand is what the reference's own lines compute, laid out anew. -/
theorem host_left : (V m c main_v13 : S512x12288.Idx → EReal)
    = shapeCast (s := ⟨2, ![8192, 768]⟩) S512x12288 (Cert.GradQkvReferenceIdeal.Read.val_main_v14 (F := Ideal) (m ((c : Thread nD τ).loc main_arg0)) : (⟨2, ![8192, 768]⟩ : Shape).Idx → EReal) shapeCasts_S8192x768_S512x12288 := by
  entry_read
  rfl

/-- The right operand is what the reference's own lines compute, laid out anew. -/
theorem host_right : (V m c main_v14 : S512x16384.Idx → EReal)
    = shapeCast (s := ⟨2, ![8192, 1024]⟩) S512x16384 (Cert.GradQkvReferenceIdeal.Read.val_main_v12 (F := Ideal) (m ((c : Thread nD τ).loc main_arg1)) (m ((c : Thread nD τ).loc main_arg2)) : (⟨2, ![8192, 1024]⟩ : Shape).Idx → EReal) shapeCasts_S8192x1024_S512x16384 := by
  entry_read
  rfl

/-- The reference's result is the array the launch leaves. -/
theorem leaves {x0 : (⟨2, ![8192, 768]⟩ : Shape).Idx → EReal} {x1 : (⟨2, ![8192, 1024]⟩ : Shape).Idx → EReal} {x2 : (⟨2, ![1, 1024]⟩ : Shape).Idx → EReal}
    (e0 : x0 = m ((c : Thread nD τ).loc main_arg0)) (e1 : x1 = m ((c : Thread nD τ).loc main_arg1)) (e2 : x2 = m ((c : Thread nD τ).loc main_arg2)) :
    (Cert.GradQkvReferenceIdeal.Read.val_main_v17 (F := Ideal) x0 x1 x2 : S768x1024.Idx → EReal) = (dats m 0 c).arrAt 2 cfg0.N := by
  obtain ⟨a, ha⟩ := ue2_exists (Cert.GradQkvReferenceIdeal.Read.val_main_v14 (F := Ideal) x0 : (⟨2, ![8192, 768]⟩ : Shape).Idx → EReal)
  obtain ⟨b, hb⟩ := ue2_exists (Cert.GradQkvReferenceIdeal.Read.val_main_v12 (F := Ideal) x1 x2 : (⟨2, ![8192, 1024]⟩ : Shape).Idx → EReal)
  have hr := ref ha hb
  subst e0 e1 e2
  exact hr.trans (arr ⟨(host_left m c).trans ((congrArg (fun X => shapeCast _ X shapeCasts_S8192x768_S512x12288) ha).trans (recast _ _)), (host_right m c).trans ((congrArg (fun X => shapeCast _ X shapeCasts_S8192x1024_S512x16384) hb).trans (recast _ _))⟩).symm

end Cert.GradQkv2Proof

end
-- ==== Proof.Adam.lean ====
/-
  One step of AdamW at one element.
-/
module

public import Idealize.ShloMosaic.Lib.Pipeline.ValueKit

@[expose] public section

noncomputable section

namespace Cert.AdamProof

open Idealize.ShloMosaic

/-- The new first moment from the gradient and the old one. -/
def newM (g m : Ideal .f32) : Ideal .f32 :=
  FloatOps.addf (FloatOps.mulf (Scalar.ofBits .f32 0x3F666666#32) m) (FloatOps.mulf (Scalar.ofBits .f32 0x3DCCCCCD#32) g)

/-- The new second moment from the gradient and the old one. -/
def newV (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The step from the weight, the gradient and the old moments. -/
def delta (w g m v : Ideal .f32) : Ideal .f32 :=
  FloatOps.mulf (Scalar.ofBits .f32 0xBA83126F#32)
    (FloatOps.addf (FloatOps.divf (FloatOps.divf (newM g m) (Scalar.ofBits .f32 0x3F26BD02#32))
      (FloatOps.addf (FloatOps.sqrt (FloatOps.divf (newV g v) (Scalar.ofBits .f32 0x3C231ACC#32))) (Scalar.ofBits .f32 0x322BCC77#32)))
      (FloatOps.mulf (Scalar.ofBits .f32 0x3C23D70A#32) w))

end Cert.AdamProof

end
-- ==== Proof.StepGain.lean ====
/-
  The AdamW launch for the norm gains: every point steps its own block.
-/
module

public import proofs.«01_k».proof.Proof.Adam
public import proofs.«01_k».proof.Proof.Gen.AdamGainIdeal.Value
public import proofs.«01_k».proof.Proof.Gen.AdamGainReferenceIdeal.Read

@[expose] public section

noncomputable section

namespace Cert.AdamGainProof

open Idealize.ShloMosaic Idealize.ShloMosaic.TcCoe Cert.AdamGainIdeal Cert.AdamGainIdeal.Gen Cert.AdamGainIdeal.Value Cert.AdamProof

/-- A load of a whole block. -/
theorem ld_all (X : Vec Ideal S1x1024 .f32) : View.ld X r0_0 = X := View.ld_unit_lit' _ X fun a => by match a with | ⟨0, _⟩ => rfl | ⟨1, _⟩ => rfl

section blocks

variable (w g p q : Vec Ideal S1x1024 .f32) (y : S1x1024.Idx)

/-- The block of the gradient. -/
theorem out_4 : out0_4 w g p q y = g y := by
  unfold out0_4
  simp only [ld_all]
  refine (congrFun (View.canon_cons_unit_lit' _ _ _ fun a => by match a with | ⟨0, _⟩ => rfl | ⟨1, _⟩ => rfl) y).trans ?_
  all_goals rfl

/-- The block of the step. -/
theorem out_5 : out0_5 w g p q y = delta (w y) (g y) (p y) (q y) := by
  unfold out0_5
  simp only [ld_all]
  refine (congrFun (View.canon_cons_unit_lit' _ _ _ fun a => by match a with | ⟨0, _⟩ => rfl | ⟨1, _⟩ => rfl) y).trans ?_
  all_goals rfl

/-- The block of the new first moment. -/
theorem out_6 : out0_6 w g p q y = newM (g y) (p y) := by
  unfold out0_6
  simp only [ld_all]
  refine (congrFun (View.canon_cons_unit_lit' _ _ _ fun a => by match a with | ⟨0, _⟩ => rfl | ⟨1, _⟩ => rfl) y).trans ?_
  all_goals rfl

/-- The block of the new second moment. -/
theorem out_7 : out0_7 w g p q y = newV (g y) (q y) := by
  unfold out0_7
  simp only [ld_all]
  refine (congrFun (View.canon_cons_unit_lit' _ _ _ fun a => by match a with | ⟨0, _⟩ => rfl | ⟨1, _⟩ => rfl) y).trans ?_
  all_goals rfl

end blocks

variable (m : (ℓ : Loc nD τ sig) → Buf (Elt Ideal) ℓ) (c : Dev nD)

theorem iblk_0 (t : Fin cfg0.N) (y : S1x1024.Idx) : iblk m c 0 t y = V m c main_arg0 (((cfg0.win 4).blk t).view.emb y) := rfl
theorem iblk_1 (t : Fin cfg0.N) (y : S1x1024.Idx) : iblk m c 1 t y = V m c main_arg1 (((cfg0.win 4).blk t).view.emb y) := rfl
theorem iblk_2 (t : Fin cfg0.N) (y : S1x1024.Idx) : iblk m c 2 t y = V m c main_arg2 (((cfg0.win 4).blk t).view.emb y) := rfl
theorem iblk_3 (t : Fin cfg0.N) (y : S1x1024.Idx) : iblk m c 3 t y = V m c main_arg3 (((cfg0.win 4).blk t).view.emb y) := rfl

/-- The array of the gradient. -/
theorem arr_4 : (dats m 0 c).arrAt 4 cfg0.N = fun i => V m c main_arg1 i := by
  refine (dats m 0 c).arrAt_eq_of_covers 4 _ (by decide +kernel) fun t hf y => ?_
  blk_simp
  rw [after0_4, out_4, iblk_1]
  all_goals rfl

/-- The array of the step. -/
theorem arr_5 : (dats m 0 c).arrAt 5 cfg0.N = fun i => delta (V m c main_arg0 i) (V m c main_arg1 i) (V m c main_arg2 i) (V m c main_arg3 i) := by
  refine (dats m 0 c).arrAt_eq_of_covers 5 _ (by decide +kernel) fun t hf y => ?_
  blk_simp
  rw [after0_5, out_5, iblk_0, iblk_1, iblk_2, iblk_3]
  all_goals rfl

/-- The array of the new first moment. -/
theorem arr_6 : (dats m 0 c).arrAt 6 cfg0.N = fun i => newM (V m c main_arg1 i) (V m c main_arg2 i) := by
  refine (dats m 0 c).arrAt_eq_of_covers 6 _ (by decide +kernel) fun t hf y => ?_
  blk_simp
  rw [after0_6, out_6, iblk_1, iblk_2]
  all_goals rfl

/-- The array of the new second moment. -/
theorem arr_7 : (dats m 0 c).arrAt 7 cfg0.N = fun i => newV (V m c main_arg1 i) (V m c main_arg3 i) := by
  refine (dats m 0 c).arrAt_eq_of_covers 7 _ (by decide +kernel) fun t hf y => ?_
  blk_simp
  rw [after0_7, out_7, iblk_1, iblk_3]
  all_goals rfl

/-! The reference's results are the arrays the launch leaves. -/

variable {x0 x1 x2 x3 : _} (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e1 in
theorem leaves_4 : x1 = (dats m 0 c).arrAt 4 cfg0.N := by
  subst e1
  rw [arr_4]
  all_goals rfl

include e0 e1 e2 e3 in
theorem leaves_5 : (Cert.AdamGainReferenceIdeal.Read.val_main_v23 (F := Ideal) x0 x1 x2 x3) = (dats m 0 c).arrAt 5 cfg0.N := by
  subst e0 e1 e2 e3
  rw [arr_5]
  all_goals rfl

include e1 e2 in
theorem leaves_6 : (Cert.AdamGainReferenceIdeal.Read.val_main_v4 (F := Ideal) x1 x2) = (dats m 0 c).arrAt 6 cfg0.N := by
  subst e1 e2
  rw [arr_6]
  all_goals rfl

include e1 e3 in
theorem leaves_7 : (Cert.AdamGainReferenceIdeal.Read.val_main_v10 (F := Ideal) x1 x3) = (dats m 0 c).arrAt 7 cfg0.N := by
  subst e1 e3
  rw [arr_7]
  all_goals rfl

end Cert.AdamGainProof

end
-- ==== Proof.StepIn.lean ====
/-
  The AdamW launch for the input projection: every point steps its own block.
-/
module

public import proofs.«01_k».proof.Proof.Adam
public import proofs.«01_k».proof.Proof.Gen.AdamInIdeal.Value
public import proofs.«01_k».proof.Proof.Gen.AdamInReferenceIdeal.Read

@[expose] public section

noncomputable section

namespace Cert.AdamInProof

open Idealize.ShloMosaic Idealize.ShloMosaic.TcCoe Cert.AdamInIdeal Cert.AdamInIdeal.Gen Cert.AdamInIdeal.Value Cert.AdamProof

/-- A load of a whole block. -/
theorem ld_all (X : Vec Ideal S224x1024 .f32) : View.ld X r0_0 = X := View.ld_unit_lit' _ X fun a => by match a with | ⟨0, _⟩ => rfl | ⟨1, _⟩ => rfl

theorem ix_all (y : S224x1024.Idx) : ix5_0 y = y := by
  funext a
  match a with | ⟨0, _⟩ => rfl | ⟨1, _⟩ => rfl

section blocks

variable (w g p q : Vec Ideal S224x1024 .f32) (y : S224x1024.Idx)

/-- The block of the gradient. -/
theorem out_4 : out0_4 w g p q y = g y := by
  unfold out0_4
  simp only [ld_all]
  refine (canon4_eq g y).trans ?_
  show g (ix5_0 y) = _
  rw [ix_all]

/-- The block of the step. -/
theorem out_5 : out0_5 w g p q y = delta (w y) (g y) (p y) (q y) := by
  unfold out0_5
  simp only [ld_all]
  refine (canon5_eq p g q w y).trans ?_
  show delta (w (ix5_0 y)) (g (ix5_0 y)) (p (ix5_0 y)) (q (ix5_0 y)) = _
  rw [ix_all]

/-- The block of the new first moment. -/
theorem out_6 : out0_6 w g p q y = newM (g y) (p y) := by
  unfold out0_6
  simp only [ld_all]
  refine (canon6_eq p g y).trans ?_
  show newM (g (ix5_0 y)) (p (ix5_0 y)) = _
  rw [ix_all]

/-- The block of the new second moment. -/
theorem out_7 : out0_7 w g p q y = newV (g y) (q y) := by
  unfold out0_7
  simp only [ld_all]
  refine (canon7_eq q g y).trans ?_
  show newV (g (ix5_0 y)) (q (ix5_0 y)) = _
  rw [ix_all]

end blocks

variable (m : (ℓ : Loc nD τ sig) → Buf (Elt Ideal) ℓ) (c : Dev nD)

theorem iblk_0 (t : Fin cfg0.N) (y : S224x1024.Idx) : iblk m c 0 t y = V m c main_v1 (((cfg0.win 4).blk t).view.emb y) := rfl
theorem iblk_1 (t : Fin cfg0.N) (y : S224x1024.Idx) : iblk m c 1 t y = V m c main_v3 (((cfg0.win 4).blk t).view.emb y) := rfl
theorem iblk_2 (t : Fin cfg0.N) (y : S224x1024.Idx) : iblk m c 2 t y = V m c main_v5 (((cfg0.win 4).blk t).view.emb y) := rfl
theorem iblk_3 (t : Fin cfg0.N) (y : S224x1024.Idx) : iblk m c 3 t y = V m c main_v7 (((cfg0.win 4).blk t).view.emb y) := rfl

/-- The array of the gradient. -/
theorem arr_4 : (dats m 0 c).arrAt 4 cfg0.N = fun i => V m c main_v3 i := by
  refine (dats m 0 c).arrAt_eq_of_covers 4 _ (by decide +kernel) fun t hf y => ?_
  blk_simp
  rw [after0_4, out_4, iblk_1]
  all_goals rfl

/-- The array of the step. -/
theorem arr_5 : (dats m 0 c).arrAt 5 cfg0.N = fun i => delta (V m c main_v1 i) (V m c main_v3 i) (V m c main_v5 i) (V m c main_v7 i) := by
  refine (dats m 0 c).arrAt_eq_of_covers 5 _ (by decide +kernel) fun t hf y => ?_
  blk_simp
  rw [after0_5, out_5, iblk_0, iblk_1, iblk_2, iblk_3]
  all_goals rfl

/-- The array of the new first moment. -/
theorem arr_6 : (dats m 0 c).arrAt 6 cfg0.N = fun i => newM (V m c main_v3 i) (V m c main_v5 i) := by
  refine (dats m 0 c).arrAt_eq_of_covers 6 _ (by decide +kernel) fun t hf y => ?_
  blk_simp
  rw [after0_6, out_6, iblk_1, iblk_2]
  all_goals rfl

/-- The array of the new second moment. -/
theorem arr_7 : (dats m 0 c).arrAt 7 cfg0.N = fun i => newV (V m c main_v3 i) (V m c main_v7 i) := by
  refine (dats m 0 c).arrAt_eq_of_covers 7 _ (by decide +kernel) fun t hf y => ?_
  blk_simp
  rw [after0_7, out_7, iblk_1, iblk_3]
  all_goals rfl

/-! The reference's results are the arrays the launch leaves. -/

variable {x0 x1 x2 x3 : _} (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e1 in
theorem leaves_4 : (Cert.AdamInReferenceIdeal.Read.val_main_v25 (F := Ideal) x1) = (dats m 0 c).arrAt 4 cfg0.N := by
  subst e1
  rw [arr_4]
  entry_read
  all_goals rfl

include e0 e1 e2 e3 in
theorem leaves_5 : (Cert.AdamInReferenceIdeal.Read.val_main_v27 (F := Ideal) x0 x1 x2 x3) = (dats m 0 c).arrAt 5 cfg0.N := by
  subst e0 e1 e2 e3
  rw [arr_5]
  entry_read
  all_goals rfl

include e1 e2 in
theorem leaves_6 : (Cert.AdamInReferenceIdeal.Read.val_main_v29 (F := Ideal) x1 x2) = (dats m 0 c).arrAt 6 cfg0.N := by
  subst e1 e2
  rw [arr_6]
  entry_read
  all_goals rfl

include e1 e3 in
theorem leaves_7 : (Cert.AdamInReferenceIdeal.Read.val_main_v31 (F := Ideal) x1 x3) = (dats m 0 c).arrAt 7 cfg0.N := by
  subst e1 e3
  rw [arr_7]
  entry_read
  all_goals rfl

end Cert.AdamInProof

end
-- ==== Proof.StepSpatial.lean ====
/-
  The AdamW launch for the spatial weights: every point steps its own block.
-/
module

public import proofs.«01_k».proof.Proof.Adam
public import proofs.«01_k».proof.Proof.Gen.AdamSpatialIdeal.Value
public import proofs.«01_k».proof.Proof.Gen.AdamSpatialReferenceIdeal.Read

@[expose] public section

noncomputable section

namespace Cert.AdamSpatialProof

open Idealize.ShloMosaic Idealize.ShloMosaic.TcCoe Cert.AdamSpatialIdeal Cert.AdamSpatialIdeal.Gen Cert.AdamSpatialIdeal.Value Cert.AdamProof

/-- A load of a whole block. -/
theorem ld_all (X : Vec Ideal S256x128 .f32) : View.ld X r0_0 = X := View.ld_unit_lit' _ X fun a => by match a with | ⟨0, _⟩ => rfl | ⟨1, _⟩ => rfl

theorem ix_all (y : S256x128.Idx) : ix5_0 y = y := by
  funext a
  match a with | ⟨0, _⟩ => rfl | ⟨1, _⟩ => rfl

section blocks

variable (w g p q : Vec Ideal S256x128 .f32) (y : S256x128.Idx)

/-- The block of the gradient. -/
theorem out_4 : out0_4 w g p q y = g y := by
  unfold out0_4
  simp only [ld_all]
  refine (canon4_eq g y).trans ?_
  show g (ix5_0 y) = _
  rw [ix_all]

/-- The block of the step. -/
theorem out_5 : out0_5 w g p q y = delta (w y) (g y) (p y) (q y) := by
  unfold out0_5
  simp only [ld_all]
  refine (canon5_eq p g q w y).trans ?_
  show delta (w (ix5_0 y)) (g (ix5_0 y)) (p (ix5_0 y)) (q (ix5_0 y)) = _
  rw [ix_all]

/-- The block of the new first moment. -/
theorem out_6 : out0_6 w g p q y = newM (g y) (p y) := by
  unfold out0_6
  simp only [ld_all]
  refine (canon6_eq p g y).trans ?_
  show newM (g (ix5_0 y)) (p (ix5_0 y)) = _
  rw [ix_all]

/-- The block of the new second moment. -/
theorem out_7 : out0_7 w g p q y = newV (g y) (q y) := by
  unfold out0_7
  simp only [ld_all]
  refine (canon7_eq q g y).trans ?_
  show newV (g (ix5_0 y)) (q (ix5_0 y)) = _
  rw [ix_all]

end blocks

variable (m : (ℓ : Loc nD τ sig) → Buf (Elt Ideal) ℓ) (c : Dev nD)

theorem iblk_0 (t : Fin cfg0.N) (y : S256x128.Idx) : iblk m c 0 t y = V m c main_v0 (((cfg0.win 4).blk t).view.emb y) := rfl
theorem iblk_1 (t : Fin cfg0.N) (y : S256x128.Idx) : iblk m c 1 t y = V m c main_v1 (((cfg0.win 4).blk t).view.emb y) := rfl
theorem iblk_2 (t : Fin cfg0.N) (y : S256x128.Idx) : iblk m c 2 t y = V m c main_v2 (((cfg0.win 4).blk t).view.emb y) := rfl
theorem iblk_3 (t : Fin cfg0.N) (y : S256x128.Idx) : iblk m c 3 t y = V m c main_v3 (((cfg0.win 4).blk t).view.emb y) := rfl

/-- The array of the gradient. -/
theorem arr_4 : (dats m 0 c).arrAt 4 cfg0.N = fun i => V m c main_v1 i := by
  refine (dats m 0 c).arrAt_eq_of_covers 4 _ (by decide +kernel) fun t hf y => ?_
  blk_simp
  rw [after0_4, out_4, iblk_1]
  all_goals rfl

/-- The array of the step. -/
theorem arr_5 : (dats m 0 c).arrAt 5 cfg0.N = fun i => delta (V m c main_v0 i) (V m c main_v1 i) (V m c main_v2 i) (V m c main_v3 i) := by
  refine (dats m 0 c).arrAt_eq_of_covers 5 _ (by decide +kernel) fun t hf y => ?_
  blk_simp
  rw [after0_5, out_5, iblk_0, iblk_1, iblk_2, iblk_3]
  all_goals rfl

/-- The array of the new first moment. -/
theorem arr_6 : (dats m 0 c).arrAt 6 cfg0.N = fun i => newM (V m c main_v1 i) (V m c main_v2 i) := by
  refine (dats m 0 c).arrAt_eq_of_covers 6 _ (by decide +kernel) fun t hf y => ?_
  blk_simp
  rw [after0_6, out_6, iblk_1, iblk_2]
  all_goals rfl

/-- The array of the new second moment. -/
theorem arr_7 : (dats m 0 c).arrAt 7 cfg0.N = fun i => newV (V m c main_v1 i) (V m c main_v3 i) := by
  refine (dats m 0 c).arrAt_eq_of_covers 7 _ (by decide +kernel) fun t hf y => ?_
  blk_simp
  rw [after0_7, out_7, iblk_1, iblk_3]
  all_goals rfl

/-! The reference's results are the arrays the launch leaves. -/

variable {x0 x1 x2 x3 : _} (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e1 in
theorem leaves_4 : (Cert.AdamSpatialReferenceIdeal.Read.val_main_v24 (F := Ideal) x1) = (dats m 0 c).arrAt 4 cfg0.N := by
  subst e1
  rw [arr_4]
  entry_read
  all_goals rfl

include e0 e1 e2 e3 in
theorem leaves_5 : (Cert.AdamSpatialReferenceIdeal.Read.val_main_v25 (F := Ideal) x0 x1 x2 x3) = (dats m 0 c).arrAt 5 cfg0.N := by
  subst e0 e1 e2 e3
  rw [arr_5]
  entry_read
  all_goals rfl

include e1 e2 in
theorem leaves_6 : (Cert.AdamSpatialReferenceIdeal.Read.val_main_v26 (F := Ideal) x1 x2) = (dats m 0 c).arrAt 6 cfg0.N := by
  subst e1 e2
  rw [arr_6]
  entry_read
  all_goals rfl

include e1 e3 in
theorem leaves_7 : (Cert.AdamSpatialReferenceIdeal.Read.val_main_v27 (F := Ideal) x1 x3) = (dats m 0 c).arrAt 7 cfg0.N := by
  subst e1 e3
  rw [arr_7]
  entry_read
  all_goals rfl

end Cert.AdamSpatialProof

end
-- ==== Proof.StepBias.lean ====
/-
  The AdamW launch for the spatial bias: every point steps its own block.
-/
module

public import proofs.«01_k».proof.Proof.Adam
public import proofs.«01_k».proof.Proof.Gen.AdamBiasIdeal.Value
public import proofs.«01_k».proof.Proof.Gen.AdamBiasReferenceIdeal.Read

@[expose] public section

noncomputable section

namespace Cert.AdamBiasProof

open Idealize.ShloMosaic Idealize.ShloMosaic.TcCoe Cert.AdamBiasIdeal Cert.AdamBiasIdeal.Gen Cert.AdamBiasIdeal.Value Cert.AdamProof

/-- A load of a whole block. -/
theorem ld_all (X : Vec Ideal S4x128 .f32) : View.ld X r0_0 = X := View.ld_unit_lit' _ X fun a => by match a with | ⟨0, _⟩ => rfl | ⟨1, _⟩ => rfl

theorem ix_all (y : S4x128.Idx) : ix5_0 y = y := by
  funext a
  match a with | ⟨0, _⟩ => rfl | ⟨1, _⟩ => rfl

section blocks

variable (w g p q : Vec Ideal S4x128 .f32) (y : S4x128.Idx)

/-- The block of the gradient. -/
theorem out_4 : out0_4 w g p q y = g y := by
  unfold out0_4
  simp only [ld_all]
  refine (canon4_eq g y).trans ?_
  show g (ix5_0 y) = _
  rw [ix_all]

/-- The block of the step. -/
theorem out_5 : out0_5 w g p q y = delta (w y) (g y) (p y) (q y) := by
  unfold out0_5
  simp only [ld_all]
  refine (canon5_eq p g q w y).trans ?_
  show delta (w (ix5_0 y)) (g (ix5_0 y)) (p (ix5_0 y)) (q (ix5_0 y)) = _
  rw [ix_all]

/-- The block of the new first moment. -/
theorem out_6 : out0_6 w g p q y = newM (g y) (p y) := by
  unfold out0_6
  simp only [ld_all]
  refine (canon6_eq p g y).trans ?_
  show newM (g (ix5_0 y)) (p (ix5_0 y)) = _
  rw [ix_all]

/-- The block of the new second moment. -/
theorem out_7 : out0_7 w g p q y = newV (g y) (q y) := by
  unfold out0_7
  simp only [ld_all]
  refine (canon7_eq q g y).trans ?_
  show newV (g (ix5_0 y)) (q (ix5_0 y)) = _
  rw [ix_all]

end blocks

variable (m : (ℓ : Loc nD τ sig) → Buf (Elt Ideal) ℓ) (c : Dev nD)

theorem iblk_0 (t : Fin cfg0.N) (y : S4x128.Idx) : iblk m c 0 t y = V m c main_v0 (((cfg0.win 4).blk t).view.emb y) := rfl
theorem iblk_1 (t : Fin cfg0.N) (y : S4x128.Idx) : iblk m c 1 t y = V m c main_v1 (((cfg0.win 4).blk t).view.emb y) := rfl
theorem iblk_2 (t : Fin cfg0.N) (y : S4x128.Idx) : iblk m c 2 t y = V m c main_v2 (((cfg0.win 4).blk t).view.emb y) := rfl
theorem iblk_3 (t : Fin cfg0.N) (y : S4x128.Idx) : iblk m c 3 t y = V m c main_v3 (((cfg0.win 4).blk t).view.emb y) := rfl

/-- The array of the gradient. -/
theorem arr_4 : (dats m 0 c).arrAt 4 cfg0.N = fun i => V m c main_v1 i := by
  refine (dats m 0 c).arrAt_eq_of_covers 4 _ (by decide +kernel) fun t hf y => ?_
  blk_simp
  rw [after0_4, out_4, iblk_1]
  all_goals rfl

/-- The array of the step. -/
theorem arr_5 : (dats m 0 c).arrAt 5 cfg0.N = fun i => delta (V m c main_v0 i) (V m c main_v1 i) (V m c main_v2 i) (V m c main_v3 i) := by
  refine (dats m 0 c).arrAt_eq_of_covers 5 _ (by decide +kernel) fun t hf y => ?_
  blk_simp
  rw [after0_5, out_5, iblk_0, iblk_1, iblk_2, iblk_3]
  all_goals rfl

/-- The array of the new first moment. -/
theorem arr_6 : (dats m 0 c).arrAt 6 cfg0.N = fun i => newM (V m c main_v1 i) (V m c main_v2 i) := by
  refine (dats m 0 c).arrAt_eq_of_covers 6 _ (by decide +kernel) fun t hf y => ?_
  blk_simp
  rw [after0_6, out_6, iblk_1, iblk_2]
  all_goals rfl

/-- The array of the new second moment. -/
theorem arr_7 : (dats m 0 c).arrAt 7 cfg0.N = fun i => newV (V m c main_v1 i) (V m c main_v3 i) := by
  refine (dats m 0 c).arrAt_eq_of_covers 7 _ (by decide +kernel) fun t hf y => ?_
  blk_simp
  rw [after0_7, out_7, iblk_1, iblk_3]
  all_goals rfl

/-! The reference's results are the arrays the launch leaves. -/

variable {x0 x1 x2 x3 : _} (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e1 in
theorem leaves_4 : (Cert.AdamBiasReferenceIdeal.Read.val_main_v24 (F := Ideal) x1) = (dats m 0 c).arrAt 4 cfg0.N := by
  subst e1
  rw [arr_4]
  entry_read
  all_goals rfl

include e0 e1 e2 e3 in
theorem leaves_5 : (Cert.AdamBiasReferenceIdeal.Read.val_main_v25 (F := Ideal) x0 x1 x2 x3) = (dats m 0 c).arrAt 5 cfg0.N := by
  subst e0 e1 e2 e3
  rw [arr_5]
  entry_read
  all_goals rfl

include e1 e2 in
theorem leaves_6 : (Cert.AdamBiasReferenceIdeal.Read.val_main_v26 (F := Ideal) x1 x2) = (dats m 0 c).arrAt 6 cfg0.N := by
  subst e1 e2
  rw [arr_6]
  entry_read
  all_goals rfl

include e1 e3 in
theorem leaves_7 : (Cert.AdamBiasReferenceIdeal.Read.val_main_v27 (F := Ideal) x1 x3) = (dats m 0 c).arrAt 7 cfg0.N := by
  subst e1 e3
  rw [arr_7]
  entry_read
  all_goals rfl

end Cert.AdamBiasProof

end
-- ==== Proof.StepLn.lean ====
/-
  The AdamW launch for the layer norm's gain and bias: every point steps its own block.
-/
module

public import proofs.«01_k».proof.Proof.Adam
public import proofs.«01_k».proof.Proof.Gen.AdamLnIdeal.Value
public import proofs.«01_k».proof.Proof.Gen.AdamLnReferenceIdeal.Read

@[expose] public section

noncomputable section

namespace Cert.AdamLnProof

open Idealize.ShloMosaic Idealize.ShloMosaic.TcCoe Cert.AdamLnIdeal Cert.AdamLnIdeal.Gen Cert.AdamLnIdeal.Value Cert.AdamProof

/-- A load of a whole block. -/
theorem ld_all (X : Vec Ideal S1x512 .f32) : View.ld X r0_0 = X := View.ld_unit_lit' _ X fun a => by match a with | ⟨0, _⟩ => rfl | ⟨1, _⟩ => rfl

section blocks

variable (w g p q : Vec Ideal S1x512 .f32) (y : S1x512.Idx)

/-- The block of the gradient. -/
theorem out_4 : out0_4 w g p q y = g y := by
  unfold out0_4
  simp only [ld_all]
  refine (congrFun (View.canon_cons_unit_lit' _ _ _ fun a => by match a with | ⟨0, _⟩ => rfl | ⟨1, _⟩ => rfl) y).trans ?_
  all_goals rfl

/-- The block of the step. -/
theorem out_5 : out0_5 w g p q y = delta (w y) (g y) (p y) (q y) := by
  unfold out0_5
  simp only [ld_all]
  refine (congrFun (View.canon_cons_unit_lit' _ _ _ fun a => by match a with | ⟨0, _⟩ => rfl | ⟨1, _⟩ => rfl) y).trans ?_
  all_goals rfl

/-- The block of the new first moment. -/
theorem out_6 : out0_6 w g p q y = newM (g y) (p y) := by
  unfold out0_6
  simp only [ld_all]
  refine (congrFun (View.canon_cons_unit_lit' _ _ _ fun a => by match a with | ⟨0, _⟩ => rfl | ⟨1, _⟩ => rfl) y).trans ?_
  all_goals rfl

/-- The block of the new second moment. -/
theorem out_7 : out0_7 w g p q y = newV (g y) (q y) := by
  unfold out0_7
  simp only [ld_all]
  refine (congrFun (View.canon_cons_unit_lit' _ _ _ fun a => by match a with | ⟨0, _⟩ => rfl | ⟨1, _⟩ => rfl) y).trans ?_
  all_goals rfl

end blocks

variable (m : (ℓ : Loc nD τ sig) → Buf (Elt Ideal) ℓ) (c : Dev nD)

theorem iblk_0 (t : Fin cfg0.N) (y : S1x512.Idx) : iblk m c 0 t y = V m c main_arg0 (((cfg0.win 4).blk t).view.emb y) := rfl
theorem iblk_1 (t : Fin cfg0.N) (y : S1x512.Idx) : iblk m c 1 t y = V m c main_arg1 (((cfg0.win 4).blk t).view.emb y) := rfl
theorem iblk_2 (t : Fin cfg0.N) (y : S1x512.Idx) : iblk m c 2 t y = V m c main_arg2 (((cfg0.win 4).blk t).view.emb y) := rfl
theorem iblk_3 (t : Fin cfg0.N) (y : S1x512.Idx) : iblk m c 3 t y = V m c main_arg3 (((cfg0.win 4).blk t).view.emb y) := rfl

/-- The array of the gradient. -/
theorem arr_4 : (dats m 0 c).arrAt 4 cfg0.N = fun i => V m c main_arg1 i := by
  refine (dats m 0 c).arrAt_eq_of_covers 4 _ (by decide +kernel) fun t hf y => ?_
  blk_simp
  rw [after0_4, out_4, iblk_1]
  all_goals rfl

/-- The array of the step. -/
theorem arr_5 : (dats m 0 c).arrAt 5 cfg0.N = fun i => delta (V m c main_arg0 i) (V m c main_arg1 i) (V m c main_arg2 i) (V m c main_arg3 i) := by
  refine (dats m 0 c).arrAt_eq_of_covers 5 _ (by decide +kernel) fun t hf y => ?_
  blk_simp
  rw [after0_5, out_5, iblk_0, iblk_1, iblk_2, iblk_3]
  all_goals rfl

/-- The array of the new first moment. -/
theorem arr_6 : (dats m 0 c).arrAt 6 cfg0.N = fun i => newM (V m c main_arg1 i) (V m c main_arg2 i) := by
  refine (dats m 0 c).arrAt_eq_of_covers 6 _ (by decide +kernel) fun t hf y => ?_
  blk_simp
  rw [after0_6, out_6, iblk_1, iblk_2]
  all_goals rfl

/-- The array of the new second moment. -/
theorem arr_7 : (dats m 0 c).arrAt 7 cfg0.N = fun i => newV (V m c main_arg1 i) (V m c main_arg3 i) := by
  refine (dats m 0 c).arrAt_eq_of_covers 7 _ (by decide +kernel) fun t hf y => ?_
  blk_simp
  rw [after0_7, out_7, iblk_1, iblk_3]
  all_goals rfl

/-! The reference's results are the arrays the launch leaves. -/

variable {x0 x1 x2 x3 : _} (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e1 in
theorem leaves_4 : x1 = (dats m 0 c).arrAt 4 cfg0.N := by
  subst e1
  rw [arr_4]
  all_goals rfl

include e0 e1 e2 e3 in
theorem leaves_5 : (Cert.AdamLnReferenceIdeal.Read.val_main_v23 (F := Ideal) x0 x1 x2 x3) = (dats m 0 c).arrAt 5 cfg0.N := by
  subst e0 e1 e2 e3
  rw [arr_5]
  all_goals rfl

include e1 e2 in
theorem leaves_6 : (Cert.AdamLnReferenceIdeal.Read.val_main_v4 (F := Ideal) x1 x2) = (dats m 0 c).arrAt 6 cfg0.N := by
  subst e1 e2
  rw [arr_6]
  all_goals rfl

include e1 e3 in
theorem leaves_7 : (Cert.AdamLnReferenceIdeal.Read.val_main_v10 (F := Ideal) x1 x3) = (dats m 0 c).arrAt 7 cfg0.N := by
  subst e1 e3
  rw [arr_7]
  all_goals rfl

end Cert.AdamLnProof

end
-- ==== Proof.StepAttn.lean ====
/-
  The AdamW launch for the attention branch's weight: every point steps its own block.
-/
module

public import proofs.«01_k».proof.Proof.Adam
public import proofs.«01_k».proof.Proof.Gen.AdamAttnIdeal.Value
public import proofs.«01_k».proof.Proof.Gen.AdamAttnReferenceIdeal.Read

@[expose] public section

noncomputable section

namespace Cert.AdamAttnProof

open Idealize.ShloMosaic Idealize.ShloMosaic.TcCoe Cert.AdamAttnIdeal Cert.AdamAttnIdeal.Gen Cert.AdamAttnIdeal.Value Cert.AdamProof

/-- A load of a whole block. -/
theorem ld_all (X : Vec Ideal S256x256 .f32) : View.ld X r0_0 = X := View.ld_unit_lit' _ X fun a => by match a with | ⟨0, _⟩ => rfl | ⟨1, _⟩ => rfl

theorem ix_all (y : S256x256.Idx) : ix5_0 y = y := by
  funext a
  match a with | ⟨0, _⟩ => rfl | ⟨1, _⟩ => rfl

section blocks

variable (w g p q : Vec Ideal S256x256 .f32) (y : S256x256.Idx)

/-- The block of the gradient. -/
theorem out_4 : out0_4 w g p q y = g y := by
  unfold out0_4
  simp only [ld_all]
  refine (canon4_eq g y).trans ?_
  show g (ix5_0 y) = _
  rw [ix_all]

/-- The block of the step. -/
theorem out_5 : out0_5 w g p q y = delta (w y) (g y) (p y) (q y) := by
  unfold out0_5
  simp only [ld_all]
  refine (canon5_eq p g q w y).trans ?_
  show delta (w (ix5_0 y)) (g (ix5_0 y)) (p (ix5_0 y)) (q (ix5_0 y)) = _
  rw [ix_all]

/-- The block of the new first moment. -/
theorem out_6 : out0_6 w g p q y = newM (g y) (p y) := by
  unfold out0_6
  simp only [ld_all]
  refine (canon6_eq p g y).trans ?_
  show newM (g (ix5_0 y)) (p (ix5_0 y)) = _
  rw [ix_all]

/-- The block of the new second moment. -/
theorem out_7 : out0_7 w g p q y = newV (g y) (q y) := by
  unfold out0_7
  simp only [ld_all]
  refine (canon7_eq q g y).trans ?_
  show newV (g (ix5_0 y)) (q (ix5_0 y)) = _
  rw [ix_all]

end blocks

variable (m : (ℓ : Loc nD τ sig) → Buf (Elt Ideal) ℓ) (c : Dev nD)

theorem iblk_0 (t : Fin cfg0.N) (y : S256x256.Idx) : iblk m c 0 t y = V m c main_v0 (((cfg0.win 4).blk t).view.emb y) := rfl
theorem iblk_1 (t : Fin cfg0.N) (y : S256x256.Idx) : iblk m c 1 t y = V m c main_v1 (((cfg0.win 4).blk t).view.emb y) := rfl
theorem iblk_2 (t : Fin cfg0.N) (y : S256x256.Idx) : iblk m c 2 t y = V m c main_v2 (((cfg0.win 4).blk t).view.emb y) := rfl
theorem iblk_3 (t : Fin cfg0.N) (y : S256x256.Idx) : iblk m c 3 t y = V m c main_v3 (((cfg0.win 4).blk t).view.emb y) := rfl

/-- The array of the gradient. -/
theorem arr_4 : (dats m 0 c).arrAt 4 cfg0.N = fun i => V m c main_v1 i := by
  refine (dats m 0 c).arrAt_eq_of_covers 4 _ (by decide +kernel) fun t hf y => ?_
  blk_simp
  rw [after0_4, out_4, iblk_1]
  all_goals rfl

/-- The array of the step. -/
theorem arr_5 : (dats m 0 c).arrAt 5 cfg0.N = fun i => delta (V m c main_v0 i) (V m c main_v1 i) (V m c main_v2 i) (V m c main_v3 i) := by
  refine (dats m 0 c).arrAt_eq_of_covers 5 _ (by decide +kernel) fun t hf y => ?_
  blk_simp
  rw [after0_5, out_5, iblk_0, iblk_1, iblk_2, iblk_3]
  all_goals rfl

/-- The array of the new first moment. -/
theorem arr_6 : (dats m 0 c).arrAt 6 cfg0.N = fun i => newM (V m c main_v1 i) (V m c main_v2 i) := by
  refine (dats m 0 c).arrAt_eq_of_covers 6 _ (by decide +kernel) fun t hf y => ?_
  blk_simp
  rw [after0_6, out_6, iblk_1, iblk_2]
  all_goals rfl

/-- The array of the new second moment. -/
theorem arr_7 : (dats m 0 c).arrAt 7 cfg0.N = fun i => newV (V m c main_v1 i) (V m c main_v3 i) := by
  refine (dats m 0 c).arrAt_eq_of_covers 7 _ (by decide +kernel) fun t hf y => ?_
  blk_simp
  rw [after0_7, out_7, iblk_1, iblk_3]
  all_goals rfl

/-! The reference's results are the arrays the launch leaves. -/

variable {x0 x1 x2 x3 : _} (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e1 in
theorem leaves_4 : (Cert.AdamAttnReferenceIdeal.Read.val_main_v24 (F := Ideal) x1) = (dats m 0 c).arrAt 4 cfg0.N := by
  subst e1
  rw [arr_4]
  entry_read
  all_goals rfl

include e0 e1 e2 e3 in
theorem leaves_5 : (Cert.AdamAttnReferenceIdeal.Read.val_main_v25 (F := Ideal) x0 x1 x2 x3) = (dats m 0 c).arrAt 5 cfg0.N := by
  subst e0 e1 e2 e3
  rw [arr_5]
  entry_read
  all_goals rfl

include e1 e2 in
theorem leaves_6 : (Cert.AdamAttnReferenceIdeal.Read.val_main_v26 (F := Ideal) x1 x2) = (dats m 0 c).arrAt 6 cfg0.N := by
  subst e1 e2
  rw [arr_6]
  entry_read
  all_goals rfl

include e1 e3 in
theorem leaves_7 : (Cert.AdamAttnReferenceIdeal.Read.val_main_v27 (F := Ideal) x1 x3) = (dats m 0 c).arrAt 7 cfg0.N := by
  subst e1 e3
  rw [arr_7]
  entry_read
  all_goals rfl

end Cert.AdamAttnProof

end
-- ==== Proof.StepGmlp.lean ====
/-
  The AdamW launch for the gMLP branch's weight: every point steps its own block.
-/
module

public import proofs.«01_k».proof.Proof.Adam
public import proofs.«01_k».proof.Proof.Gen.AdamGmlpIdeal.Value
public import proofs.«01_k».proof.Proof.Gen.AdamGmlpReferenceIdeal.Read

@[expose] public section

noncomputable section

namespace Cert.AdamGmlpProof

open Idealize.ShloMosaic Idealize.ShloMosaic.TcCoe Cert.AdamGmlpIdeal Cert.AdamGmlpIdeal.Gen Cert.AdamGmlpIdeal.Value Cert.AdamProof

/-- A load of a whole block. -/
theorem ld_all (X : Vec Ideal S256x256 .f32) : View.ld X r0_0 = X := View.ld_unit_lit' _ X fun a => by match a with | ⟨0, _⟩ => rfl | ⟨1, _⟩ => rfl

theorem ix_all (y : S256x256.Idx) : ix5_0 y = y := by
  funext a
  match a with | ⟨0, _⟩ => rfl | ⟨1, _⟩ => rfl

section blocks

variable (w g p q : Vec Ideal S256x256 .f32) (y : S256x256.Idx)

/-- The block of the gradient. -/
theorem out_4 : out0_4 w g p q y = g y := by
  unfold out0_4
  simp only [ld_all]
  refine (canon4_eq g y).trans ?_
  show g (ix5_0 y) = _
  rw [ix_all]

/-- The block of the step. -/
theorem out_5 : out0_5 w g p q y = delta (w y) (g y) (p y) (q y) := by
  unfold out0_5
  simp only [ld_all]
  refine (canon5_eq p g q w y).trans ?_
  show delta (w (ix5_0 y)) (g (ix5_0 y)) (p (ix5_0 y)) (q (ix5_0 y)) = _
  rw [ix_all]

/-- The block of the new first moment. -/
theorem out_6 : out0_6 w g p q y = newM (g y) (p y) := by
  unfold out0_6
  simp only [ld_all]
  refine (canon6_eq p g y).trans ?_
  show newM (g (ix5_0 y)) (p (ix5_0 y)) = _
  rw [ix_all]

/-- The block of the new second moment. -/
theorem out_7 : out0_7 w g p q y = newV (g y) (q y) := by
  unfold out0_7
  simp only [ld_all]
  refine (canon7_eq q g y).trans ?_
  show newV (g (ix5_0 y)) (q (ix5_0 y)) = _
  rw [ix_all]

end blocks

variable (m : (ℓ : Loc nD τ sig) → Buf (Elt Ideal) ℓ) (c : Dev nD)

theorem iblk_0 (t : Fin cfg0.N) (y : S256x256.Idx) : iblk m c 0 t y = V m c main_v0 (((cfg0.win 4).blk t).view.emb y) := rfl
theorem iblk_1 (t : Fin cfg0.N) (y : S256x256.Idx) : iblk m c 1 t y = V m c main_v1 (((cfg0.win 4).blk t).view.emb y) := rfl
theorem iblk_2 (t : Fin cfg0.N) (y : S256x256.Idx) : iblk m c 2 t y = V m c main_v2 (((cfg0.win 4).blk t).view.emb y) := rfl
theorem iblk_3 (t : Fin cfg0.N) (y : S256x256.Idx) : iblk m c 3 t y = V m c main_v3 (((cfg0.win 4).blk t).view.emb y) := rfl

/-- The array of the gradient. -/
theorem arr_4 : (dats m 0 c).arrAt 4 cfg0.N = fun i => V m c main_v1 i := by
  refine (dats m 0 c).arrAt_eq_of_covers 4 _ (by decide +kernel) fun t hf y => ?_
  blk_simp
  rw [after0_4, out_4, iblk_1]
  all_goals rfl

/-- The array of the step. -/
theorem arr_5 : (dats m 0 c).arrAt 5 cfg0.N = fun i => delta (V m c main_v0 i) (V m c main_v1 i) (V m c main_v2 i) (V m c main_v3 i) := by
  refine (dats m 0 c).arrAt_eq_of_covers 5 _ (by decide +kernel) fun t hf y => ?_
  blk_simp
  rw [after0_5, out_5, iblk_0, iblk_1, iblk_2, iblk_3]
  all_goals rfl

/-- The array of the new first moment. -/
theorem arr_6 : (dats m 0 c).arrAt 6 cfg0.N = fun i => newM (V m c main_v1 i) (V m c main_v2 i) := by
  refine (dats m 0 c).arrAt_eq_of_covers 6 _ (by decide +kernel) fun t hf y => ?_
  blk_simp
  rw [after0_6, out_6, iblk_1, iblk_2]
  all_goals rfl

/-- The array of the new second moment. -/
theorem arr_7 : (dats m 0 c).arrAt 7 cfg0.N = fun i => newV (V m c main_v1 i) (V m c main_v3 i) := by
  refine (dats m 0 c).arrAt_eq_of_covers 7 _ (by decide +kernel) fun t hf y => ?_
  blk_simp
  rw [after0_7, out_7, iblk_1, iblk_3]
  all_goals rfl

/-! The reference's results are the arrays the launch leaves. -/

variable {x0 x1 x2 x3 : _} (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e1 in
theorem leaves_4 : (Cert.AdamGmlpReferenceIdeal.Read.val_main_v24 (F := Ideal) x1) = (dats m 0 c).arrAt 4 cfg0.N := by
  subst e1
  rw [arr_4]
  entry_read
  all_goals rfl

include e0 e1 e2 e3 in
theorem leaves_5 : (Cert.AdamGmlpReferenceIdeal.Read.val_main_v25 (F := Ideal) x0 x1 x2 x3) = (dats m 0 c).arrAt 5 cfg0.N := by
  subst e0 e1 e2 e3
  rw [arr_5]
  entry_read
  all_goals rfl

include e1 e2 in
theorem leaves_6 : (Cert.AdamGmlpReferenceIdeal.Read.val_main_v26 (F := Ideal) x1 x2) = (dats m 0 c).arrAt 6 cfg0.N := by
  subst e1 e2
  rw [arr_6]
  entry_read
  all_goals rfl

include e1 e3 in
theorem leaves_7 : (Cert.AdamGmlpReferenceIdeal.Read.val_main_v27 (F := Ideal) x1 x3) = (dats m 0 c).arrAt 7 cfg0.N := by
  subst e1 e3
  rw [arr_7]
  entry_read
  all_goals rfl

end Cert.AdamGmlpProof

end
-- ==== Proof.StepOut.lean ====
/-
  The AdamW launch for the output product: every point steps its own block.
-/
module

public import proofs.«01_k».proof.Proof.Adam
public import proofs.«01_k».proof.Proof.Gen.AdamOutIdeal.Value
public import proofs.«01_k».proof.Proof.Gen.AdamOutReferenceIdeal.Read

@[expose] public section

noncomputable section

namespace Cert.AdamOutProof

open Idealize.ShloMosaic Idealize.ShloMosaic.TcCoe Cert.AdamOutIdeal Cert.AdamOutIdeal.Gen Cert.AdamOutIdeal.Value Cert.AdamProof

/-- A load of a whole block. -/
theorem ld_all (X : Vec Ideal S256x1024 .f32) : View.ld X r0_0 = X := View.ld_unit_lit' _ X fun a => by match a with | ⟨0, _⟩ => rfl | ⟨1, _⟩ => rfl

theorem ix_all (y : S256x1024.Idx) : ix5_0 y = y := by
  funext a
  match a with | ⟨0, _⟩ => rfl | ⟨1, _⟩ => rfl

section blocks

variable (w g p q : Vec Ideal S256x1024 .f32) (y : S256x1024.Idx)

/-- The block of the gradient. -/
theorem out_4 : out0_4 w g p q y = g y := by
  unfold out0_4
  simp only [ld_all]
  refine (canon4_eq g y).trans ?_
  show g (ix5_0 y) = _
  rw [ix_all]

/-- The block of the step. -/
theorem out_5 : out0_5 w g p q y = delta (w y) (g y) (p y) (q y) := by
  unfold out0_5
  simp only [ld_all]
  refine (canon5_eq p g q w y).trans ?_
  show delta (w (ix5_0 y)) (g (ix5_0 y)) (p (ix5_0 y)) (q (ix5_0 y)) = _
  rw [ix_all]

/-- The block of the new first moment. -/
theorem out_6 : out0_6 w g p q y = newM (g y) (p y) := by
  unfold out0_6
  simp only [ld_all]
  refine (canon6_eq p g y).trans ?_
  show newM (g (ix5_0 y)) (p (ix5_0 y)) = _
  rw [ix_all]

/-- The block of the new second moment. -/
theorem out_7 : out0_7 w g p q y = newV (g y) (q y) := by
  unfold out0_7
  simp only [ld_all]
  refine (canon7_eq q g y).trans ?_
  show newV (g (ix5_0 y)) (q (ix5_0 y)) = _
  rw [ix_all]

end blocks

variable (m : (ℓ : Loc nD τ sig) → Buf (Elt Ideal) ℓ) (c : Dev nD)

theorem iblk_0 (t : Fin cfg0.N) (y : S256x1024.Idx) : iblk m c 0 t y = V m c main_v0 (((cfg0.win 4).blk t).view.emb y) := rfl
theorem iblk_1 (t : Fin cfg0.N) (y : S256x1024.Idx) : iblk m c 1 t y = V m c main_v1 (((cfg0.win 4).blk t).view.emb y) := rfl
theorem iblk_2 (t : Fin cfg0.N) (y : S256x1024.Idx) : iblk m c 2 t y = V m c main_v2 (((cfg0.win 4).blk t).view.emb y) := rfl
theorem iblk_3 (t : Fin cfg0.N) (y : S256x1024.Idx) : iblk m c 3 t y = V m c main_v3 (((cfg0.win 4).blk t).view.emb y) := rfl

/-- The array of the gradient. -/
theorem arr_4 : (dats m 0 c).arrAt 4 cfg0.N = fun i => V m c main_v1 i := by
  refine (dats m 0 c).arrAt_eq_of_covers 4 _ (by decide +kernel) fun t hf y => ?_
  blk_simp
  rw [after0_4, out_4, iblk_1]
  all_goals rfl

/-- The array of the step. -/
theorem arr_5 : (dats m 0 c).arrAt 5 cfg0.N = fun i => delta (V m c main_v0 i) (V m c main_v1 i) (V m c main_v2 i) (V m c main_v3 i) := by
  refine (dats m 0 c).arrAt_eq_of_covers 5 _ (by decide +kernel) fun t hf y => ?_
  blk_simp
  rw [after0_5, out_5, iblk_0, iblk_1, iblk_2, iblk_3]
  all_goals rfl

/-- The array of the new first moment. -/
theorem arr_6 : (dats m 0 c).arrAt 6 cfg0.N = fun i => newM (V m c main_v1 i) (V m c main_v2 i) := by
  refine (dats m 0 c).arrAt_eq_of_covers 6 _ (by decide +kernel) fun t hf y => ?_
  blk_simp
  rw [after0_6, out_6, iblk_1, iblk_2]
  all_goals rfl

/-- The array of the new second moment. -/
theorem arr_7 : (dats m 0 c).arrAt 7 cfg0.N = fun i => newV (V m c main_v1 i) (V m c main_v3 i) := by
  refine (dats m 0 c).arrAt_eq_of_covers 7 _ (by decide +kernel) fun t hf y => ?_
  blk_simp
  rw [after0_7, out_7, iblk_1, iblk_3]
  all_goals rfl

/-! The reference's results are the arrays the launch leaves. -/

variable {x0 x1 x2 x3 : _} (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e1 in
theorem leaves_4 : (Cert.AdamOutReferenceIdeal.Read.val_main_v24 (F := Ideal) x1) = (dats m 0 c).arrAt 4 cfg0.N := by
  subst e1
  rw [arr_4]
  entry_read
  all_goals rfl

include e0 e1 e2 e3 in
theorem leaves_5 : (Cert.AdamOutReferenceIdeal.Read.val_main_v25 (F := Ideal) x0 x1 x2 x3) = (dats m 0 c).arrAt 5 cfg0.N := by
  subst e0 e1 e2 e3
  rw [arr_5]
  entry_read
  all_goals rfl

include e1 e2 in
theorem leaves_6 : (Cert.AdamOutReferenceIdeal.Read.val_main_v26 (F := Ideal) x1 x2) = (dats m 0 c).arrAt 6 cfg0.N := by
  subst e1 e2
  rw [arr_6]
  entry_read
  all_goals rfl

include e1 e3 in
theorem leaves_7 : (Cert.AdamOutReferenceIdeal.Read.val_main_v27 (F := Ideal) x1 x3) = (dats m 0 c).arrAt 7 cfg0.N := by
  subst e1 e3
  rw [arr_7]
  entry_read
  all_goals rfl

end Cert.AdamOutProof

end
-- ==== Proof.StepMlp.lean ====
/-
  The AdamW launch for the MLP's weights: every point steps its own block.
-/
module

public import proofs.«01_k».proof.Proof.Adam
public import proofs.«01_k».proof.Proof.Gen.AdamMlpIdeal.Value
public import proofs.«01_k».proof.Proof.Gen.AdamMlpReferenceIdeal.Read

@[expose] public section

noncomputable section

namespace Cert.AdamMlpProof

open Idealize.ShloMosaic Idealize.ShloMosaic.TcCoe Cert.AdamMlpIdeal Cert.AdamMlpIdeal.Gen Cert.AdamMlpIdeal.Value Cert.AdamProof

/-- A load of a whole block. -/
theorem ld_all (X : Vec Ideal S256x1024 .f32) : View.ld X r0_0 = X := View.ld_unit_lit' _ X fun a => by match a with | ⟨0, _⟩ => rfl | ⟨1, _⟩ => rfl

theorem ix_all (y : S256x1024.Idx) : ix5_0 y = y := by
  funext a
  match a with | ⟨0, _⟩ => rfl | ⟨1, _⟩ => rfl

section blocks

variable (w g p q : Vec Ideal S256x1024 .f32) (y : S256x1024.Idx)

/-- The block of the gradient. -/
theorem out_4 : out0_4 w g p q y = g y := by
  unfold out0_4
  simp only [ld_all]
  refine (canon4_eq g y).trans ?_
  show g (ix5_0 y) = _
  rw [ix_all]

/-- The block of the step. -/
theorem out_5 : out0_5 w g p q y = delta (w y) (g y) (p y) (q y) := by
  unfold out0_5
  simp only [ld_all]
  refine (canon5_eq p g q w y).trans ?_
  show delta (w (ix5_0 y)) (g (ix5_0 y)) (p (ix5_0 y)) (q (ix5_0 y)) = _
  rw [ix_all]

/-- The block of the new first moment. -/
theorem out_6 : out0_6 w g p q y = newM (g y) (p y) := by
  unfold out0_6
  simp only [ld_all]
  refine (canon6_eq p g y).trans ?_
  show newM (g (ix5_0 y)) (p (ix5_0 y)) = _
  rw [ix_all]

/-- The block of the new second moment. -/
theorem out_7 : out0_7 w g p q y = newV (g y) (q y) := by
  unfold out0_7
  simp only [ld_all]
  refine (canon7_eq q g y).trans ?_
  show newV (g (ix5_0 y)) (q (ix5_0 y)) = _
  rw [ix_all]

end blocks

variable (m : (ℓ : Loc nD τ sig) → Buf (Elt Ideal) ℓ) (c : Dev nD)

theorem iblk_0 (t : Fin cfg0.N) (y : S256x1024.Idx) : iblk m c 0 t y = V m c main_v0 (((cfg0.win 4).blk t).view.emb y) := rfl
theorem iblk_1 (t : Fin cfg0.N) (y : S256x1024.Idx) : iblk m c 1 t y = V m c main_v1 (((cfg0.win 4).blk t).view.emb y) := rfl
theorem iblk_2 (t : Fin cfg0.N) (y : S256x1024.Idx) : iblk m c 2 t y = V m c main_v2 (((cfg0.win 4).blk t).view.emb y) := rfl
theorem iblk_3 (t : Fin cfg0.N) (y : S256x1024.Idx) : iblk m c 3 t y = V m c main_v3 (((cfg0.win 4).blk t).view.emb y) := rfl

/-- The array of the gradient. -/
theorem arr_4 : (dats m 0 c).arrAt 4 cfg0.N = fun i => V m c main_v1 i := by
  refine (dats m 0 c).arrAt_eq_of_covers 4 _ (by decide +kernel) fun t hf y => ?_
  blk_simp
  rw [after0_4, out_4, iblk_1]
  all_goals rfl

/-- The array of the step. -/
theorem arr_5 : (dats m 0 c).arrAt 5 cfg0.N = fun i => delta (V m c main_v0 i) (V m c main_v1 i) (V m c main_v2 i) (V m c main_v3 i) := by
  refine (dats m 0 c).arrAt_eq_of_covers 5 _ (by decide +kernel) fun t hf y => ?_
  blk_simp
  rw [after0_5, out_5, iblk_0, iblk_1, iblk_2, iblk_3]
  all_goals rfl

/-- The array of the new first moment. -/
theorem arr_6 : (dats m 0 c).arrAt 6 cfg0.N = fun i => newM (V m c main_v1 i) (V m c main_v2 i) := by
  refine (dats m 0 c).arrAt_eq_of_covers 6 _ (by decide +kernel) fun t hf y => ?_
  blk_simp
  rw [after0_6, out_6, iblk_1, iblk_2]
  all_goals rfl

/-- The array of the new second moment. -/
theorem arr_7 : (dats m 0 c).arrAt 7 cfg0.N = fun i => newV (V m c main_v1 i) (V m c main_v3 i) := by
  refine (dats m 0 c).arrAt_eq_of_covers 7 _ (by decide +kernel) fun t hf y => ?_
  blk_simp
  rw [after0_7, out_7, iblk_1, iblk_3]
  all_goals rfl

/-! The reference's results are the arrays the launch leaves. -/

variable {x0 x1 x2 x3 : _} (e0 : x0 = m ((c : Thread nD τ).loc main_arg0)) (e1 : x1 = m ((c : Thread nD τ).loc main_arg1))
  (e2 : x2 = m ((c : Thread nD τ).loc main_arg2)) (e3 : x3 = m ((c : Thread nD τ).loc main_arg3))

include e1 in
theorem leaves_4 : (Cert.AdamMlpReferenceIdeal.Read.val_main_v24 (F := Ideal) x1) = (dats m 0 c).arrAt 4 cfg0.N := by
  subst e1
  rw [arr_4]
  entry_read
  all_goals rfl

include e0 e1 e2 e3 in
theorem leaves_5 : (Cert.AdamMlpReferenceIdeal.Read.val_main_v25 (F := Ideal) x0 x1 x2 x3) = (dats m 0 c).arrAt 5 cfg0.N := by
  subst e0 e1 e2 e3
  rw [arr_5]
  entry_read
  all_goals rfl

include e1 e2 in
theorem leaves_6 : (Cert.AdamMlpReferenceIdeal.Read.val_main_v26 (F := Ideal) x1 x2) = (dats m 0 c).arrAt 6 cfg0.N := by
  subst e1 e2
  rw [arr_6]
  entry_read
  all_goals rfl

include e1 e3 in
theorem leaves_7 : (Cert.AdamMlpReferenceIdeal.Read.val_main_v27 (F := Ideal) x1 x3) = (dats m 0 c).arrAt 7 cfg0.N := by
  subst e1 e3
  rw [arr_7]
  entry_read
  all_goals rfl

end Cert.AdamMlpProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.Pre_mlp_finite
public import proofs.«01_k».proof.Proof.Gen.MlpIdeal.Value
public import proofs.«01_k».proof.Proof.Gen.MlpReferenceIdeal.Run
public import proofs.«01_k».proof.Proof.Gen.MlpReferenceIdeal.Read
public import proofs.«01_k».proof.Proof.Arr
public import proofs.«01_k».proof.Proof.Host
public import proofs.«01_k».proof.Proof.Finite
public import proofs.«01_k».proof.Proof.MlpHost
public import proofs.«01_k».proof.Proof.MlpFinite
public import proofs.«01_k».proof.Proof.SumGradOut
public import proofs.«01_k».proof.Proof.SumGradIn
public import proofs.«01_k».proof.Proof.SumGradRest
public import proofs.«01_k».proof.Proof.SumGradQkv0
public import proofs.«01_k».proof.Proof.SumGradQkv1
public import proofs.«01_k».proof.Proof.SumGradQkv2
public import Idealize.ShloMosaic.Adequacy
public import Idealize.ShloMosaic.Init
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradOutIdeal.Value
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.GradRest
public import proofs.«01_k».proof.Proof.Gen.GradRest.Skeleton
public import proofs.«01_k».proof.Proof.Gen.GradRest.Launch
public import proofs.«01_k».proof.Proof.Gen.GradRest.Points
public import proofs.«01_k».proof.Proof.Gen.GradRest.Frame
public import proofs.«01_k».proof.Proof.Gen.GradRestIdeal
public import proofs.«01_k».proof.Proof.Gen.GradRestIdeal.Skeleton
public import proofs.«01_k».proof.Proof.Gen.GradRestIdeal.Launch
public import proofs.«01_k».proof.Proof.Gen.GradRestIdeal.Points
public import proofs.«01_k».proof.Proof.Gen.GradRestIdeal.Frame
public import proofs.«01_k».proof.Proof.Gen.GradRestIdeal.Value
public import proofs.«01_k».proof.Proof.Gen.GradQkv0
public import proofs.«01_k».proof.Proof.Gen.GradQkv0.Skeleton
public import proofs.«01_k».proof.Proof.Gen.GradQkv0.Launch
public import proofs.«01_k».proof.Proof.Gen.GradQkv0.Points
public import proofs.«01_k».proof.Proof.Gen.GradQkv0.Frame
public import proofs.«01_k».proof.Proof.Gen.GradQkv0Ideal
public import proofs.«01_k».proof.Proof.Gen.GradQkv0Ideal.Skeleton
public import proofs.«01_k».proof.Proof.Gen.GradQkv0Ideal.Launch
public import proofs.«01_k».proof.Proof.Gen.GradQkv0Ideal.Points
public import proofs.«01_k».proof.Proof.Gen.GradQkv0Ideal.Frame
public import proofs.«01_k».proof.Proof.Gen.GradQkv0Ideal.Value
public import proofs.«01_k».proof.Proof.Gen.GradQkv1
public import proofs.«01_k».proof.Proof.Gen.GradQkv1.Skeleton
public import proofs.«01_k».proof.Proof.Gen.GradQkv1.Launch
public import proofs.«01_k».proof.Proof.Gen.GradQkv1.Points
public import proofs.«01_k».proof.Proof.Gen.GradQkv1.Frame
public import proofs.«01_k».proof.Proof.Gen.GradQkv1Ideal
public import proofs.«01_k».proof.Proof.Gen.GradQkv1Ideal.Skeleton
public import proofs.«01_k».proof.Proof.Gen.GradQkv1Ideal.Launch
public import proofs.«01_k».proof.Proof.Gen.GradQkv1Ideal.Points
public import proofs.«01_k».proof.Proof.Gen.GradQkv1Ideal.Frame
public import proofs.«01_k».proof.Proof.Gen.GradQkv1Ideal.Value
public import proofs.«01_k».proof.Proof.Gen.GradQkv2
public import proofs.«01_k».proof.Proof.Gen.GradQkv2.Skeleton
public import proofs.«01_k».proof.Proof.Gen.GradQkv2.Launch
public import proofs.«01_k».proof.Proof.Gen.GradQkv2.Points
public import proofs.«01_k».proof.Proof.Gen.GradQkv2.Frame
public import proofs.«01_k».proof.Proof.Gen.GradQkv2Ideal
public import proofs.«01_k».proof.Proof.Gen.GradQkv2Ideal.Skeleton
public import proofs.«01_k».proof.Proof.Gen.GradQkv2Ideal.Launch
public import proofs.«01_k».proof.Proof.Gen.GradQkv2Ideal.Points
public import proofs.«01_k».proof.Proof.Gen.GradQkv2Ideal.Frame
public import proofs.«01_k».proof.Proof.Gen.GradQkv2Ideal.Value
public import proofs.«01_k».proof.Proof.Gen.GradOutReferenceIdeal
public import proofs.«01_k».proof.Proof.Gen.GradOutReferenceIdeal.Run
public import proofs.«01_k».proof.Proof.Gen.GradOutReferenceIdeal.Read
public import proofs.«01_k».proof.Proof.Gen.GradInReferenceIdeal
public import proofs.«01_k».proof.Proof.Gen.GradInReferenceIdeal.Run
public import proofs.«01_k».proof.Proof.Gen.GradInReferenceIdeal.Read
public import proofs.«01_k».proof.Proof.Gen.GradRestReferenceIdeal
public import proofs.«01_k».proof.Proof.Gen.GradRestReferenceIdeal.Run
public import proofs.«01_k».proof.Proof.Gen.GradRestReferenceIdeal.Read
public import proofs.«01_k».proof.Proof.Gen.GradQkvReferenceIdeal
public import proofs.«01_k».proof.Proof.Gen.GradQkvReferenceIdeal.Run
public import proofs.«01_k».proof.Proof.Gen.GradQkvReferenceIdeal.Read
public import proofs.«01_k».proof.Proof.Gen.AdamGain
public import proofs.«01_k».proof.Proof.Gen.AdamGain.Skeleton
public import proofs.«01_k».proof.Proof.Gen.AdamGain.Launch
public import proofs.«01_k».proof.Proof.Gen.AdamGain.Points
public import proofs.«01_k».proof.Proof.Gen.AdamGain.Frame
public import proofs.«01_k».proof.Proof.Gen.AdamGainIdeal
public import proofs.«01_k».proof.Proof.Gen.AdamGainIdeal.Skeleton
public import proofs.«01_k».proof.Proof.Gen.AdamGainIdeal.Launch
public import proofs.«01_k».proof.Proof.Gen.AdamGainIdeal.Points
public import proofs.«01_k».proof.Proof.Gen.AdamGainIdeal.Frame
public import proofs.«01_k».proof.Proof.Gen.AdamGainIdeal.Value
public import proofs.«01_k».proof.Proof.Gen.AdamGainReferenceIdeal
public import proofs.«01_k».proof.Proof.Gen.AdamGainReferenceIdeal.Run
public import proofs.«01_k».proof.Proof.Gen.AdamGainReferenceIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamSpatial
public import proofs.«01_k».proof.Proof.Gen.AdamSpatial.Skeleton
public import proofs.«01_k».proof.Proof.Gen.AdamSpatial.Launch
public import proofs.«01_k».proof.Proof.Gen.AdamSpatial.Points
public import proofs.«01_k».proof.Proof.Gen.AdamSpatial.Frame
public import proofs.«01_k».proof.Proof.Gen.AdamSpatialIdeal
public import proofs.«01_k».proof.Proof.Gen.AdamSpatialIdeal.Skeleton
public import proofs.«01_k».proof.Proof.Gen.AdamSpatialIdeal.Launch
public import proofs.«01_k».proof.Proof.Gen.AdamSpatialIdeal.Points
public import proofs.«01_k».proof.Proof.Gen.AdamSpatialIdeal.Frame
public import proofs.«01_k».proof.Proof.Gen.AdamSpatialIdeal.Value
public import proofs.«01_k».proof.Proof.Gen.AdamSpatialReferenceIdeal
public import proofs.«01_k».proof.Proof.Gen.AdamSpatialReferenceIdeal.Run
public import proofs.«01_k».proof.Proof.Gen.AdamSpatialReferenceIdeal.Read
public import proofs.«01_k».proof.Proof.Gen.AdamBias
public import proofs.«01_k».proof.Proof.Gen.AdamBias.Skeleton
public import proofs.«01_k».proof.Proof.Gen.AdamBias.Launch
public import proofs.«01_k».proof.Proof.Gen.AdamBias.Points
public import proofs.«01_k».proof.Proof.Gen.AdamBias.Frame
public import proofs.«01_k».proof.Proof.Gen.AdamBiasIdeal
public import proofs.«01_k».proof.Proof.Gen.AdamBiasIdeal.Skeleton
public import proofs.«01_k».proof.Proof.Gen.AdamBiasIdeal.Launch
public import proofs.«01_k».proof.Proof.Gen.AdamBiasIdeal.Points
public import proofs.«01_k».proof.Proof.Gen.AdamBiasIdeal.Frame
public import proofs.«01_k».proof.Proof.Gen.AdamBiasIdeal.Value
public import proofs.«01_k».proof.Proof.Gen.AdamBiasReferenceIdeal
public import proofs.«01_k».proof.Proof.Gen.AdamBiasReferenceIdeal.Run
public import proofs.«01_k».proof.Proof.Gen.AdamBiasReferenceIdeal.Read
public import proofs.«01_k».proof.Proof.Gen.AdamLn
public import proofs.«01_k».proof.Proof.Gen.AdamLn.Skeleton
public import proofs.«01_k».proof.Proof.Gen.AdamLn.Launch
public import proofs.«01_k».proof.Proof.Gen.AdamLn.Points
public import proofs.«01_k».proof.Proof.Gen.AdamLn.Frame
public import proofs.«01_k».proof.Proof.Gen.AdamLnIdeal
public import proofs.«01_k».proof.Proof.Gen.AdamLnIdeal.Skeleton
public import proofs.«01_k».proof.Proof.Gen.AdamLnIdeal.Launch
public import proofs.«01_k».proof.Proof.Gen.AdamLnIdeal.Points
public import proofs.«01_k».proof.Proof.Gen.AdamLnIdeal.Frame
public import proofs.«01_k».proof.Proof.Gen.AdamLnIdeal.Value
public import proofs.«01_k».proof.Proof.Gen.AdamLnReferenceIdeal
public import proofs.«01_k».proof.Proof.Gen.AdamLnReferenceIdeal.Run
public import proofs.«01_k».proof.Proof.Gen.AdamLnReferenceIdeal.Read
public import proofs.«01_k».proof.Proof.Gen.AdamAttn
public import proofs.«01_k».proof.Proof.Gen.AdamAttn.Skeleton
public import proofs.«01_k».proof.Proof.Gen.AdamAttn.Launch
public import proofs.«01_k».proof.Proof.Gen.AdamAttn.Points
public import proofs.«01_k».proof.Proof.Gen.AdamAttn.Frame
public import proofs.«01_k».proof.Proof.Gen.AdamAttnIdeal
public import proofs.«01_k».proof.Proof.Gen.AdamAttnIdeal.Skeleton
public import proofs.«01_k».proof.Proof.Gen.AdamAttnIdeal.Launch
public import proofs.«01_k».proof.Proof.Gen.AdamAttnIdeal.Points
public import proofs.«01_k».proof.Proof.Gen.AdamAttnIdeal.Frame
public import proofs.«01_k».proof.Proof.Gen.AdamAttnIdeal.Value
public import proofs.«01_k».proof.Proof.Gen.AdamAttnReferenceIdeal
public import proofs.«01_k».proof.Proof.Gen.AdamAttnReferenceIdeal.Run
public import proofs.«01_k».proof.Proof.Gen.AdamAttnReferenceIdeal.Read
public import proofs.«01_k».proof.Proof.Gen.AdamGmlp
public import proofs.«01_k».proof.Proof.Gen.AdamGmlp.Skeleton
public import proofs.«01_k».proof.Proof.Gen.AdamGmlp.Launch
public import proofs.«01_k».proof.Proof.Gen.AdamGmlp.Points
public import proofs.«01_k».proof.Proof.Gen.AdamGmlp.Frame
public import proofs.«01_k».proof.Proof.Gen.AdamGmlpIdeal
public import proofs.«01_k».proof.Proof.Gen.AdamGmlpIdeal.Skeleton
public import proofs.«01_k».proof.Proof.Gen.AdamGmlpIdeal.Launch
public import proofs.«01_k».proof.Proof.Gen.AdamGmlpIdeal.Points
public import proofs.«01_k».proof.Proof.Gen.AdamGmlpIdeal.Frame
public import proofs.«01_k».proof.Proof.Gen.AdamGmlpIdeal.Value
public import proofs.«01_k».proof.Proof.Gen.AdamGmlpReferenceIdeal
public import proofs.«01_k».proof.Proof.Gen.AdamGmlpReferenceIdeal.Run
public import proofs.«01_k».proof.Proof.Gen.AdamGmlpReferenceIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Gen.AdamMlp
public import proofs.«01_k».proof.Proof.Gen.AdamMlp.Skeleton
public import proofs.«01_k».proof.Proof.Gen.AdamMlp.Launch
public import proofs.«01_k».proof.Proof.Gen.AdamMlp.Points
public import proofs.«01_k».proof.Proof.Gen.AdamMlp.Frame
public import proofs.«01_k».proof.Proof.Gen.AdamMlpIdeal
public import proofs.«01_k».proof.Proof.Gen.AdamMlpIdeal.Skeleton
public import proofs.«01_k».proof.Proof.Gen.AdamMlpIdeal.Launch
public import proofs.«01_k».proof.Proof.Gen.AdamMlpIdeal.Points
public import proofs.«01_k».proof.Proof.Gen.AdamMlpIdeal.Frame
public import proofs.«01_k».proof.Proof.Gen.AdamMlpIdeal.Value
public import proofs.«01_k».proof.Proof.Gen.AdamMlpReferenceIdeal
public import proofs.«01_k».proof.Proof.Gen.AdamMlpReferenceIdeal.Run
public import proofs.«01_k».proof.Proof.Gen.AdamMlpReferenceIdeal.Read
public import proofs.«01_k».proof.Proof.StepGain
public import proofs.«01_k».proof.Proof.StepIn
public import proofs.«01_k».proof.Proof.StepSpatial
public import proofs.«01_k».proof.Proof.StepBias
public import proofs.«01_k».proof.Proof.StepLn
public import proofs.«01_k».proof.Proof.StepAttn
public import proofs.«01_k».proof.Proof.StepGmlp
public import proofs.«01_k».proof.Proof.StepOut
public import proofs.«01_k».proof.Proof.StepMlp

@[expose] public section

noncomputable section

namespace Cert.Proof

open Idealize.ShloMosaic Idealize.SL.Sem Cert.Kernel

/-- The reference has no call and no counter: its run, read at the arguments, is its frame. -/
theorem frame_reference : Cert.quiescent_ReferenceIdeal := fun m ρ _ =>
  θ_run_and ((θ_run Cert.ReferenceIdeal.defs _ _).mono (fun _ h c => (h c).2.2.2.2.2.2.2.2.2.2.2) (Cert.ReferenceIdeal.Value.run m ρ))
    ((θ_run Cert.ReferenceIdeal.defs _ _).mono (fun r _ => sem_eq_zero_of_no_sems (by decide) r.2) (Cert.ReferenceIdeal.Value.run m ρ))

/-- On finite arguments the kernel's launch leaves the reference's gradients. -/
theorem algebraic : Cert.algebraic_KernelIdeal_ReferenceIdeal_pre_finite := by
  intro m g m' g' hp ha
  refine ⟨fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N, fun c => (Cert.KernelIdeal.Gen.dats m 0 c).arrAt 20 Cert.KernelIdeal.cfg0.N, fun c => (Cert.KernelIdeal.Gen.dats m 0 c).arrAt 21 Cert.KernelIdeal.cfg0.N, fun c => (Cert.KernelIdeal.Gen.dats m 0 c).arrAt 22 Cert.KernelIdeal.cfg0.N, fun c => (Cert.KernelIdeal.Gen.dats m 0 c).arrAt 23 Cert.KernelIdeal.cfg0.N, fun c => (Cert.KernelIdeal.Gen.dats m 0 c).arrAt 24 Cert.KernelIdeal.cfg0.N, fun c => (Cert.KernelIdeal.Gen.dats m 0 c).arrAt 25 Cert.KernelIdeal.cfg0.N, Cert.KernelIdeal.Value.run_blocks m g, (θ_run Cert.ReferenceIdeal.defs _ _).mono (fun r hr c => ?_) (Cert.ReferenceIdeal.Value.run m' g')⟩
  obtain ⟨e0, e1, e2, e3, e4, e5, e6, e7, e8, e9, e10, hrest⟩ := hr c
  obtain ⟨A, hA⟩ := Cert.Finite.args _ _ _ _ _ _ _ _ _ _ (hp c)
  obtain ⟨a0, a1, a2, a3, a4, a5, a6, a7, a8, a9⟩ := ha c
  have hs : Cert.KLift.Sees m c A := Cert.KernelIdeal.sees hA
  have hr : Cert.Ref.RArgs A (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) :=
    ⟨a0.trans hA.x0, a1.trans hA.x1, a2.trans hA.x2, a3.trans hA.x3, a4.trans hA.x4, a5.trans hA.x5, a6.trans hA.x6, a7.trans hA.x7, a8.trans hA.x8, a9.trans hA.x9⟩
  exact ⟨e0.trans ((Cert.ReferenceIdeal.Read.val_main_v133_eq (StableHlo.launchContents m' c)).trans ((Cert.Ref.rv133 hr).trans (Cert.KLift.arr_15 hs).symm)),
    e1.trans ((Cert.ReferenceIdeal.Read.val_main_v206_eq (StableHlo.launchContents m' c)).trans ((Cert.Ref.rv206 hr).trans (Cert.KLift.arr_16 hs).symm)),
    e2.trans ((Cert.ReferenceIdeal.Read.val_main_v207_eq (StableHlo.launchContents m' c)).trans ((Cert.Ref.rv207 hr).trans (Cert.KLift.arr_17 hs).symm)),
    e3.trans ((Cert.ReferenceIdeal.Read.val_main_v208_eq (StableHlo.launchContents m' c)).trans ((Cert.Ref.rv208 hr).trans (Cert.KLift.arr_18 hs).symm)),
    e4.trans ((Cert.ReferenceIdeal.Read.val_main_v122_eq (StableHlo.launchContents m' c)).trans ((Cert.Ref.rv122 hr).trans (Cert.KLift.arr_19 hs).symm)),
    e5.trans ((Cert.ReferenceIdeal.Read.val_main_v210_eq (StableHlo.launchContents m' c)).trans ((Cert.Ref.rv210 hr).trans (Cert.KLift.arr_20 hs).symm)),
    e6.trans ((Cert.ReferenceIdeal.Read.val_main_v212_eq (StableHlo.launchContents m' c)).trans ((Cert.Ref.rv212 hr).trans (Cert.KLift.arr_21 hs).symm)),
    e7.trans ((Cert.ReferenceIdeal.Read.val_main_v146_eq (StableHlo.launchContents m' c)).trans ((Cert.Ref.rv146 hr).trans (Cert.KLift.arr_22 hs).symm)),
    e8.trans ((Cert.ReferenceIdeal.Read.val_main_v214_eq (StableHlo.launchContents m' c)).trans ((Cert.Ref.rv214 hr).trans (Cert.KLift.arr_23 hs).symm)),
    e9.trans ((Cert.ReferenceIdeal.Read.val_main_v152_eq (StableHlo.launchContents m' c)).trans ((Cert.Ref.rv152 hr).trans (Cert.KLift.arr_24 hs).symm)),
    e10.trans ((Cert.ReferenceIdeal.Read.val_main_v149_eq (StableHlo.launchContents m' c)).trans ((Cert.Ref.rv149 hr).trans (Cert.KLift.arr_25 hs).symm)), hrest⟩

/-- The second reference's run, read at its arguments, is its frame. -/
theorem mlp_frame_reference : Cert.quiescent_MlpReferenceIdeal := fun m ρ _ =>
  θ_run_and ((θ_run Cert.MlpReferenceIdeal.defs _ _).mono (fun _ h c => (h c).2.2.2.2.2) (Cert.MlpReferenceIdeal.Value.run m ρ))
    ((θ_run Cert.MlpReferenceIdeal.defs _ _).mono (fun r _ => sem_eq_zero_of_no_sems (by decide) r.2) (Cert.MlpReferenceIdeal.Value.run m ρ))

/-- On finite arguments the second kernel's launch leaves the second reference's gradients. -/
theorem mlp_algebraic : Cert.algebraic_MlpIdeal_MlpReferenceIdeal_pre_mlp_finite := by
  intro m g m' g' hp ha
  refine ⟨fun c => (Cert.MlpIdeal.Gen.dats m 0 c).arrAt 9 Cert.MlpIdeal.cfg0.N, fun c => (Cert.MlpIdeal.Gen.dats m 0 c).arrAt 10 Cert.MlpIdeal.cfg0.N, fun c => (Cert.MlpIdeal.Gen.dats m 0 c).arrAt 11 Cert.MlpIdeal.cfg0.N, fun c => (Cert.MlpIdeal.Gen.dats m 0 c).arrAt 12 Cert.MlpIdeal.cfg0.N, fun c => (Cert.MlpIdeal.Gen.dats m 0 c).arrAt 13 Cert.MlpIdeal.cfg0.N,
    Cert.MlpIdeal.Value.run_blocks m g, (θ_run Cert.MlpReferenceIdeal.defs _ _).mono (fun r hr c => ?_) (Cert.MlpReferenceIdeal.Value.run m' g')⟩
  obtain ⟨e0, e1, e2, e3, e4, hrest⟩ := hr c
  obtain ⟨A, hA⟩ := Cert.Finite.mlp_args _ _ _ _ _ _ _ _ (hp c)
  obtain ⟨a0, a1, a2, a3, a4, a5, a6, a7⟩ := ha c
  have hs : Cert.MLift.Sees m c A := Cert.MlpIdeal.sees hA
  have hr : Cert.MRef.MRArgs A (StableHlo.launchContents m' c (Proc.devRef .tc Cert.MlpReferenceIdeal.main_arg0)) (StableHlo.launchContents m' c (Proc.devRef .tc Cert.MlpReferenceIdeal.main_arg1)) (StableHlo.launchContents m' c (Proc.devRef .tc Cert.MlpReferenceIdeal.main_arg2)) (StableHlo.launchContents m' c (Proc.devRef .tc Cert.MlpReferenceIdeal.main_arg3)) (StableHlo.launchContents m' c (Proc.devRef .tc Cert.MlpReferenceIdeal.main_arg4)) (StableHlo.launchContents m' c (Proc.devRef .tc Cert.MlpReferenceIdeal.main_arg5)) (StableHlo.launchContents m' c (Proc.devRef .tc Cert.MlpReferenceIdeal.main_arg6)) (StableHlo.launchContents m' c (Proc.devRef .tc Cert.MlpReferenceIdeal.main_arg7)) :=
    ⟨a0.trans hA.x0, a1.trans hA.x1, a2.trans hA.x2, a3.trans hA.x3, a4.trans hA.x4, a5.trans hA.x5, a6.trans hA.x6, a7.trans hA.x7⟩
  exact ⟨e0.trans ((Cert.MlpReferenceIdeal.Read.val_main_v87_eq _ _ _ _ _).trans ((Cert.MRef.rv87 hr).trans (Cert.MLift.arr_9 hs).symm)),
    e1.trans ((Cert.MlpReferenceIdeal.Read.val_main_v52_eq m' c).trans ((Cert.MRef.rv52 hr).trans (Cert.MLift.arr_10 hs).symm)),
    e2.trans ((Cert.MlpReferenceIdeal.Read.val_main_v88_eq m' c).trans ((Cert.MRef.rv88 hr).trans (Cert.MLift.arr_11 hs).symm)),
    e3.trans ((Cert.MlpReferenceIdeal.Read.val_main_v35_eq _ _ _ _ _).trans ((Cert.MRef.rv35 hr).trans (Cert.MLift.arr_12 hs).symm)),
    e4.trans ((Cert.MlpReferenceIdeal.Read.val_main_v70_eq m' c).trans ((Cert.MRef.rv70 hr).trans (Cert.MLift.arr_13 hs).symm)), hrest⟩

/-- The run of the reference for the gradient of the MLP's second weight, read at its arguments, is its frame. -/
theorem grad_out_frame_reference : Cert.quiescent_GradOutReferenceIdeal := fun m ρ _ =>
  θ_run_and ((θ_run Cert.GradOutReferenceIdeal.defs _ _).mono (fun _ h c => (h c).2) (Cert.GradOutReferenceIdeal.Value.run m ρ))
    ((θ_run Cert.GradOutReferenceIdeal.defs _ _).mono (fun r _ => sem_eq_zero_of_no_sems (by decide) r.2) (Cert.GradOutReferenceIdeal.Value.run m ρ))

/-- The run of the reference for the gradient of the MLP's first weight, read at its arguments, is its frame. -/
theorem grad_in_frame_reference : Cert.quiescent_GradInReferenceIdeal := fun m ρ _ =>
  θ_run_and ((θ_run Cert.GradInReferenceIdeal.defs _ _).mono (fun _ h c => (h c).2) (Cert.GradInReferenceIdeal.Value.run m ρ))
    ((θ_run Cert.GradInReferenceIdeal.defs _ _).mono (fun r _ => sem_eq_zero_of_no_sems (by decide) r.2) (Cert.GradInReferenceIdeal.Value.run m ρ))

/-- The run of the reference for the gradient of the input projection's columns for the gMLP and the gates, read at its arguments, is its frame. -/
theorem grad_rest_frame_reference : Cert.quiescent_GradRestReferenceIdeal := fun m ρ _ =>
  θ_run_and ((θ_run Cert.GradRestReferenceIdeal.defs _ _).mono (fun _ h c => (h c).2) (Cert.GradRestReferenceIdeal.Value.run m ρ))
    ((θ_run Cert.GradRestReferenceIdeal.defs _ _).mono (fun r _ => sem_eq_zero_of_no_sems (by decide) r.2) (Cert.GradRestReferenceIdeal.Value.run m ρ))

/-- The run of the reference for the gradient of the input projection's columns for one attention group, read at its arguments, is its frame. -/
theorem grad_qkv_frame_reference : Cert.quiescent_GradQkvReferenceIdeal := fun m ρ _ =>
  θ_run_and ((θ_run Cert.GradQkvReferenceIdeal.defs _ _).mono (fun _ h c => (h c).2) (Cert.GradQkvReferenceIdeal.Value.run m ρ))
    ((θ_run Cert.GradQkvReferenceIdeal.defs _ _).mono (fun r _ => sem_eq_zero_of_no_sems (by decide) r.2) (Cert.GradQkvReferenceIdeal.Value.run m ρ))

/-- The launch for the MLP's second weight leaves the reference's gradient. -/
theorem grad_out_algebraic : Cert.algebraic_GradOutIdeal_GradOutReferenceIdeal := by
  intro m g m' g' hp ha
  refine ⟨fun c => (Cert.GradOutIdeal.Gen.dats m 0 c).arrAt 2 Cert.GradOutIdeal.cfg0.N, Cert.GradOutIdeal.Value.run_blocks m g,
    (θ_run Cert.GradOutReferenceIdeal.defs _ _).mono (fun r hr c => ?_) (Cert.GradOutReferenceIdeal.Value.run m' g')⟩
  obtain ⟨e0, hrest⟩ := hr c
  obtain ⟨a0, a1, a2, a3, -⟩ := ha c
  exact ⟨e0.trans ((Cert.GradOutReferenceIdeal.Read.val_main_v20_eq _ _ _ _).trans (Cert.GradOutProof.leaves m c a0 a1 a2 a3)), hrest⟩

/-- The launch for the MLP's first weight leaves the reference's gradient. -/
theorem grad_in_algebraic : Cert.algebraic_GradInIdeal_GradInReferenceIdeal := by
  intro m g m' g' hp ha
  refine ⟨fun c => (Cert.GradInIdeal.Gen.dats m 0 c).arrAt 2 Cert.GradInIdeal.cfg0.N, Cert.GradInIdeal.Value.run_blocks m g,
    (θ_run Cert.GradInReferenceIdeal.defs _ _).mono (fun r hr c => ?_) (Cert.GradInReferenceIdeal.Value.run m' g')⟩
  obtain ⟨e0, hrest⟩ := hr c
  obtain ⟨a0, a1, a2, -⟩ := ha c
  exact ⟨e0.trans ((Cert.GradInReferenceIdeal.Read.val_main_v18_eq _ _ _).trans (Cert.GradInProof.leaves m c a0 a1 a2)), hrest⟩

/-- The launch for the input projection's columns for the gMLP and the gates leaves the reference's gradient. -/
theorem grad_rest_algebraic : Cert.algebraic_GradRestIdeal_GradRestReferenceIdeal := by
  intro m g m' g' hp ha
  refine ⟨fun c => (Cert.GradRestIdeal.Gen.dats m 0 c).arrAt 2 Cert.GradRestIdeal.cfg0.N, Cert.GradRestIdeal.Value.run_blocks m g,
    (θ_run Cert.GradRestReferenceIdeal.defs _ _).mono (fun r hr c => ?_) (Cert.GradRestReferenceIdeal.Value.run m' g')⟩
  obtain ⟨e0, hrest⟩ := hr c
  obtain ⟨a0, a1, a2, -⟩ := ha c
  exact ⟨e0.trans ((Cert.GradRestReferenceIdeal.Read.val_main_v17_eq _ _ _).trans (Cert.GradRestProof.leaves m c a0 a1 a2)), hrest⟩

/-- The launch for the input projection's columns for attention group 0 leaves the reference's gradient. -/
theorem grad_qkv0_algebraic : Cert.algebraic_GradQkv0Ideal_GradQkvReferenceIdeal := by
  intro m g m' g' hp ha
  refine ⟨fun c => (Cert.GradQkv0Ideal.Gen.dats m 0 c).arrAt 2 Cert.GradQkv0Ideal.cfg0.N, Cert.GradQkv0Ideal.Value.run_blocks m g,
    (θ_run Cert.GradQkvReferenceIdeal.defs _ _).mono (fun r hr c => ?_) (Cert.GradQkvReferenceIdeal.Value.run m' g')⟩
  obtain ⟨e0, hrest⟩ := hr c
  obtain ⟨a0, a1, a2, -⟩ := ha c
  exact ⟨e0.trans ((Cert.GradQkvReferenceIdeal.Read.val_main_v17_eq _ _ _).trans (Cert.GradQkv0Proof.leaves m c a0 a1 a2)), hrest⟩

/-- The launch for the input projection's columns for attention group 1 leaves the reference's gradient. -/
theorem grad_qkv1_algebraic : Cert.algebraic_GradQkv1Ideal_GradQkvReferenceIdeal := by
  intro m g m' g' hp ha
  refine ⟨fun c => (Cert.GradQkv1Ideal.Gen.dats m 0 c).arrAt 2 Cert.GradQkv1Ideal.cfg0.N, Cert.GradQkv1Ideal.Value.run_blocks m g,
    (θ_run Cert.GradQkvReferenceIdeal.defs _ _).mono (fun r hr c => ?_) (Cert.GradQkvReferenceIdeal.Value.run m' g')⟩
  obtain ⟨e0, hrest⟩ := hr c
  obtain ⟨a0, a1, a2, -⟩ := ha c
  exact ⟨e0.trans ((Cert.GradQkvReferenceIdeal.Read.val_main_v17_eq _ _ _).trans (Cert.GradQkv1Proof.leaves m c a0 a1 a2)), hrest⟩

/-- The launch for the input projection's columns for attention group 2 leaves the reference's gradient. -/
theorem grad_qkv2_algebraic : Cert.algebraic_GradQkv2Ideal_GradQkvReferenceIdeal := by
  intro m g m' g' hp ha
  refine ⟨fun c => (Cert.GradQkv2Ideal.Gen.dats m 0 c).arrAt 2 Cert.GradQkv2Ideal.cfg0.N, Cert.GradQkv2Ideal.Value.run_blocks m g,
    (θ_run Cert.GradQkvReferenceIdeal.defs _ _).mono (fun r hr c => ?_) (Cert.GradQkvReferenceIdeal.Value.run m' g')⟩
  obtain ⟨e0, hrest⟩ := hr c
  obtain ⟨a0, a1, a2, -⟩ := ha c
  exact ⟨e0.trans ((Cert.GradQkvReferenceIdeal.Read.val_main_v17_eq _ _ _).trans (Cert.GradQkv2Proof.leaves m c a0 a1 a2)), hrest⟩

/-- The run of the reference of the AdamW step of the norm gains, read at its arguments, is its frame. -/
theorem adam_gain_frame_reference : Cert.quiescent_AdamGainReferenceIdeal := fun m ρ _ =>
  θ_run_and ((θ_run Cert.AdamGainReferenceIdeal.defs _ _).mono (fun _ h c => (h c).2.2.2.2) (Cert.AdamGainReferenceIdeal.Value.run m ρ))
    ((θ_run Cert.AdamGainReferenceIdeal.defs _ _).mono (fun r _ => sem_eq_zero_of_no_sems (by decide) r.2) (Cert.AdamGainReferenceIdeal.Value.run m ρ))

/-- The launch for the norm gains leaves the reference's gradient, step and moments. -/
theorem adam_gain_algebraic : Cert.algebraic_AdamGainIdeal_AdamGainReferenceIdeal := by
  intro m g m' g' hp ha
  refine ⟨fun c => (Cert.AdamGainIdeal.Gen.dats m 0 c).arrAt 4 Cert.AdamGainIdeal.cfg0.N, fun c => (Cert.AdamGainIdeal.Gen.dats m 0 c).arrAt 5 Cert.AdamGainIdeal.cfg0.N,
    fun c => (Cert.AdamGainIdeal.Gen.dats m 0 c).arrAt 6 Cert.AdamGainIdeal.cfg0.N, fun c => (Cert.AdamGainIdeal.Gen.dats m 0 c).arrAt 7 Cert.AdamGainIdeal.cfg0.N, Cert.AdamGainIdeal.Value.run_blocks m g,
    (θ_run Cert.AdamGainReferenceIdeal.defs _ _).mono (fun r hr c => ?_) (Cert.AdamGainReferenceIdeal.Value.run m' g')⟩
  obtain ⟨e0, e1, e2, e3, hrest⟩ := hr c
  obtain ⟨a0, a1, a2, a3⟩ := ha c
  exact ⟨e0.trans (Cert.AdamGainProof.leaves_4 m c a1),
    e1.trans ((Cert.AdamGainReferenceIdeal.Read.val_main_v23_eq _ _ _ _).trans (Cert.AdamGainProof.leaves_5 m c a0 a1 a2 a3)),
    e2.trans ((Cert.AdamGainReferenceIdeal.Read.val_main_v4_eq _ _).trans (Cert.AdamGainProof.leaves_6 m c a1 a2)),
    e3.trans ((Cert.AdamGainReferenceIdeal.Read.val_main_v10_eq _ _).trans (Cert.AdamGainProof.leaves_7 m c a1 a3)),
    hrest⟩

/-- The run of the reference of the AdamW step of the input projection, read at its arguments, is its frame. -/
theorem adam_in_frame_reference : Cert.quiescent_AdamInReferenceIdeal := fun m ρ _ =>
  θ_run_and ((θ_run Cert.AdamInReferenceIdeal.defs _ _).mono (fun _ h c => (h c).2.2.2.2) (Cert.AdamInReferenceIdeal.Value.run m ρ))
    ((θ_run Cert.AdamInReferenceIdeal.defs _ _).mono (fun r _ => sem_eq_zero_of_no_sems (by decide) r.2) (Cert.AdamInReferenceIdeal.Value.run m ρ))

/-- The launch for the input projection leaves the reference's gradient, step and moments. -/
theorem adam_in_algebraic : Cert.algebraic_AdamInIdeal_AdamInReferenceIdeal := by
  intro m g m' g' hp ha
  refine ⟨fun c => (Cert.AdamInIdeal.Gen.dats m 0 c).arrAt 4 Cert.AdamInIdeal.cfg0.N, fun c => (Cert.AdamInIdeal.Gen.dats m 0 c).arrAt 5 Cert.AdamInIdeal.cfg0.N,
    fun c => (Cert.AdamInIdeal.Gen.dats m 0 c).arrAt 6 Cert.AdamInIdeal.cfg0.N, fun c => (Cert.AdamInIdeal.Gen.dats m 0 c).arrAt 7 Cert.AdamInIdeal.cfg0.N, Cert.AdamInIdeal.Value.run_blocks m g,
    (θ_run Cert.AdamInReferenceIdeal.defs _ _).mono (fun r hr c => ?_) (Cert.AdamInReferenceIdeal.Value.run m' g')⟩
  obtain ⟨e0, e1, e2, e3, hrest⟩ := hr c
  obtain ⟨a0, a1, a2, a3⟩ := ha c
  exact ⟨e0.trans ((Cert.AdamInReferenceIdeal.Read.val_main_v25_eq _).trans (Cert.AdamInProof.leaves_4 m c a1)),
    e1.trans ((Cert.AdamInReferenceIdeal.Read.val_main_v27_eq _ _ _ _).trans (Cert.AdamInProof.leaves_5 m c a0 a1 a2 a3)),
    e2.trans ((Cert.AdamInReferenceIdeal.Read.val_main_v29_eq _ _).trans (Cert.AdamInProof.leaves_6 m c a1 a2)),
    e3.trans ((Cert.AdamInReferenceIdeal.Read.val_main_v31_eq _ _).trans (Cert.AdamInProof.leaves_7 m c a1 a3)),
    hrest⟩

/-- The run of the reference of the AdamW step of the spatial weights, read at its arguments, is its frame. -/
theorem adam_spatial_frame_reference : Cert.quiescent_AdamSpatialReferenceIdeal := fun m ρ _ =>
  θ_run_and ((θ_run Cert.AdamSpatialReferenceIdeal.defs _ _).mono (fun _ h c => (h c).2.2.2.2) (Cert.AdamSpatialReferenceIdeal.Value.run m ρ))
    ((θ_run Cert.AdamSpatialReferenceIdeal.defs _ _).mono (fun r _ => sem_eq_zero_of_no_sems (by decide) r.2) (Cert.AdamSpatialReferenceIdeal.Value.run m ρ))

/-- The launch for the spatial weights leaves the reference's gradient, step and moments. -/
theorem adam_spatial_algebraic : Cert.algebraic_AdamSpatialIdeal_AdamSpatialReferenceIdeal := by
  intro m g m' g' hp ha
  refine ⟨fun c => (Cert.AdamSpatialIdeal.Gen.dats m 0 c).arrAt 4 Cert.AdamSpatialIdeal.cfg0.N, fun c => (Cert.AdamSpatialIdeal.Gen.dats m 0 c).arrAt 5 Cert.AdamSpatialIdeal.cfg0.N,
    fun c => (Cert.AdamSpatialIdeal.Gen.dats m 0 c).arrAt 6 Cert.AdamSpatialIdeal.cfg0.N, fun c => (Cert.AdamSpatialIdeal.Gen.dats m 0 c).arrAt 7 Cert.AdamSpatialIdeal.cfg0.N, Cert.AdamSpatialIdeal.Value.run_blocks m g,
    (θ_run Cert.AdamSpatialReferenceIdeal.defs _ _).mono (fun r hr c => ?_) (Cert.AdamSpatialReferenceIdeal.Value.run m' g')⟩
  obtain ⟨e0, e1, e2, e3, hrest⟩ := hr c
  obtain ⟨a0, a1, a2, a3⟩ := ha c
  exact ⟨e0.trans ((Cert.AdamSpatialReferenceIdeal.Read.val_main_v24_eq _).trans (Cert.AdamSpatialProof.leaves_4 m c a1)),
    e1.trans ((Cert.AdamSpatialReferenceIdeal.Read.val_main_v25_eq _ _ _ _).trans (Cert.AdamSpatialProof.leaves_5 m c a0 a1 a2 a3)),
    e2.trans ((Cert.AdamSpatialReferenceIdeal.Read.val_main_v26_eq _ _).trans (Cert.AdamSpatialProof.leaves_6 m c a1 a2)),
    e3.trans ((Cert.AdamSpatialReferenceIdeal.Read.val_main_v27_eq _ _).trans (Cert.AdamSpatialProof.leaves_7 m c a1 a3)),
    hrest⟩

/-- The run of the reference of the AdamW step of the spatial bias, read at its arguments, is its frame. -/
theorem adam_bias_frame_reference : Cert.quiescent_AdamBiasReferenceIdeal := fun m ρ _ =>
  θ_run_and ((θ_run Cert.AdamBiasReferenceIdeal.defs _ _).mono (fun _ h c => (h c).2.2.2.2) (Cert.AdamBiasReferenceIdeal.Value.run m ρ))
    ((θ_run Cert.AdamBiasReferenceIdeal.defs _ _).mono (fun r _ => sem_eq_zero_of_no_sems (by decide) r.2) (Cert.AdamBiasReferenceIdeal.Value.run m ρ))

/-- The launch for the spatial bias leaves the reference's gradient, step and moments. -/
theorem adam_bias_algebraic : Cert.algebraic_AdamBiasIdeal_AdamBiasReferenceIdeal := by
  intro m g m' g' hp ha
  refine ⟨fun c => (Cert.AdamBiasIdeal.Gen.dats m 0 c).arrAt 4 Cert.AdamBiasIdeal.cfg0.N, fun c => (Cert.AdamBiasIdeal.Gen.dats m 0 c).arrAt 5 Cert.AdamBiasIdeal.cfg0.N,
    fun c => (Cert.AdamBiasIdeal.Gen.dats m 0 c).arrAt 6 Cert.AdamBiasIdeal.cfg0.N, fun c => (Cert.AdamBiasIdeal.Gen.dats m 0 c).arrAt 7 Cert.AdamBiasIdeal.cfg0.N, Cert.AdamBiasIdeal.Value.run_blocks m g,
    (θ_run Cert.AdamBiasReferenceIdeal.defs _ _).mono (fun r hr c => ?_) (Cert.AdamBiasReferenceIdeal.Value.run m' g')⟩
  obtain ⟨e0, e1, e2, e3, hrest⟩ := hr c
  obtain ⟨a0, a1, a2, a3⟩ := ha c
  exact ⟨e0.trans ((Cert.AdamBiasReferenceIdeal.Read.val_main_v24_eq _).trans (Cert.AdamBiasProof.leaves_4 m c a1)),
    e1.trans ((Cert.AdamBiasReferenceIdeal.Read.val_main_v25_eq _ _ _ _).trans (Cert.AdamBiasProof.leaves_5 m c a0 a1 a2 a3)),
    e2.trans ((Cert.AdamBiasReferenceIdeal.Read.val_main_v26_eq _ _).trans (Cert.AdamBiasProof.leaves_6 m c a1 a2)),
    e3.trans ((Cert.AdamBiasReferenceIdeal.Read.val_main_v27_eq _ _).trans (Cert.AdamBiasProof.leaves_7 m c a1 a3)),
    hrest⟩

/-- The run of the reference of the AdamW step of the layer norm's gain and bias, read at its arguments, is its frame. -/
theorem adam_ln_frame_reference : Cert.quiescent_AdamLnReferenceIdeal := fun m ρ _ =>
  θ_run_and ((θ_run Cert.AdamLnReferenceIdeal.defs _ _).mono (fun _ h c => (h c).2.2.2.2) (Cert.AdamLnReferenceIdeal.Value.run m ρ))
    ((θ_run Cert.AdamLnReferenceIdeal.defs _ _).mono (fun r _ => sem_eq_zero_of_no_sems (by decide) r.2) (Cert.AdamLnReferenceIdeal.Value.run m ρ))

/-- The launch for the layer norm's gain and bias leaves the reference's gradient, step and moments. -/
theorem adam_ln_algebraic : Cert.algebraic_AdamLnIdeal_AdamLnReferenceIdeal := by
  intro m g m' g' hp ha
  refine ⟨fun c => (Cert.AdamLnIdeal.Gen.dats m 0 c).arrAt 4 Cert.AdamLnIdeal.cfg0.N, fun c => (Cert.AdamLnIdeal.Gen.dats m 0 c).arrAt 5 Cert.AdamLnIdeal.cfg0.N,
    fun c => (Cert.AdamLnIdeal.Gen.dats m 0 c).arrAt 6 Cert.AdamLnIdeal.cfg0.N, fun c => (Cert.AdamLnIdeal.Gen.dats m 0 c).arrAt 7 Cert.AdamLnIdeal.cfg0.N, Cert.AdamLnIdeal.Value.run_blocks m g,
    (θ_run Cert.AdamLnReferenceIdeal.defs _ _).mono (fun r hr c => ?_) (Cert.AdamLnReferenceIdeal.Value.run m' g')⟩
  obtain ⟨e0, e1, e2, e3, hrest⟩ := hr c
  obtain ⟨a0, a1, a2, a3⟩ := ha c
  exact ⟨e0.trans (Cert.AdamLnProof.leaves_4 m c a1),
    e1.trans ((Cert.AdamLnReferenceIdeal.Read.val_main_v23_eq _ _ _ _).trans (Cert.AdamLnProof.leaves_5 m c a0 a1 a2 a3)),
    e2.trans ((Cert.AdamLnReferenceIdeal.Read.val_main_v4_eq _ _).trans (Cert.AdamLnProof.leaves_6 m c a1 a2)),
    e3.trans ((Cert.AdamLnReferenceIdeal.Read.val_main_v10_eq _ _).trans (Cert.AdamLnProof.leaves_7 m c a1 a3)),
    hrest⟩

/-- The run of the reference of the AdamW step of the attention branch's weight, read at its arguments, is its frame. -/
theorem adam_attn_frame_reference : Cert.quiescent_AdamAttnReferenceIdeal := fun m ρ _ =>
  θ_run_and ((θ_run Cert.AdamAttnReferenceIdeal.defs _ _).mono (fun _ h c => (h c).2.2.2.2) (Cert.AdamAttnReferenceIdeal.Value.run m ρ))
    ((θ_run Cert.AdamAttnReferenceIdeal.defs _ _).mono (fun r _ => sem_eq_zero_of_no_sems (by decide) r.2) (Cert.AdamAttnReferenceIdeal.Value.run m ρ))

/-- The launch for the attention branch's weight leaves the reference's gradient, step and moments. -/
theorem adam_attn_algebraic : Cert.algebraic_AdamAttnIdeal_AdamAttnReferenceIdeal := by
  intro m g m' g' hp ha
  refine ⟨fun c => (Cert.AdamAttnIdeal.Gen.dats m 0 c).arrAt 4 Cert.AdamAttnIdeal.cfg0.N, fun c => (Cert.AdamAttnIdeal.Gen.dats m 0 c).arrAt 5 Cert.AdamAttnIdeal.cfg0.N,
    fun c => (Cert.AdamAttnIdeal.Gen.dats m 0 c).arrAt 6 Cert.AdamAttnIdeal.cfg0.N, fun c => (Cert.AdamAttnIdeal.Gen.dats m 0 c).arrAt 7 Cert.AdamAttnIdeal.cfg0.N, Cert.AdamAttnIdeal.Value.run_blocks m g,
    (θ_run Cert.AdamAttnReferenceIdeal.defs _ _).mono (fun r hr c => ?_) (Cert.AdamAttnReferenceIdeal.Value.run m' g')⟩
  obtain ⟨e0, e1, e2, e3, hrest⟩ := hr c
  obtain ⟨a0, a1, a2, a3⟩ := ha c
  exact ⟨e0.trans ((Cert.AdamAttnReferenceIdeal.Read.val_main_v24_eq _).trans (Cert.AdamAttnProof.leaves_4 m c a1)),
    e1.trans ((Cert.AdamAttnReferenceIdeal.Read.val_main_v25_eq _ _ _ _).trans (Cert.AdamAttnProof.leaves_5 m c a0 a1 a2 a3)),
    e2.trans ((Cert.AdamAttnReferenceIdeal.Read.val_main_v26_eq _ _).trans (Cert.AdamAttnProof.leaves_6 m c a1 a2)),
    e3.trans ((Cert.AdamAttnReferenceIdeal.Read.val_main_v27_eq _ _).trans (Cert.AdamAttnProof.leaves_7 m c a1 a3)),
    hrest⟩

/-- The run of the reference of the AdamW step of the gMLP branch's weight, read at its arguments, is its frame. -/
theorem adam_gmlp_frame_reference : Cert.quiescent_AdamGmlpReferenceIdeal := fun m ρ _ =>
  θ_run_and ((θ_run Cert.AdamGmlpReferenceIdeal.defs _ _).mono (fun _ h c => (h c).2.2.2.2) (Cert.AdamGmlpReferenceIdeal.Value.run m ρ))
    ((θ_run Cert.AdamGmlpReferenceIdeal.defs _ _).mono (fun r _ => sem_eq_zero_of_no_sems (by decide) r.2) (Cert.AdamGmlpReferenceIdeal.Value.run m ρ))

/-- The launch for the gMLP branch's weight leaves the reference's gradient, step and moments. -/
theorem adam_gmlp_algebraic : Cert.algebraic_AdamGmlpIdeal_AdamGmlpReferenceIdeal := by
  intro m g m' g' hp ha
  refine ⟨fun c => (Cert.AdamGmlpIdeal.Gen.dats m 0 c).arrAt 4 Cert.AdamGmlpIdeal.cfg0.N, fun c => (Cert.AdamGmlpIdeal.Gen.dats m 0 c).arrAt 5 Cert.AdamGmlpIdeal.cfg0.N,
    fun c => (Cert.AdamGmlpIdeal.Gen.dats m 0 c).arrAt 6 Cert.AdamGmlpIdeal.cfg0.N, fun c => (Cert.AdamGmlpIdeal.Gen.dats m 0 c).arrAt 7 Cert.AdamGmlpIdeal.cfg0.N, Cert.AdamGmlpIdeal.Value.run_blocks m g,
    (θ_run Cert.AdamGmlpReferenceIdeal.defs _ _).mono (fun r hr c => ?_) (Cert.AdamGmlpReferenceIdeal.Value.run m' g')⟩
  obtain ⟨e0, e1, e2, e3, hrest⟩ := hr c
  obtain ⟨a0, a1, a2, a3⟩ := ha c
  exact ⟨e0.trans ((Cert.AdamGmlpReferenceIdeal.Read.val_main_v24_eq _).trans (Cert.AdamGmlpProof.leaves_4 m c a1)),
    e1.trans ((Cert.AdamGmlpReferenceIdeal.Read.val_main_v25_eq _ _ _ _).trans (Cert.AdamGmlpProof.leaves_5 m c a0 a1 a2 a3)),
    e2.trans ((Cert.AdamGmlpReferenceIdeal.Read.val_main_v26_eq _ _).trans (Cert.AdamGmlpProof.leaves_6 m c a1 a2)),
    e3.trans ((Cert.AdamGmlpReferenceIdeal.Read.val_main_v27_eq _ _).trans (Cert.AdamGmlpProof.leaves_7 m c a1 a3)),
    hrest⟩

/-- The run of the reference of the AdamW step of the output product, read at its arguments, is its frame. -/
theorem adam_out_frame_reference : Cert.quiescent_AdamOutReferenceIdeal := fun m ρ _ =>
  θ_run_and ((θ_run Cert.AdamOutReferenceIdeal.defs _ _).mono (fun _ h c => (h c).2.2.2.2) (Cert.AdamOutReferenceIdeal.Value.run m ρ))
    ((θ_run Cert.AdamOutReferenceIdeal.defs _ _).mono (fun r _ => sem_eq_zero_of_no_sems (by decide) r.2) (Cert.AdamOutReferenceIdeal.Value.run m ρ))

/-- The launch for the output product leaves the reference's gradient, step and moments. -/
theorem adam_out_algebraic : Cert.algebraic_AdamOutIdeal_AdamOutReferenceIdeal := by
  intro m g m' g' hp ha
  refine ⟨fun c => (Cert.AdamOutIdeal.Gen.dats m 0 c).arrAt 4 Cert.AdamOutIdeal.cfg0.N, fun c => (Cert.AdamOutIdeal.Gen.dats m 0 c).arrAt 5 Cert.AdamOutIdeal.cfg0.N,
    fun c => (Cert.AdamOutIdeal.Gen.dats m 0 c).arrAt 6 Cert.AdamOutIdeal.cfg0.N, fun c => (Cert.AdamOutIdeal.Gen.dats m 0 c).arrAt 7 Cert.AdamOutIdeal.cfg0.N, Cert.AdamOutIdeal.Value.run_blocks m g,
    (θ_run Cert.AdamOutReferenceIdeal.defs _ _).mono (fun r hr c => ?_) (Cert.AdamOutReferenceIdeal.Value.run m' g')⟩
  obtain ⟨e0, e1, e2, e3, hrest⟩ := hr c
  obtain ⟨a0, a1, a2, a3⟩ := ha c
  exact ⟨e0.trans ((Cert.AdamOutReferenceIdeal.Read.val_main_v24_eq _).trans (Cert.AdamOutProof.leaves_4 m c a1)),
    e1.trans ((Cert.AdamOutReferenceIdeal.Read.val_main_v25_eq _ _ _ _).trans (Cert.AdamOutProof.leaves_5 m c a0 a1 a2 a3)),
    e2.trans ((Cert.AdamOutReferenceIdeal.Read.val_main_v26_eq _ _).trans (Cert.AdamOutProof.leaves_6 m c a1 a2)),
    e3.trans ((Cert.AdamOutReferenceIdeal.Read.val_main_v27_eq _ _).trans (Cert.AdamOutProof.leaves_7 m c a1 a3)),
    hrest⟩

/-- The run of the reference of the AdamW step of the MLP's weights, read at its arguments, is its frame. -/
theorem adam_mlp_frame_reference : Cert.quiescent_AdamMlpReferenceIdeal := fun m ρ _ =>
  θ_run_and ((θ_run Cert.AdamMlpReferenceIdeal.defs _ _).mono (fun _ h c => (h c).2.2.2.2) (Cert.AdamMlpReferenceIdeal.Value.run m ρ))
    ((θ_run Cert.AdamMlpReferenceIdeal.defs _ _).mono (fun r _ => sem_eq_zero_of_no_sems (by decide) r.2) (Cert.AdamMlpReferenceIdeal.Value.run m ρ))

/-- The launch for the MLP's weights leaves the reference's gradient, step and moments. -/
theorem adam_mlp_algebraic : Cert.algebraic_AdamMlpIdeal_AdamMlpReferenceIdeal := by
  intro m g m' g' hp ha
  refine ⟨fun c => (Cert.AdamMlpIdeal.Gen.dats m 0 c).arrAt 4 Cert.AdamMlpIdeal.cfg0.N, fun c => (Cert.AdamMlpIdeal.Gen.dats m 0 c).arrAt 5 Cert.AdamMlpIdeal.cfg0.N,
    fun c => (Cert.AdamMlpIdeal.Gen.dats m 0 c).arrAt 6 Cert.AdamMlpIdeal.cfg0.N, fun c => (Cert.AdamMlpIdeal.Gen.dats m 0 c).arrAt 7 Cert.AdamMlpIdeal.cfg0.N, Cert.AdamMlpIdeal.Value.run_blocks m g,
    (θ_run Cert.AdamMlpReferenceIdeal.defs _ _).mono (fun r hr c => ?_) (Cert.AdamMlpReferenceIdeal.Value.run m' g')⟩
  obtain ⟨e0, e1, e2, e3, hrest⟩ := hr c
  obtain ⟨a0, a1, a2, a3⟩ := ha c
  exact ⟨e0.trans ((Cert.AdamMlpReferenceIdeal.Read.val_main_v24_eq _).trans (Cert.AdamMlpProof.leaves_4 m c a1)),
    e1.trans ((Cert.AdamMlpReferenceIdeal.Read.val_main_v25_eq _ _ _ _).trans (Cert.AdamMlpProof.leaves_5 m c a0 a1 a2 a3)),
    e2.trans ((Cert.AdamMlpReferenceIdeal.Read.val_main_v26_eq _ _).trans (Cert.AdamMlpProof.leaves_6 m c a1 a2)),
    e3.trans ((Cert.AdamMlpReferenceIdeal.Read.val_main_v27_eq _ _).trans (Cert.AdamMlpProof.leaves_7 m c a1 a3)),
    hrest⟩

/-- The claim. -/
theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.GradOut.Gen.facts, Cert.GradOutIdeal.Gen.facts, Cert.GradOutReferenceIdeal.Gen.facts,
  Cert.GradIn.Gen.facts, Cert.GradInIdeal.Gen.facts, Cert.GradInReferenceIdeal.Gen.facts,
  Cert.GradRest.Gen.facts, Cert.GradRestIdeal.Gen.facts, Cert.GradRestReferenceIdeal.Gen.facts,
  Cert.GradQkv0.Gen.facts, Cert.GradQkv0Ideal.Gen.facts, Cert.GradQkvReferenceIdeal.Gen.facts,
  Cert.GradQkv1.Gen.facts, Cert.GradQkv1Ideal.Gen.facts, Cert.GradQkv2.Gen.facts, Cert.GradQkv2Ideal.Gen.facts,
  Cert.AdamGain.Gen.facts, Cert.AdamGainIdeal.Gen.facts, Cert.AdamGainReferenceIdeal.Gen.facts,
  Cert.AdamIn.Gen.facts, Cert.AdamInIdeal.Gen.facts, Cert.AdamInReferenceIdeal.Gen.facts,
  Cert.AdamSpatial.Gen.facts, Cert.AdamSpatialIdeal.Gen.facts, Cert.AdamSpatialReferenceIdeal.Gen.facts,
  Cert.AdamBias.Gen.facts, Cert.AdamBiasIdeal.Gen.facts, Cert.AdamBiasReferenceIdeal.Gen.facts,
  Cert.AdamLn.Gen.facts, Cert.AdamLnIdeal.Gen.facts, Cert.AdamLnReferenceIdeal.Gen.facts,
  Cert.AdamAttn.Gen.facts, Cert.AdamAttnIdeal.Gen.facts, Cert.AdamAttnReferenceIdeal.Gen.facts,
  Cert.AdamGmlp.Gen.facts, Cert.AdamGmlpIdeal.Gen.facts, Cert.AdamGmlpReferenceIdeal.Gen.facts,
  Cert.AdamOut.Gen.facts, Cert.AdamOutIdeal.Gen.facts, Cert.AdamOutReferenceIdeal.Gen.facts,
  Cert.AdamMlp.Gen.facts, Cert.AdamMlpIdeal.Gen.facts, Cert.AdamMlpReferenceIdeal.Gen.facts,
  Cert.Pre_finite.Gen.facts, Cert.Pre_mlp_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Mlp.Gen.frame m ρ, fun m ρ _ => Cert.MlpIdeal.Gen.frame m ρ, fun m ρ _ => Cert.MlpIdeal.Gen.frame m ρ,
  mlp_frame_reference, fun m ρ _ => mlp_frame_reference m ρ trivial,
  fun m ρ _ => Cert.GradOut.Gen.frame m ρ, fun m ρ _ => Cert.GradOutIdeal.Gen.frame m ρ, grad_out_frame_reference,
  fun m ρ _ => Cert.GradIn.Gen.frame m ρ, fun m ρ _ => Cert.GradInIdeal.Gen.frame m ρ, grad_in_frame_reference,
  fun m ρ _ => Cert.GradRest.Gen.frame m ρ, fun m ρ _ => Cert.GradRestIdeal.Gen.frame m ρ, grad_rest_frame_reference,
  fun m ρ _ => Cert.GradQkv0.Gen.frame m ρ, fun m ρ _ => Cert.GradQkv0Ideal.Gen.frame m ρ, grad_qkv_frame_reference,
  fun m ρ _ => Cert.GradQkv1.Gen.frame m ρ, fun m ρ _ => Cert.GradQkv1Ideal.Gen.frame m ρ,
  fun m ρ _ => Cert.GradQkv2.Gen.frame m ρ, fun m ρ _ => Cert.GradQkv2Ideal.Gen.frame m ρ,
  fun m ρ _ => Cert.AdamGain.Gen.frame m ρ, fun m ρ _ => Cert.AdamGainIdeal.Gen.frame m ρ, adam_gain_frame_reference,
  fun m ρ _ => Cert.AdamIn.Gen.frame m ρ, fun m ρ _ => Cert.AdamInIdeal.Gen.frame m ρ, adam_in_frame_reference,
  fun m ρ _ => Cert.AdamSpatial.Gen.frame m ρ, fun m ρ _ => Cert.AdamSpatialIdeal.Gen.frame m ρ, adam_spatial_frame_reference,
  fun m ρ _ => Cert.AdamBias.Gen.frame m ρ, fun m ρ _ => Cert.AdamBiasIdeal.Gen.frame m ρ, adam_bias_frame_reference,
  fun m ρ _ => Cert.AdamLn.Gen.frame m ρ, fun m ρ _ => Cert.AdamLnIdeal.Gen.frame m ρ, adam_ln_frame_reference,
  fun m ρ _ => Cert.AdamAttn.Gen.frame m ρ, fun m ρ _ => Cert.AdamAttnIdeal.Gen.frame m ρ, adam_attn_frame_reference,
  fun m ρ _ => Cert.AdamGmlp.Gen.frame m ρ, fun m ρ _ => Cert.AdamGmlpIdeal.Gen.frame m ρ, adam_gmlp_frame_reference,
  fun m ρ _ => Cert.AdamOut.Gen.frame m ρ, fun m ρ _ => Cert.AdamOutIdeal.Gen.frame m ρ, adam_out_frame_reference,
  fun m ρ _ => Cert.AdamMlp.Gen.frame m ρ, fun m ρ _ => Cert.AdamMlpIdeal.Gen.frame m ρ, adam_mlp_frame_reference,
  ⟨IdealRules.named_const.statement _ _ _ _ _ rfl, IdealRules.named_const.statement _ _ _ _ _ rfl⟩, algebraic, trivial, mlp_algebraic,
  trivial, grad_out_algebraic, trivial, grad_in_algebraic, trivial, grad_rest_algebraic,
  trivial, grad_qkv0_algebraic, trivial, grad_qkv1_algebraic, trivial, grad_qkv2_algebraic,
  trivial, adam_gain_algebraic, trivial, adam_in_algebraic, trivial, adam_spatial_algebraic, trivial, adam_bias_algebraic, trivial, adam_ln_algebraic, trivial, adam_attn_algebraic, trivial, adam_gmlp_algebraic, trivial, adam_out_algebraic, trivial, adam_mlp_algebraic⟩

end Cert.Proof

end
